-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v11) = v1 c
          ∧ r.2.mem ((c.tc : Thread Cert.Reference16Ideal.nD Cert.Reference16Ideal.τ).loc Cert.Reference16Ideal.main_v25) = v2 c
          ∧ r.2.mem ((c.tc : Thread Cert.Reference16Ideal.nD Cert.Reference16Ideal.τ).loc Cert.Reference16Ideal.main_v39) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_v52) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Kernel.lean ====
abbrev S4096x2176 : Shape := ⟨2, ![4096, 2176]⟩
abbrev S4096x256 : Shape := ⟨2, ![4096, 256]⟩
abbrev S4096x512 : Shape := ⟨2, ![4096, 512]⟩
abbrev S64x4x128x128 : Shape := ⟨4, ![64, 4, 128, 128]⟩
abbrev S512x128 : Shape := ⟨2, ![512, 128]⟩
abbrev S512x256 : Shape := ⟨2, ![512, 256]⟩
abbrev S8x2x128x128 : Shape := ⟨4, ![8, 2, 128, 128]⟩
abbrev S2x128x128 : Shape := ⟨3, ![2, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S64x64 : Shape := ⟨2, ![64, 64]⟩
abbrev S128 : Shape := ⟨1, ![128]⟩
abbrev S1x128 : Shape := ⟨2, ![1, 128]⟩

abbrev nBuf : Space → Nat
  | .hbm => 9
  | .vmem => 34
  | .smem => 0
  | _ => 0

abbrev bufTy : (tb : Table) → Fin (tcTables nBuf tb) → BufTy
  | .hbm, ⟨0, _⟩ => ⟨S4096x2176, .f32⟩
  | .hbm, ⟨1, _⟩ => ⟨S4096x256, .f32⟩
  | .hbm, ⟨2, _⟩ => ⟨S4096x512, .f32⟩
  | .hbm, ⟨3, _⟩ => ⟨S4096x512, .f32⟩
  | .hbm, ⟨4, _⟩ => ⟨S64x4x128x128, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S8x2x128x128, .f32⟩
  | .local _ .vmem, ⟨11, _⟩ => ⟨S8x2x128x128, .f32⟩
  | .local _ .vmem, ⟨12, _⟩ => ⟨S2x128x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S8x2x128x128, .f32⟩
  | .local _ .vmem, ⟨24, _⟩ => ⟨S8x2x128x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x256, .f32⟩
  | .local _ .vmem, ⟨32, _⟩ => ⟨S512x256, .f32⟩
  | .local _ .vmem, ⟨33, _⟩ => ⟨S2x128x128, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_3 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc1_transform_4 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_5 (i : grid1.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![v0.toNat, arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_7 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x2x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S4096x2176 : Shape := ⟨2, ![4096, 2176]⟩
abbrev S4096x256 : Shape := ⟨2, ![4096, 256]⟩
abbrev S4096x512 : Shape := ⟨2, ![4096, 512]⟩
abbrev S1x4096x256 : Shape := ⟨3, ![1, 4096, 256]⟩
abbrev S1x4096x512 : Shape := ⟨3, ![1, 4096, 512]⟩
abbrev S1x4096x4x64 : Shape := ⟨4, ![1, 4096, 4, 64]⟩
abbrev S1x4x4096x64 : Shape := ⟨4, ![1, 4, 4096, 64]⟩
abbrev S1x4096x4x128 : Shape := ⟨4, ![1, 4096, 4, 128]⟩
abbrev S1x4x4096x128 : Shape := ⟨4, ![1, 4, 4096, 128]⟩
abbrev S1x4x64x64x64 : Shape := ⟨5, ![1, 4, 64, 64, 64]⟩
abbrev S_ : Shape := ⟨0, ![]⟩
abbrev S1x4x64x64x128 : Shape := ⟨5, ![1, 4, 64, 64, 128]⟩
abbrev S1x4x64x1x64 : Shape := ⟨5, ![1, 4, 64, 1, 64]⟩
abbrev S64x64 : Shape := ⟨2, ![64, 64]⟩
abbrev S64x1x4x64x128 : Shape := ⟨5, ![64, 1, 4, 64, 128]⟩
abbrev S1x4x64x64 : Shape := ⟨4, ![1, 4, 64, 64]⟩
abbrev S64x1x4x64 : Shape := ⟨4, ![64, 1, 4, 64]⟩
abbrev S1x4x64x128 : Shape := ⟨4, ![1, 4, 64, 128]⟩
abbrev S64x1x4x64x1 : Shape := ⟨5, ![64, 1, 4, 64, 1]⟩
abbrev S1x1x4x64 : Shape := ⟨4, ![1, 1, 4, 64]⟩
abbrev S1x4x64 : Shape := ⟨3, ![1, 4, 64]⟩
abbrev S1x1x4x64x128 : Shape := ⟨5, ![1, 1, 4, 64, 128]⟩
abbrev S1x4x64x1 : Shape := ⟨4, ![1, 4, 64, 1]⟩
abbrev S1x1x4x64x1 : Shape := ⟨5, ![1, 1, 4, 64, 1]⟩
abbrev S1x4x64x128x64 : Shape := ⟨5, ![1, 4, 64, 128, 64]⟩
abbrev S4x64 : Shape := ⟨2, ![4, 64]⟩
abbrev S64x1x4x128x64 : Shape := ⟨5, ![64, 1, 4, 128, 64]⟩
abbrev S64x1x4x64x64 : Shape := ⟨5, ![64, 1, 4, 64, 64]⟩

abbrev nBuf : Space → Nat
  | .hbm => 242
  | .vmem => 0
  | .smem => 0
  | _ => 0

abbrev hbmTy0_0 (i : Nat) : BufTy := match i % 128 with
  | 0 => ⟨S4096x2176, .f32⟩
  | 1 => ⟨S4096x256, .f32⟩
  | 2 => ⟨S4096x512, .f32⟩
  | 3 => ⟨S4096x256, .f32⟩
  | 4 => ⟨S1x4096x256, .f32⟩
  | 5 => ⟨S4096x256, .f32⟩
  | 6 => ⟨S1x4096x256, .f32⟩
  | 7 => ⟨S4096x512, .f32⟩
  | 8 => ⟨S1x4096x512, .f32⟩
  | 9 => ⟨S1x4096x256, .f32⟩
  | 10 => ⟨S1x4096x4x64, .f32⟩
  | 11 => ⟨S1x4x4096x64, .f32⟩
  | 12 => ⟨S1x4096x4x64, .f32⟩
  | 13 => ⟨S1x4x4096x64, .f32⟩
  | 14 => ⟨S1x4096x4x128, .f32⟩
  | 15 => ⟨S1x4x4096x128, .f32⟩
  | 16 => ⟨S1x4096x4x64, .f32⟩
  | 17 => ⟨S1x4x4096x64, .f32⟩
  | 18 => ⟨S1x4x64x64x64, .f32⟩
  | 19 => ⟨S_, .f32⟩
  | 20 => ⟨S1x4x64x64x64, .f32⟩
  | 21 => ⟨S1x4x64x64x64, .f32⟩
  | 22 => ⟨S1x4x64x64x64, .f32⟩
  | 23 => ⟨S1x4x64x64x128, .f32⟩
  | 24 => ⟨S1x4x64x64x64, .f32⟩
  | 25 => ⟨S_, .f32⟩
  | 26 => ⟨S_, .f32⟩
  | 27 => ⟨S1x4x64x64x64, .f32⟩
  | 28 => ⟨S1x4x64x1x64, .f32⟩
  | 29 => ⟨S1x4x64x64x64, .f32⟩
  | 30 => ⟨S1x4x64x64x64, .f32⟩
  | 31 => ⟨S1x4x64x64x64, .f32⟩
  | 32 => ⟨S1x4x64x64x64, .f32⟩
  | 33 => ⟨S1x4x64x64x64, .f32⟩
  | 34 => ⟨S1x4x64x64x64, .f32⟩
  | 35 => ⟨S1x4x64x64x64, .f32⟩
  | 36 => ⟨S1x4x64x64x64, .f32⟩
  | 37 => ⟨S1x4x64x64x64, .f32⟩
  | 38 => ⟨S1x4x64x64x64, .f32⟩
  | 39 => ⟨S_, .i1⟩
  | 40 => ⟨S64x64, .i1⟩
  | 41 => ⟨S64x64, .i32⟩
  | 42 => ⟨S_, .i32⟩
  | 43 => ⟨S64x64, .i32⟩
  | 44 => ⟨S64x64, .i32⟩
  | 45 => ⟨S64x64, .i32⟩
  | 46 => ⟨S64x64, .i1⟩
  | 47 => ⟨S_, .i1⟩
  | 48 => ⟨S64x64, .i1⟩
  | 49 => ⟨S64x64, .i1⟩
  | 50 => ⟨S_, .f32⟩
  | 51 => ⟨S_, .f32⟩
  | 52 => ⟨S1x4x64x64x64, .i1⟩
  | 53 => ⟨S1x4x64x64x64, .f32⟩
  | 54 => ⟨S1x4x64x64x64, .f32⟩
  | 55 => ⟨S_, .f32⟩
  | 56 => ⟨S1x4x64x64x64, .f32⟩
  | 57 => ⟨S1x4x64x64x128, .f32⟩
  | 58 => ⟨S64x1x4x64x128, .f32⟩
  | 59 => ⟨S1x4x64x64, .f32⟩
  | 60 => ⟨S1x4x64x64, .f32⟩
  | 61 => ⟨S64x1x4x64, .f32⟩
  | 62 => ⟨S_, .f32⟩
  | 63 => ⟨S1x4x64x128, .f32⟩
  | 64 => ⟨S_, .f32⟩
  | 65 => ⟨S64x1x4x64x128, .f32⟩
  | 66 => ⟨S_, .f32⟩
  | 67 => ⟨S64x1x4x64x1, .f32⟩
  | 68 => ⟨S_, .i32⟩
  | 69 => ⟨S64x1x4x64, .f32⟩
  | 70 => ⟨S64x1x4x64x128, .f32⟩
  | 71 => ⟨S_, .i32⟩
  | 72 => ⟨S1x4x64x128, .f32⟩
  | 73 => ⟨S64x1x4x64x128, .f32⟩
  | 74 => ⟨S64x1x4x64x1, .f32⟩
  | 75 => ⟨S_, .i32⟩
  | 76 => ⟨S_, .i1⟩
  | 77 => ⟨S_, .i32⟩
  | 78 => ⟨S_, .i32⟩
  | 79 => ⟨S_, .i32⟩
  | 80 => ⟨S1x1x4x64, .f32⟩
  | 81 => ⟨S1x4x64, .f32⟩
  | 82 => ⟨S_, .i32⟩
  | 83 => ⟨S_, .i32⟩
  | 84 => ⟨S_, .i32⟩
  | 85 => ⟨S_, .i32⟩
  | 86 => ⟨S1x1x4x64x128, .f32⟩
  | 87 => ⟨S1x4x64x128, .f32⟩
  | 88 => ⟨S1x4x64x1, .f32⟩
  | 89 => ⟨S1x4x64x128, .f32⟩
  | 90 => ⟨S1x4x64x128, .f32⟩
  | 91 => ⟨S1x4x64x128, .f32⟩
  | 92 => ⟨S1x1x4x64x128, .f32⟩
  | 93 => ⟨S_, .i32⟩
  | 94 => ⟨S_, .i32⟩
  | 95 => ⟨S_, .i32⟩
  | 96 => ⟨S_, .i32⟩
  | 97 => ⟨S64x1x4x64x128, .f32⟩
  | 98 => ⟨S1x1x4x64x1, .f32⟩
  | 99 => ⟨S_, .i32⟩
  | 100 => ⟨S_, .i32⟩
  | 101 => ⟨S_, .i32⟩
  | 102 => ⟨S_, .i32⟩
  | 103 => ⟨S64x1x4x64x1, .f32⟩
  | 104 => ⟨S_, .i32⟩
  | 105 => ⟨S_, .i32⟩
  | 106 => ⟨S1x4x64x64x128, .f32⟩
  | 107 => ⟨S1x4x64x64x128, .f32⟩
  | 108 => ⟨S1x4x4096x128, .f32⟩
  | 109 => ⟨S1x4096x4x128, .f32⟩
  | 110 => ⟨S1x4096x512, .f32⟩
  | 111 => ⟨S1x4096x512, .f32⟩
  | 112 => ⟨S_, .f32⟩
  | 113 => ⟨S1x4x64x128, .f32⟩
  | 114 => ⟨S1x4096x4x128, .f32⟩
  | 115 => ⟨S1x4x4096x128, .f32⟩
  | 116 => ⟨S1x4x64x64x128, .f32⟩
  | 117 => ⟨S1x4x64x128x64, .f32⟩
  | 118 => ⟨S64x1x4x64x128, .f32⟩
  | 119 => ⟨S1x4x64x64x64, .f32⟩
  | 120 => ⟨S_, .f32⟩
  | 121 => ⟨S1x4x64x128, .f32⟩
  | 122 => ⟨S_, .f32⟩
  | 123 => ⟨S64x1x4x64, .f32⟩
  | 124 => ⟨S_, .f32⟩
  | 125 => ⟨S64x1x4x64x128, .f32⟩
  | 126 => ⟨S_, .i32⟩
  | 127 => ⟨S64x1x4x64x128, .f32⟩
  | _ => ⟨S4096x2176, .f32⟩

abbrev hbmTy0_1 (i : Nat) : BufTy := match i % 128 with
  | 0 => ⟨S64x1x4x64x128, .f32⟩
  | 1 => ⟨S64x1x4x64x1, .f32⟩
  | 2 => ⟨S_, .i32⟩
  | 3 => ⟨S1x4x64x128, .f32⟩
  | 4 => ⟨S64x1x4x64, .f32⟩
  | 5 => ⟨S64x1x4x64x128, .f32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S1x1x4x64x128, .f32⟩
  | 17 => ⟨S1x4x64x128, .f32⟩
  | 18 => ⟨S_, .i32⟩
  | 19 => ⟨S_, .i32⟩
  | 20 => ⟨S_, .i32⟩
  | 21 => ⟨S_, .i32⟩
  | 22 => ⟨S1x1x4x64x128, .f32⟩
  | 23 => ⟨S1x4x64x128, .f32⟩
  | 24 => ⟨S_, .i32⟩
  | 25 => ⟨S_, .i32⟩
  | 26 => ⟨S_, .i32⟩
  | 27 => ⟨S_, .i32⟩
  | 28 => ⟨S1x1x4x64x1, .f32⟩
  | 29 => ⟨S1x4x64x1, .f32⟩
  | 30 => ⟨S1x4x64x128, .f32⟩
  | 31 => ⟨S1x4x64x128, .f32⟩
  | 32 => ⟨S1x4x64x128, .f32⟩
  | 33 => ⟨S1x4x64x128, .f32⟩
  | 34 => ⟨S_, .f32⟩
  | 35 => ⟨S1x4x64, .f32⟩
  | 36 => ⟨S1x4x64x1, .f32⟩
  | 37 => ⟨S_, .f32⟩
  | 38 => ⟨S4x64, .f32⟩
  | 39 => ⟨S1x4x64, .f32⟩
  | 40 => ⟨S1x1x4x64, .f32⟩
  | 41 => ⟨S_, .i32⟩
  | 42 => ⟨S_, .i32⟩
  | 43 => ⟨S_, .i32⟩
  | 44 => ⟨S64x1x4x64, .f32⟩
  | 45 => ⟨S1x1x4x64x128, .f32⟩
  | 46 => ⟨S_, .i32⟩
  | 47 => ⟨S_, .i32⟩
  | 48 => ⟨S_, .i32⟩
  | 49 => ⟨S_, .i32⟩
  | 50 => ⟨S64x1x4x64x128, .f32⟩
  | 51 => ⟨S_, .i32⟩
  | 52 => ⟨S_, .i32⟩
  | 53 => ⟨S1x4x64x64, .f32⟩
  | 54 => ⟨S1x4x64x64, .f32⟩
  | 55 => ⟨S1x4x64x1x64, .f32⟩
  | 56 => ⟨S64x1x4x128x64, .f32⟩
  | 57 => ⟨S1x4x64x64x128, .f32⟩
  | 58 => ⟨S64x1x4x64x64, .f32⟩
  | 59 => ⟨S1x4x64x64x64, .f32⟩
  | 60 => ⟨S1x4x64x128x64, .f32⟩
  | 61 => ⟨S1x4x64x64x128, .f32⟩
  | 62 => ⟨S1x4x64x64x128, .f32⟩
  | 63 => ⟨S1x4x64x64x64, .f32⟩
  | 64 => ⟨S_, .f32⟩
  | 65 => ⟨S1x4x64x64x64, .f32⟩
  | 66 => ⟨S1x4x64x64x64, .f32⟩
  | 67 => ⟨S1x4x64x64x64, .f32⟩
  | 68 => ⟨S1x4x64x64x64, .f32⟩
  | 69 => ⟨S1x4x64x64x64, .f32⟩
  | 70 => ⟨S1x4x64x64x64, .f32⟩
  | 71 => ⟨S1x4x64x64x64, .f32⟩
  | 72 => ⟨S1x4x64x64x64, .f32⟩
  | 73 => ⟨S_, .f32⟩
  | 74 => ⟨S1x4x64x64, .f32⟩
  | 75 => ⟨S1x4x64x1x64, .f32⟩
  | 76 => ⟨S1x4x64x64x64, .f32⟩
  | 77 => ⟨S1x4x64x1x64, .f32⟩
  | 78 => ⟨S1x4x64x64x64, .f32⟩
  | 79 => ⟨S1x4x64x64x64, .f32⟩
  | 80 => ⟨S1x4x64x64x64, .f32⟩
  | 81 => ⟨S1x4x64x64x64, .f32⟩
  | 82 => ⟨S1x4x64x64x64, .f32⟩
  | 83 => ⟨S1x4x64x64x64, .f32⟩
  | 84 => ⟨S1x4x64x64x64, .f32⟩
  | 85 => ⟨S1x4x64x64x64, .f32⟩
  | 86 => ⟨S1x4x64x64x64, .f32⟩
  | 87 => ⟨S1x4x64x64x64, .f32⟩
  | 88 => ⟨S_, .f32⟩
  | 89 => ⟨S1x4x64x64x64, .f32⟩
  | 90 => ⟨S1x4x64x64x64, .f32⟩
  | 91 => ⟨S_, .f32⟩
  | 92 => ⟨S_, .f32⟩
  | 93 => ⟨S1x4x64x64x64, .f32⟩
  | 94 => ⟨S1x4x4096x64, .f32⟩
  | 95 => ⟨S1x4x4096x128, .f32⟩
  | 96 => ⟨S1x4x4096x64, .f32⟩
  | 97 => ⟨S_, .f32⟩
  | 98 => ⟨S1x4x64x64x64, .f32⟩
  | 99 => ⟨S1x4x64x64x64, .f32⟩
  | 100 => ⟨S1x4x4096x64, .f32⟩
  | 101 => ⟨S1x4096x4x64, .f32⟩
  | 102 => ⟨S1x4096x256, .f32⟩
  | 103 => ⟨S1x4096x4x128, .f32⟩
  | 104 => ⟨S1x4096x512, .f32⟩
  | 105 => ⟨S1x4096x4x64, .f32⟩
  | 106 => ⟨S1x4096x256, .f32⟩
  | 107 => ⟨S1x4096x4x64, .f32⟩
  | 108 => ⟨S1x4096x256, .f32⟩
  | 109 => ⟨S4096x512, .f32⟩
  | 110 => ⟨S4096x256, .f32⟩
  | 111 => ⟨S4096x256, .f32⟩
  | 112 => ⟨S4096x256, .f32⟩
  | 113 => ⟨S4096x512, .f32⟩
  | _ => ⟨S4096x2176, .f32⟩

abbrev hbmTy (i : Nat) : BufTy := match i / 128 with
  | 0 => hbmTy0_0 i
  | 1 => hbmTy0_1 i
  | _ => ⟨S4096x2176, .f32⟩

abbrev bufTy : (tb : Table) → Fin (tcTables nBuf tb) → BufTy
  | .hbm, ⟨i, _⟩ => hbmTy i
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_call0_cst : Ref sig .tc := ⟨.hbm, 25, rfl⟩
abbrev main_call0_call0_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v34 : Ref sig .tc := ⟨.hbm, 49, rfl⟩
abbrev main_cst_0 : Ref sig .tc := ⟨.hbm, 50, rfl⟩
abbrev main_call2_v0 : Ref sig .tc := ⟨.hbm, 51, rfl⟩
abbrev main_v35_1 : Ref sig .tc := ⟨.hbm, 52, rfl⟩
abbrev main_call2_v2 : Ref sig .tc := ⟨.hbm, 53, rfl⟩
abbrev main_v35_0 : Ref sig .tc := ⟨.hbm, 54, rfl⟩
abbrev main_call2_cst : Ref sig .tc := ⟨.hbm, 55, rfl⟩
abbrev main_v35_2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_1 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_c_4 : Ref sig .tc := ⟨.hbm, 68, rfl⟩
abbrev main_v44_0 : Ref sig .tc := ⟨.hbm, 69, rfl⟩
abbrev main_v44_1 : Ref sig .tc := ⟨.hbm, 70, rfl⟩
abbrev main_v44_2 : Ref sig .tc := ⟨.hbm, 71, rfl⟩
abbrev main_v44_3 : Ref sig .tc := ⟨.hbm, 72, rfl⟩
abbrev main_v44_4 : Ref sig .tc := ⟨.hbm, 73, rfl⟩
abbrev main_v44_5 : Ref sig .tc := ⟨.hbm, 74, rfl⟩
abbrev main_while0c_c_18 : Ref sig .tc := ⟨.hbm, 75, rfl⟩
abbrev main_while0c_v116 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_v0 : Ref sig .tc := ⟨.hbm, 80, rfl⟩
abbrev main_while0b_v116 : Ref sig .tc := ⟨.hbm, 81, rfl⟩
abbrev main_while0b_call4_c : Ref sig .tc := ⟨.hbm, 82, rfl⟩
abbrev main_while0b_call4_c_0 : Ref sig .tc := ⟨.hbm, 83, rfl⟩
abbrev main_while0b_call4_c_1 : Ref sig .tc := ⟨.hbm, 84, rfl⟩
abbrev main_while0b_call4_c_2 : Ref sig .tc := ⟨.hbm, 85, rfl⟩
abbrev main_while0b_call4_v0 : Ref sig .tc := ⟨.hbm, 86, rfl⟩
abbrev main_while0b_v117 : Ref sig .tc := ⟨.hbm, 87, rfl⟩
abbrev main_while0b_v118 : Ref sig .tc := ⟨.hbm, 88, rfl⟩
abbrev main_while0b_v119 : Ref sig .tc := ⟨.hbm, 89, rfl⟩
abbrev main_while0b_v120 : Ref sig .tc := ⟨.hbm, 90, rfl⟩
abbrev main_while0b_v121 : Ref sig .tc := ⟨.hbm, 91, rfl⟩
abbrev main_while0b_call5_v0 : Ref sig .tc := ⟨.hbm, 92, rfl⟩
abbrev main_while0b_call5_c : Ref sig .tc := ⟨.hbm, 93, rfl⟩
abbrev main_while0b_call5_c_0 : Ref sig .tc := ⟨.hbm, 94, rfl⟩
abbrev main_while0b_call5_c_1 : Ref sig .tc := ⟨.hbm, 95, rfl⟩
abbrev main_while0b_call5_c_2 : Ref sig .tc := ⟨.hbm, 96, rfl⟩
abbrev main_while0b_v122 : Ref sig .tc := ⟨.hbm, 97, rfl⟩
abbrev main_while0b_call6_v0 : Ref sig .tc := ⟨.hbm, 98, rfl⟩
abbrev main_while0b_call6_c : Ref sig .tc := ⟨.hbm, 99, rfl⟩
abbrev main_while0b_call6_c_0 : Ref sig .tc := ⟨.hbm, 100, rfl⟩
abbrev main_while0b_call6_c_1 : Ref sig .tc := ⟨.hbm, 101, rfl⟩
abbrev main_while0b_call6_c_2 : Ref sig .tc := ⟨.hbm, 102, rfl⟩
abbrev main_while0b_v123 : Ref sig .tc := ⟨.hbm, 103, rfl⟩
abbrev main_while0b_c_18 : Ref sig .tc := ⟨.hbm, 104, rfl⟩
abbrev main_while0b_v124 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_5 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_6 : Ref sig .tc := ⟨.hbm, 120, rfl⟩
abbrev main_v58 : Ref sig .tc := ⟨.hbm, 121, rfl⟩
abbrev main_cst_7 : Ref sig .tc := ⟨.hbm, 122, rfl⟩
abbrev main_v59 : Ref sig .tc := ⟨.hbm, 123, rfl⟩
abbrev main_cst_8 : Ref sig .tc := ⟨.hbm, 124, rfl⟩
abbrev main_v60 : Ref sig .tc := ⟨.hbm, 125, rfl⟩
abbrev main_c_9 : Ref sig .tc := ⟨.hbm, 126, rfl⟩
abbrev main_v61_0 : Ref sig .tc := ⟨.hbm, 127, rfl⟩
abbrev main_v61_1 : Ref sig .tc := ⟨.hbm, 128, rfl⟩
abbrev main_v61_2 : Ref sig .tc := ⟨.hbm, 129, rfl⟩
abbrev main_v61_3 : Ref sig .tc := ⟨.hbm, 130, rfl⟩
abbrev main_v61_4 : Ref sig .tc := ⟨.hbm, 131, rfl⟩
abbrev main_v61_5 : Ref sig .tc := ⟨.hbm, 132, rfl⟩
abbrev main_v61_6 : Ref sig .tc := ⟨.hbm, 133, rfl⟩
abbrev main_while1c_c_19 : Ref sig .tc := ⟨.hbm, 134, rfl⟩
abbrev main_while1c_v116 : Ref sig .tc := ⟨.hbm, 135, rfl⟩
abbrev main_while1b_c_19 : Ref sig .tc := ⟨.hbm, 136, rfl⟩
abbrev main_while1b_v116 : Ref sig .tc := ⟨.hbm, 137, rfl⟩
abbrev main_while1b_c_20 : Ref sig .tc := ⟨.hbm, 138, rfl⟩
abbrev main_while1b_v117 : Ref sig .tc := ⟨.hbm, 139, rfl⟩
abbrev main_while1b_call7_c : Ref sig .tc := ⟨.hbm, 140, rfl⟩
abbrev main_while1b_call7_c_0 : Ref sig .tc := ⟨.hbm, 141, rfl⟩
abbrev main_while1b_call7_c_1 : Ref sig .tc := ⟨.hbm, 142, rfl⟩
abbrev main_while1b_call7_c_2 : Ref sig .tc := ⟨.hbm, 143, rfl⟩
abbrev main_while1b_call7_v0 : Ref sig .tc := ⟨.hbm, 144, rfl⟩
abbrev main_while1b_v118 : Ref sig .tc := ⟨.hbm, 145, rfl⟩
abbrev main_while1b_call8_c : Ref sig .tc := ⟨.hbm, 146, rfl⟩
abbrev main_while1b_call8_c_0 : Ref sig .tc := ⟨.hbm, 147, rfl⟩
abbrev main_while1b_call8_c_1 : Ref sig .tc := ⟨.hbm, 148, rfl⟩
abbrev main_while1b_call8_c_2 : Ref sig .tc := ⟨.hbm, 149, rfl⟩
abbrev main_while1b_call8_v0 : Ref sig .tc := ⟨.hbm, 150, rfl⟩
abbrev main_while1b_v119 : Ref sig .tc := ⟨.hbm, 151, rfl⟩
abbrev main_while1b_call9_c : Ref sig .tc := ⟨.hbm, 152, rfl⟩
abbrev main_while1b_call9_c_0 : Ref sig .tc := ⟨.hbm, 153, rfl⟩
abbrev main_while1b_call9_c_1 : Ref sig .tc := ⟨.hbm, 154, rfl⟩
abbrev main_while1b_call9_c_2 : Ref sig .tc := ⟨.hbm, 155, rfl⟩
abbrev main_while1b_call9_v0 : Ref sig .tc := ⟨.hbm, 156, rfl⟩
abbrev main_while1b_v120 : Ref sig .tc := ⟨.hbm, 157, rfl⟩
abbrev main_while1b_v121 : Ref sig .tc := ⟨.hbm, 158, rfl⟩
abbrev main_while1b_v122 : Ref sig .tc := ⟨.hbm, 159, rfl⟩
abbrev main_while1b_v123 : Ref sig .tc := ⟨.hbm, 160, rfl⟩
abbrev main_while1b_v124 : Ref sig .tc := ⟨.hbm, 161, rfl⟩
abbrev main_while1b_cst_21 : Ref sig .tc := ⟨.hbm, 162, rfl⟩
abbrev main_while1b_v125 : Ref sig .tc := ⟨.hbm, 163, rfl⟩
abbrev main_while1b_v126 : Ref sig .tc := ⟨.hbm, 164, rfl⟩
abbrev main_while1b_cst_22 : Ref sig .tc := ⟨.hbm, 165, rfl⟩
abbrev main_while1b_v127 : Ref sig .tc := ⟨.hbm, 166, rfl⟩
abbrev main_while1b_v128 : Ref sig .tc := ⟨.hbm, 167, rfl⟩
abbrev main_while1b_call10_v0 : Ref sig .tc := ⟨.hbm, 168, rfl⟩
abbrev main_while1b_call10_c : Ref sig .tc := ⟨.hbm, 169, rfl⟩
abbrev main_while1b_call10_c_0 : Ref sig .tc := ⟨.hbm, 170, rfl⟩
abbrev main_while1b_call10_c_1 : Ref sig .tc := ⟨.hbm, 171, rfl⟩
abbrev main_while1b_v129 : Ref sig .tc := ⟨.hbm, 172, rfl⟩
abbrev main_while1b_call11_v0 : Ref sig .tc := ⟨.hbm, 173, rfl⟩
abbrev main_while1b_call11_c : Ref sig .tc := ⟨.hbm, 174, rfl⟩
abbrev main_while1b_call11_c_0 : Ref sig .tc := ⟨.hbm, 175, rfl⟩
abbrev main_while1b_call11_c_1 : Ref sig .tc := ⟨.hbm, 176, rfl⟩
abbrev main_while1b_call11_c_2 : Ref sig .tc := ⟨.hbm, 177, rfl⟩
abbrev main_while1b_v130 : Ref sig .tc := ⟨.hbm, 178, rfl⟩
abbrev main_while1b_c_23 : Ref sig .tc := ⟨.hbm, 179, rfl⟩
abbrev main_while1b_v131 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_call12_cst : Ref sig .tc := ⟨.hbm, 192, rfl⟩
abbrev main_call12_v0 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_cst_10 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_cst_11 : Ref sig .tc := ⟨.hbm, 216, rfl⟩
abbrev main_v94 : Ref sig .tc := ⟨.hbm, 217, rfl⟩
abbrev main_v95 : Ref sig .tc := ⟨.hbm, 218, rfl⟩
abbrev main_call13_call0_cst : Ref sig .tc := ⟨.hbm, 219, rfl⟩
abbrev main_call13_call0_v0 : Ref sig .tc := ⟨.hbm, 220, rfl⟩
abbrev main_v96 : Ref sig .tc := ⟨.hbm, 221, rfl⟩
abbrev main_v97 : Ref sig .tc := ⟨.hbm, 222, rfl⟩
abbrev main_v98 : Ref sig .tc := ⟨.hbm, 223, rfl⟩
abbrev main_v99 : Ref sig .tc := ⟨.hbm, 224, rfl⟩
abbrev main_cst_12 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_v113 : Ref sig .tc := ⟨.hbm, 239, rfl⟩
abbrev main_v114 : Ref sig .tc := ⟨.hbm, 240, rfl⟩
abbrev main_v115 : Ref sig .tc := ⟨.hbm, 241, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]
-- ==== Reference2Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x704x4096 : Shape := ⟨3, ![4, 704, 4096]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4x704x1024, .f32⟩
  | .hbm, ⟨27, _⟩ => ⟨S4x704x4096, .f32⟩
  | .hbm, ⟨28, _⟩ => ⟨S4x4096x704, .f32⟩
  | .hbm, ⟨29, _⟩ => ⟨S4x704x1024, .f32⟩
  | .hbm, ⟨30, _⟩ => ⟨S4x704x4096, .f32⟩
  | .hbm, ⟨31, _⟩ => ⟨S4x4096x704, .f32⟩
  | .hbm, ⟨32, _⟩ => ⟨S4x4096x704, .f32⟩
  | .hbm, ⟨33, _⟩ => ⟨S4x4096x704, .f32⟩
  | .hbm, ⟨34, _⟩ => ⟨S4x704x4096, .f32⟩
  | .hbm, ⟨35, _⟩ => ⟨S4096x1024, .f32⟩
  | .hbm, ⟨36, _⟩ => ⟨S4x704x4096, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .hbm, ⟨3, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S4x4096x704 : Shape := ⟨3, ![4, 4096, 704]⟩
abbrev S4096x1024 : Shape := ⟨2, ![4096, 1024]⟩
abbrev S4x704x1024 : Shape := ⟨3, ![4, 704, 1024]⟩
abbrev S4x704x4096 : Shape := ⟨3, ![4, 704, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .hbm, ⟨3, _⟩ => ⟨S4x704x1024, .f32⟩
  | .hbm, ⟨4, _⟩ => ⟨S4096x1024, .f32⟩
  | .hbm, ⟨5, _⟩ => ⟨S4x704x4096, .f32⟩
  | .hbm, ⟨6, _⟩ => ⟨S4x4096x704, .f32⟩
  | .hbm, ⟨7, _⟩ => ⟨S4x4096x704, .f32⟩
  | .hbm, ⟨8, _⟩ => ⟨S4x704x4096, .f32⟩
  | .hbm, ⟨9, _⟩ => ⟨S4x704x1024, .f32⟩
  | .hbm, ⟨10, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4x4096x704 : Shape := ⟨3, ![4, 4096, 704]⟩
abbrev S4096x1024 : Shape := ⟨2, ![4096, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x704x1024, .bf16⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S4x4096x704 : Shape := ⟨3, ![4, 4096, 704]⟩
abbrev S4096x1024 : Shape := ⟨2, ![4096, 1024]⟩
abbrev S4x704x1024 : Shape := ⟨3, ![4, 704, 1024]⟩
abbrev S1024x4x704 : Shape := ⟨3, ![1024, 4, 704]⟩
abbrev S4096x4x704 : Shape := ⟨3, ![4096, 4, 704]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x704x1024, .bf16⟩
  | .hbm, ⟨3, _⟩ => ⟨S4x4096x704, .f32⟩
  | .hbm, ⟨4, _⟩ => ⟨S4x704x1024, .f32⟩
  | .hbm, ⟨5, _⟩ => ⟨S4096x1024, .f32⟩
  | .hbm, ⟨6, _⟩ => ⟨S1024x4x704, .f32⟩
  | .hbm, ⟨7, _⟩ => ⟨S4x704x1024, .f32⟩
  | .hbm, ⟨8, _⟩ => ⟨S4096x4x704, .f32⟩
  | .hbm, ⟨9, _⟩ => ⟨S4x4096x704, .f32⟩
  | .hbm, ⟨10, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4x4096x704 : Shape := ⟨3, ![4, 4096, 704]⟩
abbrev S4096x1024 : Shape := ⟨2, ![4096, 1024]⟩
abbrev S4x704x1024 : Shape := ⟨3, ![4, 704, 1024]⟩
abbrev S2048x1024 : Shape := ⟨2, ![2048, 1024]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x704x1024, .bf16⟩
  | .hbm, ⟨3, _⟩ => ⟨S4x4096x704, .bf16⟩
  | .local _ .vmem, ⟨0, _⟩ => ⟨S2048x1024, .f32⟩
  | .local _ .vmem, ⟨1, _⟩ => ⟨S2048x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x2048x704, .bf16⟩
  | .local _ .vmem, ⟨5, _⟩ => ⟨S1x2048x704, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S4x4096x704 : Shape := ⟨3, ![4, 4096, 704]⟩
abbrev S4096x1024 : Shape := ⟨2, ![4096, 1024]⟩
abbrev S4x704x1024 : Shape := ⟨3, ![4, 704, 1024]⟩
abbrev S1024x4x704 : Shape := ⟨3, ![1024, 4, 704]⟩
abbrev S4096x4x704 : Shape := ⟨3, ![4096, 4, 704]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x704x1024, .bf16⟩
  | .hbm, ⟨3, _⟩ => ⟨S4x4096x704, .f32⟩
  | .hbm, ⟨4, _⟩ => ⟨S4x704x1024, .f32⟩
  | .hbm, ⟨5, _⟩ => ⟨S4096x1024, .f32⟩
  | .hbm, ⟨6, _⟩ => ⟨S1024x4x704, .f32⟩
  | .hbm, ⟨7, _⟩ => ⟨S4x704x1024, .f32⟩
  | .hbm, ⟨8, _⟩ => ⟨S4096x4x704, .f32⟩
  | .hbm, ⟨9, _⟩ => ⟨S4x4096x704, .f32⟩
  | .hbm, ⟨10, _⟩ => ⟨S4x4096x704, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2176 : Shape := ⟨2, ![4096, 2176]⟩
abbrev S4096x1024 : Shape := ⟨2, ![4096, 1024]⟩
abbrev S2176x1024 : Shape := ⟨2, ![2176, 1024]⟩
abbrev S1024x2176 : Shape := ⟨2, ![1024, 2176]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2176, .bf16⟩
  | .hbm, ⟨1, _⟩ => ⟨S4096x1024, .bf16⟩
  | .hbm, ⟨2, _⟩ => ⟨S2176x1024, .bf16⟩
  | .hbm, ⟨3, _⟩ => ⟨S2176x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .f32⟩
  | _, _ => ⟨S4096x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference6Ideal.lean ====
abbrev S4096x2176 : Shape := ⟨2, ![4096, 2176]⟩
abbrev S4096x1024 : Shape := ⟨2, ![4096, 1024]⟩
abbrev S2176x1024 : Shape := ⟨2, ![2176, 1024]⟩
abbrev S1024x2176 : Shape := ⟨2, ![1024, 2176]⟩

abbrev nBuf : Space → Nat
  | .hbm => 12
  | .vmem => 0
  | .smem => 0
  | _ => 0

abbrev bufTy : (tb : Table) → Fin (tcTables nBuf tb) → BufTy
  | .hbm, ⟨0, _⟩ => ⟨S4096x2176, .bf16⟩
  | .hbm, ⟨1, _⟩ => ⟨S4096x1024, .bf16⟩
  | .hbm, ⟨2, _⟩ => ⟨S2176x1024, .bf16⟩
  | .hbm, ⟨3, _⟩ => ⟨S2176x1024, .f32⟩
  | .hbm, ⟨4, _⟩ => ⟨S4096x1024, .f32⟩
  | .hbm, ⟨5, _⟩ => ⟨S1024x2176, .f32⟩
  | .hbm, ⟨6, _⟩ => ⟨S4096x2176, .f32⟩
  | .hbm, ⟨7, _⟩ => ⟨S4096x2176, .f32⟩
  | .hbm, ⟨8, _⟩ => ⟨S2176x1024, .f32⟩
  | .hbm, ⟨9, _⟩ => ⟨S1024x2176, .f32⟩
  | .hbm, ⟨10, _⟩ => ⟨S2176x1024, .f32⟩
  | .hbm, ⟨11, _⟩ => ⟨S2176x1024, .bf16⟩
  | _, _ => ⟨S4096x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x2176 : Shape := ⟨2, ![4096, 2176]⟩
abbrev S2176x1024 : Shape := ⟨2, ![2176, 1024]⟩
abbrev S4096x1024 : Shape := ⟨2, ![4096, 1024]⟩
abbrev S1x1024 : Shape := ⟨2, ![1, 1024]⟩
abbrev S512x2176 : Shape := ⟨2, ![512, 2176]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2176, .bf16⟩
  | .hbm, ⟨1, _⟩ => ⟨S2176x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x2176, .bf16⟩
  | .local _ .vmem, ⟨1, _⟩ => ⟨S512x2176, .bf16⟩
  | .local _ .vmem, ⟨2, _⟩ => ⟨S2176x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]
-- ==== Reference7Ideal.lean ====
abbrev S4096x2176 : Shape := ⟨2, ![4096, 2176]⟩
abbrev S2176x1024 : Shape := ⟨2, ![2176, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2176 : Shape := ⟨2, ![1024, 2176]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x2176, .bf16⟩
  | .hbm, ⟨1, _⟩ => ⟨S2176x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S2176x1024, .f32⟩
  | .hbm, ⟨25, _⟩ => ⟨S1024x2176, .f32⟩
  | .hbm, ⟨26, _⟩ => ⟨S4096x2176, .f32⟩
  | .hbm, ⟨27, _⟩ => ⟨S4096x2176, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 2], ![false, false, false, false]⟩

def k0_cond3 (i : grid0.Coords) : BitVec 1 :=
  let arg3 : BitVec 32 := BitVec.ofNat 32 (i 3).val
  let c1_i32 : BitVec 32 := 1#32
  let v10 : BitVec 1 := Scalar.cmpi .eq arg3 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference8Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S512x1024, .bf16⟩
  | .hbm, ⟨3, _⟩ => ⟨S512x1024, .bf16⟩
  | .local _ .vmem, ⟨0, _⟩ => ⟨S4096x512, .bf16⟩
  | .local _ .vmem, ⟨1, _⟩ => ⟨S4096x1024, .f32⟩
  | .local _ .vmem, ⟨2, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference9Ideal.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S512x1024, .bf16⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .hbm, ⟨3, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference10Ideal.lean ====
abbrev S4096x1024 : Shape := ⟨2, ![4096, 1024]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]
-- ==== Reference11Ideal.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel12.lean ====
abbrev S4096x1024 : Shape := ⟨2, ![4096, 1024]⟩
abbrev S4x704x1024 : Shape := ⟨3, ![4, 704, 1024]⟩
abbrev S4x4096x704 : Shape := ⟨3, ![4, 4096, 704]⟩
abbrev S1x704x1024 : Shape := ⟨3, ![1, 704, 1024]⟩
abbrev S1x4096x704 : Shape := ⟨3, ![1, 4096, 704]⟩
abbrev S704x1024 : Shape := ⟨2, ![704, 1024]⟩
abbrev S4096x704 : Shape := ⟨2, ![4096, 704]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .local _ .vmem, ⟨0, _⟩ => ⟨S4096x1024, .bf16⟩
  | .local _ .vmem, ⟨1, _⟩ => ⟨S1x704x1024, .bf16⟩
  | .local _ .vmem, ⟨2, _⟩ => ⟨S1x704x1024, .bf16⟩
  | .local _ .vmem, ⟨3, _⟩ => ⟨S1x4096x704, .bf16⟩
  | .local _ .vmem, ⟨4, _⟩ => ⟨S1x4096x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x4096x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference12Ideal.lean ====
abbrev S4096x1024 : Shape := ⟨2, ![4096, 1024]⟩
abbrev S4x704x1024 : Shape := ⟨3, ![4, 704, 1024]⟩
abbrev S4x704x4096 : Shape := ⟨3, ![4, 704, 4096]⟩
abbrev S4x4096x704 : Shape := ⟨3, ![4, 4096, 704]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4096x1024, .f32⟩
  | .hbm, ⟨3, _⟩ => ⟨S4x704x1024, .f32⟩
  | .hbm, ⟨4, _⟩ => ⟨S4x704x4096, .f32⟩
  | .hbm, ⟨5, _⟩ => ⟨S4x4096x704, .f32⟩
  | .hbm, ⟨6, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4x4096x704 : Shape := ⟨3, ![4, 4096, 704]⟩
abbrev S4x704x1024 : Shape := ⟨3, ![4, 704, 1024]⟩
abbrev S4096x1024 : Shape := ⟨2, ![4096, 1024]⟩
abbrev S1x128 : Shape := ⟨2, ![1, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x128, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]
-- ==== Reference13Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4x4096x704, .f32⟩
  | .hbm, ⟨5, _⟩ => ⟨S4x704x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x128, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_cst_10 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]
-- ==== Reference14Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]
-- ==== Reference15Ideal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel16.lean ====
abbrev S4096x1024 : Shape := ⟨2, ![4096, 1024]⟩
abbrev S2176x1024 : Shape := ⟨2, ![2176, 1024]⟩
abbrev S16x256 : Shape := ⟨2, ![16, 256]⟩
abbrev S1x256 : Shape := ⟨2, ![1, 256]⟩
abbrev S1x128 : Shape := ⟨2, ![1, 128]⟩
abbrev S_ : Shape := ⟨0, ![]⟩
abbrev S128x256 : Shape := ⟨2, ![128, 256]⟩
abbrev S4096x2176 : Shape := ⟨2, ![4096, 2176]⟩
abbrev S4096x256 : Shape := ⟨2, ![4096, 256]⟩
abbrev S4096x128 : Shape := ⟨2, ![4096, 128]⟩
abbrev S512x1024 : Shape := ⟨2, ![512, 1024]⟩
abbrev S512x2176 : Shape := ⟨2, ![512, 2176]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S2176x1024, .bf16⟩
  | .hbm, ⟨2, _⟩ => ⟨S16x256, .bf16⟩
  | .hbm, ⟨3, _⟩ => ⟨S1x256, .f32⟩
  | .hbm, ⟨4, _⟩ => ⟨S1x256, .f32⟩
  | .hbm, ⟨5, _⟩ => ⟨S1x128, .f32⟩
  | .hbm, ⟨6, _⟩ => ⟨S_, .i32⟩
  | .hbm, ⟨7, _⟩ => ⟨S_, .bf16⟩
  | .hbm, ⟨8, _⟩ => ⟨S128x256, .bf16⟩
  | .hbm, ⟨9, _⟩ => ⟨S4096x2176, .f32⟩
  | .hbm, ⟨10, _⟩ => ⟨S4096x256, .f32⟩
  | .hbm, ⟨11, _⟩ => ⟨S4096x256, .bf16⟩
  | .hbm, ⟨12, _⟩ => ⟨S4096x128, .bf16⟩
  | .local _ .vmem, ⟨0, _⟩ => ⟨S512x1024, .bf16⟩
  | .local _ .vmem, ⟨1, _⟩ => ⟨S512x1024, .bf16⟩
  | .local _ .vmem, ⟨2, _⟩ => ⟨S2176x1024, .bf16⟩
  | .local _ .vmem, ⟨3, _⟩ => ⟨S128x256, .bf16⟩
  | .local _ .vmem, ⟨4, _⟩ => ⟨S1x256, .f32⟩
  | .local _ .vmem, ⟨5, _⟩ => ⟨S1x256, .f32⟩
  | .local _ .vmem, ⟨6, _⟩ => ⟨S1x128, .f32⟩
  | .local _ .vmem, ⟨7, _⟩ => ⟨S512x2176, .f32⟩
  | .local _ .vmem, ⟨8, _⟩ => ⟨S512x2176, .f32⟩
  | .local _ .vmem, ⟨9, _⟩ => ⟨S512x256, .f32⟩
  | .local _ .vmem, ⟨10, _⟩ => ⟨S512x256, .f32⟩
  | .local _ .vmem, ⟨11, _⟩ => ⟨S512x256, .bf16⟩
  | .local _ .vmem, ⟨12, _⟩ => ⟨S512x256, .bf16⟩
  | .local _ .vmem, ⟨13, _⟩ => ⟨S512x128, .bf16⟩
  | .local _ .vmem, ⟨14, _⟩ => ⟨S512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S512x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false, false]
-- ==== Reference16Ideal.lean ====
abbrev S4096x1024 : Shape := ⟨2, ![4096, 1024]⟩
abbrev S2176x1024 : Shape := ⟨2, ![2176, 1024]⟩
abbrev S16x256 : Shape := ⟨2, ![16, 256]⟩
abbrev S1x256 : Shape := ⟨2, ![1, 256]⟩
abbrev S1x128 : Shape := ⟨2, ![1, 128]⟩
abbrev S1024x2176 : Shape := ⟨2, ![1024, 2176]⟩
abbrev S4096x2176 : Shape := ⟨2, ![4096, 2176]⟩
abbrev S4096x16 : Shape := ⟨2, ![4096, 16]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S4096x128 : Shape := ⟨2, ![4096, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2176x1024, .bf16⟩
  | .hbm, ⟨2, _⟩ => ⟨S16x256, .bf16⟩
  | .hbm, ⟨3, _⟩ => ⟨S1x256, .f32⟩
  | .hbm, ⟨4, _⟩ => ⟨S1x256, .f32⟩
  | .hbm, ⟨5, _⟩ => ⟨S1x128, .f32⟩
  | .hbm, ⟨6, _⟩ => ⟨S4096x1024, .f32⟩
  | .hbm, ⟨7, _⟩ => ⟨S2176x1024, .f32⟩
  | .hbm, ⟨8, _⟩ => ⟨S1024x2176, .f32⟩
  | .hbm, ⟨9, _⟩ => ⟨S4096x2176, .f32⟩
  | .hbm, ⟨10, _⟩ => ⟨S4096x16, .f32⟩
  | .hbm, ⟨11, _⟩ => ⟨S16x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S4096x256, .i1⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S4096x256, .bf16⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_0 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩

abbrev nD : Nat := 1
abbrev τ : Topo := Topo.v7x

variable {F : FTy → Type} [FloatOps F]
-- ==== Kernel17.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference17Ideal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .hbm, ⟨3, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference18Ideal.lean ====
abbrev S256x1024 : Shape := ⟨2, ![256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S256x1024, .f32⟩
  | .hbm, ⟨9, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .hbm, ⟨3, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference19Ideal.lean ====
abbrev S256x1024 : Shape := ⟨2, ![256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .bf16⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference20Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel22.lean ====
abbrev S4096x512 : Shape := ⟨2, ![4096, 512]⟩
abbrev S4096x2176 : Shape := ⟨2, ![4096, 2176]⟩
abbrev S1x128 : Shape := ⟨2, ![1, 128]⟩
abbrev S4096x1024 : Shape := ⟨2, ![4096, 1024]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x2176, .f32⟩
  | .hbm, ⟨2, _⟩ => ⟨S4096x512, .f32⟩
  | .hbm, ⟨3, _⟩ => ⟨S1x128, .f32⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S4096x512 : Shape := ⟨2, ![4096, 512]⟩
abbrev S4096x2176 : Shape := ⟨2, ![4096, 2176]⟩
abbrev S1x128 : Shape := ⟨2, ![1, 128]⟩
abbrev S1x4096x512 : Shape := ⟨3, ![1, 4096, 512]⟩
abbrev S1x4096x4x128 : Shape := ⟨4, ![1, 4096, 4, 128]⟩
abbrev S1x4x4096x128 : Shape := ⟨4, ![1, 4, 4096, 128]⟩
abbrev S_ : Shape := ⟨0, ![]⟩
abbrev S1x4x4096 : Shape := ⟨3, ![1, 4, 4096]⟩
abbrev S1x4x4096x1 : Shape := ⟨4, ![1, 4, 4096, 1]⟩
abbrev S1x1x1x128 : Shape := ⟨4, ![1, 1, 1, 128]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2176, .f32⟩
  | .hbm, ⟨2, _⟩ => ⟨S4096x512, .f32⟩
  | .hbm, ⟨3, _⟩ => ⟨S1x128, .f32⟩
  | .hbm, ⟨4, _⟩ => ⟨S1x4096x512, .f32⟩
  | .hbm, ⟨5, _⟩ => ⟨S1x4096x4x128, .f32⟩
  | .hbm, ⟨6, _⟩ => ⟨S1x4x4096x128, .f32⟩
  | .hbm, ⟨7, _⟩ => ⟨S1x4x4096x128, .f32⟩
  | .hbm, ⟨8, _⟩ => ⟨S_, .f32⟩
  | .hbm, ⟨9, _⟩ => ⟨S1x4x4096, .f32⟩
  | .hbm, ⟨10, _⟩ => ⟨S1x4x4096x1, .f32⟩
  | .hbm, ⟨11, _⟩ => ⟨S_, .f32⟩
  | .hbm, ⟨12, _⟩ => ⟨S1x4x4096x1, .f32⟩
  | .hbm, ⟨13, _⟩ => ⟨S1x4x4096x1, .f32⟩
  | .hbm, ⟨14, _⟩ => ⟨S_, .f32⟩
  | .hbm, ⟨15, _⟩ => ⟨S1x4x4096x1, .f32⟩
  | .hbm, ⟨16, _⟩ => ⟨S1x4x4096x1, .f32⟩
  | .hbm, ⟨17, _⟩ => ⟨S1x4x4096x1, .f32⟩
  | .hbm, ⟨18, _⟩ => ⟨S1x4x4096x128, .f32⟩
  | .hbm, ⟨19, _⟩ => ⟨S1x4x4096x128, .f32⟩
  | .hbm, ⟨20, _⟩ => ⟨S1x1x1x128, .f32⟩
  | .hbm, ⟨21, _⟩ => ⟨S1x4x4096x128, .f32⟩
  | .hbm, ⟨22, _⟩ => ⟨S1x4x4096x128, .f32⟩
  | .hbm, ⟨23, _⟩ => ⟨S1x4096x4x128, .f32⟩
  | .hbm, ⟨24, _⟩ => ⟨S1x4096x512, .f32⟩
  | .hbm, ⟨25, _⟩ => ⟨S4096x512, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S_, .f32⟩
  | .hbm, ⟨30, _⟩ => ⟨S1x4096x512, .f32⟩
  | .hbm, ⟨31, _⟩ => ⟨S1x4096x512, .f32⟩
  | .hbm, ⟨32, _⟩ => ⟨S_, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S4096x512, .f32⟩
  | .hbm, ⟨38, _⟩ => ⟨S4096x1024, .f32⟩
  | .hbm, ⟨39, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel23.lean ====
abbrev S4096x1024 : Shape := ⟨2, ![4096, 1024]⟩
abbrev S1024x512 : Shape := ⟨2, ![1024, 512]⟩
abbrev S256x1024 : Shape := ⟨2, ![256, 1024]⟩
abbrev S1x128 : Shape := ⟨2, ![1, 128]⟩
abbrev S4096x512 : Shape := ⟨2, ![4096, 512]⟩
abbrev S2048x1024 : Shape := ⟨2, ![2048, 1024]⟩
abbrev S2048x512 : Shape := ⟨2, ![2048, 512]⟩
abbrev S256x128 : Shape := ⟨2, ![256, 128]⟩
abbrev S2048x128 : Shape := ⟨2, ![2048, 128]⟩
abbrev S2048 : Shape := ⟨1, ![2048]⟩
abbrev S2048x1 : Shape := ⟨2, ![2048, 1]⟩
abbrev S256 : Shape := ⟨1, ![256]⟩
abbrev S256x1 : Shape := ⟨2, ![256, 1]⟩
abbrev S2048x256 : Shape := ⟨2, ![2048, 256]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S256x1024, .f32⟩
  | .hbm, ⟨3, _⟩ => ⟨S1x128, .f32⟩
  | .hbm, ⟨4, _⟩ => ⟨S1x128, .f32⟩
  | .hbm, ⟨5, _⟩ => ⟨S4096x512, .f32⟩
  | .hbm, ⟨6, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S256x1024, .f32⟩
  | .local _ .vmem, ⟨4, _⟩ => ⟨S1x128, .f32⟩
  | .local _ .vmem, ⟨5, _⟩ => ⟨S1x128, .f32⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨4, ![2, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false, false]
-- ==== Reference23Ideal.lean ====
abbrev S4096x1024 : Shape := ⟨2, ![4096, 1024]⟩
abbrev S1024x512 : Shape := ⟨2, ![1024, 512]⟩
abbrev S256x1024 : Shape := ⟨2, ![256, 1024]⟩
abbrev S1x128 : Shape := ⟨2, ![1, 128]⟩
abbrev S4096x512 : Shape := ⟨2, ![4096, 512]⟩
abbrev S1x4096x4x128 : Shape := ⟨4, ![1, 4096, 4, 128]⟩
abbrev S_ : Shape := ⟨0, ![]⟩
abbrev S1x4096x4 : Shape := ⟨3, ![1, 4096, 4]⟩
abbrev S1x4096x4x1 : Shape := ⟨4, ![1, 4096, 4, 1]⟩
abbrev S1x1x1x128 : Shape := ⟨4, ![1, 1, 1, 128]⟩
abbrev S1x256x2x4x128 : Shape := ⟨5, ![1, 256, 2, 4, 128]⟩
abbrev S1x256x1x4x128 : Shape := ⟨5, ![1, 256, 1, 4, 128]⟩
abbrev S1x256x4x128 : Shape := ⟨4, ![1, 256, 4, 128]⟩
abbrev S1x256x4 : Shape := ⟨3, ![1, 256, 4]⟩
abbrev S1x256x4x1 : Shape := ⟨4, ![1, 256, 4, 1]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S256x1024, .f32⟩
  | .hbm, ⟨3, _⟩ => ⟨S1x128, .f32⟩
  | .hbm, ⟨4, _⟩ => ⟨S1x128, .f32⟩
  | .hbm, ⟨5, _⟩ => ⟨S4096x1024, .f32⟩
  | .hbm, ⟨6, _⟩ => ⟨S1024x512, .f32⟩
  | .hbm, ⟨7, _⟩ => ⟨S4096x512, .f32⟩
  | .hbm, ⟨8, _⟩ => ⟨S1x4096x4x128, .f32⟩
  | .hbm, ⟨9, _⟩ => ⟨S1x4096x4x128, .f32⟩
  | .hbm, ⟨10, _⟩ => ⟨S_, .f32⟩
  | .hbm, ⟨11, _⟩ => ⟨S1x4096x4, .f32⟩
  | .hbm, ⟨12, _⟩ => ⟨S1x4096x4x1, .f32⟩
  | .hbm, ⟨13, _⟩ => ⟨S_, .f32⟩
  | .hbm, ⟨14, _⟩ => ⟨S1x4096x4x1, .f32⟩
  | .hbm, ⟨15, _⟩ => ⟨S1x4096x4x1, .f32⟩
  | .hbm, ⟨16, _⟩ => ⟨S_, .f32⟩
  | .hbm, ⟨17, _⟩ => ⟨S1x4096x4x1, .f32⟩
  | .hbm, ⟨18, _⟩ => ⟨S1x4096x4x1, .f32⟩
  | .hbm, ⟨19, _⟩ => ⟨S1x4096x4x1, .f32⟩
  | .hbm, ⟨20, _⟩ => ⟨S1x4096x4x128, .f32⟩
  | .hbm, ⟨21, _⟩ => ⟨S1x4096x4x128, .f32⟩
  | .hbm, ⟨22, _⟩ => ⟨S1x1x1x128, .f32⟩
  | .hbm, ⟨23, _⟩ => ⟨S1x4096x4x128, .f32⟩
  | .hbm, ⟨24, _⟩ => ⟨S1x4096x4x128, .f32⟩
  | .hbm, ⟨25, _⟩ => ⟨S1x256x2x4x128, .f32⟩
  | .hbm, ⟨26, _⟩ => ⟨S1x256x1x4x128, .f32⟩
  | .hbm, ⟨27, _⟩ => ⟨S1x256x4x128, .f32⟩
  | .hbm, ⟨28, _⟩ => ⟨S1x256x4x128, .f32⟩
  | .hbm, ⟨29, _⟩ => ⟨S_, .f32⟩
  | .hbm, ⟨30, _⟩ => ⟨S1x256x4, .f32⟩
  | .hbm, ⟨31, _⟩ => ⟨S1x256x4x1, .f32⟩
  | .hbm, ⟨32, _⟩ => ⟨S_, .f32⟩
  | .hbm, ⟨33, _⟩ => ⟨S1x256x4x1, .f32⟩
  | .hbm, ⟨34, _⟩ => ⟨S1x256x4x1, .f32⟩
  | .hbm, ⟨35, _⟩ => ⟨S_, .f32⟩
  | .hbm, ⟨36, _⟩ => ⟨S1x256x4x1, .f32⟩
  | .hbm, ⟨37, _⟩ => ⟨S1x256x4x1, .f32⟩
  | .hbm, ⟨38, _⟩ => ⟨S1x256x4x1, .f32⟩
  | .hbm, ⟨39, _⟩ => ⟨S1x256x4x128, .f32⟩
  | .hbm, ⟨40, _⟩ => ⟨S1x256x4x128, .f32⟩
  | .hbm, ⟨41, _⟩ => ⟨S1x1x1x128, .f32⟩
  | .hbm, ⟨42, _⟩ => ⟨S1x256x4x128, .f32⟩
  | .hbm, ⟨43, _⟩ => ⟨S1x256x4x128, .f32⟩
  | .hbm, ⟨44, _⟩ => ⟨S1x4x4096x256, .f32⟩
  | .hbm, ⟨45, _⟩ => ⟨S_, .f32⟩
  | .hbm, ⟨46, _⟩ => ⟨S1x4x4096x256, .f32⟩
  | .hbm, ⟨47, _⟩ => ⟨S1x4x4096x256, .f32⟩
  | .hbm, ⟨48, _⟩ => ⟨S_, .f32⟩
  | .hbm, ⟨49, _⟩ => ⟨S1x4x4096, .f32⟩
  | .hbm, ⟨50, _⟩ => ⟨S_, .f32⟩
  | .hbm, ⟨51, _⟩ => ⟨S1x4x4096, .f32⟩
  | .hbm, ⟨52, _⟩ => ⟨S1x4x4096, .f32⟩
  | .hbm, ⟨53, _⟩ => ⟨S1x4x4096x1, .f32⟩
  | .hbm, ⟨54, _⟩ => ⟨S1x4x4096x256, .f32⟩
  | .hbm, ⟨55, _⟩ => ⟨S1x4x4096x256, .f32⟩
  | .hbm, ⟨56, _⟩ => ⟨S1x4x4096x256, .f32⟩
  | .hbm, ⟨57, _⟩ => ⟨S_, .f32⟩
  | .hbm, ⟨58, _⟩ => ⟨S1x4x4096, .f32⟩
  | .hbm, ⟨59, _⟩ => ⟨S1x4x4096x1, .f32⟩
  | .hbm, ⟨60, _⟩ => ⟨S1x4x4096x256, .f32⟩
  | .hbm, ⟨61, _⟩ => ⟨S1x4x4096x256, .f32⟩
  | .hbm, ⟨62, _⟩ => ⟨S1x256x1x4x128, .f32⟩
  | .hbm, ⟨63, _⟩ => ⟨S1x256x4x128, .f32⟩
  | .hbm, ⟨64, _⟩ => ⟨S1x4x128x4096, .f32⟩
  | .hbm, ⟨65, _⟩ => ⟨S1x4096x4x128, .f32⟩
  | .hbm, ⟨66, _⟩ => ⟨S4096x512, .f32⟩
  | .hbm, ⟨67, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Proof.Fwd.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore buffers as this call finds them
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, whatever the proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's block does not tile its array, but no block the grid reaches is cut: a default for a part nothing reads. -/
def dflt0_3 : (cfg0.win 3).block.Idx → Elt F (cfg0.win 3).elt := fun _ => Classical.choice inferInstance
/-- What input window 3's staging buffer holds at `t`: its block, filled over the default. -/
def X0_3 (c : Dev nD) (t : Fin cfg0.N) : (cfg0.win 3).block.Idx → Elt F (cfg0.win 3).elt :=
  (cfg0.win 3).fill (cfg0.grid.coords t) dflt0_3 (iblk V c 3 t)
/-- No transfer of input window 3 is cut. -/
theorem xsize0_3 : ∀ t : Fin cfg0.N, ∀ a, (cfg0.win 3).xsize (cfg0.grid.coords t) a = (cfg0.win 3).size a := by decide +kernel
/-- Every index of input window 3's block is moved at every point. -/
theorem moved0_3 (t : Fin cfg0.N) (j : (cfg0.win 3).block.Idx) : (cfg0.win 3).moved (cfg0.grid.coords t) j = true :=
  ((cfg0.win 3).moved_iff _ j).mpr fun a => by rw [xsize0_3 t a]; exact (j a).isLt
/-- A fill of input window 3's block covers the whole buffer, whatever it held. -/
theorem fill0_3 (t : Fin cfg0.N) (d d' : (cfg0.win 3).block.Idx → Elt F (cfg0.win 3).elt) (g) :
    (cfg0.win 3).fill (cfg0.grid.coords t) d g = (cfg0.win 3).fill (cfg0.grid.coords t) d' g := by
  funext j; unfold Pipeline.Window.fill; rw [dif_pos (moved0_3 t j), dif_pos (moved0_3 t j)]
/-- Input window 3's staging buffer holds its filled block at every point, likewise. -/
theorem before0_3_of {c : Dev nD} (dat : Dat τ (Elt F) Unit ℕ (UR sig nD τ) ℕ cfg0 c) (hA : dat.A 3 = V c (Pipeline.arrRef spec0 3))
    (hafter : ∀ t, dat.after 3 t = X0_3 V c t) (t : Fin cfg0.N) (d) : dat.before 3 t d = X0_3 V c t :=
  (dat.before_in_eq_fetched 3 rfl (fun _ => rfl)
      (fun t t' h => funext fun a => congrArg (fun n => Pipeline.Clip.of n ((cfg0.win 3).size a) (S4096x2176.size a)) (congrFun h a))
      (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)

/-! ## The body's branch conditions -/

/-- The condition of the body's branch, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

/-- One staging buffer of an output window, through which its contents are stated: which one does not matter. -/
abbrev VO0_4 : View sig .tc .vmem S512x256 .f32 := (Memref.whole cc0_stg4_0 : Memref sig .tc .vmem S512x256 .f32).view
abbrev VO0_5 : View sig .tc .vmem S8x2x128x128 .f32 := (Memref.whole cc0_stg5_0 : Memref sig .tc .vmem S8x2x128x128 .f32).view
/-- Each window's current staging memref at point `t`, spelled as the pipeline passes it (`bodyAt0`), and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x2x128x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x128x128 .f32 := Memref.whole cc0_scratch0
/-- The scratch `arg8` the kernel carries between points, as a view: what it holds is stated through it. -/
abbrev VS0_0 : View sig .tc .vmem S2x128x128 .f32 := scM0_0.view

/-- A buffer, whole, at some contents. -/
abbrev anyAt (c : Dev nD) (b : Ref sig .tc) : sProp 𝕄 := iprop(∃ f : Buf (Elt F) ((c : Thread nD τ).loc b), ((c : Thread nD τ).loc b) ↦{fullShare} f)

/-- The buffers of the launch that this call neither stages nor uses as scratch, each whole at some contents. -/
def restA (c : Dev nD) : sProp 𝕄 :=
  iprop(anyAt c cc1_stg0_0 ∗ anyAt c cc1_stg0_1 ∗ anyAt c cc1_stg1_0 ∗ anyAt c cc1_stg1_1 ∗ anyAt c cc1_stg2_0 ∗ anyAt c cc1_stg2_1 ∗ anyAt c cc1_stg3_0 ∗ anyAt c cc1_stg3_1 ∗ anyAt c cc1_stg4_0 ∗ anyAt c cc1_stg4_1 ∗ anyAt c cc1_stg5_0 ∗ anyAt c cc1_stg5_1 ∗ anyAt c cc1_stg6_0 ∗ anyAt c cc1_stg6_1 ∗ anyAt c cc1_stg7_0 ∗ anyAt c cc1_stg7_1 ∗ anyAt c cc1_stg8_0 ∗ anyAt c cc1_stg8_1 ∗ anyAt c cc1_stg9_0 ∗ anyAt c cc1_stg9_1 ∗ anyAt c cc1_scratch0)

/-- The buffers this call does not stage: its scratch, and the others. -/
theorem restA_eq (c : Dev nD) :
    (Pipeline.scopedRest (Ix := Unit) (Name := ℕ) (U := UR sig nD τ) (Lvl := ℕ) (Val := Elt F) spec0 c : sProp 𝕄)
      = iprop(anyAt c cc0_scratch0 ∗ restA c) :=
  Pipeline.scopedRest_eq_of_list spec0 c [cc0_scratch0, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_stg8_0, cc1_stg8_1, cc1_stg9_0, cc1_stg9_1, cc1_scratch0] (by decide) (by decide)

/-- What the launch hands this call, opened: the carried scratch at some contents, the other buffers, the generator
    register at some state. -/
theorem PhiA0_eq (c : Dev nD) :
    (Pipeline.ΦA spec0 c : sProp 𝕄)
      = iprop(iprop((∃ d, owns (c : Thread nD τ) scM0_0 fullShare d)) ∗ iprop(restA c ∗ (∃ r, prngReg c r))) := by
  unfold Pipeline.ΦA
  rw [restA_eq]
  simp only [scM0_0, owns_whole]
  exact Idealize.SL.BI.Entails.antisymm Idealize.SL.BI.sep_assoc Idealize.SL.BI.sep_assoc'

end Cert.KernelIdeal.Fwd

end
-- ==== Proof.Fwd.RunA.lean ====
module

public import proofs.«01_k».proof.Proof.Fwd.Runs

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output and in the scratch in case A, as pieces, with the proof: on whole staging
    memrefs, the inputs' at their contents, the body ends with those pieces written and the inputs as they were. -/
def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S2x128x128 .f32) (harg8 : arg8.IsWhole) (hc0 : cond0_0 i)
    (x0 : Vec F S512x128 .f32) (x1 : Vec F S512x128 .f32) (x2 : Vec F S512x128 .f32) (x3 : Vec F S512x256 .f32) :
    Σ' (L4 : List (View.Piece (Elt F) S512x256 .f32)), Σ' (L5 : List (View.Piece (Elt F) S8x2x128x128 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_gla_fwd i arg2 harg2 arg3 harg3 arg4 harg4 arg5 harg5 arg6 harg6 arg7 harg7 arg8 harg8) K } := by
  refine ⟨?_, ?_, ?_, fun E K => ?run⟩
  case run =>
    simp only [cc0_gla_fwd_eq_skeleton]; unfold cc0_gla_fwd_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fwd

end
-- ==== Proof.Fwd.RunB.lean ====
module

public import proofs.«01_k».proof.Proof.Fwd.RunA

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output and in the scratch in case B, as pieces, with the proof: on whole staging
    memrefs, the inputs' at their contents, the body ends with those pieces written and the inputs as they were. -/
def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S2x128x128 .f32) (harg8 : arg8.IsWhole) (hc0 : ¬cond0_0 i)
    (x0 : Vec F S512x128 .f32) (x1 : Vec F S512x128 .f32) (x2 : Vec F S512x128 .f32) (x3 : Vec F S512x256 .f32) (xs0 : Vec F S2x128x128 .f32) :
    Σ' (L4 : List (View.Piece (Elt F) S512x256 .f32)), Σ' (L5 : List (View.Piece (Elt F) S8x2x128x128 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_gla_fwd i arg2 harg2 arg3 harg3 arg4 harg4 arg5 harg5 arg6 harg6 arg7 harg7 arg8 harg8) K } := by
  refine ⟨?_, ?_, ?_, fun E K => ?run⟩
  case run =>
    simp only [cc0_gla_fwd_eq_skeleton]; unfold cc0_gla_fwd_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fwd

end
-- ==== Proof.Fwd.Frame.lean ====
module

public import proofs.«01_k».proof.Proof.Fwd.RunB
public import Idealize.ShloMosaic.Lib.Claim

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore buffers as this call finds them
variable (V : (c : Dev nD) → (b : Ref sig .tc) → Buf (Elt F) ((c : Thread nD τ).loc b))
/-! ## The body at a point -/

section
variable (c : Dev nD) (t : Fin cfg0.N)

/-- The body's run at point `t` of case A, on the blocks its windows hold, -/
abbrev runA (h0 : t.val % 8 = 0) := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk V c 0 t) (iblk V c 1 t) (iblk V c 2 t) (X0_3 V c t)
/-- and of case B, over the carried scratch `p`. -/
abbrev runB (h0 : ¬t.val % 8 = 0) (p : Vec F S2x128x128 .f32) := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk V c 0 t) (iblk V c 1 t) (iblk V c 2 t) (X0_3 V c t) p

/-! Case A stores tiles that cover each output and the carried scratch. -/
theorem cover0_A_4 (h0 : t.val % 8 = 0) (y : S512x256.Idx) : ∃ pc ∈ (runA V c t h0).1, y ∈ pc.1.set :=
  View.cover_of_tiledL (s := S512x256) _ S64x128.size (by sl_kernel_rfl) y
theorem cover0_A_5 (h0 : t.val % 8 = 0) (y : S8x2x128x128.Idx) : ∃ pc ∈ (runA V c t h0).2.1, y ∈ pc.1.set :=
  View.cover_of_tiledL (s := S8x2x128x128) _ S1x1x128x128.size (by sl_kernel_rfl) y
theorem scover0_A_0 (h0 : t.val % 8 = 0) (y : S2x128x128.Idx) : ∃ pc ∈ (runA V c t h0).2.2.1, y ∈ pc.1.set :=
  View.cover_of_wholeMem _ (by sl_whole_mem) y

/-! Case B stores tiles that cover each output and the carried scratch. -/
theorem cover0_B_4 (h0 : ¬t.val % 8 = 0) (p) (y : S512x256.Idx) : ∃ pc ∈ (runB V c t h0 p).1, y ∈ pc.1.set :=
  View.cover_of_tiledL (s := S512x256) _ S64x128.size (by sl_kernel_rfl) y
theorem cover0_B_5 (h0 : ¬t.val % 8 = 0) (p) (y : S8x2x128x128.Idx) : ∃ pc ∈ (runB V c t h0 p).2.1, y ∈ pc.1.set :=
  View.cover_of_tiledL (s := S8x2x128x128) _ S1x1x128x128.size (by sl_kernel_rfl) y
theorem scover0_B_0 (h0 : ¬t.val % 8 = 0) (p) (y : S2x128x128.Idx) : ∃ pc ∈ (runB V c t h0 p).2.2.1, y ∈ pc.1.set :=
  View.cover_of_tiledL (s := S2x128x128) _ S1x128x128.size (by sl_kernel_rfl) y

/-! What a point leaves in the outputs and in the scratch: its pieces read back. -/
/-- The outputs in window order, then the scratch. -/
abbrev Left (F : FTy → Type) [FloatOps F] : Type := Vec F S512x256 .f32 × Vec F S8x2x128x128 .f32 × Vec F S2x128x128 .f32
def atA (h0 : t.val % 8 = 0) : Left F :=
  (VO0_4.read (Elt F) (VO0_4.writes (Elt F) VO0_4.junk (runA V c t h0).1),
   VO0_5.read (Elt F) (VO0_5.writes (Elt F) VO0_5.junk (runA V c t h0).2.1),
   VS0_0.read (Elt F) (VS0_0.writes (Elt F) VS0_0.junk (runA V c t h0).2.2.1))
def atB (h0 : ¬t.val % 8 = 0) (p : Vec F S2x128x128 .f32) : Left F :=
  (VO0_4.read (Elt F) (VO0_4.writes (Elt F) VO0_4.junk (runB V c t h0 p).1),
   VO0_5.read (Elt F) (VO0_5.writes (Elt F) VO0_5.junk (runB V c t h0 p).2.1),
   VS0_0.read (Elt F) (VS0_0.writes (Elt F) VS0_0.junk (runB V c t h0 p).2.2.1))

end

/-- What the outputs' buffers and the carried scratch hold after position `n`: the case of `n`, its scratch at what `n - 1` left. -/
def outsAt0 (c : Dev nD) : (n : ℕ) → n < cfg0.N → Left F
  | 0, hn => atA V c ⟨0, hn⟩ (Nat.zero_mod _)
  | n + 1, hn =>
    if h0 : (n + 1) % 8 = 0 then atA V c ⟨n + 1, hn⟩ h0
    else atB V c ⟨n + 1, hn⟩ h0 (outsAt0 c n (Nat.lt_of_succ_lt hn)).2.2

/-- `outsAt0` at a point of case A: that case's contents. -/
theorem outsAt0_A (c : Dev nD) (t : Fin cfg0.N) (h0 : t.val % 8 = 0) :
    outsAt0 V c t.val t.isLt = atA V c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = atB V c t h0 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region invariant before position `n`: at first every scratch at anything, afterwards the carried scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ iprop(restA c ∗ (∃ r, prngReg c r)))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2)) ∗ iprop(restA c ∗ (∃ r, prngReg c r))) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ iprop(restA c ∗ (∃ r, prngReg c r))) := by
  cases n with
  | zero => exact absurd rfl hz
  | succ n => rfl

/-! ## The pipeline's proof data -/

/-- The pipeline's proof data: each input's buffer at its block, the outputs' at `outsAt0`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => X0_3 V c t
    | ⟨4, _⟩ => (outsAt0 V c t.val t.isLt).1
    | ⟨5, _⟩ => (outsAt0 V c t.val t.isLt).2.1
  Φ t := PhiS V c t.val (Nat.le_of_lt_succ t.isLt)
  q w := Pipeline.shareOf spec0 w
  owed _ := 0

/-- The proof data's arrays are the contents found at the entry. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window. -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = X0_3 V c t := by dsimp only [dat]
theorem after0_4 (c : Dev nD) (t : Fin cfg0.N) : (dat V c).after 4 t = (outsAt0 V c t.val t.isLt).1 := by dsimp only [dat]
theorem after0_5 (c : Dev nD) (t : Fin cfg0.N) : (dat V c).after 5 t = (outsAt0 V c t.val t.isLt).2.1 := by dsimp only [dat]

/-- Each input's current staging buffer holds its block at every point, fetched there or not. -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = X0_3 V c t :=
  before0_3_of V (dat V c) (A_eq V c 3) (after0_3 V c) t d

/-- At any point the invariant gives `ΦA` back: the carried scratch's named contents are forgotten. -/
theorem Phi_A (c : Dev nD) (t : Fin (cfg0.N + 1)) : (dat V c).Φ t ⊢ Pipeline.ΦA spec0 c := by
  rw [show (dat V c).Φ t = PhiS V c t.val (Nat.le_of_lt_succ t.isLt) from rfl]
  by_cases ht : t.val = 0
  · rw [PhiS_zero V c _ _ ht]
  rw [PhiS_pos V c _ _ ht, PhiA0_eq]
  iintro ⟨HS0, Hg⟩
  isplitl [HS0]
  · iexists _; iexact HS0
  iexact Hg

/-- The same, opened. -/
theorem Phi_open (c : Dev nD) (t : Fin (cfg0.N + 1)) : (dat V c).Φ t ⊢
    iprop(iprop((∃ d, owns (c : Thread nD τ) scM0_0 fullShare d)) ∗ iprop(restA c ∗ (∃ r, prngReg c r))) :=
  PhiA0_eq (F := F) c ▸ Phi_A V c t

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

set_option maxHeartbeats 3200000 in
/-- The body at any point: its case's run, the scratch carried as the invariant says. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl,
    after0_0, after0_1, after0_2, after0_3, after0_4, after0_5]
  rw [show (dat V c).Φ t.succ = PhiS V c (t.val + 1) t.isLt from rfl, PhiS_succ]
  have hN : t.val < 16 := lt_of_lt_of_eq t.isLt (show cfg0.N = 16 from N_0)
  by_cases h0 : t.val % 8 = 0
  · rw [outsAt0_A V c t h0]
    unfold atA; (try dsimp only)
    iintro ⟨HΦ, Ho, ⟨%d0, H0⟩, ⟨%d1, H1⟩, ⟨%d2, H2⟩, ⟨%d3, H3⟩, ⟨%d4, H4⟩, ⟨%d5, H5⟩⟩
    ihave HA := (Phi_open V c t.castSucc) $$ [HΦ]
    · iexact HΦ
    icases HA with ⟨HS0, Hg⟩
    iapply ((runA V c t h0).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hg]
    · isplitl [HS0]
      · unfold owns; iexists _; isplitr
        swap; · iexact HS0
        ipureintro; exact View.read_writes_of_cover _ _ _ _ _ (scover0_A_0 V c t h0)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 V c t h0)
    unfold owns; iexists _; isplitr
    swap; · iexact H5
    ipureintro; exact View.read_writes_of_cover _ _ _ _ _ (cover0_A_5 V c t h0)
  · have hz : t.val ≠ 0 := fun h => h0 (by rw [h])
    rw [PhiS_castSucc V c t, PhiS_pos V c _ _ hz]
    rw [outsAt0_B V c t h0]
    unfold atB; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply ((runB V c t h0 _).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hg]
    · isplitl [HS0]
      · unfold owns; iexists _; isplitr
        swap; · iexact HS0
        ipureintro; exact View.read_writes_of_cover _ _ _ _ _ (scover0_B_0 V c t h0 _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 V c t h0 _)
    unfold owns; iexists _; isplitr
    swap; · iexact H5
    ipureintro; exact View.read_writes_of_cover _ _ _ _ _ (cover0_B_5 V c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- So it does after the last point. -/
theorem hout (c : Dev nD) : (dat V c).Φ (Fin.last cfg0.N) ⊢ Pipeline.ΦA spec0 c := Phi_A V c _

end Cert.KernelIdeal.Fwd

end
-- ==== Proof.Bwd.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore buffers as this call finds them
variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, whatever the proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's block does not tile its array, but no block the grid reaches is cut: a default for a part nothing reads. -/
def dflt1_3 : (cfg1.win 3).block.Idx → Elt F (cfg1.win 3).elt := fun _ => Classical.choice inferInstance
/-- What input window 3's staging buffer holds at `t`: its block, filled over the default. -/
def X1_3 (c : Dev nD) (t : Fin cfg1.N) : (cfg1.win 3).block.Idx → Elt F (cfg1.win 3).elt :=
  (cfg1.win 3).fill (cfg1.grid.coords t) dflt1_3 (iblk V c 3 t)
/-- No transfer of input window 3 is cut. -/
theorem xsize1_3 : ∀ t : Fin cfg1.N, ∀ a, (cfg1.win 3).xsize (cfg1.grid.coords t) a = (cfg1.win 3).size a := by decide +kernel
/-- Every index of input window 3's block is moved at every point. -/
theorem moved1_3 (t : Fin cfg1.N) (j : (cfg1.win 3).block.Idx) : (cfg1.win 3).moved (cfg1.grid.coords t) j = true :=
  ((cfg1.win 3).moved_iff _ j).mpr fun a => by rw [xsize1_3 t a]; exact (j a).isLt
/-- A fill of input window 3's block covers the whole buffer, whatever it held. -/
theorem fill1_3 (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved1_3 t j), dif_pos (moved1_3 t j)]
/-- Input window 3's staging buffer holds its filled block at every point, likewise. -/
theorem before1_3_of {c : Dev nD} (dat : Dat τ (Elt F) Unit ℕ (UR sig nD τ) ℕ cfg1 c) (hA : dat.A 3 = V c (Pipeline.arrRef spec1 3))
    (hafter : ∀ t, dat.after 3 t = X1_3 V c t) (t : Fin cfg1.N) (d) : dat.before 3 t d = X1_3 V c t :=
  (dat.before_in_eq_fetched 3 rfl (fun _ => rfl)
      (fun t t' h => funext fun a => congrArg (fun n => Pipeline.Clip.of n ((cfg1.win 3).size a) (S4096x2176.size a)) (congrFun h a))
      (fun t => by rw [hafter]; unfold X1_3; rw [Pipeline.Window.cut_fill]; unfold Dat.blockOf iblk; rw [hA]; try rfl) t d).trans
    (by unfold Dat.fetched X1_3; rw [fill1_3 t d dflt1_3]; unfold Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 16 := Nat.lt_of_lt_of_eq t.isLt N_1
    have e0 : (grid1.coords t 0).val = t.val / 8 % 2 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

/-! ## The kernel body on any staging memrefs: a subtype the run finds -/

/-- One staging buffer of an output window, through which its contents are stated: which one does not matter. -/
abbrev VO1_6 : View sig .tc .vmem S512x128 .f32 := (Memref.whole cc1_stg6_0 : Memref sig .tc .vmem S512x128 .f32).view
abbrev VO1_7 : View sig .tc .vmem S512x128 .f32 := (Memref.whole cc1_stg7_0 : Memref sig .tc .vmem S512x128 .f32).view
abbrev VO1_8 : View sig .tc .vmem S512x128 .f32 := (Memref.whole cc1_stg8_0 : Memref sig .tc .vmem S512x128 .f32).view
abbrev VO1_9 : View sig .tc .vmem S512x256 .f32 := (Memref.whole cc1_stg9_0 : Memref sig .tc .vmem S512x256 .f32).view
/-- Each window's current staging memref at point `t`, spelled as the pipeline passes it (`bodyAt1`), and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x2x128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x256 .f32 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S2x128x128 .f32 := Memref.whole cc1_scratch0
/-- The scratch `arg12` the kernel carries between points, as a view: what it holds is stated through it. -/
abbrev VS1_0 : View sig .tc .vmem S2x128x128 .f32 := scM1_0.view

/-- A buffer, whole, at some contents. -/
abbrev anyAt (c : Dev nD) (b : Ref sig .tc) : sProp 𝕄 := iprop(∃ f : Buf (Elt F) ((c : Thread nD τ).loc b), ((c : Thread nD τ).loc b) ↦{fullShare} f)

/-- The buffers of the launch that this call neither stages nor uses as scratch, each whole at some contents. -/
def restA (c : Dev nD) : sProp 𝕄 :=
  iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ anyAt c cc0_stg4_0 ∗ anyAt c cc0_stg4_1 ∗ anyAt c cc0_stg5_0 ∗ anyAt c cc0_stg5_1 ∗ anyAt c cc0_scratch0)

/-- The buffers this call does not stage: its scratch, and the others. -/
theorem restA_eq (c : Dev nD) :
    (Pipeline.scopedRest (Ix := Unit) (Name := ℕ) (U := UR sig nD τ) (Lvl := ℕ) (Val := Elt F) spec1 c : sProp 𝕄)
      = iprop(anyAt c cc1_scratch0 ∗ restA c) :=
  Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_scratch0] (by decide) (by decide)

/-- What the launch hands this call, opened: the carried scratch at some contents, the other buffers, the generator
    register at some state. -/
theorem PhiA1_eq (c : Dev nD) :
    (Pipeline.ΦA spec1 c : sProp 𝕄)
      = iprop(iprop((∃ d, owns (c : Thread nD τ) scM1_0 fullShare d)) ∗ iprop(restA c ∗ (∃ r, prngReg c r))) := by
  unfold Pipeline.ΦA
  rw [restA_eq]
  simp only [scM1_0, owns_whole]
  exact Idealize.SL.BI.Entails.antisymm Idealize.SL.BI.sep_assoc Idealize.SL.BI.sep_assoc'

end Cert.KernelIdeal.Bwd

end
-- ==== Proof.Bwd.RunA.lean ====
module

public import proofs.«01_k».proof.Proof.Bwd.Runs

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1492000 in
/-- What the body's stores leave in each output and in the scratch in case A, as pieces, with the proof: on whole staging
    memrefs, the inputs' at their contents, the body ends with those pieces written and the inputs as they were. -/
def kernelRun1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S2x128x128 .f32) (harg12 : arg12.IsWhole) (hc0 : cond1_0 i)
    (x0 : Vec F S512x128 .f32) (x1 : Vec F S512x128 .f32) (x2 : Vec F S512x128 .f32) (x3 : Vec F S512x256 .f32) (x4 : Vec F S512x256 .f32) (x5 : Vec F S8x2x128x128 .f32) :
    Σ' (L6 : List (View.Piece (Elt F) S512x128 .f32)), Σ' (L7 : List (View.Piece (Elt F) S512x128 .f32)), Σ' (L8 : List (View.Piece (Elt F) S512x128 .f32)), Σ' (L9 : List (View.Piece (Elt F) S512x256 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_eq_skeleton]; unfold cc1_gla_bwd_skel
    simp only [k1_part49_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.Bwd

end
-- ==== Proof.Bwd.RunB.lean ====
module

public import proofs.«01_k».proof.Proof.Bwd.RunA

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1480000 in
/-- What the body's stores leave in each output and in the scratch in case B, as pieces, with the proof: on whole staging
    memrefs, the inputs' at their contents, the body ends with those pieces written and the inputs as they were. -/
def kernelRun1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S2x128x128 .f32) (harg12 : arg12.IsWhole) (hc0 : ¬cond1_0 i)
    (x0 : Vec F S512x128 .f32) (x1 : Vec F S512x128 .f32) (x2 : Vec F S512x128 .f32) (x3 : Vec F S512x256 .f32) (x4 : Vec F S512x256 .f32) (x5 : Vec F S8x2x128x128 .f32) (xs0 : Vec F S2x128x128 .f32) :
    Σ' (L6 : List (View.Piece (Elt F) S512x128 .f32)), Σ' (L7 : List (View.Piece (Elt F) S512x128 .f32)), Σ' (L8 : List (View.Piece (Elt F) S512x128 .f32)), Σ' (L9 : List (View.Piece (Elt F) S512x256 .f32)), { LS0 : List (View.Piece (Elt F) S2x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc1_gla_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_gla_bwd_eq_skeleton]; unfold cc1_gla_bwd_skel
    simp only [k1_part49_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.Bwd

end
-- ==== Proof.Bwd.Frame.lean ====
module

public import proofs.«01_k».proof.Proof.Bwd.RunB
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore buffers as this call finds them
variable (V : (c : Dev nD) → (b : Ref sig .tc) → Buf (Elt F) ((c : Thread nD τ).loc b))
/-! ## The body at a point -/

section
variable (c : Dev nD) (t : Fin cfg1.N)

/-- The body's run at point `t` of case A, on the blocks its windows hold, -/
abbrev runA (h0 : t.val % 8 = 0) := kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (iblk V c 0 t) (iblk V c 1 t) (iblk V c 2 t) (X1_3 V c t) (iblk V c 4 t) (iblk V c 5 t)
/-- and of case B, over the carried scratch `p`. -/
abbrev runB (h0 : ¬t.val % 8 = 0) (p : Vec F S2x128x128 .f32) := kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (iblk V c 0 t) (iblk V c 1 t) (iblk V c 2 t) (X1_3 V c t) (iblk V c 4 t) (iblk V c 5 t) p

/-! Case A stores tiles that cover each output and the carried scratch. -/
theorem cover1_A_6 (h0 : t.val % 8 = 0) (y : S512x128.Idx) : ∃ pc ∈ (runA V c t h0).1, y ∈ pc.1.set :=
  View.cover_of_tiledL (s := S512x128) _ S64x128.size (by sl_kernel_rfl) y
theorem cover1_A_7 (h0 : t.val % 8 = 0) (y : S512x128.Idx) : ∃ pc ∈ (runA V c t h0).2.1, y ∈ pc.1.set :=
  View.cover_of_tiledL (s := S512x128) _ S64x128.size (by sl_kernel_rfl) y
theorem cover1_A_8 (h0 : t.val % 8 = 0) (y : S512x128.Idx) : ∃ pc ∈ (runA V c t h0).2.2.1, y ∈ pc.1.set :=
  View.cover_of_tiledL (s := S512x128) _ S64x128.size (by sl_kernel_rfl) y
theorem cover1_A_9 (h0 : t.val % 8 = 0) (y : S512x256.Idx) : ∃ pc ∈ (runA V c t h0).2.2.2.1, y ∈ pc.1.set :=
  View.cover_of_tiledL (s := S512x256) _ S64x128.size (by sl_kernel_rfl) y
theorem scover1_A_0 (h0 : t.val % 8 = 0) (y : S2x128x128.Idx) : ∃ pc ∈ (runA V c t h0).2.2.2.2.1, y ∈ pc.1.set :=
  View.cover_of_wholeMem _ (by sl_whole_mem) y

/-! Case B stores tiles that cover each output and the carried scratch. -/
theorem cover1_B_6 (h0 : ¬t.val % 8 = 0) (p) (y : S512x128.Idx) : ∃ pc ∈ (runB V c t h0 p).1, y ∈ pc.1.set :=
  View.cover_of_tiledL (s := S512x128) _ S64x128.size (by sl_kernel_rfl) y
theorem cover1_B_7 (h0 : ¬t.val % 8 = 0) (p) (y : S512x128.Idx) : ∃ pc ∈ (runB V c t h0 p).2.1, y ∈ pc.1.set :=
  View.cover_of_tiledL (s := S512x128) _ S64x128.size (by sl_kernel_rfl) y
theorem cover1_B_8 (h0 : ¬t.val % 8 = 0) (p) (y : S512x128.Idx) : ∃ pc ∈ (runB V c t h0 p).2.2.1, y ∈ pc.1.set :=
  View.cover_of_tiledL (s := S512x128) _ S64x128.size (by sl_kernel_rfl) y
theorem cover1_B_9 (h0 : ¬t.val % 8 = 0) (p) (y : S512x256.Idx) : ∃ pc ∈ (runB V c t h0 p).2.2.2.1, y ∈ pc.1.set :=
  View.cover_of_tiledL (s := S512x256) _ S64x128.size (by sl_kernel_rfl) y
theorem scover1_B_0 (h0 : ¬t.val % 8 = 0) (p) (y : S2x128x128.Idx) : ∃ pc ∈ (runB V c t h0 p).2.2.2.2.1, y ∈ pc.1.set :=
  View.cover_of_tiledL (s := S2x128x128) _ S1x128x128.size (by sl_kernel_rfl) y

/-! What a point leaves in the outputs and in the scratch: its pieces read back. -/
/-- The outputs in window order, then the scratch. -/
abbrev Left (F : FTy → Type) [FloatOps F] : Type := Vec F S512x128 .f32 × Vec F S512x128 .f32 × Vec F S512x128 .f32 × Vec F S512x256 .f32 × Vec F S2x128x128 .f32
def atA (h0 : t.val % 8 = 0) : Left F :=
  (VO1_6.read (Elt F) (VO1_6.writes (Elt F) VO1_6.junk (runA V c t h0).1),
   VO1_7.read (Elt F) (VO1_7.writes (Elt F) VO1_7.junk (runA V c t h0).2.1),
   VO1_8.read (Elt F) (VO1_8.writes (Elt F) VO1_8.junk (runA V c t h0).2.2.1),
   VO1_9.read (Elt F) (VO1_9.writes (Elt F) VO1_9.junk (runA V c t h0).2.2.2.1),
   VS1_0.read (Elt F) (VS1_0.writes (Elt F) VS1_0.junk (runA V c t h0).2.2.2.2.1))
def atB (h0 : ¬t.val % 8 = 0) (p : Vec F S2x128x128 .f32) : Left F :=
  (VO1_6.read (Elt F) (VO1_6.writes (Elt F) VO1_6.junk (runB V c t h0 p).1),
   VO1_7.read (Elt F) (VO1_7.writes (Elt F) VO1_7.junk (runB V c t h0 p).2.1),
   VO1_8.read (Elt F) (VO1_8.writes (Elt F) VO1_8.junk (runB V c t h0 p).2.2.1),
   VO1_9.read (Elt F) (VO1_9.writes (Elt F) VO1_9.junk (runB V c t h0 p).2.2.2.1),
   VS1_0.read (Elt F) (VS1_0.writes (Elt F) VS1_0.junk (runB V c t h0 p).2.2.2.2.1))

end

/-- What the outputs' buffers and the carried scratch hold after position `n`: the case of `n`, its scratch at what `n - 1` left. -/
def outsAt1 (c : Dev nD) : (n : ℕ) → n < cfg1.N → Left F
  | 0, hn => atA V c ⟨0, hn⟩ (Nat.zero_mod _)
  | n + 1, hn =>
    if h0 : (n + 1) % 8 = 0 then atA V c ⟨n + 1, hn⟩ h0
    else atB V c ⟨n + 1, hn⟩ h0 (outsAt1 c n (Nat.lt_of_succ_lt hn)).2.2.2.2

/-- `outsAt1` at a point of case A: that case's contents. -/
theorem outsAt1_A (c : Dev nD) (t : Fin cfg1.N) (h0 : t.val % 8 = 0) :
    outsAt1 V c t.val t.isLt = atA V c t h0 := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 8 = 0) :
    outsAt1 V c t.val t.isLt = atB V c t h0 (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-- The region invariant before position `n`: at first every scratch at anything, afterwards the carried scratch at what the point before left. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2)) ∗ iprop(restA c ∗ (∃ r, prngReg c r)))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2.2.2)) ∗ iprop(restA c ∗ (∃ r, prngReg c r))) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2)) ∗ iprop(restA c ∗ (∃ r, prngReg c r))) := by
  cases n with
  | zero => exact absurd rfl hz
  | succ n => rfl

/-! ## The pipeline's proof data -/

/-- The pipeline's proof data: each input's buffer at its block, the outputs' at `outsAt1`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => X1_3 V c t
    | ⟨4, _⟩ => iblk V c 4 t
    | ⟨5, _⟩ => iblk V c 5 t
    | ⟨6, _⟩ => (outsAt1 V c t.val t.isLt).1
    | ⟨7, _⟩ => (outsAt1 V c t.val t.isLt).2.1
    | ⟨8, _⟩ => (outsAt1 V c t.val t.isLt).2.2.1
    | ⟨9, _⟩ => (outsAt1 V c t.val t.isLt).2.2.2.1
  Φ t := PhiS V c t.val (Nat.le_of_lt_succ t.isLt)
  q w := Pipeline.shareOf spec1 w
  owed _ := 0

/-- The proof data's arrays are the contents found at the entry. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window. -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = X1_3 V c t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = (outsAt1 V c t.val t.isLt).1 := by dsimp only [dat]
theorem after1_7 (c : Dev nD) (t : Fin cfg1.N) : (dat V c).after 7 t = (outsAt1 V c t.val t.isLt).2.1 := by dsimp only [dat]
theorem after1_8 (c : Dev nD) (t : Fin cfg1.N) : (dat V c).after 8 t = (outsAt1 V c t.val t.isLt).2.2.1 := by dsimp only [dat]
theorem after1_9 (c : Dev nD) (t : Fin cfg1.N) : (dat V c).after 9 t = (outsAt1 V c t.val t.isLt).2.2.2.1 := by dsimp only [dat]

/-- Each input's current staging buffer holds its block at every point, fetched there or not. -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = X1_3 V c t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d

/-- At any point the invariant gives `ΦA` back: the carried scratch's named contents are forgotten. -/
theorem Phi_A (c : Dev nD) (t : Fin (cfg1.N + 1)) : (dat V c).Φ t ⊢ Pipeline.ΦA spec1 c := by
  rw [show (dat V c).Φ t = PhiS V c t.val (Nat.le_of_lt_succ t.isLt) from rfl]
  by_cases ht : t.val = 0
  · rw [PhiS_zero V c _ _ ht]
  rw [PhiS_pos V c _ _ ht, PhiA1_eq]
  iintro ⟨HS0, Hg⟩
  isplitl [HS0]
  · iexists _; iexact HS0
  iexact Hg

/-- The same, opened. -/
theorem Phi_open (c : Dev nD) (t : Fin (cfg1.N + 1)) : (dat V c).Φ t ⊢
    iprop(iprop((∃ d, owns (c : Thread nD τ) scM1_0 fullShare d)) ∗ iprop(restA c ∗ (∃ r, prngReg c r))) :=
  PhiA1_eq (F := F) c ▸ Phi_A V c t

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t))

set_option maxHeartbeats 6400000 in
/-- The body at any point: its case's run, the scratch carried as the invariant says. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    after1_0, after1_1, after1_2, after1_3, after1_4, after1_5, after1_6, after1_7, after1_8, after1_9]
  rw [show (dat V c).Φ t.succ = PhiS V c (t.val + 1) t.isLt from rfl, PhiS_succ]
  have hN : t.val < 16 := lt_of_lt_of_eq t.isLt (show cfg1.N = 16 from N_1)
  by_cases h0 : t.val % 8 = 0
  · rw [outsAt1_A V c t h0]
    unfold atA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HA := (Phi_open V c t.castSucc) $$ [HΦ]
    · iexact HΦ
    icases HA with ⟨HS0, Hg⟩
    iapply ((runA V c t h0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, ⟨%e6, H6⟩, ⟨%e7, H7⟩, ⟨%e8, H8⟩, ⟨%e9, H9⟩, ⟨%es0, HS0⟩⟩
    isplitl [HS0 Hg]
    · isplitl [HS0]
      · unfold owns; iexists _; isplitr
        swap; · iexact HS0
        ipureintro; exact View.read_writes_of_cover _ _ _ _ _ (scover1_A_0 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_A_6 V c t h0)
    isplitl [H7]
    · unfold owns; iexists _; isplitr
      swap; · iexact H7
      ipureintro; exact View.read_writes_of_cover _ _ _ _ _ (cover1_A_7 V c t h0)
    isplitl [H8]
    · unfold owns; iexists _; isplitr
      swap; · iexact H8
      ipureintro; exact View.read_writes_of_cover _ _ _ _ _ (cover1_A_8 V c t h0)
    unfold owns; iexists _; isplitr
    swap; · iexact H9
    ipureintro; exact View.read_writes_of_cover _ _ _ _ _ (cover1_A_9 V c t h0)
  · have hz : t.val ≠ 0 := fun h => h0 (by rw [h])
    rw [PhiS_castSucc V c t, PhiS_pos V c _ _ hz]
    rw [outsAt1_B V c t h0]
    unfold atB; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB V c t h0 _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, ⟨%e6, H6⟩, ⟨%e7, H7⟩, ⟨%e8, H8⟩, ⟨%e9, H9⟩, ⟨%es0, HS0⟩⟩
    isplitl [HS0 Hg]
    · isplitl [HS0]
      · unfold owns; iexists _; isplitr
        swap; · iexact HS0
        ipureintro; exact View.read_writes_of_cover _ _ _ _ _ (scover1_B_0 V c t h0 _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover1_B_6 V c t h0 _)
    isplitl [H7]
    · unfold owns; iexists _; isplitr
      swap; · iexact H7
      ipureintro; exact View.read_writes_of_cover _ _ _ _ _ (cover1_B_7 V c t h0 _)
    isplitl [H8]
    · unfold owns; iexists _; isplitr
      swap; · iexact H8
      ipureintro; exact View.read_writes_of_cover _ _ _ _ _ (cover1_B_8 V c t h0 _)
    unfold owns; iexists _; isplitr
    swap; · iexact H9
    ipureintro; exact View.read_writes_of_cover _ _ _ _ _ (cover1_B_9 V c t h0 _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- So it does after the last point. -/
theorem hout (c : Dev nD) : (dat V c).Φ (Fin.last cfg1.N) ⊢ Pipeline.ΦA spec1 c := Phi_A V c _

end Cert.KernelIdeal.Bwd

end
-- ==== Proof.Run.lean ====
module

public import proofs.«01_k».proof.Proof.Fwd.Frame
public import proofs.«01_k».proof.Proof.Bwd.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return -/

/-- @main's argument arrays, as TensorCore references: what the frame claim reads back. -/
abbrev argRefs : List (Ref sig .tc) := [main_arg0, main_arg1, main_arg2]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m (c.tc.loc a) := fun _ _ => rfl
/-- The same, read at the TensorCore's references. -/
abbrev V0 : (c : Dev nD) → (b : Ref sig .tc) → Buf (Elt F) ((c : Thread nD τ).loc b) := fun c b => W0 m ρ c b
/-- Region 0's exit: its arrays at what the pipeline leaves, every other buffer as entered. -/
def W1 (c : Dev nD) : Valuation τ sig (Elt F) :=
  Pipeline.withArrays spec0 c (W0 m ρ c) fun w => (Fwd.dat (V0 m ρ) c).arrAt w cfg0.N
theorem W1_arr (c : Dev nD) (w : Fin cfg0.W) :
    W1 m ρ c (Proc.devRef .tc (Pipeline.arrRef spec0 w)) = (Fwd.dat (V0 m ρ) c).arrAt w cfg0.N := by
  unfold W1; exact (Fwd.dat (V0 m ρ) c).withArrays_arrAt launch₀0.sharedIn _ (Fwd.A_eq (V0 m ρ) c) w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that is none of region 0's outputs keeps its contents across it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Fwd.dat (V0 m ρ) c).arrAt_in w (h w rfl) _).trans (Fwd.A_eq (V0 m ρ) c w))
  · exact W1_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m (c.tc.loc a) :=
  fun a ha => (W1_of m ρ c a (argsIn0 a ha)).trans (W0_args m ρ c a ha)
/-- The same, read at the TensorCore's references. -/
abbrev V1 : (c : Dev nD) → (b : Ref sig .tc) → Buf (Elt F) ((c : Thread nD τ).loc b) := fun c b => W1 m ρ c b
/-- Region 0's arrays at its exit, and the other buffers. -/
theorem hF0 (c : Dev nD) (w : Fin cfg0.W) : (Fwd.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- Region 1's exit: its arrays at what the pipeline leaves, every other buffer as entered. -/
def W2 (c : Dev nD) : Valuation τ sig (Elt F) :=
  Pipeline.withArrays spec1 c (W1 m ρ c) fun w => (Bwd.dat (V1 m ρ) c).arrAt w cfg1.N
theorem W2_arr (c : Dev nD) (w : Fin cfg1.W) :
    W2 m ρ c (Proc.devRef .tc (Pipeline.arrRef spec1 w)) = (Bwd.dat (V1 m ρ) c).arrAt w cfg1.N := by
  unfold W2; exact (Bwd.dat (V1 m ρ) c).withArrays_arrAt launch₀1.sharedIn _ (Bwd.A_eq (V1 m ρ) c) w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer that is none of region 1's outputs keeps its contents across it. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((Bwd.dat (V1 m ρ) c).arrAt_in w (h w rfl) _).trans (Bwd.A_eq (V1 m ρ) c w))
  · exact W2_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (argsIn1 a ha)).trans (W1_args m ρ c a ha)
/-- The same, read at the TensorCore's references. -/
abbrev V2 : (c : Dev nD) → (b : Ref sig .tc) → Buf (Elt F) ((c : Thread nD τ).loc b) := fun c b => W2 m ρ c b
/-- Region 1's arrays at its exit, and the other buffers. -/
theorem hF1 (c : Dev nD) (w : Fin cfg1.W) : (Bwd.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched -/

theorem W2_main_arg0 (c : Dev nD) : W2 m ρ c (Proc.devRef .tc main_arg0) = m (c.tc.loc main_arg0) :=
  W2_args m ρ c main_arg0 (by decide)
theorem W2_main_arg1 (c : Dev nD) : W2 m ρ c (Proc.devRef .tc main_arg1) = m (c.tc.loc main_arg1) :=
  W2_args m ρ c main_arg1 (by decide)
theorem W2_main_arg2 (c : Dev nD) : W2 m ρ c (Proc.devRef .tc main_arg2) = m (c.tc.loc main_arg2) :=
  W2_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Fwd.dat (V0 m ρ) c
  | ⟨1, _⟩ => fun c => Bwd.dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers each segment carries the generator register, and owes nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0, entered from every unscoped buffer at `W0` and left at `W1`. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (Fwd.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V0 m ρ c) (Fwd.A_eq (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Fwd.hin (V0 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Fwd.hout (V0 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `W1` and left at `W2`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (Bwd.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (Bwd.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Bwd.hin (V1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Bwd.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's segments in order. -/
abbrev segs : List (Pipeline.Seg (pcfgs (F := F)) adm (pdats m ρ) () defs₀ 𝒱₀ L lv) :=
  [ .region (reg0 m ρ),
    .region (reg1 m ρ) ]
/-- @main is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters @main terminates, every unscoped buffer at `W2`, every counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- The arguments end as launched and every counter is at zero. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  (θ_run defs _ _).mono (fun _ h => ⟨fun c =>
    ⟨(h.1 c _ (mem_uc main_arg0 (by decide))).trans (W2_main_arg0 m ρ c),
     (h.1 c _ (mem_uc main_arg1 (by decide))).trans (W2_main_arg1 m ρ c),
     (h.1 c _ (mem_uc main_arg2 (by decide))).trans (W2_main_arg2 m ρ c)⟩, h.2⟩) (run_main m ρ)

end Cert.KernelIdeal.Run

end
-- ==== Proof.FrameBits.lean ====
module

public import proofs.«01_k».proof.Defs
public import proofs.«01_k».proof.Proof.Gen.Kernel
public import proofs.«01_k».proof.Proof.Run

@[expose] public section

noncomputable section

namespace Cert.Proof

open Idealize.ShloMosaic Idealize.SL.Sem Idealize.ShloMosaic.Tactic

theorem defs_eq : (Cert.Kernel.defs (F := Bits)) = Cert.KernelIdeal.defs (F := Bits) := by chain_rfl
theorem main_eq (c) : Cert.Kernel.main (F := Bits) c = Cert.KernelIdeal.main (F := Bits) c := by chain_rfl

/-- The kernel at machine words is the idealized program's text read at machine words, so its frame is that run's. -/
theorem frame_kernel : Cert.quiescent_Kernel := fun m ρ _ => by
  have e : (Cert.Kernel.main (F := Bits)) = Cert.KernelIdeal.main (F := Bits) := by chain_rfl
  rw [defs_eq, e]
  exact Cert.KernelIdeal.Run.frame (F := Bits) m ρ

end Cert.Proof

end
-- ==== Proof.Gla.Chunk.lean ====
module

public import proofs.«01_k».proof.Proof.Gen.KernelIdeal

@[expose] public section

noncomputable section

/-! One chunk of the recurrence in the kernel's own vector operations: the pieces the body's eight unrolled chunks share. -/

namespace Cert.KernelIdeal.Chunk

open Cert.KernelIdeal Cert.KernelIdeal.Gen
open Idealize.ShloMosaic

variable {F : FTy → Type} [FloatOps F]

abbrev M64 (F : FTy → Type) [FloatOps F] := FVec F S64x128 .f32
abbrev St (F : FTy → Type) [FloatOps F] := FVec F S128x128 .f32

/-- The rows' numbers. -/
def rows : IVec S64x128 32 := iota .tc S64x128 32 [0] iota_S64x128_d0_w32
/-- One doubling step of the running sum over the rows. -/
def scanStep (s : BitVec 32) (x : M64 F) : M64 F :=
  addf x (select (cmpi .sge rows (broadcast S64x128 s)) (dynamicRotate 0 s none x rotates_S64x128_d0) (broadcast S64x128 (Scalar.ofBits .f32 0x00000000#32)))
/-- The running sum of the rows. -/
def cum (a : M64 F) : M64 F := scanStep 32#32 (scanStep 16#32 (scanStep 8#32 (scanStep 4#32 (scanStep 2#32 (scanStep 1#32 a)))))
/-- The sum of all rows. -/
def tot (a : M64 F) : FVec F S1x128 .f32 :=
  shapeCast S1x128 (multiReduction .add [0] S128 a 0x00000000#32 reduces_S64x128_S128 (.inl rfl) rfl) shapeCasts_S128_S1x128
/-- The lower triangle. -/
def tril : IVec S64x64 1 := cmpi .sle (iota .tc S64x64 32 [1] iota_S64x64_d1_w32) (iota .tc S64x64 32 [0] iota_S64x64_d0_w32)
/-- The lanes from `lo` to `hi`, as ones and zeros. -/
def lanes (lo hi : BitVec 32) : FVec F S1x128 .f32 :=
  sitofp .f32 (extui 32 (andi (cmpi .sge (iota .tc S1x128 32 [1] iota_S1x128_d1_w32) (broadcast S1x128 lo))
    (cmpi .slt (iota .tc S1x128 32 [1] iota_S1x128_d1_w32) (broadcast S1x128 hi))) natLt_1_32)
def qs (q : M64 F) : M64 F := mulf q (broadcast S64x128 (Scalar.ofBits .f32 0x3E000000#32))
def ec (a : M64 F) : M64 F := exp (cum a)
def qd (q a : M64 F) : M64 F := mulf (qs q) (ec a)
def ei (a : M64 F) : M64 F := exp (subf (broadcast S64x128 (Scalar.ofBits .f32 0x00000000#32)) (cum a))
def ki (k a : M64 F) : M64 F := mulf k (ei a)
def ee (a : M64 F) : M64 F := exp (subf (broadcastTo S64x128 (tot a) broadcasts_S1x128_S64x128) (cum a))
def ke (k a : M64 F) : M64 F := mulf k (ee a)
def dec (a : M64 F) : FVec F S1x128 .f32 := exp (tot a)
/-- A head's lanes of `x`. -/
def msk (mk : FVec F S1x128 .f32) (x : M64 F) : M64 F := mulf x (broadcastTo S64x128 mk broadcasts_S1x128_S64x128)

/-- Rows times columns, the contraction over the lanes of both. -/
def dNT (x y : M64 F) : FVec F S64x64 .f32 :=
  matmul dot_S64x128_S64x128_S64x64_1_1_0_0_n_n none (truncf .bf16 x bitsLt_bf16_f32) (truncf .bf16 y bitsLt_bf16_f32) (constant S64x64 .f32 0x00000000#32)
/-- Scores times rows. -/
def dNN (x : FVec F S64x64 .f32) (y : M64 F) : M64 F :=
  matmul dot_S64x64_S64x128_S64x128_1_0_0_1_n_n none (truncf .bf16 x bitsLt_bf16_f32) (truncf .bf16 y bitsLt_bf16_f32) (constant S64x128 .f32 0x00000000#32)
/-- Rows times a state, the contraction over the lanes of both. -/
def dNS (x : M64 F) (s : St F) : M64 F :=
  matmul dot_S64x128_S128x128_S64x128_1_1_0_0_n_n none (truncf .bf16 x bitsLt_bf16_f32) (truncf .bf16 s bitsLt_bf16_f32) (constant S64x128 .f32 0x00000000#32)
/-- The rows' outer products, summed. -/
def dTT (x y : M64 F) : St F :=
  matmul dot_S64x128_S64x128_S128x128_0_0_1_1_n_n none (truncf .bf16 x bitsLt_bf16_f32) (truncf .bf16 y bitsLt_bf16_f32) (constant S128x128 .f32 0x00000000#32)
/-- The lower triangle of `x`. -/
def low (x : FVec F S64x64 .f32) : FVec F S64x64 .f32 := select tril x (broadcast S64x64 (Scalar.ofBits .f32 0x00000000#32))

def att (mk : FVec F S1x128 .f32) (q k a : M64 F) : FVec F S64x64 .f32 := low (dNT (msk mk (qd q a)) (ki k a))
/-- A head's rows of the result. -/
def out (mk : FVec F S1x128 .f32) (q k a v : M64 F) (s : St F) : M64 F := addf (dNN (att mk q k a) v) (dNS (msk mk (qd q a)) s)
/-- A head's state after the chunk. -/
def next (mk : FVec F S1x128 .f32) (k a v : M64 F) (s : St F) : St F :=
  addf (mulf s (broadcastTo S128x128 (dec a) broadcasts_S1x128_S128x128)) (dTT v (msk mk (ke k a)))

/-- A head's state before chunk `n`, from the chunks' rows. -/
def stAt (mk : FVec F S1x128 .f32) (k a v : ℕ → M64 F) (s : St F) : ℕ → St F
  | 0 => s
  | n + 1 => next mk (k n) (a n) (v n) (stAt mk k a v s n)

/-! The chunk's gradient. -/

/-- Rows times a state, the contraction over the rows' lanes and the state's rows. -/
def dSN (x : M64 F) (s : St F) : M64 F :=
  matmul dot_S64x128_S128x128_S64x128_1_0_0_1_n_n none (truncf .bf16 x bitsLt_bf16_f32) (truncf .bf16 s bitsLt_bf16_f32) (constant S64x128 .f32 0x00000000#32)
/-- Scores, transposed, times rows. -/
def dTM (x : FVec F S64x64 .f32) (y : M64 F) : M64 F :=
  matmul dot_S64x64_S64x128_S64x128_0_0_1_1_n_n none (truncf .bf16 x bitsLt_bf16_f32) (truncf .bf16 y bitsLt_bf16_f32) (constant S64x128 .f32 0x00000000#32)
def idM (x : M64 F) : M64 F := shapeCast S64x128 x shapeCasts_S64x128_S64x128
def idS (x : St F) : St F := shapeCast S128x128 x shapeCasts_S128x128_S128x128
/-- A state's rows, summed. -/
def colSum (x : St F) : FVec F S1x128 .f32 :=
  shapeCast S1x128 (multiReduction .add [0] S128 x 0x00000000#32 reduces_S128x128_S128 (.inl rfl) rfl) shapeCasts_S128_S1x128
/-- One row, summed alone. -/
def rowSum (x : FVec F S1x128 .f32) : FVec F S1x128 .f32 :=
  shapeCast S1x128 (multiReduction .add [0] S128 x 0x00000000#32 reduces_S1x128_S128 (.inl rfl) rfl) shapeCasts_S128_S1x128
def neg (x : M64 F) : M64 F := subf (broadcast S64x128 (Scalar.ofBits .f32 0x00000000#32)) x

def datt (v g : M64 F) : FVec F S64x64 .f32 := low (dNT (idM g) v)
/-- A head's rows of the gradient of `v`. -/
def gv (mk : FVec F S1x128 .f32) (q k a g : M64 F) (d : St F) : M64 F :=
  addf (dNS (msk mk (ke k a)) d) (dTM (att mk q k a) (idM g))
/-- A head's state gradient before the chunk. -/
def prev (mk : FVec F S1x128 .f32) (q a g : M64 F) (d : St F) : St F :=
  addf (mulf d (broadcastTo S128x128 (dec a) broadcasts_S1x128_S128x128)) (dTT (idM g) (msk mk (qd q a)))
section
variable (m0 m1 : FVec F S1x128 .f32) (q k a v0 v1 g0 g1 : M64 F) (s0 s1 d0 d1 : St F)
def gke : M64 F := addf (msk m1 (dSN v1 d1)) (msk m0 (dSN v0 d0))
def gki : M64 F := addf (dTM (datt v1 g1) (msk m1 (qd q a))) (dTM (datt v0 g0) (msk m0 (qd q a)))
def gqd : M64 F :=
  addf (msk m1 (addf (dSN (idM g1) s1) (dNN (datt v1 g1) (ki k a)))) (msk m0 (addf (dSN (idM g0) s0) (dNN (datt v0 g0) (ki k a))))
def gdec : FVec F S1x128 .f32 := addf (colSum (mulf s1 d1)) (colSum (mulf s0 d0))
def ge : M64 F := mulf (mulf k (gke m0 m1 v0 v1 d0 d1)) (ee a)
def gtot : FVec F S1x128 .f32 := addf (mulf (gdec s0 s1 d0 d1) (dec a)) (tot (ge m0 m1 k a v0 v1 d0 d1))
/-- The gradient of `k`'s rows. -/
def gk : M64 F := addf (mulf (gke m0 m1 v0 v1 d0 d1) (ee a)) (mulf (gki m0 m1 q a v0 v1 g0 g1) (ei a))
/-- The gradient of `q`'s rows. -/
def gq : M64 F := mulf (mulf (gqd m0 m1 k a v0 v1 g0 g1 s0 s1) (ec a)) (broadcast S64x128 (Scalar.ofBits .f32 0x3E000000#32))
def gcum : M64 F :=
  addf (addf (neg (ge m0 m1 k a v0 v1 d0 d1)) (neg (mulf (mulf k (gki m0 m1 q a v0 v1 g0 g1)) (ei a))))
    (mulf (mulf (qs q) (gqd m0 m1 k a v0 v1 g0 g1 s0 s1)) (ec a))
end
/-- One doubling step of the running sum from the last row back. -/
def backStep (s : BitVec 32) (x : M64 F) : M64 F :=
  addf x (select (cmpi .slt rows (broadcast S64x128 s)) (dynamicRotate 0 s none x rotates_S64x128_d0) (broadcast S64x128 (Scalar.ofBits .f32 0x00000000#32)))
def back (x : M64 F) : M64 F := backStep 32#32 (backStep 48#32 (backStep 56#32 (backStep 60#32 (backStep 62#32 (backStep 63#32 x)))))
/-- The gradient of the log-decays' rows. -/
def ga (m0 m1 : FVec F S1x128 .f32) (q k a v0 v1 g0 g1 : M64 F) (s0 s1 d0 d1 : St F) : M64 F :=
  addf (broadcastTo S64x128 (rowSum (gtot m0 m1 k a v0 v1 s0 s1 d0 d1)) broadcasts_S1x128_S64x128) (back (gcum m0 m1 q k a v0 v1 g0 g1 s0 s1 d0 d1))

/-- A head's state gradient after chunk `7 - n`, from the chunks' rows. -/
def dAt (mk : FVec F S1x128 .f32) (q a g : ℕ → M64 F) (d : St F) : ℕ → St F
  | 0 => d
  | n + 1 => prev mk (q (7 - n)) (a (7 - n)) (g (7 - n)) (dAt mk q a g d n)

end Cert.KernelIdeal.Chunk

end
-- ==== Proof.Gla.Tiles.lean ====
module

public import proofs.«01_k».proof.Proof.Gla.Chunk
public import Idealize.ShloMosaic.Lib.Pipeline.Value

@[expose] public section

noncomputable section

/-! The chunks' boxes of a block: reading a block's chunk, and reading back a block stored chunk by chunk. -/

namespace Cert.KernelIdeal.Chunk

open Cert.KernelIdeal Cert.KernelIdeal.Gen
open Idealize.ShloMosaic

variable {F : FTy → Type} [FloatOps F]

theorem inbQ (k : ℕ) : ∀ a, (![64 * (k % 8), 0] : Fin 2 → ℕ) a + S64x128.size a ≤ S512x128.size a := by
  intro a; fin_cases a
  · show 64 * (k % 8) + 64 ≤ 512; omega
  · show 0 + 128 ≤ 128; omega
theorem inbV (k : ℕ) (h : Fin 2) : ∀ a, (![64 * (k % 8), 128 * h.val] : Fin 2 → ℕ) a + S64x128.size a ≤ S512x256.size a := by
  intro a; fin_cases a
  · show 64 * (k % 8) + 64 ≤ 512; omega
  · show 128 * h.val + 128 ≤ 256; omega
theorem inbS (h : Fin 2) : ∀ a, (![h.val, 0, 0] : Fin 3 → ℕ) a + S1x128x128.size a ≤ S2x128x128.size a := by
  intro a; fin_cases a
  · show h.val + 1 ≤ 2; omega
  · show 0 + 128 ≤ 128; omega
  · show 0 + 128 ≤ 128; omega
theorem inbT (k : ℕ) (h : Fin 2) : ∀ a, (![k % 8, h.val, 0, 0] : Fin 4 → ℕ) a + S1x1x128x128.size a ≤ S8x2x128x128.size a := by
  intro a; fin_cases a
  · show k % 8 + 1 ≤ 8; omega
  · show h.val + 1 ≤ 2; omega
  · show 0 + 128 ≤ 128; omega
  · show 0 + 128 ≤ 128; omega

/-- Chunk `k`'s rows of a block. -/
abbrev boxQ (k : ℕ) : Rect S512x128 := Rect.unit ![64 * (k % 8), 0] S64x128.size (inbQ k)
/-- Chunk `k`'s rows of head `h`'s lanes. -/
abbrev boxV (h : Fin 2) (k : ℕ) : Rect S512x256 := Rect.unit ![64 * (k % 8), 128 * h.val] S64x128.size (inbV k h)
/-- Head `h`'s carried state. -/
abbrev boxS (h : Fin 2) : Rect S2x128x128 := Rect.unit ![h.val, 0, 0] S1x128x128.size (inbS h)
/-- Head `h`'s saved state of chunk `k`. -/
abbrev boxT (h : Fin 2) (k : ℕ) : Rect S8x2x128x128 := Rect.unit ![k % 8, h.val, 0, 0] S1x1x128x128.size (inbT k h)

/-- Chunk `k` of a block. -/
def ldQ (x : Vec F S512x128 .f32) (k : ℕ) : M64 F := View.ld x (boxQ k)
def ldV (x : Vec F S512x256 .f32) (h : Fin 2) (k : ℕ) : M64 F := View.ld x (boxV h k)
def ldS (x : Vec F S2x128x128 .f32) (h : Fin 2) : St F := shapeCast S128x128 (View.ld x (boxS h) : FVec F S1x128x128 .f32) shapeCasts_S1x128x128_S128x128
def ldT (x : Vec F S8x2x128x128 .f32) (h : Fin 2) (k : ℕ) : St F := shapeCast S128x128 (View.ld x (boxT h k) : FVec F S1x1x128x128 .f32) shapeCasts_S1x1x128x128_S128x128

/-- The same reads of a buffer through a view. -/
def rdQ (m : Memref sig .tc .vmem S512x128 .f32) (f : m.view.ty.Contents (Elt F)) (k : ℕ) : M64 F := View.readAt (Elt F) m.view (boxQ k).toLoadRect f
def rdV (m : Memref sig .tc .vmem S512x256 .f32) (f : m.view.ty.Contents (Elt F)) (h : Fin 2) (k : ℕ) : M64 F := View.readAt (Elt F) m.view (boxV h k).toLoadRect f
def rdS (m : Memref sig .tc .vmem S2x128x128 .f32) (f : m.view.ty.Contents (Elt F)) (h : Fin 2) : St F :=
  shapeCast S128x128 (View.readAt (Elt F) m.view (boxS h).toLoadRect f : FVec F S1x128x128 .f32) shapeCasts_S1x128x128_S128x128
def rdT (m : Memref sig .tc .vmem S8x2x128x128 .f32) (f : m.view.ty.Contents (Elt F)) (h : Fin 2) (k : ℕ) : St F :=
  shapeCast S128x128 (View.readAt (Elt F) m.view (boxT h k).toLoadRect f : FVec F S1x1x128x128 .f32) shapeCasts_S1x1x128x128_S128x128

theorem rdQ_unread (m : Memref sig .tc .vmem S512x128 .f32) (h : m.IsWhole) (x : Vec F S512x128 .f32) : rdQ m (h.unread x) = ldQ x := by
  funext k; unfold rdQ ldQ; rw [View.readAt_eq_ld, h.read_unread]
theorem rdV_unread (m : Memref sig .tc .vmem S512x256 .f32) (h : m.IsWhole) (x : Vec F S512x256 .f32) : rdV m (h.unread x) = ldV x := by
  funext j k; unfold rdV ldV; rw [View.readAt_eq_ld, h.read_unread]
theorem rdS_unread (m : Memref sig .tc .vmem S2x128x128 .f32) (h : m.IsWhole) (x : Vec F S2x128x128 .f32) : rdS m (h.unread x) = ldS x := by
  funext j; unfold rdS ldS; rw [View.readAt_eq_ld, h.read_unread]
theorem rdT_unread (m : Memref sig .tc .vmem S8x2x128x128 .f32) (h : m.IsWhole) (x : Vec F S8x2x128x128 .f32) : rdT m (h.unread x) = ldT x := by
  funext j k; unfold rdT ldT; rw [View.readAt_eq_ld, h.read_unread]

/-- A block's chunks as stores. -/
abbrev pcQ (f : ℕ → M64 F) (k : ℕ) : View.Piece (Elt F) S512x128 .f32 := ⟨boxQ k, f k⟩
abbrev pcV (f : Fin 2 → ℕ → M64 F) (p : Fin 2 × ℕ) : View.Piece (Elt F) S512x256 .f32 := ⟨boxV p.1 p.2, f p.1 p.2⟩
abbrev pcT (f : Fin 2 → ℕ → St F) (p : Fin 2 × ℕ) : View.Piece (Elt F) S8x2x128x128 .f32 :=
  ⟨boxT p.1 p.2, (shapeCast S1x1x128x128 (f p.1 p.2) shapeCasts_S128x128_S1x1x128x128 : FVec F S1x1x128x128 .f32)⟩
abbrev pcS (f : Fin 2 → St F) (h : Fin 2) : View.Piece (Elt F) S2x128x128 .f32 :=
  ⟨boxS h, (shapeCast S1x128x128 (f h) shapeCasts_S128x128_S1x128x128 : FVec F S1x128x128 .f32)⟩

end Cert.KernelIdeal.Chunk

end
-- ==== Proof.Gla.Spec.lean ====
module

public import Idealize.ShloMosaic.Lib.Pointwise

@[expose] public section

noncomputable section

/-! One head's chunk of the gated recurrence and of its gradient, entry by entry, over the extended reals. A chunk's `q`, `k` and log-decays
    are given by row and key lane, `v` and the incoming gradient by row and value lane, a state by key lane and value lane. -/

namespace Cert.Proof.Spec

open Idealize.ShloMosaic

/-- The queries' scale, an eighth. -/
def c8 : EReal := Ideal.ofBits .f32 0x3E000000#32

abbrev K64 := Fin 64 → Fin 64 → EReal
abbrev V64 := Fin 64 → Fin 128 → EReal

section
variable (q k a : K64) (v g s d : V64)
def cum : K64 := fun i x => ∑ j, if j ≤ i then a j x else 0
def tot (x : Fin 64) : EReal := ∑ j, a j x
def qs : K64 := fun i x => q i x * c8
def ec : K64 := fun i x => Ideal.exp (cum a i x)
def ei : K64 := fun i x => Ideal.exp (0 - cum a i x)
def ee : K64 := fun i x => Ideal.exp (tot a x - cum a i x)
def dec (x : Fin 64) : EReal := Ideal.exp (tot a x)
def qd : K64 := fun i x => qs q i x * ec a i x
def ki : K64 := fun i x => k i x * ei a i x
def ke : K64 := fun i x => k i x * ee a i x
def att : K64 := fun i j => if j ≤ i then ∑ x, qd q a i x * ki k a j x else 0
def out : V64 := fun i e => (∑ j, att q k a i j * v j e) + ∑ x, qd q a i x * s x e
def next : V64 := fun x e => s x e * dec a x + ∑ i, v i e * ke k a i x
def datt : K64 := fun i j => if j ≤ i then ∑ e, g i e * v j e else 0
def gv : V64 := fun j e => (∑ x, ke k a j x * d x e) + ∑ i, att q k a i j * g i e
def prev : V64 := fun x e => d x e * dec a x + ∑ i, g i e * qd q a i x
def gke : K64 := fun i x => ∑ e, v i e * d x e
def gki : K64 := fun j x => ∑ i, datt v g i j * qd q a i x
def gqd : K64 := fun i x => (∑ e, g i e * s x e) + ∑ j, datt v g i j * ki k a j x
def gdec (x : Fin 64) : EReal := ∑ e, s x e * d x e
def ge : K64 := fun i x => k i x * gke v d i x * ee a i x
def gtot (x : Fin 64) : EReal := gdec s d x * dec a x + ∑ i, ge k a v d i x
def gk : K64 := fun i x => gke v d i x * ee a i x + gki q a v g i x * ei a i x
def gq : K64 := fun i x => gqd k a v g s i x * ec a i x * c8
def gcum : K64 := fun i x => (0 - ge k a v d i x) + (0 - k i x * gki q a v g i x * ei a i x) + qs q i x * gqd k a v g s i x * ec a i x
def ga : K64 := fun i x => gtot k a v s d x + ∑ j, if i ≤ j then gcum q k a v g s d j x else 0
end

/-- The state before chunk `n`. -/
def st (k a : ℕ → K64) (v : ℕ → V64) : ℕ → V64
  | 0 => fun _ _ => 0
  | n + 1 => next (k n) (a n) (v n) (st k a v n)
/-- The state's gradient after chunk `63 - n`. -/
def dst (q a : ℕ → K64) (g : ℕ → V64) : ℕ → V64
  | 0 => fun _ _ => 0
  | n + 1 => prev (q (63 - n)) (a (63 - n)) (g (63 - n)) (dst q a g n)

end Cert.Proof.Spec

end
-- ==== Proof.Gla.Entry.lean ====
module

public import proofs.«01_k».proof.Proof.Gla.Tiles
public import proofs.«01_k».proof.Proof.Gla.Spec

@[expose] public section

noncomputable section

/-! The kernel's chunk, entry by entry over the extended reals: a head's lanes of each vector are the head's own chunk. -/

namespace Cert.KernelIdeal.Chunk

open Cert.KernelIdeal Cert.KernelIdeal.Gen Cert.Proof
open Idealize.ShloMosaic

local notation "𝕀" => Idealize.ShloMosaic.Ideal

/-! ### Sums by doubling -/

theorem select_if (p : Prop) [Decidable p] (c : BitVec 1) (h : c = if p then 1#1 else 0#1) (x y : EReal) :
    Scalar.select c x y = if p then x else y := by
  subst h; by_cases hp : p <;> simp [hp, Scalar.select]

theorem sge_iff (i s : ℕ) (hi : i < 64) (hs : s < 64) :
    IntOp.cmpi CmpIPredicate.sge (BitVec.ofNat 32 i) (BitVec.ofNat 32 s) = if s ≤ i then 1#1 else 0#1 := by
  have : ∀ i s : Fin 64, IntOp.cmpi CmpIPredicate.sge (BitVec.ofNat 32 i.val) (BitVec.ofNat 32 s.val) = if s ≤ i then 1#1 else 0#1 := by
    decide +kernel
  simpa using this ⟨i, hi⟩ ⟨s, hs⟩
theorem slt_iff (i s : ℕ) (hi : i < 64) (hs : s < 64) :
    IntOp.cmpi CmpIPredicate.slt (BitVec.ofNat 32 i) (BitVec.ofNat 32 s) = if i < s then 1#1 else 0#1 := by
  have : ∀ i s : Fin 64, IntOp.cmpi CmpIPredicate.slt (BitVec.ofNat 32 i.val) (BitVec.ofNat 32 s.val) = if i < s then 1#1 else 0#1 := by
    decide +kernel
  simpa using this ⟨i, hi⟩ ⟨s, hs⟩
theorem sle_iff (i s : ℕ) (hi : i < 64) (hs : s < 64) :
    IntOp.cmpi CmpIPredicate.sle (BitVec.ofNat 32 i) (BitVec.ofNat 32 s) = if i ≤ s then 1#1 else 0#1 := by
  have : ∀ i s : Fin 64, IntOp.cmpi CmpIPredicate.sle (BitVec.ofNat 32 i.val) (BitVec.ofNat 32 s.val) = if i ≤ s then 1#1 else 0#1 := by
    decide +kernel
  simpa using this ⟨i, hi⟩ ⟨s, hs⟩

/-- The sum of the last `n` rows up to row `i`. -/
def upTo (a : M64 𝕀) (n : ℕ) (i : Fin 64) (l : Fin 128) : EReal := ∑ j : Fin 64, if j ≤ i ∧ i.val < j.val + n then a (ix2 j l) else 0
/-- The sum of the first `n` rows from row `i`. -/
def from' (a : M64 𝕀) (n : ℕ) (i : Fin 64) (l : Fin 128) : EReal := ∑ j : Fin 64, if i ≤ j ∧ j.val < i.val + n then a (ix2 j l) else 0

theorem scanStep_upTo (a x : M64 𝕀) (n : ℕ) (s : BitVec 32) (hs : s = BitVec.ofNat 32 n) (hn : 0 < n) (hn' : n < 64)
    (hx : ∀ i l, x (ix2 i l) = upTo a n i l) (i : Fin 64) (l : Fin 128) : scanStep s x (ix2 i l) = upTo a (n + n) i l := by
  subst hs
  pointwise [scanStep, rows]
  rw [select_if (n ≤ i.val) _ (sge_iff _ _ i.isLt hn'), hx, hx]
  have hm : (BitVec.ofNat 32 n).toNat = n := by simp; omega
  unfold upTo
  by_cases h : n ≤ i.val
  · rw [if_pos h, ← Finset.sum_add_distrib]
    refine Finset.sum_congr rfl fun j _ => ?_
    have e : (i.val + 64 - (BitVec.ofNat 32 n).toNat % 64) % 64 = i.val - n := by rw [hm]; omega
    simp only [Fin.le_def, e]
    by_cases h1 : j.val ≤ i.val ∧ i.val < j.val + n
    · rw [if_pos h1, if_neg (by omega), if_pos (by omega), add_zero]
    · rw [if_neg h1, zero_add]
      exact if_congr (by omega) rfl rfl
  · rw [if_neg h, add_zero]
    exact Finset.sum_congr rfl fun j _ => if_congr (by rw [Fin.le_def]; omega) rfl rfl

theorem backStep_from (a x : M64 𝕀) (n : ℕ) (s : BitVec 32) (hs : s = BitVec.ofNat 32 (64 - n)) (hn : 0 < n) (hn' : n < 64)
    (hx : ∀ i l, x (ix2 i l) = from' a n i l) (i : Fin 64) (l : Fin 128) : backStep s x (ix2 i l) = from' a (n + n) i l := by
  subst hs
  pointwise [backStep, rows]
  rw [select_if (i.val < 64 - n) _ (slt_iff _ _ i.isLt (by omega)), hx, hx]
  have hm : (BitVec.ofNat 32 (64 - n)).toNat = 64 - n := by simp; omega
  unfold from'
  by_cases h : i.val < 64 - n
  · rw [if_pos h, ← Finset.sum_add_distrib]
    refine Finset.sum_congr rfl fun j _ => ?_
    have e : (i.val + 64 - (BitVec.ofNat 32 (64 - n)).toNat % 64) % 64 = i.val + n := by rw [hm]; omega
    simp only [Fin.le_def, e]
    by_cases h1 : i.val ≤ j.val ∧ j.val < i.val + n
    · rw [if_pos h1, if_neg (by omega), if_pos (by omega), add_zero]
    · rw [if_neg h1, zero_add]
      exact if_congr (by omega) rfl rfl
  · rw [if_neg h, add_zero]
    exact Finset.sum_congr rfl fun j _ => if_congr (by have := j.isLt; rw [Fin.le_def]; omega) rfl rfl

theorem cum_apply (a : M64 𝕀) (i : Fin 64) (l : Fin 128) : cum a (ix2 i l) = ∑ j : Fin 64, if j ≤ i then a (ix2 j l) else 0 := by
  have h0 : ∀ i l, a (ix2 i l) = upTo a 1 i l := fun i l => by
    unfold upTo
    rw [Finset.sum_eq_single i (fun j _ hj => if_neg (by intro h; exact hj (Fin.ext (by have := h.1; rw [Fin.le_def] at this; omega)))) (by simp)]
    simp
  have h := scanStep_upTo a _ 32 32#32 rfl (by norm_num) (by norm_num) (scanStep_upTo a _ 16 16#32 rfl (by norm_num) (by norm_num)
    (scanStep_upTo a _ 8 8#32 rfl (by norm_num) (by norm_num) (scanStep_upTo a _ 4 4#32 rfl (by norm_num) (by norm_num)
    (scanStep_upTo a _ 2 2#32 rfl (by norm_num) (by norm_num) (scanStep_upTo a _ 1 1#32 rfl (by norm_num) (by norm_num) h0))))) i l
  refine h.trans (Finset.sum_congr rfl fun j _ => if_congr ⟨fun h => h.1, fun h => ⟨h, ?_⟩⟩ rfl rfl)
  have := i.isLt; omega

theorem back_apply (a : M64 𝕀) (i : Fin 64) (l : Fin 128) : back a (ix2 i l) = ∑ j : Fin 64, if i ≤ j then a (ix2 j l) else 0 := by
  have h0 : ∀ i l, a (ix2 i l) = from' a 1 i l := fun i l => by
    unfold from'
    rw [Finset.sum_eq_single i (fun j _ hj => if_neg (by intro h; exact hj (Fin.ext (by have := h.1; rw [Fin.le_def] at this; omega)))) (by simp)]
    simp
  have h := backStep_from a _ 32 32#32 rfl (by norm_num) (by norm_num) (backStep_from a _ 16 48#32 rfl (by norm_num) (by norm_num)
    (backStep_from a _ 8 56#32 rfl (by norm_num) (by norm_num) (backStep_from a _ 4 60#32 rfl (by norm_num) (by norm_num)
    (backStep_from a _ 2 62#32 rfl (by norm_num) (by norm_num) (backStep_from a _ 1 63#32 rfl (by norm_num) (by norm_num) h0))))) i l
  refine h.trans (Finset.sum_congr rfl fun j _ => if_congr ⟨fun h => h.1, fun h => ⟨h, ?_⟩⟩ rfl rfl)
  have := j.isLt; omega

/-! ### The lanes of a head -/

/-- Head `h`'s key lane `x`. -/
def lane (h : Fin 2) (x : Fin 64) : Fin 128 := ⟨64 * h.val + x.val, by omega⟩

theorem lane_cases (l : Fin 128) : ∃ h x, l = lane h x :=
  ⟨⟨l.val / 64, by omega⟩, ⟨l.val % 64, by omega⟩, Fin.ext (by show l.val = 64 * (l.val / 64) + l.val % 64; omega)⟩

theorem sum_lanes (f : Fin 128 → EReal) : ∑ l, f l = (∑ x, f (lane 0 x)) + ∑ x, f (lane 1 x) := by
  have := Fin.sum_univ_add (a := 64) (b := 64) (f := f)
  refine this.trans (congrArg₂ (· + ·) (Finset.sum_congr rfl fun x _ => congrArg f (Fin.ext ?_)) (Finset.sum_congr rfl fun x _ => congrArg f (Fin.ext ?_)))
  · show x.val = 64 * 0 + x.val; omega
  · show 64 + x.val = 64 * 1 + x.val; omega

/-- The lanes' mask of head `h`. -/
abbrev mk (h : Fin 2) : FVec 𝕀 S1x128 .f32 := ![lanes 0#32 64#32, lanes 64#32 128#32] h

theorem mk_lane (h h' : Fin 2) (x : Fin 64) : mk h (ix2 0 (lane h' x)) = if h = h' then 1 else 0 := by
  have e : ∀ (h h' : Fin 2) (x : Fin 64), (BitVec.setWidth 32
        (IntOp.andi (IntOp.cmpi CmpIPredicate.sge (BitVec.ofNat 32 (lane h' x).val) (![0#32, 64#32] h))
          (IntOp.cmpi CmpIPredicate.slt (BitVec.ofNat 32 (lane h' x).val) (![64#32, 128#32] h)))) = if h = h' then 1#32 else 0#32 := by decide +kernel
  have e' := e h h' x
  have z1 : FloatOps.sitofp (F := 𝕀) FTy.f32 1#32 = (1 : EReal) := by
    show ((((1#32 : BitVec 32).toInt : ℝ)) : EReal) = 1
    norm_num
  have z0 : FloatOps.sitofp (F := 𝕀) FTy.f32 0#32 = (0 : EReal) := by
    show ((((0#32 : BitVec 32).toInt : ℝ)) : EReal) = 0
    norm_num
  have zz : ∀ (p : Prop) [Decidable p], FloatOps.sitofp (F := 𝕀) FTy.f32 (if p then 1#32 else 0#32) = if p then (1 : EReal) else 0 := by
    intro p _
    split_ifs
    · exact z1
    · exact z0
  fin_cases h
  · show lanes (F := 𝕀) 0#32 64#32 (ix2 0 (lane h' x)) = _
    pointwise [lanes]
    exact (congrArg (FloatOps.sitofp (F := 𝕀) FTy.f32) e').trans (zz _)
  · show lanes (F := 𝕀) 64#32 128#32 (ix2 0 (lane h' x)) = _
    pointwise [lanes]
    exact (congrArg (FloatOps.sitofp (F := 𝕀) FTy.f32) e').trans (zz _)

/-- Head `h`'s lanes of a chunk. -/
def hd (h : Fin 2) (x : M64 𝕀) : Spec.K64 := fun i y => x (ix2 i (lane h y))
/-- A chunk of one head's values. -/
def hv (x : M64 𝕀) : Spec.V64 := fun i e => x (ix2 i e)
/-- Head `h`'s lanes of a state. -/
def hs (h : Fin 2) (s : St 𝕀) : Spec.V64 := fun x e => s (ix2 e (lane h x))

theorem msk_lane (h h' : Fin 2) (x : M64 𝕀) (i : Fin 64) (y : Fin 64) :
    msk (mk h) x (ix2 i (lane h' y)) = if h = h' then x (ix2 i (lane h' y)) else 0 := by
  have : msk (mk h) x (ix2 i (lane h' y)) = x (ix2 i (lane h' y)) * mk h (ix2 0 (lane h' y)) := by
    generalize mk h = m
    pointwise [msk]
  rw [this, mk_lane]
  split_ifs <;> simp

/-- A sum over all lanes of a product with a masked factor is the sum over the head's. -/
theorem sum_msk (h : Fin 2) (x : M64 𝕀) (i : Fin 64) (f : Fin 128 → EReal) :
    ∑ l, msk (mk h) x (ix2 i l) * f l = ∑ y, hd h x i y * f (lane h y) := by
  rw [sum_lanes]
  simp only [msk_lane]
  fin_cases h
  · simp [hd]
  · simp [hd]

/-! ### Each vector of the chunk -/

section
variable (h : Fin 2) (q k a v g : M64 𝕀) (s d : St 𝕀)

theorem hd_cum : hd h (cum a) = Spec.cum (hd h a) := by
  funext i x; exact cum_apply a i (lane h x)
theorem tot_lane (x : Fin 64) : tot a (ix2 0 (lane h x)) = Spec.tot (hd h a) x := by
  generalize hl : lane h x = l
  have : tot a (ix2 0 l) = ∑ j, a (ix2 j l) := by pointwise [tot]
  rw [this, ← hl]; rfl
theorem hd_qs : hd h (qs q) = Spec.qs (hd h q) := by
  funext i x
  show qs q (ix2 i (lane h x)) = q (ix2 i (lane h x)) * Spec.c8
  generalize lane h x = l
  pointwise [qs, Spec.c8]
theorem hd_ec : hd h (ec a) = Spec.ec (hd h a) := by
  funext i x
  have : ec a (ix2 i (lane h x)) = Ideal.exp (cum a (ix2 i (lane h x))) := by generalize lane h x = l; pointwise [ec]
  exact this.trans (congrArg Ideal.exp (congrFun (congrFun (hd_cum h a) i) x))
theorem hd_ei : hd h (ei a) = Spec.ei (hd h a) := by
  funext i x
  have : ei a (ix2 i (lane h x)) = Ideal.exp (0 - cum a (ix2 i (lane h x))) := by generalize lane h x = l; pointwise [ei]
  exact this.trans (congrArg (fun z => Ideal.exp (0 - z)) (congrFun (congrFun (hd_cum h a) i) x))
theorem hd_ee : hd h (ee a) = Spec.ee (hd h a) := by
  funext i x
  have : ee a (ix2 i (lane h x)) = Ideal.exp (tot a (ix2 0 (lane h x)) - cum a (ix2 i (lane h x))) := by generalize lane h x = l; pointwise [ee]
  refine this.trans ?_
  rw [tot_lane]
  exact congrArg (fun z => Ideal.exp (_ - z)) (congrFun (congrFun (hd_cum h a) i) x)
theorem dec_lane (x : Fin 64) : dec a (ix2 0 (lane h x)) = Spec.dec (hd h a) x := by
  have : dec a (ix2 0 (lane h x)) = Ideal.exp (tot a (ix2 0 (lane h x))) := by generalize lane h x = l; pointwise [dec]
  rw [this, tot_lane]; rfl
theorem hd_mul (x y : M64 𝕀) : hd h (mulf x y) = fun i l => hd h x i l * hd h y i l := rfl
theorem hd_add (x y : M64 𝕀) : hd h (addf x y) = fun i l => hd h x i l + hd h y i l := rfl
theorem hd_qd : hd h (qd q a) = Spec.qd (hd h q) (hd h a) := by
  funext i x; unfold qd; rw [hd_mul, hd_qs, hd_ec]; rfl
theorem hd_ki : hd h (ki k a) = Spec.ki (hd h k) (hd h a) := by
  funext i x; unfold ki; rw [hd_mul, hd_ei]; rfl
theorem hd_ke : hd h (ke k a) = Spec.ke (hd h k) (hd h a) := by
  funext i x; unfold ke; rw [hd_mul, hd_ee]; rfl
theorem low_apply (x : FVec 𝕀 S64x64 .f32) (i j : Fin 64) : low x (ix2 i j) = if j ≤ i then x (ix2 i j) else 0 := by
  pointwise [low, tril]
  rw [select_if (j.val ≤ i.val) _ (sle_iff _ _ j.isLt i.isLt)]
  exact if_congr Fin.le_def.symm rfl rfl
theorem att_apply (i j : Fin 64) : att (mk h) q k a (ix2 i j) = Spec.att (hd h q) (hd h k) (hd h a) i j := by
  unfold att
  rw [low_apply]
  have : ∀ x y : M64 𝕀, dNT x y (ix2 i j) = ∑ l, x (ix2 i l) * y (ix2 j l) := fun x y => by pointwise [dNT]
  rw [this, sum_msk h (qd q a) i (fun l => ki k a (ix2 j l)), hd_qd]
  unfold Spec.att
  refine if_congr Iff.rfl (Finset.sum_congr rfl fun x _ => congrArg _ ?_) rfl
  exact congrFun (congrFun (hd_ki h k a) j) x
theorem dNS_msk (x : M64 𝕀) (i : Fin 64) (e : Fin 128) : dNS (msk (mk h) x) s (ix2 i e) = ∑ y, hd h x i y * hs h s y e := by
  have : ∀ (x : M64 𝕀) (s : St 𝕀), dNS x s (ix2 i e) = ∑ l, x (ix2 i l) * s (ix2 e l) := fun x y => by pointwise [dNS]
  rw [this, sum_msk h x i (fun l => s (ix2 e l))]; rfl
theorem out_apply : hv (out (mk h) q k a v s) = Spec.out (hd h q) (hd h k) (hd h a) (hv v) (hs h s) := by
  funext i e
  show dNN (att (mk h) q k a) v (ix2 i e) + dNS (msk (mk h) (qd q a)) s (ix2 i e) = _
  have : ∀ (x : FVec 𝕀 S64x64 .f32) (y : M64 𝕀), dNN x y (ix2 i e) = ∑ j, x (ix2 i j) * y (ix2 j e) := fun x y => by pointwise [dNN]
  rw [this, dNS_msk, hd_qd]
  exact congrArg (· + _) (Finset.sum_congr rfl fun j _ => congrArg (· * _) (att_apply h q k a i j))
theorem dTT_msk (x : M64 𝕀) (e : Fin 128) (h' : Fin 2) (y : Fin 64) :
    dTT v (msk (mk h) x) (ix2 e (lane h' y)) = if h = h' then ∑ i, hv v i e * hd h x i y else 0 := by
  have : ∀ (x y : M64 𝕀) (l : Fin 128), dTT x y (ix2 e l) = ∑ i, x (ix2 i e) * y (ix2 i l) := fun x y l => by pointwise [dTT]
  rw [this]; simp only [msk_lane]
  by_cases hh : h = h'
  · subst hh; simp [hd, hv]
  · simp [hh]
theorem decay_apply (s : St 𝕀) (e l : Fin 128) : mulf s (broadcastTo S128x128 (dec a) broadcasts_S1x128_S128x128) (ix2 e l) = s (ix2 e l) * dec a (ix2 0 l) := by
  pointwise []
theorem next_apply : hs h (next (mk h) k a v s) = Spec.next (hd h k) (hd h a) (hv v) (hs h s) := by
  funext x e
  show mulf s (broadcastTo S128x128 (dec a) broadcasts_S1x128_S128x128) (ix2 e (lane h x)) + dTT v (msk (mk h) (ke k a)) (ix2 e (lane h x)) = _
  rw [decay_apply, dTT_msk, dec_lane, if_pos rfl, hd_ke]; rfl
theorem prev_apply : hs h (prev (mk h) q a g d) = Spec.prev (hd h q) (hd h a) (hv g) (hs h d) := by
  funext x e
  show mulf d (broadcastTo S128x128 (dec a) broadcasts_S1x128_S128x128) (ix2 e (lane h x)) + dTT (idM g) (msk (mk h) (qd q a)) (ix2 e (lane h x)) = _
  have hi : idM g = g := by funext x; idx_vars x; pointwise [idM]
  rw [decay_apply, dTT_msk, dec_lane, if_pos rfl, hd_qd, hi]; rfl
/-- A state whose other lanes are zero. -/
def only (h : Fin 2) (s : St 𝕀) : Prop := ∀ h' x e, h ≠ h' → s (ix2 e (lane h' x)) = 0
theorem prev_only (hd' : only h d) : only h (prev (mk h) q a g d) := by
  intro h' x e hh
  show mulf d (broadcastTo S128x128 (dec a) broadcasts_S1x128_S128x128) (ix2 e (lane h' x)) + dTT (idM g) (msk (mk h) (qd q a)) (ix2 e (lane h' x)) = _
  rw [decay_apply, dTT_msk, if_neg hh, hd' h' x e hh, zero_mul, add_zero]

theorem next_only (hs' : only h s) : only h (next (mk h) k a v s) := by
  intro h' x e hh
  show mulf s (broadcastTo S128x128 (dec a) broadcasts_S1x128_S128x128) (ix2 e (lane h' x)) + dTT v (msk (mk h) (ke k a)) (ix2 e (lane h' x)) = _
  rw [decay_apply, dTT_msk, if_neg hh, hs' h' x e hh, zero_mul, add_zero]
theorem dSN_apply (x : M64 𝕀) (i : Fin 64) (l : Fin 128) : dSN x s (ix2 i l) = ∑ e, x (ix2 i e) * s (ix2 e l) := by pointwise [dSN]
theorem dNN_apply (x : FVec 𝕀 S64x64 .f32) (y : M64 𝕀) (i : Fin 64) (l : Fin 128) : dNN x y (ix2 i l) = ∑ j, x (ix2 i j) * y (ix2 j l) := by
  pointwise [dNN]
theorem dTM_apply (x : FVec 𝕀 S64x64 .f32) (y : M64 𝕀) (j : Fin 64) (l : Fin 128) : dTM x y (ix2 j l) = ∑ i, x (ix2 i j) * y (ix2 i l) := by
  pointwise [dTM]
theorem idM_eq (x : M64 𝕀) : idM x = x := by funext i; idx_vars i; pointwise [idM]
theorem idS_eq (x : St 𝕀) : idS x = x := by funext i; idx_vars i; pointwise [idS]
theorem neg_apply (x : M64 𝕀) (i : Fin 64) (l : Fin 128) : neg x (ix2 i l) = 0 - x (ix2 i l) := by pointwise [neg]
theorem colSum_apply (x : St 𝕀) (l : Fin 128) : colSum x (ix2 0 l) = ∑ e, x (ix2 e l) := by pointwise [colSum]
theorem rowSum_apply (x : FVec 𝕀 S1x128 .f32) (l : Fin 128) : rowSum x (ix2 0 l) = x (ix2 0 l) := by
  have : rowSum x (ix2 0 l) = ∑ u : Fin 1, x (ix2 u l) := by pointwise [rowSum]
  rw [this, Fin.sum_univ_one]

theorem datt_apply (i j : Fin 64) : datt v g (ix2 i j) = Spec.datt (hv v) (hv g) i j := by
  unfold datt
  rw [low_apply, idM_eq]
  have : ∀ x y : M64 𝕀, dNT x y (ix2 i j) = ∑ l, x (ix2 i l) * y (ix2 j l) := fun x y => by pointwise [dNT]
  rw [this]; rfl
theorem gv_apply : hv (gv (mk h) q k a g d) = Spec.gv (hd h q) (hd h k) (hd h a) (hv g) (hs h d) := by
  funext j e
  show dNS (msk (mk h) (ke k a)) d (ix2 j e) + dTM (att (mk h) q k a) (idM g) (ix2 j e) = _
  rw [dNS_msk, dTM_apply, idM_eq, hd_ke]
  exact congrArg (_ + ·) (Finset.sum_congr rfl fun i _ => congrArg (· * _) (att_apply h q k a i j))
end

section
variable (q k a : M64 𝕀) (v g : Fin 2 → M64 𝕀) (s d : Fin 2 → St 𝕀)

/-- A sum of both heads' masked vectors, at a head's lane, is that head's. -/
theorem both (x : Fin 2 → M64 𝕀) (h : Fin 2) (i y : Fin 64) :
    addf (msk (mk 1) (x 1)) (msk (mk 0) (x 0)) (ix2 i (lane h y)) = x h (ix2 i (lane h y)) := by
  show msk (mk 1) (x 1) (ix2 i (lane h y)) + msk (mk 0) (x 0) (ix2 i (lane h y)) = _
  rw [msk_lane, msk_lane]
  fin_cases h <;> simp

theorem hd_gke (h : Fin 2) : hd h (gke (mk 0) (mk 1) (v 0) (v 1) (d 0) (d 1)) = Spec.gke (hv (v h)) (hs h (d h)) := by
  funext i x
  refine (both (fun h => dSN (v h) (d h)) h i x).trans ?_
  exact dSN_apply _ _ _ _

theorem hd_gki (h : Fin 2) : hd h (gki (mk 0) (mk 1) q a (v 0) (v 1) (g 0) (g 1)) = Spec.gki (hd h q) (hd h a) (hv (v h)) (hv (g h)) := by
  funext j x
  show dTM (datt (v 1) (g 1)) (msk (mk 1) (qd q a)) (ix2 j (lane h x)) + dTM (datt (v 0) (g 0)) (msk (mk 0) (qd q a)) (ix2 j (lane h x)) = _
  have e : ∀ h', dTM (datt (v h') (g h')) (msk (mk h') (qd q a)) (ix2 j (lane h x))
      = if h' = h then Spec.gki (hd h q) (hd h a) (hv (v h)) (hv (g h)) j x else 0 := fun h' => by
    rw [dTM_apply]
    simp only [msk_lane, datt_apply]
    by_cases hh : h' = h
    · subst hh
      simp only [if_true]
      refine Finset.sum_congr rfl fun i _ => congrArg (fun z : EReal => (Spec.datt (hv (v h')) (hv (g h')) i j : EReal) * z) ?_
      exact congrFun (congrFun (hd_qd h' q a) i) x
    · simp [hh]
  rw [e, e]
  fin_cases h <;> simp

theorem hd_gqd (h : Fin 2) : hd h (gqd (mk 0) (mk 1) k a (v 0) (v 1) (g 0) (g 1) (s 0) (s 1))
    = Spec.gqd (hd h k) (hd h a) (hv (v h)) (hv (g h)) (hs h (s h)) := by
  funext i x
  refine (both (fun h => addf (dSN (idM (g h)) (s h)) (dNN (datt (v h) (g h)) (ki k a))) h i x).trans ?_
  show dSN (idM (g h)) (s h) (ix2 i (lane h x)) + dNN (datt (v h) (g h)) (ki k a) (ix2 i (lane h x)) = _
  rw [dSN_apply, dNN_apply, idM_eq]
  refine congrArg (_ + ·) (Finset.sum_congr rfl fun j _ => ?_)
  rw [datt_apply]
  exact congrArg (_ * ·) (congrFun (congrFun (hd_ki h k a) j) x)

theorem gdec_lane (h : Fin 2) (hd' : ∀ h, only h (d h)) (x : Fin 64) :
    gdec (s 0) (s 1) (d 0) (d 1) (ix2 0 (lane h x)) = Spec.gdec (hs h (s h)) (hs h (d h)) x := by
  show colSum (mulf (s 1) (d 1)) (ix2 0 (lane h x)) + colSum (mulf (s 0) (d 0)) (ix2 0 (lane h x)) = _
  have e : ∀ h', colSum (mulf (s h') (d h')) (ix2 0 (lane h x)) = if h' = h then Spec.gdec (hs h (s h)) (hs h (d h)) x else 0 := fun h' => by
    rw [colSum_apply]
    by_cases hh : h' = h
    · subst hh; rw [if_pos rfl]; rfl
    · rw [if_neg hh]
      refine Finset.sum_eq_zero fun e _ => ?_
      show s h' (ix2 e (lane h x)) * d h' (ix2 e (lane h x)) = 0
      rw [hd' h' h x e hh, mul_zero]
  rw [e, e]
  fin_cases h <;> simp

theorem hd_ge (h : Fin 2) : hd h (ge (mk 0) (mk 1) k a (v 0) (v 1) (d 0) (d 1)) = Spec.ge (hd h k) (hd h a) (hv (v h)) (hs h (d h)) := by
  unfold ge; rw [hd_mul, hd_mul, hd_gke, hd_ee]; rfl
theorem gtot_lane (h : Fin 2) (hd' : ∀ h, only h (d h)) (x : Fin 64) :
    gtot (mk 0) (mk 1) k a (v 0) (v 1) (s 0) (s 1) (d 0) (d 1) (ix2 0 (lane h x))
      = Spec.gtot (hd h k) (hd h a) (hv (v h)) (hs h (s h)) (hs h (d h)) x := by
  show gdec (s 0) (s 1) (d 0) (d 1) (ix2 0 (lane h x)) * dec a (ix2 0 (lane h x))
    + tot (ge (mk 0) (mk 1) k a (v 0) (v 1) (d 0) (d 1)) (ix2 0 (lane h x)) = _
  rw [gdec_lane s d h hd', dec_lane, tot_lane, hd_ge]; rfl
theorem hd_gk (h : Fin 2) : hd h (gk (mk 0) (mk 1) q a (v 0) (v 1) (g 0) (g 1) (d 0) (d 1))
    = Spec.gk (hd h q) (hd h a) (hv (v h)) (hv (g h)) (hs h (d h)) := by
  unfold gk; rw [hd_add, hd_mul, hd_mul, hd_gke, hd_gki, hd_ee, hd_ei]; rfl
theorem hd_gq (h : Fin 2) : hd h (gq (mk 0) (mk 1) k a (v 0) (v 1) (g 0) (g 1) (s 0) (s 1))
    = Spec.gq (hd h k) (hd h a) (hv (v h)) (hv (g h)) (hs h (s h)) := by
  unfold gq
  refine (hd_qs h _).trans ?_
  rw [hd_mul, hd_gqd, hd_ec]; rfl
theorem hd_neg (h : Fin 2) (x : M64 𝕀) : hd h (neg x) = fun i y => 0 - hd h x i y := by
  funext i y; exact neg_apply _ _ _
theorem hd_gcum (h : Fin 2) : hd h (gcum (mk 0) (mk 1) q k a (v 0) (v 1) (g 0) (g 1) (s 0) (s 1) (d 0) (d 1))
    = Spec.gcum (hd h q) (hd h k) (hd h a) (hv (v h)) (hv (g h)) (hs h (s h)) (hs h (d h)) := by
  unfold gcum
  simp only [hd_add, hd_neg, hd_mul, hd_ge, hd_gki, hd_gqd, hd_ei, hd_ec, hd_qs]; rfl
theorem hd_ga (h : Fin 2) (hd' : ∀ h, only h (d h)) :
    hd h (ga (mk 0) (mk 1) q k a (v 0) (v 1) (g 0) (g 1) (s 0) (s 1) (d 0) (d 1))
      = Spec.ga (hd h q) (hd h k) (hd h a) (hv (v h)) (hv (g h)) (hs h (s h)) (hs h (d h)) := by
  funext i x
  have hb : ∀ (y : FVec 𝕀 S1x128 .f32) (z : M64 𝕀) (l : Fin 128), addf (broadcastTo S64x128 (rowSum y) broadcasts_S1x128_S64x128) (back z) (ix2 i l)
      = rowSum y (ix2 0 l) + back z (ix2 i l) := fun y z l => by pointwise []
  refine (hb _ _ _).trans ?_
  rw [rowSum_apply, gtot_lane k a v s d h hd', back_apply]
  refine congrArg (_ + ·) (Finset.sum_congr rfl fun j _ => if_congr Iff.rfl ?_ rfl)
  exact congrFun (congrFun (hd_gcum q k a v g s d h) j) x
end

end Cert.KernelIdeal.Chunk

end
-- ==== Proof.Gla.Stores.lean ====
module

public import proofs.«01_k».proof.Proof.Gla.Entry

@[expose] public section

noncomputable section

/-! What the chunks' stores leave, and what the loads of a block read, at an entry. -/

namespace Cert.KernelIdeal.Chunk

open Cert.KernelIdeal Cert.KernelIdeal.Gen Cert.Proof
open Idealize.ShloMosaic

local notation "𝕀" => Idealize.ShloMosaic.Ideal

section
variable (v : View sig .tc .vmem S512x256 .f32) (f : v.ty.Contents (Elt 𝕀)) (g : Fin 2 → ℕ → M64 𝕀)

def blkV (g : Fin 2 → ℕ → M64 𝕀) : Vec 𝕀 S512x256 .f32 := fun y =>
  g ⟨(y 1).val / 128, by have h : (y 1).val < 256 := (y 1).isLt; omega⟩ ((y 0).val / 64) (ix2 ⟨(y 0).val % 64, by omega⟩ ⟨(y 1).val % 128, by omega⟩)
theorem read_V (L : List (Fin 2 × ℕ)) (hL : ∀ p ∈ L, p.2 < 8) (hL' : ∀ (h : Fin 2) (n : Fin 8), (h, n.val) ∈ L) :
    v.read (Elt 𝕀) (v.writes (Elt 𝕀) f (L.map (pcV g))) = blkV g := by
  funext y
  refine View.read_writes_apply_of_pieces v f (blkV g) _ ?_ y ?_
  · intro p hp x
    obtain ⟨⟨h, n⟩, hq, rfl⟩ := List.mem_map.mp hp
    have hn : n < 8 := hL _ hq
    have hx0 : (x 0).val < 64 := (x 0).isLt
    have hx1 : (x 1).val < 128 := (x 1).isLt
    have e0 : (((boxV h n).emb x) 0).val = 64 * (n % 8) + 1 * (x 0).val := rfl
    have e1 : (((boxV h n).emb x) 1).val = 128 * h.val + 1 * (x 1).val := rfl
    show g h n x = blkV g ((boxV h n).emb x)
    unfold blkV
    simp only [e0, e1]
    have a1 : (⟨(128 * h.val + 1 * (x 1).val) / 128, by omega⟩ : Fin 2) = h := Fin.ext (by show (128 * h.val + 1 * (x 1).val) / 128 = h.val; omega)
    have a2 : (64 * (n % 8) + 1 * (x 0).val) / 64 = n := by omega
    have a3 : (ix2 ⟨(64 * (n % 8) + 1 * (x 0).val) % 64, by omega⟩ ⟨(128 * h.val + 1 * (x 1).val) % 128, by omega⟩ : S64x128.Idx) = x := by
      refine Eq.trans ?_ (eq_ix2 x).symm
      refine congrArg₂ ix2 (Fin.ext ?_) (Fin.ext ?_)
      · show (64 * (n % 8) + 1 * (x 0).val) % 64 = (x 0).val; omega
      · show (128 * h.val + 1 * (x 1).val) % 128 = (x 1).val; omega
    rw [a1, a2, a3]
  · have h0 : (y 0).val < 512 := (y 0).isLt
    have h1 : (y 1).val < 256 := (y 1).isLt
    refine ⟨_, List.mem_map.mpr ⟨_, hL' ⟨(y 1).val / 128, by omega⟩ ⟨(y 0).val / 64, by omega⟩, rfl⟩, ?_⟩
    refine (Rect.mem_set_unit (inb := inbV _ _)).mpr fun a => ?_
    fin_cases a
    · show 64 * ((y 0).val / 64 % 8) ≤ (y 0).val ∧ (y 0).val < 64 * ((y 0).val / 64 % 8) + 64; omega
    · show 128 * ((y 1).val / 128) ≤ (y 1).val ∧ (y 1).val < 128 * ((y 1).val / 128) + 128; omega
end

section
variable (v : View sig .tc .vmem S512x128 .f32) (f : v.ty.Contents (Elt 𝕀)) (g : ℕ → M64 𝕀)

def blkQ (g : ℕ → M64 𝕀) : Vec 𝕀 S512x128 .f32 := fun y =>
  g ((y 0).val / 64) (ix2 ⟨(y 0).val % 64, by omega⟩ ⟨(y 1).val, (y 1).isLt⟩)
theorem read_Q (L : List ℕ) (hL : ∀ p ∈ L, p < 8) (hL' : ∀ (n : Fin 8), n.val ∈ L) :
    v.read (Elt 𝕀) (v.writes (Elt 𝕀) f (L.map (pcQ g))) = blkQ g := by
  funext y
  refine View.read_writes_apply_of_pieces v f (blkQ g) _ ?_ y ?_
  · intro p hp x
    obtain ⟨n, hq, rfl⟩ := List.mem_map.mp hp
    have hn : n < 8 := hL _ hq
    have hx0 : (x 0).val < 64 := (x 0).isLt
    have hx1 : (x 1).val < 128 := (x 1).isLt
    have e0 : (((boxQ n).emb x) 0).val = 64 * (n % 8) + 1 * (x 0).val := rfl
    have e1 : (((boxQ n).emb x) 1).val = 0 + 1 * (x 1).val := rfl
    show g n x = blkQ g ((boxQ n).emb x)
    unfold blkQ
    simp only [e0, e1]
    have a2 : (64 * (n % 8) + 1 * (x 0).val) / 64 = n := by omega
    have a3 : (ix2 ⟨(64 * (n % 8) + 1 * (x 0).val) % 64, by omega⟩ ⟨0 + 1 * (x 1).val, by omega⟩ : S64x128.Idx) = x := by
      refine Eq.trans ?_ (eq_ix2 x).symm
      refine congrArg₂ ix2 (Fin.ext ?_) (Fin.ext ?_)
      · show (64 * (n % 8) + 1 * (x 0).val) % 64 = (x 0).val; omega
      · show 0 + 1 * (x 1).val = (x 1).val; omega
    rw [a2, a3]
  · have h0 : (y 0).val < 512 := (y 0).isLt
    have h1 : (y 1).val < 128 := (y 1).isLt
    refine ⟨_, List.mem_map.mpr ⟨_, hL' ⟨(y 0).val / 64, by omega⟩, rfl⟩, ?_⟩
    refine (Rect.mem_set_unit (inb := inbQ _)).mpr fun a => ?_
    fin_cases a
    · show 64 * ((y 0).val / 64 % 8) ≤ (y 0).val ∧ (y 0).val < 64 * ((y 0).val / 64 % 8) + 64; omega
    · show 0 ≤ (y 1).val ∧ (y 1).val < 0 + 128; omega
end

/-! Unit axes in front. -/

theorem cast3 (x : FVec 𝕀 S1x128x128 .f32) (e l : Fin 128) : shapeCast S128x128 x shapeCasts_S1x128x128_S128x128 (ix2 e l) = x (ix3 0 e l) := by
  pointwise []
theorem cast3' (x : St 𝕀) (e l : Fin 128) : shapeCast S1x128x128 x shapeCasts_S128x128_S1x128x128 (ix3 0 e l) = x (ix2 e l) := by
  pointwise []
theorem cast4 (x : FVec 𝕀 S1x1x128x128 .f32) (e l : Fin 128) : shapeCast S128x128 x shapeCasts_S1x1x128x128_S128x128 (ix2 e l) = x (ix4 0 0 e l) := by
  pointwise []
theorem cast4' (x : St 𝕀) (e l : Fin 128) : shapeCast S1x1x128x128 x shapeCasts_S128x128_S1x1x128x128 (ix4 0 0 e l) = x (ix2 e l) := by
  pointwise []

theorem ldQ_apply (x : Vec 𝕀 S512x128 .f32) (k : ℕ) (i : Fin 64) (l : Fin 128) : ldQ x k (ix2 i l) = x (ix2 ⟨64 * (k % 8) + i.val, by omega⟩ l) := by
  pointwise [ldQ]
theorem ldV_apply (x : Vec 𝕀 S512x256 .f32) (h : Fin 2) (k : ℕ) (i : Fin 64) (l : Fin 128) :
    ldV x h k (ix2 i l) = x (ix2 ⟨64 * (k % 8) + i.val, by omega⟩ ⟨128 * h.val + l.val, by omega⟩) := by
  pointwise [ldV]
theorem ldS_apply (x : Vec 𝕀 S2x128x128 .f32) (h : Fin 2) (e l : Fin 128) : ldS x h (ix2 e l) = x (ix3 h e l) := by
  unfold ldS
  rw [cast3]
  show x ((boxS h).idx (ix3 0 e l)) = _
  refine congrArg x (funext fun a => Fin.ext ?_)
  fin_cases a
  · show h.val + 1 * 0 = h.val; omega
  · show 0 + 1 * e.val = e.val; omega
  · show 0 + 1 * l.val = l.val; omega
theorem ldT_apply (x : Vec 𝕀 S8x2x128x128 .f32) (h : Fin 2) (k : ℕ) (e l : Fin 128) : ldT x h k (ix2 e l) = x (ix4 ⟨k % 8, by omega⟩ h e l) := by
  unfold ldT
  rw [cast4]
  show x ((boxT h k).idx (ix4 0 0 e l)) = _
  refine congrArg x (funext fun a => Fin.ext ?_)
  fin_cases a
  · show k % 8 + 1 * 0 = k % 8; omega
  · show h.val + 1 * 0 = h.val; omega
  · show 0 + 1 * e.val = e.val; omega
  · show 0 + 1 * l.val = l.val; omega

section
variable (v : View sig .tc .vmem S2x128x128 .f32) (f : v.ty.Contents (Elt 𝕀)) (g : Fin 2 → St 𝕀)

def blkS (g : Fin 2 → St 𝕀) : Vec 𝕀 S2x128x128 .f32 := fun y => g ⟨(y 0).val, (y 0).isLt⟩ (ix2 ⟨(y 1).val, (y 1).isLt⟩ ⟨(y 2).val, (y 2).isLt⟩)
theorem ldS_blkS : ldS (blkS g) = g := by
  funext h y
  idx_vars y
  rw [ldS_apply]; rfl
theorem piece_S (h : Fin 2) (x : S1x128x128.Idx) :
    (shapeCast S1x128x128 (g h) shapeCasts_S128x128_S1x128x128 : FVec 𝕀 S1x128x128 .f32) x = blkS g ((boxS h).emb x) := by
  obtain ⟨u, e, l, rfl⟩ : ∃ (u : Fin 1) (e l : Fin 128), x = ix3 u e l := ⟨x 0, x 1, x 2, eq_ix3 x⟩
  obtain rfl : u = 0 := Subsingleton.elim _ _
  rw [cast3']
  have e0 : (((boxS h).emb (ix3 0 e l)) 0).val = h.val + 1 * 0 := rfl
  have e1 : (((boxS h).emb (ix3 0 e l)) 1).val = 0 + 1 * e.val := rfl
  have e2 : (((boxS h).emb (ix3 0 e l)) 2).val = 0 + 1 * l.val := rfl
  unfold blkS
  simp only [e0, e1, e2]
  simp
theorem read_S (L : List (View.Piece (Elt 𝕀) S2x128x128 .f32)) : v.read (Elt 𝕀) (v.writes (Elt 𝕀) f ([pcS g 1, pcS g 0] ++ L)) = blkS g := by
  funext y
  have key : ∀ h x, ∀ M, v.read (Elt 𝕀) (v.writes (Elt 𝕀) f (pcS g h :: M)) ((boxS h).emb x) = blkS g ((boxS h).emb x) := fun h x M =>
    (View.read_writes_cons_emb v f (boxS h) _ M x).trans (piece_S g h x)
  by_cases h1 : (y 0).val = 1
  · obtain ⟨x, rfl⟩ : ∃ x, (boxS 1).emb x = y := (boxS 1).exists_idx_of_mem (Rect.mem_set_unit.mpr fun a => by
      have i1 : (y 1).val < 128 := (y 1).isLt
      have i2 : (y 2).val < 128 := (y 2).isLt
      fin_cases a
      · show 1 ≤ (y 0).val ∧ (y 0).val < 1 + 1; omega
      · show 0 ≤ (y 1).val ∧ (y 1).val < 0 + 128; omega
      · show 0 ≤ (y 2).val ∧ (y 2).val < 0 + 128; omega)
    exact key 1 x _
  · have i0 : (y 0).val < 2 := (y 0).isLt
    obtain ⟨x, rfl⟩ : ∃ x, (boxS 0).emb x = y := (boxS 0).exists_idx_of_mem (Rect.mem_set_unit.mpr fun a => by
      have i1 : (y 1).val < 128 := (y 1).isLt
      have i2 : (y 2).val < 128 := (y 2).isLt
      fin_cases a
      · show 0 ≤ (y 0).val ∧ (y 0).val < 0 + 1; omega
      · show 0 ≤ (y 1).val ∧ (y 1).val < 0 + 128; omega
      · show 0 ≤ (y 2).val ∧ (y 2).val < 0 + 128; omega)
    have hm : (boxS 0).emb x ∉ (boxS 1).set := fun hm => h1 (by
      have := (Rect.mem_set_unit.mp hm) 0
      have t : 1 ≤ (((boxS 0).emb x) 0).val := this.1
      omega)
    show v.read (Elt 𝕀) (v.writes (Elt 𝕀) f (pcS g 1 :: (pcS g 0 :: L))) _ = _
    exact (View.read_writes_cons_miss v f (pcS g 1) (pcS g 0 :: L) ((boxS 0).emb x) hm).trans (key 0 x _)
end

section
variable (v : View sig .tc .vmem S8x2x128x128 .f32) (f : v.ty.Contents (Elt 𝕀)) (g : Fin 2 → ℕ → St 𝕀)

def blkT (g : Fin 2 → ℕ → St 𝕀) : Vec 𝕀 S8x2x128x128 .f32 := fun y =>
  g ⟨(y 1).val, (y 1).isLt⟩ (y 0).val (ix2 ⟨(y 2).val, (y 2).isLt⟩ ⟨(y 3).val, (y 3).isLt⟩)
theorem read_T (L : List (Fin 2 × ℕ)) (hL : ∀ p ∈ L, p.2 < 8) (hL' : ∀ (h : Fin 2) (n : Fin 8), (h, n.val) ∈ L) :
    v.read (Elt 𝕀) (v.writes (Elt 𝕀) f (L.map (pcT g))) = blkT g := by
  funext y
  refine View.read_writes_apply_of_pieces v f (blkT g) _ ?_ y ?_
  · intro p hp x
    obtain ⟨⟨h, n⟩, hq, rfl⟩ := List.mem_map.mp hp
    have hn : n < 8 := hL _ hq
    obtain ⟨u, w, e, l, rfl⟩ : ∃ (u w : Fin 1) (e l : Fin 128), x = ix4 u w e l := ⟨x 0, x 1, x 2, x 3, eq_ix4 x⟩
    obtain rfl : u = 0 := Subsingleton.elim _ _
    obtain rfl : w = 0 := Subsingleton.elim _ _
    have e0 : (((boxT h n).emb (ix4 0 0 e l)) 0).val = n % 8 + 1 * 0 := rfl
    have e1 : (((boxT h n).emb (ix4 0 0 e l)) 1).val = h.val + 1 * 0 := rfl
    have e2 : (((boxT h n).emb (ix4 0 0 e l)) 2).val = 0 + 1 * e.val := rfl
    have e3 : (((boxT h n).emb (ix4 0 0 e l)) 3).val = 0 + 1 * l.val := rfl
    refine (cast4' (g h n) e l).trans ?_
    unfold blkT
    simp only [e0, e1, e2, e3]
    simp [Nat.mod_eq_of_lt hn]
  · have h0 : (y 0).val < 8 := (y 0).isLt
    have h1 : (y 1).val < 2 := (y 1).isLt
    have h2 : (y 2).val < 128 := (y 2).isLt
    have h3 : (y 3).val < 128 := (y 3).isLt
    refine ⟨_, List.mem_map.mpr ⟨_, hL' ⟨(y 1).val, h1⟩ ⟨(y 0).val, h0⟩, rfl⟩, ?_⟩
    refine (Rect.mem_set_unit (inb := inbT _ _)).mpr fun a => ?_
    fin_cases a
    · show (y 0).val % 8 ≤ (y 0).val ∧ (y 0).val < (y 0).val % 8 + 1; omega
    · show (y 1).val ≤ (y 1).val ∧ (y 1).val < (y 1).val + 1; omega
    · show 0 ≤ (y 2).val ∧ (y 2).val < 0 + 128; omega
    · show 0 ≤ (y 3).val ∧ (y 3).val < 0 + 128; omega
end

end Cert.KernelIdeal.Chunk

end
-- ==== Proof.Fwd.Bridge.lean ====
module

public import proofs.«01_k».proof.Proof.Gla.Tiles
public import proofs.«01_k».proof.Proof.Fwd.Frame
import all proofs.«01_k».proof.Proof.Fwd.RunA
import all proofs.«01_k».proof.Proof.Fwd.RunB

@[expose] public section

noncomputable section

/-! What the body stores is the chunks' functions. -/

namespace Cert.KernelIdeal.Fwd

open Cert.KernelIdeal Cert.KernelIdeal.Gen Cert.KernelIdeal.Chunk
open Idealize.ShloMosaic Idealize.ShloMosaic.Tactic

variable {F : FTy → Type} [FloatOps F]

abbrev mk (h : Fin 2) : FVec F S1x128 .f32 := ![lanes 0#32 64#32, lanes 64#32 128#32] h

/-- Head `h`'s state before chunk `n` of a block. -/
def stF (k a : ℕ → M64 F) (v : Fin 2 → ℕ → M64 F) (s : Fin 2 → St F) (h : Fin 2) (n : ℕ) : St F := stAt (mk h) k a (v h) (s h) n
def outF (q k a : ℕ → M64 F) (v : Fin 2 → ℕ → M64 F) (s : Fin 2 → St F) (h : Fin 2) (n : ℕ) : M64 F := out (mk h) (q n) (k n) (a n) (v h n) (stF k a v s h n)
abbrev order4 : List (Fin 2 × ℕ) := [(1, 7), (0, 7), (1, 6), (0, 6), (1, 5), (0, 5), (1, 4), (0, 4), (1, 3), (0, 3), (1, 2), (0, 2), (1, 1), (0, 1), (1, 0), (0, 0)]

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S2x128x128 .f32) (harg8 : arg8.IsWhole)
    (hc0 : cond0_0 i) (x0 x1 x2 : Vec F S512x128 .f32) (x3 : Vec F S512x256 .f32)
theorem pieces4_A :
    (kernelRun0_A c i arg2 harg2 arg3 harg3 arg4 harg4 arg5 harg5 arg6 harg6 arg7 harg7 arg8 harg8 hc0 x0 x1 x2 x3).1 = order4.map (pcV (outF (rdQ arg2 (harg2.unread x0)) (rdQ arg3 (harg3.unread x1)) (rdQ arg4 (harg4.unread x2)) (rdV arg5 (harg5.unread x3)) (fun h => ![k0_pay4 (kernelRun0_A.sl.v3 c arg8), k0_pay5 (kernelRun0_A.sl.v5 c arg8)] h))) := by
  unfold kernelRun0_A
  chain_rfl
theorem pieces5_A :
    (kernelRun0_A c i arg2 harg2 arg3 harg3 arg4 harg4 arg5 harg5 arg6 harg6 arg7 harg7 arg8 harg8 hc0 x0 x1 x2 x3).2.1 = order4.map (pcT (stF (rdQ arg3 (harg3.unread x1)) (rdQ arg4 (harg4.unread x2)) (rdV arg5 (harg5.unread x3)) (fun h => ![k0_pay4 (kernelRun0_A.sl.v3 c arg8), k0_pay5 (kernelRun0_A.sl.v5 c arg8)] h))) := by
  unfold kernelRun0_A
  chain_rfl
theorem piecesS_A :
    (kernelRun0_A c i arg2 harg2 arg3 harg3 arg4 harg4 arg5 harg5 arg6 harg6 arg7 harg7 arg8 harg8 hc0 x0 x1 x2 x3).2.2.1 = [pcS (fun h => stF (rdQ arg3 (harg3.unread x1)) (rdQ arg4 (harg4.unread x2)) (rdV arg5 (harg5.unread x3)) (fun h => ![k0_pay4 (kernelRun0_A.sl.v3 c arg8), k0_pay5 (kernelRun0_A.sl.v5 c arg8)] h) h 8) 1, pcS (fun h => stF (rdQ arg3 (harg3.unread x1)) (rdQ arg4 (harg4.unread x2)) (rdV arg5 (harg5.unread x3)) (fun h => ![k0_pay4 (kernelRun0_A.sl.v3 c arg8), k0_pay5 (kernelRun0_A.sl.v5 c arg8)] h) h 8) 0] ++ kernelRun0_A.sl.HS0_1 := by
  unfold kernelRun0_A
  chain_rfl
end

section
variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S2x128x128 .f32) (harg8 : arg8.IsWhole)
    (hc0 : ¬cond0_0 i) (x0 x1 x2 : Vec F S512x128 .f32) (x3 : Vec F S512x256 .f32) (xs0 : Vec F S2x128x128 .f32)
theorem pieces4_B :
    (kernelRun0_B c i arg2 harg2 arg3 harg3 arg4 harg4 arg5 harg5 arg6 harg6 arg7 harg7 arg8 harg8 hc0 x0 x1 x2 x3 xs0).1 = order4.map (pcV (outF (rdQ arg2 (harg2.unread x0)) (rdQ arg3 (harg3.unread x1)) (rdQ arg4 (harg4.unread x2)) (rdV arg5 (harg5.unread x3)) (rdS arg8 (harg8.unread xs0)))) := by
  unfold kernelRun0_B
  chain_rfl
theorem pieces5_B :
    (kernelRun0_B c i arg2 harg2 arg3 harg3 arg4 harg4 arg5 harg5 arg6 harg6 arg7 harg7 arg8 harg8 hc0 x0 x1 x2 x3 xs0).2.1 = order4.map (pcT (stF (rdQ arg3 (harg3.unread x1)) (rdQ arg4 (harg4.unread x2)) (rdV arg5 (harg5.unread x3)) (rdS arg8 (harg8.unread xs0)))) := by
  unfold kernelRun0_B
  chain_rfl
theorem piecesS_B :
    (kernelRun0_B c i arg2 harg2 arg3 harg3 arg4 harg4 arg5 harg5 arg6 harg6 arg7 harg7 arg8 harg8 hc0 x0 x1 x2 x3 xs0).2.2.1 = [pcS (fun h => stF (rdQ arg3 (harg3.unread x1)) (rdQ arg4 (harg4.unread x2)) (rdV arg5 (harg5.unread x3)) (rdS arg8 (harg8.unread xs0)) h 8) 1, pcS (fun h => stF (rdQ arg3 (harg3.unread x1)) (rdQ arg4 (harg4.unread x2)) (rdV arg5 (harg5.unread x3)) (rdS arg8 (harg8.unread xs0)) h 8) 0] := by
  unfold kernelRun0_B
  chain_rfl

end

end Cert.KernelIdeal.Fwd

end
-- ==== Proof.Fwd.Block.lean ====
module

public import proofs.«01_k».proof.Proof.Gla.Stores
public import proofs.«01_k».proof.Proof.Fwd.Bridge
import all proofs.«01_k».proof.Proof.Fwd.RunA
import all proofs.«01_k».proof.Proof.Fwd.RunB

@[expose] public section

noncomputable section

/-! What each grid point leaves in its blocks and in the carried state, as the chunks' functions of the point's input blocks. -/

namespace Cert.KernelIdeal.Fwd

open Cert.KernelIdeal Cert.KernelIdeal.Gen Cert.KernelIdeal.Chunk
open Idealize.ShloMosaic Idealize.ShloMosaic.TcCoe

local notation "𝕀" => Idealize.ShloMosaic.Ideal

/-- The zero state. -/
abbrev zS : Fin 2 → St 𝕀 := fun _ _ => 0

theorem start_A (c : Dev nD) (arg8 : Memref sig .tc .vmem S2x128x128 .f32) :
    (fun h => ![k0_pay4 (F := 𝕀) (kernelRun0_A.sl.v3 c arg8), k0_pay5 (kernelRun0_A.sl.v5 c arg8)] h) = zS := by
  have z : ∀ (B : LoadRect S2x128x128) (x), arg8.view.readCov (Val := Elt 𝕀) kernelRun0_A.sl.HS0_1 B x = (0 : EReal) := fun B x => by
    show arg8.view.read (Elt 𝕀) (arg8.view.writes (Elt 𝕀) arg8.view.junk kernelRun0_A.sl.HS0_1) (B.idx x) = _
    refine View.read_writes_apply_of_pieces (Val := Elt 𝕀) arg8.view _ ((fun _ => (0 : EReal)) : S2x128x128.Idx → Elt 𝕀 .f32) _ ?_ _ ?_
    · intro p hp y
      obtain rfl : p = _ := List.mem_singleton.mp hp
      show k0_pay3 (F := 𝕀) y = 0
      unfold k0_pay3
      show shapeCast S2x128x128 (broadcast S2x128x128 (Scalar.ofBits .f32 0x00000000#32) : FVec 𝕀 S2x128x128 .f32) _ y = 0
      exact Ideal.ofBits_zero_f32
    · refine ⟨_, List.mem_singleton.mpr rfl, (Rect.mem_set_unit (inb := inb_S2x128x128_S2x128x128_0_0_0)).mpr fun a => ?_⟩
      fin_cases a
      · exact ⟨Nat.zero_le _, (B.idx x 0).isLt.trans_eq (Nat.zero_add _).symm⟩
      · exact ⟨Nat.zero_le _, (B.idx x 1).isLt.trans_eq (Nat.zero_add _).symm⟩
      · exact ⟨Nat.zero_le _, (B.idx x 2).isLt.trans_eq (Nat.zero_add _).symm⟩
  funext h y
  obtain ⟨e, l, rfl⟩ : ∃ e l : Fin 128, y = ix2 e l := ⟨y 0, y 1, eq_ix2 y⟩
  have z4 : k0_pay4 (F := 𝕀) (kernelRun0_A.sl.v3 c arg8) (ix2 e l) = (0 : EReal) := by
    unfold k0_pay4; refine (cast3 (kernelRun0_A.sl.v3 (F := 𝕀) c arg8) e l).trans ?_; unfold kernelRun0_A.sl.v3; exact z _ _
  have z5 : k0_pay5 (F := 𝕀) (kernelRun0_A.sl.v5 c arg8) (ix2 e l) = (0 : EReal) := by
    unfold k0_pay5; refine (cast3 (kernelRun0_A.sl.v5 (F := 𝕀) c arg8) e l).trans ?_; unfold kernelRun0_A.sl.v5; exact z _ _
  fin_cases h
  · exact z4
  · exact z5

variable (V : (c : Dev nD) → (b : Ref sig .tc) → Buf (Elt 𝕀) (c.tc.loc b))

section
variable (c : Dev nD) (t : Fin cfg0.N)
abbrev bq : ℕ → M64 𝕀 := ldQ (iblk V c 0 t)
abbrev bk : ℕ → M64 𝕀 := ldQ (iblk V c 1 t)
abbrev ba : ℕ → M64 𝕀 := ldQ (iblk V c 2 t)
abbrev bv : Fin 2 → ℕ → M64 𝕀 := ldV (X0_3 V c t)

/-- What a point leaves, its carried state entering at `s0`. -/
def leaves (s0 : Fin 2 → St 𝕀) : Vec 𝕀 S512x256 .f32 × Vec 𝕀 S8x2x128x128 .f32 × Vec 𝕀 S2x128x128 .f32 :=
  (blkV (outF (bq V c t) (bk V c t) (ba V c t) (bv V c t) s0), blkT (stF (bk V c t) (ba V c t) (bv V c t) s0), blkS (fun h => stF (bk V c t) (ba V c t) (bv V c t) s0 h 8))

theorem outs_A (h0 : t.val % 8 = 0) : outsAt0 V c t.val t.isLt = leaves V c t zS := by
  rw [outsAt0_A V c t h0]
  unfold atA leaves
  refine congrArg₂ Prod.mk ?_ ?_
  · rw [pieces4_A, read_V _ _ _ order4 (by decide) (by decide)]
    simp only [rdQ_unread, rdV_unread, start_A]
  refine congrArg₂ Prod.mk ?_ ?_
  · rw [pieces5_A, read_T _ _ _ order4 (by decide) (by decide)]
    simp only [rdQ_unread, rdV_unread, start_A]
  · rw [piecesS_A]
    refine (read_S _ _ _ _).trans ?_
    simp only [rdQ_unread, rdV_unread, start_A]

theorem outs_B (h0 : ¬t.val % 8 = 0) : outsAt0 V c t.val t.isLt = leaves V c t (ldS (outsAt0 V c (t.val - 1) (Nat.lt_of_le_of_lt (Nat.sub_le _ _) t.isLt)).2.2) := by
  rw [outsAt0_B V c t h0]
  unfold atB leaves
  refine congrArg₂ Prod.mk ?_ ?_
  · rw [pieces4_B, read_V _ _ _ order4 (by decide) (by decide)]
    simp only [rdQ_unread, rdV_unread, rdS_unread]
  refine congrArg₂ Prod.mk ?_ ?_
  · rw [pieces5_B, read_T _ _ _ order4 (by decide) (by decide)]
    simp only [rdQ_unread, rdV_unread, rdS_unread]
  · rw [piecesS_B]
    refine (read_S _ _ _ []).trans ?_
    simp only [rdQ_unread, rdV_unread, rdS_unread]

end

end Cert.KernelIdeal.Fwd

end
-- ==== Proof.Gla.Whole.lean ====
module

public import proofs.«01_k».proof.Proof.Gla.Spec

@[expose] public section

noncomputable section

/-! The whole sequence: the heads' chunks of the arrays, and the five results entry by entry. -/

namespace Cert.Proof.Whole

open Idealize.ShloMosaic Cert.Proof.Spec

/-- Row `i` of chunk `n`. -/
def row (n : ℕ) (i : Fin 64) : Fin 4096 := ⟨(64 * n + i.val) % 4096, Nat.mod_lt _ (by norm_num)⟩

section
variable (P : Fin 4096 → Fin 2176 → EReal) (A : Fin 4096 → Fin 256 → EReal) (G : Fin 4096 → Fin 512 → EReal)
def Qh (h : Fin 4) (n : ℕ) : K64 := fun i x => P (row n i) ⟨64 * h.val + x.val, by omega⟩
def Kh (h : Fin 4) (n : ℕ) : K64 := fun i x => P (row n i) ⟨256 + (64 * h.val + x.val), by omega⟩
def Vh (h : Fin 4) (n : ℕ) : V64 := fun i e => P (row n i) ⟨512 + (128 * h.val + e.val), by omega⟩
def Ah (h : Fin 4) (n : ℕ) : K64 := fun i x => A (row n i) ⟨64 * h.val + x.val, by omega⟩
def Gh (h : Fin 4) (n : ℕ) : V64 := fun i e => G (row n i) ⟨128 * h.val + e.val, by omega⟩
/-- Head `h`'s state before chunk `n`. -/
def S (h : Fin 4) (n : ℕ) : V64 := st (Kh P h) (Ah A h) (Vh P h) n
/-- Head `h`'s state gradient after chunk `63 - m`. -/
def T (h : Fin 4) (m : ℕ) : V64 := dst (Qh P h) (Ah A h) (Gh G h) m

def oO (h : Fin 4) (n : ℕ) : V64 := out (Qh P h n) (Kh P h n) (Ah A h n) (Vh P h n) (S P A h n)
def oV (h : Fin 4) (n : ℕ) : V64 := gv (Qh P h n) (Kh P h n) (Ah A h n) (Gh G h n) (T P A G h (63 - n))
def oQ (h : Fin 4) (n : ℕ) : K64 := gq (Kh P h n) (Ah A h n) (Vh P h n) (Gh G h n) (S P A h n)
def oK (h : Fin 4) (n : ℕ) : K64 := gk (Qh P h n) (Ah A h n) (Vh P h n) (Gh G h n) (T P A G h (63 - n))
def oA (h : Fin 4) (n : ℕ) : K64 := ga (Qh P h n) (Kh P h n) (Ah A h n) (Vh P h n) (Gh G h n) (S P A h n) (T P A G h (63 - n))

/-- An array of the heads' values, row by row. -/
def rowsV (f : Fin 4 → ℕ → V64) : (⟨2, ![4096, 512]⟩ : Shape).Idx → EReal := fun y =>
  f ⟨(y 1).val / 128, by have h : (y 1).val < 512 := (y 1).isLt; omega⟩ ((y 0).val / 64) ⟨(y 0).val % 64, by omega⟩ ⟨(y 1).val % 128, by omega⟩
/-- An array of the heads' keys, row by row. -/
def rowsK (f : Fin 4 → ℕ → K64) : (⟨2, ![4096, 256]⟩ : Shape).Idx → EReal := fun y =>
  f ⟨(y 1).val / 64, by have h : (y 1).val < 256 := (y 1).isLt; omega⟩ ((y 0).val / 64) ⟨(y 0).val % 64, by omega⟩ ⟨(y 1).val % 64, by omega⟩
/-- The saved states: of each chunk and head, value lanes by the pair's key lanes, the other head's zero. -/
def states : (⟨4, ![64, 4, 128, 128]⟩ : Shape).Idx → EReal := fun y =>
  if (y 3).val / 64 = (y 1).val % 2 then
    S P A ⟨(y 1).val, (y 1).isLt⟩ (y 0).val ⟨(y 3).val % 64, by omega⟩ ⟨(y 2).val, (y 2).isLt⟩
  else 0
end

end Cert.Proof.Whole

end
-- ==== Proof.Ffn.Index.lean ====
module

public import Idealize.ShloMosaic.Lib.Pointwise
public import Idealize.ShloMosaic.Lib.Claim

@[expose] public section

/-! Indices by their coordinates. -/

namespace Cert.Proof

open Idealize.ShloMosaic

abbrev 𝕀 := Idealize.ShloMosaic.Ideal

/-- What a device's buffer holds. -/
abbrev ar {nD : ℕ} {τ : Topo} {sig : RefSig} {Val : EltTy → Type} (m : (ℓ : Loc nD τ sig) → Buf Val ℓ) (c : Dev nD) (b : Ref sig .tc) :
    Buf Val ((c.tc : Thread nD τ).loc b) := m (c.tc.loc b)

theorem idx2_ext {a b : ℕ} {i j : (⟨2, ![a, b]⟩ : Shape).Idx} (h0 : (i 0).val = (j 0).val) (h1 : (i 1).val = (j 1).val) : i = j := by
  funext x
  match x with
  | ⟨0, _⟩ => exact Fin.ext h0
  | ⟨1, _⟩ => exact Fin.ext h1

theorem idx3_ext {a b c : ℕ} {i j : (⟨3, ![a, b, c]⟩ : Shape).Idx} (h0 : (i 0).val = (j 0).val) (h1 : (i 1).val = (j 1).val)
    (h2 : (i 2).val = (j 2).val) : i = j := by
  funext x
  match x with
  | ⟨0, _⟩ => exact Fin.ext h0
  | ⟨1, _⟩ => exact Fin.ext h1
  | ⟨2, _⟩ => exact Fin.ext h2

theorem hz2 : (![0, 0] : Fin 2 → Nat) = fun _ => 0 := funext fun a => by fin_cases a <;> rfl
theorem hz3 : (![0, 0, 0] : Fin 3 → Nat) = fun _ => 0 := funext fun a => by fin_cases a <;> rfl

/-- Where an index of a block, or of a slice, lies: on an axis the block spans, and on one that is cut into blocks. -/
theorem at_sub (x : ℕ) : 0 + 1 * x = x := by omega
theorem at_all {k : ℕ} (h : k = 0) (b x : ℕ) : k * b + 1 * x = x := by subst h; omega
theorem at_blk {k t b x y : ℕ} (h : k = t) (hy : t * b + x = y) : k * b + 1 * x = y := by subst h; omega

/-- The block an index lies in. -/
theorem in_all {k b i : ℕ} (h : k = 0) (hi : i < b) : k * b ≤ i ∧ i < k * b + b := by subst h; omega
theorem in_blk {k b i : ℕ} (h : k = i / b) (hb : 0 < b) : k * b ≤ i ∧ i < k * b + b := by
  subst h
  have := Nat.div_add_mod' i b
  have := Nat.mod_lt i hb
  omega

theorem in_slice {sig : RefSig} {κ : Kind} {b : Ref sig κ} {off size : Fin b.ty.shape.rank → Nat} {h} {i : b.ty.shape.Idx}
    (H : ∀ a, off a ≤ (i a).val ∧ (i a).val < off a + size a) : i ∈ ((View.whole b).slice (Rect.unit off size h)).set := by
  rw [View.set_slice_whole, Rect.mem_set_unit]
  exact H

end Cert.Proof

end
-- ==== Proof.Fwd.Value.lean ====
module

public import proofs.«01_k».proof.Proof.Fwd.Block
public import proofs.«01_k».proof.Proof.Gla.Whole
public import proofs.«01_k».proof.Proof.Ffn.Index

@[expose] public section

noncomputable section

/-! The forward call's arrays after its run, as the whole sequence's recurrence. -/

namespace Cert.KernelIdeal.Fwd

open Cert.KernelIdeal Cert.KernelIdeal.Gen Cert.KernelIdeal.Chunk Cert.Proof
open Idealize.ShloMosaic Idealize.ShloMosaic.TcCoe
open Idealize.ShloMosaic.Pipeline (Dat Cfg Window)

local notation "𝕀" => Idealize.ShloMosaic.Ideal

variable (V : (c : Dev nD) → (b : Ref sig .tc) → Buf (Elt 𝕀) ((c : Thread nD τ).loc b))

section
variable (c : Dev nD)

/-- The call's two arrays, by row and column. -/
def P (r : Fin 4096) (x : Fin 2176) : EReal := V c main_arg0 (ix2 r x)
def A (r : Fin 4096) (x : Fin 256) : EReal := V c main_arg1 (ix2 r x)

/-- A point's head. -/
def hpt (t : Fin cfg0.N) (h : Fin 2) : Fin 4 := ⟨2 * (t.val / 8) + h.val, by have := t.isLt; have e : cfg0.N = 16 := N_0; omega⟩

theorem idx0 : ∀ t : Fin cfg0.N, win0_0.index t = ![t.val % 8, t.val / 8] := (by decide +kernel : ∀ t : Fin grid0.N, _)
theorem idx1 : ∀ t : Fin cfg0.N, win0_1.index t = ![t.val % 8, 2 + t.val / 8] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, 2 + t.val / 8] := (by decide +kernel : ∀ t : Fin grid0.N, _)
theorem idx4 : ∀ t : Fin cfg0.N, win0_4.index t = ![t.val % 8, t.val / 8] := (by decide +kernel : ∀ t : Fin grid0.N, _)
theorem idx5 : ∀ t : Fin cfg0.N, win0_5.index t = ![t.val % 8, t.val / 8, 0, 0] := (by decide +kernel : ∀ t : Fin grid0.N, _)

theorem blk0 (t : Fin cfg0.N) (r : Fin 512) (l : Fin 128) (R : Fin 4096) (C : Fin 2176)
    (hR : R.val = t.val % 8 * 512 + r.val) (hC : C.val = t.val / 8 * 128 + l.val) : iblk V c 0 t (ix2 r l) = P V c R C := by
  exact congrArg (V c main_arg0) (idx2_ext (at_blk (congrFun (idx0 t) 0) hR.symm) (at_blk (congrFun (idx0 t) 1) hC.symm))
theorem blk1 (t : Fin cfg0.N) (r : Fin 512) (l : Fin 128) (R : Fin 4096) (C : Fin 2176)
    (hR : R.val = t.val % 8 * 512 + r.val) (hC : C.val = (2 + t.val / 8) * 128 + l.val) : iblk V c 1 t (ix2 r l) = P V c R C := by
  exact congrArg (V c main_arg0) (idx2_ext (at_blk (congrFun (idx1 t) 0) hR.symm) (at_blk (congrFun (idx1 t) 1) hC.symm))
theorem blk2 (t : Fin cfg0.N) (r : Fin 512) (l : Fin 128) (R : Fin 4096) (C : Fin 256)
    (hR : R.val = t.val % 8 * 512 + r.val) (hC : C.val = t.val / 8 * 128 + l.val) : iblk V c 2 t (ix2 r l) = A V c R C := by
  exact congrArg (V c main_arg1) (idx2_ext (at_blk (congrFun (idx2 t) 0) hR.symm) (at_blk (congrFun (idx2 t) 1) hC.symm))
theorem blk3 (t : Fin cfg0.N) (r : Fin 512) (l : Fin 256) (R : Fin 4096) (C : Fin 2176)
    (hR : R.val = t.val % 8 * 512 + r.val) (hC : C.val = (2 + t.val / 8) * 256 + l.val) : X0_3 V c t (ix2 r l) = P V c R C := by
  have hx := xsize0_3 t
  let y : ((cfg0.win 3).xblock (cfg0.grid.coords t)).Idx := fun a => ⟨((ix2 r l : S512x256.Idx) a).val, by
    have : (cfg0.win 3).xsize (cfg0.grid.coords t) a = (cfg0.win 3).size a := hx a
    exact lt_of_lt_of_eq ((ix2 r l : S512x256.Idx) a).isLt this.symm⟩
  have e1 : (cfg0.win 3).xinj (grid0.coords t) y = ix2 r l := by funext a; exact Fin.ext rfl
  have e2 : X0_3 V c t ((cfg0.win 3).xinj (grid0.coords t) y) = iblk V c 3 t y :=
    congrFun (Pipeline.Window.cut_fill (cfg0.win 3) (cfg0.grid.coords t) dflt0_3 (iblk V c 3 t)) y
  rw [← e1, e2]
  exact congrArg (V c main_arg0) (idx2_ext (at_blk (congrFun (idx3 t) 0) hR.symm) (at_blk (congrFun (idx3 t) 1) hC.symm))

theorem bq_eq (t : Fin cfg0.N) (h : Fin 2) (n : ℕ) (hn : n < 8) : hd h (bq V c t n) = Whole.Qh (P V c) (hpt t h) (8 * (t.val % 8) + n) := by
  funext i x
  refine (ldQ_apply _ _ _ _).trans (blk0 V c t _ _ _ _ ?_ ?_)
  · show (64 * (8 * (t.val % 8) + n) + i.val) % 4096 = t.val % 8 * 512 + (64 * (n % 8) + i.val); omega
  · show 64 * (2 * (t.val / 8) + h.val) + x.val = t.val / 8 * 128 + (64 * h.val + x.val); omega
theorem bk_eq (t : Fin cfg0.N) (h : Fin 2) (n : ℕ) (hn : n < 8) : hd h (bk V c t n) = Whole.Kh (P V c) (hpt t h) (8 * (t.val % 8) + n) := by
  funext i x
  refine (ldQ_apply _ _ _ _).trans (blk1 V c t _ _ _ _ ?_ ?_)
  · show (64 * (8 * (t.val % 8) + n) + i.val) % 4096 = t.val % 8 * 512 + (64 * (n % 8) + i.val); omega
  · show 256 + (64 * (2 * (t.val / 8) + h.val) + x.val) = (2 + t.val / 8) * 128 + (64 * h.val + x.val); omega
theorem ba_eq (t : Fin cfg0.N) (h : Fin 2) (n : ℕ) (hn : n < 8) : hd h (ba V c t n) = Whole.Ah (A V c) (hpt t h) (8 * (t.val % 8) + n) := by
  funext i x
  refine (ldQ_apply _ _ _ _).trans (blk2 V c t _ _ _ _ ?_ ?_)
  · show (64 * (8 * (t.val % 8) + n) + i.val) % 4096 = t.val % 8 * 512 + (64 * (n % 8) + i.val); omega
  · show 64 * (2 * (t.val / 8) + h.val) + x.val = t.val / 8 * 128 + (64 * h.val + x.val); omega
theorem bv_eq (t : Fin cfg0.N) (h : Fin 2) (n : ℕ) (hn : n < 8) : hv (bv V c t h n) = Whole.Vh (P V c) (hpt t h) (8 * (t.val % 8) + n) := by
  funext i x
  refine (ldV_apply _ _ _ _ _).trans (blk3 V c t _ _ _ _ ?_ ?_)
  · show (64 * (8 * (t.val % 8) + n) + i.val) % 4096 = t.val % 8 * 512 + (64 * (n % 8) + i.val); omega
  · show 512 + (128 * (2 * (t.val / 8) + h.val) + x.val) = (2 + t.val / 8) * 256 + (128 * h.val + x.val); omega

/-- Head `h`'s state over the pair's lanes: the recurrence's on the head's, zero on the other's. -/
def isS (t : Fin cfg0.N) (n : ℕ) (h : Fin 2) (s : St 𝕀) : Prop := hs h s = Whole.S (P V c) (A V c) (hpt t h) n ∧ only h s

theorem stF_isS (t : Fin cfg0.N) (s0 : Fin 2 → St 𝕀) (h0 : ∀ h, isS V c t (8 * (t.val % 8)) h (s0 h)) (h : Fin 2) :
    ∀ n ≤ 8, isS V c t (8 * (t.val % 8) + n) h (stF (bk V c t) (ba V c t) (bv V c t) s0 h n) := by
  intro n
  induction n with
  | zero => intro _; exact h0 h
  | succ n ih =>
    intro hn
    obtain ⟨i1, i2⟩ := ih (by omega)
    refine ⟨?_, next_only h _ _ _ _ i2⟩
    refine (next_apply h _ _ _ _).trans ?_
    rw [bk_eq V c t h n (by omega), ba_eq V c t h n (by omega), bv_eq V c t h n (by omega)]
    exact congrArg _ i1

theorem carried : ∀ (n : ℕ) (hn : n < cfg0.N) (h : Fin 2), isS V c ⟨n, hn⟩ (8 * (n % 8) + 8) h (ldS (outsAt0 V c n hn).2.2 h) := by
  have fin : ∀ (t : Fin cfg0.N) (s0 : Fin 2 → St 𝕀), (∀ h, isS V c t (8 * (t.val % 8)) h (s0 h)) → outsAt0 V c t.val t.isLt = leaves V c t s0 →
      ∀ h, isS V c t (8 * (t.val % 8) + 8) h (ldS (outsAt0 V c t.val t.isLt).2.2 h) := fun t s0 h0 e h => by
    rw [e]
    have e3 : (leaves V c t s0).2.2 = blkS (fun h => stF (bk V c t) (ba V c t) (bv V c t) s0 h 8) := rfl
    rw [e3, ldS_blkS]
    exact stF_isS V c t s0 h0 h 8 le_rfl
  intro n
  induction n with
  | zero =>
    intro hn
    exact fin ⟨0, hn⟩ zS (fun h => ⟨rfl, fun _ _ _ _ => rfl⟩) (outs_A V c ⟨0, hn⟩ rfl)
  | succ n ih =>
    intro hn
    by_cases h0 : (n + 1) % 8 = 0
    · refine fin ⟨n + 1, hn⟩ zS (fun h => ⟨?_, fun _ _ _ _ => rfl⟩) (outs_A V c ⟨n + 1, hn⟩ h0)
      show _ = Whole.S _ _ _ (8 * ((n + 1) % 8))
      rw [h0]; rfl
    · refine fin ⟨n + 1, hn⟩ _ (fun h => ?_) (outs_B V c ⟨n + 1, hn⟩ h0)
      have hp := ih (by omega) h
      have e1 : hpt ⟨n, by omega⟩ h = hpt ⟨n + 1, hn⟩ h := Fin.ext (by show 2 * (n / 8) + h.val = 2 * ((n + 1) / 8) + h.val; omega)
      have e2 : 8 * (n % 8) + 8 = 8 * ((n + 1) % 8) := by omega
      unfold isS at hp ⊢
      rw [e1, e2] at hp
      exact hp

/-- What a point leaves, its carried state entering as the recurrence has it. -/
theorem point (t : Fin cfg0.N) : ∃ s0, (∀ h, isS V c t (8 * (t.val % 8)) h (s0 h)) ∧ outsAt0 V c t.val t.isLt = leaves V c t s0 := by
  by_cases h0 : t.val % 8 = 0
  · refine ⟨zS, fun h => ⟨?_, fun _ _ _ _ => rfl⟩, outs_A V c t h0⟩
    rw [h0]; rfl
  · refine ⟨_, fun h => ?_, outs_B V c t h0⟩
    have hp := carried V c (t.val - 1) (Nat.lt_of_le_of_lt (Nat.sub_le _ _) t.isLt) h
    have e1 : hpt ⟨t.val - 1, Nat.lt_of_le_of_lt (Nat.sub_le _ _) t.isLt⟩ h = hpt t h :=
      Fin.ext (by show 2 * ((t.val - 1) / 8) + h.val = 2 * (t.val / 8) + h.val; omega)
    have e2 : 8 * ((t.val - 1) % 8) + 8 = 8 * (t.val % 8) := by omega
    unfold isS at hp ⊢
    rw [e1] at hp
    rw [← e2]
    exact hp

/-! ### The result -/

def G4 : Buf (Elt 𝕀) ((c : Thread nD τ).loc main_v0_0) := Whole.rowsV (Whole.oO (P V c) (A V c))
def G5 : Buf (Elt 𝕀) ((c : Thread nD τ).loc main_v0_1) := Whole.states (P V c) (A V c)

theorem flushed4_eq (t : Fin cfg0.N) : (dat V c).flushed 4 t = ((cfg0.win 4).blk t).view.read (Elt 𝕀) (G4 V c) := by
  show (cfg0.win 4).cut (grid0.coords t) ((dat V c).after 4 t) = _
  rw [after0_4]
  obtain ⟨s0, h0, e⟩ := point V c t
  rw [e]
  funext y
  have hy0 : (y 0).val < 512 := (y 0).isLt
  have hy1 : (y 1).val < 256 := (y 1).isLt
  have hi := idx4 t
  have hb0 : (((cfg0.win 4).blk t).view.emb y 0).val = t.val % 8 * 512 + 1 * (y 0).val :=
    congrArg (· * 512 + 1 * (y 0).val) (congrFun hi 0)
  have hb1 : (((cfg0.win 4).blk t).view.emb y 1).val = t.val / 8 * 256 + 1 * (y 1).val :=
    congrArg (· * 256 + 1 * (y 1).val) (congrFun hi 1)
  have hn : (y 0).val / 64 < 8 := by omega
  have key : ∀ (h : Fin 2) (n : ℕ) (hn : n < 8), hv (outF (bq V c t) (bk V c t) (ba V c t) (bv V c t) s0 h n)
      = Whole.oO (P V c) (A V c) (hpt t h) (8 * (t.val % 8) + n) := fun h n hn => by
    refine (out_apply h _ _ _ _ _).trans ?_
    rw [bq_eq V c t h n hn, bk_eq V c t h n hn, ba_eq V c t h n hn, bv_eq V c t h n hn, (stF_isS V c t s0 h0 h n hn.le).1]; rfl
  show hv (outF (bq V c t) (bk V c t) (ba V c t) (bv V c t) s0 ⟨(y 1).val / 128, by omega⟩ ((y 0).val / 64)) ⟨(y 0).val % 64, by omega⟩ ⟨(y 1).val % 128, by omega⟩
    = Whole.rowsV (Whole.oO (P V c) (A V c)) (((cfg0.win 4).blk t).view.emb y)
  rw [key _ _ hn]
  unfold Whole.rowsV
  have a1 : (hpt t ⟨(y 1).val / 128, by omega⟩) = ⟨(((cfg0.win 4).blk t).view.emb y 1).val / 128, by
      have h : (((cfg0.win 4).blk t).view.emb y 1).val < 512 := (((cfg0.win 4).blk t).view.emb y 1).isLt; omega⟩ :=
    Fin.ext (by show 2 * (t.val / 8) + (y 1).val / 128 = (((cfg0.win 4).blk t).view.emb y 1).val / 128; rw [hb1]; omega)
  have a2 : 8 * (t.val % 8) + (y 0).val / 64 = (((cfg0.win 4).blk t).view.emb y 0).val / 64 := by rw [hb0]; omega
  have a3 : (⟨(y 0).val % 64, by omega⟩ : Fin 64) = ⟨(((cfg0.win 4).blk t).view.emb y 0).val % 64, by omega⟩ := Fin.ext (by
    show (y 0).val % 64 = (((cfg0.win 4).blk t).view.emb y 0).val % 64; rw [hb0]; omega)
  have a4 : (⟨(y 1).val % 128, by omega⟩ : Fin 128) = ⟨(((cfg0.win 4).blk t).view.emb y 1).val % 128, by omega⟩ := Fin.ext (by
    show (y 1).val % 128 = (((cfg0.win 4).blk t).view.emb y 1).val % 128; rw [hb1]; omega)
  rw [a1, a2, a3, a4]

theorem flush4 : ∀ (q0 : Fin 8) (q1 : Fin 2), ∃ t : Fin cfg0.N, (cfg0.win 4).flush t = true ∧ t.val = q0.val + 8 * q1.val :=
  (by decide +kernel : ∀ (q0 : Fin 8) (q1 : Fin 2), ∃ t : Fin grid0.N, win0_4.flush t = true ∧ t.val = q0.val + 8 * q1.val)
theorem final4 : (dat V c).arrAt 4 cfg0.N = G4 V c :=
  (dat V c).arrAt_eq_of_cover 4 _ (fun t hf => flushed4_eq V c t) (fun i => by
    have h0 : (i 0).val < 4096 := (i 0).isLt
    have h1 : (i 1).val < 512 := (i 1).isLt
    obtain ⟨t, hft, ht⟩ := flush4 ⟨(i 0).val / 512, by omega⟩ ⟨(i 1).val / 256, by omega⟩
    have ht' : t.val = (i 0).val / 512 + 8 * ((i 1).val / 256) := ht
    refine ⟨t, hft, in_slice fun a => ?_⟩
    match a with
    | ⟨0, _⟩ => exact in_blk ((congrFun (idx4 t) 0).trans (show t.val % 8 = (i 0).val / 512 by omega)) (Nat.succ_pos _)
    | ⟨1, _⟩ => exact in_blk ((congrFun (idx4 t) 1).trans (show t.val / 8 = (i 1).val / 256 by omega)) (Nat.succ_pos _))

theorem flushed5_eq (t : Fin cfg0.N) : (dat V c).flushed 5 t = ((cfg0.win 5).blk t).view.read (Elt 𝕀) (G5 V c) := by
  show (cfg0.win 5).cut (grid0.coords t) ((dat V c).after 5 t) = _
  rw [after0_5]
  obtain ⟨s0, h0, e⟩ := point V c t
  rw [e]
  funext y
  have hy0 : (y 0).val < 8 := (y 0).isLt
  have hy1 : (y 1).val < 2 := (y 1).isLt
  have hy2 : (y 2).val < 128 := (y 2).isLt
  have hy3 : (y 3).val < 128 := (y 3).isLt
  have hi := idx5 t
  have hb0 : (((cfg0.win 5).blk t).view.emb y 0).val = t.val % 8 * 8 + 1 * (y 0).val :=
    congrArg (· * 8 + 1 * (y 0).val) (congrFun hi 0)
  have hb1 : (((cfg0.win 5).blk t).view.emb y 1).val = t.val / 8 * 2 + 1 * (y 1).val :=
    congrArg (· * 2 + 1 * (y 1).val) (congrFun hi 1)
  have hb2 : (((cfg0.win 5).blk t).view.emb y 2).val = 0 * 128 + 1 * (y 2).val :=
    congrArg (· * 128 + 1 * (y 2).val) (congrFun hi 2)
  have hb3 : (((cfg0.win 5).blk t).view.emb y 3).val = 0 * 128 + 1 * (y 3).val :=
    congrArg (· * 128 + 1 * (y 3).val) (congrFun hi 3)
  obtain ⟨k1, k2⟩ := stF_isS V c t s0 h0 ⟨(y 1).val, hy1⟩ (y 0).val hy0.le
  show stF (bk V c t) (ba V c t) (bv V c t) s0 ⟨(y 1).val, hy1⟩ (y 0).val (ix2 ⟨(y 2).val, hy2⟩ ⟨(y 3).val, hy3⟩)
    = Whole.states (P V c) (A V c) (((cfg0.win 5).blk t).view.emb y)
  generalize stF (bk V c t) (ba V c t) (bv V c t) s0 ⟨(y 1).val, hy1⟩ (y 0).val = s at k1 k2 ⊢
  obtain ⟨h', x, hl⟩ := lane_cases ⟨(y 3).val, hy3⟩
  have hl' : (y 3).val = 64 * h'.val + x.val := congrArg Fin.val hl
  have hx := x.isLt
  rw [hl]
  unfold Whole.states
  by_cases hh : h'.val = (y 1).val
  · obtain rfl : h' = ⟨(y 1).val, hy1⟩ := Fin.ext hh
    rw [if_pos (by rw [hb3, hb1]; show (0 * 128 + 1 * (y 3).val) / 64 = (t.val / 8 * 2 + 1 * (y 1).val) % 2; omega)]
    refine (congrFun (congrFun k1 x) ⟨(y 2).val, hy2⟩).trans ?_
    have a1 : hpt t ⟨(y 1).val, hy1⟩ = ⟨(((cfg0.win 5).blk t).view.emb y 1).val, (((cfg0.win 5).blk t).view.emb y 1).isLt⟩ :=
      Fin.ext (by show 2 * (t.val / 8) + (y 1).val = (((cfg0.win 5).blk t).view.emb y 1).val; rw [hb1]; omega)
    have a2 : 8 * (t.val % 8) + (y 0).val = (((cfg0.win 5).blk t).view.emb y 0).val := by rw [hb0]; omega
    have a3 : x = ⟨(((cfg0.win 5).blk t).view.emb y 3).val % 64, by omega⟩ := Fin.ext (by
      show x.val = (((cfg0.win 5).blk t).view.emb y 3).val % 64; rw [hb3]; omega)
    have a4 : (⟨(y 2).val, hy2⟩ : Fin 128) = ⟨(((cfg0.win 5).blk t).view.emb y 2).val, (((cfg0.win 5).blk t).view.emb y 2).isLt⟩ := Fin.ext (by
      show (y 2).val = (((cfg0.win 5).blk t).view.emb y 2).val; rw [hb2]; omega)
    rw [a1, a2]
    refine (congrFun (congrArg _ a3) _).trans (congrArg _ a4)
  · rw [if_neg (by rw [hb3, hb1]; show ¬(0 * 128 + 1 * (y 3).val) / 64 = (t.val / 8 * 2 + 1 * (y 1).val) % 2; omega)]
    exact k2 h' x _ (fun h => hh (congrArg Fin.val h).symm)

theorem flush5 : ∀ (q0 : Fin 8) (q1 : Fin 2), ∃ t : Fin cfg0.N, (cfg0.win 5).flush t = true ∧ t.val = q0.val + 8 * q1.val :=
  (by decide +kernel : ∀ (q0 : Fin 8) (q1 : Fin 2), ∃ t : Fin grid0.N, win0_5.flush t = true ∧ t.val = q0.val + 8 * q1.val)
theorem final5 : (dat V c).arrAt 5 cfg0.N = G5 V c :=
  (dat V c).arrAt_eq_of_cover 5 _ (fun t hf => flushed5_eq V c t) (fun i => by
    have h0 : (i 0).val < 64 := (i 0).isLt
    have h1 : (i 1).val < 4 := (i 1).isLt
    have h2 : (i 2).val < 128 := (i 2).isLt
    have h3 : (i 3).val < 128 := (i 3).isLt
    obtain ⟨t, hft, ht⟩ := flush5 ⟨(i 0).val / 8, by omega⟩ ⟨(i 1).val / 2, by omega⟩
    have ht' : t.val = (i 0).val / 8 + 8 * ((i 1).val / 2) := ht
    refine ⟨t, hft, in_slice fun a => ?_⟩
    match a with
    | ⟨0, _⟩ => exact in_blk ((congrFun (idx5 t) 0).trans (show t.val % 8 = (i 0).val / 8 by omega)) (Nat.succ_pos _)
    | ⟨1, _⟩ => exact in_blk ((congrFun (idx5 t) 1).trans (show t.val / 8 = (i 1).val / 2 by omega)) (Nat.succ_pos _)
    | ⟨2, _⟩ => exact in_all (congrFun (idx5 t) 2) (i 2).isLt
    | ⟨3, _⟩ => exact in_all (congrFun (idx5 t) 3) (i 3).isLt)

end

end Cert.KernelIdeal.Fwd

end
-- ==== Proof.Bwd.Bridge.lean ====
module

public import proofs.«01_k».proof.Proof.Gla.Tiles
public import proofs.«01_k».proof.Proof.Bwd.Frame
import all proofs.«01_k».proof.Proof.Bwd.RunA
import all proofs.«01_k».proof.Proof.Bwd.RunB

@[expose] public section

noncomputable section

/-! What the body stores is the chunks' functions. -/

namespace Cert.KernelIdeal.Bwd

open Cert.KernelIdeal Cert.KernelIdeal.Gen Cert.KernelIdeal.Chunk
open Idealize.ShloMosaic Idealize.ShloMosaic.Tactic

variable {F : FTy → Type} [FloatOps F]

abbrev mk (h : Fin 2) : FVec F S1x128 .f32 := ![lanes 0#32 64#32, lanes 64#32 128#32] h

section
variable (q k a : ℕ → M64 F) (v g : Fin 2 → ℕ → M64 F) (s : Fin 2 → ℕ → St F) (d : Fin 2 → St F)
/-- Head `h`'s state gradient after chunk `7 - n` of a block. -/
def dF (h : Fin 2) (n : ℕ) : St F := dAt (mk h) q a (g h) (d h) n
def gqF (n : ℕ) : M64 F := gq (mk 0) (mk 1) (k n) (a n) (v 0 n) (v 1 n) (g 0 n) (g 1 n) (s 0 n) (s 1 n)
def gkF (n : ℕ) : M64 F := gk (mk 0) (mk 1) (q n) (a n) (v 0 n) (v 1 n) (g 0 n) (g 1 n) (dF q a g d 0 (7 - n)) (dF q a g d 1 (7 - n))
def gaF (n : ℕ) : M64 F :=
  ga (mk 0) (mk 1) (q n) (k n) (a n) (v 0 n) (v 1 n) (g 0 n) (g 1 n) (s 0 n) (s 1 n) (dF q a g d 0 (7 - n)) (dF q a g d 1 (7 - n))
def gvF (h : Fin 2) (n : ℕ) : M64 F := gv (mk h) (q n) (k n) (a n) (g h n) (dF q a g d h (7 - n))
end
abbrev order6 : List ℕ := [0, 1, 2, 3, 4, 5, 6, 7]
abbrev order9 : List (Fin 2 × ℕ) := [(1, 0), (0, 0), (1, 1), (0, 1), (1, 2), (0, 2), (1, 3), (0, 3), (1, 4), (0, 4), (1, 5), (0, 5), (1, 6), (0, 6), (1, 7), (0, 7)]

section
variable (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S2x128x128 .f32) (harg12 : arg12.IsWhole)
    (hc0 : cond1_0 i) (x0 x1 x2 : Vec F S512x128 .f32) (x3 x4 : Vec F S512x256 .f32) (x5 : Vec F S8x2x128x128 .f32)
theorem pieces6_A :
    (kernelRun1_A c i arg2 harg2 arg3 harg3 arg4 harg4 arg5 harg5 arg6 harg6 arg7 harg7 arg8 harg8 arg9 harg9 arg10 harg10 arg11 harg11 arg12 harg12 hc0 x0 x1 x2 x3 x4 x5).1 = order6.map (pcQ (gqF (rdQ arg3 (harg3.unread x1)) (rdQ arg4 (harg4.unread x2)) (rdV arg5 (harg5.unread x3)) (rdV arg6 (harg6.unread x4)) (rdT arg7 (harg7.unread x5)))) := by
  unfold kernelRun1_A
  chain_rfl
theorem pieces7_A :
    (kernelRun1_A c i arg2 harg2 arg3 harg3 arg4 harg4 arg5 harg5 arg6 harg6 arg7 harg7 arg8 harg8 arg9 harg9 arg10 harg10 arg11 harg11 arg12 harg12 hc0 x0 x1 x2 x3 x4 x5).2.1 = order6.map (pcQ (gkF (rdQ arg2 (harg2.unread x0)) (rdQ arg4 (harg4.unread x2)) (rdV arg5 (harg5.unread x3)) (rdV arg6 (harg6.unread x4)) (fun h => idS (![k1_pay4 (kernelRun1_A.sl.v3 c arg12), k1_pay5 (kernelRun1_A.sl.v5 c arg12)] h)))) := by
  unfold kernelRun1_A
  chain_rfl
theorem pieces8_A :
    (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.1 = order6.map (pcQ (gaF (rdQ arg2 (harg2.unread x0)) (rdQ arg3 (harg3.unread x1)) (rdQ arg4 (harg4.unread x2)) (rdV arg5 (harg5.unread x3)) (rdV arg6 (harg6.unread x4)) (rdT arg7 (harg7.unread x5)) (fun h => idS (![k1_pay4 (kernelRun1_A.sl.v3 c arg12), k1_pay5 (kernelRun1_A.sl.v5 c arg12)] h)))) := by
  unfold kernelRun1_A
  chain_rfl
theorem pieces9_A :
    (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.1 = order9.map (pcV (gvF (rdQ arg2 (harg2.unread x0)) (rdQ arg3 (harg3.unread x1)) (rdQ arg4 (harg4.unread x2)) (rdV arg6 (harg6.unread x4)) (fun h => idS (![k1_pay4 (kernelRun1_A.sl.v3 c arg12), k1_pay5 (kernelRun1_A.sl.v5 c arg12)] h)))) := by
  unfold kernelRun1_A
  chain_rfl
theorem piecesS_A :
    (kernelRun1_A c i arg2 harg2 arg3 harg3 arg4 harg4 arg5 harg5 arg6 harg6 arg7 harg7 arg8 harg8 arg9 harg9 arg10 harg10 arg11 harg11 arg12 harg12 hc0 x0 x1 x2 x3 x4 x5).2.2.2.2.1 = [pcS (fun h => dF (rdQ arg2 (harg2.unread x0)) (rdQ arg4 (harg4.unread x2)) (rdV arg6 (harg6.unread x4)) (fun h => idS (![k1_pay4 (kernelRun1_A.sl.v3 c arg12), k1_pay5 (kernelRun1_A.sl.v5 c arg12)] h)) h 8) 1, pcS (fun h => dF (rdQ arg2 (harg2.unread x0)) (rdQ arg4 (harg4.unread x2)) (rdV arg6 (harg6.unread x4)) (fun h => idS (![k1_pay4 (kernelRun1_A.sl.v3 c arg12), k1_pay5 (kernelRun1_A.sl.v5 c arg12)] h)) h 8) 0] ++ kernelRun1_A.sl.HS0_1 := by
  unfold kernelRun1_A
  chain_rfl
end

section
variable (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S8x2x128x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S2x128x128 .f32) (harg12 : arg12.IsWhole)
    (hc0 : ¬cond1_0 i) (x0 x1 x2 : Vec F S512x128 .f32) (x3 x4 : Vec F S512x256 .f32) (x5 : Vec F S8x2x128x128 .f32) (xs0 : Vec F S2x128x128 .f32)
theorem pieces6_B :
    (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).1 = order6.map (pcQ (gqF (rdQ arg3 (harg3.unread x1)) (rdQ arg4 (harg4.unread x2)) (rdV arg5 (harg5.unread x3)) (rdV arg6 (harg6.unread x4)) (rdT arg7 (harg7.unread x5)))) := by
  unfold kernelRun1_B
  chain_rfl
theorem pieces7_B :
    (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.1 = order6.map (pcQ (gkF (rdQ arg2 (harg2.unread x0)) (rdQ arg4 (harg4.unread x2)) (rdV arg5 (harg5.unread x3)) (rdV arg6 (harg6.unread x4)) (fun h => idS (rdS arg12 (harg12.unread xs0) h)))) := by
  unfold kernelRun1_B
  chain_rfl
theorem pieces8_B :
    (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.1 = order6.map (pcQ (gaF (rdQ arg2 (harg2.unread x0)) (rdQ arg3 (harg3.unread x1)) (rdQ arg4 (harg4.unread x2)) (rdV arg5 (harg5.unread x3)) (rdV arg6 (harg6.unread x4)) (rdT arg7 (harg7.unread x5)) (fun h => idS (rdS arg12 (harg12.unread xs0) h)))) := by
  unfold kernelRun1_B
  chain_rfl
theorem pieces9_B :
    (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1 = order9.map (pcV (gvF (rdQ arg2 (harg2.unread x0)) (rdQ arg3 (harg3.unread x1)) (rdQ arg4 (harg4.unread x2)) (rdV arg6 (harg6.unread x4)) (fun h => idS (rdS arg12 (harg12.unread xs0) h)))) := by
  unfold kernelRun1_B
  chain_rfl
theorem piecesS_B :
    (kernelRun1_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1 = [pcS (fun h => dF (rdQ arg2 (harg2.unread x0)) (rdQ arg4 (harg4.unread x2)) (rdV arg6 (harg6.unread x4)) (fun h => idS (rdS arg12 (harg12.unread xs0) h)) h 8) 1, pcS (fun h => dF (rdQ arg2 (harg2.unread x0)) (rdQ arg4 (harg4.unread x2)) (rdV arg6 (harg6.unread x4)) (fun h => idS (rdS arg12 (harg12.unread xs0) h)) h 8) 0] := by
  unfold kernelRun1_B
  chain_rfl

end

end Cert.KernelIdeal.Bwd

end
-- ==== Proof.Bwd.Block.lean ====
module

public import proofs.«01_k».proof.Proof.Gla.Stores
public import proofs.«01_k».proof.Proof.Bwd.Bridge
import all proofs.«01_k».proof.Proof.Bwd.RunA
import all proofs.«01_k».proof.Proof.Bwd.RunB

@[expose] public section

noncomputable section

/-! What each grid point leaves in its blocks and in the carried state, as the chunks' functions of the point's input blocks. -/

namespace Cert.KernelIdeal.Bwd

open Cert.KernelIdeal Cert.KernelIdeal.Gen Cert.KernelIdeal.Chunk
open Idealize.ShloMosaic Idealize.ShloMosaic.TcCoe

local notation "𝕀" => Idealize.ShloMosaic.Ideal

/-- The zero state. -/
abbrev zS : Fin 2 → St 𝕀 := fun _ _ => 0

theorem start_A (c : Dev nD) (arg12 : Memref sig .tc .vmem S2x128x128 .f32) :
    (fun h => ![k1_pay4 (F := 𝕀) (kernelRun1_A.sl.v3 c arg12), k1_pay5 (kernelRun1_A.sl.v5 c arg12)] h) = zS := by
  have z : ∀ (B : LoadRect S2x128x128) (x), arg12.view.readCov (Val := Elt 𝕀) kernelRun1_A.sl.HS0_1 B x = (0 : EReal) := fun B x => by
    show arg12.view.read (Elt 𝕀) (arg12.view.writes (Elt 𝕀) arg12.view.junk kernelRun1_A.sl.HS0_1) (B.idx x) = _
    refine View.read_writes_apply_of_pieces (Val := Elt 𝕀) arg12.view _ ((fun _ => (0 : EReal)) : S2x128x128.Idx → Elt 𝕀 .f32) _ ?_ _ ?_
    · intro p hp y
      obtain rfl : p = _ := List.mem_singleton.mp hp
      show k1_pay3 (F := 𝕀) y = 0
      unfold k1_pay3
      show shapeCast S2x128x128 (broadcast S2x128x128 (Scalar.ofBits .f32 0x00000000#32) : FVec 𝕀 S2x128x128 .f32) _ y = 0
      exact Ideal.ofBits_zero_f32
    · refine ⟨_, List.mem_singleton.mpr rfl, (Rect.mem_set_unit (inb := inb_S2x128x128_S2x128x128_0_0_0)).mpr fun a => ?_⟩
      fin_cases a
      · exact ⟨Nat.zero_le _, (B.idx x 0).isLt.trans_eq (Nat.zero_add _).symm⟩
      · exact ⟨Nat.zero_le _, (B.idx x 1).isLt.trans_eq (Nat.zero_add _).symm⟩
      · exact ⟨Nat.zero_le _, (B.idx x 2).isLt.trans_eq (Nat.zero_add _).symm⟩
  funext h y
  obtain ⟨e, l, rfl⟩ : ∃ e l : Fin 128, y = ix2 e l := ⟨y 0, y 1, eq_ix2 y⟩
  have z4 : k1_pay4 (F := 𝕀) (kernelRun1_A.sl.v3 c arg12) (ix2 e l) = (0 : EReal) := by
    unfold k1_pay4; refine (cast3 (kernelRun1_A.sl.v3 (F := 𝕀) c arg12) e l).trans ?_; unfold kernelRun1_A.sl.v3; exact z _ _
  have z5 : k1_pay5 (F := 𝕀) (kernelRun1_A.sl.v5 c arg12) (ix2 e l) = (0 : EReal) := by
    unfold k1_pay5; refine (cast3 (kernelRun1_A.sl.v5 (F := 𝕀) c arg12) e l).trans ?_; unfold kernelRun1_A.sl.v5; exact z _ _
  fin_cases h
  · exact z4
  · exact z5

variable (V : (c : Dev nD) → (b : Ref sig .tc) → Buf (Elt 𝕀) (c.tc.loc b))

section
variable (c : Dev nD) (t : Fin cfg1.N)
abbrev bq : ℕ → M64 𝕀 := ldQ (iblk V c 0 t)
abbrev bk : ℕ → M64 𝕀 := ldQ (iblk V c 1 t)
abbrev ba : ℕ → M64 𝕀 := ldQ (iblk V c 2 t)
abbrev bv : Fin 2 → ℕ → M64 𝕀 := ldV (X1_3 V c t)
abbrev bg : Fin 2 → ℕ → M64 𝕀 := ldV (iblk V c 4 t)
abbrev bs : Fin 2 → ℕ → St 𝕀 := ldT (iblk V c 5 t)

/-- What a point leaves, its carried state entering at `s0`. -/
def leaves (s0 : Fin 2 → St 𝕀) : Vec 𝕀 S512x128 .f32 × Vec 𝕀 S512x128 .f32 × Vec 𝕀 S512x128 .f32 × Vec 𝕀 S512x256 .f32 × Vec 𝕀 S2x128x128 .f32 :=
  (blkQ (gqF (bk V c t) (ba V c t) (bv V c t) (bg V c t) (bs V c t)), blkQ (gkF (bq V c t) (ba V c t) (bv V c t) (bg V c t) s0), blkQ (gaF (bq V c t) (bk V c t) (ba V c t) (bv V c t) (bg V c t) (bs V c t) s0), blkV (gvF (bq V c t) (bk V c t) (ba V c t) (bg V c t) s0), blkS (fun h => dF (bq V c t) (ba V c t) (bg V c t) s0 h 8))

theorem outs_A (h0 : t.val % 8 = 0) : outsAt1 V c t.val t.isLt = leaves V c t zS := by
  rw [outsAt1_A V c t h0]
  unfold atA leaves
  refine congrArg₂ Prod.mk ?_ ?_
  · rw [pieces6_A, read_Q _ _ _ order6 (by decide) (by decide)]
    simp only [rdQ_unread, rdV_unread, rdT_unread, idS_eq, start_A]
  refine congrArg₂ Prod.mk ?_ ?_
  · rw [pieces7_A, read_Q _ _ _ order6 (by decide) (by decide)]
    simp only [rdQ_unread, rdV_unread, rdT_unread, idS_eq, start_A]
  refine congrArg₂ Prod.mk ?_ ?_
  · rw [pieces8_A, read_Q _ _ _ order6 (by decide) (by decide)]
    simp only [rdQ_unread, rdV_unread, rdT_unread, idS_eq, start_A]
  refine congrArg₂ Prod.mk ?_ ?_
  · rw [pieces9_A, read_V _ _ _ order9 (by decide) (by decide)]
    simp only [rdQ_unread, rdV_unread, rdT_unread, idS_eq, start_A]
  · rw [piecesS_A]
    refine (read_S _ _ _ _).trans ?_
    simp only [rdQ_unread, rdV_unread, rdT_unread, idS_eq, start_A]

theorem outs_B (h0 : ¬t.val % 8 = 0) : outsAt1 V c t.val t.isLt = leaves V c t (ldS (outsAt1 V c (t.val - 1) (Nat.lt_of_le_of_lt (Nat.sub_le _ _) t.isLt)).2.2.2.2) := by
  rw [outsAt1_B V c t h0]
  unfold atB leaves
  refine congrArg₂ Prod.mk ?_ ?_
  · rw [pieces6_B, read_Q _ _ _ order6 (by decide) (by decide)]
    simp only [rdQ_unread, rdV_unread, rdT_unread, idS_eq, rdS_unread]
  refine congrArg₂ Prod.mk ?_ ?_
  · rw [pieces7_B, read_Q _ _ _ order6 (by decide) (by decide)]
    simp only [rdQ_unread, rdV_unread, rdT_unread, idS_eq, rdS_unread]
  refine congrArg₂ Prod.mk ?_ ?_
  · rw [pieces8_B, read_Q _ _ _ order6 (by decide) (by decide)]
    simp only [rdQ_unread, rdV_unread, rdT_unread, idS_eq, rdS_unread]
  refine congrArg₂ Prod.mk ?_ ?_
  · rw [pieces9_B, read_V _ _ _ order9 (by decide) (by decide)]
    simp only [rdQ_unread, rdV_unread, rdT_unread, idS_eq, rdS_unread]
  · rw [piecesS_B]
    refine (read_S _ _ _ []).trans ?_
    simp only [rdQ_unread, rdV_unread, rdT_unread, idS_eq, rdS_unread]

end

end Cert.KernelIdeal.Bwd

end
-- ==== Proof.Bwd.Value.lean ====
module

public import proofs.«01_k».proof.Proof.Bwd.Block
public import proofs.«01_k».proof.Proof.Gla.Whole
public import proofs.«01_k».proof.Proof.Ffn.Index

@[expose] public section

noncomputable section

/-! The backward call's arrays after its run, as the whole sequence's recurrence, where the saved states are the recurrence's. -/

namespace Cert.KernelIdeal.Bwd

open Cert.KernelIdeal Cert.KernelIdeal.Gen Cert.KernelIdeal.Chunk Cert.Proof
open Idealize.ShloMosaic Idealize.ShloMosaic.TcCoe
open Idealize.ShloMosaic.Pipeline (Dat Cfg Window)

local notation "𝕀" => Idealize.ShloMosaic.Ideal

variable (V : (c : Dev nD) → (b : Ref sig .tc) → Buf (Elt 𝕀) ((c : Thread nD τ).loc b))

section
variable (c : Dev nD)

/-- The call's arrays, by row and column. -/
def P (r : Fin 4096) (x : Fin 2176) : EReal := V c main_arg0 (ix2 r x)
def A (r : Fin 4096) (x : Fin 256) : EReal := V c main_arg1 (ix2 r x)
def D (r : Fin 4096) (x : Fin 512) : EReal := V c main_arg2 (ix2 r x)

/-- A point's head. -/
def hpt (t : Fin cfg1.N) (h : Fin 2) : Fin 4 := ⟨2 * (t.val / 8) + h.val, by have := t.isLt; have e : cfg1.N = 16 := N_1; omega⟩

theorem idx0 : ∀ t : Fin cfg1.N, win1_0.index t = ![7 - t.val % 8, t.val / 8] := (by decide +kernel : ∀ t : Fin grid1.N, _)
theorem idx1 : ∀ t : Fin cfg1.N, win1_1.index t = ![7 - t.val % 8, 2 + t.val / 8] := (by decide +kernel : ∀ t : Fin grid1.N, _)
theorem idx2 : ∀ t : Fin cfg1.N, win1_2.index t = ![7 - t.val % 8, t.val / 8] := (by decide +kernel : ∀ t : Fin grid1.N, _)
theorem idx3 : ∀ t : Fin cfg1.N, win1_3.index t = ![7 - t.val % 8, 2 + t.val / 8] := (by decide +kernel : ∀ t : Fin grid1.N, _)
theorem idx4 : ∀ t : Fin cfg1.N, win1_4.index t = ![7 - t.val % 8, t.val / 8] := (by decide +kernel : ∀ t : Fin grid1.N, _)
theorem idx6 : ∀ t : Fin cfg1.N, win1_6.index t = ![7 - t.val % 8, t.val / 8] := (by decide +kernel : ∀ t : Fin grid1.N, _)
theorem idx7 : ∀ t : Fin cfg1.N, win1_7.index t = ![7 - t.val % 8, t.val / 8] := (by decide +kernel : ∀ t : Fin grid1.N, _)
theorem idx8 : ∀ t : Fin cfg1.N, win1_8.index t = ![7 - t.val % 8, t.val / 8] := (by decide +kernel : ∀ t : Fin grid1.N, _)
theorem idx9 : ∀ t : Fin cfg1.N, win1_9.index t = ![7 - t.val % 8, t.val / 8] := (by decide +kernel : ∀ t : Fin grid1.N, _)
theorem idx5 : ∀ t : Fin cfg1.N, win1_5.index t = ![7 - t.val % 8, t.val / 8, 0, 0] := (by decide +kernel : ∀ t : Fin grid1.N, _)

theorem blk0 (t : Fin cfg1.N) (r : Fin 512) (l : Fin 128) (R : Fin 4096) (C : Fin 2176)
    (hR : R.val = (7 - t.val % 8) * 512 + r.val) (hC : C.val = (t.val / 8) * 128 + l.val) : iblk V c 0 t (ix2 r l) = P V c R C := by
  exact congrArg (V c main_arg0) (idx2_ext (at_blk (congrFun (idx0 t) 0) hR.symm) (at_blk (congrFun (idx0 t) 1) hC.symm))
theorem blk1 (t : Fin cfg1.N) (r : Fin 512) (l : Fin 128) (R : Fin 4096) (C : Fin 2176)
    (hR : R.val = (7 - t.val % 8) * 512 + r.val) (hC : C.val = (2 + t.val / 8) * 128 + l.val) : iblk V c 1 t (ix2 r l) = P V c R C := by
  exact congrArg (V c main_arg0) (idx2_ext (at_blk (congrFun (idx1 t) 0) hR.symm) (at_blk (congrFun (idx1 t) 1) hC.symm))
theorem blk2 (t : Fin cfg1.N) (r : Fin 512) (l : Fin 128) (R : Fin 4096) (C : Fin 256)
    (hR : R.val = (7 - t.val % 8) * 512 + r.val) (hC : C.val = (t.val / 8) * 128 + l.val) : iblk V c 2 t (ix2 r l) = A V c R C := by
  exact congrArg (V c main_arg1) (idx2_ext (at_blk (congrFun (idx2 t) 0) hR.symm) (at_blk (congrFun (idx2 t) 1) hC.symm))
theorem blk3 (t : Fin cfg1.N) (r : Fin 512) (l : Fin 256) (R : Fin 4096) (C : Fin 2176)
    (hR : R.val = (7 - t.val % 8) * 512 + r.val) (hC : C.val = (2 + t.val / 8) * 256 + l.val) : X1_3 V c t (ix2 r l) = P V c R C := by
  have hx := xsize1_3 t
  let y : ((cfg1.win 3).xblock (cfg1.grid.coords t)).Idx := fun a => ⟨((ix2 r l : S512x256.Idx) a).val, by
    have : (cfg1.win 3).xsize (cfg1.grid.coords t) a = (cfg1.win 3).size a := hx a
    exact lt_of_lt_of_eq ((ix2 r l : S512x256.Idx) a).isLt this.symm⟩
  have e1 : (cfg1.win 3).xinj (grid1.coords t) y = ix2 r l := by funext a; exact Fin.ext rfl
  have e2 : X1_3 V c t ((cfg1.win 3).xinj (grid1.coords t) y) = iblk V c 3 t y :=
    congrFun (Pipeline.Window.cut_fill (cfg1.win 3) (cfg1.grid.coords t) dflt1_3 (iblk V c 3 t)) y
  rw [← e1, e2]
  exact congrArg (V c main_arg0) (idx2_ext (at_blk (congrFun (idx3 t) 0) hR.symm) (at_blk (congrFun (idx3 t) 1) hC.symm))
theorem blk4 (t : Fin cfg1.N) (r : Fin 512) (l : Fin 256) (R : Fin 4096) (C : Fin 512)
    (hR : R.val = (7 - t.val % 8) * 512 + r.val) (hC : C.val = (t.val / 8) * 256 + l.val) : iblk V c 4 t (ix2 r l) = D V c R C := by
  exact congrArg (V c main_arg2) (idx2_ext (at_blk (congrFun (idx4 t) 0) hR.symm) (at_blk (congrFun (idx4 t) 1) hC.symm))

/-- A point's chunk `n` in the whole sequence. -/
abbrev cpt (t : Fin cfg1.N) (n : ℕ) : ℕ := 8 * (7 - t.val % 8) + n

theorem bq_eq (t : Fin cfg1.N) (h : Fin 2) (n : ℕ) (hn : n < 8) : hd h (bq V c t n) = Whole.Qh (P V c) (hpt t h) (cpt t n) := by
  funext i x
  refine (ldQ_apply _ _ _ _).trans (blk0 V c t _ _ _ _ ?_ ?_)
  · show (64 * (8 * (7 - t.val % 8) + n) + i.val) % 4096 = (7 - t.val % 8) * 512 + (64 * (n % 8) + i.val); omega
  · show (64 * (2 * (t.val / 8) + h.val) + x.val) = (t.val / 8) * 128 + (64 * h.val + x.val); omega
theorem bk_eq (t : Fin cfg1.N) (h : Fin 2) (n : ℕ) (hn : n < 8) : hd h (bk V c t n) = Whole.Kh (P V c) (hpt t h) (cpt t n) := by
  funext i x
  refine (ldQ_apply _ _ _ _).trans (blk1 V c t _ _ _ _ ?_ ?_)
  · show (64 * (8 * (7 - t.val % 8) + n) + i.val) % 4096 = (7 - t.val % 8) * 512 + (64 * (n % 8) + i.val); omega
  · show 256 + (64 * (2 * (t.val / 8) + h.val) + x.val) = (2 + t.val / 8) * 128 + (64 * h.val + x.val); omega
theorem ba_eq (t : Fin cfg1.N) (h : Fin 2) (n : ℕ) (hn : n < 8) : hd h (ba V c t n) = Whole.Ah (A V c) (hpt t h) (cpt t n) := by
  funext i x
  refine (ldQ_apply _ _ _ _).trans (blk2 V c t _ _ _ _ ?_ ?_)
  · show (64 * (8 * (7 - t.val % 8) + n) + i.val) % 4096 = (7 - t.val % 8) * 512 + (64 * (n % 8) + i.val); omega
  · show (64 * (2 * (t.val / 8) + h.val) + x.val) = (t.val / 8) * 128 + (64 * h.val + x.val); omega
theorem bv_eq (t : Fin cfg1.N) (h : Fin 2) (n : ℕ) (hn : n < 8) : hv (bv V c t h n) = Whole.Vh (P V c) (hpt t h) (cpt t n) := by
  funext i x
  refine (ldV_apply _ _ _ _ _).trans (blk3 V c t _ _ _ _ ?_ ?_)
  · show (64 * (8 * (7 - t.val % 8) + n) + i.val) % 4096 = (7 - t.val % 8) * 512 + (64 * (n % 8) + i.val); omega
  · show 512 + (128 * (2 * (t.val / 8) + h.val) + x.val) = (2 + t.val / 8) * 256 + (128 * h.val + x.val); omega
theorem bg_eq (t : Fin cfg1.N) (h : Fin 2) (n : ℕ) (hn : n < 8) : hv (bg V c t h n) = Whole.Gh (D V c) (hpt t h) (cpt t n) := by
  funext i x
  refine (ldV_apply _ _ _ _ _).trans (blk4 V c t _ _ _ _ ?_ ?_)
  · show (64 * (8 * (7 - t.val % 8) + n) + i.val) % 4096 = (7 - t.val % 8) * 512 + (64 * (n % 8) + i.val); omega
  · show (128 * (2 * (t.val / 8) + h.val) + x.val) = (t.val / 8) * 256 + (128 * h.val + x.val); omega

theorem blk5 (t : Fin cfg1.N) (r : Fin 8) (h : Fin 2) (e l : Fin 128) (R : Fin 64) (H : Fin 4)
    (hR : R.val = (7 - t.val % 8) * 8 + r.val) (hH : H.val = t.val / 8 * 2 + h.val) : iblk V c 5 t (ix4 r h e l) = V c main_v0_1 (ix4 R H e l) := by
  show V c main_v0_1 (((cfg1.win 5).blk t).view.emb (ix4 r h e l)) = V c main_v0_1 (ix4 R H e l)
  refine congrArg (V c main_v0_1) (funext fun a => Fin.ext ?_)
  have hi := idx5 t
  match a with
  | ⟨0, _⟩ => show win1_5.index t (0 : Fin 4) * 8 + 1 * r.val = R.val; rw [hi, hR]; show (7 - t.val % 8) * 8 + 1 * r.val = _; omega
  | ⟨1, _⟩ => show win1_5.index t (1 : Fin 4) * 2 + 1 * h.val = H.val; rw [hi, hH]; show t.val / 8 * 2 + 1 * h.val = _; omega
  | ⟨2, _⟩ => show win1_5.index t (2 : Fin 4) * 128 + 1 * e.val = e.val; rw [hi]; show 0 * 128 + 1 * e.val = _; omega
  | ⟨3, _⟩ => show win1_5.index t (3 : Fin 4) * 128 + 1 * l.val = l.val; rw [hi]; show 0 * 128 + 1 * l.val = _; omega

variable (hS : ∀ (R : Fin 64) (H : Fin 4) (e l : Fin 128), V c main_v0_1 (ix4 R H e l) = Whole.states (P V c) (A V c) (ix4 R H e l))
include hS
theorem bs_eq (t : Fin cfg1.N) (h : Fin 2) (n : ℕ) (hn : n < 8) : hs h (bs V c t h n) = Whole.S (P V c) (A V c) (hpt t h) (cpt t n) := by
  funext x e
  have hh := h.isLt
  have hx := x.isLt
  have hN : cfg1.N = 16 := N_1
  have ht := t.isLt
  refine (ldT_apply _ _ _ _ _).trans ((blk5 V c t _ _ _ _ ⟨cpt t n, by unfold cpt; omega⟩ (hpt t h) ?_ ?_).trans ((hS _ _ _ _).trans ?_))
  · show 8 * (7 - t.val % 8) + n = (7 - t.val % 8) * 8 + n % 8; omega
  · show 2 * (t.val / 8) + h.val = t.val / 8 * 2 + h.val; omega
  · unfold Whole.states
    rw [if_pos (by show (64 * h.val + x.val) / 64 = (2 * (t.val / 8) + h.val) % 2; omega)]
    exact congrFun (congrArg _ (Fin.ext (by show (64 * h.val + x.val) % 64 = x.val; omega))) _
omit hS

/-- Head `h`'s state gradient over the pair's lanes: the recurrence's on the head's, zero on the other's. -/
def isT (t : Fin cfg1.N) (n : ℕ) (h : Fin 2) (s : St 𝕀) : Prop := hs h s = Whole.T (P V c) (A V c) (D V c) (hpt t h) n ∧ only h s

theorem dF_isT (t : Fin cfg1.N) (s0 : Fin 2 → St 𝕀) (h0 : ∀ h, isT V c t (8 * (t.val % 8)) h (s0 h)) (h : Fin 2) :
    ∀ n ≤ 8, isT V c t (8 * (t.val % 8) + n) h (dF (bq V c t) (ba V c t) (bg V c t) s0 h n) := by
  intro n
  induction n with
  | zero => intro _; exact h0 h
  | succ n ih =>
    intro hn
    obtain ⟨i1, i2⟩ := ih (by omega)
    refine ⟨?_, prev_only h _ _ _ _ i2⟩
    refine (prev_apply h _ _ _ _).trans ?_
    rw [bq_eq V c t h (7 - n) (by omega), ba_eq V c t h (7 - n) (by omega), bg_eq V c t h (7 - n) (by omega)]
    have e : cpt t (7 - n) = 63 - (8 * (t.val % 8) + n) := by unfold cpt; omega
    rw [e]
    exact congrArg _ i1

theorem carried : ∀ (n : ℕ) (hn : n < cfg1.N) (h : Fin 2), isT V c ⟨n, hn⟩ (8 * (n % 8) + 8) h (ldS (outsAt1 V c n hn).2.2.2.2 h) := by
  have fin : ∀ (t : Fin cfg1.N) (s0 : Fin 2 → St 𝕀), (∀ h, isT V c t (8 * (t.val % 8)) h (s0 h)) → outsAt1 V c t.val t.isLt = leaves V c t s0 →
      ∀ h, isT V c t (8 * (t.val % 8) + 8) h (ldS (outsAt1 V c t.val t.isLt).2.2.2.2 h) := fun t s0 h0 e h => by
    rw [e]
    have e3 : (leaves V c t s0).2.2.2.2 = blkS (fun h => dF (bq V c t) (ba V c t) (bg V c t) s0 h 8) := rfl
    rw [e3, ldS_blkS]
    exact dF_isT V c t s0 h0 h 8 le_rfl
  intro n
  induction n with
  | zero =>
    intro hn
    exact fin ⟨0, hn⟩ zS (fun h => ⟨rfl, fun _ _ _ _ => rfl⟩) (outs_A V c ⟨0, hn⟩ rfl)
  | succ n ih =>
    intro hn
    by_cases h0 : (n + 1) % 8 = 0
    · refine fin ⟨n + 1, hn⟩ zS (fun h => ⟨?_, fun _ _ _ _ => rfl⟩) (outs_A V c ⟨n + 1, hn⟩ h0)
      show _ = Whole.T _ _ _ _ (8 * ((n + 1) % 8))
      rw [h0]; rfl
    · refine fin ⟨n + 1, hn⟩ _ (fun h => ?_) (outs_B V c ⟨n + 1, hn⟩ h0)
      have hp := ih (by omega) h
      have e1 : hpt ⟨n, by omega⟩ h = hpt ⟨n + 1, hn⟩ h := Fin.ext (by show 2 * (n / 8) + h.val = 2 * ((n + 1) / 8) + h.val; omega)
      have e2 : 8 * (n % 8) + 8 = 8 * ((n + 1) % 8) := by omega
      unfold isT at hp ⊢
      rw [e1, e2] at hp
      exact hp

/-- What a point leaves, its carried gradient entering as the recurrence has it. -/
theorem point (t : Fin cfg1.N) : ∃ s0, (∀ h, isT V c t (8 * (t.val % 8)) h (s0 h)) ∧ outsAt1 V c t.val t.isLt = leaves V c t s0 := by
  by_cases h0 : t.val % 8 = 0
  · refine ⟨zS, fun h => ⟨?_, fun _ _ _ _ => rfl⟩, outs_A V c t h0⟩
    rw [h0]; rfl
  · refine ⟨_, fun h => ?_, outs_B V c t h0⟩
    have hp := carried V c (t.val - 1) (Nat.lt_of_le_of_lt (Nat.sub_le _ _) t.isLt) h
    have e1 : hpt ⟨t.val - 1, Nat.lt_of_le_of_lt (Nat.sub_le _ _) t.isLt⟩ h = hpt t h :=
      Fin.ext (by show 2 * ((t.val - 1) / 8) + h.val = 2 * (t.val / 8) + h.val; omega)
    have e2 : 8 * ((t.val - 1) % 8) + 8 = 8 * (t.val % 8) := by omega
    unfold isT at hp ⊢
    rw [e1] at hp
    rw [← e2]
    exact hp

/-- The gradient a chunk is given. -/
theorem dF_at (t : Fin cfg1.N) (s0 : Fin 2 → St 𝕀) (h0 : ∀ h, isT V c t (8 * (t.val % 8)) h (s0 h)) (h : Fin 2) (n : ℕ) (hn : n < 8) :
    hs h (dF (bq V c t) (ba V c t) (bg V c t) s0 h (7 - n)) = Whole.T (P V c) (A V c) (D V c) (hpt t h) (63 - cpt t n) := by
  have e : 8 * (t.val % 8) + (7 - n) = 63 - cpt t n := by unfold cpt; omega
  rw [← e]
  exact (dF_isT V c t s0 h0 h (7 - n) (by omega)).1

/-! ### The results -/

/-- A block of the keys' rows is the array's. -/
theorem keys_at (t : Fin cfg1.N) (f : Fin 4 → ℕ → Spec.K64) (b : ℕ → M64 𝕀) (hb : ∀ (h : Fin 2) n, n < 8 → hd h (b n) = f (hpt t h) (cpt t n))
    (y0 : Fin 512) (y1 : Fin 128) (z : (⟨2, ![4096, 256]⟩ : Shape).Idx) (hz0 : (z 0).val = (7 - t.val % 8) * 512 + 1 * y0.val) (hz1 : (z 1).val = t.val / 8 * 128 + 1 * y1.val) :
    b (y0.val / 64) (ix2 ⟨y0.val % 64, Nat.mod_lt _ (by norm_num)⟩ y1) = Whole.rowsK f z := by
  have hy0 := y0.isLt
  have hy1 := y1.isLt
  obtain ⟨h', x, hl⟩ := lane_cases y1
  have hl' : y1.val = 64 * h'.val + x.val := congrArg Fin.val hl
  have hx := x.isLt
  rw [hl]
  refine (congrFun (congrFun (hb h' (y0.val / 64) (by omega)) ⟨y0.val % 64, by omega⟩) x).trans ?_
  unfold Whole.rowsK
  have a1 : hpt t h' = ⟨(z 1).val / 64, by have h : (z 1).val < 256 := (z 1).isLt; omega⟩ :=
    Fin.ext (by show 2 * (t.val / 8) + h'.val = (z 1).val / 64; rw [hz1]; omega)
  have a2 : cpt t (y0.val / 64) = (z 0).val / 64 := by rw [hz0]; unfold cpt; omega
  have a3 : (⟨y0.val % 64, by omega⟩ : Fin 64) = ⟨(z 0).val % 64, by omega⟩ := Fin.ext (by show y0.val % 64 = (z 0).val % 64; rw [hz0]; omega)
  have a4 : x = ⟨(z 1).val % 64, by omega⟩ := Fin.ext (by show x.val = (z 1).val % 64; rw [hz1]; omega)
  rw [a1, a2, a3]
  exact congrArg _ a4

/-- A block of the values' rows is the array's. -/
theorem values_at (t : Fin cfg1.N) (f : Fin 4 → ℕ → Spec.V64) (b : Fin 2 → ℕ → M64 𝕀) (hb : ∀ (h : Fin 2) n, n < 8 → hv (b h n) = f (hpt t h) (cpt t n))
    (y0 : Fin 512) (y1 : Fin 256) (z : (⟨2, ![4096, 512]⟩ : Shape).Idx) (hz0 : (z 0).val = (7 - t.val % 8) * 512 + 1 * y0.val) (hz1 : (z 1).val = t.val / 8 * 256 + 1 * y1.val) :
    b ⟨y1.val / 128, by have := y1.isLt; omega⟩ (y0.val / 64) (ix2 ⟨y0.val % 64, Nat.mod_lt _ (by norm_num)⟩ ⟨y1.val % 128, Nat.mod_lt _ (by norm_num)⟩) = Whole.rowsV f z := by
  have hy0 := y0.isLt
  have hy1 := y1.isLt
  refine (congrFun (congrFun (hb ⟨y1.val / 128, by omega⟩ (y0.val / 64) (by omega)) ⟨y0.val % 64, by omega⟩) ⟨y1.val % 128, by omega⟩).trans ?_
  unfold Whole.rowsV
  have a1 : hpt t ⟨y1.val / 128, by omega⟩ = ⟨(z 1).val / 128, by have h : (z 1).val < 512 := (z 1).isLt; omega⟩ :=
    Fin.ext (by show 2 * (t.val / 8) + y1.val / 128 = (z 1).val / 128; rw [hz1]; omega)
  have a2 : cpt t (y0.val / 64) = (z 0).val / 64 := by rw [hz0]; unfold cpt; omega
  have a3 : (⟨y0.val % 64, by omega⟩ : Fin 64) = ⟨(z 0).val % 64, by omega⟩ := Fin.ext (by show y0.val % 64 = (z 0).val % 64; rw [hz0]; omega)
  have a4 : (⟨y1.val % 128, by omega⟩ : Fin 128) = ⟨(z 1).val % 128, by omega⟩ := Fin.ext (by show y1.val % 128 = (z 1).val % 128; rw [hz1]; omega)
  rw [a1, a2, a3, a4]

theorem flush : ∀ (q0 : Fin 8) (q1 : Fin 2), ∃ t : Fin grid1.N, (win1_6.flush t = true ∧ win1_7.flush t = true ∧ win1_8.flush t = true
    ∧ win1_9.flush t = true) ∧ t.val = q0.val + 8 * q1.val := by decide +kernel
def G6 : Buf (Elt 𝕀) ((c : Thread nD τ).loc main_v1_0) := Whole.rowsK (Whole.oQ (P V c) (A V c) (D V c))
include hS
theorem flushed6_eq (t : Fin cfg1.N) : (dat V c).flushed 6 t = ((cfg1.win 6).blk t).view.read (Elt 𝕀) (G6 V c) := by
  show (cfg1.win 6).cut (grid1.coords t) ((dat V c).after 6 t) = _
  rw [after1_6]
  obtain ⟨s0, h0, e⟩ := point V c t
  rw [e]
  funext y
  exact keys_at t (Whole.oQ (P V c) (A V c) (D V c)) (gqF (bk V c t) (ba V c t) (bv V c t) (bg V c t) (bs V c t)) (fun h n hn => (hd_gq _ _ (fun h => bv V c t h n) (fun h => bg V c t h n) (fun h => bs V c t h n) h).trans (by rw [bk_eq V c t h n hn, ba_eq V c t h n hn, bv_eq V c t h n hn, bg_eq V c t h n hn, bs_eq V c hS t h n hn]; rfl))
    (y 0) (y 1) (((cfg1.win 6).blk t).view.emb y) (congrArg (· * 512 + 1 * (y 0).val) (congrFun (idx6 t) 0))
      (congrArg (· * 128 + 1 * (y 1).val) (congrFun (idx6 t) 1))
theorem final6 : (dat V c).arrAt 6 cfg1.N = G6 V c :=
  (dat V c).arrAt_eq_of_cover 6 _ (fun t hf => flushed6_eq V c hS t) (fun i => by
    have h0 : (i 0).val < 4096 := (i 0).isLt
    have h1 : (i 1).val < 256 := (i 1).isLt
    obtain ⟨t, ⟨hft, -⟩, ht⟩ := flush ⟨7 - (i 0).val / 512, by omega⟩ ⟨(i 1).val / 128, by omega⟩
    have ht' : t.val = 7 - (i 0).val / 512 + 8 * ((i 1).val / 128) := ht
    refine ⟨t, hft, in_slice fun a => ?_⟩
    match a with
    | ⟨0, _⟩ => exact in_blk ((congrFun (idx6 t) 0).trans (show 7 - t.val % 8 = (i 0).val / 512 by omega)) (Nat.succ_pos _)
    | ⟨1, _⟩ => exact in_blk ((congrFun (idx6 t) 1).trans (show t.val / 8 = (i 1).val / 128 by omega)) (Nat.succ_pos _))
omit hS
def G7 : Buf (Elt 𝕀) ((c : Thread nD τ).loc main_v1_1) := Whole.rowsK (Whole.oK (P V c) (A V c) (D V c))
theorem flushed7_eq (t : Fin cfg1.N) : (dat V c).flushed 7 t = ((cfg1.win 7).blk t).view.read (Elt 𝕀) (G7 V c) := by
  show (cfg1.win 7).cut (grid1.coords t) ((dat V c).after 7 t) = _
  rw [after1_7]
  obtain ⟨s0, h0, e⟩ := point V c t
  rw [e]
  funext y
  exact keys_at t (Whole.oK (P V c) (A V c) (D V c)) (gkF (bq V c t) (ba V c t) (bv V c t) (bg V c t) s0) (fun h n hn => (hd_gk _ _ (fun h => bv V c t h n) (fun h => bg V c t h n) (fun h => dF (bq V c t) (ba V c t) (bg V c t) s0 h (7 - n)) h).trans (by rw [bq_eq V c t h n hn, ba_eq V c t h n hn, bv_eq V c t h n hn, bg_eq V c t h n hn, dF_at V c t s0 h0 h n hn]; rfl))
    (y 0) (y 1) (((cfg1.win 7).blk t).view.emb y) (congrArg (· * 512 + 1 * (y 0).val) (congrFun (idx7 t) 0))
      (congrArg (· * 128 + 1 * (y 1).val) (congrFun (idx7 t) 1))
theorem final7 : (dat V c).arrAt 7 cfg1.N = G7 V c :=
  (dat V c).arrAt_eq_of_cover 7 _ (fun t hf => flushed7_eq V c t) (fun i => by
    have h0 : (i 0).val < 4096 := (i 0).isLt
    have h1 : (i 1).val < 256 := (i 1).isLt
    obtain ⟨t, ⟨-, hft, -⟩, ht⟩ := flush ⟨7 - (i 0).val / 512, by omega⟩ ⟨(i 1).val / 128, by omega⟩
    have ht' : t.val = 7 - (i 0).val / 512 + 8 * ((i 1).val / 128) := ht
    refine ⟨t, hft, in_slice fun a => ?_⟩
    match a with
    | ⟨0, _⟩ => exact in_blk ((congrFun (idx7 t) 0).trans (show 7 - t.val % 8 = (i 0).val / 512 by omega)) (Nat.succ_pos _)
    | ⟨1, _⟩ => exact in_blk ((congrFun (idx7 t) 1).trans (show t.val / 8 = (i 1).val / 128 by omega)) (Nat.succ_pos _))
def G8 : Buf (Elt 𝕀) ((c : Thread nD τ).loc main_v1_2) := Whole.rowsK (Whole.oA (P V c) (A V c) (D V c))
include hS
theorem flushed8_eq (t : Fin cfg1.N) : (dat V c).flushed 8 t = ((cfg1.win 8).blk t).view.read (Elt 𝕀) (G8 V c) := by
  show (cfg1.win 8).cut (grid1.coords t) ((dat V c).after 8 t) = _
  rw [after1_8]
  obtain ⟨s0, h0, e⟩ := point V c t
  rw [e]
  funext y
  exact keys_at t (Whole.oA (P V c) (A V c) (D V c)) (gaF (bq V c t) (bk V c t) (ba V c t) (bv V c t) (bg V c t) (bs V c t) s0) (fun h n hn => (hd_ga _ _ _ (fun h => bv V c t h n) (fun h => bg V c t h n) (fun h => bs V c t h n) (fun h => dF (bq V c t) (ba V c t) (bg V c t) s0 h (7 - n)) h (fun h => (dF_isT V c t s0 h0 h (7 - n) (by omega)).2)).trans (by rw [bq_eq V c t h n hn, bk_eq V c t h n hn, ba_eq V c t h n hn, bv_eq V c t h n hn, bg_eq V c t h n hn, bs_eq V c hS t h n hn, dF_at V c t s0 h0 h n hn]; rfl))
    (y 0) (y 1) (((cfg1.win 8).blk t).view.emb y) (congrArg (· * 512 + 1 * (y 0).val) (congrFun (idx8 t) 0))
      (congrArg (· * 128 + 1 * (y 1).val) (congrFun (idx8 t) 1))
theorem final8 : (dat V c).arrAt 8 cfg1.N = G8 V c :=
  (dat V c).arrAt_eq_of_cover 8 _ (fun t hf => flushed8_eq V c hS t) (fun i => by
    have h0 : (i 0).val < 4096 := (i 0).isLt
    have h1 : (i 1).val < 256 := (i 1).isLt
    obtain ⟨t, ⟨-, -, hft, -⟩, ht⟩ := flush ⟨7 - (i 0).val / 512, by omega⟩ ⟨(i 1).val / 128, by omega⟩
    have ht' : t.val = 7 - (i 0).val / 512 + 8 * ((i 1).val / 128) := ht
    refine ⟨t, hft, in_slice fun a => ?_⟩
    match a with
    | ⟨0, _⟩ => exact in_blk ((congrFun (idx8 t) 0).trans (show 7 - t.val % 8 = (i 0).val / 512 by omega)) (Nat.succ_pos _)
    | ⟨1, _⟩ => exact in_blk ((congrFun (idx8 t) 1).trans (show t.val / 8 = (i 1).val / 128 by omega)) (Nat.succ_pos _))
omit hS
def G9 : Buf (Elt 𝕀) ((c : Thread nD τ).loc main_v1_3) := Whole.rowsV (Whole.oV (P V c) (A V c) (D V c))
theorem flushed9_eq (t : Fin cfg1.N) : (dat V c).flushed 9 t = ((cfg1.win 9).blk t).view.read (Elt 𝕀) (G9 V c) := by
  show (cfg1.win 9).cut (grid1.coords t) ((dat V c).after 9 t) = _
  rw [after1_9]
  obtain ⟨s0, h0, e⟩ := point V c t
  rw [e]
  funext y
  exact values_at t (Whole.oV (P V c) (A V c) (D V c)) (gvF (bq V c t) (bk V c t) (ba V c t) (bg V c t) s0) (fun h n hn => (gv_apply h _ _ _ _ _).trans (by rw [bq_eq V c t h n hn, bk_eq V c t h n hn, ba_eq V c t h n hn, bg_eq V c t h n hn, dF_at V c t s0 h0 h n hn]; rfl))
    (y 0) (y 1) (((cfg1.win 9).blk t).view.emb y) (congrArg (· * 512 + 1 * (y 0).val) (congrFun (idx9 t) 0))
      (congrArg (· * 256 + 1 * (y 1).val) (congrFun (idx9 t) 1))
theorem final9 : (dat V c).arrAt 9 cfg1.N = G9 V c :=
  (dat V c).arrAt_eq_of_cover 9 _ (fun t hf => flushed9_eq V c t) (fun i => by
    have h0 : (i 0).val < 4096 := (i 0).isLt
    have h1 : (i 1).val < 512 := (i 1).isLt
    obtain ⟨t, ⟨-, -, -, hft⟩, ht⟩ := flush ⟨7 - (i 0).val / 512, by omega⟩ ⟨(i 1).val / 256, by omega⟩
    have ht' : t.val = 7 - (i 0).val / 512 + 8 * ((i 1).val / 256) := ht
    refine ⟨t, hft, in_slice fun a => ?_⟩
    match a with
    | ⟨0, _⟩ => exact in_blk ((congrFun (idx9 t) 0).trans (show 7 - t.val % 8 = (i 0).val / 512 by omega)) (Nat.succ_pos _)
    | ⟨1, _⟩ => exact in_blk ((congrFun (idx9 t) 1).trans (show t.val / 8 = (i 1).val / 256 by omega)) (Nat.succ_pos _))

end

end Cert.KernelIdeal.Bwd

end
-- ==== Proof.Final.lean ====
module

public import proofs.«01_k».proof.Proof.Run
public import proofs.«01_k».proof.Proof.Fwd.Value
public import proofs.«01_k».proof.Proof.Bwd.Value

@[expose] public section

noncomputable section

/-! What the two regions leave in the result arrays, as functions of the argument arrays. -/

namespace Cert.KernelIdeal.Run

open Cert.KernelIdeal Cert.KernelIdeal.Gen Cert.Proof
open Idealize.ShloMosaic Idealize.ShloMosaic.TcCoe Idealize.SL.Sem

local notation "𝕀" => Idealize.ShloMosaic.Ideal

variable (m : (ℓ : Loc nD τ sig) → Buf (Elt 𝕀) ℓ) (ρ : Dev nD → PrngReg) (c : Dev nD)

def kP (r : Fin 4096) (x : Fin 2176) : EReal := m ((c : Thread nD τ).loc main_arg0) (ix2 r x)
def kA (r : Fin 4096) (x : Fin 256) : EReal := m ((c : Thread nD τ).loc main_arg1) (ix2 r x)
def kG (r : Fin 4096) (x : Fin 512) : EReal := m ((c : Thread nD τ).loc main_arg2) (ix2 r x)

theorem P1 : Bwd.P (V1 m ρ) c = kP m c := by
  funext r x; exact congrFun (W1_args m ρ c main_arg0 (by decide)) (ix2 r x)
theorem A1 : Bwd.A (V1 m ρ) c = kA m c := by
  funext r x; exact congrFun (W1_args m ρ c main_arg1 (by decide)) (ix2 r x)
theorem D1 : Bwd.D (V1 m ρ) c = kG m c := by
  funext r x; exact congrFun (W1_args m ρ c main_arg2 (by decide)) (ix2 r x)

/-- The second region finds the first one's states. -/
theorem states1 (R : Fin 64) (H : Fin 4) (e l : Fin 128) :
    V1 m ρ c main_v0_1 (ix4 R H e l) = Whole.states (Bwd.P (V1 m ρ) c) (Bwd.A (V1 m ρ) c) (ix4 R H e l) := by
  rw [P1, A1]
  exact congrFun ((W1_arr m ρ c 5).trans (Fwd.final5 (V0 m ρ) c)) (ix4 R H e l)

theorem out0 : W2 m ρ c (Proc.devRef .tc main_v0_0) = Whole.rowsV (Whole.oO (kP m c) (kA m c)) :=
  (W2_of m ρ c main_v0_0 (by decide +kernel)).trans ((W1_arr m ρ c 4).trans (Fwd.final4 (V0 m ρ) c))
theorem out1 : W2 m ρ c (Proc.devRef .tc main_v1_0) = Whole.rowsK (Whole.oQ (kP m c) (kA m c) (kG m c)) := by
  rw [← P1 m ρ, ← A1 m ρ, ← D1 m ρ]
  exact (W2_arr m ρ c 6).trans (Bwd.final6 (V1 m ρ) c (states1 m ρ c))
theorem out2 : W2 m ρ c (Proc.devRef .tc main_v1_1) = Whole.rowsK (Whole.oK (kP m c) (kA m c) (kG m c)) := by
  rw [← P1 m ρ, ← A1 m ρ, ← D1 m ρ]
  exact (W2_arr m ρ c 7).trans (Bwd.final7 (V1 m ρ) c)
theorem out3 : W2 m ρ c (Proc.devRef .tc main_v1_2) = Whole.rowsK (Whole.oA (kP m c) (kA m c) (kG m c)) := by
  rw [← P1 m ρ, ← A1 m ρ, ← D1 m ρ]
  exact (W2_arr m ρ c 8).trans (Bwd.final8 (V1 m ρ) c (states1 m ρ c))
theorem out4 : W2 m ρ c (Proc.devRef .tc main_v1_3) = Whole.rowsV (Whole.oV (kP m c) (kA m c) (kG m c)) := by
  rw [← P1 m ρ, ← A1 m ρ, ← D1 m ρ]
  exact (W2_arr m ρ c 9).trans (Bwd.final9 (V1 m ρ) c)

end Cert.KernelIdeal.Run

end
-- ==== Proof.Ref.Ops.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

/-- The contents of an f32 buffer. -/
abbrev C (F : FTy → Type) [FloatOps F] (S : Shape) : Type := (⟨S, .f32⟩ : BufTy).Contents (Elt F)

/-- A stretch of host operations. -/
abbrev Ops (F : FTy → Type) [FloatOps F] : Type := List (HloOp τ sig (Elt F))

/-- A stretch touches buffers of the program only. -/
abbrev Within (l : Ops F) : Prop := l.Forall fun op => op.bufs ⊆ tcRefs τ sig

/-! ## @main and its two loop bodies as lists of host operations -/

abbrev preOps0 : Ops F :=
  [ unary main_arg0 main_v0 ((extractStridedSlice S4096x256 ![0, 0] · slices_S4096x2176_S4096x256_0_0)),
    unary main_v0 main_v1 (broadcastInDim S1x4096x256 ![1, 2] bcast_S4096x256_S1x4096x256_1_2),
    unary main_arg0 main_v2 ((extractStridedSlice S4096x256 ![0, 256] · slices_S4096x2176_S4096x256_0_256)),
    unary main_v2 main_v3 (broadcastInDim S1x4096x256 ![1, 2] bcast_S4096x256_S1x4096x256_1_2),
    unary main_arg0 main_v4 ((extractStridedSlice S4096x512 ![0, 512] · slices_S4096x2176_S4096x512_0_512)),
    unary main_v4 main_v5 (broadcastInDim S1x4096x512 ![1, 2] bcast_S4096x512_S1x4096x512_1_2),
    unary main_arg1 main_v6 (broadcastInDim S1x4096x256 ![1, 2] bcast_S4096x256_S1x4096x256_1_2),
    reshape main_v1 main_v7 rfl shapeCasts_S1x4096x256_S1x4096x4x64,
    unary main_v7 main_v8 ((transpose S1x4x4096x64 [0, 2, 1, 3] · transposes_S1x4096x4x64_S1x4x4096x64_0_2_1_3)),
    reshape main_v3 main_v9 rfl shapeCasts_S1x4096x256_S1x4096x4x64,
    unary main_v9 main_v10 ((transpose S1x4x4096x64 [0, 2, 1, 3] · transposes_S1x4096x4x64_S1x4x4096x64_0_2_1_3)),
    reshape main_v5 main_v11 rfl shapeCasts_S1x4096x512_S1x4096x4x128,
    unary main_v11 main_v12 ((transpose S1x4x4096x128 [0, 2, 1, 3] · transposes_S1x4096x4x128_S1x4x4096x128_0_2_1_3)),
    reshape main_v6 main_v13 rfl shapeCasts_S1x4096x256_S1x4096x4x64,
    unary main_v13 main_v14 ((transpose S1x4x4096x64 [0, 2, 1, 3] · transposes_S1x4096x4x64_S1x4x4096x64_0_2_1_3)),
    reshape main_v8 main_v15 rfl shapeCasts_S1x4x4096x64_S1x4x64x64x64,
    nullary main_cst (constant S_ .f32 0x3E000000#32),
    unary main_cst main_v16 (broadcastInDim S1x4x64x64x64 ![] bcast_S_S1x4x64x64x64),
    binary main_v15 main_v16 main_v17 (mulf),
    reshape main_v10 main_v18 rfl shapeCasts_S1x4x4096x64_S1x4x64x64x64,
    reshape main_v12 main_v19 rfl shapeCasts_S1x4x4096x128_S1x4x64x64x128,
    reshape main_v14 main_v20 rfl shapeCasts_S1x4x4096x64_S1x4x64x64x64 ]
theorem preOps0_sub : Within (F := F) preOps0 := by simp

abbrev preOps1 : Ops F :=
  [ TRef.nullary (.of main_call0_call0_cst : TRef sig ⟨S_, .f32⟩) (constant S_ .f32 0x00000000#32),
    TRef.unary (.of main_call0_call0_cst : TRef sig ⟨S_, .f32⟩) (.of main_call0_call0_v0 : TRef sig ⟨S_, .f32⟩) (broadcastInDim S_ ![] bcast_S_S_),
    TRef.binary (.of main_v20 : TRef sig ⟨S1x4x64x64x64, .f32⟩) (.of main_call0_call0_v0 : TRef sig ⟨S_, .f32⟩) (.of main_v21 : TRef sig ⟨S1x4x64x64x64, .f32⟩) (fun x v => Host.reduceWindowAdd ![1, 1, 1, 64, 1] ![1, 1, 1, 1, 1] ![0, 0, 0, 63, 0] ![0, 0, 0, 0, 0] x v reduceWindows_S1x4x64x64x64_S1x4x64x64x64_w1s1p0_0_w1s1p0_0_w1s1p0_0_w64s1p63_0_w1s1p0_0 h_S_) ]
theorem preOps1_sub : Within (F := F) preOps1 :=
  ⟨nullary_bufs_sub .., unary_bufs_sub .., binary_bufs_sub ..⟩

abbrev preOps2 : Ops F :=
  [ unary main_v21 main_v22 ((extractStridedSlice S1x4x64x1x64 ![0, 0, 0, 63, 0] · slices_S1x4x64x64x64_S1x4x64x1x64_0_0_0_63_0)),
    unary main_v21 main_v23 (Host.exp),
    binary main_v17 main_v23 main_v24 (mulf),
    unary main_v21 main_v25 (Host.negf),
    unary main_v25 main_v26 (Host.exp),
    binary main_v18 main_v26 main_v27 (mulf),
    unary main_v22 main_v28 (broadcastInDim S1x4x64x64x64 ![0, 1, 2, 3, 4] bcast_S1x4x64x1x64_S1x4x64x64x64_0_1_2_3_4),
    binary main_v28 main_v21 main_v29 (subf),
    unary main_v29 main_v30 (Host.exp),
    binary main_v18 main_v30 main_v31 (mulf),
    binary main_v24 main_v27 main_v32 ((fun l r => Host.dotGeneral dot_S1x4x64x64x64_S1x4x64x64x64_S1x4x64x64x64_4_4_3_3_012_012 none l r)),
    nullary main_c (constantI S_ 1 1#1),
    unary main_c main_v33 (broadcastInDim S64x64 ![] bcast_S_S64x64 : (⟨S_, .i1⟩ : BufTy).Contents (Elt F) → (⟨S64x64, .i1⟩ : BufTy).Contents (Elt F)) ]
theorem preOps2_sub : Within (F := F) preOps2 := by simp

abbrev preOps3 : Ops F :=
  [ TRef.nullary (.of main_call1_v0 : TRef sig ⟨S64x64, .i32⟩) (iotaInDim S64x64 32 0),
    TRef.nullary (.of main_call1_c : TRef sig ⟨S_, .i32⟩) (constantI S_ 32 0#32),
    TRef.unary (.of main_call1_c : TRef sig ⟨S_, .i32⟩) (.of main_call1_v1 : TRef sig ⟨S64x64, .i32⟩) (broadcastInDim S64x64 ![] bcast_S_S64x64),
    TRef.binary (.of main_call1_v0 : TRef sig ⟨S64x64, .i32⟩) (.of main_call1_v1 : TRef sig ⟨S64x64, .i32⟩) (.of main_call1_v2 : TRef sig ⟨S64x64, .i32⟩) addi,
    TRef.nullary (.of main_call1_v3 : TRef sig ⟨S64x64, .i32⟩) (iotaInDim S64x64 32 1),
    TRef.binary (.of main_call1_v2 : TRef sig ⟨S64x64, .i32⟩) (.of main_call1_v3 : TRef sig ⟨S64x64, .i32⟩) (.of main_call1_v4 : TRef sig ⟨S64x64, .i1⟩) (cmpi .sge),
    TRef.nullary (.of main_call1_c_0 : TRef sig ⟨S_, .i1⟩) (constantI S_ 1 0#1),
    TRef.unary (.of main_call1_c_0 : TRef sig ⟨S_, .i1⟩) (.of main_call1_v5 : TRef sig ⟨S64x64, .i1⟩) (broadcastInDim S64x64 ![] bcast_S_S64x64),
    TRef.ternary (.of main_call1_v4 : TRef sig ⟨S64x64, .i1⟩) (.of main_v33 : TRef sig ⟨S64x64, .i1⟩) (.of main_call1_v5 : TRef sig ⟨S64x64, .i1⟩) (.of main_v34 : TRef sig ⟨S64x64, .i1⟩) select ]
theorem preOps3_sub : Within (F := F) preOps3 := by simp [TRef.unary, TRef.binary, TRef.nullary, TRef.ternary]

abbrev preOps4 : Ops F :=
  [ nullary main_cst_0 (constant S_ .f32 0x00000000#32) ]
theorem preOps4_sub : Within (F := F) preOps4 :=
  nullary_bufs_sub ..

abbrev preOps5 : Ops F :=
  [ TRef.unary (.of main_cst_0 : TRef sig ⟨S_, .f32⟩) (.of main_call2_v0 : TRef sig ⟨S_, .f32⟩) id,
    TRef.unary (.of main_v34 : TRef sig ⟨S64x64, .i1⟩) (.of main_v35_1 : TRef sig ⟨S1x4x64x64x64, .i1⟩) (broadcastInDim S1x4x64x64x64 ![3, 4] bcast_S64x64_S1x4x64x64x64_3_4),
    TRef.unary (.of main_call2_v0 : TRef sig ⟨S_, .f32⟩) (.of main_call2_v2 : TRef sig ⟨S1x4x64x64x64, .f32⟩) (broadcastInDim S1x4x64x64x64 ![] bcast_S_S1x4x64x64x64),
    TRef.ternary (.of main_v35_1 : TRef sig ⟨S1x4x64x64x64, .i1⟩) (.of main_v32 : TRef sig ⟨S1x4x64x64x64, .f32⟩) (.of main_call2_v2 : TRef sig ⟨S1x4x64x64x64, .f32⟩) (.of main_v35_0 : TRef sig ⟨S1x4x64x64x64, .f32⟩) select,
    TRef.nullary (.of main_call2_cst : TRef sig ⟨S_, .f32⟩) (constant S_ .f32 0x00000000#32),
    TRef.unary (.of main_call2_cst : TRef sig ⟨S_, .f32⟩) (.of main_v35_2 : TRef sig ⟨S1x4x64x64x64, .f32⟩) (broadcastInDim S1x4x64x64x64 ![] bcast_S_S1x4x64x64x64) ]
theorem preOps5_sub : Within (F := F) preOps5 := by simp [TRef.unary, TRef.binary, TRef.nullary, TRef.ternary]

abbrev preOps6 : Ops F :=
  [ binary main_v35_0 main_v19 main_v36 ((fun l r => Host.dotGeneral dot_S1x4x64x64x64_S1x4x64x64x128_S1x4x64x64x128_4_3_3_4_012_012 none l r)),
    binary main_v31 main_v19 main_v37 ((fun l r => Host.dotGeneral dot_S1x4x64x64x64_S1x4x64x64x128_S64x1x4x64x128_3_3_4_4_201_201 none l r)),
    reshape main_v22 main_v38 rfl shapeCasts_S1x4x64x1x64_S1x4x64x64,
    unary main_v38 main_v39 (Host.exp),
    unary main_v39 main_v40 ((transpose S64x1x4x64 [2, 0, 1, 3] · transposes_S1x4x64x64_S64x1x4x64_2_0_1_3)),
    nullary main_cst_1 (constant S_ .f32 0x00000000#32),
    unary main_cst_1 main_v41 (broadcastInDim S1x4x64x128 ![] bcast_S_S1x4x64x128),
    nullary main_cst_2 (constant S_ .f32 0x00000000#32),
    unary main_cst_2 main_v42 (broadcastInDim S64x1x4x64x128 ![] bcast_S_S64x1x4x64x128),
    nullary main_cst_3 (constant S_ .f32 0x00000000#32),
    unary main_cst_3 main_v43 (broadcastInDim S64x1x4x64x1 ![] bcast_S_S64x1x4x64x1),
    nullary main_c_4 (constantI S_ 32 0#32),
    unary main_v40 main_v44_0 id,
    unary main_v37 main_v44_1 id,
    unary main_c_4 main_v44_2 id,
    unary main_v41 main_v44_3 id,
    unary main_v42 main_v44_4 id,
    unary main_v43 main_v44_5 id ]
theorem preOps6_sub : Within (F := F) preOps6 := by simp

abbrev midOps0 : Ops F :=
  [ binary main_v24 main_v44_4 main_v45 ((fun l r => Host.dotGeneral dot_S1x4x64x64x64_S64x1x4x64x128_S1x4x64x64x128_4_3_3_4_012_120 none l r)),
    binary main_v36 main_v45 main_v46 (addf) ]
theorem midOps0_sub : Within (F := F) midOps0 :=
  ⟨binary_bufs_sub .., binary_bufs_sub ..⟩

abbrev midOps1 : Ops F :=
  [ reshape main_v46 main_v47 rfl shapeCasts_S1x4x64x64x128_S1x4x4096x128,
    unary main_v47 main_v48 ((transpose S1x4096x4x128 [0, 2, 1, 3] · transposes_S1x4x4096x128_S1x4096x4x128_0_2_1_3)),
    reshape main_v48 main_v49 rfl shapeCasts_S1x4096x4x128_S1x4096x512,
    unary main_arg2 main_v50 (broadcastInDim S1x4096x512 ![1, 2] bcast_S4096x512_S1x4096x512_1_2),
    nullary main_cst_5 (constant S_ .f32 0x00000000#32),
    unary main_cst_5 main_v51 (broadcastInDim S1x4x64x128 ![] bcast_S_S1x4x64x128),
    reshape main_v50 main_v52 rfl shapeCasts_S1x4096x512_S1x4096x4x128,
    unary main_v52 main_v53 ((transpose S1x4x4096x128 [0, 2, 1, 3] · transposes_S1x4096x4x128_S1x4x4096x128_0_2_1_3)),
    reshape main_v53 main_v54 rfl shapeCasts_S1x4x4096x128_S1x4x64x64x128,
    binary main_v54 main_v24 main_v55 ((fun l r => Host.dotGeneral dot_S1x4x64x64x128_S1x4x64x64x64_S1x4x64x128x64_3_3_4_4_012_012 none l r)),
    unary main_v55 main_v56 ((transpose S64x1x4x64x128 [2, 0, 1, 4, 3] · transposes_S1x4x64x128x64_S64x1x4x64x128_2_0_1_4_3)),
    binary main_v54 main_v44_4 main_v57 ((fun l r => Host.dotGeneral dot_S1x4x64x64x128_S64x1x4x64x128_S1x4x64x64x64_4_4_3_3_012_120 none l r)),
    nullary main_cst_6 (constant S_ .f32 0x00000000#32),
    unary main_cst_6 main_v58 (broadcastInDim S1x4x64x128 ![] bcast_S_S1x4x64x128),
    nullary main_cst_7 (constant S_ .f32 0x00000000#32),
    unary main_cst_7 main_v59 (broadcastInDim S64x1x4x64 ![] bcast_S_S64x1x4x64),
    nullary main_cst_8 (constant S_ .f32 0x00000000#32),
    unary main_cst_8 main_v60 (broadcastInDim S64x1x4x64x128 ![] bcast_S_S64x1x4x64x128),
    nullary main_c_9 (constantI S_ 32 0#32),
    unary main_v56 main_v61_0 id,
    unary main_v44_4 main_v61_1 id,
    unary main_v44_5 main_v61_2 id,
    unary main_c_9 main_v61_3 id,
    unary main_v58 main_v61_4 id,
    unary main_v59 main_v61_5 id,
    unary main_v60 main_v61_6 id ]
theorem midOps1_sub : Within (F := F) midOps1 := by simp

abbrev postOps0 : Ops F :=
  [ unary main_v61_5 main_v62 ((transpose S1x4x64x64 [1, 2, 0, 3] · transposes_S64x1x4x64_S1x4x64x64_1_2_0_3)),
    binary main_v62 main_v39 main_v63 (mulf),
    unary main_v63 main_v64 (broadcastInDim S1x4x64x1x64 ![0, 1, 2, 4] bcast_S1x4x64x64_S1x4x64x1x64_0_1_2_4),
    binary main_v61_6 main_v31 main_v65 ((fun l r => Host.dotGeneral dot_S64x1x4x64x128_S1x4x64x64x64_S64x1x4x128x64_3_4_4_3_012_201 none l r)),
    unary main_v65 main_v66 ((transpose S1x4x64x64x128 [1, 2, 0, 4, 3] · transposes_S64x1x4x128x64_S1x4x64x64x128_1_2_0_4_3)),
    binary main_v61_6 main_v19 main_v67 ((fun l r => Host.dotGeneral dot_S64x1x4x64x128_S1x4x64x64x128_S64x1x4x64x64_4_4_3_3_012_201 none l r)),
    unary main_v67 main_v68 ((transpose S1x4x64x64x64 [1, 2, 0, 4, 3] · transposes_S64x1x4x64x64_S1x4x64x64x64_1_2_0_4_3)),
    binary main_v54 main_v35_0 main_v69 ((fun l r => Host.dotGeneral dot_S1x4x64x64x128_S1x4x64x64x64_S1x4x64x128x64_3_3_4_4_012_012 none l r)),
    unary main_v69 main_v70 ((transpose S1x4x64x64x128 [0, 1, 2, 4, 3] · transposes_S1x4x64x128x64_S1x4x64x64x128_0_1_2_4_3)),
    binary main_v66 main_v70 main_v71 (addf),
    binary main_v54 main_v19 main_v72 ((fun l r => Host.dotGeneral dot_S1x4x64x64x128_S1x4x64x64x128_S1x4x64x64x64_4_4_3_3_012_012 none l r)) ]
theorem postOps0_sub : Within (F := F) postOps0 := by simp

abbrev postOps1 : Ops F :=
  [ TRef.nullary (.of main_call12_cst : TRef sig ⟨S_, .f32⟩) (constant S_ .f32 0x00000000#32),
    TRef.unary (.of main_call12_cst : TRef sig ⟨S_, .f32⟩) (.of main_call12_v0 : TRef sig ⟨S1x4x64x64x64, .f32⟩) (broadcastInDim S1x4x64x64x64 ![] bcast_S_S1x4x64x64x64),
    TRef.ternary (.of main_v35_1 : TRef sig ⟨S1x4x64x64x64, .i1⟩) (.of main_v72 : TRef sig ⟨S1x4x64x64x64, .f32⟩) (.of main_call12_v0 : TRef sig ⟨S1x4x64x64x64, .f32⟩) (.of main_v73 : TRef sig ⟨S1x4x64x64x64, .f32⟩) select ]
theorem postOps1_sub : Within (F := F) postOps1 :=
  ⟨nullary_bufs_sub .., unary_bufs_sub .., ternary_bufs_sub ..⟩

abbrev postOps2 : Ops F :=
  [ binary main_v73 main_v24 main_v74 ((fun l r => Host.dotGeneral dot_S1x4x64x64x64_S1x4x64x64x64_S1x4x64x64x64_3_3_4_4_012_012 none l r)),
    binary main_v73 main_v27 main_v75 ((fun l r => Host.dotGeneral dot_S1x4x64x64x64_S1x4x64x64x64_S1x4x64x64x64_4_3_3_4_012_012 none l r)),
    binary main_v57 main_v75 main_v76 (addf),
    binary main_v18 main_v68 main_v77 (mulf),
    binary main_v68 main_v30 main_v78 (mulf),
    binary main_v77 main_v30 main_v79 (mulf),
    nullary main_cst_10 (constant S_ .f32 0x00000000#32),
    binary main_v79 main_cst_10 main_v80 ((fun x v => Host.reduceAdd x v reducesTo_S1x4x64x64x64_S1x4x64x64_d3 h_S_)),
    reshape main_v80 main_v81 rfl shapeCasts_S1x4x64x64_S1x4x64x1x64,
    unary main_v79 main_v82 (Host.negf),
    binary main_v64 main_v81 main_v83 (addf),
    binary main_v18 main_v74 main_v84 (mulf),
    binary main_v74 main_v26 main_v85 (mulf),
    binary main_v78 main_v85 main_v86 (addf),
    binary main_v84 main_v26 main_v87 (mulf),
    unary main_v87 main_v88 (Host.negf),
    binary main_v82 main_v88 main_v89 (addf),
    binary main_v17 main_v76 main_v90 (mulf),
    binary main_v76 main_v23 main_v91 (mulf),
    binary main_v90 main_v23 main_v92 (mulf),
    binary main_v89 main_v92 main_v93 (addf) ]
theorem postOps2_sub : Within (F := F) postOps2 := by simp

abbrev postOps3 : Ops F :=
  [ nullary main_cst_11 (constant S_ .f32 0x00000000#32),
    binary main_v83 main_cst_11 main_v94 ((fun x v => pad S1x4x64x64x64 ![0, 0, 0, 63, 0] ![0, 0, 0, 0, 0] ![0, 0, 0, 0, 0] x v pads_S1x4x64x1x64_S1x4x64x64x64_000_000_000_6300_000 h_S_)),
    binary main_v93 main_v94 main_v95 (addf) ]
theorem postOps3_sub : Within (F := F) postOps3 := by simp

abbrev postOps4 : Ops F :=
  [ TRef.nullary (.of main_call13_call0_cst : TRef sig ⟨S_, .f32⟩) (constant S_ .f32 0x00000000#32),
    TRef.unary (.of main_call13_call0_cst : TRef sig ⟨S_, .f32⟩) (.of main_call13_call0_v0 : TRef sig ⟨S_, .f32⟩) (broadcastInDim S_ ![] bcast_S_S_),
    TRef.binary (.of main_v95 : TRef sig ⟨S1x4x64x64x64, .f32⟩) (.of main_call13_call0_v0 : TRef sig ⟨S_, .f32⟩) (.of main_v96 : TRef sig ⟨S1x4x64x64x64, .f32⟩) (fun x v => Host.reduceWindowAdd ![1, 1, 1, 64, 1] ![1, 1, 1, 1, 1] ![0, 0, 0, 0, 0] ![0, 0, 0, 63, 0] x v reduceWindows_S1x4x64x64x64_S1x4x64x64x64_w1s1p0_0_w1s1p0_0_w1s1p0_0_w64s1p0_63_w1s1p0_0 h_S_) ]
theorem postOps4_sub : Within (F := F) postOps4 :=
  ⟨nullary_bufs_sub .., unary_bufs_sub .., binary_bufs_sub ..⟩

abbrev postOps5 : Ops F :=
  [ reshape main_v96 main_v97 rfl shapeCasts_S1x4x64x64x64_S1x4x4096x64,
    reshape main_v71 main_v98 rfl shapeCasts_S1x4x64x64x128_S1x4x4096x128,
    reshape main_v86 main_v99 rfl shapeCasts_S1x4x64x64x64_S1x4x4096x64,
    nullary main_cst_12 (constant S_ .f32 0x3E000000#32),
    unary main_cst_12 main_v100 (broadcastInDim S1x4x64x64x64 ![] bcast_S_S1x4x64x64x64),
    binary main_v91 main_v100 main_v101 (mulf),
    reshape main_v101 main_v102 rfl shapeCasts_S1x4x64x64x64_S1x4x4096x64,
    unary main_v97 main_v103 ((transpose S1x4096x4x64 [0, 2, 1, 3] · transposes_S1x4x4096x64_S1x4096x4x64_0_2_1_3)),
    reshape main_v103 main_v104 rfl shapeCasts_S1x4096x4x64_S1x4096x256,
    unary main_v98 main_v105 ((transpose S1x4096x4x128 [0, 2, 1, 3] · transposes_S1x4x4096x128_S1x4096x4x128_0_2_1_3)),
    reshape main_v105 main_v106 rfl shapeCasts_S1x4096x4x128_S1x4096x512,
    unary main_v99 main_v107 ((transpose S1x4096x4x64 [0, 2, 1, 3] · transposes_S1x4x4096x64_S1x4096x4x64_0_2_1_3)),
    reshape main_v107 main_v108 rfl shapeCasts_S1x4096x4x64_S1x4096x256,
    unary main_v102 main_v109 ((transpose S1x4096x4x64 [0, 2, 1, 3] · transposes_S1x4x4096x64_S1x4096x4x64_0_2_1_3)),
    reshape main_v109 main_v110 rfl shapeCasts_S1x4096x4x64_S1x4096x256,
    reshape main_v49 main_v111 rfl shapeCasts_S1x4096x512_S4096x512,
    reshape main_v110 main_v112 rfl shapeCasts_S1x4096x256_S4096x256,
    reshape main_v108 main_v113 rfl shapeCasts_S1x4096x256_S4096x256,
    reshape main_v104 main_v114 rfl shapeCasts_S1x4096x256_S4096x256,
    reshape main_v106 main_v115 rfl shapeCasts_S1x4096x512_S4096x512 ]
theorem postOps5_sub : Within (F := F) postOps5 := by simp

abbrev fwdOps0 : Ops F :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v44_0 : TRef sig ⟨S64x1x4x64, .f32⟩) ![(.of main_v44_2 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x1x4x64, .f32⟩) (fun x i => Host.dynamicSlice S1x1x4x64 x (fun k => (i k (Shape.Idx.first h_S_)).toInt) sliceFits_S64x1x4x64_S1x1x4x64),
    TRef.reshape (.of main_while0b_call3_v0 : TRef sig ⟨S1x1x4x64, .f32⟩) (.of main_while0b_v116 : TRef sig ⟨S1x4x64, .f32⟩) rfl shapeCasts_S1x1x4x64_S1x4x64 ]
theorem fwdOps0_sub : Within (F := F) fwdOps0 := by simp [TRef.unary, TRef.binary, TRef.nullary, TRef.ternary]

abbrev fwdOps1 : Ops F :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.unaryIndexed (.of main_v44_1 : TRef sig ⟨S64x1x4x64x128, .f32⟩) ![(.of main_v44_2 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_call4_v0 : TRef sig ⟨S1x1x4x64x128, .f32⟩) (fun x i => Host.dynamicSlice S1x1x4x64x128 x (fun k => (i k (Shape.Idx.first h_S_)).toInt) sliceFits_S64x1x4x64x128_S1x1x4x64x128),
    TRef.reshape (.of main_while0b_call4_v0 : TRef sig ⟨S1x1x4x64x128, .f32⟩) (.of main_while0b_v117 : TRef sig ⟨S1x4x64x128, .f32⟩) rfl shapeCasts_S1x1x4x64x128_S1x4x64x128 ]
theorem fwdOps1_sub : Within (F := F) fwdOps1 := by simp [TRef.unary, TRef.binary, TRef.nullary, TRef.ternary]

abbrev fwdOps2 : Ops F :=
  [ unary main_while0b_v116 main_while0b_v118 (broadcastInDim S1x4x64x1 ![0, 1, 2] bcast_S1x4x64_S1x4x64x1_0_1_2),
    unary main_while0b_v118 main_while0b_v119 (broadcastInDim S1x4x64x128 ![0, 1, 2, 3] bcast_S1x4x64x1_S1x4x64x128_0_1_2_3),
    binary main_while0b_v119 main_v44_3 main_while0b_v120 (mulf),
    binary main_while0b_v120 main_while0b_v117 main_while0b_v121 (addf) ]
theorem fwdOps2_sub : Within (F := F) fwdOps2 := by simp

abbrev fwdOps3 : Ops F :=
  [ TRef.unary (.of main_v44_3 : TRef sig ⟨S1x4x64x128, .f32⟩) (.of main_while0b_call5_v0 : TRef sig ⟨S1x1x4x64x128, .f32⟩) (broadcastInDim S1x1x4x64x128 ![1, 2, 3, 4] bcast_S1x4x64x128_S1x1x4x64x128_1_2_3_4),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.nullary (.of main_while0b_call5_c_2 : TRef sig ⟨S_, .i32⟩) (constantI S_ 32 0#32),
    TRef.binaryIndexed (.of main_v44_4 : TRef sig ⟨S64x1x4x64x128, .f32⟩) (.of main_while0b_call5_v0 : TRef sig ⟨S1x1x4x64x128, .f32⟩) ![(.of main_v44_2 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩), (.of main_while0b_call5_c_2 : TRef sig ⟨S_, .i32⟩)] (.of main_while0b_v122 : TRef sig ⟨S64x1x4x64x128, .f32⟩) (fun x u i => Host.dynamicUpdateSlice x u (fun k => (i k (Shape.Idx.first h_S_)).toInt) updateFits_S64x1x4x64x128_S1x1x4x64x128) ]
theorem fwdOps3_sub : Within (F := F) fwdOps3 := by simp [TRef.unary, TRef.binary, TRef.nullary, TRef.ternary]

abbrev fwdOps4 : Ops F :=
  [ TRef.unary (.of main_while0b_v118 : TRef sig ⟨S1x4x64x1, .f32⟩) (.of main_while0b_call6_v0 : TRef sig ⟨S1x1x4x64x1, .f32⟩) (broadcastInDim S1x1x4x64x1 ![1, 2, 3, 4] bcast_S1x4x64x1_S1x1x4x64x1_1_2_3_4),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.nullary (.of main_while0b_call6_c_2 : TRef sig ⟨S_, .i32⟩) (constantI S_ 32 0#32),
    TRef.binaryIndexed (.of main_v44_5 : TRef sig ⟨S64x1x4x64x1, .f32⟩) (.of main_while0b_call6_v0 : TRef sig ⟨S1x1x4x64x1, .f32⟩) ![(.of main_v44_2 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩), (.of main_while0b_call6_c_2 : TRef sig ⟨S_, .i32⟩)] (.of main_while0b_v123 : TRef sig ⟨S64x1x4x64x1, .f32⟩) (fun x u i => Host.dynamicUpdateSlice x u (fun k => (i k (Shape.Idx.first h_S_)).toInt) updateFits_S64x1x4x64x1_S1x1x4x64x1) ]
theorem fwdOps4_sub : Within (F := F) fwdOps4 := by simp [TRef.unary, TRef.binary, TRef.nullary, TRef.ternary]

abbrev fwdOps5 : Ops F :=
  [ nullary main_while0b_c_18 (constantI S_ 32 1#32),
    binary main_v44_2 main_while0b_c_18 main_while0b_v124 (addi : (⟨S_, .i32⟩ : BufTy).Contents (Elt F) → (⟨S_, .i32⟩ : BufTy).Contents (Elt F) → (⟨S_, .i32⟩ : BufTy).Contents (Elt F)),
    unary main_while0b_v124 main_v44_2 id,
    unary main_while0b_v121 main_v44_3 id,
    unary main_while0b_v122 main_v44_4 id,
    unary main_while0b_v123 main_v44_5 id ]
theorem fwdOps5_sub : Within (F := F) fwdOps5 := by simp

abbrev bwdOps0 : Ops F :=
  [ nullary main_while1b_c_19 (constantI S_ 32 64#32),
    binary main_while1b_c_19 main_v61_3 main_while1b_v116 (subi : (⟨S_, .i32⟩ : BufTy).Contents (Elt F) → (⟨S_, .i32⟩ : BufTy).Contents (Elt F) → (⟨S_, .i32⟩ : BufTy).Contents (Elt F)),
    nullary main_while1b_c_20 (constantI S_ 32 1#32),
    binary main_while1b_v116 main_while1b_c_20 main_while1b_v117 (subi : (⟨S_, .i32⟩ : BufTy).Contents (Elt F) → (⟨S_, .i32⟩ : BufTy).Contents (Elt F) → (⟨S_, .i32⟩ : BufTy).Contents (Elt F)) ]
theorem bwdOps0_sub : Within (F := F) bwdOps0 := by simp

abbrev bwdOps1 : Ops F :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.nullary (.of main_while1b_call7_c_1 : TRef sig ⟨S_, .i32⟩) (constantI S_ 32 0#32),
    TRef.nullary (.of main_while1b_call7_c_2 : TRef sig ⟨S_, .i32⟩) (constantI S_ 32 0#32),
    TRef.unaryIndexed (.of main_v61_0 : TRef sig ⟨S64x1x4x64x128, .f32⟩) ![(.of main_while1b_v117 : TRef sig ⟨S_, .i32⟩), (.of main_while1b_call7_c : TRef sig ⟨S_, .i32⟩), (.of main_while1b_call7_c_0 : TRef sig ⟨S_, .i32⟩), (.of main_while1b_call7_c_1 : TRef sig ⟨S_, .i32⟩), (.of main_while1b_call7_c_2 : TRef sig ⟨S_, .i32⟩)] (.of main_while1b_call7_v0 : TRef sig ⟨S1x1x4x64x128, .f32⟩) (fun x i => Host.dynamicSlice S1x1x4x64x128 x (fun k => (i k (Shape.Idx.first h_S_)).toInt) sliceFits_S64x1x4x64x128_S1x1x4x64x128),
    TRef.reshape (.of main_while1b_call7_v0 : TRef sig ⟨S1x1x4x64x128, .f32⟩) (.of main_while1b_v118 : TRef sig ⟨S1x4x64x128, .f32⟩) rfl shapeCasts_S1x1x4x64x128_S1x4x64x128 ]
theorem bwdOps1_sub : Within (F := F) bwdOps1 := by simp [TRef.unary, TRef.binary, TRef.nullary, TRef.ternary]

abbrev bwdOps2 : Ops F :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v61_1 : TRef sig ⟨S64x1x4x64x128, .f32⟩) ![(.of main_while1b_v117 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x1x4x64x128, .f32⟩) (fun x i => Host.dynamicSlice S1x1x4x64x128 x (fun k => (i k (Shape.Idx.first h_S_)).toInt) sliceFits_S64x1x4x64x128_S1x1x4x64x128),
    TRef.reshape (.of main_while1b_call8_v0 : TRef sig ⟨S1x1x4x64x128, .f32⟩) (.of main_while1b_v119 : TRef sig ⟨S1x4x64x128, .f32⟩) rfl shapeCasts_S1x1x4x64x128_S1x4x64x128 ]
theorem bwdOps2_sub : Within (F := F) bwdOps2 := by simp [TRef.unary, TRef.binary, TRef.nullary, TRef.ternary]

abbrev bwdOps3 : Ops F :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.nullary (.of main_while1b_call9_c_2 : TRef sig ⟨S_, .i32⟩) (constantI S_ 32 0#32),
    TRef.unaryIndexed (.of main_v61_2 : TRef sig ⟨S64x1x4x64x1, .f32⟩) ![(.of main_while1b_v117 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩), (.of main_while1b_call9_c_2 : TRef sig ⟨S_, .i32⟩)] (.of main_while1b_call9_v0 : TRef sig ⟨S1x1x4x64x1, .f32⟩) (fun x i => Host.dynamicSlice S1x1x4x64x1 x (fun k => (i k (Shape.Idx.first h_S_)).toInt) sliceFits_S64x1x4x64x1_S1x1x4x64x1),
    TRef.reshape (.of main_while1b_call9_v0 : TRef sig ⟨S1x1x4x64x1, .f32⟩) (.of main_while1b_v120 : TRef sig ⟨S1x4x64x1, .f32⟩) rfl shapeCasts_S1x1x4x64x1_S1x4x64x1 ]
theorem bwdOps3_sub : Within (F := F) bwdOps3 := by simp [TRef.unary, TRef.binary, TRef.nullary, TRef.ternary]

abbrev bwdOps4 : Ops F :=
  [ unary main_while1b_v120 main_while1b_v121 (broadcastInDim S1x4x64x128 ![0, 1, 2, 3] bcast_S1x4x64x1_S1x4x64x128_0_1_2_3),
    binary main_while1b_v121 main_v61_4 main_while1b_v122 (mulf),
    binary main_while1b_v118 main_while1b_v122 main_while1b_v123 (addf),
    binary main_v61_4 main_while1b_v119 main_while1b_v124 (mulf),
    nullary main_while1b_cst_21 (constant S_ .f32 0x00000000#32),
    binary main_while1b_v124 main_while1b_cst_21 main_while1b_v125 ((fun x v => Host.reduceAdd x v reducesTo_S1x4x64x128_S1x4x64_d3 h_S_)),
    reshape main_while1b_v125 main_while1b_v126 rfl shapeCasts_S1x4x64_S1x4x64x1,
    nullary main_while1b_cst_22 (constant S_ .f32 0x00000000#32),
    binary main_while1b_v126 main_while1b_cst_22 main_while1b_v127 ((fun x v => Host.reduceAdd x v reducesTo_S1x4x64x1_S4x64_d0_3 h_S_)),
    unary main_while1b_v127 main_while1b_v128 (broadcastInDim S1x4x64 ![1, 2] bcast_S4x64_S1x4x64_1_2) ]
theorem bwdOps4_sub : Within (F := F) bwdOps4 := by simp

abbrev bwdOps5 : Ops F :=
  [ TRef.unary (.of main_while1b_v128 : TRef sig ⟨S1x4x64, .f32⟩) (.of main_while1b_call10_v0 : TRef sig ⟨S1x1x4x64, .f32⟩) (broadcastInDim S1x1x4x64 ![1, 2, 3] bcast_S1x4x64_S1x1x4x64_1_2_3),
    TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.binaryIndexed (.of main_v61_5 : TRef sig ⟨S64x1x4x64, .f32⟩) (.of main_while1b_call10_v0 : TRef sig ⟨S1x1x4x64, .f32⟩) ![(.of main_while1b_v117 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_v129 : TRef sig ⟨S64x1x4x64, .f32⟩) (fun x u i => Host.dynamicUpdateSlice x u (fun k => (i k (Shape.Idx.first h_S_)).toInt) updateFits_S64x1x4x64_S1x1x4x64) ]
theorem bwdOps5_sub : Within (F := F) bwdOps5 := by simp [TRef.unary, TRef.binary, TRef.nullary, TRef.ternary]

abbrev bwdOps6 : Ops F :=
  [ TRef.unary (.of main_v61_4 : TRef sig ⟨S1x4x64x128, .f32⟩) (.of main_while1b_call11_v0 : TRef sig ⟨S1x1x4x64x128, .f32⟩) (broadcastInDim S1x1x4x64x128 ![1, 2, 3, 4] bcast_S1x4x64x128_S1x1x4x64x128_1_2_3_4),
    TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.binaryIndexed (.of main_v61_6 : TRef sig ⟨S64x1x4x64x128, .f32⟩) (.of main_while1b_call11_v0 : TRef sig ⟨S1x1x4x64x128, .f32⟩) ![(.of main_while1b_v117 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_v130 : TRef sig ⟨S64x1x4x64x128, .f32⟩) (fun x u i => Host.dynamicUpdateSlice x u (fun k => (i k (Shape.Idx.first h_S_)).toInt) updateFits_S64x1x4x64x128_S1x1x4x64x128) ]
theorem bwdOps6_sub : Within (F := F) bwdOps6 := by simp [TRef.unary, TRef.binary, TRef.nullary, TRef.ternary]

abbrev bwdOps7 : Ops F :=
  [ nullary main_while1b_c_23 (constantI S_ 32 1#32),
    binary main_v61_3 main_while1b_c_23 main_while1b_v131 (addi : (⟨S_, .i32⟩ : BufTy).Contents (Elt F) → (⟨S_, .i32⟩ : BufTy).Contents (Elt F) → (⟨S_, .i32⟩ : BufTy).Contents (Elt F)),
    unary main_while1b_v131 main_v61_3 id,
    unary main_while1b_v123 main_v61_4 id,
    unary main_while1b_v129 main_v61_5 id,
    unary main_while1b_v130 main_v61_6 id ]
theorem bwdOps7_sub : Within (F := F) bwdOps7 := by simp

/-! ## @main and the two bodies are the chains of those lists -/

theorem main_part0_chain (c : Dev nD) : main_part0 (F := F) c = (Pipeline.chainK
  [ StableHlo.seq preOps0,
    StableHlo.seq preOps1,
    StableHlo.seq preOps2,
    StableHlo.seq preOps3,
    StableHlo.seq preOps4,
    StableHlo.seq preOps5,
    StableHlo.seq preOps6,
    HostLoop.enter 0 ]
  (StableHlo.seq midOps0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

theorem main_part1_chain (c : Dev nD) : main_part1 (F := F) c = (Pipeline.chainK
  [ StableHlo.seq midOps1,
    HostLoop.enter 1,
    StableHlo.seq postOps0,
    StableHlo.seq postOps1 ]
  (StableHlo.seq postOps2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem main_part2_chain (c : Dev nD) : main_part2 (F := F) c = (Pipeline.chain
  [ StableHlo.seq postOps3,
    StableHlo.seq postOps4,
    StableHlo.seq postOps5 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain (c : Dev nD) : main (F := F) c = (Pipeline.chain
  [ StableHlo.seq preOps0,
    StableHlo.seq preOps1,
    StableHlo.seq preOps2,
    StableHlo.seq preOps3,
    StableHlo.seq preOps4,
    StableHlo.seq preOps5,
    StableHlo.seq preOps6,
    HostLoop.enter 0,
    StableHlo.seq midOps0,
    StableHlo.seq midOps1,
    HostLoop.enter 1,
    StableHlo.seq postOps0,
    StableHlo.seq postOps1,
    StableHlo.seq postOps2,
    StableHlo.seq postOps3,
    StableHlo.seq postOps4,
    StableHlo.seq postOps5 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

theorem while0_body_chain : main_while0_body (F := F) = (Pipeline.chain
  [ StableHlo.seq fwdOps0,
    StableHlo.seq fwdOps1,
    StableHlo.seq fwdOps2,
    StableHlo.seq fwdOps3,
    StableHlo.seq fwdOps4,
    StableHlo.seq fwdOps5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

theorem while1_body_chain : main_while1_body (F := F) = (Pipeline.chain
  [ StableHlo.seq bwdOps0,
    StableHlo.seq bwdOps1,
    StableHlo.seq bwdOps2,
    StableHlo.seq bwdOps3,
    StableHlo.seq bwdOps4,
    StableHlo.seq bwdOps5,
    StableHlo.seq bwdOps6,
    StableHlo.seq bwdOps7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

end Cert.ReferenceIdeal.Ref

end
-- ==== Proof.Ref.Run.lean ====
module

public import proofs.«01_k».proof.Proof.Ref.Ops

@[expose] public section

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

/-- A stretch leaves nothing fresh. -/
abbrev Fresh (l : Ops F) : Prop := l.Forall fun op => op.fresh = ∅

/-- A stretch writes the listed buffers only. -/
abbrev Writes (l : Ops F) (W : List (Ref sig .tc)) : Prop :=
  l.Forall fun op => op.writes ⊆ (W.map (Proc.devRef (τ := τ) .tc)).toFinset

/-! ## What each stretch writes -/

abbrev preOps0_W : List (Ref sig .tc) := [main_v0, main_v1, main_v2, main_v3, main_v4, main_v5, main_v6, main_v7, main_v8, main_v9, main_v10, main_v11, main_v12, main_v13, main_v14, main_v15, main_cst, main_v16, main_v17, main_v18, main_v19, main_v20]
theorem preOps0_writes : Writes (F := F) preOps0 preOps0_W := forall_writes_sub_of_map rfl
theorem preOps0_fresh : Fresh (F := F) preOps0 := ⟨rfl, rfl, rfl, rfl, rfl, rfl, rfl, rfl, rfl, rfl, rfl, rfl, rfl, rfl, rfl, rfl, rfl, rfl, rfl, rfl, rfl, rfl⟩
abbrev preOps1_W : List (Ref sig .tc) := [main_call0_call0_cst, main_call0_call0_v0, main_v21]
theorem preOps1_writes : Writes (F := F) preOps1 preOps1_W := forall_writes_sub_of_map rfl
theorem preOps1_fresh : Fresh (F := F) preOps1 := ⟨rfl, rfl, rfl⟩
abbrev preOps2_W : List (Ref sig .tc) := [main_v22, main_v23, main_v24, main_v25, main_v26, main_v27, main_v28, main_v29, main_v30, main_v31, main_v32, main_c, main_v33]
theorem preOps2_writes : Writes (F := F) preOps2 preOps2_W := forall_writes_sub_of_map rfl
theorem preOps2_fresh : Fresh (F := F) preOps2 := ⟨rfl, rfl, rfl, rfl, rfl, rfl, rfl, rfl, rfl, rfl, rfl, rfl, rfl⟩
abbrev preOps3_W : List (Ref sig .tc) := [main_call1_v0, main_call1_c, main_call1_v1, main_call1_v2, main_call1_v3, main_call1_v4, main_call1_c_0, main_call1_v5, main_v34]
theorem preOps3_writes : Writes (F := F) preOps3 preOps3_W := forall_writes_sub_of_map rfl
theorem preOps3_fresh : Fresh (F := F) preOps3 := ⟨rfl, rfl, rfl, rfl, rfl, rfl, rfl, rfl, rfl⟩
abbrev preOps4_W : List (Ref sig .tc) := [main_cst_0]
theorem preOps4_writes : Writes (F := F) preOps4 preOps4_W := forall_writes_sub_of_map rfl
theorem preOps4_fresh : Fresh (F := F) preOps4 := rfl
abbrev preOps5_W : List (Ref sig .tc) := [main_call2_v0, main_v35_1, main_call2_v2, main_v35_0, main_call2_cst, main_v35_2]
theorem preOps5_writes : Writes (F := F) preOps5 preOps5_W := forall_writes_sub_of_map rfl
theorem preOps5_fresh : Fresh (F := F) preOps5 := ⟨rfl, rfl, rfl, rfl, rfl, rfl⟩
abbrev preOps6_W : List (Ref sig .tc) := [main_v36, main_v37, main_v38, main_v39, main_v40, main_cst_1, main_v41, main_cst_2, main_v42, main_cst_3, main_v43, main_c_4, main_v44_0, main_v44_1, main_v44_2, main_v44_3, main_v44_4, main_v44_5]
theorem preOps6_writes : Writes (F := F) preOps6 preOps6_W := forall_writes_sub_of_map rfl
theorem preOps6_fresh : Fresh (F := F) preOps6 := ⟨rfl, rfl, rfl, rfl, rfl, rfl, rfl, rfl, rfl, rfl, rfl, rfl, rfl, rfl, rfl, rfl, rfl, rfl⟩
abbrev midOps0_W : List (Ref sig .tc) := [main_v45, main_v46]
theorem midOps0_writes : Writes (F := F) midOps0 midOps0_W := forall_writes_sub_of_map rfl
theorem midOps0_fresh : Fresh (F := F) midOps0 := ⟨rfl, rfl⟩
abbrev midOps1_W : List (Ref sig .tc) := [main_v47, main_v48, main_v49, main_v50, main_cst_5, main_v51, main_v52, main_v53, main_v54, main_v55, main_v56, main_v57, main_cst_6, main_v58, main_cst_7, main_v59, main_cst_8, main_v60, main_c_9, main_v61_0, main_v61_1, main_v61_2, main_v61_3, main_v61_4, main_v61_5, main_v61_6]
theorem midOps1_writes : Writes (F := F) midOps1 midOps1_W := forall_writes_sub_of_map rfl
theorem midOps1_fresh : Fresh (F := F) midOps1 := ⟨rfl, rfl, rfl, rfl, rfl, rfl, rfl, rfl, rfl, rfl, rfl, rfl, rfl, rfl, rfl, rfl, rfl, rfl, rfl, rfl, rfl, rfl, rfl, rfl, rfl, rfl⟩
abbrev postOps0_W : List (Ref sig .tc) := [main_v62, main_v63, main_v64, main_v65, main_v66, main_v67, main_v68, main_v69, main_v70, main_v71, main_v72]
theorem postOps0_writes : Writes (F := F) postOps0 postOps0_W := forall_writes_sub_of_map rfl
theorem postOps0_fresh : Fresh (F := F) postOps0 := ⟨rfl, rfl, rfl, rfl, rfl, rfl, rfl, rfl, rfl, rfl, rfl⟩
abbrev postOps1_W : List (Ref sig .tc) := [main_call12_cst, main_call12_v0, main_v73]
theorem postOps1_writes : Writes (F := F) postOps1 postOps1_W := forall_writes_sub_of_map rfl
theorem postOps1_fresh : Fresh (F := F) postOps1 := ⟨rfl, rfl, rfl⟩
abbrev postOps2_W : List (Ref sig .tc) := [main_v74, main_v75, main_v76, main_v77, main_v78, main_v79, main_cst_10, main_v80, main_v81, main_v82, main_v83, main_v84, main_v85, main_v86, main_v87, main_v88, main_v89, main_v90, main_v91, main_v92, main_v93]
theorem postOps2_writes : Writes (F := F) postOps2 postOps2_W := forall_writes_sub_of_map rfl
theorem postOps2_fresh : Fresh (F := F) postOps2 := ⟨rfl, rfl, rfl, rfl, rfl, rfl, rfl, rfl, rfl, rfl, rfl, rfl, rfl, rfl, rfl, rfl, rfl, rfl, rfl, rfl, rfl⟩
abbrev postOps3_W : List (Ref sig .tc) := [main_cst_11, main_v94, main_v95]
theorem postOps3_writes : Writes (F := F) postOps3 postOps3_W := forall_writes_sub_of_map rfl
theorem postOps3_fresh : Fresh (F := F) postOps3 := ⟨rfl, rfl, rfl⟩
abbrev postOps4_W : List (Ref sig .tc) := [main_call13_call0_cst, main_call13_call0_v0, main_v96]
theorem postOps4_writes : Writes (F := F) postOps4 postOps4_W := forall_writes_sub_of_map rfl
theorem postOps4_fresh : Fresh (F := F) postOps4 := ⟨rfl, rfl, rfl⟩
abbrev postOps5_W : List (Ref sig .tc) := [main_v97, main_v98, main_v99, main_cst_12, main_v100, main_v101, main_v102, main_v103, main_v104, main_v105, main_v106, main_v107, main_v108, main_v109, main_v110, main_v111, main_v112, main_v113, main_v114, main_v115]
theorem postOps5_writes : Writes (F := F) postOps5 postOps5_W := forall_writes_sub_of_map rfl
theorem postOps5_fresh : Fresh (F := F) postOps5 := ⟨rfl, rfl, rfl, rfl, rfl, rfl, rfl, rfl, rfl, rfl, rfl, rfl, rfl, rfl, rfl, rfl, rfl, rfl, rfl, rfl⟩
abbrev fwdOps0_W : List (Ref sig .tc) := [main_while0b_call3_c, main_while0b_call3_c_0, main_while0b_call3_c_1, main_while0b_call3_v0, main_while0b_v116]
theorem fwdOps0_writes : Writes (F := F) fwdOps0 fwdOps0_W := forall_writes_sub_of_map rfl
theorem fwdOps0_fresh : Fresh (F := F) fwdOps0 := ⟨rfl, rfl, rfl, rfl, rfl⟩
abbrev fwdOps1_W : List (Ref sig .tc) := [main_while0b_call4_c, main_while0b_call4_c_0, main_while0b_call4_c_1, main_while0b_call4_c_2, main_while0b_call4_v0, main_while0b_v117]
theorem fwdOps1_writes : Writes (F := F) fwdOps1 fwdOps1_W := forall_writes_sub_of_map rfl
theorem fwdOps1_fresh : Fresh (F := F) fwdOps1 := ⟨rfl, rfl, rfl, rfl, rfl, rfl⟩
abbrev fwdOps2_W : List (Ref sig .tc) := [main_while0b_v118, main_while0b_v119, main_while0b_v120, main_while0b_v121]
theorem fwdOps2_writes : Writes (F := F) fwdOps2 fwdOps2_W := forall_writes_sub_of_map rfl
theorem fwdOps2_fresh : Fresh (F := F) fwdOps2 := ⟨rfl, rfl, rfl, rfl⟩
abbrev fwdOps3_W : List (Ref sig .tc) := [main_while0b_call5_v0, main_while0b_call5_c, main_while0b_call5_c_0, main_while0b_call5_c_1, main_while0b_call5_c_2, main_while0b_v122]
theorem fwdOps3_writes : Writes (F := F) fwdOps3 fwdOps3_W := forall_writes_sub_of_map rfl
theorem fwdOps3_fresh : Fresh (F := F) fwdOps3 := ⟨rfl, rfl, rfl, rfl, rfl, rfl⟩
abbrev fwdOps4_W : List (Ref sig .tc) := [main_while0b_call6_v0, main_while0b_call6_c, main_while0b_call6_c_0, main_while0b_call6_c_1, main_while0b_call6_c_2, main_while0b_v123]
theorem fwdOps4_writes : Writes (F := F) fwdOps4 fwdOps4_W := forall_writes_sub_of_map rfl
theorem fwdOps4_fresh : Fresh (F := F) fwdOps4 := ⟨rfl, rfl, rfl, rfl, rfl, rfl⟩
abbrev fwdOps5_W : List (Ref sig .tc) := [main_while0b_c_18, main_while0b_v124, main_v44_2, main_v44_3, main_v44_4, main_v44_5]
theorem fwdOps5_writes : Writes (F := F) fwdOps5 fwdOps5_W := forall_writes_sub_of_map rfl
theorem fwdOps5_fresh : Fresh (F := F) fwdOps5 := ⟨rfl, rfl, rfl, rfl, rfl, rfl⟩
abbrev bwdOps0_W : List (Ref sig .tc) := [main_while1b_c_19, main_while1b_v116, main_while1b_c_20, main_while1b_v117]
theorem bwdOps0_writes : Writes (F := F) bwdOps0 bwdOps0_W := forall_writes_sub_of_map rfl
theorem bwdOps0_fresh : Fresh (F := F) bwdOps0 := ⟨rfl, rfl, rfl, rfl⟩
abbrev bwdOps1_W : List (Ref sig .tc) := [main_while1b_call7_c, main_while1b_call7_c_0, main_while1b_call7_c_1, main_while1b_call7_c_2, main_while1b_call7_v0, main_while1b_v118]
theorem bwdOps1_writes : Writes (F := F) bwdOps1 bwdOps1_W := forall_writes_sub_of_map rfl
theorem bwdOps1_fresh : Fresh (F := F) bwdOps1 := ⟨rfl, rfl, rfl, rfl, rfl, rfl⟩
abbrev bwdOps2_W : List (Ref sig .tc) := [main_while1b_call8_c, main_while1b_call8_c_0, main_while1b_call8_c_1, main_while1b_call8_c_2, main_while1b_call8_v0, main_while1b_v119]
theorem bwdOps2_writes : Writes (F := F) bwdOps2 bwdOps2_W := forall_writes_sub_of_map rfl
theorem bwdOps2_fresh : Fresh (F := F) bwdOps2 := ⟨rfl, rfl, rfl, rfl, rfl, rfl⟩
abbrev bwdOps3_W : List (Ref sig .tc) := [main_while1b_call9_c, main_while1b_call9_c_0, main_while1b_call9_c_1, main_while1b_call9_c_2, main_while1b_call9_v0, main_while1b_v120]
theorem bwdOps3_writes : Writes (F := F) bwdOps3 bwdOps3_W := forall_writes_sub_of_map rfl
theorem bwdOps3_fresh : Fresh (F := F) bwdOps3 := ⟨rfl, rfl, rfl, rfl, rfl, rfl⟩
abbrev bwdOps4_W : List (Ref sig .tc) := [main_while1b_v121, main_while1b_v122, main_while1b_v123, main_while1b_v124, main_while1b_cst_21, main_while1b_v125, main_while1b_v126, main_while1b_cst_22, main_while1b_v127, main_while1b_v128]
theorem bwdOps4_writes : Writes (F := F) bwdOps4 bwdOps4_W := forall_writes_sub_of_map rfl
theorem bwdOps4_fresh : Fresh (F := F) bwdOps4 := ⟨rfl, rfl, rfl, rfl, rfl, rfl, rfl, rfl, rfl, rfl⟩
abbrev bwdOps5_W : List (Ref sig .tc) := [main_while1b_call10_v0, main_while1b_call10_c, main_while1b_call10_c_0, main_while1b_call10_c_1, main_while1b_v129]
theorem bwdOps5_writes : Writes (F := F) bwdOps5 bwdOps5_W := forall_writes_sub_of_map rfl
theorem bwdOps5_fresh : Fresh (F := F) bwdOps5 := ⟨rfl, rfl, rfl, rfl, rfl⟩
abbrev bwdOps6_W : List (Ref sig .tc) := [main_while1b_call11_v0, main_while1b_call11_c, main_while1b_call11_c_0, main_while1b_call11_c_1, main_while1b_call11_c_2, main_while1b_v130]
theorem bwdOps6_writes : Writes (F := F) bwdOps6 bwdOps6_W := forall_writes_sub_of_map rfl
theorem bwdOps6_fresh : Fresh (F := F) bwdOps6 := ⟨rfl, rfl, rfl, rfl, rfl, rfl⟩
abbrev bwdOps7_W : List (Ref sig .tc) := [main_while1b_c_23, main_while1b_v131, main_v61_3, main_v61_4, main_v61_5, main_v61_6]
theorem bwdOps7_writes : Writes (F := F) bwdOps7 bwdOps7_W := forall_writes_sub_of_map rfl
theorem bwdOps7_fresh : Fresh (F := F) bwdOps7 := ⟨rfl, rfl, rfl, rfl, rfl, rfl⟩

/-- The loop's condition: the bound, and the trip counter compared with it. -/
abbrev fwdCond : Ops F :=
  [ nullary main_while0c_c_18 (constantI S_ 32 64#32), binary main_v44_2 main_while0c_c_18 main_while0c_v116 (cmpi .slt) ]
abbrev fwdCond_W : List (Ref sig .tc) := [main_while0c_c_18, main_while0c_v116]
theorem fwdCond_writes : Writes (F := F) fwdCond fwdCond_W := forall_writes_sub_of_map rfl

/-- The loop's condition: the bound, and the trip counter compared with it. -/
abbrev bwdCond : Ops F :=
  [ nullary main_while1c_c_19 (constantI S_ 32 64#32), binary main_v61_3 main_while1c_c_19 main_while1c_v116 (cmpi .slt) ]
abbrev bwdCond_W : List (Ref sig .tc) := [main_while1c_c_19, main_while1c_v116]
theorem bwdCond_writes : Writes (F := F) bwdCond bwdCond_W := forall_writes_sub_of_map rfl

/-! ## The program as stretches, a loop, stretches, a loop, stretches -/

abbrev preI : List (Ops F) := [preOps0, preOps1, preOps2, preOps3, preOps4, preOps5, preOps6]
theorem preI_plain : Plain (preI (F := F)) := .cons preOps0_sub (hf := List.forall_iff_forall_mem.mp preOps0_fresh) (.cons preOps1_sub (hf := List.forall_iff_forall_mem.mp preOps1_fresh) (.cons preOps2_sub (hf := List.forall_iff_forall_mem.mp preOps2_fresh) (.cons preOps3_sub (hf := List.forall_iff_forall_mem.mp preOps3_fresh) (.cons preOps4_sub (hf := List.forall_iff_forall_mem.mp preOps4_fresh) (.cons preOps5_sub (hf := List.forall_iff_forall_mem.mp preOps5_fresh) (.cons preOps6_sub (hf := List.forall_iff_forall_mem.mp preOps6_fresh) .nil))))))
abbrev midI : List (Ops F) := [midOps0, midOps1]
theorem midI_plain : Plain (midI (F := F)) := .cons midOps0_sub (hf := List.forall_iff_forall_mem.mp midOps0_fresh) (.cons midOps1_sub (hf := List.forall_iff_forall_mem.mp midOps1_fresh) .nil)
abbrev postI : List (Ops F) := [postOps0, postOps1, postOps2, postOps3, postOps4, postOps5]
theorem postI_plain : Plain (postI (F := F)) := .cons postOps0_sub (hf := List.forall_iff_forall_mem.mp postOps0_fresh) (.cons postOps1_sub (hf := List.forall_iff_forall_mem.mp postOps1_fresh) (.cons postOps2_sub (hf := List.forall_iff_forall_mem.mp postOps2_fresh) (.cons postOps3_sub (hf := List.forall_iff_forall_mem.mp postOps3_fresh) (.cons postOps4_sub (hf := List.forall_iff_forall_mem.mp postOps4_fresh) (.cons postOps5_sub (hf := List.forall_iff_forall_mem.mp postOps5_fresh) .nil)))))
abbrev fwdI : List (Ops F) := [fwdOps0, fwdOps1, fwdOps2, fwdOps3, fwdOps4, fwdOps5]
theorem fwdI_plain : Plain (fwdI (F := F)) := .cons fwdOps0_sub (hf := List.forall_iff_forall_mem.mp fwdOps0_fresh) (.cons fwdOps1_sub (hf := List.forall_iff_forall_mem.mp fwdOps1_fresh) (.cons fwdOps2_sub (hf := List.forall_iff_forall_mem.mp fwdOps2_fresh) (.cons fwdOps3_sub (hf := List.forall_iff_forall_mem.mp fwdOps3_fresh) (.cons fwdOps4_sub (hf := List.forall_iff_forall_mem.mp fwdOps4_fresh) (.cons fwdOps5_sub (hf := List.forall_iff_forall_mem.mp fwdOps5_fresh) .nil)))))
abbrev bwdI : List (Ops F) := [bwdOps0, bwdOps1, bwdOps2, bwdOps3, bwdOps4, bwdOps5, bwdOps6, bwdOps7]
theorem bwdI_plain : Plain (bwdI (F := F)) := .cons bwdOps0_sub (hf := List.forall_iff_forall_mem.mp bwdOps0_fresh) (.cons bwdOps1_sub (hf := List.forall_iff_forall_mem.mp bwdOps1_fresh) (.cons bwdOps2_sub (hf := List.forall_iff_forall_mem.mp bwdOps2_fresh) (.cons bwdOps3_sub (hf := List.forall_iff_forall_mem.mp bwdOps3_fresh) (.cons bwdOps4_sub (hf := List.forall_iff_forall_mem.mp bwdOps4_fresh) (.cons bwdOps5_sub (hf := List.forall_iff_forall_mem.mp bwdOps5_fresh) (.cons bwdOps6_sub (hf := List.forall_iff_forall_mem.mp bwdOps6_fresh) (.cons bwdOps7_sub (hf := List.forall_iff_forall_mem.mp bwdOps7_fresh) .nil)))))))

section Values
variable (m : (ℓ : Loc nD τ sig) → Buf (Elt F) ℓ)

/-- The buffers at the first loop's entry. -/
abbrev U7 (c : Dev nD) : Valuation τ sig (Elt F) := afterL preI (launchContents m c)
/-- The buffers before the first loop's `k`-th condition. -/
abbrev A0 (k : ℕ) (c : Dev nD) : Valuation τ sig (Elt F) := atTrip fwdCond fwdI (U7 m) k c
/-- The buffers as the first loop leaves them. -/
def L0 (c : Dev nD) : Valuation τ sig (Elt F) := after fwdCond (A0 m 64 c)
/-- The buffers at the second loop's entry. -/
abbrev U9 (c : Dev nD) : Valuation τ sig (Elt F) := afterL midI (L0 m c)
/-- The buffers before the second loop's `k`-th condition. -/
abbrev A1 (k : ℕ) (c : Dev nD) : Valuation τ sig (Elt F) := atTrip bwdCond bwdI (U9 m) k c
/-- The buffers as the second loop leaves them. -/
def L1 (c : Dev nD) : Valuation τ sig (Elt F) := after bwdCond (A1 m 64 c)
/-- The buffers as @main leaves them. -/
def End (c : Dev nD) : Valuation τ sig (Elt F) := afterL postI (L1 m c)

/-! ### The trip counters -/

theorem ctr0_cond (V : Valuation τ sig (Elt F)) : after fwdCond V (Proc.devRef .tc main_v44_2) = V (Proc.devRef .tc main_v44_2) :=
  after_of_writes_sub fwdCond V fwdCond_writes (by decide +kernel)
theorem ctr0_fwdOps0 (V : Valuation τ sig (Elt F)) : after fwdOps0 V (Proc.devRef .tc main_v44_2) = V (Proc.devRef .tc main_v44_2) :=
  after_of_writes_sub fwdOps0 V fwdOps0_writes (by decide +kernel)
theorem ctr0_fwdOps1 (V : Valuation τ sig (Elt F)) : after fwdOps1 V (Proc.devRef .tc main_v44_2) = V (Proc.devRef .tc main_v44_2) :=
  after_of_writes_sub fwdOps1 V fwdOps1_writes (by decide +kernel)
theorem ctr0_fwdOps2 (V : Valuation τ sig (Elt F)) : after fwdOps2 V (Proc.devRef .tc main_v44_2) = V (Proc.devRef .tc main_v44_2) :=
  after_of_writes_sub fwdOps2 V fwdOps2_writes (by decide +kernel)
theorem ctr0_fwdOps3 (V : Valuation τ sig (Elt F)) : after fwdOps3 V (Proc.devRef .tc main_v44_2) = V (Proc.devRef .tc main_v44_2) :=
  after_of_writes_sub fwdOps3 V fwdOps3_writes (by decide +kernel)
theorem ctr0_fwdOps4 (V : Valuation τ sig (Elt F)) : after fwdOps4 V (Proc.devRef .tc main_v44_2) = V (Proc.devRef .tc main_v44_2) :=
  after_of_writes_sub fwdOps4 V fwdOps4_writes (by decide +kernel)
set_option maxRecDepth 100000 in
theorem ctr0_step (X : Valuation τ sig (Elt F)) :
    after fwdOps5 X (Proc.devRef .tc main_v44_2) = addi (X (Proc.devRef .tc main_v44_2)) (constantI S_ 32 1#32) := by
  after_results
  rfl
theorem ctr0_entry (c : Dev nD) : U7 m c (Proc.devRef .tc main_v44_2) = fun _ => (0#32 : BitVec 32) := by
  simp only [U7, afterL_cons, afterL_nil]
  after_reads_simp
  rfl
/-- Before the `k`-th condition the counter is `k`. -/
theorem ctr0_at (c : Dev nD) : ∀ k, A0 m k c (Proc.devRef .tc main_v44_2) = fun _ => Scf.iv 0#32 1#32 k
  | 0 => by rw [show A0 m 0 c = U7 m c from rfl, ctr0_entry, Scf.iv_zero]
  | k + 1 => by
    rw [show A0 m (k + 1) c = afterL fwdI (after fwdCond (A0 m k c)) from rfl]
    simp only [afterL_cons, afterL_nil]
    rw [ctr0_step, ctr0_fwdOps4, ctr0_fwdOps3, ctr0_fwdOps2, ctr0_fwdOps1, ctr0_fwdOps0, ctr0_cond, ctr0_at c k, Scf.iv_succ]
    rfl

theorem ctr1_cond (V : Valuation τ sig (Elt F)) : after bwdCond V (Proc.devRef .tc main_v61_3) = V (Proc.devRef .tc main_v61_3) :=
  after_of_writes_sub bwdCond V bwdCond_writes (by decide +kernel)
theorem ctr1_bwdOps0 (V : Valuation τ sig (Elt F)) : after bwdOps0 V (Proc.devRef .tc main_v61_3) = V (Proc.devRef .tc main_v61_3) :=
  after_of_writes_sub bwdOps0 V bwdOps0_writes (by decide +kernel)
theorem ctr1_bwdOps1 (V : Valuation τ sig (Elt F)) : after bwdOps1 V (Proc.devRef .tc main_v61_3) = V (Proc.devRef .tc main_v61_3) :=
  after_of_writes_sub bwdOps1 V bwdOps1_writes (by decide +kernel)
theorem ctr1_bwdOps2 (V : Valuation τ sig (Elt F)) : after bwdOps2 V (Proc.devRef .tc main_v61_3) = V (Proc.devRef .tc main_v61_3) :=
  after_of_writes_sub bwdOps2 V bwdOps2_writes (by decide +kernel)
theorem ctr1_bwdOps3 (V : Valuation τ sig (Elt F)) : after bwdOps3 V (Proc.devRef .tc main_v61_3) = V (Proc.devRef .tc main_v61_3) :=
  after_of_writes_sub bwdOps3 V bwdOps3_writes (by decide +kernel)
theorem ctr1_bwdOps4 (V : Valuation τ sig (Elt F)) : after bwdOps4 V (Proc.devRef .tc main_v61_3) = V (Proc.devRef .tc main_v61_3) :=
  after_of_writes_sub bwdOps4 V bwdOps4_writes (by decide +kernel)
theorem ctr1_bwdOps5 (V : Valuation τ sig (Elt F)) : after bwdOps5 V (Proc.devRef .tc main_v61_3) = V (Proc.devRef .tc main_v61_3) :=
  after_of_writes_sub bwdOps5 V bwdOps5_writes (by decide +kernel)
theorem ctr1_bwdOps6 (V : Valuation τ sig (Elt F)) : after bwdOps6 V (Proc.devRef .tc main_v61_3) = V (Proc.devRef .tc main_v61_3) :=
  after_of_writes_sub bwdOps6 V bwdOps6_writes (by decide +kernel)
set_option maxRecDepth 100000 in
theorem ctr1_step (X : Valuation τ sig (Elt F)) :
    after bwdOps7 X (Proc.devRef .tc main_v61_3) = addi (X (Proc.devRef .tc main_v61_3)) (constantI S_ 32 1#32) := by
  after_results
  rfl
theorem ctr1_entry (c : Dev nD) : U9 m c (Proc.devRef .tc main_v61_3) = fun _ => (0#32 : BitVec 32) := by
  simp only [U9, afterL_cons, afterL_nil]
  after_reads_simp
  rfl
/-- Before the `k`-th condition the counter is `k`. -/
theorem ctr1_at (c : Dev nD) : ∀ k, A1 m k c (Proc.devRef .tc main_v61_3) = fun _ => Scf.iv 0#32 1#32 k
  | 0 => by rw [show A1 m 0 c = U9 m c from rfl, ctr1_entry, Scf.iv_zero]
  | k + 1 => by
    rw [show A1 m (k + 1) c = afterL bwdI (after bwdCond (A1 m k c)) from rfl]
    simp only [afterL_cons, afterL_nil]
    rw [ctr1_step, ctr1_bwdOps6, ctr1_bwdOps5, ctr1_bwdOps4, ctr1_bwdOps3, ctr1_bwdOps2, ctr1_bwdOps1, ctr1_bwdOps0, ctr1_cond, ctr1_at c k, Scf.iv_succ]
    rfl

end Values

/-! ## The run -/

section Run

variable (m : (ℓ : Loc nD τ sig) → Buf (Elt F) ℓ) (ρ : Dev nD → PrngReg)

abbrev MR (F : FTy → Type) [FloatOps F] := MT nD τ sig Unit (Elt F) ℕ (Option PUnit) ℕ
abbrev adm : (p : Fin 0) → ((pcfgs (F := F)) p).Adm := fun p => p.elim0
abbrev tk : Fin 0 → Ticket (Ix := Unit) (Name := ℕ) (U := Option PUnit) (Lvl := ℕ) (nD := nD) (τ := τ) (pcfgs (F := F)) adm := fun j => j.elim0
abbrev Lw : GSem nD τ sig → Finset Unit := fun _ => ∅
abbrev lw : GSem nD τ sig → Unit → ℕ := fun _ _ => 0
/-- Beside the buffers each segment carries what the core owes. -/
abbrev Rw (c : Dev nD) : sProp (MR F) := iprop(∃ W, owes (c : Thread nD τ) (0 : CellTallies nD τ sig Unit) W)
theorem cell_inj : Function.Injective (Pipeline.cellOf (nD := nD) (τ := τ) (Pipeline.pin (pcfgs (F := F)) adm)) := fun k => k.1.elim0

set_option backward.isDefEq.respectTransparency.types false in
/-- The condition returns one exactly before the sixty-fourth trip, and leaves the rest as it was. -/
theorem cond0 : LoopCond (pcfgs (F := F)) defs₀ Variants.none loops Rw (main_while0_cond (F := F)) fwdCond fwdI (U7 m) 64 := by
  intro k hk c bd
  have hctr := ctr0_at m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A0 m k c) main_v44_2 HostLoop.idx0)
        (HloOp.result _ (A0 m k c) main_while0c_c_18 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · rw [after_cons, after_cons, after_nil]; iexact Hh
  iexact HR

set_option backward.isDefEq.respectTransparency.types false in
/-- The condition returns one exactly before the sixty-fourth trip, and leaves the rest as it was. -/
theorem cond1 : LoopCond (pcfgs (F := F)) defs₀ Variants.none loops Rw (main_while1_cond (F := F)) bwdCond bwdI (U9 m) 64 := by
  intro k hk c bd
  have hctr := ctr1_at m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A1 m k c) main_v61_3 HostLoop.idx0)
        (HloOp.result _ (A1 m k c) main_while1c_c_19 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · rw [after_cons, after_cons, after_nil]; iexact Hh
  iexact HR

theorem fwd_body : main_while0_body (F := F) = Pipeline.chain ((fwdI (F := F)).map fun ops => (seq ops : Prog _ PUnit)) := by
  rw [while0_body_chain]; rfl
theorem bwd_body : main_while1_body (F := F) = Pipeline.chain ((bwdI (F := F)).map fun ops => (seq ops : Prog _ PUnit)) := by
  rw [while1_body_chain]; rfl

set_option maxRecDepth 20000 in
theorem main_eq (c : Dev nD) : main (F := F) c = Pipeline.chain (((preI (F := F)).map fun ops => (seq ops : Prog _ PUnit))
    ++ HostLoop.enter 0 :: (((midI (F := F)).map fun ops => (seq ops : Prog _ PUnit)) ++ HostLoop.enter 1 :: (postI (F := F)).map fun ops => (seq ops : Prog _ PUnit))) := by
  rw [main_chain c]; rfl

/-- The first loop as a segment. -/
def loop0 : CSeg (pcfgs (F := F)) adm defs₀ Variants.none Lw lw loops tk :=
  loopSeg _ _ _ _ _ _ _ _ 0 main_while0_cond main_while0_body rfl fwdCond fwdI fwdI_plain fwd_body 64 (U7 m) Rw (cond0 m)
/-- The second loop as a segment. -/
def loop1 : CSeg (pcfgs (F := F)) adm defs₀ Variants.none Lw lw loops tk :=
  loopSeg _ _ _ _ _ _ _ _ 1 main_while1_cond main_while1_body rfl bwdCond bwdI bwdI_plain bwd_body 64 (U9 m) Rw (cond1 m)

/-- @main's segments. -/
def parts : List (CSeg (pcfgs (F := F)) adm defs₀ Variants.none Lw lw loops tk) :=
  segsOf _ _ _ _ _ _ _ _ Rw preI preI_plain (launchContents m) ++ loop0 m :: (segsOf _ _ _ _ _ _ _ _ Rw midI midI_plain (L0 m)
    ++ loop1 m :: segsOf _ _ _ _ _ _ _ _ Rw postI postI_plain (L1 m))

theorem parts_prog : (parts m).map CSeg.prog = ((preI (F := F)).map fun ops => (seq ops : Prog _ PUnit))
    ++ HostLoop.enter 0 :: (((midI (F := F)).map fun ops => (seq ops : Prog _ PUnit)) ++ HostLoop.enter 1 :: (postI (F := F)).map fun ops => (seq ops : Prog _ PUnit)) := by
  unfold parts
  rw [List.map_append, List.map_cons, List.map_append, List.map_cons, segsOf_prog, segsOf_prog, segsOf_prog]
  rfl

theorem parts_chains : CSeg.Chains (fun c => iprop(held (c : Thread nD τ) (ucRefs τ sig) (launchContents m c) ∗ Rw c)) (parts m)
    (fun c => iprop(held (c : Thread nD τ) (ucRefs τ sig) (End m c) ∗ Rw c)) := by
  unfold parts
  exact CSeg.Chains.append (segsOf_chains _ _ _ _ _ _ _ _ Rw preI preI_plain _)
    ⟨fun _ => .rfl, CSeg.Chains.append (segsOf_chains _ _ _ _ _ _ _ _ Rw midI midI_plain _)
      ⟨fun _ => .rfl, segsOf_chains _ _ _ _ _ _ _ _ Rw postI postI_plain _⟩⟩

set_option maxRecDepth 20000 in
/-- From any memory with zero counters @main terminates with every unscoped buffer at `End`. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem (c.tc.loc b) = End m c (Proc.devRef .tc b)) :=
  Pipeline.θ_run_regions_loop_kit (Ix := Unit) (Name := ℕ) (U := Option PUnit) (Lvl := ℕ) (J := Fin 0) (P := Fin 0) (Val := Elt F)
    pcfgs adm cell_inj defs₀ Variants.none Lw lw loops tk m ρ main (parts m)
    (fun c Q => by
      rw [main_eq c, ← parts_prog m]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MR F)) ⊢ bigSep Finset.univ (fun _ : Dev nD => (BI.emp : sProp (MR F))) from by rw [BI.bigSep_emp_const])
        iempintro)
    (T₀ := fun c => iprop(held (c : Thread nD τ) (ucRefs τ sig) (launchContents m c) ∗ Rw c))
    (Tₙ := fun c => iprop(held (c : Thread nD τ) (ucRefs τ sig) (End m c)))
    (hch := parts_chains m)
    (hinit := by
      refine Pipeline.initEach Lw lw fun c => ?_
      rw [show unscopedBufs c (fun b => m (c.tc.loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = End m c b)
    (hfin := fun c s' => by
      unfold held
      iintro ⟨Hh, HSI⟩
      ihave Hr := (pointsTo_read_all (ucRefs τ sig) (fun b => ((c : Dev nD), b)) (fun b => End m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Run

end Cert.ReferenceIdeal.Ref

end
-- ==== Proof.Ref.Keep.lean ====
module

public import proofs.«01_k».proof.Proof.Ref.Run
public import proofs.«01_k».proof.Defs

@[expose] public section

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

/-! ## What each stage of @main leaves as it was -/

variable (m : (ℓ : Loc nD τ sig) → Buf (Elt F) ℓ) (c : Dev nD)

abbrev fwd_W : List (Ref sig .tc) := fwdCond_W ++ fwdOps0_W ++ fwdOps1_W ++ fwdOps2_W ++ fwdOps3_W ++ fwdOps4_W ++ fwdOps5_W
theorem fwd_trip (V : Valuation τ sig (Elt F)) {b : Ref sig .tc} (h : b ∉ fwd_W) :
    afterL fwdI (after fwdCond V) (Proc.devRef .tc b) = V (Proc.devRef .tc b) := by
  simp only [fwd_W, List.mem_append, not_or, and_assoc] at h
  obtain ⟨h0, h1, h2, h3, h4, h5, h6⟩ := h
  simp only [afterL_cons, afterL_nil]
  rw [after_of_writes_sub fwdOps5 _ fwdOps5_writes h6, after_of_writes_sub fwdOps4 _ fwdOps4_writes h5, after_of_writes_sub fwdOps3 _ fwdOps3_writes h4, after_of_writes_sub fwdOps2 _ fwdOps2_writes h3, after_of_writes_sub fwdOps1 _ fwdOps1_writes h2, after_of_writes_sub fwdOps0 _ fwdOps0_writes h1, after_of_writes_sub fwdCond _ fwdCond_writes h0]
abbrev bwd_W : List (Ref sig .tc) := bwdCond_W ++ bwdOps0_W ++ bwdOps1_W ++ bwdOps2_W ++ bwdOps3_W ++ bwdOps4_W ++ bwdOps5_W ++ bwdOps6_W ++ bwdOps7_W
theorem bwd_trip (V : Valuation τ sig (Elt F)) {b : Ref sig .tc} (h : b ∉ bwd_W) :
    afterL bwdI (after bwdCond V) (Proc.devRef .tc b) = V (Proc.devRef .tc b) := by
  simp only [bwd_W, List.mem_append, not_or, and_assoc] at h
  obtain ⟨h0, h1, h2, h3, h4, h5, h6, h7, h8⟩ := h
  simp only [afterL_cons, afterL_nil]
  rw [after_of_writes_sub bwdOps7 _ bwdOps7_writes h8, after_of_writes_sub bwdOps6 _ bwdOps6_writes h7, after_of_writes_sub bwdOps5 _ bwdOps5_writes h6, after_of_writes_sub bwdOps4 _ bwdOps4_writes h5, after_of_writes_sub bwdOps3 _ bwdOps3_writes h4, after_of_writes_sub bwdOps2 _ bwdOps2_writes h3, after_of_writes_sub bwdOps1 _ bwdOps1_writes h2, after_of_writes_sub bwdOps0 _ bwdOps0_writes h1, after_of_writes_sub bwdCond _ bwdCond_writes h0]
theorem A0_keep {b : Ref sig .tc} (h : b ∉ fwd_W) : ∀ k, A0 m k c (Proc.devRef .tc b) = U7 m c (Proc.devRef .tc b)
  | 0 => rfl
  | k + 1 => (fwd_trip _ h).trans (A0_keep h k)
theorem A1_keep {b : Ref sig .tc} (h : b ∉ bwd_W) : ∀ k, A1 m k c (Proc.devRef .tc b) = U9 m c (Proc.devRef .tc b)
  | 0 => rfl
  | k + 1 => (bwd_trip _ h).trans (A1_keep h k)
theorem L0_keep {b : Ref sig .tc} (h : b ∉ fwd_W) : L0 m c (Proc.devRef .tc b) = U7 m c (Proc.devRef .tc b) :=
  (after_of_writes_sub fwdCond _ fwdCond_writes fun hb => h (List.mem_append_left _ (by simpa only [List.mem_append, or_assoc] using Or.inl hb))).trans (A0_keep m c h 64)
theorem L1_keep {b : Ref sig .tc} (h : b ∉ bwd_W) : L1 m c (Proc.devRef .tc b) = U9 m c (Proc.devRef .tc b) :=
  (after_of_writes_sub bwdCond _ bwdCond_writes fun hb => h (List.mem_append_left _ (by simpa only [List.mem_append, or_assoc] using Or.inl hb))).trans (A1_keep m c h 64)

/-! The stages: `S0` the launch, then one stage per stretch or loop. -/
abbrev S0 : Valuation τ sig (Elt F) := launchContents m c
abbrev S1 : Valuation τ sig (Elt F) := after preOps0 (S0 m c)
abbrev S2 : Valuation τ sig (Elt F) := after preOps1 (S1 m c)
abbrev S3 : Valuation τ sig (Elt F) := after preOps2 (S2 m c)
abbrev S4 : Valuation τ sig (Elt F) := after preOps3 (S3 m c)
abbrev S5 : Valuation τ sig (Elt F) := after preOps4 (S4 m c)
abbrev S6 : Valuation τ sig (Elt F) := after preOps5 (S5 m c)
abbrev S7 : Valuation τ sig (Elt F) := after preOps6 (S6 m c)
abbrev S8 : Valuation τ sig (Elt F) := L0 m c
abbrev S9 : Valuation τ sig (Elt F) := after midOps0 (S8 m c)
abbrev S10 : Valuation τ sig (Elt F) := after midOps1 (S9 m c)
abbrev S11 : Valuation τ sig (Elt F) := L1 m c
abbrev S12 : Valuation τ sig (Elt F) := after postOps0 (S11 m c)
abbrev S13 : Valuation τ sig (Elt F) := after postOps1 (S12 m c)
abbrev S14 : Valuation τ sig (Elt F) := after postOps2 (S13 m c)
abbrev S15 : Valuation τ sig (Elt F) := after postOps3 (S14 m c)
abbrev S16 : Valuation τ sig (Elt F) := after postOps4 (S15 m c)
abbrev S17 : Valuation τ sig (Elt F) := after postOps5 (S16 m c)
theorem End_eq : End m c = S17 m c := rfl

abbrev late17 : List (Ref sig .tc) := []
theorem late17_keep {b : Ref sig .tc} (h : b ∉ late17) : End m c (Proc.devRef .tc b) = S17 m c (Proc.devRef .tc b) := rfl
abbrev late16 : List (Ref sig .tc) := postOps5_W ++ late17
theorem late16_keep {b : Ref sig .tc} (h : b ∉ late16) : End m c (Proc.devRef .tc b) = S16 m c (Proc.devRef .tc b) := by
  rw [late16, List.mem_append, not_or] at h
  exact (late17_keep m c h.2).trans (after_of_writes_sub postOps5 _ postOps5_writes h.1)
abbrev late15 : List (Ref sig .tc) := postOps4_W ++ late16
theorem late15_keep {b : Ref sig .tc} (h : b ∉ late15) : End m c (Proc.devRef .tc b) = S15 m c (Proc.devRef .tc b) := by
  rw [late15, List.mem_append, not_or] at h
  exact (late16_keep m c h.2).trans (after_of_writes_sub postOps4 _ postOps4_writes h.1)
abbrev late14 : List (Ref sig .tc) := postOps3_W ++ late15
theorem late14_keep {b : Ref sig .tc} (h : b ∉ late14) : End m c (Proc.devRef .tc b) = S14 m c (Proc.devRef .tc b) := by
  rw [late14, List.mem_append, not_or] at h
  exact (late15_keep m c h.2).trans (after_of_writes_sub postOps3 _ postOps3_writes h.1)
abbrev late13 : List (Ref sig .tc) := postOps2_W ++ late14
theorem late13_keep {b : Ref sig .tc} (h : b ∉ late13) : End m c (Proc.devRef .tc b) = S13 m c (Proc.devRef .tc b) := by
  rw [late13, List.mem_append, not_or] at h
  exact (late14_keep m c h.2).trans (after_of_writes_sub postOps2 _ postOps2_writes h.1)
abbrev late12 : List (Ref sig .tc) := postOps1_W ++ late13
theorem late12_keep {b : Ref sig .tc} (h : b ∉ late12) : End m c (Proc.devRef .tc b) = S12 m c (Proc.devRef .tc b) := by
  rw [late12, List.mem_append, not_or] at h
  exact (late13_keep m c h.2).trans (after_of_writes_sub postOps1 _ postOps1_writes h.1)
abbrev late11 : List (Ref sig .tc) := postOps0_W ++ late12
theorem late11_keep {b : Ref sig .tc} (h : b ∉ late11) : End m c (Proc.devRef .tc b) = S11 m c (Proc.devRef .tc b) := by
  rw [late11, List.mem_append, not_or] at h
  exact (late12_keep m c h.2).trans (after_of_writes_sub postOps0 _ postOps0_writes h.1)
abbrev late10 : List (Ref sig .tc) := bwd_W ++ late11
theorem late10_keep {b : Ref sig .tc} (h : b ∉ late10) : End m c (Proc.devRef .tc b) = S10 m c (Proc.devRef .tc b) := by
  rw [late10, List.mem_append, not_or] at h
  exact (late11_keep m c h.2).trans (L1_keep m c h.1)
abbrev late9 : List (Ref sig .tc) := midOps1_W ++ late10
theorem late9_keep {b : Ref sig .tc} (h : b ∉ late9) : End m c (Proc.devRef .tc b) = S9 m c (Proc.devRef .tc b) := by
  rw [late9, List.mem_append, not_or] at h
  exact (late10_keep m c h.2).trans (after_of_writes_sub midOps1 _ midOps1_writes h.1)
abbrev late8 : List (Ref sig .tc) := midOps0_W ++ late9
theorem late8_keep {b : Ref sig .tc} (h : b ∉ late8) : End m c (Proc.devRef .tc b) = S8 m c (Proc.devRef .tc b) := by
  rw [late8, List.mem_append, not_or] at h
  exact (late9_keep m c h.2).trans (after_of_writes_sub midOps0 _ midOps0_writes h.1)
abbrev late7 : List (Ref sig .tc) := fwd_W ++ late8
theorem late7_keep {b : Ref sig .tc} (h : b ∉ late7) : End m c (Proc.devRef .tc b) = S7 m c (Proc.devRef .tc b) := by
  rw [late7, List.mem_append, not_or] at h
  exact (late8_keep m c h.2).trans (L0_keep m c h.1)
abbrev late6 : List (Ref sig .tc) := preOps6_W ++ late7
theorem late6_keep {b : Ref sig .tc} (h : b ∉ late6) : End m c (Proc.devRef .tc b) = S6 m c (Proc.devRef .tc b) := by
  rw [late6, List.mem_append, not_or] at h
  exact (late7_keep m c h.2).trans (after_of_writes_sub preOps6 _ preOps6_writes h.1)
abbrev late5 : List (Ref sig .tc) := preOps5_W ++ late6
theorem late5_keep {b : Ref sig .tc} (h : b ∉ late5) : End m c (Proc.devRef .tc b) = S5 m c (Proc.devRef .tc b) := by
  rw [late5, List.mem_append, not_or] at h
  exact (late6_keep m c h.2).trans (after_of_writes_sub preOps5 _ preOps5_writes h.1)
abbrev late4 : List (Ref sig .tc) := preOps4_W ++ late5
theorem late4_keep {b : Ref sig .tc} (h : b ∉ late4) : End m c (Proc.devRef .tc b) = S4 m c (Proc.devRef .tc b) := by
  rw [late4, List.mem_append, not_or] at h
  exact (late5_keep m c h.2).trans (after_of_writes_sub preOps4 _ preOps4_writes h.1)
abbrev late3 : List (Ref sig .tc) := preOps3_W ++ late4
theorem late3_keep {b : Ref sig .tc} (h : b ∉ late3) : End m c (Proc.devRef .tc b) = S3 m c (Proc.devRef .tc b) := by
  rw [late3, List.mem_append, not_or] at h
  exact (late4_keep m c h.2).trans (after_of_writes_sub preOps3 _ preOps3_writes h.1)
abbrev late2 : List (Ref sig .tc) := preOps2_W ++ late3
theorem late2_keep {b : Ref sig .tc} (h : b ∉ late2) : End m c (Proc.devRef .tc b) = S2 m c (Proc.devRef .tc b) := by
  rw [late2, List.mem_append, not_or] at h
  exact (late3_keep m c h.2).trans (after_of_writes_sub preOps2 _ preOps2_writes h.1)
abbrev late1 : List (Ref sig .tc) := preOps1_W ++ late2
theorem late1_keep {b : Ref sig .tc} (h : b ∉ late1) : End m c (Proc.devRef .tc b) = S1 m c (Proc.devRef .tc b) := by
  rw [late1, List.mem_append, not_or] at h
  exact (late2_keep m c h.2).trans (after_of_writes_sub preOps1 _ preOps1_writes h.1)
abbrev late0 : List (Ref sig .tc) := preOps0_W ++ late1
theorem late0_keep {b : Ref sig .tc} (h : b ∉ late0) : End m c (Proc.devRef .tc b) = S0 m c (Proc.devRef .tc b) := by
  rw [late0, List.mem_append, not_or] at h
  exact (late1_keep m c h.2).trans (after_of_writes_sub preOps0 _ preOps0_writes h.1)

/-- @main leaves its arguments and the counters as they were. -/
theorem frame (ρ : Dev nD → PrngReg) : θ_run (defs (F := F)) (onTc (τ := τ) (main (F := F))) ⟨m, fun _ => 0, ρ⟩
    (fun r => (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)) ∧ r.2.sem = fun _ => 0) := by
  refine (θ_run defs _ _).mono ?_ (run m ρ)
  intro r h
  refine ⟨fun c => ⟨?_, ?_, ?_⟩, Idealize.ShloMosaic.sem_eq_zero_of_no_sems (by decide) r.2⟩
  · rw [h c main_arg0 rfl]; exact late0_keep m c (by decide +kernel)
  · rw [h c main_arg1 rfl]; exact late0_keep m c (by decide +kernel)
  · rw [h c main_arg2 rfl]; exact late0_keep m c (by decide +kernel)

end Cert.ReferenceIdeal.Ref

end
-- ==== Proof.Ref.Sums.lean ====
module

public import proofs.«01_k».proof.Proof.Ref.Keep
public import proofs.«01_k».proof.Proof.Gla.Whole

@[expose] public section

noncomputable section

/-! The reference's sums that are not over one axis: over two axes of extent one, and along a sliding window. -/

namespace Cert.ReferenceIdeal.Ref

open Cert.ReferenceIdeal Cert.ReferenceIdeal.Gen
open Idealize.ShloMosaic Idealize.ShloMosaic.TcCoe Idealize.ShloMosaic.Tactic
open Idealize.ShloMosaic.StableHlo

local notation "𝕀" => Idealize.ShloMosaic.Ideal

theorem sum_units (Z : FVec 𝕀 S1x4x64x1 .f32) (v : FVec 𝕀 S_ .f32) (h : Fin 4) (x : Fin 64) :
    Host.reduceAdd Z v reducesTo_S1x4x64x1_S4x64_d0_3 h_S_ (ix2 h x) = (v (Shape.Idx.first h_S_) + Z (ix4 0 h x 0) : EReal) := by
  show Ideal.hostReduceAdd reducesTo_S1x4x64x1_S4x64_d0_3 Z (v (Shape.Idx.first h_S_)) (ix2 h x) = _
  unfold Ideal.hostReduceAdd
  have hf : (Finset.univ.filter fun i => reducesTo_S1x4x64x1_S4x64_d0_3.drop i = ix2 h x) = {(ix4 0 h x 0 : S1x4x64x1.Idx)} := by
    ext i
    rw [Finset.mem_filter, Finset.mem_singleton]
    constructor
    · intro ⟨_, hi⟩
      have h0 : i 1 = h := congrFun hi 0
      have h1 : i 2 = x := congrFun hi 1
      rw [eq_ix4 i, h0, h1, Subsingleton.elim (α := Fin 1) (i 0) 0, Subsingleton.elim (α := Fin 1) (i 3) 0]
    · rintro rfl
      exact ⟨Finset.mem_univ _, eq_ix2 _⟩
  rw [hf, Finset.sum_singleton]

theorem foldl_plus {α : Type} (f : α → EReal) : ∀ (l : List α) (v : EReal), l.foldl (fun r n => r + f n) v = v + (l.map f).sum
  | [], v => (add_zero v).symm
  | a :: l, v => by rw [List.foldl_cons, foldl_plus f l, List.map_cons, List.sum_cons, add_assoc]

abbrev Win : Shape := ⟨5, ![1, 1, 1, 64, 1]⟩
theorem win_numel : Win.numel = 64 := by decide

theorem win_at (n : Fin Win.numel) : (Win.rowMajor.symm n 0).val = 0 ∧ (Win.rowMajor.symm n 1).val = 0 ∧ (Win.rowMajor.symm n 2).val = 0
    ∧ (Win.rowMajor.symm n 3).val = n.val ∧ (Win.rowMajor.symm n 4).val = 0 := by
  have e := Shape.rowMajor_val_five (Win.rowMajor.symm n)
  rw [Equiv.apply_symm_apply] at e
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have h4 : (Win.rowMajor.symm n 4).val < 1 := (Win.rowMajor.symm n 4).isLt
  change n.val = (((((Win.rowMajor.symm n 0).val * 1 + (Win.rowMajor.symm n 1).val) * 1 + (Win.rowMajor.symm n 2).val) * 64 + (Win.rowMajor.symm n 3).val) * 1 + (Win.rowMajor.symm n 4).val) at e
  omega

theorem window_sum (f : Fin Win.numel → EReal) (g : Fin 64 → EReal) (h : ∀ n : Fin 64, f (n.cast win_numel.symm) = g n) :
    ((List.finRange Win.numel).map f).sum = ∑ n, g n := by
  rw [← Fin.sum_univ_def]
  exact (Equiv.sum_comp (finCongr win_numel.symm) f).symm.trans (Finset.sum_congr rfl fun n _ => h n)

def wi (q : Fin 64) : Win.Idx := Win.rowMajor.symm (q.cast win_numel.symm)
theorem wi_at (q : Fin 64) : (wi q 0).val = 0 ∧ (wi q 1).val = 0 ∧ (wi q 2).val = 0 ∧ (wi q 3).val = q.val ∧ (wi q 4).val = 0 :=
  win_at (q.cast win_numel.symm)

/-- The running sum along the rows of a chunk. -/
theorem cumsum_fwd (X : FVec 𝕀 S1x4x64x64x64 .f32) (v : FVec 𝕀 S_ .f32) (hv : v (Shape.Idx.first h_S_) = (0 : EReal)) (h : Fin 4) (n i x : Fin 64) :
    Host.reduceWindowAdd ![1, 1, 1, 64, 1] ![1, 1, 1, 1, 1] ![0, 0, 0, 63, 0] ![0, 0, 0, 0, 0] X v reduceWindows_S1x4x64x64x64_S1x4x64x64x64_w1s1p0_0_w1s1p0_0_w1s1p0_0_w64s1p63_0_w1s1p0_0 h_S_ (ix5 0 h n i x)
      = ∑ j : Fin 64, if j ≤ i then (X (ix5 0 h n j x) : EReal) else 0 := by
  show Ideal.hostReduceWindowAdd ![1, 1, 1, 64, 1] ![1, 1, 1, 1, 1] ![0, 0, 0, 63, 0] ![0, 0, 0, 0, 0] reduceWindows_S1x4x64x64x64_S1x4x64x64x64_w1s1p0_0_w1s1p0_0_w1s1p0_0_w64s1p63_0_w1s1p0_0 X (v (Shape.Idx.first h_S_)) (ix5 0 h n i x) = _
  unfold Ideal.hostReduceWindowAdd Host.reduceWindow
  refine (foldl_plus _ _ _).trans ?_
  rw [hv, zero_add]
  have hi := i.isLt
  have hh := h.isLt
  have hn := n.isLt
  have hx := x.isLt
  refine (window_sum _ (fun q => if q + (i + 1) ≤ i then X (ix5 0 h n (q + (i + 1)) x) else 0) fun q => ?_).trans
    (Equiv.sum_comp (Equiv.addRight (i + 1)) fun j => if j ≤ i then (X (ix5 0 h n j x) : EReal) else 0)
  obtain ⟨w0, w1, w2, w3, w4⟩ := wi_at q
  have hq := q.isLt
  have hs : (q + (i + 1)).val = (q.val + i.val + 1) % 64 := by
    rw [Fin.val_add, Fin.val_add]; show (q.val + (i.val + 1) % 64) % 64 = _; omega
  dsimp only
  by_cases hc : q + (i + 1) ≤ i
  · have hc' : (q + (i + 1)).val ≤ i.val := hc
    rw [if_pos hc, dif_pos]
    · refine congrArg X (funext fun a => Fin.ext ?_)
      match a with
      | ⟨0, _⟩ => show 0 * 1 + (wi q 0).val - 0 = 0; omega
      | ⟨1, _⟩ => show h.val * 1 + (wi q 1).val - 0 = h.val; omega
      | ⟨2, _⟩ => show n.val * 1 + (wi q 2).val - 0 = n.val; omega
      | ⟨3, _⟩ => show i.val * 1 + (wi q 3).val - 63 = (q + (i + 1)).val; omega
      | ⟨4, _⟩ => show x.val * 1 + (wi q 4).val - 0 = x.val; omega
    · intro a
      match a with
      | ⟨0, _⟩ => show 0 ≤ 0 * 1 + (wi q 0).val ∧ 0 * 1 + (wi q 0).val - 0 < 1; omega
      | ⟨1, _⟩ => show 0 ≤ h.val * 1 + (wi q 1).val ∧ h.val * 1 + (wi q 1).val - 0 < 4; omega
      | ⟨2, _⟩ => show 0 ≤ n.val * 1 + (wi q 2).val ∧ n.val * 1 + (wi q 2).val - 0 < 64; omega
      | ⟨3, _⟩ => show 63 ≤ i.val * 1 + (wi q 3).val ∧ i.val * 1 + (wi q 3).val - 63 < 64; omega
      | ⟨4, _⟩ => show 0 ≤ x.val * 1 + (wi q 4).val ∧ x.val * 1 + (wi q 4).val - 0 < 64; omega
  · have hc' : ¬ (q + (i + 1)).val ≤ i.val := hc
    rw [if_neg hc, dif_neg]
    intro hin
    have h3 : 63 ≤ i.val * 1 + (wi q 3).val ∧ i.val * 1 + (wi q 3).val - 63 < 64 := hin 3
    omega

/-- The running sum along the rows of a chunk, from the last row back. -/
theorem cumsum_rev (X : FVec 𝕀 S1x4x64x64x64 .f32) (v : FVec 𝕀 S_ .f32) (hv : v (Shape.Idx.first h_S_) = (0 : EReal)) (h : Fin 4) (n i x : Fin 64) :
    Host.reduceWindowAdd ![1, 1, 1, 64, 1] ![1, 1, 1, 1, 1] ![0, 0, 0, 0, 0] ![0, 0, 0, 63, 0] X v reduceWindows_S1x4x64x64x64_S1x4x64x64x64_w1s1p0_0_w1s1p0_0_w1s1p0_0_w64s1p0_63_w1s1p0_0 h_S_ (ix5 0 h n i x)
      = ∑ j : Fin 64, if i ≤ j then (X (ix5 0 h n j x) : EReal) else 0 := by
  show Ideal.hostReduceWindowAdd ![1, 1, 1, 64, 1] ![1, 1, 1, 1, 1] ![0, 0, 0, 0, 0] ![0, 0, 0, 63, 0] reduceWindows_S1x4x64x64x64_S1x4x64x64x64_w1s1p0_0_w1s1p0_0_w1s1p0_0_w64s1p0_63_w1s1p0_0 X (v (Shape.Idx.first h_S_)) (ix5 0 h n i x) = _
  unfold Ideal.hostReduceWindowAdd Host.reduceWindow
  refine (foldl_plus _ _ _).trans ?_
  rw [hv, zero_add]
  have hi := i.isLt
  have hh := h.isLt
  have hn := n.isLt
  have hx := x.isLt
  refine (window_sum _ (fun q => if i ≤ q + i then X (ix5 0 h n (q + i) x) else 0) fun q => ?_).trans
    (Equiv.sum_comp (Equiv.addRight i) fun j => if i ≤ j then (X (ix5 0 h n j x) : EReal) else 0)
  obtain ⟨w0, w1, w2, w3, w4⟩ := wi_at q
  have hq := q.isLt
  have hs : (q + i).val = (q.val + i.val) % 64 := by
    rw [Fin.val_add]
  dsimp only
  by_cases hc : i ≤ q + i
  · have hc' : i.val ≤ (q + i).val := hc
    rw [if_pos hc, dif_pos]
    · refine congrArg X (funext fun a => Fin.ext ?_)
      match a with
      | ⟨0, _⟩ => show 0 * 1 + (wi q 0).val - 0 = 0; omega
      | ⟨1, _⟩ => show h.val * 1 + (wi q 1).val - 0 = h.val; omega
      | ⟨2, _⟩ => show n.val * 1 + (wi q 2).val - 0 = n.val; omega
      | ⟨3, _⟩ => show i.val * 1 + (wi q 3).val - 0 = (q + i).val; omega
      | ⟨4, _⟩ => show x.val * 1 + (wi q 4).val - 0 = x.val; omega
    · intro a
      match a with
      | ⟨0, _⟩ => show 0 ≤ 0 * 1 + (wi q 0).val ∧ 0 * 1 + (wi q 0).val - 0 < 1; omega
      | ⟨1, _⟩ => show 0 ≤ h.val * 1 + (wi q 1).val ∧ h.val * 1 + (wi q 1).val - 0 < 4; omega
      | ⟨2, _⟩ => show 0 ≤ n.val * 1 + (wi q 2).val ∧ n.val * 1 + (wi q 2).val - 0 < 64; omega
      | ⟨3, _⟩ => show 0 ≤ i.val * 1 + (wi q 3).val ∧ i.val * 1 + (wi q 3).val - 0 < 64; omega
      | ⟨4, _⟩ => show 0 ≤ x.val * 1 + (wi q 4).val ∧ x.val * 1 + (wi q 4).val - 0 < 64; omega
  · have hc' : ¬ i.val ≤ (q + i).val := hc
    rw [if_neg hc, dif_neg]
    intro hin
    have h3 : 0 ≤ i.val * 1 + (wi q 3).val ∧ i.val * 1 + (wi q 3).val - 0 < 64 := hin 3
    omega

end Cert.ReferenceIdeal.Ref

end
-- ==== Proof.Ref.Loops.lean ====
module

public import proofs.«01_k».proof.Proof.Ref.Sums
public import proofs.«01_k».proof.Proof.Gla.Whole

@[expose] public section

noncomputable section

/-! One trip of each of the reference's two loops, entry by entry. -/

namespace Cert.ReferenceIdeal.Ref

open Cert.ReferenceIdeal Cert.ReferenceIdeal.Gen
open Idealize.ShloMosaic Idealize.ShloMosaic.TcCoe Idealize.ShloMosaic.Tactic
open Idealize.ShloMosaic.StableHlo

local notation "𝕀" => Idealize.ShloMosaic.Ideal

theorem start_zero {s t : Shape} (ht : t.rank = s.rank) (st : Fin s.rank → ℤ) (a : Fin s.rank) (h : s.size a = t.size (a.cast ht.symm)) :
    Host.clampedStart s t ht st a = 0 := by
  unfold Host.clampedStart; omega

theorem row4 (X : FVec 𝕀 S64x1x4x64 .f32) (st : Fin 4 → ℤ) (k : Fin 64) (h0 : st 0 = (k.val : ℤ)) (h : Fin 4) (x : Fin 64) :
    shapeCast S1x4x64 (Host.dynamicSlice S1x1x4x64 X st sliceFits_S64x1x4x64_S1x1x4x64) shapeCasts_S1x1x4x64_S1x4x64 (ix3 0 h x) = X (ix4 k 0 h x) := by
  have hk := k.isLt
  have e0 : Host.clampedStart S64x1x4x64 S1x1x4x64 rfl st 0 = k.val := Host.clampedStart_of_le _ _ _ _ h0 (by show k.val + 1 ≤ 64; omega)
  pointwise
  refine congrArg X (funext fun a => Fin.ext ?_)
  match a with
  | ⟨0, _⟩ => exact e0
  | ⟨1, _⟩ => exact start_zero (s := S64x1x4x64) (t := S1x1x4x64) rfl st 1 rfl
  | ⟨2, _⟩ => show Host.clampedStart S64x1x4x64 S1x1x4x64 _ st 2 + h.val = h.val; rw [start_zero _ _ _ rfl]; exact Nat.zero_add _
  | ⟨3, _⟩ => show Host.clampedStart S64x1x4x64 S1x1x4x64 _ st 3 + x.val = x.val; rw [start_zero _ _ _ rfl]; exact Nat.zero_add _
theorem put4 (X : FVec 𝕀 S64x1x4x64 .f32) (u : FVec 𝕀 S1x1x4x64 .f32) (st : Fin 4 → ℤ) (k : Fin 64) (h0 : st 0 = (k.val : ℤ)) (n : Fin 64) (h : Fin 4) (x : Fin 64) :
    Host.dynamicUpdateSlice X u st updateFits_S64x1x4x64_S1x1x4x64 (ix4 n 0 h x) = if n = k then u (ix4 0 0 h x) else X (ix4 n 0 h x) := by
  have hk := k.isLt
  have hn := n.isLt
  have hh := h.isLt
  have hx := x.isLt
  have e0 : Host.clampedStart S64x1x4x64 S1x1x4x64 rfl st 0 = k.val := Host.clampedStart_of_le _ _ _ _ h0 (by show k.val + 1 ≤ 64; omega)
  have z : ∀ a : Fin 4, a ≠ 0 → Host.clampedStart S64x1x4x64 S1x1x4x64 rfl st a = 0 := fun a ha => start_zero _ _ _ (by
    match a, ha with
    | ⟨0, _⟩, ha => exact absurd rfl ha
    | ⟨1, _⟩, _ => rfl
    | ⟨2, _⟩, _ => rfl
    | ⟨3, _⟩, _ => rfl)
  rw [Host.dynamicUpdateSlice_apply]
  by_cases hnk : n = k
  · subst hnk
    rw [if_pos rfl, dif_pos]
    · refine congrArg u (funext fun a => Fin.ext ?_)
      match a with
      | ⟨0, _⟩ => show n.val - Host.clampedStart S64x1x4x64 S1x1x4x64 rfl st 0 = 0; omega
      | ⟨1, _⟩ => show 0 - Host.clampedStart S64x1x4x64 S1x1x4x64 rfl st 1 = 0; rw [z 1 (by decide)]
      | ⟨2, _⟩ => show h.val - Host.clampedStart S64x1x4x64 S1x1x4x64 rfl st 2 = h.val; rw [z 2 (by decide)]; rfl
      | ⟨3, _⟩ => show x.val - Host.clampedStart S64x1x4x64 S1x1x4x64 rfl st 3 = x.val; rw [z 3 (by decide)]; rfl
    · intro a
      match a with
      | ⟨0, _⟩ => show Host.clampedStart S64x1x4x64 S1x1x4x64 rfl st 0 ≤ n.val ∧ n.val < Host.clampedStart S64x1x4x64 S1x1x4x64 rfl st 0 + 1; omega
      | ⟨1, _⟩ => show Host.clampedStart S64x1x4x64 S1x1x4x64 rfl st 1 ≤ 0 ∧ 0 < Host.clampedStart S64x1x4x64 S1x1x4x64 rfl st 1 + 1; have := z 1 (by decide); omega
      | ⟨2, _⟩ => show Host.clampedStart S64x1x4x64 S1x1x4x64 rfl st 2 ≤ h.val ∧ h.val < Host.clampedStart S64x1x4x64 S1x1x4x64 rfl st 2 + 4; have := z 2 (by decide); omega
      | ⟨3, _⟩ => show Host.clampedStart S64x1x4x64 S1x1x4x64 rfl st 3 ≤ x.val ∧ x.val < Host.clampedStart S64x1x4x64 S1x1x4x64 rfl st 3 + 64; have := z 3 (by decide); omega
  · rw [if_neg hnk, dif_neg]
    intro hin
    have h' : Host.clampedStart S64x1x4x64 S1x1x4x64 rfl st 0 ≤ n.val ∧ n.val < Host.clampedStart S64x1x4x64 S1x1x4x64 rfl st 0 + 1 := hin 0
    exact hnk (Fin.ext (by omega))
theorem row5 (X : FVec 𝕀 S64x1x4x64x128 .f32) (st : Fin 5 → ℤ) (k : Fin 64) (h0 : st 0 = (k.val : ℤ)) (h : Fin 4) (x : Fin 64) (e : Fin 128) :
    shapeCast S1x4x64x128 (Host.dynamicSlice S1x1x4x64x128 X st sliceFits_S64x1x4x64x128_S1x1x4x64x128) shapeCasts_S1x1x4x64x128_S1x4x64x128 (ix4 0 h x e) = X (ix5 k 0 h x e) := by
  have hk := k.isLt
  have e0 : Host.clampedStart S64x1x4x64x128 S1x1x4x64x128 rfl st 0 = k.val := Host.clampedStart_of_le _ _ _ _ h0 (by show k.val + 1 ≤ 64; omega)
  pointwise
  refine congrArg X (funext fun a => Fin.ext ?_)
  match a with
  | ⟨0, _⟩ => exact e0
  | ⟨1, _⟩ => exact start_zero (s := S64x1x4x64x128) (t := S1x1x4x64x128) rfl st 1 rfl
  | ⟨2, _⟩ => show Host.clampedStart S64x1x4x64x128 S1x1x4x64x128 _ st 2 + h.val = h.val; rw [start_zero _ _ _ rfl]; exact Nat.zero_add _
  | ⟨3, _⟩ => show Host.clampedStart S64x1x4x64x128 S1x1x4x64x128 _ st 3 + x.val = x.val; rw [start_zero _ _ _ rfl]; exact Nat.zero_add _
  | ⟨4, _⟩ => show Host.clampedStart S64x1x4x64x128 S1x1x4x64x128 _ st 4 + e.val = e.val; rw [start_zero _ _ _ rfl]; exact Nat.zero_add _
theorem put5 (X : FVec 𝕀 S64x1x4x64x128 .f32) (u : FVec 𝕀 S1x1x4x64x128 .f32) (st : Fin 5 → ℤ) (k : Fin 64) (h0 : st 0 = (k.val : ℤ)) (n : Fin 64) (h : Fin 4) (x : Fin 64) (e : Fin 128) :
    Host.dynamicUpdateSlice X u st updateFits_S64x1x4x64x128_S1x1x4x64x128 (ix5 n 0 h x e) = if n = k then u (ix5 0 0 h x e) else X (ix5 n 0 h x e) := by
  have hk := k.isLt
  have hn := n.isLt
  have hh := h.isLt
  have hx := x.isLt
  have e0 : Host.clampedStart S64x1x4x64x128 S1x1x4x64x128 rfl st 0 = k.val := Host.clampedStart_of_le _ _ _ _ h0 (by show k.val + 1 ≤ 64; omega)
  have z : ∀ a : Fin 5, a ≠ 0 → Host.clampedStart S64x1x4x64x128 S1x1x4x64x128 rfl st a = 0 := fun a ha => start_zero _ _ _ (by
    match a, ha with
    | ⟨0, _⟩, ha => exact absurd rfl ha
    | ⟨1, _⟩, _ => rfl
    | ⟨2, _⟩, _ => rfl
    | ⟨3, _⟩, _ => rfl
    | ⟨4, _⟩, _ => rfl)
  rw [Host.dynamicUpdateSlice_apply]
  by_cases hnk : n = k
  · subst hnk
    rw [if_pos rfl, dif_pos]
    · refine congrArg u (funext fun a => Fin.ext ?_)
      match a with
      | ⟨0, _⟩ => show n.val - Host.clampedStart S64x1x4x64x128 S1x1x4x64x128 rfl st 0 = 0; omega
      | ⟨1, _⟩ => show 0 - Host.clampedStart S64x1x4x64x128 S1x1x4x64x128 rfl st 1 = 0; rw [z 1 (by decide)]
      | ⟨2, _⟩ => show h.val - Host.clampedStart S64x1x4x64x128 S1x1x4x64x128 rfl st 2 = h.val; rw [z 2 (by decide)]; rfl
      | ⟨3, _⟩ => show x.val - Host.clampedStart S64x1x4x64x128 S1x1x4x64x128 rfl st 3 = x.val; rw [z 3 (by decide)]; rfl
      | ⟨4, _⟩ => show e.val - Host.clampedStart S64x1x4x64x128 S1x1x4x64x128 rfl st 4 = e.val; rw [z 4 (by decide)]; rfl
    · intro a
      match a with
      | ⟨0, _⟩ => show Host.clampedStart S64x1x4x64x128 S1x1x4x64x128 rfl st 0 ≤ n.val ∧ n.val < Host.clampedStart S64x1x4x64x128 S1x1x4x64x128 rfl st 0 + 1; omega
      | ⟨1, _⟩ => show Host.clampedStart S64x1x4x64x128 S1x1x4x64x128 rfl st 1 ≤ 0 ∧ 0 < Host.clampedStart S64x1x4x64x128 S1x1x4x64x128 rfl st 1 + 1; have := z 1 (by decide); omega
      | ⟨2, _⟩ => show Host.clampedStart S64x1x4x64x128 S1x1x4x64x128 rfl st 2 ≤ h.val ∧ h.val < Host.clampedStart S64x1x4x64x128 S1x1x4x64x128 rfl st 2 + 4; have := z 2 (by decide); omega
      | ⟨3, _⟩ => show Host.clampedStart S64x1x4x64x128 S1x1x4x64x128 rfl st 3 ≤ x.val ∧ x.val < Host.clampedStart S64x1x4x64x128 S1x1x4x64x128 rfl st 3 + 64; have := z 3 (by decide); omega
      | ⟨4, _⟩ => show Host.clampedStart S64x1x4x64x128 S1x1x4x64x128 rfl st 4 ≤ e.val ∧ e.val < Host.clampedStart S64x1x4x64x128 S1x1x4x64x128 rfl st 4 + 128; have := z 4 (by decide); omega
  · rw [if_neg hnk, dif_neg]
    intro hin
    have h' : Host.clampedStart S64x1x4x64x128 S1x1x4x64x128 rfl st 0 ≤ n.val ∧ n.val < Host.clampedStart S64x1x4x64x128 S1x1x4x64x128 rfl st 0 + 1 := hin 0
    exact hnk (Fin.ext (by omega))
theorem row5u (X : FVec 𝕀 S64x1x4x64x1 .f32) (st : Fin 5 → ℤ) (k : Fin 64) (h0 : st 0 = (k.val : ℤ)) (h : Fin 4) (x : Fin 64) :
    shapeCast S1x4x64x1 (Host.dynamicSlice S1x1x4x64x1 X st sliceFits_S64x1x4x64x1_S1x1x4x64x1) shapeCasts_S1x1x4x64x1_S1x4x64x1 (ix4 0 h x 0) = X (ix5 k 0 h x 0) := by
  have hk := k.isLt
  have e0 : Host.clampedStart S64x1x4x64x1 S1x1x4x64x1 rfl st 0 = k.val := Host.clampedStart_of_le _ _ _ _ h0 (by show k.val + 1 ≤ 64; omega)
  pointwise
  refine congrArg X (funext fun a => Fin.ext ?_)
  match a with
  | ⟨0, _⟩ => exact e0
  | ⟨1, _⟩ => exact start_zero (s := S64x1x4x64x1) (t := S1x1x4x64x1) rfl st 1 rfl
  | ⟨2, _⟩ => show Host.clampedStart S64x1x4x64x1 S1x1x4x64x1 _ st 2 + h.val = h.val; rw [start_zero _ _ _ rfl]; exact Nat.zero_add _
  | ⟨3, _⟩ => show Host.clampedStart S64x1x4x64x1 S1x1x4x64x1 _ st 3 + x.val = x.val; rw [start_zero _ _ _ rfl]; exact Nat.zero_add _
  | ⟨4, _⟩ => exact start_zero (s := S64x1x4x64x1) (t := S1x1x4x64x1) rfl st _ rfl
theorem put5u (X : FVec 𝕀 S64x1x4x64x1 .f32) (u : FVec 𝕀 S1x1x4x64x1 .f32) (st : Fin 5 → ℤ) (k : Fin 64) (h0 : st 0 = (k.val : ℤ)) (n : Fin 64) (h : Fin 4) (x : Fin 64) :
    Host.dynamicUpdateSlice X u st updateFits_S64x1x4x64x1_S1x1x4x64x1 (ix5 n 0 h x 0) = if n = k then u (ix5 0 0 h x 0) else X (ix5 n 0 h x 0) := by
  have hk := k.isLt
  have hn := n.isLt
  have hh := h.isLt
  have hx := x.isLt
  have e0 : Host.clampedStart S64x1x4x64x1 S1x1x4x64x1 rfl st 0 = k.val := Host.clampedStart_of_le _ _ _ _ h0 (by show k.val + 1 ≤ 64; omega)
  have z : ∀ a : Fin 5, a ≠ 0 → Host.clampedStart S64x1x4x64x1 S1x1x4x64x1 rfl st a = 0 := fun a ha => start_zero _ _ _ (by
    match a, ha with
    | ⟨0, _⟩, ha => exact absurd rfl ha
    | ⟨1, _⟩, _ => rfl
    | ⟨2, _⟩, _ => rfl
    | ⟨3, _⟩, _ => rfl
    | ⟨4, _⟩, _ => rfl)
  rw [Host.dynamicUpdateSlice_apply]
  by_cases hnk : n = k
  · subst hnk
    rw [if_pos rfl, dif_pos]
    · refine congrArg u (funext fun a => Fin.ext ?_)
      match a with
      | ⟨0, _⟩ => show n.val - Host.clampedStart S64x1x4x64x1 S1x1x4x64x1 rfl st 0 = 0; omega
      | ⟨1, _⟩ => show 0 - Host.clampedStart S64x1x4x64x1 S1x1x4x64x1 rfl st 1 = 0; rw [z 1 (by decide)]
      | ⟨2, _⟩ => show h.val - Host.clampedStart S64x1x4x64x1 S1x1x4x64x1 rfl st 2 = h.val; rw [z 2 (by decide)]; rfl
      | ⟨3, _⟩ => show x.val - Host.clampedStart S64x1x4x64x1 S1x1x4x64x1 rfl st 3 = x.val; rw [z 3 (by decide)]; rfl
      | ⟨4, _⟩ => show 0 - Host.clampedStart S64x1x4x64x1 S1x1x4x64x1 rfl st 4 = 0; rw [z 4 (by decide)]
    · intro a
      match a with
      | ⟨0, _⟩ => show Host.clampedStart S64x1x4x64x1 S1x1x4x64x1 rfl st 0 ≤ n.val ∧ n.val < Host.clampedStart S64x1x4x64x1 S1x1x4x64x1 rfl st 0 + 1; omega
      | ⟨1, _⟩ => show Host.clampedStart S64x1x4x64x1 S1x1x4x64x1 rfl st 1 ≤ 0 ∧ 0 < Host.clampedStart S64x1x4x64x1 S1x1x4x64x1 rfl st 1 + 1; have := z 1 (by decide); omega
      | ⟨2, _⟩ => show Host.clampedStart S64x1x4x64x1 S1x1x4x64x1 rfl st 2 ≤ h.val ∧ h.val < Host.clampedStart S64x1x4x64x1 S1x1x4x64x1 rfl st 2 + 4; have := z 2 (by decide); omega
      | ⟨3, _⟩ => show Host.clampedStart S64x1x4x64x1 S1x1x4x64x1 rfl st 3 ≤ x.val ∧ x.val < Host.clampedStart S64x1x4x64x1 S1x1x4x64x1 rfl st 3 + 64; have := z 3 (by decide); omega
      | ⟨4, _⟩ => show Host.clampedStart S64x1x4x64x1 S1x1x4x64x1 rfl st 4 ≤ 0 ∧ 0 < Host.clampedStart S64x1x4x64x1 S1x1x4x64x1 rfl st 4 + 1; have := z 4 (by decide); omega
  · rw [if_neg hnk, dif_neg]
    intro hin
    have h' : Host.clampedStart S64x1x4x64x1 S1x1x4x64x1 rfl st 0 ≤ n.val ∧ n.val < Host.clampedStart S64x1x4x64x1 S1x1x4x64x1 rfl st 0 + 1 := hin 0
    exact hnk (Fin.ext (by omega))

theorem ctr_val : ∀ k : Fin 64, (Scf.iv 0#32 1#32 k.val).toInt = (k.val : ℤ) := by decide +kernel
theorem ctr_rev : ∀ k : Fin 64, (IntOp.subi (IntOp.subi 64#32 (Scf.iv 0#32 1#32 k.val)) 1#32).toInt = ((63 - k.val : ℕ) : ℤ) := by decide +kernel

/-! Reading the arrays of the loops at a chunk, a head, a key and a value column. -/
def g4 (f : S64x1x4x64.Idx → EReal) (k : Fin 64) (h : Fin 4) (x : Fin 64) : EReal := f (ix4 k 0 h x)
def g5 (f : S64x1x4x64x128.Idx → EReal) (k : Fin 64) (h : Fin 4) (x : Fin 64) (e : Fin 128) : EReal := f (ix5 k 0 h x e)
def gu (f : S64x1x4x64x1.Idx → EReal) (k : Fin 64) (h : Fin 4) (x : Fin 64) : EReal := f (ix5 k 0 h x 0)
def gs (f : S1x4x64x128.Idx → EReal) (h : Fin 4) (x : Fin 64) (e : Fin 128) : EReal := f (ix4 0 h x e)

/-! The vector expressions of one trip, read at an entry. -/

theorem state_step (X : FVec 𝕀 S64x1x4x64 .f32) (Y : FVec 𝕀 S64x1x4x64x128 .f32) (st : Fin 4 → ℤ) (su : Fin 5 → ℤ) (Z : FVec 𝕀 S1x4x64x128 .f32) (k : Fin 64)
    (h0 : st 0 = (k.val : ℤ)) (h1 : su 0 = (k.val : ℤ)) (h : Fin 4) (x : Fin 64) (e : Fin 128) :
    gs (addf (mulf (broadcastInDim S1x4x64x128 ![0, 1, 2, 3] bcast_S1x4x64x1_S1x4x64x128_0_1_2_3 (broadcastInDim S1x4x64x1 ![0, 1, 2] bcast_S1x4x64_S1x4x64x1_0_1_2 (shapeCast S1x4x64 (Host.dynamicSlice S1x1x4x64 X st sliceFits_S64x1x4x64_S1x1x4x64) shapeCasts_S1x1x4x64_S1x4x64))) Z) (shapeCast S1x4x64x128 (Host.dynamicSlice S1x1x4x64x128 Y su sliceFits_S64x1x4x64x128_S1x1x4x64x128) shapeCasts_S1x1x4x64x128_S1x4x64x128)) h x e = g4 X k h x * gs Z h x e + g5 Y k h x e := by
  have r4 := row4 X st k h0 h x
  have r5 := row5 Y su k h1 h x e
  generalize (shapeCast S1x4x64 (Host.dynamicSlice S1x1x4x64 X st sliceFits_S64x1x4x64_S1x1x4x64) shapeCasts_S1x1x4x64_S1x4x64) = W at r4 ⊢
  generalize (shapeCast S1x4x64x128 (Host.dynamicSlice S1x1x4x64x128 Y su sliceFits_S64x1x4x64x128_S1x1x4x64x128) shapeCasts_S1x1x4x64x128_S1x4x64x128) = W' at r5 ⊢
  unfold gs g4 g5
  pointwise
  rw [r4, r5]

theorem saved_step (X : FVec 𝕀 S64x1x4x64x128 .f32) (Z : FVec 𝕀 S1x4x64x128 .f32) (st : Fin 5 → ℤ) (k : Fin 64)
    (h0 : st 0 = (k.val : ℤ)) (n : Fin 64) (h : Fin 4) (x : Fin 64) (e : Fin 128) :
    g5 (Host.dynamicUpdateSlice X (broadcastInDim S1x1x4x64x128 ![1, 2, 3, 4] bcast_S1x4x64x128_S1x1x4x64x128_1_2_3_4 Z) st updateFits_S64x1x4x64x128_S1x1x4x64x128) n h x e
      = if n = k then gs Z h x e else g5 X n h x e := by
  have u : broadcastInDim S1x1x4x64x128 ![1, 2, 3, 4] bcast_S1x4x64x128_S1x1x4x64x128_1_2_3_4 Z (ix5 0 0 h x e) = Z (ix4 0 h x e) := by pointwise
  refine (put5 X _ st k h0 n h x e).trans ?_
  rw [u]
  rfl

theorem dec_step (X : FVec 𝕀 S64x1x4x64 .f32) (Y : FVec 𝕀 S64x1x4x64x1 .f32) (st : Fin 4 → ℤ) (su : Fin 5 → ℤ) (k : Fin 64)
    (h0 : st 0 = (k.val : ℤ)) (h1 : su 0 = (k.val : ℤ)) (n : Fin 64) (h : Fin 4) (x : Fin 64) :
    gu (Host.dynamicUpdateSlice Y (broadcastInDim S1x1x4x64x1 ![1, 2, 3, 4] bcast_S1x4x64x1_S1x1x4x64x1_1_2_3_4 (broadcastInDim S1x4x64x1 ![0, 1, 2] bcast_S1x4x64_S1x4x64x1_0_1_2 (shapeCast S1x4x64 (Host.dynamicSlice S1x1x4x64 X st sliceFits_S64x1x4x64_S1x1x4x64) shapeCasts_S1x1x4x64_S1x4x64))) su updateFits_S64x1x4x64x1_S1x1x4x64x1) n h x
      = if n = k then g4 X k h x else gu Y n h x := by
  have r4 := row4 X st k h0 h x
  generalize (shapeCast S1x4x64 (Host.dynamicSlice S1x1x4x64 X st sliceFits_S64x1x4x64_S1x1x4x64) shapeCasts_S1x1x4x64_S1x4x64) = W at r4 ⊢
  have u : broadcastInDim S1x1x4x64x1 ![1, 2, 3, 4] bcast_S1x4x64x1_S1x1x4x64x1_1_2_3_4 (broadcastInDim S1x4x64x1 ![0, 1, 2] bcast_S1x4x64_S1x4x64x1_0_1_2 W) (ix5 0 0 h x 0) = W (ix3 0 h x) := by pointwise
  refine (put5u Y _ su k h1 n h x).trans ?_
  rw [u, r4]
  rfl

theorem carry_step (X : FVec 𝕀 S64x1x4x64x128 .f32) (Y : FVec 𝕀 S64x1x4x64x1 .f32) (st su : Fin 5 → ℤ) (Z : FVec 𝕀 S1x4x64x128 .f32) (k : Fin 64)
    (h0 : st 0 = (k.val : ℤ)) (h1 : su 0 = (k.val : ℤ)) (h : Fin 4) (x : Fin 64) (e : Fin 128) :
    gs (addf (shapeCast S1x4x64x128 (Host.dynamicSlice S1x1x4x64x128 X st sliceFits_S64x1x4x64x128_S1x1x4x64x128) shapeCasts_S1x1x4x64x128_S1x4x64x128) (mulf (broadcastInDim S1x4x64x128 ![0, 1, 2, 3] bcast_S1x4x64x1_S1x4x64x128_0_1_2_3 (shapeCast S1x4x64x1 (Host.dynamicSlice S1x1x4x64x1 Y su sliceFits_S64x1x4x64x1_S1x1x4x64x1) shapeCasts_S1x1x4x64x1_S1x4x64x1)) Z)) h x e = g5 X k h x e + gu Y k h x * gs Z h x e := by
  have r4 := row5u Y su k h1 h x
  have r5 := row5 X st k h0 h x e
  generalize (shapeCast S1x4x64x1 (Host.dynamicSlice S1x1x4x64x1 Y su sliceFits_S64x1x4x64x1_S1x1x4x64x1) shapeCasts_S1x1x4x64x1_S1x4x64x1) = W at r4 ⊢
  generalize (shapeCast S1x4x64x128 (Host.dynamicSlice S1x1x4x64x128 X st sliceFits_S64x1x4x64x128_S1x1x4x64x128) shapeCasts_S1x1x4x64x128_S1x4x64x128) = W' at r5 ⊢
  unfold gs gu g5
  pointwise
  rw [r4, r5]

theorem gdec_step (X : FVec 𝕀 S64x1x4x64 .f32) (Y : FVec 𝕀 S64x1x4x64x128 .f32) (st : Fin 4 → ℤ) (su : Fin 5 → ℤ) (Z : FVec 𝕀 S1x4x64x128 .f32) (v w : FVec 𝕀 S_ .f32) (k : Fin 64)
    (hv : v (Shape.Idx.first h_S_) = (0 : EReal)) (hw : w (Shape.Idx.first h_S_) = (0 : EReal)) (h0 : st 0 = (k.val : ℤ)) (h1 : su 0 = (k.val : ℤ)) (n : Fin 64) (h : Fin 4) (x : Fin 64) :
    g4 (Host.dynamicUpdateSlice X (broadcastInDim S1x1x4x64 ![1, 2, 3] bcast_S1x4x64_S1x1x4x64_1_2_3 (broadcastInDim S1x4x64 ![1, 2] bcast_S4x64_S1x4x64_1_2
      (Host.reduceAdd (shapeCast S1x4x64x1 (Host.reduceAdd (mulf Z (shapeCast S1x4x64x128 (Host.dynamicSlice S1x1x4x64x128 Y su sliceFits_S64x1x4x64x128_S1x1x4x64x128) shapeCasts_S1x1x4x64x128_S1x4x64x128)) v reducesTo_S1x4x64x128_S1x4x64_d3 h_S_) shapeCasts_S1x4x64_S1x4x64x1) w reducesTo_S1x4x64x1_S4x64_d0_3 h_S_))) st updateFits_S64x1x4x64_S1x1x4x64) n h x
      = if n = k then ∑ e, gs Z h x e * g5 Y k h x e else g4 X n h x := by
  have r5 := fun e => row5 Y su k h1 h x e
  generalize (shapeCast S1x4x64x128 (Host.dynamicSlice S1x1x4x64x128 Y su sliceFits_S64x1x4x64x128_S1x1x4x64x128) shapeCasts_S1x1x4x64x128_S1x4x64x128) = W at r5 ⊢
  have u : ∀ R : FVec 𝕀 S4x64 .f32, broadcastInDim S1x1x4x64 ![1, 2, 3] bcast_S1x4x64_S1x1x4x64_1_2_3 (broadcastInDim S1x4x64 ![1, 2] bcast_S4x64_S1x4x64_1_2 R) (ix4 0 0 h x) = R (ix2 h x) := by intro R; pointwise
  have q : (shapeCast S1x4x64x1 (Host.reduceAdd (mulf Z W) v reducesTo_S1x4x64x128_S1x4x64_d3 h_S_) shapeCasts_S1x4x64_S1x4x64x1 (ix4 0 h x 0) : EReal)
      = v (Shape.Idx.first h_S_) + ∑ e, Z (ix4 0 h x e) * W (ix4 0 h x e) := by pointwise
  refine (put4 X _ st k h0 n h x).trans ?_
  rw [u, sum_units, q, hv, hw, zero_add, zero_add]
  simp only [r5]
  rfl

section
variable (V : Valuation τ sig (Elt 𝕀)) (k : Fin 64)

abbrev trip0 : Valuation τ sig (Elt 𝕀) := after fwdOps5 (after fwdOps4 (after fwdOps3 (after fwdOps2 (after fwdOps1 (after fwdOps0 (after fwdCond V))))))
abbrev trip1 : Valuation τ sig (Elt 𝕀) := after bwdOps7 (after bwdOps6 (after bwdOps5 (after bwdOps4 (after bwdOps3 (after bwdOps2 (after bwdOps1 (after bwdOps0 (after bwdCond V))))))))

theorem trip0_state (hc : V (Proc.devRef .tc main_v44_2) = fun _ => Scf.iv 0#32 1#32 k.val) (h : Fin 4) (x : Fin 64) (e : Fin 128) :
    gs (trip0 V (Proc.devRef .tc main_v44_3)) h x e
      = g4 (V (Proc.devRef .tc main_v44_0)) k h x * gs (V (Proc.devRef .tc main_v44_3)) h x e + g5 (V (Proc.devRef .tc main_v44_1)) k h x e := by
  unfold trip0
  after_reads_simp
  refine state_step _ _ _ _ _ k ?_ ?_ h x e
  · have e : upto fwdOps0 (after fwdCond V) 3 (Proc.devRef .tc main_v44_2) = fun _ => Scf.iv 0#32 1#32 k.val := by after_reads_simp; rw [hc]
    show BitVec.toInt ((upto fwdOps0 (after fwdCond V) 3 (Proc.devRef .tc main_v44_2) : S_.Idx → BitVec 32) (Shape.Idx.first h_S_)) = _
    rw [e]; exact ctr_val k
  · have e : upto fwdOps1 (after fwdOps0 (after fwdCond V)) 4 (Proc.devRef .tc main_v44_2) = fun _ => Scf.iv 0#32 1#32 k.val := by after_reads_simp; rw [hc]
    show BitVec.toInt ((upto fwdOps1 (after fwdOps0 (after fwdCond V)) 4 (Proc.devRef .tc main_v44_2) : S_.Idx → BitVec 32) (Shape.Idx.first h_S_)) = _
    rw [e]; exact ctr_val k

theorem trip0_saved (hc : V (Proc.devRef .tc main_v44_2) = fun _ => Scf.iv 0#32 1#32 k.val) (n : Fin 64) (h : Fin 4) (x : Fin 64) (e : Fin 128) :
    g5 (trip0 V (Proc.devRef .tc main_v44_4)) n h x e
      = if n = k then gs (V (Proc.devRef .tc main_v44_3)) h x e else g5 (V (Proc.devRef .tc main_v44_4)) n h x e := by
  unfold trip0
  after_reads_simp
  refine saved_step _ _ _ k ?_ n h x e
  · have e : upto fwdOps3 (after fwdOps2 (after fwdOps1 (after fwdOps0 (after fwdCond V)))) 5 (Proc.devRef .tc main_v44_2) = fun _ => Scf.iv 0#32 1#32 k.val := by after_reads_simp; rw [hc]
    show BitVec.toInt ((upto fwdOps3 (after fwdOps2 (after fwdOps1 (after fwdOps0 (after fwdCond V)))) 5 (Proc.devRef .tc main_v44_2) : S_.Idx → BitVec 32) (Shape.Idx.first h_S_)) = _
    rw [e]; exact ctr_val k

theorem trip0_dec (hc : V (Proc.devRef .tc main_v44_2) = fun _ => Scf.iv 0#32 1#32 k.val) (n : Fin 64) (h : Fin 4) (x : Fin 64) :
    gu (trip0 V (Proc.devRef .tc main_v44_5)) n h x
      = if n = k then g4 (V (Proc.devRef .tc main_v44_0)) k h x else gu (V (Proc.devRef .tc main_v44_5)) n h x := by
  unfold trip0
  after_reads_simp
  refine dec_step _ _ _ _ k ?_ ?_ n h x
  · have e : upto fwdOps0 (after fwdCond V) 3 (Proc.devRef .tc main_v44_2) = fun _ => Scf.iv 0#32 1#32 k.val := by after_reads_simp; rw [hc]
    show BitVec.toInt ((upto fwdOps0 (after fwdCond V) 3 (Proc.devRef .tc main_v44_2) : S_.Idx → BitVec 32) (Shape.Idx.first h_S_)) = _
    rw [e]; exact ctr_val k
  · have e : upto fwdOps4 (after fwdOps3 (after fwdOps2 (after fwdOps1 (after fwdOps0 (after fwdCond V))))) 5 (Proc.devRef .tc main_v44_2) = fun _ => Scf.iv 0#32 1#32 k.val := by after_reads_simp; rw [hc]
    show BitVec.toInt ((upto fwdOps4 (after fwdOps3 (after fwdOps2 (after fwdOps1 (after fwdOps0 (after fwdCond V))))) 5 (Proc.devRef .tc main_v44_2) : S_.Idx → BitVec 32) (Shape.Idx.first h_S_)) = _
    rw [e]; exact ctr_val k

variable (r : Fin 64) (hr : r.val = 63 - k.val) (hc : V (Proc.devRef .tc main_v61_3) = fun _ => Scf.iv 0#32 1#32 k.val)
include hr hc

theorem trip1_carry (h : Fin 4) (x : Fin 64) (e : Fin 128) :
    gs (trip1 V (Proc.devRef .tc main_v61_4)) h x e
      = g5 (V (Proc.devRef .tc main_v61_0)) r h x e + gu (V (Proc.devRef .tc main_v61_2)) r h x * gs (V (Proc.devRef .tc main_v61_4)) h x e := by
  unfold trip1
  after_reads_simp
  refine carry_step _ _ _ _ _ r ?_ ?_ h x e
  · have e : upto bwdOps1 (after bwdOps0 (after bwdCond V)) 4 (Proc.devRef .tc main_while1b_v117) = fun _ => IntOp.subi (IntOp.subi 64#32 (Scf.iv 0#32 1#32 k.val)) 1#32 := by after_reads_simp; rw [hc]; rfl
    show BitVec.toInt ((upto bwdOps1 (after bwdOps0 (after bwdCond V)) 4 (Proc.devRef .tc main_while1b_v117) : S_.Idx → BitVec 32) (Shape.Idx.first h_S_)) = _
    rw [e]; exact (ctr_rev k).trans (congrArg (fun z : ℕ => (z : ℤ)) hr.symm)
  · have e : upto bwdOps3 (after bwdOps2 (after bwdOps1 (after bwdOps0 (after bwdCond V)))) 4 (Proc.devRef .tc main_while1b_v117) = fun _ => IntOp.subi (IntOp.subi 64#32 (Scf.iv 0#32 1#32 k.val)) 1#32 := by after_reads_simp; rw [hc]; rfl
    show BitVec.toInt ((upto bwdOps3 (after bwdOps2 (after bwdOps1 (after bwdOps0 (after bwdCond V)))) 4 (Proc.devRef .tc main_while1b_v117) : S_.Idx → BitVec 32) (Shape.Idx.first h_S_)) = _
    rw [e]; exact (ctr_rev k).trans (congrArg (fun z : ℕ => (z : ℤ)) hr.symm)

theorem trip1_saved (n : Fin 64) (h : Fin 4) (x : Fin 64) (e : Fin 128) :
    g5 (trip1 V (Proc.devRef .tc main_v61_6)) n h x e
      = if n = r then gs (V (Proc.devRef .tc main_v61_4)) h x e else g5 (V (Proc.devRef .tc main_v61_6)) n h x e := by
  unfold trip1
  after_reads_simp
  refine saved_step _ _ _ r ?_ n h x e
  · have e : upto bwdOps6 (after bwdOps5 (after bwdOps4 (after bwdOps3 (after bwdOps2 (after bwdOps1 (after bwdOps0 (after bwdCond V))))))) 5 (Proc.devRef .tc main_while1b_v117) = fun _ => IntOp.subi (IntOp.subi 64#32 (Scf.iv 0#32 1#32 k.val)) 1#32 := by after_reads_simp; rw [hc]; rfl
    show BitVec.toInt ((upto bwdOps6 (after bwdOps5 (after bwdOps4 (after bwdOps3 (after bwdOps2 (after bwdOps1 (after bwdOps0 (after bwdCond V))))))) 5 (Proc.devRef .tc main_while1b_v117) : S_.Idx → BitVec 32) (Shape.Idx.first h_S_)) = _
    rw [e]; exact (ctr_rev k).trans (congrArg (fun z : ℕ => (z : ℤ)) hr.symm)

theorem trip1_gdec (n : Fin 64) (h : Fin 4) (x : Fin 64) :
    g4 (trip1 V (Proc.devRef .tc main_v61_5)) n h x
      = if n = r then ∑ e, gs (V (Proc.devRef .tc main_v61_4)) h x e * g5 (V (Proc.devRef .tc main_v61_1)) r h x e else g4 (V (Proc.devRef .tc main_v61_5)) n h x := by
  unfold trip1
  after_reads_simp
  refine gdec_step _ _ _ _ _ _ _ r ?_ ?_ ?_ ?_ n h x
  · exact Ideal.ofBits_zero_f32
  · exact Ideal.ofBits_zero_f32
  · have e : upto bwdOps5 (after bwdOps4 (after bwdOps3 (after bwdOps2 (after bwdOps1 (after bwdOps0 (after bwdCond V)))))) 4 (Proc.devRef .tc main_while1b_v117) = fun _ => IntOp.subi (IntOp.subi 64#32 (Scf.iv 0#32 1#32 k.val)) 1#32 := by after_reads_simp; rw [hc]; rfl
    show BitVec.toInt ((upto bwdOps5 (after bwdOps4 (after bwdOps3 (after bwdOps2 (after bwdOps1 (after bwdOps0 (after bwdCond V)))))) 4 (Proc.devRef .tc main_while1b_v117) : S_.Idx → BitVec 32) (Shape.Idx.first h_S_)) = _
    rw [e]; exact (ctr_rev k).trans (congrArg (fun z : ℕ => (z : ℤ)) hr.symm)
  · have e : upto bwdOps2 (after bwdOps1 (after bwdOps0 (after bwdCond V))) 4 (Proc.devRef .tc main_while1b_v117) = fun _ => IntOp.subi (IntOp.subi 64#32 (Scf.iv 0#32 1#32 k.val)) 1#32 := by after_reads_simp; rw [hc]; rfl
    show BitVec.toInt ((upto bwdOps2 (after bwdOps1 (after bwdOps0 (after bwdCond V))) 4 (Proc.devRef .tc main_while1b_v117) : S_.Idx → BitVec 32) (Shape.Idx.first h_S_)) = _
    rw [e]; exact (ctr_rev k).trans (congrArg (fun z : ℕ => (z : ℤ)) hr.symm)

end

/-! ## The loops, by induction on the trips -/

section
variable (m : (ℓ : Loc nD τ sig) → Buf (Elt 𝕀) ℓ) (c : Dev nD)

theorem A0_succ (k : ℕ) : A0 m (k + 1) c = trip0 (A0 m k c) := by
  rw [show A0 m (k + 1) c = afterL fwdI (after fwdCond (A0 m k c)) from rfl]
  simp only [afterL_cons, afterL_nil]
theorem A1_succ (k : ℕ) : A1 m (k + 1) c = trip1 (A1 m k c) := by
  rw [show A1 m (k + 1) c = afterL bwdI (after bwdCond (A1 m k c)) from rfl]
  simp only [afterL_cons, afterL_nil]

theorem trips0 (s : ℕ → Fin 4 → Fin 64 → Fin 128 → EReal) (s0 : ∀ h x e, gs (U7 m c (Proc.devRef .tc main_v44_3)) h x e = s 0 h x e)
    (hs : ∀ (k : Fin 64) h x e, s (k.val + 1) h x e = g4 (U7 m c (Proc.devRef .tc main_v44_0)) k h x * s k.val h x e + g5 (U7 m c (Proc.devRef .tc main_v44_1)) k h x e) :
    ∀ k ≤ 64, (∀ h x e, gs (A0 m k c (Proc.devRef .tc main_v44_3)) h x e = s k h x e)
      ∧ (∀ n : Fin 64, n.val < k → ∀ h x e, g5 (A0 m k c (Proc.devRef .tc main_v44_4)) n h x e = s n.val h x e)
      ∧ (∀ n : Fin 64, n.val < k → ∀ h x, gu (A0 m k c (Proc.devRef .tc main_v44_5)) n h x = g4 (U7 m c (Proc.devRef .tc main_v44_0)) n h x)
  | 0, _ => ⟨s0, fun n hn => absurd hn (Nat.not_lt_zero _), fun n hn => absurd hn (Nat.not_lt_zero _)⟩
  | k + 1, hk => by
    obtain ⟨h3, h4, h5⟩ := trips0 s s0 hs k (by omega)
    have hc := ctr0_at m c k
    have k0 := A0_keep m c (b := main_v44_0) (by decide +kernel) k
    have k1 := A0_keep m c (b := main_v44_1) (by decide +kernel) k
    rw [A0_succ]
    refine ⟨fun h x e => ?_, fun n hn h x e => ?_, fun n hn h x => ?_⟩
    · rw [trip0_state _ ⟨k, hk⟩ hc, h3, k0, k1]
      exact (hs ⟨k, hk⟩ h x e).symm
    · rw [trip0_saved _ ⟨k, hk⟩ hc]
      by_cases e1 : n = ⟨k, hk⟩
      · rw [if_pos e1, h3, e1]
      · rw [if_neg e1]
        exact h4 n (by have : n.val ≠ k := fun q => e1 (Fin.ext q); omega) h x e
    · rw [trip0_dec _ ⟨k, hk⟩ hc]
      by_cases e1 : n = ⟨k, hk⟩
      · rw [if_pos e1, k0, e1]
      · rw [if_neg e1]
        exact h5 n (by have : n.val ≠ k := fun q => e1 (Fin.ext q); omega) h x

theorem trips1 (d : ℕ → Fin 4 → Fin 64 → Fin 128 → EReal) (d0 : ∀ h x e, gs (U9 m c (Proc.devRef .tc main_v61_4)) h x e = d 0 h x e)
    (hd : ∀ (k r : Fin 64) h x e, r.val = 63 - k.val → d (k.val + 1) h x e = g5 (U9 m c (Proc.devRef .tc main_v61_0)) r h x e + gu (U9 m c (Proc.devRef .tc main_v61_2)) r h x * d k.val h x e) :
    ∀ k ≤ 64, (∀ h x e, gs (A1 m k c (Proc.devRef .tc main_v61_4)) h x e = d k h x e)
      ∧ (∀ n : Fin 64, 63 - n.val < k → ∀ h x e, g5 (A1 m k c (Proc.devRef .tc main_v61_6)) n h x e = d (63 - n.val) h x e)
      ∧ (∀ n : Fin 64, 63 - n.val < k → ∀ h x, g4 (A1 m k c (Proc.devRef .tc main_v61_5)) n h x = ∑ e, d (63 - n.val) h x e * g5 (U9 m c (Proc.devRef .tc main_v61_1)) n h x e)
  | 0, _ => ⟨d0, fun n hn => absurd hn (Nat.not_lt_zero _), fun n hn => absurd hn (Nat.not_lt_zero _)⟩
  | k + 1, hk => by
    obtain ⟨h3, h4, h5⟩ := trips1 d d0 hd k (by omega)
    have hc := ctr1_at m c k
    have k0 := A1_keep m c (b := main_v61_0) (by decide +kernel) k
    have k1 := A1_keep m c (b := main_v61_1) (by decide +kernel) k
    have k2 := A1_keep m c (b := main_v61_2) (by decide +kernel) k
    have hr : (⟨63 - k, by omega⟩ : Fin 64).val = 63 - (⟨k, hk⟩ : Fin 64).val := rfl
    rw [A1_succ]
    refine ⟨fun h x e => ?_, fun n hn h x e => ?_, fun n hn h x => ?_⟩
    · rw [trip1_carry _ ⟨k, hk⟩ _ hr hc, h3, k0, k2]
      exact (hd ⟨k, hk⟩ _ h x e hr).symm
    · rw [trip1_saved _ ⟨k, hk⟩ _ hr hc]
      have hn' := n.isLt
      by_cases e1 : n = ⟨63 - k, by omega⟩
      · rw [if_pos e1, h3, show 63 - n.val = k by rw [e1]; show 63 - (63 - k) = k; omega]
      · rw [if_neg e1]
        exact h4 n (by have : n.val ≠ 63 - k := fun q => e1 (Fin.ext q); omega) h x e
    · rw [trip1_gdec _ ⟨k, hk⟩ _ hr hc]
      have hn' := n.isLt
      by_cases e1 : n = ⟨63 - k, by omega⟩
      · rw [if_pos e1, k1, show 63 - n.val = k by rw [e1]; show 63 - (63 - k) = k; omega, e1]
        exact Finset.sum_congr rfl fun e _ => by rw [h3]
      · rw [if_neg e1]
        exact h5 n (by have : n.val ≠ 63 - k := fun q => e1 (Fin.ext q); omega) h x

/-! The same of the buffers as @main leaves them. -/

abbrev E' (b : Ref sig .tc) : b.ty.Contents (Elt 𝕀) := End m c (Proc.devRef .tc b)

theorem U7_v44_3 : U7 m c (Proc.devRef .tc main_v44_3) = E' m c main_v41 := by
  refine Eq.trans ?_ (late7_keep m c (b := main_v41) (by decide +kernel)).symm
  show S7 m c (Proc.devRef .tc main_v44_3) = S7 m c (Proc.devRef .tc main_v41)
  unfold S7
  generalize S6 m c = V
  after_reads_simp <;> rfl
theorem U9_v61_2 : U9 m c (Proc.devRef .tc main_v61_2) = E' m c main_v44_5 := by
  refine Eq.trans ?_ (late10_keep m c (b := main_v44_5) (by decide +kernel)).symm
  show S10 m c (Proc.devRef .tc main_v61_2) = S10 m c (Proc.devRef .tc main_v44_5)
  unfold S10
  generalize S9 m c = V
  after_reads_simp <;> rfl
theorem U9_v61_4 : U9 m c (Proc.devRef .tc main_v61_4) = E' m c main_v58 := by
  refine Eq.trans ?_ (late10_keep m c (b := main_v58) (by decide +kernel)).symm
  show S10 m c (Proc.devRef .tc main_v61_4) = S10 m c (Proc.devRef .tc main_v58)
  unfold S10
  generalize S9 m c = V
  after_reads_simp <;> rfl

theorem E_late8 {b : Ref sig .tc} (h : b ∉ late8) (h' : b ∉ (fwdCond_W : List (Ref sig .tc))) : E' m c b = A0 m 64 c (Proc.devRef .tc b) :=
  (late8_keep m c h).trans (after_of_writes_sub fwdCond _ fwdCond_writes h')
theorem E_late11 {b : Ref sig .tc} (h : b ∉ late11) (h' : b ∉ (bwdCond_W : List (Ref sig .tc))) : E' m c b = A1 m 64 c (Proc.devRef .tc b) :=
  (late11_keep m c h).trans (after_of_writes_sub bwdCond _ bwdCond_writes h')

theorem states_eq (s : ℕ → Fin 4 → Fin 64 → Fin 128 → EReal) (s0 : ∀ h x e, gs (E' m c main_v41) h x e = s 0 h x e)
    (hs : ∀ (k : Fin 64) h x e, s (k.val + 1) h x e = g4 (E' m c main_v44_0) k h x * s k.val h x e + g5 (E' m c main_v44_1) k h x e) :
    (∀ n h x e, g5 (E' m c main_v44_4) n h x e = s n.val h x e) ∧ (∀ n h x, gu (E' m c main_v44_5) n h x = g4 (E' m c main_v44_0) n h x) := by
  have q0 : E' m c main_v44_0 = U7 m c (Proc.devRef .tc main_v44_0) := late7_keep m c (by decide +kernel)
  have q1 : E' m c main_v44_1 = U7 m c (Proc.devRef .tc main_v44_1) := late7_keep m c (by decide +kernel)
  rw [q0, q1] at hs
  rw [← U7_v44_3] at s0
  obtain ⟨-, h4, h5⟩ := trips0 m c s s0 hs 64 le_rfl
  rw [E_late8 m c (b := main_v44_4) (by decide +kernel) (by decide +kernel), E_late8 m c (b := main_v44_5) (by decide +kernel) (by decide +kernel), q0]
  exact ⟨fun n => h4 n n.isLt, fun n => h5 n n.isLt⟩

theorem carries_eq (d : ℕ → Fin 4 → Fin 64 → Fin 128 → EReal) (d0 : ∀ h x e, gs (E' m c main_v58) h x e = d 0 h x e)
    (hd : ∀ (k r : Fin 64) h x e, r.val = 63 - k.val → d (k.val + 1) h x e = g5 (E' m c main_v61_0) r h x e + gu (E' m c main_v44_5) r h x * d k.val h x e) :
    (∀ n h x e, g5 (E' m c main_v61_6) n h x e = d (63 - n.val) h x e)
      ∧ (∀ n h x, g4 (E' m c main_v61_5) n h x = ∑ e, d (63 - n.val) h x e * g5 (E' m c main_v61_1) n h x e) := by
  have q0 : E' m c main_v61_0 = U9 m c (Proc.devRef .tc main_v61_0) := late10_keep m c (by decide +kernel)
  have q1 : E' m c main_v61_1 = U9 m c (Proc.devRef .tc main_v61_1) := late10_keep m c (by decide +kernel)
  rw [q0, ← U9_v61_2] at hd
  rw [← U9_v61_4] at d0
  obtain ⟨-, h4, h5⟩ := trips1 m c d d0 hd 64 le_rfl
  rw [E_late11 m c (b := main_v61_6) (by decide +kernel) (by decide +kernel), E_late11 m c (b := main_v61_5) (by decide +kernel) (by decide +kernel), q1]
  exact ⟨fun n => h4 n (by omega), fun n => h5 n (by omega)⟩
end

end Cert.ReferenceIdeal.Ref

end
-- ==== Proof.Ref.Eqs.lean ====
module

public import proofs.«01_k».proof.Proof.Ref.Keep

@[expose] public section

set_option maxRecDepth 16384

noncomputable section

/-! @main's operations as equations between what its buffers hold at the end. -/

namespace Cert.ReferenceIdeal.Ref

open Cert.ReferenceIdeal Cert.ReferenceIdeal.Gen
open Idealize.ShloMosaic Idealize.ShloMosaic.TcCoe Idealize.ShloMosaic.Tactic
open Idealize.ShloMosaic.StableHlo

variable {F : FTy → Type} [FloatOps F]
variable (m : (ℓ : Loc nD τ sig) → Buf (Elt F) ℓ) (c : Dev nD)

/-- What a buffer holds at the end. -/
abbrev E (b : Ref sig .tc) : b.ty.Contents (Elt F) := End m c (Proc.devRef .tc b)

/-! A buffer no later group writes holds at the end what its group left. -/
theorem at1 (b : Ref sig .tc) (h : b ∉ late1 := by decide +kernel) : E m c b = S1 m c (Proc.devRef .tc b) := late1_keep m c h
theorem at2 (b : Ref sig .tc) (h : b ∉ late2 := by decide +kernel) : E m c b = S2 m c (Proc.devRef .tc b) := late2_keep m c h
theorem at3 (b : Ref sig .tc) (h : b ∉ late3 := by decide +kernel) : E m c b = S3 m c (Proc.devRef .tc b) := late3_keep m c h
theorem at4 (b : Ref sig .tc) (h : b ∉ late4 := by decide +kernel) : E m c b = S4 m c (Proc.devRef .tc b) := late4_keep m c h
theorem at5 (b : Ref sig .tc) (h : b ∉ late5 := by decide +kernel) : E m c b = S5 m c (Proc.devRef .tc b) := late5_keep m c h
theorem at6 (b : Ref sig .tc) (h : b ∉ late6 := by decide +kernel) : E m c b = S6 m c (Proc.devRef .tc b) := late6_keep m c h
theorem at7 (b : Ref sig .tc) (h : b ∉ late7 := by decide +kernel) : E m c b = S7 m c (Proc.devRef .tc b) := late7_keep m c h
theorem at9 (b : Ref sig .tc) (h : b ∉ late9 := by decide +kernel) : E m c b = S9 m c (Proc.devRef .tc b) := late9_keep m c h
theorem at10 (b : Ref sig .tc) (h : b ∉ late10 := by decide +kernel) : E m c b = S10 m c (Proc.devRef .tc b) := late10_keep m c h
theorem at12 (b : Ref sig .tc) (h : b ∉ late12 := by decide +kernel) : E m c b = S12 m c (Proc.devRef .tc b) := late12_keep m c h
theorem at13 (b : Ref sig .tc) (h : b ∉ late13 := by decide +kernel) : E m c b = S13 m c (Proc.devRef .tc b) := late13_keep m c h
theorem at14 (b : Ref sig .tc) (h : b ∉ late14 := by decide +kernel) : E m c b = S14 m c (Proc.devRef .tc b) := late14_keep m c h
theorem at15 (b : Ref sig .tc) (h : b ∉ late15 := by decide +kernel) : E m c b = S15 m c (Proc.devRef .tc b) := late15_keep m c h
theorem at16 (b : Ref sig .tc) (h : b ∉ late16 := by decide +kernel) : E m c b = S16 m c (Proc.devRef .tc b) := late16_keep m c h
theorem at17 (b : Ref sig .tc) (h : b ∉ late17 := by decide +kernel) : E m c b = S17 m c (Proc.devRef .tc b) := late17_keep m c h

theorem eq_v0 : E m c main_v0 = ((extractStridedSlice S4096x256 ![0, 0] · slices_S4096x2176_S4096x256_0_0)) (E m c main_arg0) := by
  rw [at1 m c main_v0, at1 m c main_arg0]
  unfold S1; generalize S0 m c = V
  after_reads_simp <;> rfl
theorem eq_v1 : E m c main_v1 = (broadcastInDim S1x4096x256 ![1, 2] bcast_S4096x256_S1x4096x256_1_2) (E m c main_v0) := by
  rw [at1 m c main_v1, at1 m c main_v0]
  unfold S1; generalize S0 m c = V
  after_reads_simp <;> rfl
theorem eq_v2 : E m c main_v2 = ((extractStridedSlice S4096x256 ![0, 256] · slices_S4096x2176_S4096x256_0_256)) (E m c main_arg0) := by
  rw [at1 m c main_v2, at1 m c main_arg0]
  unfold S1; generalize S0 m c = V
  after_reads_simp <;> rfl
theorem eq_v3 : E m c main_v3 = (broadcastInDim S1x4096x256 ![1, 2] bcast_S4096x256_S1x4096x256_1_2) (E m c main_v2) := by
  rw [at1 m c main_v3, at1 m c main_v2]
  unfold S1; generalize S0 m c = V
  after_reads_simp <;> rfl
theorem eq_v4 : E m c main_v4 = ((extractStridedSlice S4096x512 ![0, 512] · slices_S4096x2176_S4096x512_0_512)) (E m c main_arg0) := by
  rw [at1 m c main_v4, at1 m c main_arg0]
  unfold S1; generalize S0 m c = V
  after_reads_simp <;> rfl
theorem eq_v5 : E m c main_v5 = (broadcastInDim S1x4096x512 ![1, 2] bcast_S4096x512_S1x4096x512_1_2) (E m c main_v4) := by
  rw [at1 m c main_v5, at1 m c main_v4]
  unfold S1; generalize S0 m c = V
  after_reads_simp <;> rfl
theorem eq_v6 : E m c main_v6 = (broadcastInDim S1x4096x256 ![1, 2] bcast_S4096x256_S1x4096x256_1_2) (E m c main_arg1) := by
  rw [at1 m c main_v6, at1 m c main_arg1]
  unfold S1; generalize S0 m c = V
  after_reads_simp <;> rfl
theorem eq_v7 : E m c main_v7 = (shapeCast S1x4096x4x64 (E m c main_v1 : C F S1x4096x256) shapeCasts_S1x4096x256_S1x4096x4x64 : C F S1x4096x4x64) := by
  rw [at1 m c main_v7, at1 m c main_v1]
  unfold S1; generalize S0 m c = V
  after_reads_simp <;> rfl
theorem eq_v8 : E m c main_v8 = ((transpose S1x4x4096x64 [0, 2, 1, 3] · transposes_S1x4096x4x64_S1x4x4096x64_0_2_1_3)) (E m c main_v7) := by
  rw [at1 m c main_v8, at1 m c main_v7]
  unfold S1; generalize S0 m c = V
  after_reads_simp <;> rfl
theorem eq_v9 : E m c main_v9 = (shapeCast S1x4096x4x64 (E m c main_v3 : C F S1x4096x256) shapeCasts_S1x4096x256_S1x4096x4x64 : C F S1x4096x4x64) := by
  rw [at1 m c main_v9, at1 m c main_v3]
  unfold S1; generalize S0 m c = V
  after_reads_simp <;> rfl
theorem eq_v10 : E m c main_v10 = ((transpose S1x4x4096x64 [0, 2, 1, 3] · transposes_S1x4096x4x64_S1x4x4096x64_0_2_1_3)) (E m c main_v9) := by
  rw [at1 m c main_v10, at1 m c main_v9]
  unfold S1; generalize S0 m c = V
  after_reads_simp <;> rfl
theorem eq_v11 : E m c main_v11 = (shapeCast S1x4096x4x128 (E m c main_v5 : C F S1x4096x512) shapeCasts_S1x4096x512_S1x4096x4x128 : C F S1x4096x4x128) := by
  rw [at1 m c main_v11, at1 m c main_v5]
  unfold S1; generalize S0 m c = V
  after_reads_simp <;> rfl
theorem eq_v12 : E m c main_v12 = ((transpose S1x4x4096x128 [0, 2, 1, 3] · transposes_S1x4096x4x128_S1x4x4096x128_0_2_1_3)) (E m c main_v11) := by
  rw [at1 m c main_v12, at1 m c main_v11]
  unfold S1; generalize S0 m c = V
  after_reads_simp <;> rfl
theorem eq_v13 : E m c main_v13 = (shapeCast S1x4096x4x64 (E m c main_v6 : C F S1x4096x256) shapeCasts_S1x4096x256_S1x4096x4x64 : C F S1x4096x4x64) := by
  rw [at1 m c main_v13, at1 m c main_v6]
  unfold S1; generalize S0 m c = V
  after_reads_simp <;> rfl
theorem eq_v14 : E m c main_v14 = ((transpose S1x4x4096x64 [0, 2, 1, 3] · transposes_S1x4096x4x64_S1x4x4096x64_0_2_1_3)) (E m c main_v13) := by
  rw [at1 m c main_v14, at1 m c main_v13]
  unfold S1; generalize S0 m c = V
  after_reads_simp <;> rfl
theorem eq_v15 : E m c main_v15 = (shapeCast S1x4x64x64x64 (E m c main_v8 : C F S1x4x4096x64) shapeCasts_S1x4x4096x64_S1x4x64x64x64 : C F S1x4x64x64x64) := by
  rw [at1 m c main_v15, at1 m c main_v8]
  unfold S1; generalize S0 m c = V
  after_reads_simp <;> rfl
theorem eq_cst : E m c main_cst = (constant S_ .f32 0x3E000000#32) := by
  rw [at1 m c main_cst]
  unfold S1; generalize S0 m c = V
  after_reads_simp <;> rfl
theorem eq_v16 : E m c main_v16 = (broadcastInDim S1x4x64x64x64 ![] bcast_S_S1x4x64x64x64) (E m c main_cst) := by
  rw [at1 m c main_v16, at1 m c main_cst]
  unfold S1; generalize S0 m c = V
  after_reads_simp <;> rfl
theorem eq_v17 : E m c main_v17 = (mulf) (E m c main_v15) (E m c main_v16) := by
  rw [at1 m c main_v17, at1 m c main_v15, at1 m c main_v16]
  unfold S1; generalize S0 m c = V
  after_reads_simp <;> rfl
theorem eq_v18 : E m c main_v18 = (shapeCast S1x4x64x64x64 (E m c main_v10 : C F S1x4x4096x64) shapeCasts_S1x4x4096x64_S1x4x64x64x64 : C F S1x4x64x64x64) := by
  rw [at1 m c main_v18, at1 m c main_v10]
  unfold S1; generalize S0 m c = V
  after_reads_simp <;> rfl
theorem eq_v19 : E m c main_v19 = (shapeCast S1x4x64x64x128 (E m c main_v12 : C F S1x4x4096x128) shapeCasts_S1x4x4096x128_S1x4x64x64x128 : C F S1x4x64x64x128) := by
  rw [at1 m c main_v19, at1 m c main_v12]
  unfold S1; generalize S0 m c = V
  after_reads_simp <;> rfl
theorem eq_v20 : E m c main_v20 = (shapeCast S1x4x64x64x64 (E m c main_v14 : C F S1x4x4096x64) shapeCasts_S1x4x4096x64_S1x4x64x64x64 : C F S1x4x64x64x64) := by
  rw [at1 m c main_v20, at1 m c main_v14]
  unfold S1; generalize S0 m c = V
  after_reads_simp <;> rfl
theorem eq_call0_call0_cst : E m c main_call0_call0_cst = (((constant S_ .f32 0x00000000#32) : C F S_)  : C F S_) := by
  rw [at2 m c main_call0_call0_cst]
  unfold S2; generalize S1 m c = V
  after_reads_simp <;> rfl
theorem eq_call0_call0_v0 : E m c main_call0_call0_v0 = (((broadcastInDim S_ ![] bcast_S_S_)) (E m c main_call0_call0_cst) : C F S_) := by
  rw [at2 m c main_call0_call0_v0, at2 m c main_call0_call0_cst]
  unfold S2; generalize S1 m c = V
  after_reads_simp <;> rfl
theorem eq_v21 : E m c main_v21 = (((fun x v => Host.reduceWindowAdd ![1, 1, 1, 64, 1] ![1, 1, 1, 1, 1] ![0, 0, 0, 63, 0] ![0, 0, 0, 0, 0] x v reduceWindows_S1x4x64x64x64_S1x4x64x64x64_w1s1p0_0_w1s1p0_0_w1s1p0_0_w64s1p63_0_w1s1p0_0 h_S_) : C F S1x4x64x64x64 → C F S_ → C F S1x4x64x64x64) (E m c main_v20) (E m c main_call0_call0_v0) : C F S1x4x64x64x64) := by
  rw [at2 m c main_v21, at2 m c main_v20, at2 m c main_call0_call0_v0]
  unfold S2; generalize S1 m c = V
  after_reads_simp <;> rfl
theorem eq_v22 : E m c main_v22 = ((extractStridedSlice S1x4x64x1x64 ![0, 0, 0, 63, 0] · slices_S1x4x64x64x64_S1x4x64x1x64_0_0_0_63_0)) (E m c main_v21) := by
  rw [at3 m c main_v22, at3 m c main_v21]
  unfold S3; generalize S2 m c = V
  after_reads_simp <;> rfl
theorem eq_v23 : E m c main_v23 = (Host.exp) (E m c main_v21) := by
  rw [at3 m c main_v23, at3 m c main_v21]
  unfold S3; generalize S2 m c = V
  after_reads_simp <;> rfl
theorem eq_v24 : E m c main_v24 = (mulf) (E m c main_v17) (E m c main_v23) := by
  rw [at3 m c main_v24, at3 m c main_v17, at3 m c main_v23]
  unfold S3; generalize S2 m c = V
  after_reads_simp <;> rfl
theorem eq_v25 : E m c main_v25 = (Host.negf) (E m c main_v21) := by
  rw [at3 m c main_v25, at3 m c main_v21]
  unfold S3; generalize S2 m c = V
  after_reads_simp <;> rfl
theorem eq_v26 : E m c main_v26 = (Host.exp) (E m c main_v25) := by
  rw [at3 m c main_v26, at3 m c main_v25]
  unfold S3; generalize S2 m c = V
  after_reads_simp <;> rfl
theorem eq_v27 : E m c main_v27 = (mulf) (E m c main_v18) (E m c main_v26) := by
  rw [at3 m c main_v27, at3 m c main_v18, at3 m c main_v26]
  unfold S3; generalize S2 m c = V
  after_reads_simp <;> rfl
theorem eq_v28 : E m c main_v28 = (broadcastInDim S1x4x64x64x64 ![0, 1, 2, 3, 4] bcast_S1x4x64x1x64_S1x4x64x64x64_0_1_2_3_4) (E m c main_v22) := by
  rw [at3 m c main_v28, at3 m c main_v22]
  unfold S3; generalize S2 m c = V
  after_reads_simp <;> rfl
theorem eq_v29 : E m c main_v29 = (subf) (E m c main_v28) (E m c main_v21) := by
  rw [at3 m c main_v29, at3 m c main_v28, at3 m c main_v21]
  unfold S3; generalize S2 m c = V
  after_reads_simp <;> rfl
theorem eq_v30 : E m c main_v30 = (Host.exp) (E m c main_v29) := by
  rw [at3 m c main_v30, at3 m c main_v29]
  unfold S3; generalize S2 m c = V
  after_reads_simp <;> rfl
theorem eq_v31 : E m c main_v31 = (mulf) (E m c main_v18) (E m c main_v30) := by
  rw [at3 m c main_v31, at3 m c main_v18, at3 m c main_v30]
  unfold S3; generalize S2 m c = V
  after_reads_simp <;> rfl
theorem eq_v32 : E m c main_v32 = ((fun l r => Host.dotGeneral dot_S1x4x64x64x64_S1x4x64x64x64_S1x4x64x64x64_4_4_3_3_012_012 none l r)) (E m c main_v24) (E m c main_v27) := by
  rw [at3 m c main_v32, at3 m c main_v24, at3 m c main_v27]
  unfold S3; generalize S2 m c = V
  after_reads_simp <;> rfl
theorem eq_c : E m c main_c = (constantI S_ 1 1#1) := by
  rw [at3 m c main_c]
  unfold S3; generalize S2 m c = V
  after_reads_simp <;> rfl
theorem eq_v33 : E m c main_v33 = (broadcastInDim S64x64 ![] bcast_S_S64x64 : (⟨S_, .i1⟩ : BufTy).Contents (Elt F) → (⟨S64x64, .i1⟩ : BufTy).Contents (Elt F)) (E m c main_c) := by
  rw [at3 m c main_v33, at3 m c main_c]
  unfold S3; generalize S2 m c = V
  after_reads_simp <;> rfl
theorem eq_call1_v0 : E m c main_call1_v0 = (((iotaInDim S64x64 32 0) : (⟨S64x64, .i32⟩ : BufTy).Contents (Elt F))  : (⟨S64x64, .i32⟩ : BufTy).Contents (Elt F)) := by
  rw [at4 m c main_call1_v0]
  unfold S4; generalize S3 m c = V
  after_reads_simp <;> rfl
theorem eq_call1_c : E m c main_call1_c = (((constantI S_ 32 0#32) : (⟨S_, .i32⟩ : BufTy).Contents (Elt F))  : (⟨S_, .i32⟩ : BufTy).Contents (Elt F)) := by
  rw [at4 m c main_call1_c]
  unfold S4; generalize S3 m c = V
  after_reads_simp <;> rfl
theorem eq_call1_v1 : E m c main_call1_v1 = (((broadcastInDim S64x64 ![] bcast_S_S64x64) : (⟨S_, .i32⟩ : BufTy).Contents (Elt F) → (⟨S64x64, .i32⟩ : BufTy).Contents (Elt F)) (E m c main_call1_c) : (⟨S64x64, .i32⟩ : BufTy).Contents (Elt F)) := by
  rw [at4 m c main_call1_v1, at4 m c main_call1_c]
  unfold S4; generalize S3 m c = V
  after_reads_simp <;> rfl
theorem eq_call1_v2 : E m c main_call1_v2 = ((addi : (⟨S64x64, .i32⟩ : BufTy).Contents (Elt F) → (⟨S64x64, .i32⟩ : BufTy).Contents (Elt F) → (⟨S64x64, .i32⟩ : BufTy).Contents (Elt F)) (E m c main_call1_v0) (E m c main_call1_v1) : (⟨S64x64, .i32⟩ : BufTy).Contents (Elt F)) := by
  rw [at4 m c main_call1_v2, at4 m c main_call1_v0, at4 m c main_call1_v1]
  unfold S4; generalize S3 m c = V
  after_reads_simp <;> rfl
theorem eq_call1_v3 : E m c main_call1_v3 = (((iotaInDim S64x64 32 1) : (⟨S64x64, .i32⟩ : BufTy).Contents (Elt F))  : (⟨S64x64, .i32⟩ : BufTy).Contents (Elt F)) := by
  rw [at4 m c main_call1_v3]
  unfold S4; generalize S3 m c = V
  after_reads_simp <;> rfl
theorem eq_call1_v4 : E m c main_call1_v4 = (((cmpi .sge) : (⟨S64x64, .i32⟩ : BufTy).Contents (Elt F) → (⟨S64x64, .i32⟩ : BufTy).Contents (Elt F) → (⟨S64x64, .i1⟩ : BufTy).Contents (Elt F)) (E m c main_call1_v2) (E m c main_call1_v3) : (⟨S64x64, .i1⟩ : BufTy).Contents (Elt F)) := by
  rw [at4 m c main_call1_v4, at4 m c main_call1_v2, at4 m c main_call1_v3]
  unfold S4; generalize S3 m c = V
  after_reads_simp <;> rfl
theorem eq_call1_c_0 : E m c main_call1_c_0 = (((constantI S_ 1 0#1) : (⟨S_, .i1⟩ : BufTy).Contents (Elt F))  : (⟨S_, .i1⟩ : BufTy).Contents (Elt F)) := by
  rw [at4 m c main_call1_c_0]
  unfold S4; generalize S3 m c = V
  after_reads_simp <;> rfl
theorem eq_call1_v5 : E m c main_call1_v5 = (((broadcastInDim S64x64 ![] bcast_S_S64x64) : (⟨S_, .i1⟩ : BufTy).Contents (Elt F) → (⟨S64x64, .i1⟩ : BufTy).Contents (Elt F)) (E m c main_call1_c_0) : (⟨S64x64, .i1⟩ : BufTy).Contents (Elt F)) := by
  rw [at4 m c main_call1_v5, at4 m c main_call1_c_0]
  unfold S4; generalize S3 m c = V
  after_reads_simp <;> rfl
theorem eq_v34 : E m c main_v34 = ((select : (⟨S64x64, .i1⟩ : BufTy).Contents (Elt F) → (⟨S64x64, .i1⟩ : BufTy).Contents (Elt F) → (⟨S64x64, .i1⟩ : BufTy).Contents (Elt F) → (⟨S64x64, .i1⟩ : BufTy).Contents (Elt F)) (E m c main_call1_v4) (E m c main_v33) (E m c main_call1_v5) : (⟨S64x64, .i1⟩ : BufTy).Contents (Elt F)) := by
  rw [at4 m c main_v34, at4 m c main_call1_v4, at4 m c main_v33, at4 m c main_call1_v5]
  unfold S4; generalize S3 m c = V
  after_reads_simp <;> rfl
theorem eq_cst_0 : E m c main_cst_0 = (constant S_ .f32 0x00000000#32) := by
  rw [at5 m c main_cst_0]
  unfold S5; generalize S4 m c = V
  after_reads_simp <;> rfl
theorem eq_call2_v0 : E m c main_call2_v0 = ((E m c main_cst_0 : C F S_) : C F S_) := by
  rw [at6 m c main_call2_v0, at6 m c main_cst_0]
  unfold S6; generalize S5 m c = V
  after_reads_simp <;> rfl
theorem eq_v35_1 : E m c main_v35_1 = (((broadcastInDim S1x4x64x64x64 ![3, 4] bcast_S64x64_S1x4x64x64x64_3_4) : (⟨S64x64, .i1⟩ : BufTy).Contents (Elt F) → (⟨S1x4x64x64x64, .i1⟩ : BufTy).Contents (Elt F)) (E m c main_v34) : (⟨S1x4x64x64x64, .i1⟩ : BufTy).Contents (Elt F)) := by
  rw [at6 m c main_v35_1, at6 m c main_v34]
  unfold S6; generalize S5 m c = V
  after_reads_simp <;> rfl
theorem eq_call2_v2 : E m c main_call2_v2 = (((broadcastInDim S1x4x64x64x64 ![] bcast_S_S1x4x64x64x64)) (E m c main_call2_v0) : C F S1x4x64x64x64) := by
  rw [at6 m c main_call2_v2, at6 m c main_call2_v0]
  unfold S6; generalize S5 m c = V
  after_reads_simp <;> rfl
theorem eq_v35_0 : E m c main_v35_0 = ((select : (⟨S1x4x64x64x64, .i1⟩ : BufTy).Contents (Elt F) → C F S1x4x64x64x64 → C F S1x4x64x64x64 → C F S1x4x64x64x64) (E m c main_v35_1) (E m c main_v32) (E m c main_call2_v2) : C F S1x4x64x64x64) := by
  rw [at6 m c main_v35_0, at6 m c main_v35_1, at6 m c main_v32, at6 m c main_call2_v2]
  unfold S6; generalize S5 m c = V
  after_reads_simp <;> rfl
theorem eq_call2_cst : E m c main_call2_cst = (((constant S_ .f32 0x00000000#32) : C F S_)  : C F S_) := by
  rw [at6 m c main_call2_cst]
  unfold S6; generalize S5 m c = V
  after_reads_simp <;> rfl
theorem eq_v35_2 : E m c main_v35_2 = (((broadcastInDim S1x4x64x64x64 ![] bcast_S_S1x4x64x64x64)) (E m c main_call2_cst) : C F S1x4x64x64x64) := by
  rw [at6 m c main_v35_2, at6 m c main_call2_cst]
  unfold S6; generalize S5 m c = V
  after_reads_simp <;> rfl
theorem eq_v36 : E m c main_v36 = ((fun l r => Host.dotGeneral dot_S1x4x64x64x64_S1x4x64x64x128_S1x4x64x64x128_4_3_3_4_012_012 none l r)) (E m c main_v35_0) (E m c main_v19) := by
  rw [at7 m c main_v36, at7 m c main_v35_0, at7 m c main_v19]
  unfold S7; generalize S6 m c = V
  after_reads_simp <;> rfl
theorem eq_v37 : E m c main_v37 = ((fun l r => Host.dotGeneral dot_S1x4x64x64x64_S1x4x64x64x128_S64x1x4x64x128_3_3_4_4_201_201 none l r)) (E m c main_v31) (E m c main_v19) := by
  rw [at7 m c main_v37, at7 m c main_v31, at7 m c main_v19]
  unfold S7; generalize S6 m c = V
  after_reads_simp <;> rfl
theorem eq_v38 : E m c main_v38 = (shapeCast S1x4x64x64 (E m c main_v22 : C F S1x4x64x1x64) shapeCasts_S1x4x64x1x64_S1x4x64x64 : C F S1x4x64x64) := by
  rw [at7 m c main_v38, at7 m c main_v22]
  unfold S7; generalize S6 m c = V
  after_reads_simp <;> rfl
theorem eq_v39 : E m c main_v39 = (Host.exp) (E m c main_v38) := by
  rw [at7 m c main_v39, at7 m c main_v38]
  unfold S7; generalize S6 m c = V
  after_reads_simp <;> rfl
theorem eq_v40 : E m c main_v40 = ((transpose S64x1x4x64 [2, 0, 1, 3] · transposes_S1x4x64x64_S64x1x4x64_2_0_1_3)) (E m c main_v39) := by
  rw [at7 m c main_v40, at7 m c main_v39]
  unfold S7; generalize S6 m c = V
  after_reads_simp <;> rfl
theorem eq_cst_1 : E m c main_cst_1 = (constant S_ .f32 0x00000000#32) := by
  rw [at7 m c main_cst_1]
  unfold S7; generalize S6 m c = V
  after_reads_simp <;> rfl
theorem eq_v41 : E m c main_v41 = (broadcastInDim S1x4x64x128 ![] bcast_S_S1x4x64x128) (E m c main_cst_1) := by
  rw [at7 m c main_v41, at7 m c main_cst_1]
  unfold S7; generalize S6 m c = V
  after_reads_simp <;> rfl
theorem eq_cst_2 : E m c main_cst_2 = (constant S_ .f32 0x00000000#32) := by
  rw [at7 m c main_cst_2]
  unfold S7; generalize S6 m c = V
  after_reads_simp <;> rfl
theorem eq_v42 : E m c main_v42 = (broadcastInDim S64x1x4x64x128 ![] bcast_S_S64x1x4x64x128) (E m c main_cst_2) := by
  rw [at7 m c main_v42, at7 m c main_cst_2]
  unfold S7; generalize S6 m c = V
  after_reads_simp <;> rfl
theorem eq_cst_3 : E m c main_cst_3 = (constant S_ .f32 0x00000000#32) := by
  rw [at7 m c main_cst_3]
  unfold S7; generalize S6 m c = V
  after_reads_simp <;> rfl
theorem eq_v43 : E m c main_v43 = (broadcastInDim S64x1x4x64x1 ![] bcast_S_S64x1x4x64x1) (E m c main_cst_3) := by
  rw [at7 m c main_v43, at7 m c main_cst_3]
  unfold S7; generalize S6 m c = V
  after_reads_simp <;> rfl
theorem eq_c_4 : E m c main_c_4 = (constantI S_ 32 0#32) := by
  rw [at7 m c main_c_4]
  unfold S7; generalize S6 m c = V
  after_reads_simp <;> rfl
theorem eq_v44_0 : E m c main_v44_0 = E m c main_v40 := by
  rw [at7 m c main_v44_0, at7 m c main_v40]
  unfold S7; generalize S6 m c = V
  after_reads_simp <;> rfl
theorem eq_v44_1 : E m c main_v44_1 = E m c main_v37 := by
  rw [at7 m c main_v44_1, at7 m c main_v37]
  unfold S7; generalize S6 m c = V
  after_reads_simp <;> rfl
theorem eq_v45 : E m c main_v45 = ((fun l r => Host.dotGeneral dot_S1x4x64x64x64_S64x1x4x64x128_S1x4x64x64x128_4_3_3_4_012_120 none l r)) (E m c main_v24) (E m c main_v44_4) := by
  rw [at9 m c main_v45, at9 m c main_v24, at9 m c main_v44_4]
  unfold S9; generalize S8 m c = V
  after_reads_simp <;> rfl
theorem eq_v46 : E m c main_v46 = (addf) (E m c main_v36) (E m c main_v45) := by
  rw [at9 m c main_v46, at9 m c main_v36, at9 m c main_v45]
  unfold S9; generalize S8 m c = V
  after_reads_simp <;> rfl
theorem eq_v47 : E m c main_v47 = (shapeCast S1x4x4096x128 (E m c main_v46 : C F S1x4x64x64x128) shapeCasts_S1x4x64x64x128_S1x4x4096x128 : C F S1x4x4096x128) := by
  rw [at10 m c main_v47, at10 m c main_v46]
  unfold S10; generalize S9 m c = V
  after_reads_simp <;> rfl
theorem eq_v48 : E m c main_v48 = ((transpose S1x4096x4x128 [0, 2, 1, 3] · transposes_S1x4x4096x128_S1x4096x4x128_0_2_1_3)) (E m c main_v47) := by
  rw [at10 m c main_v48, at10 m c main_v47]
  unfold S10; generalize S9 m c = V
  after_reads_simp <;> rfl
theorem eq_v49 : E m c main_v49 = (shapeCast S1x4096x512 (E m c main_v48 : C F S1x4096x4x128) shapeCasts_S1x4096x4x128_S1x4096x512 : C F S1x4096x512) := by
  rw [at10 m c main_v49, at10 m c main_v48]
  unfold S10; generalize S9 m c = V
  after_reads_simp <;> rfl
theorem eq_v50 : E m c main_v50 = (broadcastInDim S1x4096x512 ![1, 2] bcast_S4096x512_S1x4096x512_1_2) (E m c main_arg2) := by
  rw [at10 m c main_v50, at10 m c main_arg2]
  unfold S10; generalize S9 m c = V
  after_reads_simp <;> rfl
theorem eq_cst_5 : E m c main_cst_5 = (constant S_ .f32 0x00000000#32) := by
  rw [at10 m c main_cst_5]
  unfold S10; generalize S9 m c = V
  after_reads_simp <;> rfl
theorem eq_v51 : E m c main_v51 = (broadcastInDim S1x4x64x128 ![] bcast_S_S1x4x64x128) (E m c main_cst_5) := by
  rw [at10 m c main_v51, at10 m c main_cst_5]
  unfold S10; generalize S9 m c = V
  after_reads_simp <;> rfl
theorem eq_v52 : E m c main_v52 = (shapeCast S1x4096x4x128 (E m c main_v50 : C F S1x4096x512) shapeCasts_S1x4096x512_S1x4096x4x128 : C F S1x4096x4x128) := by
  rw [at10 m c main_v52, at10 m c main_v50]
  unfold S10; generalize S9 m c = V
  after_reads_simp <;> rfl
theorem eq_v53 : E m c main_v53 = ((transpose S1x4x4096x128 [0, 2, 1, 3] · transposes_S1x4096x4x128_S1x4x4096x128_0_2_1_3)) (E m c main_v52) := by
  rw [at10 m c main_v53, at10 m c main_v52]
  unfold S10; generalize S9 m c = V
  after_reads_simp <;> rfl
theorem eq_v54 : E m c main_v54 = (shapeCast S1x4x64x64x128 (E m c main_v53 : C F S1x4x4096x128) shapeCasts_S1x4x4096x128_S1x4x64x64x128 : C F S1x4x64x64x128) := by
  rw [at10 m c main_v54, at10 m c main_v53]
  unfold S10; generalize S9 m c = V
  after_reads_simp <;> rfl
theorem eq_v55 : E m c main_v55 = ((fun l r => Host.dotGeneral dot_S1x4x64x64x128_S1x4x64x64x64_S1x4x64x128x64_3_3_4_4_012_012 none l r)) (E m c main_v54) (E m c main_v24) := by
  rw [at10 m c main_v55, at10 m c main_v54, at10 m c main_v24]
  unfold S10; generalize S9 m c = V
  after_reads_simp <;> rfl
theorem eq_v56 : E m c main_v56 = ((transpose S64x1x4x64x128 [2, 0, 1, 4, 3] · transposes_S1x4x64x128x64_S64x1x4x64x128_2_0_1_4_3)) (E m c main_v55) := by
  rw [at10 m c main_v56, at10 m c main_v55]
  unfold S10; generalize S9 m c = V
  after_reads_simp <;> rfl
theorem eq_v57 : E m c main_v57 = ((fun l r => Host.dotGeneral dot_S1x4x64x64x128_S64x1x4x64x128_S1x4x64x64x64_4_4_3_3_012_120 none l r)) (E m c main_v54) (E m c main_v44_4) := by
  rw [at10 m c main_v57, at10 m c main_v54, at10 m c main_v44_4]
  unfold S10; generalize S9 m c = V
  after_reads_simp <;> rfl
theorem eq_cst_6 : E m c main_cst_6 = (constant S_ .f32 0x00000000#32) := by
  rw [at10 m c main_cst_6]
  unfold S10; generalize S9 m c = V
  after_reads_simp <;> rfl
theorem eq_v58 : E m c main_v58 = (broadcastInDim S1x4x64x128 ![] bcast_S_S1x4x64x128) (E m c main_cst_6) := by
  rw [at10 m c main_v58, at10 m c main_cst_6]
  unfold S10; generalize S9 m c = V
  after_reads_simp <;> rfl
theorem eq_cst_7 : E m c main_cst_7 = (constant S_ .f32 0x00000000#32) := by
  rw [at10 m c main_cst_7]
  unfold S10; generalize S9 m c = V
  after_reads_simp <;> rfl
theorem eq_v59 : E m c main_v59 = (broadcastInDim S64x1x4x64 ![] bcast_S_S64x1x4x64) (E m c main_cst_7) := by
  rw [at10 m c main_v59, at10 m c main_cst_7]
  unfold S10; generalize S9 m c = V
  after_reads_simp <;> rfl
theorem eq_cst_8 : E m c main_cst_8 = (constant S_ .f32 0x00000000#32) := by
  rw [at10 m c main_cst_8]
  unfold S10; generalize S9 m c = V
  after_reads_simp <;> rfl
theorem eq_v60 : E m c main_v60 = (broadcastInDim S64x1x4x64x128 ![] bcast_S_S64x1x4x64x128) (E m c main_cst_8) := by
  rw [at10 m c main_v60, at10 m c main_cst_8]
  unfold S10; generalize S9 m c = V
  after_reads_simp <;> rfl
theorem eq_c_9 : E m c main_c_9 = (constantI S_ 32 0#32) := by
  rw [at10 m c main_c_9]
  unfold S10; generalize S9 m c = V
  after_reads_simp <;> rfl
theorem eq_v61_0 : E m c main_v61_0 = E m c main_v56 := by
  rw [at10 m c main_v61_0, at10 m c main_v56]
  unfold S10; generalize S9 m c = V
  after_reads_simp <;> rfl
theorem eq_v61_1 : E m c main_v61_1 = E m c main_v44_4 := by
  rw [at10 m c main_v61_1, at10 m c main_v44_4]
  unfold S10; generalize S9 m c = V
  after_reads_simp <;> rfl
theorem eq_v62 : E m c main_v62 = ((transpose S1x4x64x64 [1, 2, 0, 3] · transposes_S64x1x4x64_S1x4x64x64_1_2_0_3)) (E m c main_v61_5) := by
  rw [at12 m c main_v62, at12 m c main_v61_5]
  unfold S12; generalize S11 m c = V
  after_reads_simp <;> rfl
theorem eq_v63 : E m c main_v63 = (mulf) (E m c main_v62) (E m c main_v39) := by
  rw [at12 m c main_v63, at12 m c main_v62, at12 m c main_v39]
  unfold S12; generalize S11 m c = V
  after_reads_simp <;> rfl
theorem eq_v64 : E m c main_v64 = (broadcastInDim S1x4x64x1x64 ![0, 1, 2, 4] bcast_S1x4x64x64_S1x4x64x1x64_0_1_2_4) (E m c main_v63) := by
  rw [at12 m c main_v64, at12 m c main_v63]
  unfold S12; generalize S11 m c = V
  after_reads_simp <;> rfl
theorem eq_v65 : E m c main_v65 = ((fun l r => Host.dotGeneral dot_S64x1x4x64x128_S1x4x64x64x64_S64x1x4x128x64_3_4_4_3_012_201 none l r)) (E m c main_v61_6) (E m c main_v31) := by
  rw [at12 m c main_v65, at12 m c main_v61_6, at12 m c main_v31]
  unfold S12; generalize S11 m c = V
  after_reads_simp <;> rfl
theorem eq_v66 : E m c main_v66 = ((transpose S1x4x64x64x128 [1, 2, 0, 4, 3] · transposes_S64x1x4x128x64_S1x4x64x64x128_1_2_0_4_3)) (E m c main_v65) := by
  rw [at12 m c main_v66, at12 m c main_v65]
  unfold S12; generalize S11 m c = V
  after_reads_simp <;> rfl
theorem eq_v67 : E m c main_v67 = ((fun l r => Host.dotGeneral dot_S64x1x4x64x128_S1x4x64x64x128_S64x1x4x64x64_4_4_3_3_012_201 none l r)) (E m c main_v61_6) (E m c main_v19) := by
  rw [at12 m c main_v67, at12 m c main_v61_6, at12 m c main_v19]
  unfold S12; generalize S11 m c = V
  after_reads_simp <;> rfl
theorem eq_v68 : E m c main_v68 = ((transpose S1x4x64x64x64 [1, 2, 0, 4, 3] · transposes_S64x1x4x64x64_S1x4x64x64x64_1_2_0_4_3)) (E m c main_v67) := by
  rw [at12 m c main_v68, at12 m c main_v67]
  unfold S12; generalize S11 m c = V
  after_reads_simp <;> rfl
theorem eq_v69 : E m c main_v69 = ((fun l r => Host.dotGeneral dot_S1x4x64x64x128_S1x4x64x64x64_S1x4x64x128x64_3_3_4_4_012_012 none l r)) (E m c main_v54) (E m c main_v35_0) := by
  rw [at12 m c main_v69, at12 m c main_v54, at12 m c main_v35_0]
  unfold S12; generalize S11 m c = V
  after_reads_simp <;> rfl
theorem eq_v70 : E m c main_v70 = ((transpose S1x4x64x64x128 [0, 1, 2, 4, 3] · transposes_S1x4x64x128x64_S1x4x64x64x128_0_1_2_4_3)) (E m c main_v69) := by
  rw [at12 m c main_v70, at12 m c main_v69]
  unfold S12; generalize S11 m c = V
  after_reads_simp <;> rfl
theorem eq_v71 : E m c main_v71 = (addf) (E m c main_v66) (E m c main_v70) := by
  rw [at12 m c main_v71, at12 m c main_v66, at12 m c main_v70]
  unfold S12; generalize S11 m c = V
  after_reads_simp <;> rfl
theorem eq_v72 : E m c main_v72 = ((fun l r => Host.dotGeneral dot_S1x4x64x64x128_S1x4x64x64x128_S1x4x64x64x64_4_4_3_3_012_012 none l r)) (E m c main_v54) (E m c main_v19) := by
  rw [at12 m c main_v72, at12 m c main_v54, at12 m c main_v19]
  unfold S12; generalize S11 m c = V
  after_reads_simp <;> rfl
theorem eq_call12_cst : E m c main_call12_cst = (((constant S_ .f32 0x00000000#32) : C F S_)  : C F S_) := by
  rw [at13 m c main_call12_cst]
  unfold S13; generalize S12 m c = V
  after_reads_simp <;> rfl
theorem eq_call12_v0 : E m c main_call12_v0 = (((broadcastInDim S1x4x64x64x64 ![] bcast_S_S1x4x64x64x64)) (E m c main_call12_cst) : C F S1x4x64x64x64) := by
  rw [at13 m c main_call12_v0, at13 m c main_call12_cst]
  unfold S13; generalize S12 m c = V
  after_reads_simp <;> rfl
theorem eq_v73 : E m c main_v73 = ((select : (⟨S1x4x64x64x64, .i1⟩ : BufTy).Contents (Elt F) → C F S1x4x64x64x64 → C F S1x4x64x64x64 → C F S1x4x64x64x64) (E m c main_v35_1) (E m c main_v72) (E m c main_call12_v0) : C F S1x4x64x64x64) := by
  rw [at13 m c main_v73, at13 m c main_v35_1, at13 m c main_v72, at13 m c main_call12_v0]
  unfold S13; generalize S12 m c = V
  after_reads_simp <;> rfl
theorem eq_v74 : E m c main_v74 = ((fun l r => Host.dotGeneral dot_S1x4x64x64x64_S1x4x64x64x64_S1x4x64x64x64_3_3_4_4_012_012 none l r)) (E m c main_v73) (E m c main_v24) := by
  rw [at14 m c main_v74, at14 m c main_v73, at14 m c main_v24]
  unfold S14; generalize S13 m c = V
  after_reads_simp <;> rfl
theorem eq_v75 : E m c main_v75 = ((fun l r => Host.dotGeneral dot_S1x4x64x64x64_S1x4x64x64x64_S1x4x64x64x64_4_3_3_4_012_012 none l r)) (E m c main_v73) (E m c main_v27) := by
  rw [at14 m c main_v75, at14 m c main_v73, at14 m c main_v27]
  unfold S14; generalize S13 m c = V
  after_reads_simp <;> rfl
theorem eq_v76 : E m c main_v76 = (addf) (E m c main_v57) (E m c main_v75) := by
  rw [at14 m c main_v76, at14 m c main_v57, at14 m c main_v75]
  unfold S14; generalize S13 m c = V
  after_reads_simp <;> rfl
theorem eq_v77 : E m c main_v77 = (mulf) (E m c main_v18) (E m c main_v68) := by
  rw [at14 m c main_v77, at14 m c main_v18, at14 m c main_v68]
  unfold S14; generalize S13 m c = V
  after_reads_simp <;> rfl
theorem eq_v78 : E m c main_v78 = (mulf) (E m c main_v68) (E m c main_v30) := by
  rw [at14 m c main_v78, at14 m c main_v68, at14 m c main_v30]
  unfold S14; generalize S13 m c = V
  after_reads_simp <;> rfl
theorem eq_v79 : E m c main_v79 = (mulf) (E m c main_v77) (E m c main_v30) := by
  rw [at14 m c main_v79, at14 m c main_v77, at14 m c main_v30]
  unfold S14; generalize S13 m c = V
  after_reads_simp <;> rfl
theorem eq_cst_10 : E m c main_cst_10 = (constant S_ .f32 0x00000000#32) := by
  rw [at14 m c main_cst_10]
  unfold S14; generalize S13 m c = V
  after_reads_simp <;> rfl
theorem eq_v80 : E m c main_v80 = ((fun x v => Host.reduceAdd x v reducesTo_S1x4x64x64x64_S1x4x64x64_d3 h_S_)) (E m c main_v79) (E m c main_cst_10) := by
  rw [at14 m c main_v80, at14 m c main_v79, at14 m c main_cst_10]
  unfold S14; generalize S13 m c = V
  after_reads_simp <;> rfl
theorem eq_v81 : E m c main_v81 = (shapeCast S1x4x64x1x64 (E m c main_v80 : C F S1x4x64x64) shapeCasts_S1x4x64x64_S1x4x64x1x64 : C F S1x4x64x1x64) := by
  rw [at14 m c main_v81, at14 m c main_v80]
  unfold S14; generalize S13 m c = V
  after_reads_simp <;> rfl
theorem eq_v82 : E m c main_v82 = (Host.negf) (E m c main_v79) := by
  rw [at14 m c main_v82, at14 m c main_v79]
  unfold S14; generalize S13 m c = V
  after_reads_simp <;> rfl
theorem eq_v83 : E m c main_v83 = (addf) (E m c main_v64) (E m c main_v81) := by
  rw [at14 m c main_v83, at14 m c main_v64, at14 m c main_v81]
  unfold S14; generalize S13 m c = V
  after_reads_simp <;> rfl
theorem eq_v84 : E m c main_v84 = (mulf) (E m c main_v18) (E m c main_v74) := by
  rw [at14 m c main_v84, at14 m c main_v18, at14 m c main_v74]
  unfold S14; generalize S13 m c = V
  after_reads_simp <;> rfl
theorem eq_v85 : E m c main_v85 = (mulf) (E m c main_v74) (E m c main_v26) := by
  rw [at14 m c main_v85, at14 m c main_v74, at14 m c main_v26]
  unfold S14; generalize S13 m c = V
  after_reads_simp <;> rfl
theorem eq_v86 : E m c main_v86 = (addf) (E m c main_v78) (E m c main_v85) := by
  rw [at14 m c main_v86, at14 m c main_v78, at14 m c main_v85]
  unfold S14; generalize S13 m c = V
  after_reads_simp <;> rfl
theorem eq_v87 : E m c main_v87 = (mulf) (E m c main_v84) (E m c main_v26) := by
  rw [at14 m c main_v87, at14 m c main_v84, at14 m c main_v26]
  unfold S14; generalize S13 m c = V
  after_reads_simp <;> rfl
theorem eq_v88 : E m c main_v88 = (Host.negf) (E m c main_v87) := by
  rw [at14 m c main_v88, at14 m c main_v87]
  unfold S14; generalize S13 m c = V
  after_reads_simp <;> rfl
theorem eq_v89 : E m c main_v89 = (addf) (E m c main_v82) (E m c main_v88) := by
  rw [at14 m c main_v89, at14 m c main_v82, at14 m c main_v88]
  unfold S14; generalize S13 m c = V
  after_reads_simp <;> rfl
theorem eq_v90 : E m c main_v90 = (mulf) (E m c main_v17) (E m c main_v76) := by
  rw [at14 m c main_v90, at14 m c main_v17, at14 m c main_v76]
  unfold S14; generalize S13 m c = V
  after_reads_simp <;> rfl
theorem eq_v91 : E m c main_v91 = (mulf) (E m c main_v76) (E m c main_v23) := by
  rw [at14 m c main_v91, at14 m c main_v76, at14 m c main_v23]
  unfold S14; generalize S13 m c = V
  after_reads_simp <;> rfl
theorem eq_v92 : E m c main_v92 = (mulf) (E m c main_v90) (E m c main_v23) := by
  rw [at14 m c main_v92, at14 m c main_v90, at14 m c main_v23]
  unfold S14; generalize S13 m c = V
  after_reads_simp <;> rfl
theorem eq_v93 : E m c main_v93 = (addf) (E m c main_v89) (E m c main_v92) := by
  rw [at14 m c main_v93, at14 m c main_v89, at14 m c main_v92]
  unfold S14; generalize S13 m c = V
  after_reads_simp <;> rfl
theorem eq_cst_11 : E m c main_cst_11 = (constant S_ .f32 0x00000000#32) := by
  rw [at15 m c main_cst_11]
  unfold S15; generalize S14 m c = V
  after_reads_simp <;> rfl
theorem eq_v94 : E m c main_v94 = ((fun x v => pad S1x4x64x64x64 ![0, 0, 0, 63, 0] ![0, 0, 0, 0, 0] ![0, 0, 0, 0, 0] x v pads_S1x4x64x1x64_S1x4x64x64x64_000_000_000_6300_000 h_S_)) (E m c main_v83) (E m c main_cst_11) := by
  rw [at15 m c main_v94, at15 m c main_v83, at15 m c main_cst_11]
  unfold S15; generalize S14 m c = V
  after_reads_simp <;> rfl
theorem eq_v95 : E m c main_v95 = (addf) (E m c main_v93) (E m c main_v94) := by
  rw [at15 m c main_v95, at15 m c main_v93, at15 m c main_v94]
  unfold S15; generalize S14 m c = V
  after_reads_simp <;> rfl
theorem eq_call13_call0_cst : E m c main_call13_call0_cst = (((constant S_ .f32 0x00000000#32) : C F S_)  : C F S_) := by
  rw [at16 m c main_call13_call0_cst]
  unfold S16; generalize S15 m c = V
  after_reads_simp <;> rfl
theorem eq_call13_call0_v0 : E m c main_call13_call0_v0 = (((broadcastInDim S_ ![] bcast_S_S_)) (E m c main_call13_call0_cst) : C F S_) := by
  rw [at16 m c main_call13_call0_v0, at16 m c main_call13_call0_cst]
  unfold S16; generalize S15 m c = V
  after_reads_simp <;> rfl
theorem eq_v96 : E m c main_v96 = (((fun x v => Host.reduceWindowAdd ![1, 1, 1, 64, 1] ![1, 1, 1, 1, 1] ![0, 0, 0, 0, 0] ![0, 0, 0, 63, 0] x v reduceWindows_S1x4x64x64x64_S1x4x64x64x64_w1s1p0_0_w1s1p0_0_w1s1p0_0_w64s1p0_63_w1s1p0_0 h_S_) : C F S1x4x64x64x64 → C F S_ → C F S1x4x64x64x64) (E m c main_v95) (E m c main_call13_call0_v0) : C F S1x4x64x64x64) := by
  rw [at16 m c main_v96, at16 m c main_v95, at16 m c main_call13_call0_v0]
  unfold S16; generalize S15 m c = V
  after_reads_simp <;> rfl
theorem eq_v97 : E m c main_v97 = (shapeCast S1x4x4096x64 (E m c main_v96 : C F S1x4x64x64x64) shapeCasts_S1x4x64x64x64_S1x4x4096x64 : C F S1x4x4096x64) := by
  rw [at17 m c main_v97, at17 m c main_v96]
  unfold S17; generalize S16 m c = V
  after_reads_simp <;> rfl
theorem eq_v98 : E m c main_v98 = (shapeCast S1x4x4096x128 (E m c main_v71 : C F S1x4x64x64x128) shapeCasts_S1x4x64x64x128_S1x4x4096x128 : C F S1x4x4096x128) := by
  rw [at17 m c main_v98, at17 m c main_v71]
  unfold S17; generalize S16 m c = V
  after_reads_simp <;> rfl
theorem eq_v99 : E m c main_v99 = (shapeCast S1x4x4096x64 (E m c main_v86 : C F S1x4x64x64x64) shapeCasts_S1x4x64x64x64_S1x4x4096x64 : C F S1x4x4096x64) := by
  rw [at17 m c main_v99, at17 m c main_v86]
  unfold S17; generalize S16 m c = V
  after_reads_simp <;> rfl
theorem eq_cst_12 : E m c main_cst_12 = (constant S_ .f32 0x3E000000#32) := by
  rw [at17 m c main_cst_12]
  unfold S17; generalize S16 m c = V
  after_reads_simp <;> rfl
theorem eq_v100 : E m c main_v100 = (broadcastInDim S1x4x64x64x64 ![] bcast_S_S1x4x64x64x64) (E m c main_cst_12) := by
  rw [at17 m c main_v100, at17 m c main_cst_12]
  unfold S17; generalize S16 m c = V
  after_reads_simp <;> rfl
theorem eq_v101 : E m c main_v101 = (mulf) (E m c main_v91) (E m c main_v100) := by
  rw [at17 m c main_v101, at17 m c main_v91, at17 m c main_v100]
  unfold S17; generalize S16 m c = V
  after_reads_simp <;> rfl
theorem eq_v102 : E m c main_v102 = (shapeCast S1x4x4096x64 (E m c main_v101 : C F S1x4x64x64x64) shapeCasts_S1x4x64x64x64_S1x4x4096x64 : C F S1x4x4096x64) := by
  rw [at17 m c main_v102, at17 m c main_v101]
  unfold S17; generalize S16 m c = V
  after_reads_simp <;> rfl
theorem eq_v103 : E m c main_v103 = ((transpose S1x4096x4x64 [0, 2, 1, 3] · transposes_S1x4x4096x64_S1x4096x4x64_0_2_1_3)) (E m c main_v97) := by
  rw [at17 m c main_v103, at17 m c main_v97]
  unfold S17; generalize S16 m c = V
  after_reads_simp <;> rfl
theorem eq_v104 : E m c main_v104 = (shapeCast S1x4096x256 (E m c main_v103 : C F S1x4096x4x64) shapeCasts_S1x4096x4x64_S1x4096x256 : C F S1x4096x256) := by
  rw [at17 m c main_v104, at17 m c main_v103]
  unfold S17; generalize S16 m c = V
  after_reads_simp <;> rfl
theorem eq_v105 : E m c main_v105 = ((transpose S1x4096x4x128 [0, 2, 1, 3] · transposes_S1x4x4096x128_S1x4096x4x128_0_2_1_3)) (E m c main_v98) := by
  rw [at17 m c main_v105, at17 m c main_v98]
  unfold S17; generalize S16 m c = V
  after_reads_simp <;> rfl
theorem eq_v106 : E m c main_v106 = (shapeCast S1x4096x512 (E m c main_v105 : C F S1x4096x4x128) shapeCasts_S1x4096x4x128_S1x4096x512 : C F S1x4096x512) := by
  rw [at17 m c main_v106, at17 m c main_v105]
  unfold S17; generalize S16 m c = V
  after_reads_simp <;> rfl
theorem eq_v107 : E m c main_v107 = ((transpose S1x4096x4x64 [0, 2, 1, 3] · transposes_S1x4x4096x64_S1x4096x4x64_0_2_1_3)) (E m c main_v99) := by
  rw [at17 m c main_v107, at17 m c main_v99]
  unfold S17; generalize S16 m c = V
  after_reads_simp <;> rfl
theorem eq_v108 : E m c main_v108 = (shapeCast S1x4096x256 (E m c main_v107 : C F S1x4096x4x64) shapeCasts_S1x4096x4x64_S1x4096x256 : C F S1x4096x256) := by
  rw [at17 m c main_v108, at17 m c main_v107]
  unfold S17; generalize S16 m c = V
  after_reads_simp <;> rfl
theorem eq_v109 : E m c main_v109 = ((transpose S1x4096x4x64 [0, 2, 1, 3] · transposes_S1x4x4096x64_S1x4096x4x64_0_2_1_3)) (E m c main_v102) := by
  rw [at17 m c main_v109, at17 m c main_v102]
  unfold S17; generalize S16 m c = V
  after_reads_simp <;> rfl
theorem eq_v110 : E m c main_v110 = (shapeCast S1x4096x256 (E m c main_v109 : C F S1x4096x4x64) shapeCasts_S1x4096x4x64_S1x4096x256 : C F S1x4096x256) := by
  rw [at17 m c main_v110, at17 m c main_v109]
  unfold S17; generalize S16 m c = V
  after_reads_simp <;> rfl
theorem eq_v111 : E m c main_v111 = (shapeCast S4096x512 (E m c main_v49 : C F S1x4096x512) shapeCasts_S1x4096x512_S4096x512 : C F S4096x512) := by
  rw [at17 m c main_v111, at17 m c main_v49]
  unfold S17; generalize S16 m c = V
  after_reads_simp <;> rfl
theorem eq_v112 : E m c main_v112 = (shapeCast S4096x256 (E m c main_v110 : C F S1x4096x256) shapeCasts_S1x4096x256_S4096x256 : C F S4096x256) := by
  rw [at17 m c main_v112, at17 m c main_v110]
  unfold S17; generalize S16 m c = V
  after_reads_simp <;> rfl
theorem eq_v113 : E m c main_v113 = (shapeCast S4096x256 (E m c main_v108 : C F S1x4096x256) shapeCasts_S1x4096x256_S4096x256 : C F S4096x256) := by
  rw [at17 m c main_v113, at17 m c main_v108]
  unfold S17; generalize S16 m c = V
  after_reads_simp <;> rfl
theorem eq_v114 : E m c main_v114 = (shapeCast S4096x256 (E m c main_v104 : C F S1x4096x256) shapeCasts_S1x4096x256_S4096x256 : C F S4096x256) := by
  rw [at17 m c main_v114, at17 m c main_v104]
  unfold S17; generalize S16 m c = V
  after_reads_simp <;> rfl
theorem eq_v115 : E m c main_v115 = (shapeCast S4096x512 (E m c main_v106 : C F S1x4096x512) shapeCasts_S1x4096x512_S4096x512 : C F S4096x512) := by
  rw [at17 m c main_v115, at17 m c main_v106]
  unfold S17; generalize S16 m c = V
  after_reads_simp <;> rfl

end Cert.ReferenceIdeal.Ref

end
-- ==== Proof.Ref.Raw.lean ====
module

public import proofs.«01_k».proof.Proof.Ref.Loops
public import proofs.«01_k».proof.Proof.Ref.Eqs

@[expose] public section

noncomputable section

/-! The reference's arrays, entry by entry. -/

namespace Cert.ReferenceIdeal.Ref

open Cert.ReferenceIdeal Cert.ReferenceIdeal.Gen
open Idealize.ShloMosaic Idealize.ShloMosaic.TcCoe Idealize.ShloMosaic.Tactic
open Idealize.ShloMosaic.StableHlo

local notation "𝕀" => Idealize.ShloMosaic.Ideal

def k5 (f : S1x4x64x64x64.Idx → EReal) (h : Fin 4) (n i x : Fin 64) : EReal := f (ix5 0 h n i x)
def v5 (f : S1x4x64x64x128.Idx → EReal) (h : Fin 4) (n i : Fin 64) (e : Fin 128) : EReal := f (ix5 0 h n i e)
def k4 (f : S1x4x64x64.Idx → EReal) (h : Fin 4) (n x : Fin 64) : EReal := f (ix4 0 h n x)
def t5 (f : S1x4x64x1x64.Idx → EReal) (h : Fin 4) (n x : Fin 64) : EReal := f (ix5 0 h n 0 x)
def r2 (f : S4096x256.Idx → EReal) (r : Fin 4096) (y : Fin 256) : EReal := f (ix2 r y)
def s2 (f : S4096x512.Idx → EReal) (r : Fin 4096) (y : Fin 512) : EReal := f (ix2 r y)
def p2 (f : S4096x2176.Idx → EReal) (r : Fin 4096) (y : Fin 2176) : EReal := f (ix2 r y)

theorem low_cmp : ∀ i x : Fin 64, IntOp.cmpi .sge (IntOp.addi (BitVec.ofNat 32 i.val) 0#32) (BitVec.ofNat 32 x.val) = if x ≤ i then 1#1 else 0#1 := by
  decide +kernel
theorem low_select (i x : Fin 64) (z : EReal) :
    Scalar.select (Scalar.select (IntOp.cmpi .sge (IntOp.addi (BitVec.ofNat 32 i.val) 0#32) (BitVec.ofNat 32 x.val)) 1#1 0#1) z 0 = if x ≤ i then z else 0 := by
  rw [low_cmp]
  by_cases q : x ≤ i
  · rw [if_pos q, if_pos q]; rfl
  · rw [if_neg q, if_neg q]; rfl

variable (m : (ℓ : Loc nD τ sig) → Buf (Elt 𝕀) ℓ) (c : Dev nD)

theorem a_v15 (h : Fin 4) (n i x : Fin 64) : k5 (E m c main_v15) h n i x = p2 (E m c main_arg0) (Cert.Proof.Whole.row n i) ⟨64 * h.val + x.val, by omega⟩ := by
  rw [eq_v15, eq_v8, eq_v7, eq_v1, eq_v0]
  generalize E m c main_arg0 = X0; unfold k5 p2
  pointwise
  exact congrArg X0 (congrArg₂ ix2 (Fin.ext (by show n.val * 64 + i.val = (64 * n.val + i.val) % 4096; omega)) (Fin.ext (by show h.val * 64 + x.val = 64 * h.val + x.val; omega)))
theorem a_v18 (h : Fin 4) (n i x : Fin 64) : k5 (E m c main_v18) h n i x = p2 (E m c main_arg0) (Cert.Proof.Whole.row n i) ⟨256 + (64 * h.val + x.val), by omega⟩ := by
  rw [eq_v18, eq_v10, eq_v9, eq_v3, eq_v2]
  generalize E m c main_arg0 = X0; unfold k5 p2
  pointwise
  exact congrArg X0 (congrArg₂ ix2 (Fin.ext (by show n.val * 64 + i.val = (64 * n.val + i.val) % 4096; omega)) (Fin.ext (by show 256 + (h.val * 64 + x.val) = 256 + (64 * h.val + x.val); omega)))
theorem a_v19 (h : Fin 4) (n i : Fin 64) (e : Fin 128) : v5 (E m c main_v19) h n i e = p2 (E m c main_arg0) (Cert.Proof.Whole.row n i) ⟨512 + (128 * h.val + e.val), by omega⟩ := by
  rw [eq_v19, eq_v12, eq_v11, eq_v5, eq_v4]
  generalize E m c main_arg0 = X0; unfold p2 v5
  pointwise
  exact congrArg X0 (congrArg₂ ix2 (Fin.ext (by show n.val * 64 + i.val = (64 * n.val + i.val) % 4096; omega)) (Fin.ext (by show 512 + (h.val * 128 + e.val) = 512 + (128 * h.val + e.val); omega)))
theorem a_v20 (h : Fin 4) (n i x : Fin 64) : k5 (E m c main_v20) h n i x = r2 (E m c main_arg1) (Cert.Proof.Whole.row n i) ⟨64 * h.val + x.val, by omega⟩ := by
  rw [eq_v20, eq_v14, eq_v13, eq_v6]
  generalize E m c main_arg1 = X0; unfold k5 r2
  pointwise
  exact congrArg X0 (congrArg₂ ix2 (Fin.ext (by show n.val * 64 + i.val = (64 * n.val + i.val) % 4096; omega)) (Fin.ext (by show h.val * 64 + x.val = 64 * h.val + x.val; omega)))
theorem a_v54 (h : Fin 4) (n i : Fin 64) (e : Fin 128) : v5 (E m c main_v54) h n i e = s2 (E m c main_arg2) (Cert.Proof.Whole.row n i) ⟨128 * h.val + e.val, by omega⟩ := by
  rw [eq_v54, eq_v53, eq_v52, eq_v50]
  generalize E m c main_arg2 = X0; unfold s2 v5
  pointwise
  exact congrArg X0 (congrArg₂ ix2 (Fin.ext (by show n.val * 64 + i.val = (64 * n.val + i.val) % 4096; omega)) (Fin.ext (by show h.val * 128 + e.val = 128 * h.val + e.val; omega)))
theorem a_v17 (h : Fin 4) (n i x : Fin 64) : k5 (E m c main_v17) h n i x = k5 (E m c main_v15) h n i x * Cert.Proof.Spec.c8 := by
  rw [eq_v17, eq_v16, eq_cst]
  generalize E m c main_v15 = X0; unfold k5
  pointwise
  rfl
theorem a_v24 (h : Fin 4) (n i x : Fin 64) : k5 (E m c main_v24) h n i x = k5 (E m c main_v17) h n i x * k5 (E m c main_v23) h n i x := by
  rw [eq_v24]
  generalize E m c main_v17 = X0; generalize E m c main_v23 = X1; unfold k5
  pointwise
theorem a_v27 (h : Fin 4) (n i x : Fin 64) : k5 (E m c main_v27) h n i x = k5 (E m c main_v18) h n i x * k5 (E m c main_v26) h n i x := by
  rw [eq_v27]
  generalize E m c main_v18 = X0; generalize E m c main_v26 = X1; unfold k5
  pointwise
theorem a_v31 (h : Fin 4) (n i x : Fin 64) : k5 (E m c main_v31) h n i x = k5 (E m c main_v18) h n i x * k5 (E m c main_v30) h n i x := by
  rw [eq_v31]
  generalize E m c main_v18 = X0; generalize E m c main_v30 = X1; unfold k5
  pointwise
theorem a_v76 (h : Fin 4) (n i x : Fin 64) : k5 (E m c main_v76) h n i x = k5 (E m c main_v57) h n i x + k5 (E m c main_v75) h n i x := by
  rw [eq_v76]
  generalize E m c main_v57 = X0; generalize E m c main_v75 = X1; unfold k5
  pointwise
theorem a_v77 (h : Fin 4) (n i x : Fin 64) : k5 (E m c main_v77) h n i x = k5 (E m c main_v18) h n i x * k5 (E m c main_v68) h n i x := by
  rw [eq_v77]
  generalize E m c main_v18 = X0; generalize E m c main_v68 = X1; unfold k5
  pointwise
theorem a_v78 (h : Fin 4) (n i x : Fin 64) : k5 (E m c main_v78) h n i x = k5 (E m c main_v68) h n i x * k5 (E m c main_v30) h n i x := by
  rw [eq_v78]
  generalize E m c main_v68 = X0; generalize E m c main_v30 = X1; unfold k5
  pointwise
theorem a_v79 (h : Fin 4) (n i x : Fin 64) : k5 (E m c main_v79) h n i x = k5 (E m c main_v77) h n i x * k5 (E m c main_v30) h n i x := by
  rw [eq_v79]
  generalize E m c main_v77 = X0; generalize E m c main_v30 = X1; unfold k5
  pointwise
theorem a_v84 (h : Fin 4) (n i x : Fin 64) : k5 (E m c main_v84) h n i x = k5 (E m c main_v18) h n i x * k5 (E m c main_v74) h n i x := by
  rw [eq_v84]
  generalize E m c main_v18 = X0; generalize E m c main_v74 = X1; unfold k5
  pointwise
theorem a_v85 (h : Fin 4) (n i x : Fin 64) : k5 (E m c main_v85) h n i x = k5 (E m c main_v74) h n i x * k5 (E m c main_v26) h n i x := by
  rw [eq_v85]
  generalize E m c main_v74 = X0; generalize E m c main_v26 = X1; unfold k5
  pointwise
theorem a_v86 (h : Fin 4) (n i x : Fin 64) : k5 (E m c main_v86) h n i x = k5 (E m c main_v78) h n i x + k5 (E m c main_v85) h n i x := by
  rw [eq_v86]
  generalize E m c main_v78 = X0; generalize E m c main_v85 = X1; unfold k5
  pointwise
theorem a_v87 (h : Fin 4) (n i x : Fin 64) : k5 (E m c main_v87) h n i x = k5 (E m c main_v84) h n i x * k5 (E m c main_v26) h n i x := by
  rw [eq_v87]
  generalize E m c main_v84 = X0; generalize E m c main_v26 = X1; unfold k5
  pointwise
theorem a_v89 (h : Fin 4) (n i x : Fin 64) : k5 (E m c main_v89) h n i x = k5 (E m c main_v82) h n i x + k5 (E m c main_v88) h n i x := by
  rw [eq_v89]
  generalize E m c main_v82 = X0; generalize E m c main_v88 = X1; unfold k5
  pointwise
theorem a_v90 (h : Fin 4) (n i x : Fin 64) : k5 (E m c main_v90) h n i x = k5 (E m c main_v17) h n i x * k5 (E m c main_v76) h n i x := by
  rw [eq_v90]
  generalize E m c main_v17 = X0; generalize E m c main_v76 = X1; unfold k5
  pointwise
theorem a_v91 (h : Fin 4) (n i x : Fin 64) : k5 (E m c main_v91) h n i x = k5 (E m c main_v76) h n i x * k5 (E m c main_v23) h n i x := by
  rw [eq_v91]
  generalize E m c main_v76 = X0; generalize E m c main_v23 = X1; unfold k5
  pointwise
theorem a_v92 (h : Fin 4) (n i x : Fin 64) : k5 (E m c main_v92) h n i x = k5 (E m c main_v90) h n i x * k5 (E m c main_v23) h n i x := by
  rw [eq_v92]
  generalize E m c main_v90 = X0; generalize E m c main_v23 = X1; unfold k5
  pointwise
theorem a_v93 (h : Fin 4) (n i x : Fin 64) : k5 (E m c main_v93) h n i x = k5 (E m c main_v89) h n i x + k5 (E m c main_v92) h n i x := by
  rw [eq_v93]
  generalize E m c main_v89 = X0; generalize E m c main_v92 = X1; unfold k5
  pointwise
theorem a_v95 (h : Fin 4) (n i x : Fin 64) : k5 (E m c main_v95) h n i x = k5 (E m c main_v93) h n i x + k5 (E m c main_v94) h n i x := by
  rw [eq_v95]
  generalize E m c main_v93 = X0; generalize E m c main_v94 = X1; unfold k5
  pointwise
theorem a_v23 (h : Fin 4) (n i x : Fin 64) : k5 (E m c main_v23) h n i x = Ideal.exp (k5 (E m c main_v21) h n i x) := by
  rw [eq_v23]
  generalize E m c main_v21 = X0; unfold k5
  pointwise
theorem a_v26 (h : Fin 4) (n i x : Fin 64) : k5 (E m c main_v26) h n i x = Ideal.exp (k5 (E m c main_v25) h n i x) := by
  rw [eq_v26]
  generalize E m c main_v25 = X0; unfold k5
  pointwise
theorem a_v30 (h : Fin 4) (n i x : Fin 64) : k5 (E m c main_v30) h n i x = Ideal.exp (k5 (E m c main_v29) h n i x) := by
  rw [eq_v30]
  generalize E m c main_v29 = X0; unfold k5
  pointwise
theorem a_v25 (h : Fin 4) (n i x : Fin 64) : k5 (E m c main_v25) h n i x = -k5 (E m c main_v21) h n i x := by
  rw [eq_v25]
  generalize E m c main_v21 = X0; unfold k5
  pointwise
theorem a_v82 (h : Fin 4) (n i x : Fin 64) : k5 (E m c main_v82) h n i x = -k5 (E m c main_v79) h n i x := by
  rw [eq_v82]
  generalize E m c main_v79 = X0; unfold k5
  pointwise
theorem a_v88 (h : Fin 4) (n i x : Fin 64) : k5 (E m c main_v88) h n i x = -k5 (E m c main_v87) h n i x := by
  rw [eq_v88]
  generalize E m c main_v87 = X0; unfold k5
  pointwise
theorem a_v22 (h : Fin 4) (n x : Fin 64) : t5 (E m c main_v22) h n x = k5 (E m c main_v21) h n 63 x := by
  rw [eq_v22]
  generalize E m c main_v21 = X0; unfold k5 t5
  pointwise
theorem a_v29 (h : Fin 4) (n i x : Fin 64) : k5 (E m c main_v29) h n i x = t5 (E m c main_v22) h n x - k5 (E m c main_v21) h n i x := by
  rw [eq_v29, eq_v28]
  generalize E m c main_v22 = X0; generalize E m c main_v21 = X1; unfold k5 t5
  pointwise
theorem a_v32 (h : Fin 4) (n i x : Fin 64) : k5 (E m c main_v32) h n i x = ∑ y, k5 (E m c main_v24) h n i y * k5 (E m c main_v27) h n x y := by
  rw [eq_v32]
  generalize E m c main_v24 = X0; generalize E m c main_v27 = X1; unfold k5
  pointwise
theorem a_v35_0 (h : Fin 4) (n i x : Fin 64) : k5 (E m c main_v35_0) h n i x = if x ≤ i then k5 (E m c main_v32) h n i x else 0 := by
  rw [eq_v35_0, eq_v35_1, eq_v34, eq_call1_v4, eq_call1_v2, eq_call1_v0, eq_call1_v1, eq_call1_c, eq_call1_v3, eq_v33, eq_c, eq_call1_v5, eq_call1_c_0, eq_call2_v2, eq_call2_v0, eq_cst_0]
  generalize E m c main_v32 = X0; unfold k5
  pointwise
  exact low_select i x _
theorem a_v36 (h : Fin 4) (n i : Fin 64) (e : Fin 128) : v5 (E m c main_v36) h n i e = ∑ j, k5 (E m c main_v35_0) h n i j * v5 (E m c main_v19) h n j e := by
  rw [eq_v36]
  generalize E m c main_v35_0 = X0; generalize E m c main_v19 = X1; unfold k5 v5
  pointwise
theorem a_v37 (n : Fin 64) (h : Fin 4) (x : Fin 64) (e : Fin 128) : g5 (E m c main_v37) n h x e = ∑ i, k5 (E m c main_v31) h n i x * v5 (E m c main_v19) h n i e := by
  rw [eq_v37]
  generalize E m c main_v31 = X0; generalize E m c main_v19 = X1; unfold g5 k5 v5
  pointwise
theorem a_v39 (h : Fin 4) (n x : Fin 64) : k4 (E m c main_v39) h n x = Ideal.exp (t5 (E m c main_v22) h n x) := by
  rw [eq_v39, eq_v38]
  generalize E m c main_v22 = X0; unfold k4 t5
  pointwise
theorem a_v40 (n : Fin 64) (h : Fin 4) (x : Fin 64) : g4 (E m c main_v40) n h x = k4 (E m c main_v39) h n x := by
  rw [eq_v40]
  generalize E m c main_v39 = X0; unfold g4 k4
  pointwise
theorem a_v41 (h : Fin 4) (x : Fin 64) (e : Fin 128) : gs (E m c main_v41) h x e = 0 := by
  rw [eq_v41, eq_cst_1]
  unfold gs
  pointwise
theorem a_v58 (h : Fin 4) (x : Fin 64) (e : Fin 128) : gs (E m c main_v58) h x e = 0 := by
  rw [eq_v58, eq_cst_6]
  unfold gs
  pointwise
theorem a_v45 (h : Fin 4) (n i : Fin 64) (e : Fin 128) : v5 (E m c main_v45) h n i e = ∑ x, k5 (E m c main_v24) h n i x * g5 (E m c main_v44_4) n h x e := by
  rw [eq_v45]
  generalize E m c main_v24 = X0; generalize E m c main_v44_4 = X1; unfold g5 k5 v5
  pointwise
theorem a_v46 (h : Fin 4) (n i : Fin 64) (e : Fin 128) : v5 (E m c main_v46) h n i e = v5 (E m c main_v36) h n i e + v5 (E m c main_v45) h n i e := by
  rw [eq_v46]
  generalize E m c main_v36 = X0; generalize E m c main_v45 = X1; unfold v5
  pointwise
theorem a_v71 (h : Fin 4) (n i : Fin 64) (e : Fin 128) : v5 (E m c main_v71) h n i e = v5 (E m c main_v66) h n i e + v5 (E m c main_v70) h n i e := by
  rw [eq_v71]
  generalize E m c main_v66 = X0; generalize E m c main_v70 = X1; unfold v5
  pointwise
theorem a_v56 (n : Fin 64) (h : Fin 4) (x : Fin 64) (e : Fin 128) : g5 (E m c main_v56) n h x e = ∑ i, v5 (E m c main_v54) h n i e * k5 (E m c main_v24) h n i x := by
  rw [eq_v56, eq_v55]
  generalize E m c main_v54 = X0; generalize E m c main_v24 = X1; unfold g5 k5 v5
  pointwise
theorem a_v57 (h : Fin 4) (n i x : Fin 64) : k5 (E m c main_v57) h n i x = ∑ e, v5 (E m c main_v54) h n i e * g5 (E m c main_v44_4) n h x e := by
  rw [eq_v57]
  generalize E m c main_v54 = X0; generalize E m c main_v44_4 = X1; unfold g5 k5 v5
  pointwise
theorem a_v62 (h : Fin 4) (n x : Fin 64) : k4 (E m c main_v62) h n x = g4 (E m c main_v61_5) n h x := by
  rw [eq_v62]
  generalize E m c main_v61_5 = X0; unfold g4 k4
  pointwise
theorem a_v63 (h : Fin 4) (n x : Fin 64) : k4 (E m c main_v63) h n x = k4 (E m c main_v62) h n x * k4 (E m c main_v39) h n x := by
  rw [eq_v63]
  generalize E m c main_v62 = X0; generalize E m c main_v39 = X1; unfold k4
  pointwise
theorem a_v64 (h : Fin 4) (n x : Fin 64) : t5 (E m c main_v64) h n x = k4 (E m c main_v63) h n x := by
  rw [eq_v64]
  generalize E m c main_v63 = X0; unfold k4 t5
  pointwise
theorem a_v66 (h : Fin 4) (n i : Fin 64) (e : Fin 128) : v5 (E m c main_v66) h n i e = ∑ x, g5 (E m c main_v61_6) n h x e * k5 (E m c main_v31) h n i x := by
  rw [eq_v66, eq_v65]
  generalize E m c main_v61_6 = X0; generalize E m c main_v31 = X1; unfold g5 k5 v5
  pointwise
theorem a_v68 (h : Fin 4) (n i x : Fin 64) : k5 (E m c main_v68) h n i x = ∑ e, g5 (E m c main_v61_6) n h x e * v5 (E m c main_v19) h n i e := by
  rw [eq_v68, eq_v67]
  generalize E m c main_v61_6 = X0; generalize E m c main_v19 = X1; unfold g5 k5 v5
  pointwise
theorem a_v70 (h : Fin 4) (n i : Fin 64) (e : Fin 128) : v5 (E m c main_v70) h n i e = ∑ j, v5 (E m c main_v54) h n j e * k5 (E m c main_v35_0) h n j i := by
  rw [eq_v70, eq_v69]
  generalize E m c main_v54 = X0; generalize E m c main_v35_0 = X1; unfold k5 v5
  pointwise
theorem a_v72 (h : Fin 4) (n i x : Fin 64) : k5 (E m c main_v72) h n i x = ∑ e, v5 (E m c main_v54) h n i e * v5 (E m c main_v19) h n x e := by
  rw [eq_v72]
  generalize E m c main_v54 = X0; generalize E m c main_v19 = X1; unfold k5 v5
  pointwise
theorem a_v73 (h : Fin 4) (n i x : Fin 64) : k5 (E m c main_v73) h n i x = if x ≤ i then k5 (E m c main_v72) h n i x else 0 := by
  rw [eq_v73, eq_v35_1, eq_v34, eq_call1_v4, eq_call1_v2, eq_call1_v0, eq_call1_v1, eq_call1_c, eq_call1_v3, eq_v33, eq_c, eq_call1_v5, eq_call1_c_0, eq_call12_v0, eq_call12_cst]
  generalize E m c main_v72 = X0; unfold k5
  pointwise
  exact low_select i x _
theorem a_v74 (h : Fin 4) (n i x : Fin 64) : k5 (E m c main_v74) h n i x = ∑ j, k5 (E m c main_v73) h n j i * k5 (E m c main_v24) h n j x := by
  rw [eq_v74]
  generalize E m c main_v73 = X0; generalize E m c main_v24 = X1; unfold k5
  pointwise
theorem a_v75 (h : Fin 4) (n i x : Fin 64) : k5 (E m c main_v75) h n i x = ∑ j, k5 (E m c main_v73) h n i j * k5 (E m c main_v27) h n j x := by
  rw [eq_v75]
  generalize E m c main_v73 = X0; generalize E m c main_v27 = X1; unfold k5
  pointwise
theorem a_v80 (h : Fin 4) (n x : Fin 64) : k4 (E m c main_v80) h n x = ∑ i, k5 (E m c main_v79) h n i x := by
  rw [eq_v80, eq_cst_10]
  generalize E m c main_v79 = X0; unfold k4 k5
  pointwise
theorem a_v81 (h : Fin 4) (n x : Fin 64) : t5 (E m c main_v81) h n x = k4 (E m c main_v80) h n x := by
  rw [eq_v81]
  generalize E m c main_v80 = X0; unfold k4 t5
  pointwise
theorem a_v83 (h : Fin 4) (n x : Fin 64) : t5 (E m c main_v83) h n x = t5 (E m c main_v64) h n x + t5 (E m c main_v81) h n x := by
  rw [eq_v83]
  generalize E m c main_v64 = X0; generalize E m c main_v81 = X1; unfold t5
  pointwise
theorem a_v94 (h : Fin 4) (n i x : Fin 64) : k5 (E m c main_v94) h n i x = if i = 63 then t5 (E m c main_v83) h n x else 0 := by
  rw [eq_v94, eq_cst_11]
  generalize E m c main_v83 = X0
  show k5 (pad (s := S1x4x64x1x64) S1x4x64x64x64 _ _ _ X0 _ _ _) h n i x = _
  unfold k5 t5
  pointwise
  have hi := i.isLt
  by_cases q : i = 63
  · subst q
    rw [dif_pos (by decide), if_pos rfl]
    rfl
  · rw [dif_neg (fun w => q (Fin.ext (by show i.val = 63; omega))), if_neg q]
theorem a_v101 (h : Fin 4) (n i x : Fin 64) : k5 (E m c main_v101) h n i x = k5 (E m c main_v91) h n i x * Cert.Proof.Spec.c8 := by
  rw [eq_v101, eq_v100, eq_cst_12]
  generalize E m c main_v91 = X0; unfold k5
  pointwise
  rfl
theorem a_v111 (r : Fin 4096) (y : Fin 512) : s2 (E m c main_v111) r y = v5 (E m c main_v46) ⟨y.val / 128, by omega⟩ ⟨r.val / 64, by omega⟩ ⟨r.val % 64, by omega⟩ ⟨y.val % 128, by omega⟩ := by
  rw [eq_v111, eq_v49, eq_v48, eq_v47]
  generalize E m c main_v46 = X0; unfold s2 v5
  pointwise
theorem a_v115 (r : Fin 4096) (y : Fin 512) : s2 (E m c main_v115) r y = v5 (E m c main_v71) ⟨y.val / 128, by omega⟩ ⟨r.val / 64, by omega⟩ ⟨r.val % 64, by omega⟩ ⟨y.val % 128, by omega⟩ := by
  rw [eq_v115, eq_v106, eq_v105, eq_v98]
  generalize E m c main_v71 = X0; unfold s2 v5
  pointwise
theorem a_v112 (r : Fin 4096) (y : Fin 256) : r2 (E m c main_v112) r y = k5 (E m c main_v101) ⟨y.val / 64, by omega⟩ ⟨r.val / 64, by omega⟩ ⟨r.val % 64, by omega⟩ ⟨y.val % 64, by omega⟩ := by
  rw [eq_v112, eq_v110, eq_v109, eq_v102]
  generalize E m c main_v101 = X0; unfold k5 r2
  pointwise
theorem a_v113 (r : Fin 4096) (y : Fin 256) : r2 (E m c main_v113) r y = k5 (E m c main_v86) ⟨y.val / 64, by omega⟩ ⟨r.val / 64, by omega⟩ ⟨r.val % 64, by omega⟩ ⟨y.val % 64, by omega⟩ := by
  rw [eq_v113, eq_v108, eq_v107, eq_v99]
  generalize E m c main_v86 = X0; unfold k5 r2
  pointwise
theorem a_v114 (r : Fin 4096) (y : Fin 256) : r2 (E m c main_v114) r y = k5 (E m c main_v96) ⟨y.val / 64, by omega⟩ ⟨r.val / 64, by omega⟩ ⟨r.val % 64, by omega⟩ ⟨y.val % 64, by omega⟩ := by
  rw [eq_v114, eq_v104, eq_v103, eq_v97]
  generalize E m c main_v96 = X0; unfold k5 r2
  pointwise
theorem a_v21 (h : Fin 4) (n i x : Fin 64) : k5 (E m c main_v21) h n i x = ∑ j, if j ≤ i then k5 (E m c main_v20) h n j x else 0 := by
  rw [eq_v21, eq_call0_call0_v0, eq_call0_call0_cst]
  exact cumsum_fwd (E m c main_v20) _ Ideal.ofBits_zero_f32 h n i x
theorem a_v96 (h : Fin 4) (n i x : Fin 64) : k5 (E m c main_v96) h n i x = ∑ j, if i ≤ j then k5 (E m c main_v95) h n j x else 0 := by
  rw [eq_v96, eq_call13_call0_v0, eq_call13_call0_cst]
  exact cumsum_rev (E m c main_v95) _ Ideal.ofBits_zero_f32 h n i x

end Cert.ReferenceIdeal.Ref

end
-- ==== Proof.Ref.Entry.lean ====
module

public import proofs.«01_k».proof.Proof.Ref.Raw

@[expose] public section

noncomputable section

/-! The reference's arrays are the chunks' values of the specification. -/

namespace Cert.ReferenceIdeal.Ref

open Cert.ReferenceIdeal Cert.ReferenceIdeal.Gen
open Idealize.ShloMosaic Idealize.ShloMosaic.TcCoe

local notation "𝕀" => Idealize.ShloMosaic.Ideal

variable (m : (ℓ : Loc nD τ sig) → Buf (Elt 𝕀) ℓ) (c : Dev nD)

abbrev aP : Fin 4096 → Fin 2176 → EReal := p2 (E m c main_arg0)
abbrev aA : Fin 4096 → Fin 256 → EReal := r2 (E m c main_arg1)
abbrev aG : Fin 4096 → Fin 512 → EReal := s2 (E m c main_arg2)
abbrev cQ (h : Fin 4) (n : ℕ) := Proof.Whole.Qh (aP m c) h n
abbrev cK (h : Fin 4) (n : ℕ) := Proof.Whole.Kh (aP m c) h n
abbrev cV (h : Fin 4) (n : ℕ) := Proof.Whole.Vh (aP m c) h n
abbrev cA (h : Fin 4) (n : ℕ) := Proof.Whole.Ah (aA m c) h n
abbrev cG (h : Fin 4) (n : ℕ) := Proof.Whole.Gh (aG m c) h n
abbrev cS (h : Fin 4) (n : ℕ) := Proof.Whole.S (aP m c) (aA m c) h n
abbrev cT (h : Fin 4) (n : ℕ) := Proof.Whole.T (aP m c) (aA m c) (aG m c) h n

theorem z_v15 (h : Fin 4) (n i x : Fin 64) : k5 (E m c main_v15) h n i x = (cQ m c h n) i x := by
  exact a_v15 m c h n i x
theorem z_v18 (h : Fin 4) (n i x : Fin 64) : k5 (E m c main_v18) h n i x = (cK m c h n) i x := by
  exact a_v18 m c h n i x
theorem z_v19 (h : Fin 4) (n i : Fin 64) (e : Fin 128) : v5 (E m c main_v19) h n i e = (cV m c h n) i e := by
  exact a_v19 m c h n i e
theorem z_v20 (h : Fin 4) (n i x : Fin 64) : k5 (E m c main_v20) h n i x = (cA m c h n) i x := by
  exact a_v20 m c h n i x
theorem z_v54 (h : Fin 4) (n i : Fin 64) (e : Fin 128) : v5 (E m c main_v54) h n i e = (cG m c h n) i e := by
  exact a_v54 m c h n i e
theorem z_v17 (h : Fin 4) (n i x : Fin 64) : k5 (E m c main_v17) h n i x = Proof.Spec.qs (cQ m c h n) i x := by
  rw [a_v17, z_v15]; rfl
theorem z_v21 (h : Fin 4) (n i x : Fin 64) : k5 (E m c main_v21) h n i x = Proof.Spec.cum (cA m c h n) i x := by
  rw [a_v21]
  refine Finset.sum_congr rfl fun j _ => if_congr Iff.rfl ?_ rfl
  rw [z_v20]
theorem z_v22 (h : Fin 4) (n x : Fin 64) : t5 (E m c main_v22) h n x = Proof.Spec.tot (cA m c h n) x := by
  rw [a_v22, z_v21]; unfold Proof.Spec.cum Proof.Spec.tot
  exact Finset.sum_congr rfl fun j _ => if_pos (by have := j.isLt; show j.val ≤ 63; omega)
theorem z_v23 (h : Fin 4) (n i x : Fin 64) : k5 (E m c main_v23) h n i x = Proof.Spec.ec (cA m c h n) i x := by
  rw [a_v23, z_v21]; rfl
theorem z_v24 (h : Fin 4) (n i x : Fin 64) : k5 (E m c main_v24) h n i x = Proof.Spec.qd (cQ m c h n) (cA m c h n) i x := by
  rw [a_v24, z_v17, z_v23]; rfl
theorem z_v26 (h : Fin 4) (n i x : Fin 64) : k5 (E m c main_v26) h n i x = Proof.Spec.ei (cA m c h n) i x := by
  rw [a_v26, a_v25, z_v21, ← zero_sub]; rfl
theorem z_v27 (h : Fin 4) (n i x : Fin 64) : k5 (E m c main_v27) h n i x = Proof.Spec.ki (cK m c h n) (cA m c h n) i x := by
  rw [a_v27, z_v18, z_v26]; rfl
theorem z_v30 (h : Fin 4) (n i x : Fin 64) : k5 (E m c main_v30) h n i x = Proof.Spec.ee (cA m c h n) i x := by
  rw [a_v30, a_v29, z_v22, z_v21]; rfl
theorem z_v31 (h : Fin 4) (n i x : Fin 64) : k5 (E m c main_v31) h n i x = Proof.Spec.ke (cK m c h n) (cA m c h n) i x := by
  rw [a_v31, z_v18, z_v30]; rfl
theorem z_v35_0 (h : Fin 4) (n i x : Fin 64) : k5 (E m c main_v35_0) h n i x = Proof.Spec.att (cQ m c h n) (cK m c h n) (cA m c h n) i x := by
  rw [a_v35_0, a_v32]
  refine if_congr Iff.rfl (Finset.sum_congr rfl fun w _ => ?_) rfl
  rw [z_v24, z_v27]
theorem z_v36 (h : Fin 4) (n i : Fin 64) (e : Fin 128) : v5 (E m c main_v36) h n i e = ∑ j, Proof.Spec.att (cQ m c h n) (cK m c h n) (cA m c h n) i j * (cV m c h n) j e := by
  rw [a_v36]
  refine Finset.sum_congr rfl fun w _ => ?_
  rw [z_v35_0, z_v19]
theorem z_v37 (n : Fin 64) (h : Fin 4) (x : Fin 64) (e : Fin 128) : g5 (E m c main_v37) n h x e = ∑ i, (cV m c h n) i e * Proof.Spec.ke (cK m c h n) (cA m c h n) i x := by
  rw [a_v37]
  refine Finset.sum_congr rfl fun w _ => ?_
  rw [z_v31, z_v19, mul_comm]
theorem z_v39 (h : Fin 4) (n x : Fin 64) : k4 (E m c main_v39) h n x = Proof.Spec.dec (cA m c h n) x := by
  rw [a_v39, z_v22]; rfl
theorem z_v40 (n : Fin 64) (h : Fin 4) (x : Fin 64) : g4 (E m c main_v40) n h x = Proof.Spec.dec (cA m c h n) x := by
  rw [a_v40, z_v39]
theorem st_all : (∀ n h x e, g5 (E m c main_v44_4) n h x e = cS m c h n x e) ∧ (∀ n h x, gu (E m c main_v44_5) n h x = Proof.Spec.dec (cA m c h n) x) := by
  have q0 : E m c main_v44_0 = E m c main_v40 := eq_v44_0 m c
  have q1 : E m c main_v44_1 = E m c main_v37 := eq_v44_1 m c
  have r := states_eq m c (fun k h x e => cS m c h k x e) (fun h x e => a_v41 m c h x e) fun k h x e => by
    show _ = g4 (E m c main_v44_0) k h x * _ + g5 (E m c main_v44_1) k h x e
    rw [q0, q1, z_v40, z_v37, mul_comm]
    rfl
  refine ⟨r.1, fun n h x => (r.2 n h x).trans ?_⟩
  show g4 (E m c main_v44_0) n h x = _
  rw [q0, z_v40]
theorem z_v44_4 (n : Fin 64) (h : Fin 4) (x : Fin 64) (e : Fin 128) : g5 (E m c main_v44_4) n h x e = cS m c h n x e := by
  exact (st_all m c).1 n h x e
theorem z_v44_5 (n : Fin 64) (h : Fin 4) (x : Fin 64) : gu (E m c main_v44_5) n h x = Proof.Spec.dec (cA m c h n) x := by
  exact (st_all m c).2 n h x
theorem z_v45 (h : Fin 4) (n i : Fin 64) (e : Fin 128) : v5 (E m c main_v45) h n i e = ∑ x, Proof.Spec.qd (cQ m c h n) (cA m c h n) i x * cS m c h n x e := by
  rw [a_v45]
  refine Finset.sum_congr rfl fun w _ => ?_
  rw [z_v24, z_v44_4]
theorem z_v46 (h : Fin 4) (n i : Fin 64) (e : Fin 128) : v5 (E m c main_v46) h n i e = Proof.Spec.out (cQ m c h n) (cK m c h n) (cA m c h n) (cV m c h n) (cS m c h n) i e := by
  rw [a_v46, z_v36, z_v45]; rfl
theorem z_v56 (n : Fin 64) (h : Fin 4) (x : Fin 64) (e : Fin 128) : g5 (E m c main_v56) n h x e = ∑ i, (cG m c h n) i e * Proof.Spec.qd (cQ m c h n) (cA m c h n) i x := by
  rw [a_v56]
  refine Finset.sum_congr rfl fun w _ => ?_
  rw [z_v54, z_v24]
theorem z_v57 (h : Fin 4) (n i x : Fin 64) : k5 (E m c main_v57) h n i x = ∑ e, (cG m c h n) i e * cS m c h n x e := by
  rw [a_v57]
  refine Finset.sum_congr rfl fun w _ => ?_
  rw [z_v54, z_v44_4]
theorem ca_all : (∀ n h x e, g5 (E m c main_v61_6) n h x e = cT m c h (63 - n.val) x e)
    ∧ (∀ n h x, g4 (E m c main_v61_5) n h x = ∑ e, cT m c h (63 - n.val) x e * g5 (E m c main_v61_1) n h x e) := by
  have q0 : E m c main_v61_0 = E m c main_v56 := eq_v61_0 m c
  have hd : ∀ (k r : Fin 64) h x e, r.val = 63 - k.val → cT m c h (k.val + 1) x e = g5 (E m c main_v61_0) r h x e + gu (E m c main_v44_5) r h x * cT m c h k.val x e := by
    intro k r h x e hr
    have t : cT m c h (k.val + 1) x e = cT m c h k.val x e * Proof.Spec.dec (cA m c h (63 - k.val)) x + ∑ i, cG m c h (63 - k.val) i e * Proof.Spec.qd (cQ m c h (63 - k.val)) (cA m c h (63 - k.val)) i x := by
      unfold cT Proof.Whole.T
      rw [Proof.Spec.dst]
      rfl
    rw [q0, z_v44_5, z_v56, hr, t]
    generalize (∑ i, cG m c h (63 - k.val) i e * Proof.Spec.qd (cQ m c h (63 - k.val)) (cA m c h (63 - k.val)) i x) = y
    generalize cT m c h k.val x e = z
    rw [mul_comm, add_comm]
  exact carries_eq m c (fun k h x e => cT m c h k x e) (fun h x e => a_v58 m c h x e) hd
theorem z_v61_6 (n : Fin 64) (h : Fin 4) (x : Fin 64) (e : Fin 128) : g5 (E m c main_v61_6) n h x e = cT m c h (63 - n.val) x e := by
  exact (ca_all m c).1 n h x e
theorem z_v61_5 (n : Fin 64) (h : Fin 4) (x : Fin 64) : g4 (E m c main_v61_5) n h x = Proof.Spec.gdec (cS m c h n) (cT m c h (63 - n.val)) x := by
  rw [(ca_all m c).2, show E m c main_v61_1 = E m c main_v44_4 from eq_v61_1 m c]
  refine Finset.sum_congr rfl fun w _ => ?_
  rw [z_v44_4, mul_comm]
theorem z_v64 (h : Fin 4) (n x : Fin 64) : t5 (E m c main_v64) h n x = Proof.Spec.gdec (cS m c h n) (cT m c h (63 - n.val)) x * Proof.Spec.dec (cA m c h n) x := by
  rw [a_v64, a_v63, a_v62, z_v61_5, z_v39]
theorem z_v66 (h : Fin 4) (n i : Fin 64) (e : Fin 128) : v5 (E m c main_v66) h n i e = ∑ x, Proof.Spec.ke (cK m c h n) (cA m c h n) i x * cT m c h (63 - n.val) x e := by
  rw [a_v66]
  refine Finset.sum_congr rfl fun w _ => ?_
  rw [z_v61_6, z_v31, mul_comm]
theorem z_v68 (h : Fin 4) (n i x : Fin 64) : k5 (E m c main_v68) h n i x = Proof.Spec.gke (cV m c h n) (cT m c h (63 - n.val)) i x := by
  rw [a_v68]
  refine Finset.sum_congr rfl fun w _ => ?_
  rw [z_v61_6, z_v19, mul_comm]
theorem z_v70 (h : Fin 4) (n i : Fin 64) (e : Fin 128) : v5 (E m c main_v70) h n i e = ∑ j, Proof.Spec.att (cQ m c h n) (cK m c h n) (cA m c h n) j i * (cG m c h n) j e := by
  rw [a_v70]
  refine Finset.sum_congr rfl fun w _ => ?_
  rw [z_v54, z_v35_0, mul_comm]
theorem z_v71 (h : Fin 4) (n i : Fin 64) (e : Fin 128) : v5 (E m c main_v71) h n i e = Proof.Spec.gv (cQ m c h n) (cK m c h n) (cA m c h n) (cG m c h n) (cT m c h (63 - n.val)) i e := by
  rw [a_v71, z_v66, z_v70]; rfl
theorem z_v73 (h : Fin 4) (n i x : Fin 64) : k5 (E m c main_v73) h n i x = Proof.Spec.datt (cV m c h n) (cG m c h n) i x := by
  rw [a_v73, a_v72]
  refine if_congr Iff.rfl (Finset.sum_congr rfl fun w _ => ?_) rfl
  rw [z_v54, z_v19]
theorem z_v74 (h : Fin 4) (n i x : Fin 64) : k5 (E m c main_v74) h n i x = Proof.Spec.gki (cQ m c h n) (cA m c h n) (cV m c h n) (cG m c h n) i x := by
  rw [a_v74]
  refine Finset.sum_congr rfl fun w _ => ?_
  rw [z_v73, z_v24]
theorem z_v75 (h : Fin 4) (n i x : Fin 64) : k5 (E m c main_v75) h n i x = ∑ j, Proof.Spec.datt (cV m c h n) (cG m c h n) i j * Proof.Spec.ki (cK m c h n) (cA m c h n) j x := by
  rw [a_v75]
  refine Finset.sum_congr rfl fun w _ => ?_
  rw [z_v73, z_v27]
theorem z_v76 (h : Fin 4) (n i x : Fin 64) : k5 (E m c main_v76) h n i x = Proof.Spec.gqd (cK m c h n) (cA m c h n) (cV m c h n) (cG m c h n) (cS m c h n) i x := by
  rw [a_v76, z_v57, z_v75]; rfl
theorem z_v79 (h : Fin 4) (n i x : Fin 64) : k5 (E m c main_v79) h n i x = Proof.Spec.ge (cK m c h n) (cA m c h n) (cV m c h n) (cT m c h (63 - n.val)) i x := by
  rw [a_v79, a_v77, z_v18, z_v68, z_v30]; rfl
theorem z_v83 (h : Fin 4) (n x : Fin 64) : t5 (E m c main_v83) h n x = Proof.Spec.gtot (cK m c h n) (cA m c h n) (cV m c h n) (cS m c h n) (cT m c h (63 - n.val)) x := by
  rw [a_v83, z_v64, a_v81, a_v80]; unfold Proof.Spec.gtot
  generalize Proof.Spec.gdec _ _ _ * _ = y
  refine congrArg (y + ·) (Finset.sum_congr rfl fun w _ => ?_)
  rw [z_v79]
theorem z_v86 (h : Fin 4) (n i x : Fin 64) : k5 (E m c main_v86) h n i x = Proof.Spec.gk (cQ m c h n) (cA m c h n) (cV m c h n) (cG m c h n) (cT m c h (63 - n.val)) i x := by
  rw [a_v86, a_v78, a_v85, z_v68, z_v30, z_v74, z_v26]; rfl
theorem z_v93 (h : Fin 4) (n i x : Fin 64) : k5 (E m c main_v93) h n i x = Proof.Spec.gcum (cQ m c h n) (cK m c h n) (cA m c h n) (cV m c h n) (cG m c h n) (cS m c h n) (cT m c h (63 - n.val)) i x := by
  rw [a_v93, a_v89, a_v82, a_v88, a_v87, a_v84, a_v92, a_v90, z_v79, z_v18, z_v74, z_v26, z_v17, z_v76, z_v23, ← zero_sub, ← zero_sub]; rfl
theorem z_v96 (h : Fin 4) (n i x : Fin 64) : k5 (E m c main_v96) h n i x = Proof.Spec.ga (cQ m c h n) (cK m c h n) (cA m c h n) (cV m c h n) (cG m c h n) (cS m c h n) (cT m c h (63 - n.val)) i x := by
  rw [a_v96]
  unfold Proof.Spec.ga
  refine (Finset.sum_congr rfl fun j _ => (?_ : _ = (if j = 63 then Proof.Spec.gtot (cK m c h n) (cA m c h n) (cV m c h n) (cS m c h n) (cT m c h (63 - n.val)) x else 0) + (if i ≤ j then Proof.Spec.gcum (cQ m c h n) (cK m c h n) (cA m c h n) (cV m c h n) (cG m c h n) (cS m c h n) (cT m c h (63 - n.val)) j x else 0))).trans ?_
  · rw [a_v95, a_v94, z_v93, z_v83]
    have hi := i.isLt
    by_cases q : j = 63
    · subst q
      rw [if_pos rfl, if_pos (by show i.val ≤ 63; omega), if_pos (by show i.val ≤ 63; omega), add_comm]
    · rw [if_neg q, add_zero, zero_add]
  · rw [Finset.sum_add_distrib, Finset.sum_ite_eq' Finset.univ (63 : Fin 64) (fun _ => _), if_pos (Finset.mem_univ _)]
theorem z_v101 (h : Fin 4) (n i x : Fin 64) : k5 (E m c main_v101) h n i x = Proof.Spec.gq (cK m c h n) (cA m c h n) (cV m c h n) (cG m c h n) (cS m c h n) i x := by
  rw [a_v101, a_v91, z_v76, z_v23]; rfl
theorem res_v111 : (E m c main_v111 : S4096x512.Idx → EReal) = Proof.Whole.rowsV (Proof.Whole.oO (aP m c) (aA m c)) := by
  funext y
  rw [Idealize.ShloMosaic.eq_ix2 y]
  refine (a_v111 m c (y 0) (y 1)).trans ?_
  rw [z_v46]
  rfl
theorem res_v112 : (E m c main_v112 : S4096x256.Idx → EReal) = Proof.Whole.rowsK (Proof.Whole.oQ (aP m c) (aA m c) (aG m c)) := by
  funext y
  rw [Idealize.ShloMosaic.eq_ix2 y]
  refine (a_v112 m c (y 0) (y 1)).trans ?_
  rw [z_v101]
  rfl
theorem res_v113 : (E m c main_v113 : S4096x256.Idx → EReal) = Proof.Whole.rowsK (Proof.Whole.oK (aP m c) (aA m c) (aG m c)) := by
  funext y
  rw [Idealize.ShloMosaic.eq_ix2 y]
  refine (a_v113 m c (y 0) (y 1)).trans ?_
  rw [z_v86]
  rfl
theorem res_v114 : (E m c main_v114 : S4096x256.Idx → EReal) = Proof.Whole.rowsK (Proof.Whole.oA (aP m c) (aA m c) (aG m c)) := by
  funext y
  rw [Idealize.ShloMosaic.eq_ix2 y]
  refine (a_v114 m c (y 0) (y 1)).trans ?_
  rw [z_v96]
  rfl
theorem res_v115 : (E m c main_v115 : S4096x512.Idx → EReal) = Proof.Whole.rowsV (Proof.Whole.oV (aP m c) (aA m c) (aG m c)) := by
  funext y
  rw [Idealize.ShloMosaic.eq_ix2 y]
  refine (a_v115 m c (y 0) (y 1)).trans ?_
  rw [z_v71]
  rfl

end Cert.ReferenceIdeal.Ref

end
-- ==== Proof.Same.lean ====
module

public import proofs.«01_k».proof.Proof.Final
public import proofs.«01_k».proof.Proof.Ref.Entry
public import proofs.«01_k».proof.Defs

@[expose] public section

noncomputable section

/-! The kernel's five results and the reference's are the same arrays. -/

namespace Cert.Proof

open Idealize.ShloMosaic Idealize.ShloMosaic.TcCoe Idealize.SL.Sem
open Cert.KernelIdeal.Run (kP kA kG)

theorem same : @Cert.algebraic_KernelIdeal_ReferenceIdeal Cert.KernelIdeal.Gen.facts Cert.ReferenceIdeal.Gen.facts := by
  intro m g m' g' _ hargs
  refine ⟨fun c => Whole.rowsV (Whole.oO (kP m c) (kA m c)), fun c => Whole.rowsK (Whole.oQ (kP m c) (kA m c) (kG m c)),
    fun c => Whole.rowsK (Whole.oK (kP m c) (kA m c) (kG m c)), fun c => Whole.rowsK (Whole.oA (kP m c) (kA m c) (kG m c)),
    fun c => Whole.rowsV (Whole.oV (kP m c) (kA m c) (kG m c)), ?_, ?_⟩
  · refine (θ_run Cert.KernelIdeal.defs _ _).mono ?_ (Cert.KernelIdeal.Run.run_main m g)
    intro r h c
    have w : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).loc b) = Cert.KernelIdeal.Run.W2 m g c (Proc.devRef .tc b) :=
      fun b hb => h.1 c _ (Cert.KernelIdeal.Run.mem_uc b hb)
    exact ⟨(w _ (by decide)).trans (Cert.KernelIdeal.Run.out0 m g c), (w _ (by decide)).trans (Cert.KernelIdeal.Run.out1 m g c),
      (w _ (by decide)).trans (Cert.KernelIdeal.Run.out2 m g c), (w _ (by decide)).trans (Cert.KernelIdeal.Run.out3 m g c),
      (w _ (by decide)).trans (Cert.KernelIdeal.Run.out4 m g c), (w _ (by decide)).trans (Cert.KernelIdeal.Run.W2_main_arg0 m g c),
      (w _ (by decide)).trans (Cert.KernelIdeal.Run.W2_main_arg1 m g c), (w _ (by decide)).trans (Cert.KernelIdeal.Run.W2_main_arg2 m g c)⟩
  · refine (θ_run Cert.ReferenceIdeal.defs _ _).mono ?_ (Cert.ReferenceIdeal.Ref.run m' g')
    intro r h c
    obtain ⟨e0, e1, e2⟩ := hargs c
    have k0 := Cert.ReferenceIdeal.Ref.late0_keep m' c (b := Cert.ReferenceIdeal.main_arg0) (by decide +kernel)
    have k1 := Cert.ReferenceIdeal.Ref.late0_keep m' c (b := Cert.ReferenceIdeal.main_arg1) (by decide +kernel)
    have k2 := Cert.ReferenceIdeal.Ref.late0_keep m' c (b := Cert.ReferenceIdeal.main_arg2) (by decide +kernel)
    have p : Cert.ReferenceIdeal.Ref.aP m' c = kP m c := by funext x y; exact congrFun (k0.trans e0) (ix2 x y)
    have a : Cert.ReferenceIdeal.Ref.aA m' c = kA m c := by funext x y; exact congrFun (k1.trans e1) (ix2 x y)
    have d : Cert.ReferenceIdeal.Ref.aG m' c = kG m c := by funext x y; exact congrFun (k2.trans e2) (ix2 x y)
    have r1 := Cert.ReferenceIdeal.Ref.res_v111 m' c
    have r2 := Cert.ReferenceIdeal.Ref.res_v112 m' c
    have r3 := Cert.ReferenceIdeal.Ref.res_v113 m' c
    have r4 := Cert.ReferenceIdeal.Ref.res_v114 m' c
    have r5 := Cert.ReferenceIdeal.Ref.res_v115 m' c
    rw [p, a] at r1
    rw [p, a, d] at r2 r3 r4 r5
    exact ⟨(h c _ rfl).trans r1, (h c _ rfl).trans r2, (h c _ rfl).trans r3, (h c _ rfl).trans r4, (h c _ rfl).trans r5,
      (h c _ rfl).trans k0, (h c _ rfl).trans k1, (h c _ rfl).trans k2⟩

end Cert.Proof

end
-- ==== Proof.Ffn.Norm.lean ====
module

public import proofs.«01_k».proof.Proof.Ffn.Index

@[expose] public section

noncomputable section

/-! A row's mean-square norm and its gradient, over the extended reals. -/

namespace Cert.Proof.Norm

open Idealize.ShloMosaic

/-- The row's length 1024, its inverse, the norm's small summand and minus one half, as the programs write them. -/
abbrev len : EReal := Ideal.ofBits FTy.f32 1149239296#32
abbrev inv : EReal := Ideal.ofBits FTy.f32 981467136#32
abbrev eps : EReal := Ideal.ofBits FTy.f32 897988541#32
abbrev mhalf : EReal := Ideal.ofBits FTy.f32 3204448256#32

theorem len_eq : len = ((1024 : ℝ) : EReal) := by
  simp [Ideal.ofBits, Ideal.ieee, -EReal.coe_mul]; norm_num
theorem inv_eq : inv = ((1 / 1024 : ℝ) : EReal) := by
  simp [Ideal.ofBits, Ideal.ieee, -EReal.coe_mul]; norm_num

/-- Dividing by the length is multiplying by its inverse, also of an infinite sum. -/
theorem div_len (x : EReal) : Ideal.div x len = x * inv := by
  rw [len_eq, inv_eq]
  exact Ideal.div_coe (by norm_num : (1024 : ℝ) ≠ 0) x

/-- The mean square of a row, with the small summand. -/
def ms (y : Fin 1024 → EReal) : EReal := (∑ d, y d * y d) * inv + eps

/-- The mean square's gradient, shared by the row's entries. -/
def tail (x y n : Fin 1024 → EReal) : EReal :=
  (∑ d, y d * (x d * n d)) * (mhalf * Ideal.div (Ideal.rsqrt (ms y)) (ms y)) * inv

/-- The gradient at entry `d` of the norm of row `y` with gains `n` under the gradient `x`, on top of `e`. -/
def dx (x y n : Fin 1024 → EReal) (d : Fin 1024) (e : EReal) : EReal :=
  e + x d * n d * Ideal.rsqrt (ms y) + y d * tail x y n + tail x y n * y d

/-- The row's share of the gains' gradient. -/
def dn (x y : Fin 1024 → EReal) (d : Fin 1024) : EReal := y d * Ideal.rsqrt (ms y) * x d

/-- The first `n` terms of a sum over 4096 rows. -/
def upto (g : Fin 4096 → EReal) (n : ℕ) : EReal := ∑ j ∈ Finset.range n, if h : j < 4096 then g ⟨j, h⟩ else 0

theorem upto_all (g : Fin 4096 → EReal) : upto g 4096 = ∑ s, g s := by
  unfold upto
  rw [Finset.sum_range]
  exact Finset.sum_congr rfl fun s _ => dif_pos s.isLt

theorem upto_add (g : Fin 4096 → EReal) (n b : ℕ) (f : Fin b → EReal)
    (hf : ∀ s : Fin b, ∃ h : n + s.val < 4096, f s = g ⟨n + s.val, h⟩) : upto g (n + b) = upto g n + ∑ s, f s := by
  unfold upto
  rw [Finset.sum_range_add]
  refine congrArg _ ?_
  rw [Finset.sum_range]
  refine Finset.sum_congr rfl fun s _ => ?_
  obtain ⟨h, e⟩ := hf s
  rw [dif_pos h, e]

theorem upto_zero (g : Fin 4096 → EReal) : upto g 0 = 0 := Finset.sum_range_zero _

/-- A running sum of blocks of `b` rows holds the first `(n + 1) b` rows after point `n`. -/
theorem upto_run {N b : ℕ} (g : Fin 4096 → EReal) (acc : ∀ n, n < N → EReal) (f : ∀ n, n < N → Fin b → EReal)
    (hf : ∀ n h (s : Fin b), ∃ h' : n * b + s.val < 4096, f n h s = g ⟨n * b + s.val, h'⟩) (h0 : ∀ h, acc 0 h = ∑ s, f 0 h s)
    (hs : ∀ n h, acc (n + 1) h = acc n (Nat.lt_of_succ_lt h) + ∑ s, f (n + 1) h s) : ∀ n h, acc n h = upto g ((n + 1) * b)
  | 0, h => by
    have e := upto_add g (0 * b) b (f 0 h) (hf 0 h)
    rw [h0, Nat.succ_mul 0 b, e, Nat.zero_mul, upto_zero, zero_add]
  | n + 1, h => by
    rw [hs, Nat.succ_mul (n + 1) b, upto_add g _ b _ (hf (n + 1) h), upto_run g acc f hf h0 hs n]

end Cert.Proof.Norm

end
-- ==== Proof.Ffn.DxNorm.lean ====
module

public import proofs.«01_k».proof.Proof.Gen.Kernel2Ideal.Value
public import proofs.«01_k».proof.Proof.Gen.Reference2Ideal.Run
public import proofs.«01_k».proof.Defs
public import proofs.«01_k».proof.Proof.Ffn.Norm
public import Idealize.ShloMosaic.Lib.Pipeline.ValueKit.Acc

@[expose] public section

noncomputable section

/-! The gradient through the gate and up products and the norm before them. -/

namespace Cert.Proof.DxNorm

open Cert.Reference2Ideal Cert.Reference2Ideal.Gen
open Idealize.ShloMosaic Idealize.ShloMosaic.TcCoe

/-- The gradient of the normed row: both products', summed over the shards and their columns. -/
def D (dg du : FVec 𝕀 S4x4096x704 .bf16) (wg wu : FVec 𝕀 S4x704x1024 .bf16) (s : Fin 4096) (d : Fin 1024) : EReal :=
  (∑ p : Fin 4, ∑ f : Fin 704, (du (ix3 p s f) : EReal) * wu (ix3 p f d)) + ∑ p : Fin 4, ∑ f : Fin 704, (dg (ix3 p s f) : EReal) * wg (ix3 p f d)

/-- The hidden state's gradient. -/
def GX (dg du : FVec 𝕀 S4x4096x704 .bf16) (wg wu : FVec 𝕀 S4x704x1024 .bf16) (h : FVec 𝕀 S4096x1024 .f32) (n : FVec 𝕀 S1x1024 .f32)
    (dh : FVec 𝕀 S4096x1024 .f32) : FVec 𝕀 S4096x1024 .f32 :=
  fun i => Norm.dx (D dg du wg wu (i 0)) (fun d => h (ix2 (i 0) d)) (fun d => n (ix2 0 d)) (i 1) (dh i)

/-- The gains' gradient. -/
def GN (dg du : FVec 𝕀 S4x4096x704 .bf16) (wg wu : FVec 𝕀 S4x704x1024 .bf16) (h : FVec 𝕀 S4096x1024 .f32) : FVec 𝕀 S1x1024 .f32 :=
  fun i => ∑ s : Fin 4096, Norm.dn (D dg du wg wu s) (fun d => h (ix2 s d)) (i 1)

section
variable (m : (ℓ : Loc nD τ sig) → Buf (Elt 𝕀) ℓ)

theorem refX (c : Dev nD) : Reference2Ideal.Value.res_main_v47 m c
    = GX (ar m c main_arg0) (ar m c main_arg1) (ar m c main_arg2)
      (ar m c main_arg3) (ar m c main_arg4) (ar m c main_arg5)
      (ar m c main_arg6) := by
  funext i
  pointwise [Reference2Ideal.Value.res_main_v47, GX, D, Norm.dx, Norm.tail, Norm.ms]
  simp only [Norm.div_len, Finset.univ_unique, Finset.sum_singleton]

end
end Cert.Proof.DxNorm

namespace Cert.Proof.DxNorm

open Cert.Kernel2Ideal Cert.Kernel2Ideal.Gen
open Idealize.ShloMosaic Idealize.ShloMosaic.TcCoe Idealize.SL.Sem

theorem pay3 (x y e : FVec 𝕀 S512x1024 .f32) (n : FVec 𝕀 S1x1024 .f32) (i : S512x1024.Idx) :
    k0_pay3 x y e n (k0_pay9 y) i
      = Norm.dx (fun d => x (ix2 (i 0) d)) (fun d => y (ix2 (i 0) d)) (fun d => n (ix2 0 d)) (i 1) (e i) := by
  pointwise [k0_pay3, k0_pay9, k0_pay2, k0_pay1, Norm.dx, Norm.tail, Norm.ms]
  simp only [Finset.univ_unique, Finset.sum_singleton, add_assoc]
  rw [add_comm (e i)]
  simp only [add_assoc]

theorem pay5 (x y : FVec 𝕀 S512x1024 .f32) (z : FVec 𝕀 S1x1024 .f32) (i : S1x1024.Idx) :
    k0_pay5 x y (k0_pay9 y) z i
      = z i + ∑ s : Fin 512, Norm.dn (fun d => x (ix2 s d)) (fun d => y (ix2 s d)) (i 1) := by
  pointwise [k0_pay5, k0_pay9, k0_pay2, k0_pay1, Norm.dn, Norm.ms]

theorem pay4 (i : S1x1024.Idx) : k0_pay4 (F := 𝕀) i = (0 : EReal) := by
  pointwise [k0_pay4]

section
variable {F : FTy → Type} [FloatOps F]

/-- One shard's part of a block of rows, and of a whole weight. -/
def rows (p : ℕ) (inb : ∀ a, (![p, 0, 0] : Fin 3 → Nat) a + S1x512x704.size a ≤ S4x512x704.size a) (x : Vec F S4x512x704 .bf16) : Vec F S1x512x704 .bf16 :=
  View.ld x (Rect.unit (s := S4x512x704) ![p, 0, 0] S1x512x704.size inb)
def wts (p : ℕ) (inb : ∀ a, (![p, 0, 0] : Fin 3 → Nat) a + S1x704x1024.size a ≤ S4x704x1024.size a) (x : Vec F S4x704x1024 .bf16) : Vec F S1x704x1024 .bf16 :=
  View.ld x (Rect.unit (s := S4x704x1024) ![p, 0, 0] S1x704x1024.size inb)

/-- What the body computes of the two products: eight products added one by one. -/
def B (x0 : Vec F S4x512x704 .bf16) (x1 : Vec F S4x704x1024 .bf16) (x2 : Vec F S4x512x704 .bf16) (x3 : Vec F S4x704x1024 .bf16) : FVec F S512x1024 .f32 :=
  k0_pay8 (k0_pay6
      (rows 0 inb_S4x512x704_S1x512x704_0_0_0 x0) (wts 0 inb_S4x704x1024_S1x704x1024_0_0_0 x1)
      (rows 1 inb_S4x512x704_S1x512x704_1_0_0 x0) (wts 1 inb_S4x704x1024_S1x704x1024_1_0_0 x1)
      (rows 2 inb_S4x512x704_S1x512x704_2_0_0 x0) (wts 2 inb_S4x704x1024_S1x704x1024_2_0_0 x1)
      (rows 3 inb_S4x512x704_S1x512x704_3_0_0 x0) (wts 3 inb_S4x704x1024_S1x704x1024_3_0_0 x1))
    (k0_pay7 (rows 0 inb_S4x512x704_S1x512x704_0_0_0 x2)) (wts 0 inb_S4x704x1024_S1x704x1024_0_0_0 x3)
    (rows 1 inb_S4x512x704_S1x512x704_1_0_0 x2) (wts 1 inb_S4x704x1024_S1x704x1024_1_0_0 x3)
    (rows 2 inb_S4x512x704_S1x512x704_2_0_0 x2) (wts 2 inb_S4x704x1024_S1x704x1024_2_0_0 x3)
    (rows 3 inb_S4x512x704_S1x512x704_3_0_0 x2) (wts 3 inb_S4x704x1024_S1x704x1024_3_0_0 x3)

variable (c : Dev nD) (i : grid0.Coords) (arg4 : Memref sig .tc .vmem S4x512x704 .bf16) (harg4 : arg4.IsWhole) (arg5 : Memref sig .tc .vmem S4x704x1024 .bf16) (harg5 : arg5.IsWhole) (arg6 : Memref sig .tc .vmem S4x512x704 .bf16) (harg6 : arg6.IsWhole) (arg7 : Memref sig .tc .vmem S4x704x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x1024 .f32) (harg12 : arg12.IsWhole)
  (x0 : Vec F S4x512x704 .bf16) (x1 : Vec F S4x704x1024 .bf16) (x2 : Vec F S4x512x704 .bf16) (x3 : Vec F S4x704x1024 .bf16) (x4 : Vec F S512x1024 .f32) (x5 : Vec F S512x1024 .f32) (x6 : Vec F S1x1024 .f32)

theorem outA7 (hc0 : cond0_0 i) : out0_A_7 c i arg4 harg4 arg5 harg5 arg6 harg6 arg7 harg7 arg8 harg8 arg9 harg9 arg10 harg10 arg11 harg11 arg12 harg12 hc0 x0 x1 x2 x3 x4 x5 x6
    = k0_pay3 (B x0 x1 x2 x3) x4 x5 x6 (k0_pay9 x4) := by
  unfold out0_A_7
  rw [View.read_writes_eq_canon _ _ _ (cover0_A_7 c i arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg4.read_unread, harg5.read_unread, harg6.read_unread, harg7.read_unread, harg8.read_unread,
    harg9.read_unread, harg10.read_unread, View.ld_unit_zero (S := S512x1024) hz2, View.ld_unit_zero (S := S1x1024) hz2]
  rfl

theorem outB7 (hc0 : ¬cond0_0 i) (xo8 : Vec F S1x1024 .f32) : out0_B_7 c i arg4 harg4 arg5 harg5 arg6 harg6 arg7 harg7 arg8 harg8 arg9 harg9 arg10 harg10 arg11 harg11 arg12 harg12 hc0 x0 x1 x2 x3 x4 x5 x6 xo8
    = k0_pay3 (B x0 x1 x2 x3) x4 x5 x6 (k0_pay9 x4) := by
  unfold out0_B_7
  rw [View.read_writes_eq_canon _ _ _ (cover0_B_7 c i arg4 harg4 arg5 harg5 arg6 harg6 arg7 harg7 arg8 harg8 arg9 harg9 arg10 harg10 arg11 harg11 arg12 harg12 hc0 x0 x1 x2 x3 x4 x5 x6 xo8)]
  unfold kernelRun0_B
  dsimp only
  sl_unfold_words
  rw [View.canon_unit_zero hz2]
  simp only [View.readAt_eq_ld, harg4.read_unread, harg5.read_unread, harg6.read_unread, harg7.read_unread, harg8.read_unread,
    harg9.read_unread, harg10.read_unread, View.ld_unit_zero (S := S512x1024) hz2, View.ld_unit_zero (S := S1x1024) hz2]
  rfl

theorem outA8 (hc0 : cond0_0 i) : out0_A_8 c i arg4 harg4 arg5 harg5 arg6 harg6 arg7 harg7 arg8 harg8 arg9 harg9 arg10 harg10 arg11 harg11 arg12 harg12 hc0 x0 x1 x2 x3 x4 x5 x6
    = k0_pay5 (B x0 x1 x2 x3) x4 (k0_pay9 x4) k0_pay4 := by
  unfold out0_A_8
  rw [View.read_writes_eq_canon _ _ _ (cover0_A_8 c i arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_cons_unit_zero (S := S1x1024) hz2, View.readCov_unit_zero (S := S1x1024) _ hz2]
  simp only [View.readAt_eq_ld, harg4.read_unread, harg5.read_unread, harg6.read_unread, harg7.read_unread, harg8.read_unread,
    harg9.read_unread, harg10.read_unread, View.ld_unit_zero (S := S512x1024) hz2, View.ld_unit_zero (S := S1x1024) hz2]
  rfl

theorem outB8 (hc0 : ¬cond0_0 i) (xo8 : Vec F S1x1024 .f32) : out0_B_8 c i arg4 harg4 arg5 harg5 arg6 harg6 arg7 harg7 arg8 harg8 arg9 harg9 arg10 harg10 arg11 harg11 arg12 harg12 hc0 x0 x1 x2 x3 x4 x5 x6 xo8
    = k0_pay5 (B x0 x1 x2 x3) x4 (k0_pay9 x4) xo8 := by
  unfold out0_B_8
  rw [View.read_writes_eq_canon _ _ _ (cover0_B_8 c i arg4 harg4 arg5 harg5 arg6 harg6 arg7 harg7 arg8 harg8 arg9 harg9 arg10 harg10 arg11 harg11 arg12 harg12 hc0 x0 x1 x2 x3 x4 x5 x6 xo8)]
  unfold kernelRun0_B
  dsimp only
  sl_unfold_words
  rw [View.canon_unit_zero hz2]
  simp only [View.readAt_eq_ld, harg4.read_unread, harg5.read_unread, harg6.read_unread, harg7.read_unread, harg8.read_unread,
    harg9.read_unread, harg10.read_unread, harg12.read_unread, View.ld_unit_zero (S := S512x1024) hz2, View.ld_unit_zero (S := S1x1024) hz2]
  rfl

end

theorem rows_at (n : ℕ) (p : Fin 4) (hp : n = p.val) (inb : ∀ a, (![n, 0, 0] : Fin 3 → Nat) a + S1x512x704.size a ≤ S4x512x704.size a) (x : Vec 𝕀 S4x512x704 .bf16)
    (s : Fin 512) (f : Fin 704) : rows n inb x (ix3 0 s f) = x (ix3 p s f) := by
  subst hp
  refine congrArg x (idx3_ext ?_ ?_ ?_)
  · show p.val + 1 * 0 = p.val; omega
  · exact at_sub _
  · exact at_sub _

theorem wts_at (n : ℕ) (p : Fin 4) (hp : n = p.val) (inb : ∀ a, (![n, 0, 0] : Fin 3 → Nat) a + S1x704x1024.size a ≤ S4x704x1024.size a) (x : Vec 𝕀 S4x704x1024 .bf16)
    (f : Fin 704) (d : Fin 1024) : wts n inb x (ix3 0 f d) = x (ix3 p f d) := by
  subst hp
  refine congrArg x (idx3_ext ?_ ?_ ?_)
  · show p.val + 1 * 0 = p.val; omega
  · exact at_sub _
  · exact at_sub _

/-- One shard's product. -/
theorem part (n : ℕ) (p : Fin 4) (hp : n = p.val) (inb : ∀ a, (![n, 0, 0] : Fin 3 → Nat) a + S1x512x704.size a ≤ S4x512x704.size a)
    (inb' : ∀ a, (![n, 0, 0] : Fin 3 → Nat) a + S1x704x1024.size a ≤ S4x704x1024.size a) (x : Vec 𝕀 S4x512x704 .bf16) (w : Vec 𝕀 S4x704x1024 .bf16)
    (i : S512x1024.Idx) : (∑ f : Fin 704, (rows n inb x (ix3 0 (i 0) f) : EReal) * wts n inb' w (ix3 0 f (i 1)))
      = ∑ f : Fin 704, (x (ix3 p (i 0) f) : EReal) * w (ix3 p f (i 1)) :=
  Finset.sum_congr rfl fun f _ => congrArg₂ (fun a b : EReal => a * b) (rows_at n p hp inb x (i 0) f) (wts_at n p hp inb' w f (i 1))

theorem eight (a0 a1 a2 a3 a4 a5 a6 a7 : Vec 𝕀 S1x512x704 .bf16) (b0 b1 b2 b3 b4 b5 b6 b7 : Vec 𝕀 S1x704x1024 .bf16) (i : S512x1024.Idx) :
    k0_pay8 (k0_pay6 a0 b0 a1 b1 a2 b2 a3 b3) (k0_pay7 a4) b4 a5 b5 a6 b6 a7 b7 i
      = (∑ f : Fin 704, (a0 (ix3 0 (i 0) f) : EReal) * b0 (ix3 0 f (i 1))) + (∑ f : Fin 704, (a1 (ix3 0 (i 0) f) : EReal) * b1 (ix3 0 f (i 1)))
        + (∑ f : Fin 704, (a2 (ix3 0 (i 0) f) : EReal) * b2 (ix3 0 f (i 1))) + (∑ f : Fin 704, (a3 (ix3 0 (i 0) f) : EReal) * b3 (ix3 0 f (i 1)))
        + (∑ f : Fin 704, (a4 (ix3 0 (i 0) f) : EReal) * b4 (ix3 0 f (i 1))) + (∑ f : Fin 704, (a5 (ix3 0 (i 0) f) : EReal) * b5 (ix3 0 f (i 1)))
        + (∑ f : Fin 704, (a6 (ix3 0 (i 0) f) : EReal) * b6 (ix3 0 f (i 1))) + (∑ f : Fin 704, (a7 (ix3 0 (i 0) f) : EReal) * b7 (ix3 0 f (i 1))) := by
  pointwise [k0_pay8, k0_pay7, k0_pay6]

theorem B_at (x0 : Vec 𝕀 S4x512x704 .bf16) (x1 : Vec 𝕀 S4x704x1024 .bf16) (x2 : Vec 𝕀 S4x512x704 .bf16) (x3 : Vec 𝕀 S4x704x1024 .bf16) (i : S512x1024.Idx) :
    B x0 x1 x2 x3 i = (∑ p : Fin 4, ∑ f : Fin 704, (x2 (ix3 p (i 0) f) : EReal) * x3 (ix3 p f (i 1)))
      + ∑ p : Fin 4, ∑ f : Fin 704, (x0 (ix3 p (i 0) f) : EReal) * x1 (ix3 p f (i 1)) := by
  unfold B
  rw [eight]
  rw [part 0 0 rfl, part 1 1 rfl, part 2 2 rfl, part 3 3 rfl, part 0 0 rfl, part 1 1 rfl, part 2 2 rfl, part 3 3 rfl,
    Fin.sum_univ_four, Fin.sum_univ_four, add_comm (_ + _ + _ + _) (_ + _ + _ + _)]
  simp only [add_assoc]

variable (m : (ℓ : Loc nD τ sig) → Buf (Elt 𝕀) ℓ)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![0, t.val, 0] := by decide +kernel
theorem idx3 : ∀ t : Fin grid0.N, win0_3.index t = ![0, 0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![t.val, 0] := by decide +kernel
theorem idx8 : ∀ t : Fin grid0.N, win0_8.index t = ![0, 0] := by decide +kernel

/-- A point's input blocks, by the arrays' indices: row `s` of point `t`'s is row `512 t + s`. -/
theorem blk0 (c : Dev nD) (t : Fin cfg0.N) (p : Fin 4) (s : Fin 512) (f : Fin 704) (s' : Fin 4096) (hs : t.val * 512 + s.val = s'.val) :
    iblk m c 0 t (ix3 p s f) = ar m c main_arg0 (ix3 p s' f) := by
  refine congrArg (ar m c main_arg0) (idx3_ext ?_ ?_ ?_)
  · exact at_all (congrFun (idx0 t) 0) _ _
  · exact at_blk (congrFun (idx0 t) 1) hs
  · exact at_all (congrFun (idx0 t) 2) _ _

theorem blk2 (c : Dev nD) (t : Fin cfg0.N) (p : Fin 4) (s : Fin 512) (f : Fin 704) (s' : Fin 4096) (hs : t.val * 512 + s.val = s'.val) :
    iblk m c 2 t (ix3 p s f) = ar m c main_arg1 (ix3 p s' f) := by
  refine congrArg (ar m c main_arg1) (idx3_ext ?_ ?_ ?_)
  · exact at_all (congrFun (idx2 t) 0) _ _
  · exact at_blk (congrFun (idx2 t) 1) hs
  · exact at_all (congrFun (idx2 t) 2) _ _

theorem blk1 (c : Dev nD) (t : Fin cfg0.N) (p : Fin 4) (f : Fin 704) (d : Fin 1024) :
    iblk m c 1 t (ix3 p f d) = ar m c main_arg2 (ix3 p f d) := by
  refine congrArg (ar m c main_arg2) (idx3_ext ?_ ?_ ?_)
  · exact at_all (congrFun (idx1 t) 0) _ _
  · exact at_all (congrFun (idx1 t) 1) _ _
  · exact at_all (congrFun (idx1 t) 2) _ _

theorem blk3 (c : Dev nD) (t : Fin cfg0.N) (p : Fin 4) (f : Fin 704) (d : Fin 1024) :
    iblk m c 3 t (ix3 p f d) = ar m c main_arg3 (ix3 p f d) := by
  refine congrArg (ar m c main_arg3) (idx3_ext ?_ ?_ ?_)
  · exact at_all (congrFun (idx3 t) 0) _ _
  · exact at_all (congrFun (idx3 t) 1) _ _
  · exact at_all (congrFun (idx3 t) 2) _ _

theorem blk4 (c : Dev nD) (t : Fin cfg0.N) (s : Fin 512) (d : Fin 1024) (s' : Fin 4096) (hs : t.val * 512 + s.val = s'.val) :
    iblk m c 4 t (ix2 s d) = ar m c main_arg4 (ix2 s' d) := by
  refine congrArg (ar m c main_arg4) (idx2_ext ?_ ?_)
  · exact at_blk (congrFun (idx4 t) 0) hs
  · exact at_all (congrFun (idx4 t) 1) _ _

theorem blk6 (c : Dev nD) (t : Fin cfg0.N) (d : Fin 1024) :
    iblk m c 6 t (ix2 0 d) = ar m c main_arg5 (ix2 0 d) := by
  refine congrArg (ar m c main_arg5) (idx2_ext ?_ ?_)
  · show win0_6.index t (0 : Fin 2) * 1 + 1 * 0 = 0; rw [show win0_6.index t (0 : Fin 2) = 0 from congrFun (idx6 t) 0]
  · exact at_all (congrFun (idx6 t) 1) _ _

/-- The block's two products are the array's. -/
theorem B_blk (c : Dev nD) (t : Fin cfg0.N) (s : Fin 512) (d : Fin 1024) (s' : Fin 4096) (hs : t.val * 512 + s.val = s'.val) :
    B (iblk m c 0 t) (iblk m c 1 t) (iblk m c 2 t) (iblk m c 3 t) (ix2 s d)
      = D (ar m c main_arg0) (ar m c main_arg1) (ar m c main_arg2) (ar m c main_arg3) s' d := by
  rw [B_at]
  unfold D
  refine congrArg₂ _ ?_ ?_ <;> refine Finset.sum_congr rfl fun p _ => Finset.sum_congr rfl fun f _ => ?_
  · exact congrArg₂ (fun a b : EReal => a * b) (blk2 m c t p s f s' hs) (blk3 m c t p f d)
  · exact congrArg₂ (fun a b : EReal => a * b) (blk0 m c t p s f s' hs) (blk1 m c t p f d)

/-- A row's share of the gains' gradient, by the arrays. -/
abbrev share (c : Dev nD) (d : Fin 1024) (s : Fin 4096) : EReal :=
  Norm.dn (D (ar m c main_arg0) (ar m c main_arg1) (ar m c main_arg2) (ar m c main_arg3) s)
    (fun d => ar m c main_arg4 (ix2 s d)) d

theorem share_blk (c : Dev nD) (t : Fin cfg0.N) (d : Fin 1024) (s : Fin 512) : ∃ h : t.val * 512 + s.val < 4096,
    Norm.dn (fun d => B (iblk m c 0 t) (iblk m c 1 t) (iblk m c 2 t) (iblk m c 3 t) (ix2 s d)) (fun d => iblk m c 4 t (ix2 s d)) d
      = share m c d ⟨t.val * 512 + s.val, h⟩ := by
  have ht : t.val < 8 := Nat.lt_of_lt_of_eq t.isLt N_0
  have hs := s.isLt
  refine ⟨by omega, congrArg₂ (Norm.dn · · d) (funext fun d => ?_) (funext fun d => ?_)⟩
  · exact B_blk m c t s d _ rfl
  · exact blk4 m c t s d _ rfl

/-- After point `n` the gains' block holds the first `512 (n + 1)` rows' shares. -/
theorem after (c : Dev nD) (i : S1x1024.Idx) : ∀ (n : ℕ) (h : n < cfg0.N),
    (outsAt0 m c n h).2 i = Norm.upto (share m c (i 1)) ((n + 1) * 512)
  | 0, h => by
    rw [outsAt0_A m c ⟨0, h⟩ rfl]
    dsimp only
    rw [outA8, pay5, pay4]
    have e := Norm.upto_add (share m c (i 1)) 0 512
      (fun s => Norm.dn (fun d => B (iblk m c 0 ⟨0, h⟩) (iblk m c 1 ⟨0, h⟩) (iblk m c 2 ⟨0, h⟩) (iblk m c 3 ⟨0, h⟩) (ix2 s d))
        (fun d => iblk m c 4 ⟨0, h⟩ (ix2 s d)) (i 1)) fun s => ?_
    · rw [Norm.upto_zero] at e
      exact e.symm
    obtain ⟨h1, e⟩ := share_blk m c ⟨0, h⟩ (i 1) s
    have h0 : (⟨0, h⟩ : Fin cfg0.N).val * 512 + s.val = 0 + s.val := by rw [Nat.zero_mul]
    exact ⟨h0 ▸ h1, e.trans (congrArg _ (Fin.ext h0))⟩
  | n + 1, h => by
    have hN : cfg0.N = 8 := N_0
    have hB : ¬(⟨n + 1, h⟩ : Fin cfg0.N).val % 8 = 0 := by dsimp only; omega
    rw [outsAt0_B m c ⟨n + 1, h⟩ hB]
    dsimp only
    rw [outB8, pay5, Nat.succ_mul (n + 1) 512, Norm.upto_add _ _ 512 _ fun s => share_blk m c ⟨n + 1, h⟩ (i 1) s]
    exact congrArg (· + _) (after c i n (Nat.lt_of_succ_lt h))

theorem out7_eq (c : Dev nD) (t : Fin cfg0.N) : (outsAt0 m c t.val t.isLt).1
    = k0_pay3 (B (iblk m c 0 t) (iblk m c 1 t) (iblk m c 2 t) (iblk m c 3 t)) (iblk m c 4 t) (iblk m c 5 t) (iblk m c 6 t) (k0_pay9 (iblk m c 4 t)) := by
  by_cases h0 : t.val % 8 = 0
  · rw [outsAt0_A m c t h0]; dsimp only; rw [outA7]
  · rw [outsAt0_B m c t h0]; dsimp only; rw [outB7]

abbrev resX (c : Dev nD) : FVec 𝕀 S4096x1024 .f32 :=
  GX (ar m c main_arg0) (ar m c main_arg1) (ar m c main_arg2) (ar m c main_arg3)
    (ar m c main_arg4) (ar m c main_arg5) (ar m c main_arg6)
abbrev resN (c : Dev nD) : FVec 𝕀 S1x1024 .f32 :=
  GN (ar m c main_arg0) (ar m c main_arg1) (ar m c main_arg2) (ar m c main_arg3)
    (ar m c main_arg4)

theorem flushedX (c : Dev nD) (t : Fin cfg0.N) (hf : (cfg0.win 7).flush t = true) :
    (dats m 0 c).flushed 7 t = ((cfg0.win 7).blk t).view.read (Elt 𝕀) (resX m c) := by
  rw [Kernel2Ideal.Value.flushed7, out7_eq]
  funext y
  have h0 : t.val * 512 + (y 0).val = (((cfg0.win 7).blk t).view.emb y 0).val := (at_blk (congrFun (idx7 t) 0) rfl).symm
  have h1 : (y 1).val = (((cfg0.win 7).blk t).view.emb y 1).val := (at_all (congrFun (idx7 t) 1) _ _).symm
  show k0_pay3 (B (iblk m c 0 t) (iblk m c 1 t) (iblk m c 2 t) (iblk m c 3 t)) (iblk m c 4 t) (iblk m c 5 t) (iblk m c 6 t) (k0_pay9 (iblk m c 4 t)) y
    = resX m c (((cfg0.win 7).blk t).view.emb y)
  rw [pay3]
  have e1 : (((cfg0.win 7).blk t).view.emb y 1) = y 1 := Fin.ext h1.symm
  show _ = Norm.dx _ _ _ (((cfg0.win 7).blk t).view.emb y 1) _
  rw [e1]
  have e5 : iblk m c 5 t y = ar m c main_arg6 (((cfg0.win 7).blk t).view.emb y) := by
    refine congrArg (ar m c main_arg6) (idx2_ext ?_ ?_)
    · refine Eq.trans ?_ h0
      exact at_blk (congrFun (idx5 t) 0) rfl
    · refine Eq.trans ?_ h1
      exact at_all (congrFun (idx5 t) 1) _ _
  have eB := funext fun d => B_blk m c t (y 0) d (((cfg0.win 7).blk t).view.emb y 0) h0
  have e4 := funext fun d => blk4 m c t (y 0) d (((cfg0.win 7).blk t).view.emb y 0) h0
  have e6 := funext fun d => blk6 m c t d
  rw [e5]
  exact congr (congrFun (congr (congr (congrArg Norm.dx eB) e4) e6) (y 1)) rfl

theorem finalX (c : Dev nD) : (dats m 0 c).arrAt 7 cfg0.N = resX m c :=
  (dats m 0 c).arrAt_eq_of_cover 7 _ (fun t hf => flushedX m c t hf) (fun i => by
    have h0 : (i 0 : Nat) < 4096 := (i 0).isLt
    have hN : (i 0 : Nat) / 512 < cfg0.N := by rw [show cfg0.N = 8 from N_0]; omega
    refine ⟨⟨(i 0 : Nat) / 512, hN⟩, flush0_7 _, in_slice fun a => ?_⟩
    match a with
    | ⟨0, _⟩ => exact in_blk (congrFun (idx7 _) 0) (Nat.succ_pos _)
    | ⟨1, _⟩ => exact in_all (congrFun (idx7 _) 1) (i 1).isLt)

theorem flushedN (c : Dev nD) (t : Fin cfg0.N) (hf : (cfg0.win 8).flush t = true) :
    (dats m 0 c).flushed 8 t = ((cfg0.win 8).blk t).view.read (Elt 𝕀) (resN m c) := by
  have hN : cfg0.N = 8 := N_0
  have h7 : t.val = 7 := by have := (flush0_8 t).mp hf; have := t.isLt; omega
  rw [Kernel2Ideal.Value.flushed8]
  funext y
  have h1 : (((cfg0.win 8).blk t).view.emb y) = y := by
    refine idx2_ext ?_ ?_
    · exact at_all (congrFun (idx8 t) 0) _ _
    · exact at_all (congrFun (idx8 t) 1) _ _
  show (outsAt0 m c t.val t.isLt).2 y = resN m c (((cfg0.win 8).blk t).view.emb y)
  rw [h1, after, h7]
  exact Norm.upto_all _

theorem finalN (c : Dev nD) : (dats m 0 c).arrAt 8 cfg0.N = resN m c :=
  (dats m 0 c).arrAt_eq_of_cover 8 _ (fun t hf => flushedN m c t hf) (fun i => by
    have hN : 7 < cfg0.N := by rw [show cfg0.N = 8 from N_0]; decide
    refine ⟨⟨7, hN⟩, (flush0_8 _).mpr rfl, in_slice fun a => ?_⟩
    match a with
    | ⟨0, _⟩ => exact in_all (congrFun (idx8 _) 0) (i 0).isLt
    | ⟨1, _⟩ => exact in_all (congrFun (idx8 _) 1) (i 1).isLt)

theorem same : @algebraic_Kernel2Ideal_Reference2Ideal Kernel2Ideal.Gen.facts Reference2Ideal.Gen.facts := by
  intro m g m' g' _ hargs
  refine ⟨fun c => resX m c, fun c => resN m c, ?_, ?_⟩
  · refine (θ_run _ _ _).mono ?_ (Kernel2Ideal.Value.run_blocks m g)
    intro r h c
    exact ⟨(h c).1.trans (finalX m c), (h c).2.1.trans (finalN m c), (h c).2.2⟩
  · refine (θ_run _ _ _).mono ?_ (Reference2Ideal.Value.run m' g')
    intro r h c
    obtain ⟨e0, e1, e2, e3, e4, e5, e6⟩ := hargs c
    have eX := (h c).1
    have eN := (h c).2.1
    rw [refX] at eX
    simp only [ar, e0, e1, e2, e3, e4, e5, e6] at eX
    rw [e0, e1, e2, e3, e4] at eN
    refine ⟨eX, eN.trans ?_, (h c).2.2⟩
    funext i
    pointwise [resN, GN, D, Norm.dn, Norm.ms]
    simp only [Norm.div_len]

theorem frame_ref : @quiescent_Reference2Ideal Reference2Ideal.Gen.facts := fun m g _ =>
  (θ_run _ _ _).mono (fun r h => ⟨fun c => (h c).2.2, sem_eq_zero_of_no_sems (by decide) r.2⟩) (Reference2Ideal.Value.run m g)

end Cert.Proof.DxNorm

end
-- ==== Proof.Ffn.GateDw.lean ====
module

public import proofs.«01_k».proof.Proof.Gen.Kernel3Ideal.Value
public import proofs.«01_k».proof.Proof.Gen.Reference3Ideal.Run
public import proofs.«01_k».proof.Defs
public import proofs.«01_k».proof.Proof.Ffn.Index

@[expose] public section

noncomputable section

/-! The weight gradient of the gate's (and of the up) product: each point makes one shard's gradient. -/

namespace Cert.Proof.GateDw

open Cert.Reference3Ideal Cert.Reference3Ideal.Gen
open Idealize.ShloMosaic

/-- Shard `p`'s gradient at row `f` and column `d`: the sum over the sequence. -/
def G (a : FVec 𝕀 S4x4096x704 .bf16) (b : FVec 𝕀 S4096x1024 .bf16) : FVec 𝕀 S4x704x1024 .bf16 :=
  fun i => ∑ s : Fin 4096, (a (ix3 (i 0) s (i 1)) : EReal) * b (ix2 s (i 2))

theorem ref (a : FVec 𝕀 S4x4096x704 .bf16) (b : FVec 𝕀 S4096x1024 .bf16) :
    truncf .bf16 (Host.dotGeneral dot_S4x704x4096_S4096x1024_S4x704x1024_2_0_01_1_n_n none
      (transpose S4x704x4096 [0, 2, 1] (extf .f32 a bitsLt_bf16_f32) transposes_S4x4096x704_S4x704x4096_0_2_1)
      (extf .f32 b bitsLt_bf16_f32)) bitsLt_bf16_f32 = G a b := by
  funext i
  pointwise [G]

end Cert.Proof.GateDw

namespace Cert.Proof.GateDw

open Cert.Kernel3Ideal Cert.Kernel3Ideal.Gen
open Idealize.ShloMosaic Idealize.ShloMosaic.TcCoe Idealize.SL.Sem

theorem pay (x : FVec 𝕀 S1x4096x704 .bf16) (y : FVec 𝕀 S4096x1024 .bf16) (i : S1x704x1024.Idx) :
    k0_pay1 x y i = ∑ s : Fin 4096, (x (ix3 0 s (i 1)) : EReal) * y (ix2 s (i 2)) := by
  pointwise [k0_pay1]

variable (m : (ℓ : Loc nD τ sig) → Buf (Elt 𝕀) ℓ)

theorem idx0 : ∀ t : Fin grid0.N, win0_0.index t = ![t.val, 0, 0] := by decide +kernel
theorem idx1 : ∀ t : Fin grid0.N, win0_1.index t = ![0, 0] := by decide +kernel
theorem idx2 : ∀ t : Fin grid0.N, win0_2.index t = ![t.val, 0, 0] := by decide +kernel
theorem flush2 : ∀ q : Fin 4, ∃ t : Fin cfg0.N, (cfg0.win 2).flush t = true ∧ t.val = q.val :=
  (by decide +kernel : ∀ q : Fin 4, ∃ t : Fin grid0.N, win0_2.flush t = true ∧ t.val = q.val)

theorem flushed_eq (c : Dev nD) (t : Fin cfg0.N) : (dats m 0 c).flushed 2 t
    = ((cfg0.win 2).blk t).view.read (Elt 𝕀) (G (ar m c main_arg0) (ar m c main_arg1)) := by
  rw [Kernel3Ideal.Value.flushed2]
  unfold out0_2
  rw [View.canon_unit_zero hz3, View.ld_unit_zero hz3, View.ld_unit_zero hz2]
  funext y
  have hy0 : (y 0).val < 1 := (y 0).isLt
  have hb0 : (((cfg0.win 2).blk t).view.emb y 0).val = t.val * 1 + 1 * (y 0).val := by
    show win0_2.index t (0 : Fin 3) * 1 + 1 * (y 0).val = _; rw [idx2]; rfl
  have hb1 : (((cfg0.win 2).blk t).view.emb y 1).val = 0 * 704 + 1 * (y 1).val := by
    show win0_2.index t (1 : Fin 3) * 704 + 1 * (y 1).val = _; rw [idx2]; rfl
  have hb2 : (((cfg0.win 2).blk t).view.emb y 2).val = 0 * 1024 + 1 * (y 2).val := by
    show win0_2.index t (2 : Fin 3) * 1024 + 1 * (y 2).val = _; rw [idx2]; rfl
  show k0_pay1 (iblk m c 0 t) (iblk m c 1 t) y
    = G (ar m c main_arg0) (ar m c main_arg1) (((cfg0.win 2).blk t).view.emb y)
  rw [pay]
  unfold G
  refine Finset.sum_congr rfl fun s _ => ?_
  have h0 : iblk m c 0 t (ix3 0 s (y 1)) = ar m c main_arg0
      (ix3 (((cfg0.win 2).blk t).view.emb y 0) s (((cfg0.win 2).blk t).view.emb y 1)) := by
    refine congrArg (ar m c main_arg0) (idx3_ext ?_ ?_ ?_)
    · refine Eq.trans ?_ hb0.symm
      show win0_0.index t (0 : Fin 3) * 1 + 1 * 0 = _; rw [idx0]; show t.val * 1 + 1 * 0 = _; omega
    · show win0_0.index t (1 : Fin 3) * 4096 + 1 * s.val = _; rw [idx0]; show 0 * 4096 + 1 * s.val = s.val; omega
    · refine Eq.trans ?_ hb1.symm
      show win0_0.index t (2 : Fin 3) * 704 + 1 * (y 1).val = _; rw [idx0]; rfl
  have h1 : iblk m c 1 t (ix2 s (y 2)) = ar m c main_arg1 (ix2 s (((cfg0.win 2).blk t).view.emb y 2)) := by
    refine congrArg (ar m c main_arg1) (idx2_ext ?_ ?_)
    · show win0_1.index t (0 : Fin 2) * 4096 + 1 * s.val = _; rw [idx1]; show 0 * 4096 + 1 * s.val = s.val; omega
    · refine Eq.trans ?_ hb2.symm
      show win0_1.index t (1 : Fin 2) * 1024 + 1 * (y 2).val = _; rw [idx1]; rfl
  rw [h0, h1]

theorem final (c : Dev nD) : (dats m 0 c).arrAt 2 cfg0.N
    = G (ar m c main_arg0) (ar m c main_arg1) :=
  (dats m 0 c).arrAt_eq_of_cover 2 _ (fun t hf => flushed_eq m c t) (fun i => by
    obtain ⟨t, hft, ht⟩ := flush2 (i 0)
    refine ⟨t, hft, in_slice fun a => ?_⟩
    match a with
    | ⟨0, _⟩ => exact in_blk ((congrFun (idx2 t) 0).trans (ht.trans (Nat.div_one _).symm)) (Nat.succ_pos _)
    | ⟨1, _⟩ => exact in_all (congrFun (idx2 t) 1) (i 1).isLt
    | ⟨2, _⟩ => exact in_all (congrFun (idx2 t) 2) (i 2).isLt)

theorem same : @algebraic_Kernel3Ideal_Reference3Ideal Kernel3Ideal.Gen.facts Reference3Ideal.Gen.facts := by
  intro m g m' g' _ hargs
  refine ⟨fun c => G (ar m c main_arg0) (ar m c main_arg1), ?_, ?_⟩
  · refine (θ_run _ _ _).mono ?_ (Kernel3Ideal.Value.run_blocks m g)
    intro r h c
    exact ⟨(h c).1.trans (final m c), (h c).2⟩
  · refine (θ_run _ _ _).mono ?_ (Reference3Ideal.Value.run m' g')
    intro r h c
    obtain ⟨e0, e1, -⟩ := hargs c
    have e := (h c).1
    rw [e0, e1] at e
    exact ⟨e.trans (ref _ _), (h c).2⟩

theorem frame_ref : @quiescent_Reference3Ideal Reference3Ideal.Gen.facts := fun m g _ =>
  (θ_run _ _ _).mono (fun r h => ⟨fun c => (h c).2, sem_eq_zero_of_no_sems (by decide) r.2⟩) (Reference3Ideal.Value.run m g)

end Cert.Proof.GateDw

end
-- ==== Proof.Ffn.DownDw.lean ====
module

public import proofs.«01_k».proof.Proof.Gen.Kernel4Ideal.Value
public import proofs.«01_k».proof.Proof.Gen.Reference4Ideal.Run
public import proofs.«01_k».proof.Defs
public import proofs.«01_k».proof.Proof.Ffn.Index
public import Idealize.ShloMosaic.Lib.Pipeline.ValueKit.Acc

@[expose] public section

noncomputable section

/-! The weight gradient of the down product: two points make one shard's gradient, half the sequence each. -/

namespace Cert.Proof.DownDw

open Cert.Reference4Ideal Cert.Reference4Ideal.Gen
open Idealize.ShloMosaic

/-- Shard `p`'s gradient at row `f` and column `d`: the sum over the sequence. -/
def G (a : FVec 𝕀 S4x4096x704 .bf16) (b : FVec 𝕀 S4096x1024 .f32) : FVec 𝕀 S4x704x1024 .bf16 :=
  fun i => ∑ s : Fin 4096, (a (ix3 (i 0) s (i 1)) : EReal) * b (ix2 s (i 2))

theorem ref (a : FVec 𝕀 S4x4096x704 .bf16) (b : FVec 𝕀 S4096x1024 .f32) :
    truncf .bf16 (transpose S4x704x1024 [1, 2, 0] (Host.dotGeneral dot_S4096x1024_S4x4096x704_S1024x4x704_0_1_1_02_n_n none b
      (extf .f32 a bitsLt_bf16_f32)) transposes_S1024x4x704_S4x704x1024_1_2_0) bitsLt_bf16_f32 = G a b := by
  funext i
  pointwise [G]
  exact Finset.sum_congr rfl fun s _ => mul_comm _ _

end Cert.Proof.DownDw

namespace Cert.Proof.DownDw

open Cert.Kernel4Ideal Cert.Kernel4Ideal.Gen
open Idealize.ShloMosaic Idealize.ShloMosaic.TcCoe Idealize.SL.Sem

section
variable {F : FTy → Type} [FloatOps F]

/-- The first of a shard's two points leaves its half's sum in the scratch. -/
theorem first (c : Dev nD) (i : grid0.Coords) (arg4 : Memref sig .tc .vmem S1x2048x704 .bf16) (harg4 : arg4.IsWhole)
    (arg5 : Memref sig .tc .vmem S2048x1024 .f32) (harg5 : arg5.IsWhole) (arg6 : Memref sig .tc .vmem S1x704x1024 .bf16) (harg6 : arg6.IsWhole)
    (arg7 : Memref sig .tc .vmem S704x1024 .f32) (harg7 : arg7.IsWhole) (hc0 : cond0_0 i) (hc1 : ¬cond0_1 i) (hc2 : ¬cond0_2 i)
    (x0 : Vec F S1x2048x704 .bf16) (x1 : Vec F S2048x1024 .f32) :
    sout0_A_0 c i arg4 harg4 arg5 harg5 arg6 harg6 arg7 harg7 hc0 hc1 hc2 x0 x1 = k0_pay2 x0 x1 := by
  unfold sout0_A_0
  rw [View.read_writes_eq_canon _ _ _ (scover0_A_0 c i arg4 harg4 arg5 harg5 arg6 harg6 arg7 harg7 hc0 hc1 hc2 x0 x1)]
  unfold kernelRun0_A
  dsimp only
  rw [View.canon_unit_zero hz2]
  simp only [View.readAt_eq_ld, harg4.read_unread, harg5.read_unread, View.ld_unit_zero (S := S1x2048x704) hz3,
    View.ld_unit_zero (S := S2048x1024) hz2]

/-- The second adds its half's and stores the whole. -/
theorem second (c : Dev nD) (i : grid0.Coords) (arg4 : Memref sig .tc .vmem S1x2048x704 .bf16) (harg4 : arg4.IsWhole)
    (arg5 : Memref sig .tc .vmem S2048x1024 .f32) (harg5 : arg5.IsWhole) (arg6 : Memref sig .tc .vmem S1x704x1024 .bf16) (harg6 : arg6.IsWhole)
    (arg7 : Memref sig .tc .vmem S704x1024 .f32) (harg7 : arg7.IsWhole) (hc0 : ¬cond0_0 i) (hc1 : cond0_1 i) (hc2 : cond0_2 i)
    (x0 : Vec F S1x2048x704 .bf16) (x1 : Vec F S2048x1024 .f32) (xs0 : Vec F S704x1024 .f32) :
    out0_B_2 c i arg4 harg4 arg5 harg5 arg6 harg6 arg7 harg7 hc0 hc1 hc2 x0 x1 xs0 = k0_pay4 (k0_pay3 x0 x1 xs0) := by
  unfold out0_B_2
  rw [View.read_writes_eq_canon _ _ _ (cover0_B_2 c i arg4 harg4 arg5 harg5 arg6 harg6 arg7 harg7 hc0 hc1 hc2 x0 x1 xs0)]
  unfold kernelRun0_B
  dsimp only
  sl_unfold_words
  rw [View.canon_unit_zero hz3, View.readCov_unit_zero (S := S704x1024) _ hz2]
  simp only [View.readAt_eq_ld, harg4.read_unread, harg5.read_unread, harg7.read_unread, View.ld_unit_zero (S := S1x2048x704) hz3,
    View.ld_unit_zero (S := S2048x1024) hz2, View.ld_unit_zero (S := S704x1024) hz2]

end

theorem pay (x x' : FVec 𝕀 S1x2048x704 .bf16) (y y' : FVec 𝕀 S2048x1024 .f32) (i : S1x704x1024.Idx) :
    k0_pay4 (k0_pay3 x' y' (k0_pay2 x y)) i = (∑ s : Fin 2048, (x (ix3 0 s (i 1)) : EReal) * y (ix2 s (i 2)))
      + ∑ s : Fin 2048, (x' (ix3 0 s (i 1)) : EReal) * y' (ix2 s (i 2)) := by
  pointwise [k0_pay4, k0_pay3, k0_pay2, k0_pay1]

/-- A sum over the sequence is the two halves'. -/
theorem halves (f : Fin 4096 → EReal) : ∑ s : Fin 4096, f s
    = (∑ s : Fin 2048, f ⟨s.val, by omega⟩) + ∑ s : Fin 2048, f ⟨2048 + s.val, by omega⟩ :=
  Fin.sum_univ_add (a := 2048) (b := 2048) f

variable (m : (ℓ : Loc nD τ sig) → Buf (Elt 𝕀) ℓ)

theorem idx0 : ∀ t : Fin grid0.N, win0_0.index t = ![t.val / 2, t.val % 2, 0] := by decide +kernel
theorem idx1 : ∀ t : Fin grid0.N, win0_1.index t = ![t.val % 2, 0] := by decide +kernel
theorem idx2 : ∀ t : Fin grid0.N, win0_2.index t = ![t.val / 2, 0, 0] := by decide +kernel

/-- A point's two input blocks, by the arrays' indices. -/
theorem blk0 (c : Dev nD) (t : Fin cfg0.N) (s : Fin 2048) (f : Fin 704) (p : Fin 4) (s' : Fin 4096) (f' : Fin 704)
    (hp : t.val / 2 = p.val) (hs : t.val % 2 * 2048 + s.val = s'.val) (hf : f.val = f'.val) :
    iblk m c 0 t (ix3 0 s f) = ar m c main_arg0 (ix3 p s' f') := by
  refine congrArg (ar m c main_arg0) (idx3_ext ?_ ?_ ?_)
  · show win0_0.index t (0 : Fin 3) * 1 + 1 * 0 = p.val; rw [idx0]; show t.val / 2 * 1 + 1 * 0 = p.val; omega
  · exact at_blk (congrFun (idx0 t) 1) hs
  · show win0_0.index t (2 : Fin 3) * 704 + 1 * f.val = f'.val; rw [idx0]; show 0 * 704 + 1 * f.val = f'.val; rw [Nat.zero_mul, Nat.zero_add, Nat.one_mul]; exact hf

theorem blk1 (c : Dev nD) (t : Fin cfg0.N) (s : Fin 2048) (d : Fin 1024) (s' : Fin 4096) (d' : Fin 1024)
    (hs : t.val % 2 * 2048 + s.val = s'.val) (hd : d.val = d'.val) :
    iblk m c 1 t (ix2 s d) = ar m c main_arg1 (ix2 s' d') := by
  refine congrArg (ar m c main_arg1) (idx2_ext ?_ ?_)
  · exact at_blk (congrFun (idx1 t) 0) hs
  · show win0_1.index t (1 : Fin 2) * 1024 + 1 * d.val = d'.val; rw [idx1]; show 0 * 1024 + 1 * d.val = d'.val; rw [Nat.zero_mul, Nat.zero_add, Nat.one_mul]; exact hd

theorem flushed_eq (c : Dev nD) (t : Fin cfg0.N) (hf : (cfg0.win 2).flush t = true) : (dats m 0 c).flushed 2 t
    = ((cfg0.win 2).blk t).view.read (Elt 𝕀) (G (ar m c main_arg0) (ar m c main_arg1)) := by
  have h1 : t.val % 2 = 1 := (flush0_2 t).mp hf
  have h0 : ¬t.val % 2 = 0 := by omega
  have hb : t.val - 1 < cfg0.N := Nat.lt_of_le_of_lt (Nat.sub_le _ _) t.isLt
  have g0 : (⟨t.val - 1, hb⟩ : Fin cfg0.N).val % 2 = 0 := by show (t.val - 1) % 2 = 0; omega
  have g1 : ¬(⟨t.val - 1, hb⟩ : Fin cfg0.N).val % 2 = 1 := by omega
  rw [Kernel4Ideal.Value.flushed2_B m c t h0 h1 h1, second, outsAt0_A m c ⟨t.val - 1, hb⟩ g0 g1 g1]
  dsimp only
  rw [first]
  funext y
  have hy0 : (y 0).val < 1 := (y 0).isLt
  have hb0 : (((cfg0.win 2).blk t).view.emb y 0).val = t.val / 2 * 1 + 1 * (y 0).val := by
    show win0_2.index t (0 : Fin 3) * 1 + 1 * (y 0).val = _; rw [idx2]; rfl
  have hb1 : (((cfg0.win 2).blk t).view.emb y 1).val = 0 * 704 + 1 * (y 1).val := by
    show win0_2.index t (1 : Fin 3) * 704 + 1 * (y 1).val = _; rw [idx2]; rfl
  have hb2 : (((cfg0.win 2).blk t).view.emb y 2).val = 0 * 1024 + 1 * (y 2).val := by
    show win0_2.index t (2 : Fin 3) * 1024 + 1 * (y 2).val = _; rw [idx2]; rfl
  show k0_pay4 (k0_pay3 (iblk m c 0 t) (iblk m c 1 t) (k0_pay2 (iblk m c 0 ⟨t.val - 1, hb⟩) (iblk m c 1 ⟨t.val - 1, hb⟩))) y
    = G (ar m c main_arg0) (ar m c main_arg1) (((cfg0.win 2).blk t).view.emb y)
  rw [pay]
  unfold G
  rw [halves]
  congr 1 <;> refine Finset.sum_congr rfl fun s _ => ?_
  · rw [blk0 m c _ s (y 1) (((cfg0.win 2).blk t).view.emb y 0) ⟨s.val, by omega⟩ (((cfg0.win 2).blk t).view.emb y 1)
        (by show (t.val - 1) / 2 = _; omega) (by show (t.val - 1) % 2 * 2048 + s.val = s.val; omega) (by omega),
      blk1 m c _ s (y 2) ⟨s.val, by omega⟩ (((cfg0.win 2).blk t).view.emb y 2)
        (by show (t.val - 1) % 2 * 2048 + s.val = s.val; omega) (by omega)]
  · rw [blk0 m c _ s (y 1) (((cfg0.win 2).blk t).view.emb y 0) ⟨2048 + s.val, by omega⟩ (((cfg0.win 2).blk t).view.emb y 1)
        (by omega) (by show t.val % 2 * 2048 + s.val = 2048 + s.val; omega) (by omega),
      blk1 m c _ s (y 2) ⟨2048 + s.val, by omega⟩ (((cfg0.win 2).blk t).view.emb y 2)
        (by show t.val % 2 * 2048 + s.val = 2048 + s.val; omega) (by omega)]

theorem final (c : Dev nD) : (dats m 0 c).arrAt 2 cfg0.N
    = G (ar m c main_arg0) (ar m c main_arg1) :=
  (dats m 0 c).arrAt_eq_of_cover 2 _ (fun t hf => flushed_eq m c t hf) (fun i => (Kernel4Ideal.Value.covered_iff2 i).2
    ⟨Nat.zero_le _, (i 0).isLt, Nat.zero_le _, (i 1).isLt, Nat.zero_le _, (i 2).isLt⟩)

theorem same : @algebraic_Kernel4Ideal_Reference4Ideal Kernel4Ideal.Gen.facts Reference4Ideal.Gen.facts := by
  intro m g m' g' _ hargs
  refine ⟨fun c => G (ar m c main_arg0) (ar m c main_arg1), ?_, ?_⟩
  · refine (θ_run _ _ _).mono ?_ (Kernel4Ideal.Value.run_blocks m g)
    intro r h c
    exact ⟨(h c).1.trans (final m c), (h c).2⟩
  · refine (θ_run _ _ _).mono ?_ (Reference4Ideal.Value.run m' g')
    intro r h c
    obtain ⟨e0, e1, -⟩ := hargs c
    have e := (h c).1
    rw [e0, e1] at e
    exact ⟨e.trans (ref _ _), (h c).2⟩

theorem frame_ref : @quiescent_Reference4Ideal Reference4Ideal.Gen.facts := fun m g _ =>
  (θ_run _ _ _).mono (fun r h => ⟨fun c => (h c).2, sem_eq_zero_of_no_sems (by decide) r.2⟩) (Reference4Ideal.Value.run m g)

end Cert.Proof.DownDw

end
-- ==== Proof.Ffn.DownDx.lean ====
module

public import proofs.«01_k».proof.Proof.Gen.Kernel5Ideal.Value
public import proofs.«01_k».proof.Proof.Gen.Reference5Ideal.Run
public import proofs.«01_k».proof.Defs
public import proofs.«01_k».proof.Proof.Ffn.Index

@[expose] public section

noncomputable section

/-! The gradient of the down product's input: each point makes 2048 rows of one shard. -/

namespace Cert.Proof.DownDx

open Cert.Reference5Ideal Cert.Reference5Ideal.Gen
open Idealize.ShloMosaic

/-- Shard `p`'s gradient at row `s` and column `f`: the sum over the model's width. -/
def G (a : FVec 𝕀 S4096x1024 .f32) (b : FVec 𝕀 S4x704x1024 .bf16) : FVec 𝕀 S4x4096x704 .bf16 :=
  fun i => ∑ d : Fin 1024, (a (ix2 (i 1) d) : EReal) * b (ix3 (i 0) (i 2) d)

theorem ref (a : FVec 𝕀 S4096x1024 .f32) (b : FVec 𝕀 S4x704x1024 .bf16) :
    truncf .bf16 (transpose S4x4096x704 [1, 0, 2] (Host.dotGeneral dot_S4096x1024_S4x704x1024_S4096x4x704_1_2_0_01_n_n none a
      (extf .f32 b bitsLt_bf16_f32)) transposes_S4096x4x704_S4x4096x704_1_0_2) bitsLt_bf16_f32 = G a b := by
  funext i
  pointwise [G]

end Cert.Proof.DownDx

namespace Cert.Proof.DownDx

open Cert.Kernel5Ideal Cert.Kernel5Ideal.Gen
open Idealize.ShloMosaic Idealize.ShloMosaic.TcCoe Idealize.SL.Sem

theorem pay (x : FVec 𝕀 S2048x1024 .f32) (y : FVec 𝕀 S1x704x1024 .bf16) (i : S1x2048x704.Idx) :
    k0_pay1 x y i = ∑ d : Fin 1024, (x (ix2 (i 1) d) : EReal) * y (ix3 0 (i 2) d) := by
  pointwise [k0_pay1]

variable (m : (ℓ : Loc nD τ sig) → Buf (Elt 𝕀) ℓ)

theorem idx0 : ∀ t : Fin grid0.N, win0_0.index t = ![t.val / 4, 0] := by decide +kernel
theorem idx1 : ∀ t : Fin grid0.N, win0_1.index t = ![t.val % 4, 0, 0] := by decide +kernel
theorem idx2 : ∀ t : Fin grid0.N, win0_2.index t = ![t.val % 4, t.val / 4, 0] := by decide +kernel
theorem flush2 : ∀ (q : Fin 4) (k : Fin 2), ∃ t : Fin cfg0.N, (cfg0.win 2).flush t = true ∧ t.val = 4 * k.val + q.val :=
  (by decide +kernel : ∀ (q : Fin 4) (k : Fin 2), ∃ t : Fin grid0.N, win0_2.flush t = true ∧ t.val = 4 * k.val + q.val)

theorem flushed_eq (c : Dev nD) (t : Fin cfg0.N) : (dats m 0 c).flushed 2 t
    = ((cfg0.win 2).blk t).view.read (Elt 𝕀) (G (ar m c main_arg1) (ar m c main_arg2)) := by
  rw [Kernel5Ideal.Value.flushed2]
  unfold out0_2
  rw [View.canon_unit_zero hz3, View.ld_unit_zero hz2, View.ld_unit_zero hz3]
  funext y
  have hy0 : (y 0).val < 1 := (y 0).isLt
  have hb0 : (((cfg0.win 2).blk t).view.emb y 0).val = t.val % 4 * 1 + 1 * (y 0).val := by
    show win0_2.index t (0 : Fin 3) * 1 + 1 * (y 0).val = _; rw [idx2]; rfl
  have hb1 : (((cfg0.win 2).blk t).view.emb y 1).val = t.val / 4 * 2048 + 1 * (y 1).val := by
    show win0_2.index t (1 : Fin 3) * 2048 + 1 * (y 1).val = _; rw [idx2]; rfl
  have hb2 : (((cfg0.win 2).blk t).view.emb y 2).val = 0 * 704 + 1 * (y 2).val := by
    show win0_2.index t (2 : Fin 3) * 704 + 1 * (y 2).val = _; rw [idx2]; rfl
  show k0_pay1 (iblk m c 0 t) (iblk m c 1 t) y
    = G (ar m c main_arg1) (ar m c main_arg2) (((cfg0.win 2).blk t).view.emb y)
  rw [pay]
  unfold G
  refine Finset.sum_congr rfl fun d _ => ?_
  have h0 : iblk m c 0 t (ix2 (y 1) d) = ar m c main_arg1 (ix2 (((cfg0.win 2).blk t).view.emb y 1) d) := by
    refine congrArg (ar m c main_arg1) (idx2_ext ?_ ?_)
    · refine Eq.trans ?_ hb1.symm
      show win0_0.index t (0 : Fin 2) * 2048 + 1 * (y 1).val = _; rw [idx0]; rfl
    · show win0_0.index t (1 : Fin 2) * 1024 + 1 * d.val = _; rw [idx0]; show 0 * 1024 + 1 * d.val = d.val; omega
  have h1 : iblk m c 1 t (ix3 0 (y 2) d) = ar m c main_arg2
      (ix3 (((cfg0.win 2).blk t).view.emb y 0) (((cfg0.win 2).blk t).view.emb y 2) d) := by
    refine congrArg (ar m c main_arg2) (idx3_ext ?_ ?_ ?_)
    · refine Eq.trans ?_ hb0.symm
      show win0_1.index t (0 : Fin 3) * 1 + 1 * 0 = _; rw [idx1]; show t.val % 4 * 1 + 1 * 0 = _; omega
    · refine Eq.trans ?_ hb2.symm
      show win0_1.index t (1 : Fin 3) * 704 + 1 * (y 2).val = _; rw [idx1]; rfl
    · show win0_1.index t (2 : Fin 3) * 1024 + 1 * d.val = _; rw [idx1]; show 0 * 1024 + 1 * d.val = d.val; omega
  rw [h0, h1]

theorem final (c : Dev nD) : (dats m 0 c).arrAt 2 cfg0.N
    = G (ar m c main_arg1) (ar m c main_arg2) :=
  (dats m 0 c).arrAt_eq_of_cover 2 _ (fun t hf => flushed_eq m c t) (fun i => by
    have h0 : (i 0).val < 4 := (i 0).isLt
    have h1 : (i 1).val < 4096 := (i 1).isLt
    obtain ⟨t, hft, ht⟩ := flush2 ⟨(i 0).val, h0⟩ ⟨(i 1).val / 2048, by omega⟩
    have ht' : t.val = 4 * ((i 1).val / 2048) + (i 0).val := ht
    refine ⟨t, hft, in_slice fun a => ?_⟩
    match a with
    | ⟨0, _⟩ => exact in_blk ((congrFun (idx2 t) 0).trans (by show t.val % 4 = (i 0).val / 1; omega)) (Nat.succ_pos _)
    | ⟨1, _⟩ => exact in_blk ((congrFun (idx2 t) 1).trans (by show t.val / 4 = (i 1).val / 2048; omega)) (Nat.succ_pos _)
    | ⟨2, _⟩ => exact in_all (congrFun (idx2 t) 2) (i 2).isLt)

theorem same : @algebraic_Kernel5Ideal_Reference5Ideal Kernel5Ideal.Gen.facts Reference5Ideal.Gen.facts := by
  intro m g m' g' _ hargs
  refine ⟨fun c => G (ar m c main_arg1) (ar m c main_arg2), ?_, ?_⟩
  · refine (θ_run _ _ _).mono ?_ (Kernel5Ideal.Value.run_blocks m g)
    intro r h c
    exact ⟨(h c).1.trans (final m c), (h c).2⟩
  · refine (θ_run _ _ _).mono ?_ (Reference5Ideal.Value.run m' g')
    intro r h c
    obtain ⟨-, e1, e2⟩ := hargs c
    have e := (h c).1
    rw [e1, e2] at e
    exact ⟨e.trans (ref _ _), (h c).2⟩

theorem frame_ref : @quiescent_Reference5Ideal Reference5Ideal.Gen.facts := fun m g _ =>
  (θ_run _ _ _).mono (fun r h => ⟨fun c => (h c).2, sem_eq_zero_of_no_sems (by decide) r.2⟩) (Reference5Ideal.Value.run m g)

end Cert.Proof.DownDx

end
-- ==== Proof.Ffn.ProjDw.lean ====
module

public import proofs.«01_k».proof.Proof.Gen.Kernel6Ideal.Value
public import proofs.«01_k».proof.Proof.Gen.Reference6Ideal.Run
public import proofs.«01_k».proof.Defs
public import proofs.«01_k».proof.Proof.Ffn.Norm
public import Idealize.ShloMosaic.Lib.Pipeline.ValueKit.Acc

@[expose] public section

noncomputable section

/-! The weight gradient of the mixers' input product: four points make it, a quarter of the sequence each. -/

namespace Cert.Proof.ProjDw

open Cert.Reference6Ideal Cert.Reference6Ideal.Gen
open Idealize.ShloMosaic

/-- The gradient at row `f` and column `d`: the sum over the sequence. -/
def G (a : FVec 𝕀 S4096x2176 .bf16) (b : FVec 𝕀 S4096x1024 .bf16) : FVec 𝕀 S2176x1024 .bf16 :=
  fun i => ∑ s : Fin 4096, (a (ix2 s (i 0)) : EReal) * b (ix2 s (i 1))

theorem ref (a : FVec 𝕀 S4096x2176 .bf16) (b : FVec 𝕀 S4096x1024 .bf16) :
    truncf .bf16 (transpose S2176x1024 [1, 0] (transpose S1024x2176 [1, 0] (Host.dotGeneral dot_S4096x2176_S4096x1024_S2176x1024_0_0_1_1_n_n none
      (extf .f32 a bitsLt_bf16_f32) (extf .f32 b bitsLt_bf16_f32)) transposes_S2176x1024_S1024x2176_1_0) transposes_S1024x2176_S2176x1024_1_0)
      bitsLt_bf16_f32 = G a b := by
  funext i
  pointwise [G]

end Cert.Proof.ProjDw

namespace Cert.Proof.ProjDw

open Cert.Kernel6Ideal Cert.Kernel6Ideal.Gen
open Idealize.ShloMosaic Idealize.ShloMosaic.TcCoe Idealize.SL.Sem

section
variable {F : FTy → Type} [FloatOps F] (c : Dev nD) (i : grid0.Coords) (arg4 : Memref sig .tc .vmem S1024x2176 .bf16) (harg4 : arg4.IsWhole)
  (arg5 : Memref sig .tc .vmem S1024x1024 .bf16) (harg5 : arg5.IsWhole) (arg6 : Memref sig .tc .vmem S2176x1024 .bf16) (harg6 : arg6.IsWhole)
  (arg7 : Memref sig .tc .vmem S2176x1024 .f32) (harg7 : arg7.IsWhole) (x0 : Vec F S1024x2176 .bf16) (x1 : Vec F S1024x1024 .bf16)

/-- The first point leaves its quarter's sum in the scratch, the others add theirs, and the last stores the whole. -/
theorem first (hc0 : cond0_0 i) (hc1 : ¬cond0_1 i) (hc2 : ¬cond0_2 i) :
    sout0_A_0 c i arg4 harg4 arg5 harg5 arg6 harg6 arg7 harg7 hc0 hc1 hc2 x0 x1 = k0_pay2 x0 x1 := by
  unfold sout0_A_0
  rw [View.read_writes_eq_canon _ _ _ (scover0_A_0 c i arg4 harg4 arg5 harg5 arg6 harg6 arg7 harg7 hc0 hc1 hc2 x0 x1)]
  unfold kernelRun0_A
  dsimp only
  rw [View.canon_unit_zero hz2]
  simp only [View.readAt_eq_ld, harg4.read_unread, harg5.read_unread, View.ld_unit_zero (S := S1024x2176) hz2,
    View.ld_unit_zero (S := S1024x1024) hz2]

theorem next (hc0 : ¬cond0_0 i) (hc1 : cond0_1 i) (hc2 : ¬cond0_2 i) (xs0 : Vec F S2176x1024 .f32) :
    sout0_B_0 c i arg4 harg4 arg5 harg5 arg6 harg6 arg7 harg7 hc0 hc1 hc2 x0 x1 xs0 = k0_pay3 x0 x1 xs0 := by
  unfold sout0_B_0
  rw [View.read_writes_eq_canon _ _ _ (scover0_B_0 c i arg4 harg4 arg5 harg5 arg6 harg6 arg7 harg7 hc0 hc1 hc2 x0 x1 xs0)]
  unfold kernelRun0_B
  dsimp only
  rw [View.canon_unit_zero hz2]
  simp only [View.readAt_eq_ld, harg4.read_unread, harg5.read_unread, harg7.read_unread, View.ld_unit_zero (S := S1024x2176) hz2,
    View.ld_unit_zero (S := S1024x1024) hz2, View.ld_unit_zero (S := S2176x1024) hz2]

theorem last (hc0 : ¬cond0_0 i) (hc1 : cond0_1 i) (hc2 : cond0_2 i) (xs0 : Vec F S2176x1024 .f32) :
    out0_C_2 c i arg4 harg4 arg5 harg5 arg6 harg6 arg7 harg7 hc0 hc1 hc2 x0 x1 xs0 = k0_pay4 (k0_pay3 x0 x1 xs0) := by
  unfold out0_C_2
  rw [View.read_writes_eq_canon _ _ _ (cover0_C_2 c i arg4 harg4 arg5 harg5 arg6 harg6 arg7 harg7 hc0 hc1 hc2 x0 x1 xs0)]
  unfold kernelRun0_C
  dsimp only
  sl_unfold_words
  rw [View.canon_unit_zero hz2, View.readCov_unit_zero (S := S2176x1024) _ hz2]
  simp only [View.readAt_eq_ld, harg4.read_unread, harg5.read_unread, harg7.read_unread, View.ld_unit_zero (S := S1024x2176) hz2,
    View.ld_unit_zero (S := S1024x1024) hz2, View.ld_unit_zero (S := S2176x1024) hz2]

end

theorem pay2 (x : FVec 𝕀 S1024x2176 .bf16) (y : FVec 𝕀 S1024x1024 .bf16) (i : S2176x1024.Idx) :
    k0_pay2 x y i = ∑ s : Fin 1024, (x (ix2 s (i 0)) : EReal) * y (ix2 s (i 1)) := by
  pointwise [k0_pay2, k0_pay1]

theorem pay3 (x : FVec 𝕀 S1024x2176 .bf16) (y : FVec 𝕀 S1024x1024 .bf16) (z : FVec 𝕀 S2176x1024 .f32) (i : S2176x1024.Idx) :
    k0_pay3 x y z i = z i + ∑ s : Fin 1024, (x (ix2 s (i 0)) : EReal) * y (ix2 s (i 1)) := by
  pointwise [k0_pay3, k0_pay1]

theorem pay4 (z : FVec 𝕀 S2176x1024 .f32) (i : S2176x1024.Idx) : k0_pay4 z i = z i := by
  pointwise [k0_pay4]

variable (m : (ℓ : Loc nD τ sig) → Buf (Elt 𝕀) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

/-- One position's share of the gradient. -/
abbrev share (c : Dev nD) (i : S2176x1024.Idx) (s : Fin 4096) : EReal :=
  HMul.hMul (α := EReal) (β := EReal) (ar m c main_arg0 (ix2 s (i 0))) (ar m c main_arg1 (ix2 s (i 1)))

theorem share_blk (c : Dev nD) (t : Fin cfg0.N) (i : S2176x1024.Idx) (s : Fin 1024) : ∃ h : t.val * 1024 + s.val < 4096,
    HMul.hMul (α := EReal) (β := EReal) (iblk m c 0 t (ix2 s (i 0))) (iblk m c 1 t (ix2 s (i 1))) = share m c i ⟨t.val * 1024 + s.val, h⟩ := by
  have ht : t.val < 4 := Nat.lt_of_lt_of_eq t.isLt N_0
  have hs := s.isLt
  refine ⟨by omega, congrArg₂ (· * ·) ?_ ?_⟩
  · refine congrArg (ar m c main_arg0) (idx2_ext ?_ ?_)
    · exact at_blk (congrFun (idx0 t) 0) rfl
    · exact at_all (congrFun (idx0 t) 1) _ _
  · refine congrArg (ar m c main_arg1) (idx2_ext ?_ ?_)
    · exact at_blk (congrFun (idx1 t) 0) rfl
    · exact at_all (congrFun (idx1 t) 1) _ _

/-- After point `n` but the last the scratch holds the first `1024 (n + 1)` positions' shares. -/
theorem after (c : Dev nD) (i : S2176x1024.Idx) (n : ℕ) (h : n < cfg0.N) (h3 : n < 3) :
    (outsAt0 m c n h).2 i = Norm.upto (share m c i) ((n + 1) * 1024) := by
  have hN : cfg0.N = 4 := N_0
  refine Norm.upto_run (N := 3) (share m c i) (fun n h => (outsAt0 m c n (by omega)).2 i)
    (fun n h s => HMul.hMul (α := EReal) (β := EReal) (iblk m c 0 ⟨n, by omega⟩ (ix2 s (i 0))) (iblk m c 1 ⟨n, by omega⟩ (ix2 s (i 1))))
    (fun n h s => share_blk m c ⟨n, by omega⟩ i s) (fun h => ?_) (fun n h => ?_) n h3
  · show (outsAt0 m c 0 _).2 i = _
    rw [outsAt0_A m c ⟨0, by omega⟩ rfl (Nat.not_succ_le_zero 0) (fun h => absurd h (Nat.zero_ne_add_one 2))]
    dsimp only
    rw [first, pay2]
  · show (outsAt0 m c (n + 1) _).2 i = _
    rw [outsAt0_B m c ⟨n + 1, by omega⟩ (by dsimp only; omega) (by dsimp only; omega) (by dsimp only; omega)]
    dsimp only
    rw [next, pay3]
    rfl

theorem flushed_eq (c : Dev nD) (t : Fin cfg0.N) (hf : (cfg0.win 2).flush t = true) : (dats m 0 c).flushed 2 t
    = ((cfg0.win 2).blk t).view.read (Elt 𝕀) (G (ar m c main_arg0) (ar m c main_arg1)) := by
  have hN : cfg0.N = 4 := N_0
  have h3 : t.val = 3 := by have := (flush0_2 t).mp hf; have := t.isLt; omega
  rw [Kernel6Ideal.Value.flushed2_C m c t (by omega) (by omega) (by omega), last]
  funext y
  have hy : (((cfg0.win 2).blk t).view.emb y) = y := by
    refine idx2_ext ?_ ?_
    · exact at_all (congrFun (idx2 t) 0) _ _
    · exact at_all (congrFun (idx2 t) 1) _ _
  have hb : t.val - 1 < cfg0.N := Nat.lt_of_le_of_lt (Nat.sub_le _ _) t.isLt
  show k0_pay4 (k0_pay3 (iblk m c 0 t) (iblk m c 1 t) (outsAt0 m c (t.val - 1) hb).2) y
    = G (ar m c main_arg0) (ar m c main_arg1) (((cfg0.win 2).blk t).view.emb y)
  rw [hy, pay4, pay3, after m c y (t.val - 1) hb (by omega), show (t.val - 1 + 1) * 1024 = t.val * 1024 by rw [h3]]
  have e := Norm.upto_add (share m c y) (t.val * 1024) 1024 _ fun s => share_blk m c t y s
  refine e.symm.trans ?_
  rw [show t.val * 1024 + 1024 = 4096 by rw [h3], Norm.upto_all]
  rfl

theorem final (c : Dev nD) : (dats m 0 c).arrAt 2 cfg0.N
    = G (ar m c main_arg0) (ar m c main_arg1) :=
  (dats m 0 c).arrAt_eq_of_cover 2 _ (fun t hf => flushed_eq m c t hf) (fun i => (Kernel6Ideal.Value.covered_iff2 i).2
    ⟨Nat.zero_le _, (i 0).isLt, Nat.zero_le _, (i 1).isLt⟩)

theorem same : @algebraic_Kernel6Ideal_Reference6Ideal Kernel6Ideal.Gen.facts Reference6Ideal.Gen.facts := by
  intro m g m' g' _ hargs
  refine ⟨fun c => G (ar m c main_arg0) (ar m c main_arg1), ?_, ?_⟩
  · refine (θ_run _ _ _).mono ?_ (Kernel6Ideal.Value.run_blocks m g)
    intro r h c
    exact ⟨(h c).1.trans (final m c), (h c).2⟩
  · refine (θ_run _ _ _).mono ?_ (Reference6Ideal.Value.run m' g')
    intro r h c
    obtain ⟨e0, e1, -⟩ := hargs c
    have e := (h c).1
    rw [e0, e1] at e
    exact ⟨e.trans (ref _ _), (h c).2⟩

theorem frame_ref : @quiescent_Reference6Ideal Reference6Ideal.Gen.facts := fun m g _ =>
  (θ_run _ _ _).mono (fun r h => ⟨fun c => (h c).2, sem_eq_zero_of_no_sems (by decide) r.2⟩) (Reference6Ideal.Value.run m g)

end Cert.Proof.ProjDw

end
-- ==== Proof.Ffn.ProjDx.lean ====
module

public import proofs.«01_k».proof.Proof.Gen.Kernel7Ideal.Value
public import proofs.«01_k».proof.Proof.Gen.Reference7Ideal.Run
public import proofs.«01_k».proof.Defs
public import proofs.«01_k».proof.Proof.Ffn.Norm
public import Idealize.ShloMosaic.Lib.Pipeline.ValueKit.Acc

@[expose] public section

noncomputable section

/-! The gradient through the mixers' input product and the norm before it: each point makes 512 rows. -/

namespace Cert.Proof.ProjDx

open Cert.Reference7Ideal Cert.Reference7Ideal.Gen
open Idealize.ShloMosaic Idealize.ShloMosaic.TcCoe

/-- The gradient of the normed row. -/
def D (a : FVec 𝕀 S4096x2176 .bf16) (w : FVec 𝕀 S2176x1024 .bf16) (s : Fin 4096) (d : Fin 1024) : EReal :=
  ∑ f : Fin 2176, (a (ix2 s f) : EReal) * w (ix2 f d)

/-- The hidden state's gradient. -/
def GX (a : FVec 𝕀 S4096x2176 .bf16) (w : FVec 𝕀 S2176x1024 .bf16) (h : FVec 𝕀 S4096x1024 .f32) (n : FVec 𝕀 S1x1024 .f32)
    (dh : FVec 𝕀 S4096x1024 .f32) : FVec 𝕀 S4096x1024 .f32 :=
  fun i => Norm.dx (D a w (i 0)) (fun d => h (ix2 (i 0) d)) (fun d => n (ix2 0 d)) (i 1) (dh i)

/-- The gains' gradient. -/
def GN (a : FVec 𝕀 S4096x2176 .bf16) (w : FVec 𝕀 S2176x1024 .bf16) (h : FVec 𝕀 S4096x1024 .f32) : FVec 𝕀 S1x1024 .f32 :=
  fun i => ∑ s : Fin 4096, Norm.dn (D a w s) (fun d => h (ix2 s d)) (i 1)

theorem refX (m : (ℓ : Loc nD τ sig) → Buf (Elt 𝕀) ℓ) (c : Dev nD) : Reference7Ideal.Value.res_main_v39 m c
    = GX (ar m c main_arg0) (ar m c main_arg1) (ar m c main_arg2)
      (ar m c main_arg3) (ar m c main_arg4) := by
  funext i
  pointwise [Reference7Ideal.Value.res_main_v39, GX, D, Norm.dx, Norm.tail, Norm.ms]
  simp only [Norm.div_len, Finset.univ_unique, Finset.sum_singleton]

end Cert.Proof.ProjDx

namespace Cert.Proof.ProjDx

open Cert.Kernel7Ideal Cert.Kernel7Ideal.Gen
open Idealize.ShloMosaic Idealize.ShloMosaic.TcCoe Idealize.SL.Sem

theorem payX (x0 : FVec 𝕀 S512x2176 .bf16) (x1 : FVec 𝕀 S2176x1024 .bf16) (y e : FVec 𝕀 S512x1024 .f32) (n : FVec 𝕀 S1x1024 .f32) (i : S512x1024.Idx) :
    k0_pay1 y e (k0_pay9 x0 x1 y n) (k0_pay10 x0 x1 y n) i
      = Norm.dx (fun d => k0_pay4 x0 x1 (ix2 (i 0) d)) (fun d => y (ix2 (i 0) d)) (fun d => n (ix2 0 d)) (i 1) (e i) := by
  unfold k0_pay10 k0_pay9 k0_pay8
  generalize k0_pay4 x0 x1 = x
  pointwise [k0_pay1, k0_pay6, k0_pay5, Norm.dx, Norm.tail, Norm.ms]
  simp only [Finset.univ_unique, Finset.sum_singleton, add_assoc]
  rw [add_comm (e i)]
  simp only [add_assoc]

theorem payN (x0 : FVec 𝕀 S512x2176 .bf16) (x1 : FVec 𝕀 S2176x1024 .bf16) (y : FVec 𝕀 S512x1024 .f32) (z : FVec 𝕀 S1x1024 .f32) (i : S1x1024.Idx) :
    k0_pay3 (k0_pay7 x0 x1 y) z i
      = z i + ∑ s : Fin 512, Norm.dn (fun d => k0_pay4 x0 x1 (ix2 s d)) (fun d => y (ix2 s d)) (i 1) := by
  unfold k0_pay7
  generalize k0_pay4 x0 x1 = x
  pointwise [k0_pay3, k0_pay6, k0_pay5, Norm.dn, Norm.ms]

theorem pay2 (i : S1x1024.Idx) : k0_pay2 (F := 𝕀) i = (0 : EReal) := by
  pointwise [k0_pay2]

theorem pay4 (x0 : FVec 𝕀 S512x2176 .bf16) (x1 : FVec 𝕀 S2176x1024 .bf16) (s : Fin 512) (d : Fin 1024) :
    k0_pay4 x0 x1 (ix2 s d) = ∑ f : Fin 2176, (x0 (ix2 s f) : EReal) * x1 (ix2 f d) := by
  pointwise [k0_pay4]

section
variable {F : FTy → Type} [FloatOps F] (c : Dev nD) (i : grid0.Coords)
  (arg4 : Memref sig .tc .vmem S512x2176 .bf16) (harg4 : arg4.IsWhole)
  (arg5 : Memref sig .tc .vmem S2176x1024 .bf16) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (arg9 : Memref sig .tc .vmem S512x1024 .f32) (harg9 : arg9.IsWhole)
  (arg10 : Memref sig .tc .vmem S1x1024 .f32) (harg10 : arg10.IsWhole)
  (x0 : Vec F S512x2176 .bf16) (x1 : Vec F S2176x1024 .bf16) (x2 : Vec F S512x1024 .f32) (x3 : Vec F S512x1024 .f32) (x4 : Vec F S1x1024 .f32)

theorem outA5 (hc0 : cond0_0 i) : out0_A_5 c i arg4 harg4 arg5 harg5 arg6 harg6 arg7 harg7 arg8 harg8 arg9 harg9 arg10 harg10 hc0 x0 x1 x2 x3 x4
    = k0_pay1 x2 x3 (k0_pay9 x0 x1 x2 x4) (k0_pay10 x0 x1 x2 x4) := by
  unfold out0_A_5
  rw [View.read_writes_eq_canon _ _ _ (cover0_A_5 c i arg4 harg4 arg5 harg5 arg6 harg6 arg7 harg7 arg8 harg8 arg9 harg9 arg10 harg10 hc0 x0 x1 x2 x3 x4)]
  unfold kernelRun0_A
  dsimp only
  sl_unfold_words
  rw [View.canon_unit_zero hz2]
  simp only [View.readAt_eq_ld, harg4.read_unread, harg5.read_unread, harg6.read_unread, harg7.read_unread, harg8.read_unread,
    View.ld_unit_zero (S := S512x2176) hz2, View.ld_unit_zero (S := S2176x1024) hz2, View.ld_unit_zero (S := S512x1024) hz2, View.ld_unit_zero (S := S1x1024) hz2]

theorem outB5 (hc0 : ¬cond0_0 i) (xo6 : Vec F S1x1024 .f32) : out0_B_5 c i arg4 harg4 arg5 harg5 arg6 harg6 arg7 harg7 arg8 harg8 arg9 harg9 arg10 harg10 hc0 x0 x1 x2 x3 x4 xo6
    = k0_pay1 x2 x3 (k0_pay9 x0 x1 x2 x4) (k0_pay10 x0 x1 x2 x4) := by
  unfold out0_B_5
  rw [View.read_writes_eq_canon _ _ _ (cover0_B_5 c i arg4 harg4 arg5 harg5 arg6 harg6 arg7 harg7 arg8 harg8 arg9 harg9 arg10 harg10 hc0 x0 x1 x2 x3 x4 xo6)]
  unfold kernelRun0_B
  dsimp only
  sl_unfold_words
  rw [View.canon_unit_zero hz2]
  simp only [View.readAt_eq_ld, harg4.read_unread, harg5.read_unread, harg6.read_unread, harg7.read_unread, harg8.read_unread,
    View.ld_unit_zero (S := S512x2176) hz2, View.ld_unit_zero (S := S2176x1024) hz2, View.ld_unit_zero (S := S512x1024) hz2, View.ld_unit_zero (S := S1x1024) hz2]

theorem outA6 (hc0 : cond0_0 i) : out0_A_6 c i arg4 harg4 arg5 harg5 arg6 harg6 arg7 harg7 arg8 harg8 arg9 harg9 arg10 harg10 hc0 x0 x1 x2 x3 x4
    = k0_pay3 (k0_pay7 x0 x1 x2) k0_pay2 := by
  unfold out0_A_6
  rw [View.read_writes_eq_canon _ _ _ (cover0_A_6 c i arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x1024) hz2, View.readCov_unit_zero (S := S1x1024) _ hz2]
  simp only [View.readAt_eq_ld, harg4.read_unread, harg5.read_unread, harg6.read_unread, harg7.read_unread, harg8.read_unread,
    View.ld_unit_zero (S := S512x2176) hz2, View.ld_unit_zero (S := S2176x1024) hz2, View.ld_unit_zero (S := S512x1024) hz2, View.ld_unit_zero (S := S1x1024) hz2]

theorem outB6 (hc0 : ¬cond0_0 i) (xo6 : Vec F S1x1024 .f32) : out0_B_6 c i arg4 harg4 arg5 harg5 arg6 harg6 arg7 harg7 arg8 harg8 arg9 harg9 arg10 harg10 hc0 x0 x1 x2 x3 x4 xo6
    = k0_pay3 (k0_pay7 x0 x1 x2) xo6 := by
  unfold out0_B_6
  rw [View.read_writes_eq_canon _ _ _ (cover0_B_6 c i arg4 harg4 arg5 harg5 arg6 harg6 arg7 harg7 arg8 harg8 arg9 harg9 arg10 harg10 hc0 x0 x1 x2 x3 x4 xo6)]
  unfold kernelRun0_B
  dsimp only
  sl_unfold_words
  rw [View.canon_unit_zero hz2]
  simp only [View.readAt_eq_ld, harg4.read_unread, harg5.read_unread, harg6.read_unread, harg7.read_unread, harg8.read_unread,
    harg10.read_unread, View.ld_unit_zero (S := S512x2176) hz2, View.ld_unit_zero (S := S2176x1024) hz2, View.ld_unit_zero (S := S512x1024) hz2, View.ld_unit_zero (S := S1x1024) hz2]

end

variable (m : (ℓ : Loc nD τ sig) → Buf (Elt 𝕀) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![0, 0] := by decide +kernel

/-- A block's product is the array's: row `s` of point `t`'s block is row `512 t + s`. -/
theorem D_blk (c : Dev nD) (t : Fin cfg0.N) (s : Fin 512) (d : Fin 1024) (s' : Fin 4096) (hs : t.val * 512 + s.val = s'.val) :
    k0_pay4 (iblk m c 0 t) (iblk m c 1 t) (ix2 s d) = D (ar m c main_arg0) (ar m c main_arg1) s' d := by
  refine (pay4 _ _ s d).trans (Finset.sum_congr rfl fun f _ => congrArg₂ (fun a b : EReal => a * b) ?_ ?_)
  · refine congrArg (ar m c main_arg0) (idx2_ext ?_ ?_)
    · exact at_blk (congrFun (idx0 t) 0) hs
    · exact at_all (congrFun (idx0 t) 1) _ _
  · refine congrArg (ar m c main_arg1) (idx2_ext ?_ ?_)
    · exact at_all (congrFun (idx1 t) 0) _ _
    · exact at_all (congrFun (idx1 t) 1) _ _

theorem blk2 (c : Dev nD) (t : Fin cfg0.N) (s : Fin 512) (d : Fin 1024) (s' : Fin 4096) (hs : t.val * 512 + s.val = s'.val) :
    iblk m c 2 t (ix2 s d) = (ar m c main_arg2) (ix2 s' d) := by
  refine congrArg (ar m c main_arg2) (idx2_ext ?_ ?_)
  · exact at_blk (congrFun (idx2 t) 0) hs
  · exact at_all (congrFun (idx2 t) 1) _ _

theorem blk4 (c : Dev nD) (t : Fin cfg0.N) (d : Fin 1024) : iblk m c 4 t (ix2 0 d) = (ar m c main_arg3) (ix2 0 d) := by
  refine congrArg (ar m c main_arg3) (idx2_ext ?_ ?_)
  · show win0_4.index t (0 : Fin 2) * 1 + 1 * 0 = 0; rw [show win0_4.index t (0 : Fin 2) = 0 from congrFun (idx4 t) 0]
  · exact at_all (congrFun (idx4 t) 1) _ _

/-- A row's share of the gains' gradient, by the arrays. -/
abbrev share (c : Dev nD) (d : Fin 1024) (s : Fin 4096) : EReal :=
  Norm.dn (D (ar m c main_arg0) (ar m c main_arg1) s) (fun d => (ar m c main_arg2) (ix2 s d)) d

/-- After point `n` the gains' block holds the first `512 (n + 1)` rows' shares. -/
theorem after (c : Dev nD) (i : S1x1024.Idx) (n : ℕ) (h : n < cfg0.N) :
    (outsAt0 m c n h).2 i = Norm.upto (share m c (i 1)) ((n + 1) * 512) := by
  refine Norm.upto_run (share m c (i 1)) (fun n h => (outsAt0 m c n h).2 i) (fun n h s => Norm.dn
    (fun d => k0_pay4 (iblk m c 0 ⟨n, h⟩) (iblk m c 1 ⟨n, h⟩) (ix2 s d)) (fun d => iblk m c 2 ⟨n, h⟩ (ix2 s d)) (i 1))
    (fun n h s => ?_) (fun h => ?_) (fun n h => ?_) n h
  · have ht : n < 8 := Nat.lt_of_lt_of_eq h N_0
    have hs := s.isLt
    exact ⟨by omega, congrArg₂ (Norm.dn · · (i 1)) (funext fun d => D_blk m c ⟨n, h⟩ s d ⟨n * 512 + s.val, by omega⟩ rfl)
      (funext fun d => blk2 m c ⟨n, h⟩ s d ⟨n * 512 + s.val, by omega⟩ rfl)⟩
  · show (outsAt0 m c 0 h).2 i = _
    rw [outsAt0_A m c ⟨0, h⟩ rfl]
    dsimp only
    rw [outA6, payN, pay2]
    exact zero_add _
  · have hN : cfg0.N = 8 := N_0
    have hB : ¬(⟨n + 1, h⟩ : Fin cfg0.N).val % 8 = 0 := by dsimp only; omega
    show (outsAt0 m c (n + 1) h).2 i = _
    rw [outsAt0_B m c ⟨n + 1, h⟩ hB]
    dsimp only
    rw [outB6, payN]
    rfl

theorem outX_eq (c : Dev nD) (t : Fin cfg0.N) : (outsAt0 m c t.val t.isLt).1
    = k0_pay1 (iblk m c 2 t) (iblk m c 3 t) (k0_pay9 (iblk m c 0 t) (iblk m c 1 t) (iblk m c 2 t) (iblk m c 4 t))
      (k0_pay10 (iblk m c 0 t) (iblk m c 1 t) (iblk m c 2 t) (iblk m c 4 t)) := by
  by_cases h0 : t.val % 8 = 0
  · rw [outsAt0_A m c t h0]; dsimp only; rw [outA5]
  · rw [outsAt0_B m c t h0]; dsimp only; rw [outB5]

abbrev resX (c : Dev nD) : FVec 𝕀 S4096x1024 .f32 :=
  GX (ar m c main_arg0) (ar m c main_arg1) (ar m c main_arg2) (ar m c main_arg3) (ar m c main_arg4)
abbrev resN (c : Dev nD) : FVec 𝕀 S1x1024 .f32 :=
  GN (ar m c main_arg0) (ar m c main_arg1) (ar m c main_arg2)

theorem flushedX (c : Dev nD) (t : Fin cfg0.N) :
    (dats m 0 c).flushed 5 t = ((cfg0.win 5).blk t).view.read (Elt 𝕀) (resX m c) := by
  rw [Kernel7Ideal.Value.flushed5, outX_eq]
  funext y
  have h0 : t.val * 512 + (y 0).val = (((cfg0.win 5).blk t).view.emb y 0).val := (at_blk (congrFun (idx5 t) 0) rfl).symm
  have h1 : (y 1).val = (((cfg0.win 5).blk t).view.emb y 1).val := (at_all (congrFun (idx5 t) 1) _ _).symm
  show k0_pay1 (iblk m c 2 t) (iblk m c 3 t) (k0_pay9 (iblk m c 0 t) (iblk m c 1 t) (iblk m c 2 t) (iblk m c 4 t))
      (k0_pay10 (iblk m c 0 t) (iblk m c 1 t) (iblk m c 2 t) (iblk m c 4 t)) y = resX m c (((cfg0.win 5).blk t).view.emb y)
  rw [payX]
  have e1 : (((cfg0.win 5).blk t).view.emb y 1) = y 1 := Fin.ext h1.symm
  show _ = Norm.dx _ _ _ (((cfg0.win 5).blk t).view.emb y 1) _
  rw [e1]
  have e3 : iblk m c 3 t y = (ar m c main_arg4) (((cfg0.win 5).blk t).view.emb y) := by
    refine congrArg (ar m c main_arg4) (idx2_ext ?_ ?_)
    · refine Eq.trans ?_ h0
      exact at_blk (congrFun (idx3 t) 0) rfl
    · refine Eq.trans ?_ h1
      exact at_all (congrFun (idx3 t) 1) _ _
  have eD := funext fun d => D_blk m c t (y 0) d (((cfg0.win 5).blk t).view.emb y 0) h0
  have e2 := funext fun d => blk2 m c t (y 0) d (((cfg0.win 5).blk t).view.emb y 0) h0
  have e4 := funext fun d => blk4 m c t d
  rw [e3]
  exact congr (congrFun (congr (congr (congrArg Norm.dx eD) e2) e4) (y 1)) rfl

theorem finalX (c : Dev nD) : (dats m 0 c).arrAt 5 cfg0.N = resX m c :=
  (dats m 0 c).arrAt_eq_of_cover 5 _ (fun t hf => flushedX m c t) (fun i => by
    have h0 : (i 0 : Nat) < 4096 := (i 0).isLt
    have hN : (i 0 : Nat) / 512 < cfg0.N := by rw [show cfg0.N = 8 from N_0]; omega
    refine ⟨⟨(i 0 : Nat) / 512, hN⟩, flush0_5 _, in_slice fun a => ?_⟩
    match a with
    | ⟨0, _⟩ => exact in_blk (congrFun (idx5 _) 0) (Nat.succ_pos _)
    | ⟨1, _⟩ => exact in_all (congrFun (idx5 _) 1) (i 1).isLt)

theorem flushedN (c : Dev nD) (t : Fin cfg0.N) (hf : (cfg0.win 6).flush t = true) :
    (dats m 0 c).flushed 6 t = ((cfg0.win 6).blk t).view.read (Elt 𝕀) (resN m c) := by
  have hN : cfg0.N = 8 := N_0
  have h7 : t.val = 7 := by have := (flush0_6 t).mp hf; have := t.isLt; omega
  rw [Kernel7Ideal.Value.flushed6]
  funext y
  have h1 : (((cfg0.win 6).blk t).view.emb y) = y := by
    refine idx2_ext ?_ ?_
    · exact at_all (congrFun (idx6 t) 0) _ _
    · exact at_all (congrFun (idx6 t) 1) _ _
  show (outsAt0 m c t.val t.isLt).2 y = resN m c (((cfg0.win 6).blk t).view.emb y)
  rw [h1, after, h7]
  exact Norm.upto_all _

theorem finalN (c : Dev nD) : (dats m 0 c).arrAt 6 cfg0.N = resN m c :=
  (dats m 0 c).arrAt_eq_of_cover 6 _ (fun t hf => flushedN m c t hf) (fun i => by
    have hN : 7 < cfg0.N := by rw [show cfg0.N = 8 from N_0]; decide
    refine ⟨⟨7, hN⟩, (flush0_6 _).mpr rfl, in_slice fun a => ?_⟩
    match a with
    | ⟨0, _⟩ => exact in_all (congrFun (idx6 _) 0) (i 0).isLt
    | ⟨1, _⟩ => exact in_all (congrFun (idx6 _) 1) (i 1).isLt)

theorem same : @algebraic_Kernel7Ideal_Reference7Ideal Kernel7Ideal.Gen.facts Reference7Ideal.Gen.facts := by
  intro m g m' g' _ hargs
  refine ⟨fun c => resX m c, fun c => resN m c, ?_, ?_⟩
  · refine (θ_run _ _ _).mono ?_ (Kernel7Ideal.Value.run_blocks m g)
    intro r h c
    exact ⟨(h c).1.trans (finalX m c), (h c).2.1.trans (finalN m c), (h c).2.2⟩
  · refine (θ_run _ _ _).mono ?_ (Reference7Ideal.Value.run m' g')
    intro r h c
    obtain ⟨e0, e1, e2, e3, e4⟩ := hargs c
    have eX := (h c).1
    have eN := (h c).2.1
    rw [refX] at eX
    simp only [ar, e0, e1, e2, e3, e4] at eX
    rw [e0, e1, e2] at eN
    refine ⟨eX, eN.trans ?_, (h c).2.2⟩
    funext i
    pointwise [resN, GN, D, Norm.dn, Norm.ms]
    simp only [Norm.div_len]

theorem frame_ref : @quiescent_Reference7Ideal Reference7Ideal.Gen.facts := fun m g _ =>
  (θ_run _ _ _).mono (fun r h => ⟨fun c => (h c).2.2, sem_eq_zero_of_no_sems (by decide) r.2⟩) (Reference7Ideal.Value.run m g)

end Cert.Proof.ProjDx

end
-- ==== Proof.Ffn.OutDw.lean ====
module

public import proofs.«01_k».proof.Proof.Gen.Kernel8Ideal.Value
public import proofs.«01_k».proof.Proof.Gen.Reference8Ideal.Run
public import proofs.«01_k».proof.Defs
public import proofs.«01_k».proof.Proof.Ffn.DownDw
public import Idealize.ShloMosaic.Lib.Pipeline.ValueKit.Acc

@[expose] public section

noncomputable section

/-! The weight gradient of the mixers' output product: two points make it, half the sequence each. -/

namespace Cert.Proof.OutDw

open Cert.Reference8Ideal Cert.Reference8Ideal.Gen
open Idealize.ShloMosaic

/-- The gradient at row `f` and column `d`: the sum over the sequence. -/
def G (a : FVec 𝕀 S4096x1024 .bf16) (b : FVec 𝕀 S4096x1024 .f32) : FVec 𝕀 S1024x1024 .bf16 :=
  fun i => ∑ s : Fin 4096, (a (ix2 s (i 0)) : EReal) * b (ix2 s (i 1))

theorem ref (a : FVec 𝕀 S4096x1024 .bf16) (b : FVec 𝕀 S4096x1024 .f32) :
    truncf .bf16 (transpose S1024x1024 [1, 0] (Host.dotGeneral dot_S4096x1024_S4096x1024_S1024x1024_0_0_1_1_n_n none b
      (extf .f32 a bitsLt_bf16_f32)) transposes_S1024x1024_S1024x1024_1_0) bitsLt_bf16_f32 = G a b := by
  funext i
  pointwise [G]
  exact Finset.sum_congr rfl fun s _ => mul_comm _ _

end Cert.Proof.OutDw

namespace Cert.Proof.OutDw

open Cert.Kernel8Ideal Cert.Kernel8Ideal.Gen
open Idealize.ShloMosaic Idealize.ShloMosaic.TcCoe Idealize.SL.Sem

section
variable {F : FTy → Type} [FloatOps F]

/-- The first of the two points leaves its half's sum in the scratch. -/
theorem first (c : Dev nD) (i : grid0.Coords) (arg4 : Memref sig .tc .vmem S2048x1024 .bf16) (harg4 : arg4.IsWhole)
    (arg5 : Memref sig .tc .vmem S2048x1024 .f32) (harg5 : arg5.IsWhole) (arg6 : Memref sig .tc .vmem S1024x1024 .bf16) (harg6 : arg6.IsWhole)
    (arg7 : Memref sig .tc .vmem S1024x1024 .f32) (harg7 : arg7.IsWhole) (hc0 : cond0_0 i) (hc1 : ¬cond0_1 i) (hc2 : ¬cond0_2 i)
    (x0 : Vec F S2048x1024 .bf16) (x1 : Vec F S2048x1024 .f32) :
    sout0_A_0 c i arg4 harg4 arg5 harg5 arg6 harg6 arg7 harg7 hc0 hc1 hc2 x0 x1 = k0_pay2 x0 x1 := by
  unfold sout0_A_0
  rw [View.read_writes_eq_canon _ _ _ (scover0_A_0 c i arg4 harg4 arg5 harg5 arg6 harg6 arg7 harg7 hc0 hc1 hc2 x0 x1)]
  unfold kernelRun0_A
  dsimp only
  rw [View.canon_unit_zero hz2]
  simp only [View.readAt_eq_ld, harg4.read_unread, harg5.read_unread, View.ld_unit_zero (S := S2048x1024) hz2]

/-- The second adds its half's and stores the whole. -/
theorem second (c : Dev nD) (i : grid0.Coords) (arg4 : Memref sig .tc .vmem S2048x1024 .bf16) (harg4 : arg4.IsWhole)
    (arg5 : Memref sig .tc .vmem S2048x1024 .f32) (harg5 : arg5.IsWhole) (arg6 : Memref sig .tc .vmem S1024x1024 .bf16) (harg6 : arg6.IsWhole)
    (arg7 : Memref sig .tc .vmem S1024x1024 .f32) (harg7 : arg7.IsWhole) (hc0 : ¬cond0_0 i) (hc1 : cond0_1 i) (hc2 : cond0_2 i)
    (x0 : Vec F S2048x1024 .bf16) (x1 : Vec F S2048x1024 .f32) (xs0 : Vec F S1024x1024 .f32) :
    out0_B_2 c i arg4 harg4 arg5 harg5 arg6 harg6 arg7 harg7 hc0 hc1 hc2 x0 x1 xs0 = k0_pay4 (k0_pay3 x0 x1 xs0) := by
  unfold out0_B_2
  rw [View.read_writes_eq_canon _ _ _ (cover0_B_2 c i arg4 harg4 arg5 harg5 arg6 harg6 arg7 harg7 hc0 hc1 hc2 x0 x1 xs0)]
  unfold kernelRun0_B
  dsimp only
  sl_unfold_words
  rw [View.canon_unit_zero hz2, View.readCov_unit_zero (S := S1024x1024) _ hz2]
  simp only [View.readAt_eq_ld, harg4.read_unread, harg5.read_unread, harg7.read_unread, View.ld_unit_zero (S := S2048x1024) hz2, View.ld_unit_zero (S := S1024x1024) hz2]

end

theorem pay (x x' : FVec 𝕀 S2048x1024 .bf16) (y y' : FVec 𝕀 S2048x1024 .f32) (i : S1024x1024.Idx) :
    k0_pay4 (k0_pay3 x' y' (k0_pay2 x y)) i = (∑ s : Fin 2048, (x (ix2 s (i 0)) : EReal) * y (ix2 s (i 1)))
      + ∑ s : Fin 2048, (x' (ix2 s (i 0)) : EReal) * y' (ix2 s (i 1)) := by
  pointwise [k0_pay4, k0_pay3, k0_pay2, k0_pay1]

variable (m : (ℓ : Loc nD τ sig) → Buf (Elt 𝕀) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

/-- A point's two input blocks, by the arrays' indices. -/
theorem blk0 (c : Dev nD) (t : Fin cfg0.N) (s : Fin 2048) (f : Fin 1024) (s' : Fin 4096) (hs : t.val * 2048 + s.val = s'.val) :
    iblk m c 0 t (ix2 s f) = ar m c main_arg0 (ix2 s' f) := by
  refine congrArg (ar m c main_arg0) (idx2_ext ?_ ?_)
  · exact at_blk (congrFun (idx0 t) 0) hs
  · exact at_all (congrFun (idx0 t) 1) _ _

theorem blk1 (c : Dev nD) (t : Fin cfg0.N) (s : Fin 2048) (d : Fin 1024) (s' : Fin 4096) (hs : t.val * 2048 + s.val = s'.val) :
    iblk m c 1 t (ix2 s d) = ar m c main_arg1 (ix2 s' d) := by
  refine congrArg (ar m c main_arg1) (idx2_ext ?_ ?_)
  · exact at_blk (congrFun (idx1 t) 0) hs
  · exact at_all (congrFun (idx1 t) 1) _ _

theorem flushed_eq (c : Dev nD) (t : Fin cfg0.N) (hf : (cfg0.win 2).flush t = true) : (dats m 0 c).flushed 2 t
    = ((cfg0.win 2).blk t).view.read (Elt 𝕀) (G (ar m c main_arg0) (ar m c main_arg1)) := by
  have h1 : t.val % 2 = 1 := (flush0_2 t).mp hf
  have h0 : ¬t.val % 2 = 0 := by omega
  have hb : t.val - 1 < cfg0.N := Nat.lt_of_le_of_lt (Nat.sub_le _ _) t.isLt
  have g0 : (⟨t.val - 1, hb⟩ : Fin cfg0.N).val % 2 = 0 := by show (t.val - 1) % 2 = 0; omega
  have g1 : ¬(⟨t.val - 1, hb⟩ : Fin cfg0.N).val % 2 = 1 := by omega
  rw [Kernel8Ideal.Value.flushed2_B m c t h0 h1 h1, second, outsAt0_A m c ⟨t.val - 1, hb⟩ g0 g1 g1]
  dsimp only
  rw [first]
  funext y
  have hN : cfg0.N = 2 := N_0
  have ht : t.val = 1 := by have := t.isLt; omega
  have hy : (((cfg0.win 2).blk t).view.emb y) = y := by
    refine idx2_ext ?_ ?_
    · exact at_all (congrFun (idx2 t) 0) _ _
    · exact at_all (congrFun (idx2 t) 1) _ _
  show k0_pay4 (k0_pay3 (iblk m c 0 t) (iblk m c 1 t) (k0_pay2 (iblk m c 0 ⟨t.val - 1, hb⟩) (iblk m c 1 ⟨t.val - 1, hb⟩))) y
    = G (ar m c main_arg0) (ar m c main_arg1) (((cfg0.win 2).blk t).view.emb y)
  rw [hy, pay]
  unfold G
  rw [DownDw.halves]
  refine congrArg₂ (· + ·) ?_ ?_ <;> refine Finset.sum_congr rfl fun s _ => ?_
  · have h : (t.val - 1) * 2048 + s.val = s.val := by omega
    exact congrArg₂ (· * ·) (blk0 m c ⟨t.val - 1, hb⟩ s (y 0) ⟨s.val, by omega⟩ h) (blk1 m c ⟨t.val - 1, hb⟩ s (y 1) ⟨s.val, by omega⟩ h)
  · have h : t.val * 2048 + s.val = 2048 + s.val := by omega
    exact congrArg₂ (· * ·) (blk0 m c t s (y 0) ⟨2048 + s.val, by omega⟩ h) (blk1 m c t s (y 1) ⟨2048 + s.val, by omega⟩ h)

theorem final (c : Dev nD) : (dats m 0 c).arrAt 2 cfg0.N
    = G (ar m c main_arg0) (ar m c main_arg1) :=
  (dats m 0 c).arrAt_eq_of_cover 2 _ (fun t hf => flushed_eq m c t hf) (fun i => (Kernel8Ideal.Value.covered_iff2 i).2
    ⟨Nat.zero_le _, (i 0).isLt, Nat.zero_le _, (i 1).isLt⟩)

theorem same : @algebraic_Kernel8Ideal_Reference8Ideal Kernel8Ideal.Gen.facts Reference8Ideal.Gen.facts := by
  intro m g m' g' _ hargs
  refine ⟨fun c => G (ar m c main_arg0) (ar m c main_arg1), ?_, ?_⟩
  · refine (θ_run _ _ _).mono ?_ (Kernel8Ideal.Value.run_blocks m g)
    intro r h c
    exact ⟨(h c).1.trans (final m c), (h c).2⟩
  · refine (θ_run _ _ _).mono ?_ (Reference8Ideal.Value.run m' g')
    intro r h c
    obtain ⟨e0, e1, -⟩ := hargs c
    have e := (h c).1
    rw [e0, e1] at e
    exact ⟨e.trans (ref _ _), (h c).2⟩

theorem frame_ref : @quiescent_Reference8Ideal Reference8Ideal.Gen.facts := fun m g _ =>
  (θ_run _ _ _).mono (fun r h => ⟨fun c => (h c).2, sem_eq_zero_of_no_sems (by decide) r.2⟩) (Reference8Ideal.Value.run m g)

end Cert.Proof.OutDw

end
-- ==== Proof.Ffn.XaODw.lean ====
module

public import proofs.«01_k».proof.Proof.Gen.Kernel9Ideal.Value
public import proofs.«01_k».proof.Proof.Gen.Reference9Ideal.Run
public import proofs.«01_k».proof.Defs
public import proofs.«01_k».proof.Proof.Ffn.Index

@[expose] public section

noncomputable section

/-! The gradient of the cross attention's output weight. -/

namespace Cert.Proof.XaODw

open Cert.Reference9Ideal Cert.Reference9Ideal.Gen
open Idealize.ShloMosaic

/-- The gradient at row `f` and column `d`: the sum over the sequence. -/
def G (a : FVec 𝕀 S4096x512 .bf16) (b : FVec 𝕀 S4096x1024 .f32) : FVec 𝕀 S512x1024 .bf16 :=
  fun i => ∑ s : Fin 4096, (a (ix2 s (i 0)) : EReal) * b (ix2 s (i 1))

theorem ref (a : FVec 𝕀 S4096x512 .bf16) (b : FVec 𝕀 S4096x1024 .f32) :
    truncf .bf16 (transpose S512x1024 [1, 0] (Host.dotGeneral dot_S4096x1024_S4096x512_S1024x512_0_0_1_1_n_n none b (extf .f32 a bitsLt_bf16_f32))
      transposes_S1024x512_S512x1024_1_0) bitsLt_bf16_f32 = G a b := by
  funext i
  pointwise [G]
  exact Finset.sum_congr rfl fun s _ => mul_comm _ _

end Cert.Proof.XaODw

namespace Cert.Proof.XaODw

open Cert.Kernel9Ideal Cert.Kernel9Ideal.Gen
open Idealize.ShloMosaic Idealize.ShloMosaic.TcCoe Idealize.SL.Sem

theorem pay (a : FVec 𝕀 S4096x512 .bf16) (b : FVec 𝕀 S4096x1024 .f32) : k0_pay1 a b = G a b := by
  funext i
  pointwise [k0_pay1, G]

theorem same : @algebraic_Kernel9Ideal_Reference9Ideal Kernel9Ideal.Gen.facts Reference9Ideal.Gen.facts := by
  intro m g m' g' _ hargs
  refine ⟨fun c => G (ar m c main_arg0) (ar m c main_arg1), ?_, ?_⟩
  · refine (θ_run _ _ _).mono ?_ (Kernel9Ideal.Value.run m g)
    intro r h c
    exact ⟨(h c).1.trans (pay _ _), (h c).2⟩
  · refine (θ_run _ _ _).mono ?_ (Reference9Ideal.Value.run m' g')
    intro r h c
    obtain ⟨e0, e1, -⟩ := hargs c
    have e := (h c).1
    rw [e0, e1] at e
    exact ⟨e.trans (ref _ _), (h c).2⟩

theorem frame_ref : @quiescent_Reference9Ideal Reference9Ideal.Gen.facts := fun m g _ =>
  (θ_run _ _ _).mono (fun r h => ⟨fun c => (h c).2, sem_eq_zero_of_no_sems (by decide) r.2⟩) (Reference9Ideal.Value.run m g)

end Cert.Proof.XaODw

end
-- ==== Proof.Ffn.XaQDw.lean ====
module

public import proofs.«01_k».proof.Proof.Gen.Kernel10Ideal.Value
public import proofs.«01_k».proof.Proof.Gen.Reference10Ideal.Run
public import proofs.«01_k».proof.Defs
public import proofs.«01_k».proof.Proof.Ffn.Index

@[expose] public section

noncomputable section

/-! The gradient of the cross attention's query weight. -/

namespace Cert.Proof.XaQDw

open Cert.Reference10Ideal Cert.Reference10Ideal.Gen
open Idealize.ShloMosaic

/-- The gradient at row `f` and column `d`: the sum over the sequence. -/
def G (a : FVec 𝕀 S4096x1024 .bf16) (b : FVec 𝕀 S4096x512 .bf16) : FVec 𝕀 S1024x512 .bf16 :=
  fun i => ∑ s : Fin 4096, (a (ix2 s (i 0)) : EReal) * b (ix2 s (i 1))

theorem ref (a : FVec 𝕀 S4096x1024 .bf16) (b : FVec 𝕀 S4096x512 .bf16) :
    truncf .bf16 (transpose S1024x512 [1, 0] (Host.dotGeneral dot_S4096x512_S4096x1024_S512x1024_0_0_1_1_n_n none
      (extf .f32 b bitsLt_bf16_f32) (extf .f32 a bitsLt_bf16_f32)) transposes_S512x1024_S1024x512_1_0) bitsLt_bf16_f32 = G a b := by
  funext i
  pointwise [G]
  exact Finset.sum_congr rfl fun s _ => mul_comm _ _

end Cert.Proof.XaQDw

namespace Cert.Proof.XaQDw

open Cert.Kernel10Ideal Cert.Kernel10Ideal.Gen
open Idealize.ShloMosaic Idealize.ShloMosaic.TcCoe Idealize.SL.Sem

theorem pay (a : FVec 𝕀 S4096x1024 .bf16) (b : FVec 𝕀 S4096x512 .bf16) : k0_pay1 a b = G a b := by
  funext i
  pointwise [k0_pay1, G]

theorem same : @algebraic_Kernel10Ideal_Reference10Ideal Kernel10Ideal.Gen.facts Reference10Ideal.Gen.facts := by
  intro m g m' g' _ hargs
  refine ⟨fun c => G (ar m c main_arg0) (ar m c main_arg1), ?_, ?_⟩
  · refine (θ_run _ _ _).mono ?_ (Kernel10Ideal.Value.run m g)
    intro r h c
    exact ⟨(h c).1.trans (pay _ _), (h c).2⟩
  · refine (θ_run _ _ _).mono ?_ (Reference10Ideal.Value.run m' g')
    intro r h c
    obtain ⟨e0, e1, -⟩ := hargs c
    have e := (h c).1
    rw [e0, e1] at e
    exact ⟨e.trans (ref _ _), (h c).2⟩

theorem frame_ref : @quiescent_Reference10Ideal Reference10Ideal.Gen.facts := fun m g _ =>
  (θ_run _ _ _).mono (fun r h => ⟨fun c => (h c).2, sem_eq_zero_of_no_sems (by decide) r.2⟩) (Reference10Ideal.Value.run m g)

end Cert.Proof.XaQDw

end
-- ==== Proof.Ffn.XaQDx.lean ====
module

public import proofs.«01_k».proof.Proof.Gen.Kernel11Ideal.Value
public import proofs.«01_k».proof.Proof.Gen.Reference11Ideal.Run
public import proofs.«01_k».proof.Defs
public import proofs.«01_k».proof.Proof.Ffn.Norm
public import Idealize.ShloMosaic.Lib.Pipeline.ValueKit.Acc

@[expose] public section

noncomputable section

/-! The gradient through the cross attention's query product and the norm before it: each point makes 1024 rows. -/

namespace Cert.Proof.XaQDx

open Cert.Reference11Ideal Cert.Reference11Ideal.Gen
open Idealize.ShloMosaic Idealize.ShloMosaic.TcCoe

/-- The gradient of the normed row. -/
def D (a : FVec 𝕀 S4096x512 .bf16) (w : FVec 𝕀 S1024x512 .bf16) (s : Fin 4096) (d : Fin 1024) : EReal :=
  ∑ f : Fin 512, (a (ix2 s f) : EReal) * w (ix2 d f)

/-- The hidden state's gradient. -/
def GX (a : FVec 𝕀 S4096x512 .bf16) (w : FVec 𝕀 S1024x512 .bf16) (h : FVec 𝕀 S4096x1024 .f32) (n : FVec 𝕀 S1x1024 .f32)
    (dh : FVec 𝕀 S4096x1024 .f32) : FVec 𝕀 S4096x1024 .f32 :=
  fun i => Norm.dx (D a w (i 0)) (fun d => h (ix2 (i 0) d)) (fun d => n (ix2 0 d)) (i 1) (dh i)

/-- The gains' gradient. -/
def GN (a : FVec 𝕀 S4096x512 .bf16) (w : FVec 𝕀 S1024x512 .bf16) (h : FVec 𝕀 S4096x1024 .f32) : FVec 𝕀 S1x1024 .f32 :=
  fun i => ∑ s : Fin 4096, Norm.dn (D a w s) (fun d => h (ix2 s d)) (i 1)

theorem refX (m : (ℓ : Loc nD τ sig) → Buf (Elt 𝕀) ℓ) (c : Dev nD) : Reference11Ideal.Value.res_main_v38 m c
    = GX (ar m c main_arg0) (ar m c main_arg1) (ar m c main_arg2)
      (ar m c main_arg3) (ar m c main_arg4) := by
  funext i
  pointwise [Reference11Ideal.Value.res_main_v38, GX, D, Norm.dx, Norm.tail, Norm.ms]
  simp only [Norm.div_len, Finset.univ_unique, Finset.sum_singleton]

end Cert.Proof.XaQDx

namespace Cert.Proof.XaQDx

open Cert.Kernel11Ideal Cert.Kernel11Ideal.Gen
open Idealize.ShloMosaic Idealize.ShloMosaic.TcCoe Idealize.SL.Sem

theorem payX (x0 : FVec 𝕀 S1024x512 .bf16) (x1 : FVec 𝕀 S1024x512 .bf16) (y e : FVec 𝕀 S1024x1024 .f32) (n : FVec 𝕀 S1x1024 .f32) (i : S1024x1024.Idx) :
    k0_pay1 y e (k0_pay9 x0 x1 y n) (k0_pay10 x0 x1 y n) i
      = Norm.dx (fun d => k0_pay4 x0 x1 (ix2 (i 0) d)) (fun d => y (ix2 (i 0) d)) (fun d => n (ix2 0 d)) (i 1) (e i) := by
  unfold k0_pay10 k0_pay9 k0_pay8
  generalize k0_pay4 x0 x1 = x
  pointwise [k0_pay1, k0_pay6, k0_pay5, Norm.dx, Norm.tail, Norm.ms]
  simp only [Finset.univ_unique, Finset.sum_singleton, add_assoc]
  rw [add_comm (e i)]
  simp only [add_assoc]

theorem payN (x0 : FVec 𝕀 S1024x512 .bf16) (x1 : FVec 𝕀 S1024x512 .bf16) (y : FVec 𝕀 S1024x1024 .f32) (z : FVec 𝕀 S1x1024 .f32) (i : S1x1024.Idx) :
    k0_pay3 (k0_pay7 x0 x1 y) z i
      = z i + ∑ s : Fin 1024, Norm.dn (fun d => k0_pay4 x0 x1 (ix2 s d)) (fun d => y (ix2 s d)) (i 1) := by
  unfold k0_pay7
  generalize k0_pay4 x0 x1 = x
  pointwise [k0_pay3, k0_pay6, k0_pay5, Norm.dn, Norm.ms]

theorem pay2 (i : S1x1024.Idx) : k0_pay2 (F := 𝕀) i = (0 : EReal) := by
  pointwise [k0_pay2]

theorem pay4 (x0 : FVec 𝕀 S1024x512 .bf16) (x1 : FVec 𝕀 S1024x512 .bf16) (s : Fin 1024) (d : Fin 1024) :
    k0_pay4 x0 x1 (ix2 s d) = ∑ f : Fin 512, (x0 (ix2 s f) : EReal) * x1 (ix2 d f) := by
  pointwise [k0_pay4]

section
variable {F : FTy → Type} [FloatOps F] (c : Dev nD) (i : grid0.Coords)
  (arg4 : Memref sig .tc .vmem S1024x512 .bf16) (harg4 : arg4.IsWhole)
  (arg5 : Memref sig .tc .vmem S1024x512 .bf16) (harg5 : arg5.IsWhole)
  (arg6 : Memref sig .tc .vmem S1024x1024 .f32) (harg6 : arg6.IsWhole)
  (arg7 : Memref sig .tc .vmem S1024x1024 .f32) (harg7 : arg7.IsWhole)
  (arg8 : Memref sig .tc .vmem S1x1024 .f32) (harg8 : arg8.IsWhole)
  (arg9 : Memref sig .tc .vmem S1024x1024 .f32) (harg9 : arg9.IsWhole)
  (arg10 : Memref sig .tc .vmem S1x1024 .f32) (harg10 : arg10.IsWhole)
  (x0 : Vec F S1024x512 .bf16) (x1 : Vec F S1024x512 .bf16) (x2 : Vec F S1024x1024 .f32) (x3 : Vec F S1024x1024 .f32) (x4 : Vec F S1x1024 .f32)

theorem outA5 (hc0 : cond0_0 i) : out0_A_5 c i arg4 harg4 arg5 harg5 arg6 harg6 arg7 harg7 arg8 harg8 arg9 harg9 arg10 harg10 hc0 x0 x1 x2 x3 x4
    = k0_pay1 x2 x3 (k0_pay9 x0 x1 x2 x4) (k0_pay10 x0 x1 x2 x4) := by
  unfold out0_A_5
  rw [View.read_writes_eq_canon _ _ _ (cover0_A_5 c i arg4 harg4 arg5 harg5 arg6 harg6 arg7 harg7 arg8 harg8 arg9 harg9 arg10 harg10 hc0 x0 x1 x2 x3 x4)]
  unfold kernelRun0_A
  dsimp only
  sl_unfold_words
  rw [View.canon_unit_zero hz2]
  simp only [View.readAt_eq_ld, harg4.read_unread, harg5.read_unread, harg6.read_unread, harg7.read_unread, harg8.read_unread,
    View.ld_unit_zero (S := S1024x512) hz2, View.ld_unit_zero (S := S1024x1024) hz2, View.ld_unit_zero (S := S1x1024) hz2]

theorem outB5 (hc0 : ¬cond0_0 i) (xo6 : Vec F S1x1024 .f32) : out0_B_5 c i arg4 harg4 arg5 harg5 arg6 harg6 arg7 harg7 arg8 harg8 arg9 harg9 arg10 harg10 hc0 x0 x1 x2 x3 x4 xo6
    = k0_pay1 x2 x3 (k0_pay9 x0 x1 x2 x4) (k0_pay10 x0 x1 x2 x4) := by
  unfold out0_B_5
  rw [View.read_writes_eq_canon _ _ _ (cover0_B_5 c i arg4 harg4 arg5 harg5 arg6 harg6 arg7 harg7 arg8 harg8 arg9 harg9 arg10 harg10 hc0 x0 x1 x2 x3 x4 xo6)]
  unfold kernelRun0_B
  dsimp only
  sl_unfold_words
  rw [View.canon_unit_zero hz2]
  simp only [View.readAt_eq_ld, harg4.read_unread, harg5.read_unread, harg6.read_unread, harg7.read_unread, harg8.read_unread,
    View.ld_unit_zero (S := S1024x512) hz2, View.ld_unit_zero (S := S1024x1024) hz2, View.ld_unit_zero (S := S1x1024) hz2]

theorem outA6 (hc0 : cond0_0 i) : out0_A_6 c i arg4 harg4 arg5 harg5 arg6 harg6 arg7 harg7 arg8 harg8 arg9 harg9 arg10 harg10 hc0 x0 x1 x2 x3 x4
    = k0_pay3 (k0_pay7 x0 x1 x2) k0_pay2 := by
  unfold out0_A_6
  rw [View.read_writes_eq_canon _ _ _ (cover0_A_6 c i arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x1024) hz2, View.readCov_unit_zero (S := S1x1024) _ hz2]
  simp only [View.readAt_eq_ld, harg4.read_unread, harg5.read_unread, harg6.read_unread, harg7.read_unread, harg8.read_unread,
    View.ld_unit_zero (S := S1024x512) hz2, View.ld_unit_zero (S := S1024x1024) hz2, View.ld_unit_zero (S := S1x1024) hz2]

theorem outB6 (hc0 : ¬cond0_0 i) (xo6 : Vec F S1x1024 .f32) : out0_B_6 c i arg4 harg4 arg5 harg5 arg6 harg6 arg7 harg7 arg8 harg8 arg9 harg9 arg10 harg10 hc0 x0 x1 x2 x3 x4 xo6
    = k0_pay3 (k0_pay7 x0 x1 x2) xo6 := by
  unfold out0_B_6
  rw [View.read_writes_eq_canon _ _ _ (cover0_B_6 c i arg4 harg4 arg5 harg5 arg6 harg6 arg7 harg7 arg8 harg8 arg9 harg9 arg10 harg10 hc0 x0 x1 x2 x3 x4 xo6)]
  unfold kernelRun0_B
  dsimp only
  sl_unfold_words
  rw [View.canon_unit_zero hz2]
  simp only [View.readAt_eq_ld, harg4.read_unread, harg5.read_unread, harg6.read_unread, harg7.read_unread, harg8.read_unread,
    harg10.read_unread, View.ld_unit_zero (S := S1024x512) hz2, View.ld_unit_zero (S := S1024x1024) hz2, View.ld_unit_zero (S := S1x1024) hz2]

end

variable (m : (ℓ : Loc nD τ sig) → Buf (Elt 𝕀) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![0, 0] := by decide +kernel

/-- A block's product is the array's: row `s` of point `t`'s block is row `1024 t + s`. -/
theorem D_blk (c : Dev nD) (t : Fin cfg0.N) (s : Fin 1024) (d : Fin 1024) (s' : Fin 4096) (hs : t.val * 1024 + s.val = s'.val) :
    k0_pay4 (iblk m c 0 t) (iblk m c 1 t) (ix2 s d) = D (ar m c main_arg0) (ar m c main_arg1) s' d := by
  refine (pay4 _ _ s d).trans (Finset.sum_congr rfl fun f _ => congrArg₂ (fun a b : EReal => a * b) ?_ ?_)
  · refine congrArg (ar m c main_arg0) (idx2_ext ?_ ?_)
    · exact at_blk (congrFun (idx0 t) 0) hs
    · exact at_all (congrFun (idx0 t) 1) _ _
  · refine congrArg (ar m c main_arg1) (idx2_ext ?_ ?_)
    · exact at_all (congrFun (idx1 t) 0) _ _
    · exact at_all (congrFun (idx1 t) 1) _ _

theorem blk2 (c : Dev nD) (t : Fin cfg0.N) (s : Fin 1024) (d : Fin 1024) (s' : Fin 4096) (hs : t.val * 1024 + s.val = s'.val) :
    iblk m c 2 t (ix2 s d) = (ar m c main_arg2) (ix2 s' d) := by
  refine congrArg (ar m c main_arg2) (idx2_ext ?_ ?_)
  · exact at_blk (congrFun (idx2 t) 0) hs
  · exact at_all (congrFun (idx2 t) 1) _ _

theorem blk4 (c : Dev nD) (t : Fin cfg0.N) (d : Fin 1024) : iblk m c 4 t (ix2 0 d) = (ar m c main_arg3) (ix2 0 d) := by
  refine congrArg (ar m c main_arg3) (idx2_ext ?_ ?_)
  · show win0_4.index t (0 : Fin 2) * 1 + 1 * 0 = 0; rw [show win0_4.index t (0 : Fin 2) = 0 from congrFun (idx4 t) 0]
  · exact at_all (congrFun (idx4 t) 1) _ _

/-- A row's share of the gains' gradient, by the arrays. -/
abbrev share (c : Dev nD) (d : Fin 1024) (s : Fin 4096) : EReal :=
  Norm.dn (D (ar m c main_arg0) (ar m c main_arg1) s) (fun d => (ar m c main_arg2) (ix2 s d)) d

/-- After point `n` the gains' block holds the first `1024 (n + 1)` rows' shares. -/
theorem after (c : Dev nD) (i : S1x1024.Idx) (n : ℕ) (h : n < cfg0.N) :
    (outsAt0 m c n h).2 i = Norm.upto (share m c (i 1)) ((n + 1) * 1024) := by
  refine Norm.upto_run (share m c (i 1)) (fun n h => (outsAt0 m c n h).2 i) (fun n h s => Norm.dn
    (fun d => k0_pay4 (iblk m c 0 ⟨n, h⟩) (iblk m c 1 ⟨n, h⟩) (ix2 s d)) (fun d => iblk m c 2 ⟨n, h⟩ (ix2 s d)) (i 1))
    (fun n h s => ?_) (fun h => ?_) (fun n h => ?_) n h
  · have ht : n < 4 := Nat.lt_of_lt_of_eq h N_0
    have hs := s.isLt
    exact ⟨by omega, congrArg₂ (Norm.dn · · (i 1)) (funext fun d => D_blk m c ⟨n, h⟩ s d ⟨n * 1024 + s.val, by omega⟩ rfl)
      (funext fun d => blk2 m c ⟨n, h⟩ s d ⟨n * 1024 + s.val, by omega⟩ rfl)⟩
  · show (outsAt0 m c 0 h).2 i = _
    rw [outsAt0_A m c ⟨0, h⟩ rfl]
    dsimp only
    rw [outA6, payN, pay2]
    exact zero_add _
  · have hN : cfg0.N = 4 := N_0
    have hB : ¬(⟨n + 1, h⟩ : Fin cfg0.N).val % 4 = 0 := by dsimp only; omega
    show (outsAt0 m c (n + 1) h).2 i = _
    rw [outsAt0_B m c ⟨n + 1, h⟩ hB]
    dsimp only
    rw [outB6, payN]
    rfl

theorem outX_eq (c : Dev nD) (t : Fin cfg0.N) : (outsAt0 m c t.val t.isLt).1
    = k0_pay1 (iblk m c 2 t) (iblk m c 3 t) (k0_pay9 (iblk m c 0 t) (iblk m c 1 t) (iblk m c 2 t) (iblk m c 4 t))
      (k0_pay10 (iblk m c 0 t) (iblk m c 1 t) (iblk m c 2 t) (iblk m c 4 t)) := by
  by_cases h0 : t.val % 4 = 0
  · rw [outsAt0_A m c t h0]; dsimp only; rw [outA5]
  · rw [outsAt0_B m c t h0]; dsimp only; rw [outB5]

abbrev resX (c : Dev nD) : FVec 𝕀 S4096x1024 .f32 :=
  GX (ar m c main_arg0) (ar m c main_arg1) (ar m c main_arg2) (ar m c main_arg3) (ar m c main_arg4)
abbrev resN (c : Dev nD) : FVec 𝕀 S1x1024 .f32 :=
  GN (ar m c main_arg0) (ar m c main_arg1) (ar m c main_arg2)

theorem flushedX (c : Dev nD) (t : Fin cfg0.N) :
    (dats m 0 c).flushed 5 t = ((cfg0.win 5).blk t).view.read (Elt 𝕀) (resX m c) := by
  rw [Kernel11Ideal.Value.flushed5, outX_eq]
  funext y
  have h0 : t.val * 1024 + (y 0).val = (((cfg0.win 5).blk t).view.emb y 0).val := (at_blk (congrFun (idx5 t) 0) rfl).symm
  have h1 : (y 1).val = (((cfg0.win 5).blk t).view.emb y 1).val := (at_all (congrFun (idx5 t) 1) _ _).symm
  show k0_pay1 (iblk m c 2 t) (iblk m c 3 t) (k0_pay9 (iblk m c 0 t) (iblk m c 1 t) (iblk m c 2 t) (iblk m c 4 t))
      (k0_pay10 (iblk m c 0 t) (iblk m c 1 t) (iblk m c 2 t) (iblk m c 4 t)) y = resX m c (((cfg0.win 5).blk t).view.emb y)
  rw [payX]
  have e1 : (((cfg0.win 5).blk t).view.emb y 1) = y 1 := Fin.ext h1.symm
  show _ = Norm.dx _ _ _ (((cfg0.win 5).blk t).view.emb y 1) _
  rw [e1]
  have e3 : iblk m c 3 t y = (ar m c main_arg4) (((cfg0.win 5).blk t).view.emb y) := by
    refine congrArg (ar m c main_arg4) (idx2_ext ?_ ?_)
    · refine Eq.trans ?_ h0
      exact at_blk (congrFun (idx3 t) 0) rfl
    · refine Eq.trans ?_ h1
      exact at_all (congrFun (idx3 t) 1) _ _
  have eD := funext fun d => D_blk m c t (y 0) d (((cfg0.win 5).blk t).view.emb y 0) h0
  have e2 := funext fun d => blk2 m c t (y 0) d (((cfg0.win 5).blk t).view.emb y 0) h0
  have e4 := funext fun d => blk4 m c t d
  rw [e3]
  exact congr (congrFun (congr (congr (congrArg Norm.dx eD) e2) e4) (y 1)) rfl

theorem finalX (c : Dev nD) : (dats m 0 c).arrAt 5 cfg0.N = resX m c :=
  (dats m 0 c).arrAt_eq_of_cover 5 _ (fun t hf => flushedX m c t) (fun i => by
    have h0 : (i 0 : Nat) < 4096 := (i 0).isLt
    have h1 : (i 1 : Nat) < 1024 := (i 1).isLt
    have hN : (i 0 : Nat) / 1024 < cfg0.N := by rw [show cfg0.N = 4 from N_0]; omega
    refine ⟨⟨(i 0 : Nat) / 1024, hN⟩, flush0_5 _, in_slice fun a => ?_⟩
    match a with
    | ⟨0, _⟩ => exact in_blk (congrFun (idx5 _) 0) (Nat.succ_pos _)
    | ⟨1, _⟩ => exact in_all (congrFun (idx5 _) 1) (i 1).isLt)

theorem flushedN (c : Dev nD) (t : Fin cfg0.N) (hf : (cfg0.win 6).flush t = true) :
    (dats m 0 c).flushed 6 t = ((cfg0.win 6).blk t).view.read (Elt 𝕀) (resN m c) := by
  have hN : cfg0.N = 4 := N_0
  have h7 : t.val = 3 := by have := (flush0_6 t).mp hf; have := t.isLt; omega
  rw [Kernel11Ideal.Value.flushed6]
  funext y
  have h1 : (((cfg0.win 6).blk t).view.emb y) = y := by
    refine idx2_ext ?_ ?_
    · exact at_all (congrFun (idx6 t) 0) _ _
    · exact at_all (congrFun (idx6 t) 1) _ _
  show (outsAt0 m c t.val t.isLt).2 y = resN m c (((cfg0.win 6).blk t).view.emb y)
  rw [h1, after, h7]
  exact Norm.upto_all _

theorem finalN (c : Dev nD) : (dats m 0 c).arrAt 6 cfg0.N = resN m c :=
  (dats m 0 c).arrAt_eq_of_cover 6 _ (fun t hf => flushedN m c t hf) (fun i => by
    have hN : 3 < cfg0.N := by rw [show cfg0.N = 4 from N_0]; decide
    refine ⟨⟨3, hN⟩, (flush0_6 _).mpr rfl, in_slice fun a => ?_⟩
    match a with
    | ⟨0, _⟩ => exact in_all (congrFun (idx6 _) 0) (i 0).isLt
    | ⟨1, _⟩ => exact in_all (congrFun (idx6 _) 1) (i 1).isLt)

theorem same : @algebraic_Kernel11Ideal_Reference11Ideal Kernel11Ideal.Gen.facts Reference11Ideal.Gen.facts := by
  intro m g m' g' _ hargs
  refine ⟨fun c => resX m c, fun c => resN m c, ?_, ?_⟩
  · refine (θ_run _ _ _).mono ?_ (Kernel11Ideal.Value.run_blocks m g)
    intro r h c
    exact ⟨(h c).1.trans (finalX m c), (h c).2.1.trans (finalN m c), (h c).2.2⟩
  · refine (θ_run _ _ _).mono ?_ (Reference11Ideal.Value.run m' g')
    intro r h c
    obtain ⟨e0, e1, e2, e3, e4⟩ := hargs c
    have eX := (h c).1
    have eN := (h c).2.1
    rw [refX] at eX
    simp only [ar, e0, e1, e2, e3, e4] at eX
    rw [e0, e1, e2] at eN
    refine ⟨eX, eN.trans ?_, (h c).2.2⟩
    funext i
    pointwise [resN, GN, D, Norm.dn, Norm.ms]
    simp only [Norm.div_len]

theorem frame_ref : @quiescent_Reference11Ideal Reference11Ideal.Gen.facts := fun m g _ =>
  (θ_run _ _ _).mono (fun r h => ⟨fun c => (h c).2.2, sem_eq_zero_of_no_sems (by decide) r.2⟩) (Reference11Ideal.Value.run m g)

end Cert.Proof.XaQDx

end
-- ==== Proof.Ffn.GateFwd.lean ====
module

public import proofs.«01_k».proof.Proof.Gen.Kernel12Ideal.Value
public import proofs.«01_k».proof.Proof.Gen.Reference12Ideal.Run
public import proofs.«01_k».proof.Defs
public import proofs.«01_k».proof.Proof.Ffn.Index

@[expose] public section

noncomputable section

/-! The gate product: each point makes one shard's product with the whole sequence. -/

namespace Cert.Proof.GateFwd

open Cert.Reference12Ideal Cert.Reference12Ideal.Gen
open Idealize.ShloMosaic

/-- Shard `p`'s product at row `s` and column `f`: the sum over the model's width. -/
def G (a : FVec 𝕀 S4096x1024 .bf16) (b : FVec 𝕀 S4x704x1024 .bf16) : FVec 𝕀 S4x4096x704 .bf16 :=
  fun i => ∑ d : Fin 1024, (a (ix2 (i 1) d) : EReal) * b (ix3 (i 0) (i 2) d)

theorem ref (a : FVec 𝕀 S4096x1024 .bf16) (b : FVec 𝕀 S4x704x1024 .bf16) :
    truncf .bf16 (transpose S4x4096x704 [0, 2, 1] (Host.dotGeneral dot_S4x704x1024_S4096x1024_S4x704x4096_2_1_01_0_n_n none
      (extf .f32 b bitsLt_bf16_f32) (extf .f32 a bitsLt_bf16_f32)) transposes_S4x704x4096_S4x4096x704_0_2_1) bitsLt_bf16_f32 = G a b := by
  funext i
  pointwise [G]
  exact Finset.sum_congr rfl fun d _ => mul_comm _ _

end Cert.Proof.GateFwd

namespace Cert.Proof.GateFwd

open Cert.Kernel12Ideal Cert.Kernel12Ideal.Gen
open Idealize.ShloMosaic Idealize.ShloMosaic.TcCoe Idealize.SL.Sem

theorem pay (x : FVec 𝕀 S4096x1024 .bf16) (y : FVec 𝕀 S1x704x1024 .bf16) (i : S1x4096x704.Idx) :
    k0_pay1 x y i = ∑ d : Fin 1024, (x (ix2 (i 1) d) : EReal) * y (ix3 0 (i 2) d) := by
  pointwise [k0_pay1]

variable (m : (ℓ : Loc nD τ sig) → Buf (Elt 𝕀) ℓ)

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel
theorem flush2 : ∀ q : Fin 4, ∃ t : Fin cfg0.N, (cfg0.win 2).flush t = true ∧ t.val = q.val :=
  (by decide +kernel : ∀ q : Fin 4, ∃ t : Fin grid0.N, win0_2.flush t = true ∧ t.val = q.val)

theorem flushed_eq (c : Dev nD) (t : Fin cfg0.N) : (dats m 0 c).flushed 2 t
    = ((cfg0.win 2).blk t).view.read (Elt 𝕀) (G (ar m c main_arg0) (ar m c main_arg1)) := by
  rw [Kernel12Ideal.Value.flushed2]
  unfold out0_2
  rw [View.canon_unit_zero hz3, View.ld_unit_zero hz2, View.ld_unit_zero hz3]
  funext y
  have hy0 : (y 0).val < 1 := (y 0).isLt
  have hb0 : (((cfg0.win 2).blk t).view.emb y 0).val = t.val * 1 + 1 * (y 0).val := by
    show win0_2.index t (0 : Fin 3) * 1 + 1 * (y 0).val = _; rw [idx2]; rfl
  have hb1 : (((cfg0.win 2).blk t).view.emb y 1).val = 0 * 4096 + 1 * (y 1).val := by
    show win0_2.index t (1 : Fin 3) * 4096 + 1 * (y 1).val = _; rw [idx2]; rfl
  have hb2 : (((cfg0.win 2).blk t).view.emb y 2).val = 0 * 704 + 1 * (y 2).val := by
    show win0_2.index t (2 : Fin 3) * 704 + 1 * (y 2).val = _; rw [idx2]; rfl
  show k0_pay1 (iblk m c 0 t) (iblk m c 1 t) y
    = G (ar m c main_arg0) (ar m c main_arg1) (((cfg0.win 2).blk t).view.emb y)
  rw [pay]
  unfold G
  refine Finset.sum_congr rfl fun d _ => ?_
  have h0 : iblk m c 0 t (ix2 (y 1) d) = ar m c main_arg0 (ix2 (((cfg0.win 2).blk t).view.emb y 1) d) := by
    refine congrArg (ar m c main_arg0) (idx2_ext ?_ ?_)
    · refine Eq.trans ?_ hb1.symm
      show win0_0.index t (0 : Fin 2) * 4096 + 1 * (y 1).val = _; rw [idx0]; rfl
    · show win0_0.index t (1 : Fin 2) * 1024 + 1 * d.val = _; rw [idx0]; show 0 * 1024 + 1 * d.val = d.val; omega
  have h1 : iblk m c 1 t (ix3 0 (y 2) d) = ar m c main_arg1
      (ix3 (((cfg0.win 2).blk t).view.emb y 0) (((cfg0.win 2).blk t).view.emb y 2) d) := by
    refine congrArg (ar m c main_arg1) (idx3_ext ?_ ?_ ?_)
    · refine Eq.trans ?_ hb0.symm
      show win0_1.index t (0 : Fin 3) * 1 + 1 * 0 = _; rw [idx1]; show t.val * 1 + 1 * 0 = _; omega
    · refine Eq.trans ?_ hb2.symm
      show win0_1.index t (1 : Fin 3) * 704 + 1 * (y 2).val = _; rw [idx1]; rfl
    · show win0_1.index t (2 : Fin 3) * 1024 + 1 * d.val = _; rw [idx1]; show 0 * 1024 + 1 * d.val = d.val; omega
  rw [h0, h1]

theorem final (c : Dev nD) : (dats m 0 c).arrAt 2 cfg0.N
    = G (ar m c main_arg0) (ar m c main_arg1) :=
  (dats m 0 c).arrAt_eq_of_cover 2 _ (fun t hf => flushed_eq m c t) (fun i => by
    obtain ⟨t, hft, ht⟩ := flush2 (i 0)
    refine ⟨t, hft, in_slice fun a => ?_⟩
    match a with
    | ⟨0, _⟩ => exact in_blk ((congrFun (idx2 t) 0).trans (ht.trans (Nat.div_one _).symm)) (Nat.succ_pos _)
    | ⟨1, _⟩ => exact in_all (congrFun (idx2 t) 1) (i 1).isLt
    | ⟨2, _⟩ => exact in_all (congrFun (idx2 t) 2) (i 2).isLt)

theorem same : @algebraic_Kernel12Ideal_Reference12Ideal Kernel12Ideal.Gen.facts Reference12Ideal.Gen.facts := by
  intro m g m' g' _ hargs
  refine ⟨fun c => G (ar m c main_arg0) (ar m c main_arg1), ?_, ?_⟩
  · refine (θ_run _ _ _).mono ?_ (Kernel12Ideal.Value.run_blocks m g)
    intro r h c
    exact ⟨(h c).1.trans (final m c), (h c).2⟩
  · refine (θ_run _ _ _).mono ?_ (Reference12Ideal.Value.run m' g')
    intro r h c
    obtain ⟨e0, e1⟩ := hargs c
    have e := (h c).1
    rw [e0, e1] at e
    exact ⟨e.trans (ref _ _), (h c).2⟩

theorem frame_ref : @quiescent_Reference12Ideal Reference12Ideal.Gen.facts := fun m g _ =>
  (θ_run _ _ _).mono (fun r h => ⟨fun c => (h c).2, sem_eq_zero_of_no_sems (by decide) r.2⟩) (Reference12Ideal.Value.run m g)

end Cert.Proof.GateFwd

end
-- ==== Proof.Ffn.DownLoss.lean ====
module

public import proofs.«01_k».proof.Proof.Gen.Kernel13Ideal.Value
public import proofs.«01_k».proof.Proof.Gen.Reference13Ideal.Run
public import proofs.«01_k».proof.Defs
public import proofs.«01_k».proof.Proof.Ffn.Norm
public import Idealize.ShloMosaic.Lib.Pipeline.ValueKit.Acc

@[expose] public section

noncomputable section

/-! The down product with the residual, the loss and the loss's gradient: each point makes 512 rows. -/

namespace Cert.Proof.DownLoss

open Idealize.ShloMosaic

/-- One half and two, as the programs write them. -/
abbrev half : EReal := Ideal.ofBits FTy.f32 1056964608#32
abbrev two : EReal := Ideal.ofBits FTy.f32 1073741824#32

theorem half_eq : half = ((1 / 2 : ℝ) : EReal) := by
  simp [Ideal.ofBits, Ideal.ieee, -EReal.coe_mul]; norm_num
theorem two_eq : two = ((2 : ℝ) : EReal) := by
  simp [Ideal.ofBits, Ideal.ieee, -EReal.coe_mul]; norm_num

/-- The gradient of half a mean square, as the product rule leaves it. -/
theorem grad (e : EReal) : Ideal.div half Norm.len * (two * e) = e * Norm.inv := by
  rw [Norm.div_len, ← mul_assoc, mul_comm e]
  refine congrArg (· * e) ?_
  rw [half_eq, two_eq, Norm.inv_eq, ← EReal.coe_mul, ← EReal.coe_mul]
  norm_num

theorem sq_nonneg (x : EReal) : 0 ≤ x * x := by
  rcases le_total 0 x with h | h
  · exact EReal.mul_nonneg_iff.2 (Or.inl ⟨h, h⟩)
  · exact EReal.mul_nonneg_iff.2 (Or.inr ⟨h, h⟩)

theorem half_nonneg : 0 ≤ half := by rw [half_eq]; exact EReal.coe_nonneg.2 (by norm_num)
theorem inv_nonneg : 0 ≤ Norm.inv := by rw [Norm.inv_eq]; exact EReal.coe_nonneg.2 (by norm_num)

/-- A row's mean square error. -/
def mse (e : Fin 1024 → EReal) : EReal := (∑ d, e d * e d) * Norm.inv

theorem mse_nonneg (e : Fin 1024 → EReal) : 0 ≤ mse e :=
  EReal.mul_nonneg_iff.2 (Or.inl ⟨Finset.sum_nonneg fun d _ => sq_nonneg (e d), inv_nonneg⟩)

/-- One half goes into a sum of nonnegative terms. -/
theorem half_sum {ι : Type} (s : Finset ι) (f : ι → EReal) (hf : ∀ i, 0 ≤ f i) : half * ∑ i ∈ s, f i = ∑ i ∈ s, half * f i := by
  classical
  induction s using Finset.induction_on with
  | empty => simp
  | insert a s ha ih =>
    rw [Finset.sum_insert ha, Finset.sum_insert ha, EReal.left_distrib_of_nonneg (hf a) (Finset.sum_nonneg fun i _ => hf i), ih]

end Cert.Proof.DownLoss

namespace Cert.Proof.DownLoss

open Cert.Reference13Ideal Cert.Reference13Ideal.Gen
open Idealize.ShloMosaic Idealize.ShloMosaic.TcCoe

/-- The error at row `s` and column `d`: the residual and the product, summed over the shards and their columns, less the target. -/
def E (a : FVec 𝕀 S4x4096x704 .bf16) (w : FVec 𝕀 S4x704x1024 .bf16) (h t : FVec 𝕀 S4096x1024 .f32) (s : Fin 4096) (d : Fin 1024) : EReal :=
  ((h (ix2 s d) : EReal) + ∑ f : Fin 704, ∑ p : Fin 4, (a (ix3 p s f) : EReal) * w (ix3 p f d)) - t (ix2 s d)

/-- The loss's gradient. -/
def GX (a : FVec 𝕀 S4x4096x704 .bf16) (w : FVec 𝕀 S4x704x1024 .bf16) (h t : FVec 𝕀 S4096x1024 .f32) : FVec 𝕀 S4096x1024 .f32 :=
  fun i => E a w h t (i 0) (i 1) * Norm.inv

/-- The loss, in every lane. -/
def GLoss (a : FVec 𝕀 S4x4096x704 .bf16) (w : FVec 𝕀 S4x704x1024 .bf16) (h t : FVec 𝕀 S4096x1024 .f32) : FVec 𝕀 S1x128 .f32 :=
  fun _ => ∑ s : Fin 4096, half * mse (E a w h t s)

end Cert.Proof.DownLoss

namespace Cert.Proof.DownLoss

open Cert.Kernel13Ideal Cert.Kernel13Ideal.Gen
open Idealize.ShloMosaic Idealize.ShloMosaic.TcCoe Idealize.SL.Sem

theorem pay2 (y t : FVec 𝕀 S512x1024 .f32) (i : S512x1024.Idx) : k0_pay2 (F := 𝕀) y t i = ((y i : EReal) - t i) * Norm.inv := by
  pointwise [k0_pay2, k0_pay1]

theorem pay4 (y t : FVec 𝕀 S512x1024 .f32) (z : FVec 𝕀 S1x128 .f32) (i : S1x128.Idx) :
    k0_pay4 (F := 𝕀) y t z i = z i + half * ∑ s : Fin 512, mse (fun d => (y (ix2 s d) : EReal) - t (ix2 s d)) := by
  pointwise [k0_pay4, k0_pay1, mse]

theorem pay3 (i : S1x128.Idx) : k0_pay3 (F := 𝕀) i = (0 : EReal) := by
  pointwise [k0_pay3]

section
variable {F : FTy → Type} [FloatOps F]

/-- One shard's part of a block of rows, and of a whole weight. -/
def rows (p : ℕ) (inb : ∀ a, (![p, 0, 0] : Fin 3 → Nat) a + S1x512x704.size a ≤ S4x512x704.size a) (x : Vec F S4x512x704 .bf16) : Vec F S1x512x704 .bf16 :=
  View.ld x (Rect.unit (s := S4x512x704) ![p, 0, 0] S1x512x704.size inb)
def wts (p : ℕ) (inb : ∀ a, (![p, 0, 0] : Fin 3 → Nat) a + S1x704x1024.size a ≤ S4x704x1024.size a) (x : Vec F S4x704x1024 .bf16) : Vec F S1x704x1024 .bf16 :=
  View.ld x (Rect.unit (s := S4x704x1024) ![p, 0, 0] S1x704x1024.size inb)

/-- What the body computes of the product: four products added one by one, and the residual. -/
def B (x0 : Vec F S4x512x704 .bf16) (x1 : Vec F S4x704x1024 .bf16) (x2 : Vec F S512x1024 .f32) : FVec F S512x1024 .f32 :=
  k0_pay5 (rows 0 inb_S4x512x704_S1x512x704_0_0_0 x0) (wts 0 inb_S4x704x1024_S1x704x1024_0_0_0 x1)
    (rows 1 inb_S4x512x704_S1x512x704_1_0_0 x0) (wts 1 inb_S4x704x1024_S1x704x1024_1_0_0 x1)
    (rows 2 inb_S4x512x704_S1x512x704_2_0_0 x0) (wts 2 inb_S4x704x1024_S1x704x1024_2_0_0 x1)
    (rows 3 inb_S4x512x704_S1x512x704_3_0_0 x0) (wts 3 inb_S4x704x1024_S1x704x1024_3_0_0 x1) x2

variable (c : Dev nD) (i : grid0.Coords)
  (arg4 : Memref sig .tc .vmem S4x512x704 .bf16) (harg4 : arg4.IsWhole)
  (arg5 : Memref sig .tc .vmem S4x704x1024 .bf16) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S512x1024 .f32) (harg8 : arg8.IsWhole)
  (arg9 : Memref sig .tc .vmem S1x128 .f32) (harg9 : arg9.IsWhole)
  (x0 : Vec F S4x512x704 .bf16) (x1 : Vec F S4x704x1024 .bf16) (x2 : Vec F S512x1024 .f32) (x3 : Vec F S512x1024 .f32)

theorem outA4 (hc0 : cond0_0 i) : out0_A_4 c i arg4 harg4 arg5 harg5 arg6 harg6 arg7 harg7 arg8 harg8 arg9 harg9 hc0 x0 x1 x2 x3
    = k0_pay2 (B x0 x1 x2) x3 := by
  unfold out0_A_4
  rw [View.read_writes_eq_canon _ _ _ (cover0_A_4 c i arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg4.read_unread, harg5.read_unread, harg6.read_unread, harg7.read_unread,
    View.ld_unit_zero (S := S512x1024) hz2, View.ld_unit_zero (S := S1x128) hz2]
  rfl

theorem outB4 (hc0 : ¬cond0_0 i) (xo5 : Vec F S1x128 .f32) : out0_B_4 c i arg4 harg4 arg5 harg5 arg6 harg6 arg7 harg7 arg8 harg8 arg9 harg9 hc0 x0 x1 x2 x3 xo5
    = k0_pay2 (B x0 x1 x2) x3 := by
  unfold out0_B_4
  rw [View.read_writes_eq_canon _ _ _ (cover0_B_4 c i arg4 harg4 arg5 harg5 arg6 harg6 arg7 harg7 arg8 harg8 arg9 harg9 hc0 x0 x1 x2 x3 xo5)]
  unfold kernelRun0_B
  dsimp only
  sl_unfold_words
  rw [View.canon_unit_zero hz2]
  simp only [View.readAt_eq_ld, harg4.read_unread, harg5.read_unread, harg6.read_unread, harg7.read_unread,
    View.ld_unit_zero (S := S512x1024) hz2, View.ld_unit_zero (S := S1x128) hz2]
  rfl

theorem outA5 (hc0 : cond0_0 i) : out0_A_5 c i arg4 harg4 arg5 harg5 arg6 harg6 arg7 harg7 arg8 harg8 arg9 harg9 hc0 x0 x1 x2 x3
    = k0_pay4 (B x0 x1 x2) x3 k0_pay3 := by
  unfold out0_A_5
  rw [View.read_writes_eq_canon _ _ _ (cover0_A_5 c i arg4 harg4 arg5 harg5 arg6 harg6 arg7 harg7 arg8 harg8 arg9 harg9 hc0 x0 x1 x2 x3)]
  unfold kernelRun0_A
  dsimp only
  sl_unfold_words
  rw [View.canon_cons_unit_zero (S := S1x128) hz2, View.readCov_unit_zero (S := S1x128) _ hz2]
  simp only [View.readAt_eq_ld, harg4.read_unread, harg5.read_unread, harg6.read_unread, harg7.read_unread,
    View.ld_unit_zero (S := S512x1024) hz2, View.ld_unit_zero (S := S1x128) hz2]
  rfl

theorem outB5 (hc0 : ¬cond0_0 i) (xo5 : Vec F S1x128 .f32) : out0_B_5 c i arg4 harg4 arg5 harg5 arg6 harg6 arg7 harg7 arg8 harg8 arg9 harg9 hc0 x0 x1 x2 x3 xo5
    = k0_pay4 (B x0 x1 x2) x3 xo5 := by
  unfold out0_B_5
  rw [View.read_writes_eq_canon _ _ _ (cover0_B_5 c i arg4 harg4 arg5 harg5 arg6 harg6 arg7 harg7 arg8 harg8 arg9 harg9 hc0 x0 x1 x2 x3 xo5)]
  unfold kernelRun0_B
  dsimp only
  sl_unfold_words
  rw [View.canon_unit_zero hz2]
  simp only [View.readAt_eq_ld, harg4.read_unread, harg5.read_unread, harg6.read_unread, harg7.read_unread,
    harg9.read_unread, View.ld_unit_zero (S := S512x1024) hz2, View.ld_unit_zero (S := S1x128) hz2]
  rfl

end

theorem rows_at (n : ℕ) (p : Fin 4) (hp : n = p.val) (inb : ∀ a, (![n, 0, 0] : Fin 3 → Nat) a + S1x512x704.size a ≤ S4x512x704.size a) (x : Vec 𝕀 S4x512x704 .bf16)
    (s : Fin 512) (f : Fin 704) : rows n inb x (ix3 0 s f) = x (ix3 p s f) := by
  subst hp
  refine congrArg x (idx3_ext ?_ ?_ ?_)
  · show p.val + 1 * 0 = p.val; omega
  · exact at_sub _
  · exact at_sub _

theorem wts_at (n : ℕ) (p : Fin 4) (hp : n = p.val) (inb : ∀ a, (![n, 0, 0] : Fin 3 → Nat) a + S1x704x1024.size a ≤ S4x704x1024.size a) (x : Vec 𝕀 S4x704x1024 .bf16)
    (f : Fin 704) (d : Fin 1024) : wts n inb x (ix3 0 f d) = x (ix3 p f d) := by
  subst hp
  refine congrArg x (idx3_ext ?_ ?_ ?_)
  · show p.val + 1 * 0 = p.val; omega
  · exact at_sub _
  · exact at_sub _

/-- One shard's product. -/
theorem part (n : ℕ) (p : Fin 4) (hp : n = p.val) (inb : ∀ a, (![n, 0, 0] : Fin 3 → Nat) a + S1x512x704.size a ≤ S4x512x704.size a)
    (inb' : ∀ a, (![n, 0, 0] : Fin 3 → Nat) a + S1x704x1024.size a ≤ S4x704x1024.size a) (x : Vec 𝕀 S4x512x704 .bf16) (w : Vec 𝕀 S4x704x1024 .bf16)
    (i : S512x1024.Idx) : (∑ f : Fin 704, (rows n inb x (ix3 0 (i 0) f) : EReal) * wts n inb' w (ix3 0 f (i 1)))
      = ∑ f : Fin 704, (x (ix3 p (i 0) f) : EReal) * w (ix3 p f (i 1)) :=
  Finset.sum_congr rfl fun f _ => congrArg₂ (fun a b : EReal => a * b) (rows_at n p hp inb x (i 0) f) (wts_at n p hp inb' w f (i 1))

theorem four (a0 a1 a2 a3 : Vec 𝕀 S1x512x704 .bf16) (b0 b1 b2 b3 : Vec 𝕀 S1x704x1024 .bf16) (h : FVec 𝕀 S512x1024 .f32) (i : S512x1024.Idx) :
    k0_pay5 (F := 𝕀) a0 b0 a1 b1 a2 b2 a3 b3 h i
      = (∑ f : Fin 704, (a0 (ix3 0 (i 0) f) : EReal) * b0 (ix3 0 f (i 1))) + (∑ f : Fin 704, (a1 (ix3 0 (i 0) f) : EReal) * b1 (ix3 0 f (i 1)))
        + (∑ f : Fin 704, (a2 (ix3 0 (i 0) f) : EReal) * b2 (ix3 0 f (i 1))) + (∑ f : Fin 704, (a3 (ix3 0 (i 0) f) : EReal) * b3 (ix3 0 f (i 1))) + h i := by
  pointwise [k0_pay5]

theorem B_at (x0 : Vec 𝕀 S4x512x704 .bf16) (x1 : Vec 𝕀 S4x704x1024 .bf16) (x2 : Vec 𝕀 S512x1024 .f32) (i : S512x1024.Idx) :
    B (F := 𝕀) x0 x1 x2 i = (x2 i : EReal) + ∑ f : Fin 704, ∑ p : Fin 4, (x0 (ix3 p (i 0) f) : EReal) * x1 (ix3 p f (i 1)) := by
  unfold B
  rw [four, part 0 0 rfl, part 1 1 rfl, part 2 2 rfl, part 3 3 rfl, Finset.sum_comm, Fin.sum_univ_four]
  exact add_comm _ _

variable (m : (ℓ : Loc nD τ sig) → Buf (Elt 𝕀) ℓ)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel

/-- A block's error is the array's: row `s` of point `t`'s block is row `512 t + s`. -/
theorem E_blk (c : Dev nD) (t : Fin cfg0.N) (s : Fin 512) (d : Fin 1024) (s' : Fin 4096) (hs : t.val * 512 + s.val = s'.val) :
    HSub.hSub (α := EReal) (β := EReal) (B (F := 𝕀) (iblk m c 0 t) (iblk m c 1 t) (iblk m c 2 t) (ix2 s d)) (iblk m c 3 t (ix2 s d))
      = E (ar m c main_arg0) (ar m c main_arg1) (ar m c main_arg2) (ar m c main_arg3) s' d := by
  unfold E
  refine congrArg₂ (fun a b : EReal => a - b) ((B_at _ _ _ _).trans (congrArg₂ (fun a b : EReal => a + b) ?_
    (Finset.sum_congr rfl fun f _ => Finset.sum_congr rfl fun p _ => congrArg₂ (fun a b : EReal => a * b) ?_ ?_))) ?_
  · refine congrArg (ar m c main_arg2) (idx2_ext ?_ ?_)
    · exact at_blk (congrFun (idx2 t) 0) hs
    · exact at_all (congrFun (idx2 t) 1) _ _
  · refine congrArg (ar m c main_arg0) (idx3_ext ?_ ?_ ?_)
    · exact at_all (congrFun (idx0 t) 0) _ _
    · exact at_blk (congrFun (idx0 t) 1) hs
    · exact at_all (congrFun (idx0 t) 2) _ _
  · refine congrArg (ar m c main_arg1) (idx3_ext ?_ ?_ ?_)
    · exact at_all (congrFun (idx1 t) 0) _ _
    · exact at_all (congrFun (idx1 t) 1) _ _
    · exact at_all (congrFun (idx1 t) 2) _ _
  · refine congrArg (ar m c main_arg3) (idx2_ext ?_ ?_)
    · exact at_blk (congrFun (idx3 t) 0) hs
    · exact at_all (congrFun (idx3 t) 1) _ _

/-- A row's share of the loss, by the arrays. -/
abbrev share (c : Dev nD) (s : Fin 4096) : EReal := half * mse (E (ar m c main_arg0) (ar m c main_arg1) (ar m c main_arg2) (ar m c main_arg3) s)

/-- After point `n` the loss's block holds the first `512 (n + 1)` rows' shares. -/
theorem after (c : Dev nD) (i : S1x128.Idx) (n : ℕ) (h : n < cfg0.N) :
    (outsAt0 m c n h).2 i = Norm.upto (share m c) ((n + 1) * 512) := by
  refine Norm.upto_run (share m c) (fun n h => (outsAt0 m c n h).2 i) (fun n h s => half * mse (fun d => HSub.hSub (α := EReal) (β := EReal)
    (B (F := 𝕀) (iblk m c 0 ⟨n, h⟩) (iblk m c 1 ⟨n, h⟩) (iblk m c 2 ⟨n, h⟩) (ix2 s d)) (iblk m c 3 ⟨n, h⟩ (ix2 s d))))
    (fun n h s => ?_) (fun h => ?_) (fun n h => ?_) n h
  · have ht : n < 8 := Nat.lt_of_lt_of_eq h N_0
    have hs := s.isLt
    exact ⟨by omega, congrArg (fun e => half * mse e) (funext fun d => E_blk m c ⟨n, h⟩ s d ⟨n * 512 + s.val, by omega⟩ rfl)⟩
  · show (outsAt0 m c 0 h).2 i = _
    rw [outsAt0_A m c ⟨0, h⟩ rfl]
    dsimp only
    rw [outA5, pay4, pay3, half_sum _ _ fun _ => mse_nonneg _]
    exact zero_add _
  · have hN : cfg0.N = 8 := N_0
    have hB : ¬(⟨n + 1, h⟩ : Fin cfg0.N).val % 8 = 0 := by dsimp only; omega
    show (outsAt0 m c (n + 1) h).2 i = _
    rw [outsAt0_B m c ⟨n + 1, h⟩ hB]
    dsimp only
    rw [outB5, pay4, half_sum _ _ fun _ => mse_nonneg _]
    rfl

theorem outX_eq (c : Dev nD) (t : Fin cfg0.N) : (outsAt0 m c t.val t.isLt).1
    = k0_pay2 (F := 𝕀) (B (iblk m c 0 t) (iblk m c 1 t) (iblk m c 2 t)) (iblk m c 3 t) := by
  by_cases h0 : t.val % 8 = 0
  · rw [outsAt0_A m c t h0]; dsimp only; rw [outA4]
  · rw [outsAt0_B m c t h0]; dsimp only; rw [outB4]

abbrev resX (c : Dev nD) : FVec 𝕀 S4096x1024 .f32 :=
  GX (ar m c main_arg0) (ar m c main_arg1) (ar m c main_arg2) (ar m c main_arg3)
abbrev resL (c : Dev nD) : FVec 𝕀 S1x128 .f32 :=
  GLoss (ar m c main_arg0) (ar m c main_arg1) (ar m c main_arg2) (ar m c main_arg3)

theorem out_blk (c : Dev nD) (t : Fin cfg0.N) (y : S512x1024.Idx) (i : S4096x1024.Idx) (h0 : t.val * 512 + (y 0).val = (i 0).val) (h1 : (y 1).val = (i 1).val) :
    k0_pay2 (F := 𝕀) (B (iblk m c 0 t) (iblk m c 1 t) (iblk m c 2 t)) (iblk m c 3 t) y = resX m c i := by
  obtain ⟨s, d, rfl⟩ : ∃ s d, y = ix2 s d := ⟨y 0, y 1, idx2_ext rfl rfl⟩
  obtain ⟨s', d', rfl⟩ : ∃ s' d', i = ix2 s' d' := ⟨i 0, i 1, idx2_ext rfl rfl⟩
  obtain rfl : d = d' := Fin.ext h1
  rw [pay2]
  exact congrArg (fun x : EReal => x * Norm.inv) (E_blk m c t s d s' h0)

theorem flushedX (c : Dev nD) (t : Fin cfg0.N) :
    (dats m 0 c).flushed 4 t = ((cfg0.win 4).blk t).view.read (Elt 𝕀) (resX m c) := by
  rw [Kernel13Ideal.Value.flushed4, outX_eq]
  funext y
  have h0 : t.val * 512 + (y 0).val = (((cfg0.win 4).blk t).view.emb y 0).val := (at_blk (congrFun (idx4 t) 0) rfl).symm
  have h1 : (y 1).val = (((cfg0.win 4).blk t).view.emb y 1).val := (at_all (congrFun (idx4 t) 1) _ _).symm
  show k0_pay2 (F := 𝕀) (B (iblk m c 0 t) (iblk m c 1 t) (iblk m c 2 t)) (iblk m c 3 t) y = resX m c (((cfg0.win 4).blk t).view.emb y)
  exact out_blk m c t y _ h0 h1

theorem finalX (c : Dev nD) : (dats m 0 c).arrAt 4 cfg0.N = resX m c :=
  (dats m 0 c).arrAt_eq_of_cover 4 _ (fun t hf => flushedX m c t) (fun i => by
    have h0 : (i 0 : Nat) < 4096 := (i 0).isLt
    have hN : (i 0 : Nat) / 512 < cfg0.N := by rw [show cfg0.N = 8 from N_0]; omega
    refine ⟨⟨(i 0 : Nat) / 512, hN⟩, flush0_4 _, in_slice fun a => ?_⟩
    match a with
    | ⟨0, _⟩ => exact in_blk (congrFun (idx4 _) 0) (Nat.succ_pos _)
    | ⟨1, _⟩ => exact in_all (congrFun (idx4 _) 1) (i 1).isLt)

theorem flushedL (c : Dev nD) (t : Fin cfg0.N) (hf : (cfg0.win 5).flush t = true) :
    (dats m 0 c).flushed 5 t = ((cfg0.win 5).blk t).view.read (Elt 𝕀) (resL m c) := by
  have hN : cfg0.N = 8 := N_0
  have h7 : t.val = 7 := by have := (flush0_5 t).mp hf; have := t.isLt; omega
  rw [Kernel13Ideal.Value.flushed5]
  funext y
  show (outsAt0 m c t.val t.isLt).2 y = resL m c (((cfg0.win 5).blk t).view.emb y)
  rw [after, h7]
  exact Norm.upto_all _

theorem finalL (c : Dev nD) : (dats m 0 c).arrAt 5 cfg0.N = resL m c :=
  (dats m 0 c).arrAt_eq_of_cover 5 _ (fun t hf => flushedL m c t hf) (fun i => by
    have hN : 7 < cfg0.N := by rw [show cfg0.N = 8 from N_0]; decide
    refine ⟨⟨7, hN⟩, (flush0_5 _).mpr rfl, in_slice fun a => ?_⟩
    match a with
    | ⟨0, _⟩ => exact in_all (congrFun (idx5 _) 0) (i 0).isLt
    | ⟨1, _⟩ => exact in_all (congrFun (idx5 _) 1) (i 1).isLt)

theorem same : @algebraic_Kernel13Ideal_Reference13Ideal Kernel13Ideal.Gen.facts Reference13Ideal.Gen.facts := by
  intro m g m' g' _ hargs
  refine ⟨fun c => resX m c, fun c => resL m c, ?_, ?_⟩
  · refine (θ_run _ _ _).mono ?_ (Kernel13Ideal.Value.run_blocks m g)
    intro r h c
    exact ⟨(h c).1.trans (finalX m c), (h c).2.1.trans (finalL m c), (h c).2.2⟩
  · refine (θ_run _ _ _).mono ?_ (Reference13Ideal.Value.run m' g')
    intro r h c
    obtain ⟨e0, e1, e2, e3⟩ := hargs c
    have eX := (h c).1
    have eL := (h c).2.1
    rw [e0, e1, e2, e3] at eX
    rw [e0, e1, e2, e3] at eL
    refine ⟨eX.trans ?_, eL.trans ?_, (h c).2.2⟩
    · funext i
      pointwise [resX, GX, E]
      exact grad _
    · funext i
      refine Eq.trans ?_ (half_sum _ _ fun _ => mse_nonneg _)
      pointwise [mse, E]
      simp only [Norm.div_len]

theorem frame_ref : @quiescent_Reference13Ideal Reference13Ideal.Gen.facts := fun m g _ =>
  (θ_run _ _ _).mono (fun r h => ⟨fun c => (h c).2.2, sem_eq_zero_of_no_sems (by decide) r.2⟩) (Reference13Ideal.Value.run m g)

end Cert.Proof.DownLoss

end
-- ==== Proof.Ffn.OutFwd.lean ====
module

public import proofs.«01_k».proof.Proof.Gen.Kernel14Ideal.Value
public import proofs.«01_k».proof.Proof.Gen.Reference14Ideal.Run
public import proofs.«01_k».proof.Defs
public import proofs.«01_k».proof.Proof.Ffn.Norm

@[expose] public section

noncomputable section

/-! The mixers' output product with the residual and the next norm: each point makes 1024 rows. -/

namespace Cert.Proof.OutFwd

open Cert.Reference14Ideal Cert.Reference14Ideal.Gen
open Idealize.ShloMosaic

/-- The residual stream after the product. -/
def H (a : FVec 𝕀 S4096x1024 .bf16) (w : FVec 𝕀 S1024x1024 .bf16) (h : FVec 𝕀 S4096x1024 .f32) : FVec 𝕀 S4096x1024 .f32 :=
  fun i => (h i : EReal) + ∑ d : Fin 1024, a (ix2 (i 0) d) * w (ix2 d (i 1))

/-- Its norm with gains `n`. -/
def N (a : FVec 𝕀 S4096x1024 .bf16) (w : FVec 𝕀 S1024x1024 .bf16) (h : FVec 𝕀 S4096x1024 .f32) (n : FVec 𝕀 S1x1024 .f32) :
    FVec 𝕀 S4096x1024 .bf16 :=
  fun i => (H a w h i : EReal) * Ideal.rsqrt (Norm.ms fun d => H a w h (ix2 (i 0) d)) * n (ix2 0 (i 1))

theorem refH (a : FVec 𝕀 S4096x1024 .bf16) (w : FVec 𝕀 S1024x1024 .bf16) (h : FVec 𝕀 S4096x1024 .f32) :
    addf h (Host.dotGeneral dot_S4096x1024_S1024x1024_S4096x1024_1_0_0_1_n_n none (extf .f32 a bitsLt_bf16_f32) (extf .f32 w bitsLt_bf16_f32)) = H a w h := by
  funext i
  pointwise [H]

theorem refN (y : FVec 𝕀 S4096x1024 .f32) (n : FVec 𝕀 S1x1024 .f32) (i : S4096x1024.Idx) :
    truncf .bf16 (mulf (mulf y (broadcastInDim S4096x1024 ![0, 1] bcast_S4096x1_S4096x1024_0_1 (Host.rsqrt (addf (Host.divf
      (broadcastInDim S4096x1 ![0] bcast_S4096_S4096x1_0 (Host.reduceAdd (mulf y y) (constant S_ .f32 0x00000000#32)
      reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
      (broadcastInDim S4096x1024 ![0, 1] bcast_S1x1024_S4096x1024_0_1 n)) bitsLt_bf16_f32 i
    = (y i : EReal) * Ideal.rsqrt (Norm.ms fun d => y (ix2 (i 0) d)) * n (ix2 0 (i 1)) := by
  pointwise [Norm.ms]
  simp only [Norm.div_len]

end Cert.Proof.OutFwd

namespace Cert.Proof.OutFwd

open Cert.Kernel14Ideal Cert.Kernel14Ideal.Gen
open Idealize.ShloMosaic Idealize.ShloMosaic.TcCoe Idealize.SL.Sem

theorem payH (a : FVec 𝕀 S1024x1024 .bf16) (w : FVec 𝕀 S1024x1024 .bf16) (h : FVec 𝕀 S1024x1024 .f32) (i : S1024x1024.Idx) :
    k0_pay1 a w h i = (h i : EReal) + ∑ d : Fin 1024, a (ix2 (i 0) d) * w (ix2 d (i 1)) := by
  pointwise [k0_pay1]
  exact add_comm _ _

theorem payN (a : FVec 𝕀 S1024x1024 .bf16) (w : FVec 𝕀 S1024x1024 .bf16) (h : FVec 𝕀 S1024x1024 .f32) (n : FVec 𝕀 S1x1024 .f32)
    (i : S1024x1024.Idx) : k0_pay2 a w h n i
    = (k0_pay1 a w h i : EReal) * Ideal.rsqrt (Norm.ms fun d => k0_pay1 a w h (ix2 (i 0) d)) * n (ix2 0 (i 1)) := by
  unfold k0_pay2
  generalize k0_pay1 a w h = y
  pointwise [Norm.ms]

variable (m : (ℓ : Loc nD τ sig) → Buf (Elt 𝕀) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem flush : ∀ q : Fin 4, ∃ t : Fin cfg0.N, ((cfg0.win 4).flush t = true ∧ (cfg0.win 5).flush t = true) ∧ t.val = q.val :=
  (by decide +kernel : ∀ q : Fin 4, ∃ t : Fin grid0.N, (win0_4.flush t = true ∧ win0_5.flush t = true) ∧ t.val = q.val)

/-- A point's product and residual are the stream's, 1024 rows of it. -/
theorem rows (c : Dev nD) (t : Fin cfg0.N) (y : S1024x1024.Idx) (i : S4096x1024.Idx) (h0 : t.val * 1024 + (y 0).val = (i 0).val)
    (h1 : (y 1).val = (i 1).val) : k0_pay1 (iblk m c 0 t) (iblk m c 1 t) (iblk m c 2 t) y
    = H (ar m c main_arg0) (ar m c main_arg1) (ar m c main_arg2) i := by
  rw [payH]
  refine congrArg₂ (· + ·) ?_ (Finset.sum_congr rfl fun d _ => congrArg₂ (· * ·) ?_ ?_)
  · refine congrArg (ar m c main_arg2) (idx2_ext ?_ ?_)
    · exact at_blk (congrFun (idx2 t) 0) h0
    · exact (at_all (congrFun (idx2 t) 1) _ _).trans h1
  · refine congrArg (ar m c main_arg0) (idx2_ext ?_ ?_)
    · exact at_blk (congrFun (idx0 t) 0) h0
    · exact at_all (congrFun (idx0 t) 1) _ _
  · refine congrArg (ar m c main_arg1) (idx2_ext ?_ ?_)
    · exact at_all (congrFun (idx1 t) 0) _ _
    · exact (at_all (congrFun (idx1 t) 1) _ _).trans h1

theorem flushedH (c : Dev nD) (t : Fin cfg0.N) : (dats m 0 c).flushed 4 t = ((cfg0.win 4).blk t).view.read (Elt 𝕀)
    (H (ar m c main_arg0) (ar m c main_arg1) (ar m c main_arg2)) := by
  rw [Kernel14Ideal.Value.flushed4]
  unfold out0_4
  simp only [View.canon_unit_zero (S := S1024x1024) hz2, View.ld_unit_zero (S := S1024x1024) hz2]
  funext y
  refine rows m c t y (((cfg0.win 4).blk t).view.emb y) ?_ ?_
  · exact (at_blk (congrFun (idx4 t) 0) rfl).symm
  · exact (at_all (congrFun (idx4 t) 1) _ _).symm

theorem flushedN (c : Dev nD) (t : Fin cfg0.N) : (dats m 0 c).flushed 5 t = ((cfg0.win 5).blk t).view.read (Elt 𝕀)
    (N (ar m c main_arg0) (ar m c main_arg1) (ar m c main_arg2)
      (ar m c main_arg3)) := by
  rw [Kernel14Ideal.Value.flushed5]
  unfold out0_5
  simp only [View.canon_unit_zero (S := S1024x1024) hz2, View.ld_unit_zero (S := S1024x1024) hz2, View.ld_unit_zero (S := S1x1024) hz2]
  funext y
  have hb0 : t.val * 1024 + (y 0).val = (((cfg0.win 5).blk t).view.emb y 0).val := (at_blk (congrFun (idx5 t) 0) rfl).symm
  have hb1 : (y 1).val = (((cfg0.win 5).blk t).view.emb y 1).val := (at_all (congrFun (idx5 t) 1) _ _).symm
  refine (payN (iblk m c 0 t) (iblk m c 1 t) (iblk m c 2 t) (iblk m c 3 t) y).trans ?_
  refine congrArg₂ (· * ·) (congrArg₂ (· * ·) (rows m c t y _ hb0 hb1) (congrArg (fun f => Ideal.rsqrt (Norm.ms f))
    (funext fun d => rows m c t (ix2 (y 0) d) (ix2 (((cfg0.win 5).blk t).view.emb y 0) d) hb0 rfl))) ?_
  refine congrArg (ar m c main_arg3) (idx2_ext ?_ ?_)
  · show win0_3.index t (0 : Fin 2) * 1 + 1 * 0 = 0; rw [idx3]; rfl
  · exact (at_all (congrFun (idx3 t) 1) _ _).trans hb1

theorem finalH (c : Dev nD) : (dats m 0 c).arrAt 4 cfg0.N
    = H (ar m c main_arg0) (ar m c main_arg1) (ar m c main_arg2) :=
  (dats m 0 c).arrAt_eq_of_cover 4 _ (fun t hf => flushedH m c t) (fun i => by
    have h0 : (i 0).val < 4096 := (i 0).isLt
    obtain ⟨t, ⟨hft, -⟩, ht⟩ := flush ⟨(i 0).val / 1024, by omega⟩
    refine ⟨t, hft, in_slice fun a => ?_⟩
    match a with
    | ⟨0, _⟩ => exact in_blk ((congrFun (idx4 t) 0).trans ht) (Nat.succ_pos _)
    | ⟨1, _⟩ => exact in_all (congrFun (idx4 t) 1) (i 1).isLt)

theorem finalN (c : Dev nD) : (dats m 0 c).arrAt 5 cfg0.N
    = N (ar m c main_arg0) (ar m c main_arg1) (ar m c main_arg2)
      (ar m c main_arg3) :=
  (dats m 0 c).arrAt_eq_of_cover 5 _ (fun t hf => flushedN m c t) (fun i => by
    have h0 : (i 0).val < 4096 := (i 0).isLt
    obtain ⟨t, ⟨-, hft⟩, ht⟩ := flush ⟨(i 0).val / 1024, by omega⟩
    refine ⟨t, hft, in_slice fun a => ?_⟩
    match a with
    | ⟨0, _⟩ => exact in_blk ((congrFun (idx5 t) 0).trans ht) (Nat.succ_pos _)
    | ⟨1, _⟩ => exact in_all (congrFun (idx5 t) 1) (i 1).isLt)

theorem same : @algebraic_Kernel14Ideal_Reference14Ideal Kernel14Ideal.Gen.facts Reference14Ideal.Gen.facts := by
  intro m g m' g' _ hargs
  refine ⟨fun c => H (ar m c main_arg0) (ar m c main_arg1) (ar m c main_arg2),
    fun c => N (ar m c main_arg0) (ar m c main_arg1) (ar m c main_arg2)
      (ar m c main_arg3), ?_, ?_⟩
  · refine (θ_run _ _ _).mono ?_ (Kernel14Ideal.Value.run_blocks m g)
    intro r h c
    exact ⟨(h c).1.trans (finalH m c), (h c).2.1.trans (finalN m c), (h c).2.2⟩
  · refine (θ_run _ _ _).mono ?_ (Reference14Ideal.Value.run m' g')
    intro r h c
    obtain ⟨e0, e1, e2, e3⟩ := hargs c
    have eH := (h c).1
    have eN := (h c).2.1
    rw [e0, e1, e2, refH] at eH
    rw [e0, e1, e2, e3, refH] at eN
    exact ⟨eH, eN.trans (funext fun i => refN _ _ i), (h c).2.2⟩

theorem frame_ref : @quiescent_Reference14Ideal Reference14Ideal.Gen.facts := fun m g _ =>
  (θ_run _ _ _).mono (fun r h => ⟨fun c => (h c).2.2, sem_eq_zero_of_no_sems (by decide) r.2⟩) (Reference14Ideal.Value.run m g)

end Cert.Proof.OutFwd

end
-- ==== Proof.Ffn.XaOFwd.lean ====
module

public import proofs.«01_k».proof.Proof.Gen.Kernel15Ideal.Value
public import proofs.«01_k».proof.Proof.Gen.Reference15Ideal.Run
public import proofs.«01_k».proof.Defs
public import proofs.«01_k».proof.Proof.Ffn.Norm

@[expose] public section

noncomputable section

/-! The cross attention's output product with the residual and the next norm: each point makes 1024 rows. -/

namespace Cert.Proof.XaOFwd

open Cert.Reference15Ideal Cert.Reference15Ideal.Gen
open Idealize.ShloMosaic

/-- The residual stream after the product. -/
def H (a : FVec 𝕀 S4096x512 .bf16) (w : FVec 𝕀 S512x1024 .bf16) (h : FVec 𝕀 S4096x1024 .f32) : FVec 𝕀 S4096x1024 .f32 :=
  fun i => (h i : EReal) + ∑ d : Fin 512, a (ix2 (i 0) d) * w (ix2 d (i 1))

/-- Its norm with gains `n`. -/
def N (a : FVec 𝕀 S4096x512 .bf16) (w : FVec 𝕀 S512x1024 .bf16) (h : FVec 𝕀 S4096x1024 .f32) (n : FVec 𝕀 S1x1024 .f32) :
    FVec 𝕀 S4096x1024 .bf16 :=
  fun i => (H a w h i : EReal) * Ideal.rsqrt (Norm.ms fun d => H a w h (ix2 (i 0) d)) * n (ix2 0 (i 1))

theorem refH (a : FVec 𝕀 S4096x512 .bf16) (w : FVec 𝕀 S512x1024 .bf16) (h : FVec 𝕀 S4096x1024 .f32) :
    addf h (Host.dotGeneral dot_S4096x512_S512x1024_S4096x1024_1_0_0_1_n_n none (extf .f32 a bitsLt_bf16_f32) (extf .f32 w bitsLt_bf16_f32)) = H a w h := by
  funext i
  pointwise [H]

theorem refN (y : FVec 𝕀 S4096x1024 .f32) (n : FVec 𝕀 S1x1024 .f32) (i : S4096x1024.Idx) :
    truncf .bf16 (mulf (mulf y (broadcastInDim S4096x1024 ![0, 1] bcast_S4096x1_S4096x1024_0_1 (Host.rsqrt (addf (Host.divf
      (broadcastInDim S4096x1 ![0] bcast_S4096_S4096x1_0 (Host.reduceAdd (mulf y y) (constant S_ .f32 0x00000000#32)
      reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
      (broadcastInDim S4096x1024 ![0, 1] bcast_S1x1024_S4096x1024_0_1 n)) bitsLt_bf16_f32 i
    = (y i : EReal) * Ideal.rsqrt (Norm.ms fun d => y (ix2 (i 0) d)) * n (ix2 0 (i 1)) := by
  pointwise [Norm.ms]
  simp only [Norm.div_len]

end Cert.Proof.XaOFwd

namespace Cert.Proof.XaOFwd

open Cert.Kernel15Ideal Cert.Kernel15Ideal.Gen
open Idealize.ShloMosaic Idealize.ShloMosaic.TcCoe Idealize.SL.Sem

theorem payH (a : FVec 𝕀 S1024x512 .bf16) (w : FVec 𝕀 S512x1024 .bf16) (h : FVec 𝕀 S1024x1024 .f32) (i : S1024x1024.Idx) :
    k0_pay1 a w h i = (h i : EReal) + ∑ d : Fin 512, a (ix2 (i 0) d) * w (ix2 d (i 1)) := by
  pointwise [k0_pay1]
  exact add_comm _ _

theorem payN (a : FVec 𝕀 S1024x512 .bf16) (w : FVec 𝕀 S512x1024 .bf16) (h : FVec 𝕀 S1024x1024 .f32) (n : FVec 𝕀 S1x1024 .f32)
    (i : S1024x1024.Idx) : k0_pay2 a w h n i
    = (k0_pay1 a w h i : EReal) * Ideal.rsqrt (Norm.ms fun d => k0_pay1 a w h (ix2 (i 0) d)) * n (ix2 0 (i 1)) := by
  unfold k0_pay2
  generalize k0_pay1 a w h = y
  pointwise [Norm.ms]

variable (m : (ℓ : Loc nD τ sig) → Buf (Elt 𝕀) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem flush : ∀ q : Fin 4, ∃ t : Fin cfg0.N, ((cfg0.win 4).flush t = true ∧ (cfg0.win 5).flush t = true) ∧ t.val = q.val :=
  (by decide +kernel : ∀ q : Fin 4, ∃ t : Fin grid0.N, (win0_4.flush t = true ∧ win0_5.flush t = true) ∧ t.val = q.val)

/-- A point's product and residual are the stream's, 1024 rows of it. -/
theorem rows (c : Dev nD) (t : Fin cfg0.N) (y : S1024x1024.Idx) (i : S4096x1024.Idx) (h0 : t.val * 1024 + (y 0).val = (i 0).val)
    (h1 : (y 1).val = (i 1).val) : k0_pay1 (iblk m c 0 t) (iblk m c 1 t) (iblk m c 2 t) y
    = H (ar m c main_arg0) (ar m c main_arg1) (ar m c main_arg2) i := by
  rw [payH]
  refine congrArg₂ (· + ·) ?_ (Finset.sum_congr rfl fun d _ => congrArg₂ (· * ·) ?_ ?_)
  · refine congrArg (ar m c main_arg2) (idx2_ext ?_ ?_)
    · exact at_blk (congrFun (idx2 t) 0) h0
    · exact (at_all (congrFun (idx2 t) 1) _ _).trans h1
  · refine congrArg (ar m c main_arg0) (idx2_ext ?_ ?_)
    · exact at_blk (congrFun (idx0 t) 0) h0
    · exact at_all (congrFun (idx0 t) 1) _ _
  · refine congrArg (ar m c main_arg1) (idx2_ext ?_ ?_)
    · exact at_all (congrFun (idx1 t) 0) _ _
    · exact (at_all (congrFun (idx1 t) 1) _ _).trans h1

theorem flushedH (c : Dev nD) (t : Fin cfg0.N) : (dats m 0 c).flushed 4 t = ((cfg0.win 4).blk t).view.read (Elt 𝕀)
    (H (ar m c main_arg0) (ar m c main_arg1) (ar m c main_arg2)) := by
  rw [Kernel15Ideal.Value.flushed4]
  unfold out0_4
  simp only [View.canon_unit_zero (S := S1024x1024) hz2, View.ld_unit_zero (S := S1024x1024) hz2, View.ld_unit_zero (S := S1024x512) hz2, View.ld_unit_zero (S := S512x1024) hz2]
  funext y
  refine rows m c t y (((cfg0.win 4).blk t).view.emb y) ?_ ?_
  · exact (at_blk (congrFun (idx4 t) 0) rfl).symm
  · exact (at_all (congrFun (idx4 t) 1) _ _).symm

theorem flushedN (c : Dev nD) (t : Fin cfg0.N) : (dats m 0 c).flushed 5 t = ((cfg0.win 5).blk t).view.read (Elt 𝕀)
    (N (ar m c main_arg0) (ar m c main_arg1) (ar m c main_arg2)
      (ar m c main_arg3)) := by
  rw [Kernel15Ideal.Value.flushed5]
  unfold out0_5
  simp only [View.canon_unit_zero (S := S1024x1024) hz2, View.ld_unit_zero (S := S1024x1024) hz2, View.ld_unit_zero (S := S1x1024) hz2, View.ld_unit_zero (S := S1024x512) hz2, View.ld_unit_zero (S := S512x1024) hz2]
  funext y
  have hb0 : t.val * 1024 + (y 0).val = (((cfg0.win 5).blk t).view.emb y 0).val := (at_blk (congrFun (idx5 t) 0) rfl).symm
  have hb1 : (y 1).val = (((cfg0.win 5).blk t).view.emb y 1).val := (at_all (congrFun (idx5 t) 1) _ _).symm
  refine (payN (iblk m c 0 t) (iblk m c 1 t) (iblk m c 2 t) (iblk m c 3 t) y).trans ?_
  refine congrArg₂ (· * ·) (congrArg₂ (· * ·) (rows m c t y _ hb0 hb1) (congrArg (fun f => Ideal.rsqrt (Norm.ms f))
    (funext fun d => rows m c t (ix2 (y 0) d) (ix2 (((cfg0.win 5).blk t).view.emb y 0) d) hb0 rfl))) ?_
  refine congrArg (ar m c main_arg3) (idx2_ext ?_ ?_)
  · show win0_3.index t (0 : Fin 2) * 1 + 1 * 0 = 0; rw [idx3]; rfl
  · exact (at_all (congrFun (idx3 t) 1) _ _).trans hb1

theorem finalH (c : Dev nD) : (dats m 0 c).arrAt 4 cfg0.N
    = H (ar m c main_arg0) (ar m c main_arg1) (ar m c main_arg2) :=
  (dats m 0 c).arrAt_eq_of_cover 4 _ (fun t hf => flushedH m c t) (fun i => by
    have h0 : (i 0).val < 4096 := (i 0).isLt
    obtain ⟨t, ⟨hft, -⟩, ht⟩ := flush ⟨(i 0).val / 1024, by omega⟩
    refine ⟨t, hft, in_slice fun a => ?_⟩
    match a with
    | ⟨0, _⟩ => exact in_blk ((congrFun (idx4 t) 0).trans ht) (Nat.succ_pos _)
    | ⟨1, _⟩ => exact in_all (congrFun (idx4 t) 1) (i 1).isLt)

theorem finalN (c : Dev nD) : (dats m 0 c).arrAt 5 cfg0.N
    = N (ar m c main_arg0) (ar m c main_arg1) (ar m c main_arg2)
      (ar m c main_arg3) :=
  (dats m 0 c).arrAt_eq_of_cover 5 _ (fun t hf => flushedN m c t) (fun i => by
    have h0 : (i 0).val < 4096 := (i 0).isLt
    obtain ⟨t, ⟨-, hft⟩, ht⟩ := flush ⟨(i 0).val / 1024, by omega⟩
    refine ⟨t, hft, in_slice fun a => ?_⟩
    match a with
    | ⟨0, _⟩ => exact in_blk ((congrFun (idx5 t) 0).trans ht) (Nat.succ_pos _)
    | ⟨1, _⟩ => exact in_all (congrFun (idx5 t) 1) (i 1).isLt)

theorem same : @algebraic_Kernel15Ideal_Reference15Ideal Kernel15Ideal.Gen.facts Reference15Ideal.Gen.facts := by
  intro m g m' g' _ hargs
  refine ⟨fun c => H (ar m c main_arg0) (ar m c main_arg1) (ar m c main_arg2),
    fun c => N (ar m c main_arg0) (ar m c main_arg1) (ar m c main_arg2)
      (ar m c main_arg3), ?_, ?_⟩
  · refine (θ_run _ _ _).mono ?_ (Kernel15Ideal.Value.run_blocks m g)
    intro r h c
    exact ⟨(h c).1.trans (finalH m c), (h c).2.1.trans (finalN m c), (h c).2.2⟩
  · refine (θ_run _ _ _).mono ?_ (Reference15Ideal.Value.run m' g')
    intro r h c
    obtain ⟨e0, e1, e2, e3⟩ := hargs c
    have eH := (h c).1
    have eN := (h c).2.1
    rw [e0, e1, e2, refH] at eH
    rw [e0, e1, e2, e3, refH] at eN
    exact ⟨eH, eN.trans (funext fun i => refN _ _ i), (h c).2.2⟩

theorem frame_ref : @quiescent_Reference15Ideal Reference15Ideal.Gen.facts := fun m g _ =>
  (θ_run _ _ _).mono (fun r h => ⟨fun c => (h c).2.2, sem_eq_zero_of_no_sems (by decide) r.2⟩) (Reference15Ideal.Value.run m g)

end Cert.Proof.XaOFwd

end
-- ==== Proof.Ffn.ProjFwd.lean ====
module

public import proofs.«01_k».proof.Proof.Gen.Kernel16Ideal.Value
public import proofs.«01_k».proof.Proof.Gen.Reference16Ideal.Run
public import proofs.«01_k».proof.Defs
public import proofs.«01_k».proof.Proof.Ffn.Norm

@[expose] public section

noncomputable section

/-! The input projection: each point makes 512 rows of the product, the log decays of its gate columns and the norms of its two latents. -/

namespace Cert.Proof.ProjFwd

open Cert.Reference16Ideal Cert.Reference16Ideal.Gen
open Idealize.ShloMosaic

/-- The product. -/
def P (x : FVec 𝕀 S4096x1024 .bf16) (w : FVec 𝕀 S2176x1024 .bf16) : FVec 𝕀 S4096x2176 .f32 :=
  fun i => ∑ d : Fin 1024, (x (ix2 (i 0) d) : EReal) * w (ix2 (i 1) d)

/-- The gate's logit from its sixteen columns. -/
def Z (p : FVec 𝕀 S4096x2176 .f32) (w : FVec 𝕀 S16x256 .bf16) (b : FVec 𝕀 S1x256 .f32) : FVec 𝕀 S4096x256 .f32 :=
  fun i => (∑ k : Fin 16, (p (ix2 (i 0) ⟨2048 + k.val, by omega⟩) : EReal) * w (ix2 k (i 1))) + b (ix2 0 (i 1))

/-- A sixteenth of the log of the logistic function. -/
def ls (z : EReal) : EReal :=
  (min z 0 - Ideal.log (1 + Ideal.exp (0 - max z (-z)))) * Ideal.ofBits FTy.f32 0x3D800000#32

/-- A latent's norm at an entry: `k` the inverse of its length, `g` the gain. -/
def lat {n : ℕ} (y : Fin n → EReal) (k g : EReal) (d : Fin n) : EReal :=
  y d * Ideal.rsqrt ((∑ e, y e * y e) * k + Norm.eps) * g

theorem log_ne_bot (u : EReal) : Ideal.log (1 + Ideal.exp u) ≠ ⊥ := by
  have l (r : ℝ) (h : 0 < r) : Ideal.log (r : EReal) ≠ ⊥ := by
    show (if r ≤ 0 then (⊥ : EReal) else (Real.log r : EReal)) ≠ ⊥
    rw [if_neg (not_le.mpr h)]
    exact EReal.coe_ne_bot _
  induction u using EReal.rec with
  | bot =>
    rw [show Ideal.exp ⊥ = 0 from rfl, add_zero]
    exact l 1 one_pos
  | top =>
    rw [show Ideal.exp ⊤ = ⊤ from rfl, EReal.add_top_of_ne_bot (by decide)]
    exact top_ne_bot
  | coe r =>
    have e := l (1 + Real.exp r) (add_pos one_pos (Real.exp_pos r))
    rwa [EReal.coe_add] at e

theorem ls_eq (z : EReal) : Ideal.div (-(max (-z) 0 + Ideal.log1p (Ideal.exp (-max (-z) (-(-z)))))) (Ideal.ofBits FTy.f32 0x41800000#32) = ls z := by
  have e16 : Ideal.ofBits FTy.f32 0x41800000#32 = ((16 : ℝ) : EReal) := by
    simp [Ideal.ofBits, Ideal.ieee, -EReal.coe_mul]; norm_num
  have ei : Ideal.ofBits FTy.f32 0x3D800000#32 = ((1 / 16 : ℝ) : EReal) := by
    simp [Ideal.ofBits, Ideal.ieee, -EReal.coe_mul]; norm_num
  have hm : -max (-z) 0 = min z 0 := by
    rcases le_total z 0 with h | h
    · rw [min_eq_left h, max_eq_left (by simpa using EReal.neg_le_neg_iff.mpr h), neg_neg]
    · rw [min_eq_right h, max_eq_right (by simpa using EReal.neg_le_neg_iff.mpr h), neg_zero]
  rw [ls, e16, ei, Ideal.div_coe (by norm_num : (16 : ℝ) ≠ 0), Ideal.log1p, EReal.neg_add (.inl ?_) (.inr (log_ne_bot _)), hm, neg_neg, max_comm (-z) z, zero_sub]
  exact ne_of_gt (lt_of_lt_of_le EReal.bot_lt_zero (le_max_right _ _))

theorem div_256 (x : EReal) : Ideal.div x (Ideal.ofBits FTy.f32 0x43800000#32) = x * Ideal.ofBits FTy.f32 0x3B800000#32 := by
  have e : Ideal.ofBits FTy.f32 0x43800000#32 = ((256 : ℝ) : EReal) := by
    simp [Ideal.ofBits, Ideal.ieee, -EReal.coe_mul]; norm_num
  have ei : Ideal.ofBits FTy.f32 0x3B800000#32 = ((1 / 256 : ℝ) : EReal) := by
    simp [Ideal.ofBits, Ideal.ieee, -EReal.coe_mul]; norm_num
  rw [e, ei]
  exact Ideal.div_coe (by norm_num : (256 : ℝ) ≠ 0) x

theorem div_128 (x : EReal) : Ideal.div x (Ideal.ofBits FTy.f32 0x43000000#32) = x * Ideal.ofBits FTy.f32 0x3C000000#32 := by
  have e : Ideal.ofBits FTy.f32 0x43000000#32 = ((128 : ℝ) : EReal) := by
    simp [Ideal.ofBits, Ideal.ieee, -EReal.coe_mul]; norm_num
  have ei : Ideal.ofBits FTy.f32 0x3C000000#32 = ((1 / 128 : ℝ) : EReal) := by
    simp [Ideal.ofBits, Ideal.ieee, -EReal.coe_mul]; norm_num
  rw [e, ei]
  exact Ideal.div_coe (by norm_num : (128 : ℝ) ≠ 0) x

theorem refP (x : FVec 𝕀 S4096x1024 .bf16) (w : FVec 𝕀 S2176x1024 .bf16) :
    Host.dotGeneral dot_S4096x1024_S1024x2176_S4096x2176_1_0_0_1_n_n none (extf .f32 x bitsLt_bf16_f32)
      (transpose S1024x2176 [1, 0] (extf .f32 w bitsLt_bf16_f32) transposes_S2176x1024_S1024x2176_1_0) = P x w := by
  funext i
  pointwise [P]

theorem refZ (p : FVec 𝕀 S4096x2176 .f32) (w : FVec 𝕀 S16x256 .bf16) (b : FVec 𝕀 S1x256 .f32) :
    addf (Host.dotGeneral dot_S4096x16_S16x256_S4096x256_1_0_0_1_n_n none
      (extractStridedSlice S4096x16 ![0, 2048] p slices_S4096x2176_S4096x16_0_2048) (extf .f32 w bitsLt_bf16_f32))
      (broadcastInDim S4096x256 ![0, 1] bcast_S1x256_S4096x256_0_1 b) = Z p w b := by
  funext i
  pointwise [Z]

end Cert.Proof.ProjFwd

namespace Cert.Proof.ProjFwd

open Cert.Kernel16Ideal Cert.Kernel16Ideal.Gen
open Idealize.ShloMosaic Idealize.ShloMosaic.TcCoe Idealize.SL.Sem

theorem payP (x : FVec 𝕀 S512x1024 .bf16) (w : FVec 𝕀 S2176x1024 .bf16) (i : S512x2176.Idx) :
    k0_pay3 x w i = ∑ d : Fin 1024, (x (ix2 (i 0) d) : EReal) * w (ix2 (i 1) d) := by
  pointwise [k0_pay3]

theorem payA (x : FVec 𝕀 S512x1024 .bf16) (w : FVec 𝕀 S2176x1024 .bf16) (v : FVec 𝕀 S128x256 .bf16) (b : FVec 𝕀 S1x256 .f32) (i : S512x256.Idx) :
    k0_pay4 x w v b i
      = ls ((∑ k : Fin 128, (k0_pay3 x w (ix2 (i 0) ⟨2048 + k.val, by omega⟩) : EReal) * v (ix2 k (i 1))) + b (ix2 0 (i 1))) := by
  unfold k0_pay4
  generalize k0_pay3 x w = p
  pointwise [ls]
  rfl

theorem payQ (x : FVec 𝕀 S512x1024 .bf16) (w : FVec 𝕀 S2176x1024 .bf16) (n : FVec 𝕀 S1x256 .f32) (i : S512x256.Idx) :
    k0_pay1 n (k0_pay5 x w) (k0_pay6 x w) i
      = lat (fun d : Fin 256 => k0_pay3 x w (ix2 (i 0) ⟨1536 + d.val, by omega⟩)) (Ideal.ofBits FTy.f32 0x3B800000#32) (n (ix2 0 (i 1))) (i 1) := by
  unfold k0_pay1 k0_pay6 k0_pay5
  generalize k0_pay3 x w = p
  pointwise [lat]

theorem payK (p : FVec 𝕀 S512x2176 .f32) (n : FVec 𝕀 S1x128 .f32) (i : S512x128.Idx) :
    k0_pay2 p n i
      = lat (fun d : Fin 128 => p (ix2 (i 0) ⟨1792 + d.val, by omega⟩)) (Ideal.ofBits FTy.f32 0x3C000000#32) (n (ix2 0 (i 1))) (i 1) := by
  pointwise [k0_pay2, lat]

variable (m : (ℓ : Loc nD τ sig) → Buf (Elt 𝕀) ℓ)

/-- The host's padding: sixteen rows of the gate's weights, then zeros. -/
theorem pad_main (c : Dev nD) (j : S128x256.Idx) : V m c main_v0 j
    = if h : (j 0).val < 16 then ar m c main_arg2 (ix2 ⟨(j 0).val, h⟩ (j 1)) else (0 : EReal) := by
  have e : V m c main_v0 = pad S128x256 ![0, 0] ![112, 0] ![0, 0] (ar m c main_arg2 : FVec 𝕀 S16x256 .bf16)
      (sitofp .bf16 (constantI S_ 32 0#32) : FVec 𝕀 S_ .bf16) pads_S16x256_S128x256_01120_000 h_S_ := by
    unfold V
    simp only [hostOps0, hostOps0_1, List.flatten_cons, List.flatten_nil, List.append_nil, List.cons_append, List.nil_append,
      StableHlo.TRef.binary, StableHlo.TRef.unary, StableHlo.TRef.toBuf, StableHlo.TRef.ofBuf, cast_eq]
    after_results_simp
  rw [e]
  pointwise
  by_cases h : (j 0).val < 16
  · rw [dif_pos h, dif_pos (fun a => by
      match a with
      | ⟨0, _⟩ => exact ⟨Nat.zero_le _, Nat.mod_one _, (Nat.div_one _).trans_lt h⟩
      | ⟨1, _⟩ => exact ⟨Nat.zero_le _, Nat.mod_one _, (Nat.div_one _).trans_lt (j 1).isLt⟩)]
  · rw [dif_neg h, dif_neg (fun g => h ((Nat.div_one _).symm.trans_lt (g (0 : Fin 2)).2.2))]
    show (((0#32).toInt : ℝ) : EReal) = 0
    simp

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem flush : ∀ q : Fin 8, ∃ t : Fin cfg0.N, ((cfg0.win 6).flush t = true ∧ (cfg0.win 7).flush t = true ∧ (cfg0.win 8).flush t = true
    ∧ (cfg0.win 9).flush t = true) ∧ t.val = q.val :=
  (by decide +kernel : ∀ q : Fin 8, ∃ t : Fin grid0.N, (win0_6.flush t = true ∧ win0_7.flush t = true ∧ win0_8.flush t = true
    ∧ win0_9.flush t = true) ∧ t.val = q.val)

/-- The four results, of the arguments as launched. -/
def GP (c : Dev nD) : FVec 𝕀 S4096x2176 .f32 := P (ar m c main_arg0) (ar m c main_arg1)
def GA (c : Dev nD) : FVec 𝕀 S4096x256 .f32 :=
  fun i => ls (Z (GP m c) (ar m c main_arg2) (ar m c main_arg3) i)
def GQ (c : Dev nD) : FVec 𝕀 S4096x256 .bf16 :=
  fun i => lat (fun d : Fin 256 => GP m c (ix2 (i 0) ⟨1536 + d.val, by omega⟩)) (Ideal.ofBits FTy.f32 0x3B800000#32)
    ((ar m c main_arg4 : FVec 𝕀 S1x256 .f32) (ix2 0 (i 1))) (i 1)
def GK (c : Dev nD) : FVec 𝕀 S4096x128 .bf16 :=
  fun i => lat (fun d : Fin 128 => GP m c (ix2 (i 0) ⟨1792 + d.val, by omega⟩)) (Ideal.ofBits FTy.f32 0x3C000000#32)
    ((ar m c main_arg5 : FVec 𝕀 S1x128 .f32) (ix2 0 (i 1))) (i 1)

/-- A point's product is 512 rows of the product. -/
theorem rows (c : Dev nD) (t : Fin cfg0.N) (y : S512x2176.Idx) (i : S4096x2176.Idx) (h0 : t.val * 512 + (y 0).val = (i 0).val)
    (h1 : (y 1).val = (i 1).val) : k0_pay3 (iblk m c 0 t) (iblk m c 1 t) y = GP m c i := by
  rw [payP]
  unfold GP P
  refine Finset.sum_congr rfl fun d _ => congrArg₂ (· * ·) ?_ ?_
  · refine (congrFun (V_main_arg0 m c) _).trans (congrArg (ar m c main_arg0) (idx2_ext ?_ ?_))
    · exact at_blk (congrFun (idx0 t) 0) h0
    · exact at_all (congrFun (idx0 t) 1) _ _
  · refine (congrFun (V_main_arg1 m c) _).trans (congrArg (ar m c main_arg1) (idx2_ext ?_ ?_))
    · exact (at_all (congrFun (idx1 t) 0) _ _).trans h1
    · exact at_all (congrFun (idx1 t) 1) _ _

theorem flushedP (c : Dev nD) (t : Fin cfg0.N) : (dats m 0 c).flushed 6 t = ((cfg0.win 6).blk t).view.read (Elt 𝕀) (GP m c) := by
  rw [Kernel16Ideal.Value.flushed6]
  unfold out0_6 k0_pay7
  simp only [View.canon_unit_zero (S := S512x2176) hz2, View.ld_unit_zero (S := S512x1024) hz2, View.ld_unit_zero (S := S2176x1024) hz2]
  funext y
  exact rows m c t y (((cfg0.win 6).blk t).view.emb y) (at_blk (congrFun (idx6 t) 0) rfl).symm (at_all (congrFun (idx6 t) 1) _ _).symm

theorem flushedA (c : Dev nD) (t : Fin cfg0.N) : (dats m 0 c).flushed 7 t = ((cfg0.win 7).blk t).view.read (Elt 𝕀) (GA m c) := by
  rw [Kernel16Ideal.Value.flushed7]
  unfold out0_7
  simp only [View.canon_unit_zero (S := S512x256) hz2, View.ld_unit_zero (S := S512x1024) hz2, View.ld_unit_zero (S := S2176x1024) hz2, View.ld_unit_zero (S := S128x256) hz2, View.ld_unit_zero (S := S1x256) hz2]
  funext y
  have hb0 : t.val * 512 + (y 0).val = (((cfg0.win 7).blk t).view.emb y 0).val := (at_blk (congrFun (idx7 t) 0) rfl).symm
  have hb1 : (y 1).val = (((cfg0.win 7).blk t).view.emb y 1).val := (at_all (congrFun (idx7 t) 1) _ _).symm
  refine (payA (iblk m c 0 t) (iblk m c 1 t) (iblk m c 2 t) (iblk m c 3 t) y).trans (congrArg ls (congrArg₂ (· + ·) ?_ ?_))
  · have hv (k : Fin 128) : (iblk m c 2 t : FVec 𝕀 S128x256 .bf16) (ix2 k (y 1)) = if h : k.val < 16 then
        ar m c main_arg2 (ix2 ⟨k.val, h⟩ (((cfg0.win 7).blk t).view.emb y 1)) else (0 : EReal) :=
      (show _ = V m c main_v0 (ix2 k (((cfg0.win 7).blk t).view.emb y 1)) from congrArg (V m c main_v0) (idx2_ext (at_all (congrFun (idx2 t) 0) _ _)
        ((at_all (congrFun (idx2 t) 1) _ _).trans hb1))).trans (pad_main m c _)
    refine (Fin.sum_univ_add (a := 16) (b := 112) _).trans ?_
    refine (congrArg₂ (· + ·) (Finset.sum_congr rfl fun k _ => congrArg₂ (· * ·) (rows m c t _ (ix2 (((cfg0.win 7).blk t).view.emb y 0)
      ⟨2048 + k.val, by omega⟩) hb0 rfl) ((hv (Fin.castAdd 112 k)).trans (dif_pos k.isLt))) (Finset.sum_eq_zero fun k _ => ?_)).trans (add_zero _)
    rw [hv (Fin.natAdd 16 k), dif_neg (by show ¬ 16 + k.val < 16; omega), mul_zero]
  · refine (congrFun (V_main_arg3 m c) _).trans (congrArg (ar m c main_arg3) (idx2_ext ?_ ?_))
    · exact at_all (congrFun (idx3 t) 0) _ _
    · exact (at_all (congrFun (idx3 t) 1) _ _).trans hb1

theorem flushedQ (c : Dev nD) (t : Fin cfg0.N) : (dats m 0 c).flushed 8 t = ((cfg0.win 8).blk t).view.read (Elt 𝕀) (GQ m c) := by
  rw [Kernel16Ideal.Value.flushed8]
  unfold out0_8
  simp only [View.canon_unit_zero (S := S512x256) hz2, View.ld_unit_zero (S := S512x1024) hz2, View.ld_unit_zero (S := S2176x1024) hz2, View.ld_unit_zero (S := S1x256) hz2]
  funext y
  have hb0 : t.val * 512 + (y 0).val = (((cfg0.win 8).blk t).view.emb y 0).val := (at_blk (congrFun (idx8 t) 0) rfl).symm
  have hb1 : (y 1).val = (((cfg0.win 8).blk t).view.emb y 1).val := (at_all (congrFun (idx8 t) 1) _ _).symm
  refine (payQ (iblk m c 0 t) (iblk m c 1 t) (iblk m c 4 t) y).trans (congr (congrArg₂ (fun f g => lat f _ g) (funext fun d =>
    rows m c t _ (ix2 (((cfg0.win 8).blk t).view.emb y 0) ⟨1536 + d.val, by omega⟩) hb0 rfl) ?_) (Fin.ext hb1))
  refine (congrFun (V_main_arg4 m c) _).trans (congrArg (ar m c main_arg4) (idx2_ext ?_ ?_))
  · exact at_all (congrFun (idx4 t) 0) _ _
  · exact (at_all (congrFun (idx4 t) 1) _ _).trans hb1

theorem flushedK (c : Dev nD) (t : Fin cfg0.N) : (dats m 0 c).flushed 9 t = ((cfg0.win 9).blk t).view.read (Elt 𝕀) (GK m c) := by
  rw [Kernel16Ideal.Value.flushed9]
  unfold out0_9 k0_pay7
  simp only [View.canon_unit_zero (S := S512x128) hz2, View.ld_unit_zero (S := S512x1024) hz2, View.ld_unit_zero (S := S2176x1024) hz2, View.ld_unit_zero (S := S1x128) hz2]
  funext y
  have hb0 : t.val * 512 + (y 0).val = (((cfg0.win 9).blk t).view.emb y 0).val := (at_blk (congrFun (idx9 t) 0) rfl).symm
  have hb1 : (y 1).val = (((cfg0.win 9).blk t).view.emb y 1).val := (at_all (congrFun (idx9 t) 1) _ _).symm
  refine (payK (k0_pay3 (iblk m c 0 t) (iblk m c 1 t)) (iblk m c 5 t) y).trans (congr (congrArg₂ (fun f g => lat f _ g) (funext fun d =>
    rows m c t _ (ix2 (((cfg0.win 9).blk t).view.emb y 0) ⟨1792 + d.val, by omega⟩) hb0 rfl) ?_) (Fin.ext hb1))
  refine (congrFun (V_main_arg5 m c) _).trans (congrArg (ar m c main_arg5) (idx2_ext ?_ ?_))
  · exact at_all (congrFun (idx5 t) 0) _ _
  · exact (at_all (congrFun (idx5 t) 1) _ _).trans hb1

theorem finalP (c : Dev nD) : (dats m 0 c).arrAt 6 cfg0.N = GP m c :=
  (dats m 0 c).arrAt_eq_of_cover 6 _ (fun t hf => flushedP m c t) (fun i => by
    obtain ⟨t, ⟨h, -⟩, ht⟩ := flush ⟨(i 0).val / 512, Nat.div_lt_of_lt_mul (i 0).isLt⟩
    refine ⟨t, h, in_slice fun a => ?_⟩
    match a with
    | ⟨0, _⟩ => exact in_blk ((congrFun (idx6 t) 0).trans ht) (Nat.succ_pos _)
    | ⟨1, _⟩ => exact in_all (congrFun (idx6 t) 1) (i 1).isLt)

theorem finalA (c : Dev nD) : (dats m 0 c).arrAt 7 cfg0.N = GA m c :=
  (dats m 0 c).arrAt_eq_of_cover 7 _ (fun t hf => flushedA m c t) (fun i => by
    obtain ⟨t, ⟨-, h, -⟩, ht⟩ := flush ⟨(i 0).val / 512, Nat.div_lt_of_lt_mul (i 0).isLt⟩
    refine ⟨t, h, in_slice fun a => ?_⟩
    match a with
    | ⟨0, _⟩ => exact in_blk ((congrFun (idx7 t) 0).trans ht) (Nat.succ_pos _)
    | ⟨1, _⟩ => exact in_all (congrFun (idx7 t) 1) (i 1).isLt)

theorem finalQ (c : Dev nD) : (dats m 0 c).arrAt 8 cfg0.N = GQ m c :=
  (dats m 0 c).arrAt_eq_of_cover 8 _ (fun t hf => flushedQ m c t) (fun i => by
    obtain ⟨t, ⟨-, -, h, -⟩, ht⟩ := flush ⟨(i 0).val / 512, Nat.div_lt_of_lt_mul (i 0).isLt⟩
    refine ⟨t, h, in_slice fun a => ?_⟩
    match a with
    | ⟨0, _⟩ => exact in_blk ((congrFun (idx8 t) 0).trans ht) (Nat.succ_pos _)
    | ⟨1, _⟩ => exact in_all (congrFun (idx8 t) 1) (i 1).isLt)

theorem finalK (c : Dev nD) : (dats m 0 c).arrAt 9 cfg0.N = GK m c :=
  (dats m 0 c).arrAt_eq_of_cover 9 _ (fun t hf => flushedK m c t) (fun i => by
    obtain ⟨t, ⟨-, -, -, h⟩, ht⟩ := flush ⟨(i 0).val / 512, Nat.div_lt_of_lt_mul (i 0).isLt⟩
    refine ⟨t, h, in_slice fun a => ?_⟩
    match a with
    | ⟨0, _⟩ => exact in_blk ((congrFun (idx9 t) 0).trans ht) (Nat.succ_pos _)
    | ⟨1, _⟩ => exact in_all (congrFun (idx9 t) 1) (i 1).isLt)

theorem same : @algebraic_Kernel16Ideal_Reference16Ideal Kernel16Ideal.Gen.facts Reference16Ideal.Gen.facts := by
  intro m g m' g' _ hargs
  refine ⟨GP m, GA m, GQ m, GK m, ?_, ?_⟩
  · refine (θ_run _ _ _).mono ?_ (Kernel16Ideal.Value.run_blocks m g)
    intro r h c
    obtain ⟨hP, hA, hQ, hK, h⟩ := h c
    exact ⟨hP.trans (finalP m c), hA.trans (finalA m c), hQ.trans (finalQ m c), hK.trans (finalK m c), h⟩
  · refine (θ_run _ _ _).mono ?_ (Reference16Ideal.Value.run m' g')
    intro r h c
    obtain ⟨e0, e1, e2, e3, e4, e5⟩ := hargs c
    obtain ⟨hP, hA, hQ, hK, h⟩ := h c
    rw [e0, e1, refP] at hP
    rw [e0, e1, e2, e3, refP, refZ] at hA
    rw [e0, e1, e4, refP] at hQ
    rw [e0, e1, e5, refP] at hK
    refine ⟨hP, hA.trans (funext fun i => ?_), hQ.trans (funext fun i => ?_), hK.trans (funext fun i => ?_), h⟩
    · pointwise [GA, GP]
      rw [if_neg (fun h => h rfl)]
      exact ls_eq _
    · pointwise [GQ, GP, lat]
      simp only [div_256]
    · pointwise [GK, GP, lat]
      simp only [div_128]

theorem frame_ref : @quiescent_Reference16Ideal Reference16Ideal.Gen.facts := fun m g _ =>
  (θ_run _ _ _).mono (fun r h => ⟨fun c => (h c).2.2.2.2, sem_eq_zero_of_no_sems (by decide) r.2⟩) (Reference16Ideal.Value.run m g)

end Cert.Proof.ProjFwd

end
-- ==== Proof.Ffn.XaKv.lean ====
module

public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Reference17Ideal.Run
public import proofs.«01_k».proof.Proof.Gen.Reference18Ideal.Run
public import proofs.«01_k».proof.Proof.Gen.Reference19Ideal.Run
public import proofs.«01_k».proof.Defs
public import proofs.«01_k».proof.Proof.Ffn.Index

@[expose] public section

noncomputable section

/-! The keys and values of the cross attention: their product with the memory rows, and its two gradients. Each is one grid point. -/

namespace Cert.Proof.XaKv

open Idealize.ShloMosaic Idealize.ShloMosaic.TcCoe Idealize.SL.Sem

theorem fwd_same : @algebraic_Kernel17Ideal_Reference17Ideal Kernel17Ideal.Gen.facts Reference17Ideal.Gen.facts := by
  intro m g m' g' _ hargs
  refine ⟨fun c => Kernel17Ideal.Gen.k0_pay1 (ar m c Kernel17Ideal.main_arg0) (ar m c Kernel17Ideal.main_arg1),
    Kernel17Ideal.Value.run m g, (θ_run _ _ _).mono ?_ (Reference17Ideal.Value.run m' g')⟩
  intro r h c
  obtain ⟨e0, e1⟩ := hargs c
  have e := (h c).1
  rw [e0, e1] at e
  refine ⟨e.trans (funext fun i => ?_), (h c).2⟩
  pointwise [Kernel17Ideal.Gen.k0_pay1]

theorem fwd_frame : @quiescent_Reference17Ideal Reference17Ideal.Gen.facts := fun m g _ =>
  (θ_run _ _ _).mono (fun r h => ⟨fun c => (h c).2, sem_eq_zero_of_no_sems (by decide) r.2⟩) (Reference17Ideal.Value.run m g)

theorem dw_same : @algebraic_Kernel18Ideal_Reference18Ideal Kernel18Ideal.Gen.facts Reference18Ideal.Gen.facts := by
  intro m g m' g' _ hargs
  refine ⟨fun c => Kernel18Ideal.Gen.k0_pay1 (ar m c Kernel18Ideal.main_arg0) (ar m c Kernel18Ideal.main_arg1),
    Kernel18Ideal.Value.run m g, (θ_run _ _ _).mono ?_ (Reference18Ideal.Value.run m' g')⟩
  intro r h c
  obtain ⟨e0, e1, -⟩ := hargs c
  have e := (h c).1
  rw [e0, e1] at e
  refine ⟨e.trans (funext fun i => ?_), (h c).2⟩
  pointwise [Kernel18Ideal.Gen.k0_pay1]
  exact Finset.sum_congr rfl fun s _ => mul_comm _ _

theorem dw_frame : @quiescent_Reference18Ideal Reference18Ideal.Gen.facts := fun m g _ =>
  (θ_run _ _ _).mono (fun r h => ⟨fun c => (h c).2, sem_eq_zero_of_no_sems (by decide) r.2⟩) (Reference18Ideal.Value.run m g)

theorem dx_same : @algebraic_Kernel19Ideal_Reference19Ideal Kernel19Ideal.Gen.facts Reference19Ideal.Gen.facts := by
  intro m g m' g' _ hargs
  refine ⟨fun c => Kernel19Ideal.Gen.k0_pay1 (ar m c Kernel19Ideal.main_arg1) (ar m c Kernel19Ideal.main_arg2),
    Kernel19Ideal.Value.run m g, (θ_run _ _ _).mono ?_ (Reference19Ideal.Value.run m' g')⟩
  intro r h c
  obtain ⟨-, e1, e2⟩ := hargs c
  have e := (h c).1
  rw [e1, e2] at e
  refine ⟨e.trans (funext fun i => ?_), (h c).2⟩
  pointwise [Kernel19Ideal.Gen.k0_pay1]

theorem dx_frame : @quiescent_Reference19Ideal Reference19Ideal.Gen.facts := fun m g _ =>
  (θ_run _ _ _).mono (fun r h => ⟨fun c => (h c).2, sem_eq_zero_of_no_sems (by decide) r.2⟩) (Reference19Ideal.Value.run m g)

end Cert.Proof.XaKv

end
-- ==== Proof.Ffn.MemNorm.lean ====
module

public import proofs.«01_k».proof.Proof.Gen.Kernel20Ideal.Value
public import proofs.«01_k».proof.Proof.Gen.Kernel21Ideal.Value
public import proofs.«01_k».proof.Proof.Gen.Reference20Ideal.Run
public import proofs.«01_k».proof.Proof.Gen.Reference21Ideal.Run
public import proofs.«01_k».proof.Defs
public import proofs.«01_k».proof.Proof.Ffn.Norm

@[expose] public section

noncomputable section

/-! The norm of the memory rows and its gradient. Each is one grid point. -/

namespace Cert.Proof.MemNorm

open Idealize.ShloMosaic Idealize.ShloMosaic.TcCoe Idealize.SL.Sem

theorem fwd_same : @algebraic_Kernel20Ideal_Reference20Ideal Kernel20Ideal.Gen.facts Reference20Ideal.Gen.facts := by
  intro m g m' g' _ hargs
  refine ⟨fun c => Kernel20Ideal.Gen.k0_pay1 (F := 𝕀) (ar m c Kernel20Ideal.main_arg0) (ar m c Kernel20Ideal.main_arg1),
    Kernel20Ideal.Value.run m g, (θ_run _ _ _).mono ?_ (Reference20Ideal.Value.run m' g')⟩
  intro r h c
  obtain ⟨e0, e1⟩ := hargs c
  have e := (h c).1
  rw [e0, e1] at e
  refine ⟨e.trans (funext fun i => ?_), (h c).2⟩
  pointwise [Kernel20Ideal.Gen.k0_pay1]
  simp only [Norm.div_len]

theorem fwd_frame : @quiescent_Reference20Ideal Reference20Ideal.Gen.facts := fun m g _ =>
  (θ_run _ _ _).mono (fun r h => ⟨fun c => (h c).2, sem_eq_zero_of_no_sems (by decide) r.2⟩) (Reference20Ideal.Value.run m g)

open Cert.Kernel21Ideal Cert.Kernel21Ideal.Gen

variable (m : (ℓ : Loc nD τ sig) → Buf (Elt 𝕀) ℓ) (c : Dev nD) (t : Fin cfg0.N)

theorem idx : ∀ t : Fin grid0.N, (win0_0.index t = ![0, 0] ∧ win0_1.index t = ![0, 0] ∧ win0_2.index t = ![0, 0]) ∧ win0_3.index t = ![0, 0]
    ∧ (win0_4.index t = ![0, 0] ∧ win0_4.flush t = true) ∧ win0_5.index t = ![0, 0] ∧ win0_5.flush t = true := by decide +kernel

/-- The one grid point. -/
def t0 : Fin cfg0.N := ⟨0, by decide⟩

/-- The two gradients, of the arguments as launched. -/
def GX : FVec 𝕀 S256x1024 .f32 := k0_pay6 (F := 𝕀) (ar m c main_arg0) (ar m c main_arg2) (ar m c main_arg2) (ar m c main_arg1)
def GN : FVec 𝕀 S1x1024 .f32 := k0_pay2 (F := 𝕀) (k0_pay5 (F := 𝕀) (ar m c main_arg0) (ar m c main_arg2)) (k0_pay1 (F := 𝕀))

theorem blk0 : iblk m c 0 t = ar m c main_arg0 :=
  funext fun _ => congrArg (ar m c main_arg0) (idx2_ext (at_all (congrFun (idx t).1.1 0) _ _) (at_all (congrFun (idx t).1.1 1) _ _))
theorem blk1 : iblk m c 1 t = ar m c main_arg2 :=
  funext fun _ => congrArg (ar m c main_arg2) (idx2_ext (at_all (congrFun (idx t).1.2.1 0) _ _) (at_all (congrFun (idx t).1.2.1 1) _ _))
theorem blk2 : iblk m c 2 t = ar m c main_arg2 :=
  funext fun _ => congrArg (ar m c main_arg2) (idx2_ext (at_all (congrFun (idx t).1.2.2 0) _ _) (at_all (congrFun (idx t).1.2.2 1) _ _))
theorem blk3 : iblk m c 3 t = ar m c main_arg1 :=
  funext fun _ => congrArg (ar m c main_arg1) (idx2_ext (at_all (congrFun (idx t).2.1 0) _ _) (at_all (congrFun (idx t).2.1 1) _ _))

theorem outX : (outsAt0 m c t).1 = GX m c := by
  unfold outsAt0 out0_A_4
  dsimp only
  rw [View.read_writes_eq_canon _ _ _ (cover0_A_4 _ _ _ _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_2 t).read_unread, (hs0_3 t).read_unread,
    View.ld_unit_zero (S := S256x1024) hz2, View.ld_unit_zero (S := S1x1024) hz2, blk0, blk1, blk2, blk3]
  rfl

theorem outN : (outsAt0 m c t).2 = GN m c := by
  unfold outsAt0 out0_A_5
  dsimp only
  rw [View.read_writes_eq_canon _ _ _ (cover0_A_5 _ _ _ _ _ _ _ _ _ _ _ _ _ _ _ _ _ _ _)]
  unfold kernelRun0_A
  dsimp only
  sl_unfold_words
  rw [View.canon_cons_unit_zero (S := S1x1024) hz2, View.readCov_unit_zero (S := S1x1024) _ hz2]
  simp only [View.readAt_eq_ld, (hs0_0 t).read_unread, (hs0_1 t).read_unread, View.ld_unit_zero (S := S256x1024) hz2, blk0, blk1]
  rfl

theorem finalX : (dats m 0 c).arrAt 4 cfg0.N = GX m c :=
  (dats m 0 c).arrAt_eq_of_cover 4 _ (fun t hf => by
    rw [Kernel21Ideal.Value.flushed4, outX]
    funext y
    exact congrArg (GX m c) (idx2_ext (at_all (congrFun (idx t).2.2.1.1 0) _ _) (at_all (congrFun (idx t).2.2.1.1 1) _ _)).symm) (fun i => by
    refine ⟨t0, (idx _).2.2.1.2, in_slice fun a => ?_⟩
    match a with
    | ⟨0, _⟩ => exact in_all (congrFun (idx _).2.2.1.1 0) (i 0).isLt
    | ⟨1, _⟩ => exact in_all (congrFun (idx _).2.2.1.1 1) (i 1).isLt)

theorem finalN : (dats m 0 c).arrAt 5 cfg0.N = GN m c :=
  (dats m 0 c).arrAt_eq_of_cover 5 _ (fun t hf => by
    rw [Kernel21Ideal.Value.flushed5, outN]
    funext y
    exact congrArg (GN m c) (idx2_ext (at_all (congrFun (idx t).2.2.2.1 0) _ _) (at_all (congrFun (idx t).2.2.2.1 1) _ _)).symm) (fun i => by
    refine ⟨t0, (idx _).2.2.2.2, in_slice fun a => ?_⟩
    match a with
    | ⟨0, _⟩ => exact in_all (congrFun (idx _).2.2.2.1 0) (i 0).isLt
    | ⟨1, _⟩ => exact in_all (congrFun (idx _).2.2.2.1 1) (i 1).isLt)

theorem bwd_same : @algebraic_Kernel21Ideal_Reference21Ideal Kernel21Ideal.Gen.facts Reference21Ideal.Gen.facts := by
  intro m g m' g' _ hargs
  refine ⟨GX m, GN m, (θ_run _ _ _).mono ?_ (Kernel21Ideal.Value.run_blocks m g),
    (θ_run _ _ _).mono ?_ (Reference21Ideal.Value.run m' g')⟩
  · intro r h c
    exact ⟨(h c).1.trans (finalX m c), (h c).2.1.trans (finalN m c), (h c).2.2⟩
  · intro r h c
    obtain ⟨e0, e1, e2⟩ := hargs c
    obtain ⟨hX, hN, h⟩ := h c
    rw [e0, e1, e2] at hX
    rw [e0, e2] at hN
    refine ⟨hX.trans (funext fun i => ?_), hN.trans (funext fun i => ?_), h⟩
    · pointwise [GX, k0_pay6, k0_pay4, k0_pay3]
      simp only [Norm.div_len, Finset.univ_unique, Finset.sum_singleton, add_assoc]
      exact (add_comm _ _).trans (by simp only [add_assoc])
    · pointwise [GN, k0_pay2, k0_pay1, k0_pay5, k0_pay4, k0_pay3]
      simp only [Norm.div_len, zero_add]

theorem bwd_frame : @quiescent_Reference21Ideal Reference21Ideal.Gen.facts := fun m g _ =>
  (θ_run _ _ _).mono (fun r h => ⟨fun c => (h c).2.2, sem_eq_zero_of_no_sems (by decide) r.2⟩) (Reference21Ideal.Value.run m g)

end Cert.Proof.MemNorm

end
-- ==== Proof.Ffn.Mix.lean ====
module

public import proofs.«01_k».proof.Proof.Gen.Kernel22Ideal.Value
public import proofs.«01_k».proof.Proof.Gen.Reference22Ideal.Run
public import proofs.«01_k».proof.Defs
public import proofs.«01_k».proof.Proof.Ffn.ProjFwd

@[expose] public section

noncomputable section

/-! The linear attention's output, normed head by head and gated, beside the latent attention's. -/

namespace Cert.Proof.Mix

open Cert.Kernel22Ideal Cert.Kernel22Ideal.Gen
open Idealize.ShloMosaic Idealize.ShloMosaic.TcCoe Idealize.SL.Sem

/-- A head of the output's row: its norm, times the gate's silu. -/
def head (o g : Fin 512 → EReal) (n : Fin 128 → EReal) (k : ℕ) (h : k + 128 ≤ 512) (d : Fin 128) : EReal :=
  ProjFwd.lat (fun x : Fin 128 => o ⟨k + x.val, by omega⟩) (Ideal.ofBits FTy.f32 0x3C000000#32) (n d) d
    * (g ⟨k + d.val, by omega⟩ * Ideal.logistic (g ⟨k + d.val, by omega⟩))

/-- A row: the four heads, then the other attention's output. -/
def mix (o g a : Fin 512 → EReal) (n : Fin 128 → EReal) (e : Fin 1024) : EReal :=
  if h : e.val < 512 then head o g n (e.val / 128 * 128) (by omega) ⟨e.val % 128, by omega⟩ else a ⟨e.val - 512, by omega⟩

theorem pay (o g a : FVec 𝕀 S512x512 .f32) (n : FVec 𝕀 S1x128 .f32) (i : S512x1024.Idx) :
    k0_pay1 a n (k0_pay2 o) (k0_pay3 o) (k0_pay4 g) (k0_pay5 g)
      (k0_pay6 o g n) (k0_pay7 o g n) (k0_pay8 o) i
      = mix (fun e => o (ix2 (i 0) e)) (fun e => g (ix2 (i 0) e)) (fun e => a (ix2 (i 0) e)) (fun d => n (ix2 0 d)) (i 1) := by
  pointwise [k0_pay1, k0_pay2, k0_pay3, k0_pay4, k0_pay5, k0_pay6, k0_pay7, k0_pay8]
  unfold mix head ProjFwd.lat Norm.eps
  have he : (i 1).val < 1024 := (i 1).isLt
  split_ifs
  any_goals omega
  · simp only [show (i 1).val / 128 * 128 = 0 by omega, show (i 1).val % 128 = (i 1).val by omega, dif_pos (show (i 1).val < 512 by omega), Nat.zero_add]
  · simp only [show (i 1).val / 128 * 128 = 128 by omega, show (i 1).val % 128 = (i 1).val - 128 by omega, dif_pos (show (i 1).val < 512 by omega)]
  · simp only [show (i 1).val / 128 * 128 = 256 by omega, show (i 1).val % 128 = (i 1).val - 128 - 128 by omega, dif_pos (show (i 1).val < 512 by omega)]
  · simp only [show (i 1).val / 128 * 128 = 384 by omega, show (i 1).val % 128 = (i 1).val - 128 - 128 - 128 by omega, dif_pos (show (i 1).val < 512 by omega)]
  · simp only [Nat.sub_sub, dif_neg (show ¬ (i 1).val < 512 by omega)]

variable (m : (ℓ : Loc nD τ sig) → Buf (Elt 𝕀) ℓ) (c : Dev nD) (t : Fin cfg0.N)

theorem idx : ∀ t : Fin grid0.N, (win0_0.index t = ![t.val, 0] ∧ win0_1.index t = ![t.val, 2]) ∧ (win0_2.index t = ![t.val, 0]
    ∧ win0_3.index t = ![0, 0]) ∧ win0_4.index t = ![t.val, 0] ∧ win0_4.flush t = true := by decide +kernel

/-- The result, of the arguments as launched. -/
def G : FVec 𝕀 S4096x1024 .bf16 := fun i => mix (fun e => ar m c main_arg0 (ix2 (i 0) e))
  (fun e => ar m c main_arg1 (ix2 (i 0) ⟨1024 + e.val, by omega⟩)) (fun e => ar m c main_arg2 (ix2 (i 0) e))
  (fun d => ar m c main_arg3 (ix2 0 d)) (i 1)

theorem gate (r e : Fin 512) (R : Fin 4096) (hR : t.val * 512 + r.val = R.val) :
    X0_1 m c t (ix2 r e) = ar m c main_arg1 (ix2 R ⟨1024 + e.val, by omega⟩) := by
  let y : ((cfg0.win 1).xblock (cfg0.grid.coords t)).Idx := fun a => ⟨((ix2 r e : S512x512.Idx) a).val,
    lt_of_lt_of_eq ((ix2 r e : S512x512.Idx) a).isLt (xsize0_1 t a).symm⟩
  refine (congrArg (X0_1 m c t) (funext fun a => Fin.ext rfl : ix2 r e = (cfg0.win 1).xinj (grid0.coords t) y)).trans
    ((congrFun (Pipeline.Window.cut_fill (cfg0.win 1) (cfg0.grid.coords t) dflt0_1 (iblk m c 1 t)) y).trans
      (congrArg (ar m c main_arg1) (idx2_ext (at_blk (congrFun (idx t).1.2 0) hR) (at_blk (congrFun (idx t).1.2 1) rfl))))

theorem out : outsAt0 m c t = k0_pay1 (iblk m c 2 t) (iblk m c 3 t) (k0_pay2 (iblk m c 0 t)) (k0_pay3 (iblk m c 0 t))
    (k0_pay4 (X0_1 m c t)) (k0_pay5 (X0_1 m c t)) (k0_pay6 (iblk m c 0 t) (X0_1 m c t) (iblk m c 3 t))
    (k0_pay7 (iblk m c 0 t) (X0_1 m c t) (iblk m c 3 t)) (k0_pay8 (iblk m c 0 t)) := by
  unfold outsAt0 out0_A_4
  rw [View.read_writes_eq_canon _ _ _ (cover0_A_4 _ _ _ _ _ _ _ _ _ _ _ _ _ _ _ _)]
  unfold kernelRun0_A
  dsimp only
  sl_unfold_words
  rw [View.canon_unit_zero hz2]
  simp only [View.readAt_eq_ld, (hs0_0 t).read_unread, (hs0_1 t).read_unread, (hs0_2 t).read_unread, (hs0_3 t).read_unread,
    View.ld_unit_zero (S := S512x512) hz2, View.ld_unit_zero (S := S1x128) hz2]

theorem flushed : (dats m 0 c).flushed 4 t = ((cfg0.win 4).blk t).view.read (Elt 𝕀) (G m c) := by
  rw [Kernel22Ideal.Value.flushed4, out]
  funext y
  have h0 : t.val * 512 + (y 0).val = (((cfg0.win 4).blk t).view.emb y 0).val := (at_blk (congrFun (idx t).2.2.1 0) rfl).symm
  have h1 : (y 1).val = (((cfg0.win 4).blk t).view.emb y 1).val := (at_all (congrFun (idx t).2.2.1 1) _ _).symm
  refine (pay (iblk m c 0 t) (X0_1 m c t) (iblk m c 2 t) (iblk m c 3 t) _).trans ?_
  show _ = G m c (((cfg0.win 4).blk t).view.emb y)
  unfold G
  congr 1
  · exact funext fun e => congrArg (ar m c main_arg0) (idx2_ext (at_blk (congrFun (idx t).1.1 0) h0) (at_all (congrFun (idx t).1.1 1) _ _))
  · exact funext fun e => gate m c t _ e _ h0
  · exact funext fun e => congrArg (ar m c main_arg2) (idx2_ext (at_blk (congrFun (idx t).2.1.1 0) h0) (at_all (congrFun (idx t).2.1.1 1) _ _))
  · exact funext fun d => congrArg (ar m c main_arg3) (idx2_ext (at_all (congrFun (idx t).2.1.2 0) _ _) (at_all (congrFun (idx t).2.1.2 1) _ _))
  · exact Fin.ext h1

theorem final : (dats m 0 c).arrAt 4 cfg0.N = G m c :=
  (dats m 0 c).arrAt_eq_of_cover 4 _ (fun t hf => flushed m c t) (fun i => by
    let t : Fin cfg0.N := ⟨(i 0).val / 512, Nat.div_lt_of_lt_mul (i 0).isLt⟩
    refine ⟨t, (idx t).2.2.2, in_slice fun a => ?_⟩
    match a with
    | ⟨0, _⟩ => exact in_blk (congrFun (idx t).2.2.1 0) (Nat.succ_pos _)
    | ⟨1, _⟩ => exact in_all (congrFun (idx t).2.2.1 1) (i 1).isLt)

theorem same : @algebraic_Kernel22Ideal_Reference22Ideal Kernel22Ideal.Gen.facts Reference22Ideal.Gen.facts := by
  intro m g m' g' _ hargs
  refine ⟨G m, (θ_run _ _ _).mono ?_ (Kernel22Ideal.Value.run_blocks m g),
    (θ_run _ _ _).mono ?_ (Reference22Ideal.Value.run m' g')⟩
  · intro r h c
    exact ⟨(h c).1.trans (final m c), (h c).2⟩
  · intro r h c
    obtain ⟨e0, e1, e2, e3⟩ := hargs c
    obtain ⟨h, hk⟩ := h c
    rw [e0, e1, e2, e3] at h
    refine ⟨h.trans (funext fun i => ?_), hk⟩
    pointwise [G]
    unfold mix head ProjFwd.lat Norm.eps
    simp only [ProjFwd.div_128, Nat.div_add_mod']
    rfl

theorem frame_ref : @quiescent_Reference22Ideal Reference22Ideal.Gen.facts := fun m g _ =>
  (θ_run _ _ _).mono (fun r h => ⟨fun c => (h c).2, sem_eq_zero_of_no_sems (by decide) r.2⟩) (Reference22Ideal.Value.run m g)

end Cert.Proof.Mix

end
-- ==== Proof.Ffn.XaAttn.lean ====
module

public import proofs.«01_k».proof.Proof.Gen.Kernel23Ideal.Value
public import proofs.«01_k».proof.Proof.Gen.Reference23Ideal.Run
public import proofs.«01_k».proof.Defs
public import proofs.«01_k».proof.Proof.Ffn.ProjFwd

@[expose] public section

noncomputable section

/-! The cross attention's queries, and the attention over the 256 memory rows: each point makes 2048 rows. -/

namespace Cert.Proof.XaAttn

open Cert.Kernel23Ideal Cert.Kernel23Ideal.Gen
open Idealize.ShloMosaic Idealize.ShloMosaic.TcCoe Idealize.SL.Sem

/-- The scaled score of a head of a row against a head of a memory row, both normed. -/
def sc (q u g n : Fin 128 → EReal) : EReal :=
  (∑ d, ProjFwd.lat q (Ideal.ofBits FTy.f32 0x3C000000#32) (g d) d * ProjFwd.lat u (Ideal.ofBits FTy.f32 0x3C000000#32) (n d) d)
    * Ideal.ofBits FTy.f32 0x3DB504F3#32

/-- The softmax of 256 scores. -/
def soft (s : Fin 256 → EReal) (j : Fin 256) : EReal :=
  Ideal.div (Ideal.exp (s j - Finset.univ.fold max (Ideal.ofBits FTy.f32 0xFF800000#32) s))
    (∑ x, Ideal.exp (s x - Finset.univ.fold max (Ideal.ofBits FTy.f32 0xFF800000#32) s))

/-- A row of the attention: the memory's values, by the scores of the entry's head. -/
def att (q : Fin 512 → EReal) (u : Fin 256 → Fin 1024 → EReal) (g n : Fin 128 → EReal) (e : Fin 512) : EReal :=
  ∑ j, soft (fun x => sc (fun d : Fin 128 => q ⟨e.val / 128 * 128 + d.val, by omega⟩)
    (fun d : Fin 128 => u x ⟨e.val / 128 * 128 + d.val, by omega⟩) g n) j * u j ⟨512 + e.val, by omega⟩

theorem att_head (q : Fin 512 → EReal) (u : Fin 256 → Fin 1024 → EReal) (g n : Fin 128 → EReal) (e : Fin 512) (f : Fin 128 → Fin 512)
    (f' : Fin 128 → Fin 1024) (v : Fin 1024) (k : ℕ) (hk : e.val / 128 * 128 = k) (hf : ∀ d, (f d).val = k + d.val) (hf' : ∀ d, (f' d).val = k + d.val)
    (hv : v.val = 512 + e.val) : ∑ j, soft (fun x => sc (fun d => q (f d)) (fun d => u x (f' d)) g n) j * u j v = att q u g n e := by
  subst hk
  obtain rfl : f = fun d => ⟨e.val / 128 * 128 + d.val, by omega⟩ := funext fun d => Fin.ext (hf d)
  obtain rfl : f' = fun d => ⟨e.val / 128 * 128 + d.val, by omega⟩ := funext fun d => Fin.ext (hf' d)
  obtain rfl : v = ⟨512 + e.val, Nat.add_lt_add_left e.isLt 512⟩ := Fin.ext hv
  rfl

/-- The queries. -/
def Q (a : FVec 𝕀 S4096x1024 .bf16) (w : FVec 𝕀 S1024x512 .bf16) : FVec 𝕀 S4096x512 .f32 :=
  fun i => ∑ d : Fin 1024, (a (ix2 (i 0) d) * w (ix2 d (i 1)) : EReal)

/-- The attention's output. -/
def A (a : FVec 𝕀 S4096x1024 .bf16) (w : FVec 𝕀 S1024x512 .bf16) (u : FVec 𝕀 S256x1024 .f32) (g n : FVec 𝕀 S1x128 .f32) : FVec 𝕀 S4096x512 .bf16 :=
  fun i => att (fun e => Q a w (ix2 (i 0) e)) (fun j e => u (ix2 j e)) (fun d => g (ix2 0 d)) (fun d => n (ix2 0 d)) (i 1)

theorem payQ (a : FVec 𝕀 S2048x1024 .bf16) (w : FVec 𝕀 S1024x512 .bf16) (i : S2048x512.Idx) :
    k0_pay2 a w i = ∑ d : Fin 1024, (a (ix2 (i 0) d) * w (ix2 d (i 1)) : EReal) := by
  pointwise [k0_pay2]

theorem payA (a : FVec 𝕀 S2048x1024 .bf16) (w : FVec 𝕀 S1024x512 .bf16) (kv : FVec 𝕀 S256x1024 .f32) (qn kn : FVec 𝕀 S1x128 .f32) (i : S2048x512.Idx) :
    k0_pay1 (k0_pay16 kn (k0_pay3 kv) (k0_pay7 kv) (k0_pay14 a w qn) (k0_pay15 kv))
      (k0_pay18 (k0_pay8 kv) (k0_pay17 qn kn (k0_pay4 kv) (k0_pay11 a w)) (Scalar.ofBits .f32 0x3DB504F3#32))
      (k0_pay20 (k0_pay9 kv) (k0_pay19 qn kn (k0_pay5 kv) (k0_pay12 a w)))
      (k0_pay21 qn kn (k0_pay6 kv) (k0_pay13 a w)) (k0_pay22 (k0_pay10 kv)) (constant S2048x128 .f32 0x00000000#32) i
      = att (fun e => k0_pay2 a w (ix2 (i 0) e)) (fun j e => kv (ix2 j e)) (fun d => qn (ix2 0 d)) (fun d => kn (ix2 0 d)) (i 1) := by
  unfold k0_pay11 k0_pay12 k0_pay13 k0_pay14
  generalize k0_pay2 a w = y
  pointwise [k0_pay1, k0_pay3, k0_pay4, k0_pay5, k0_pay6, k0_pay7, k0_pay8, k0_pay9, k0_pay10, k0_pay15, k0_pay16, k0_pay17, k0_pay18, k0_pay19, k0_pay20, k0_pay21, k0_pay22]
  have he : (i 1).val < 512 := (i 1).isLt
  have H := att_head (fun e => y (ix2 (i 0) e)) (fun j e => kv (ix2 j e)) (fun d => qn (ix2 0 d)) (fun d => kn (ix2 0 d)) (i 1)
  by_cases a0 : (i 1).val < 128
  · rw [dif_pos a0]
    exact Eq.trans (by unfold soft sc ProjFwd.lat Norm.eps; rfl) (H (fun d => ⟨d.val, by omega⟩) (fun d => ⟨d.val, by omega⟩) ⟨512 + (i 1).val, by omega⟩ 0 (by omega) (fun _ => (Nat.zero_add _).symm) (fun _ => (Nat.zero_add _).symm) rfl)
  rw [dif_neg a0]
  by_cases a1 : (i 1).val - 128 < 128
  · rw [dif_pos a1]
    exact Eq.trans (by unfold soft sc ProjFwd.lat Norm.eps; rfl) (H (fun d => ⟨128 + d.val, by omega⟩) (fun d => ⟨128 + d.val, by omega⟩) ⟨640 + ((i 1).val - 128), by omega⟩ 128 (by omega) (fun _ => rfl) (fun _ => rfl) (by dsimp only; omega))
  rw [dif_neg a1]
  by_cases a2 : (i 1).val - 128 - 128 < 128
  · rw [dif_pos a2]
    exact Eq.trans (by unfold soft sc ProjFwd.lat Norm.eps; rfl) (H (fun d => ⟨256 + d.val, by omega⟩) (fun d => ⟨256 + d.val, by omega⟩) ⟨768 + ((i 1).val - 128 - 128), by omega⟩ 256 (by omega) (fun _ => rfl) (fun _ => rfl) (by dsimp only; omega))
  · rw [dif_neg a2]
    exact Eq.trans (by unfold soft sc ProjFwd.lat Norm.eps; rfl) (H (fun d => ⟨384 + d.val, by omega⟩) (fun d => ⟨384 + d.val, by omega⟩) ⟨896 + ((i 1).val - 128 - 128 - 128), by omega⟩ 384 (by omega) (fun _ => rfl) (fun _ => rfl) (by dsimp only; omega))

variable (m : (ℓ : Loc nD τ sig) → Buf (Elt 𝕀) ℓ) (c : Dev nD) (t : Fin cfg0.N)

theorem idx : ∀ t : Fin grid0.N, (win0_0.index t = ![t.val, 0] ∧ win0_1.index t = ![0, 0] ∧ win0_2.index t = ![0, 0]) ∧ (win0_3.index t = ![0, 0]
    ∧ win0_4.index t = ![0, 0]) ∧ (win0_5.index t = ![t.val, 0] ∧ win0_5.flush t = true) ∧ win0_6.index t = ![t.val, 0] ∧ win0_6.flush t = true := by decide +kernel

theorem rows (y : S2048x512.Idx) (i : S4096x512.Idx) (h0 : t.val * 2048 + (y 0).val = (i 0).val) (h1 : (y 1).val = (i 1).val) :
    k0_pay2 (iblk m c 0 t) (iblk m c 1 t) y = Q (ar m c main_arg0) (ar m c main_arg1) i :=
  (payQ (iblk m c 0 t) (iblk m c 1 t) y).trans (Finset.sum_congr rfl fun d _ => congrArg₂ (· * ·)
    (congrArg (ar m c main_arg0) (idx2_ext (at_blk (congrFun (idx t).1.1 0) h0) (at_all (congrFun (idx t).1.1 1) _ _)))
    (congrArg (ar m c main_arg1) (idx2_ext (at_all (congrFun (idx t).1.2.1 0) _ _) ((at_all (congrFun (idx t).1.2.1 1) _ _).trans h1))))

theorem flushedQ : (dats m 0 c).flushed 5 t = ((cfg0.win 5).blk t).view.read (Elt 𝕀) (Q (ar m c main_arg0) (ar m c main_arg1)) := by
  rw [Kernel23Ideal.Value.flushed5]
  unfold out0_5
  simp only [View.canon_unit_zero (S := S2048x512) hz2, View.ld_unit_zero (S := S2048x1024) hz2, View.ld_unit_zero (S := S1024x512) hz2]
  exact funext fun y => rows m c t y (((cfg0.win 5).blk t).view.emb y) (at_blk (congrFun (idx t).2.2.1.1 0) rfl).symm
    (at_all (congrFun (idx t).2.2.1.1 1) _ _).symm

theorem flushedA : (dats m 0 c).flushed 6 t = ((cfg0.win 6).blk t).view.read (Elt 𝕀) (A (ar m c main_arg0) (ar m c main_arg1) (ar m c main_arg2) (ar m c main_arg3) (ar m c main_arg4)) := by
  rw [Kernel23Ideal.Value.flushed6]
  unfold out0_6
  simp only [View.canon_unit_zero (S := S2048x512) hz2, View.ld_unit_zero (S := S2048x1024) hz2, View.ld_unit_zero (S := S1024x512) hz2,
    View.ld_unit_zero (S := S256x1024) hz2, View.ld_unit_zero (S := S1x128) hz2]
  funext y
  have h0 : t.val * 2048 + (y 0).val = (((cfg0.win 6).blk t).view.emb y 0).val := (at_blk (congrFun (idx t).2.2.2.1 0) rfl).symm
  have h1 : (y 1).val = (((cfg0.win 6).blk t).view.emb y 1).val := (at_all (congrFun (idx t).2.2.2.1 1) _ _).symm
  refine (payA (iblk m c 0 t) (iblk m c 1 t) (iblk m c 2 t) (iblk m c 3 t) (iblk m c 4 t) y).trans ?_
  show _ = A (ar m c main_arg0) (ar m c main_arg1) (ar m c main_arg2) (ar m c main_arg3) (ar m c main_arg4) (((cfg0.win 6).blk t).view.emb y)
  unfold A
  congr 1
  · exact funext fun e => rows m c t (ix2 (y 0) e) (ix2 (((cfg0.win 6).blk t).view.emb y 0) e) h0 rfl
  · exact funext fun j => funext fun e => congrArg (ar m c main_arg2) (idx2_ext (at_all (congrFun (idx t).1.2.2 0) _ _) (at_all (congrFun (idx t).1.2.2 1) _ _))
  · exact funext fun d => congrArg (ar m c main_arg3) (idx2_ext (at_all (congrFun (idx t).2.1.1 0) _ _) (at_all (congrFun (idx t).2.1.1 1) _ _))
  · exact funext fun d => congrArg (ar m c main_arg4) (idx2_ext (at_all (congrFun (idx t).2.1.2 0) _ _) (at_all (congrFun (idx t).2.1.2 1) _ _))
  · exact Fin.ext h1

theorem finalQ : (dats m 0 c).arrAt 5 cfg0.N = Q (ar m c main_arg0) (ar m c main_arg1) :=
  (dats m 0 c).arrAt_eq_of_cover 5 _ (fun t hf => flushedQ m c t) (fun i => by
    let t : Fin cfg0.N := ⟨(i 0).val / 2048, Nat.div_lt_of_lt_mul (i 0).isLt⟩
    refine ⟨t, (idx t).2.2.1.2, in_slice fun a => ?_⟩
    match a with
    | ⟨0, _⟩ => exact in_blk (congrFun (idx t).2.2.1.1 0) (Nat.succ_pos _)
    | ⟨1, _⟩ => exact in_all (congrFun (idx t).2.2.1.1 1) (i 1).isLt)

theorem finalA : (dats m 0 c).arrAt 6 cfg0.N = A (ar m c main_arg0) (ar m c main_arg1) (ar m c main_arg2) (ar m c main_arg3) (ar m c main_arg4) :=
  (dats m 0 c).arrAt_eq_of_cover 6 _ (fun t hf => flushedA m c t) (fun i => by
    let t : Fin cfg0.N := ⟨(i 0).val / 2048, Nat.div_lt_of_lt_mul (i 0).isLt⟩
    refine ⟨t, (idx t).2.2.2.2, in_slice fun a => ?_⟩
    match a with
    | ⟨0, _⟩ => exact in_blk (congrFun (idx t).2.2.2.1 0) (Nat.succ_pos _)
    | ⟨1, _⟩ => exact in_all (congrFun (idx t).2.2.2.1 1) (i 1).isLt)

end Cert.Proof.XaAttn

namespace Cert.Proof.XaAttn

open Cert.Reference23Ideal Cert.Reference23Ideal.Gen
open Idealize.ShloMosaic Idealize.ShloMosaic.TcCoe Idealize.SL.Sem

theorem refQ (a : FVec 𝕀 S4096x1024 .bf16) (w : FVec 𝕀 S1024x512 .bf16) :
    Host.dotGeneral dot_S4096x1024_S1024x512_S4096x512_1_0_0_1_n_n none (extf .f32 a bitsLt_bf16_f32) (extf .f32 w bitsLt_bf16_f32) = Q a w := by
  funext i
  pointwise [Q]

/-- The rows' heads, normed. -/
def L {r w : ℕ} (hw : 512 ≤ w) (y : FVec 𝕀 ⟨2, ![r, w]⟩ .f32) (g : FVec 𝕀 S1x128 .f32) : FVec 𝕀 ⟨4, ![1, r, 4, 128]⟩ .f32 := fun i =>
  ProjFwd.lat (fun x : Fin 128 => y (ix2 (i 1) ⟨(i 2).val * 128 + x.val, by have : (i 2).val < 4 := (i 2).isLt; omega⟩))
    (Ideal.ofBits FTy.f32 0x3C000000#32) (g (ix2 0 (i 3))) (i 3)

theorem refLQ (y : FVec 𝕀 S4096x512 .f32) (g : FVec 𝕀 S1x128 .f32) :
    (mulf (mulf (shapeCast _ y shapeCasts_S4096x512_S1x4096x4x128) (broadcastInDim S1x4096x4x128 ![0, 1, 2, 3] bcast_S1x4096x4x1_S1x4096x4x128_0_1_2_3
      (Host.rsqrt (addf (Host.divf (broadcastInDim S1x4096x4x1 ![0, 1, 2] bcast_S1x4096x4_S1x4096x4x1_0_1_2 (Host.reduceAdd (mulf
      (shapeCast _ y shapeCasts_S4096x512_S1x4096x4x128) (shapeCast _ y shapeCasts_S4096x512_S1x4096x4x128)) (constant S_ .f32 0x00000000#32)
      reducesTo_S1x4096x4x128_S1x4096x4_d3 h_S_)) (broadcastInDim S1x4096x4x1 ![] bcast_S_S1x4096x4x1 (constant S_ .f32 0x43000000#32)))
      (broadcastInDim S1x4096x4x1 ![] bcast_S_S1x4096x4x1 (constant S_ .f32 0x358637BD#32)))))) (broadcastInDim S1x4096x4x128 ![0, 1, 2, 3]
      bcast_S1x1x1x128_S1x4096x4x128_0_1_2_3 (broadcastInDim S1x1x1x128 ![2, 3] bcast_S1x128_S1x1x1x128_2_3 g))) = L (by decide) y g := by
  funext i
  pointwise [L]
  unfold ProjFwd.lat Norm.eps
  simp only [ProjFwd.div_128]

theorem refLK (u : FVec 𝕀 S256x1024 .f32) (g : FVec 𝕀 S1x128 .f32) (k : FVec 𝕀 S1x256x4x128 .f32) (hk : k = shapeCast _ (extractStridedSlice S1x256x1x4x128
      ![0, 0, 0, 0, 0] (shapeCast _ u shapeCasts_S256x1024_S1x256x2x4x128) slices_S1x256x2x4x128_S1x256x1x4x128_0_0_0_0_0) shapeCasts_S1x256x1x4x128_S1x256x4x128) :
    (mulf (mulf k (broadcastInDim S1x256x4x128 ![0, 1, 2, 3] bcast_S1x256x4x1_S1x256x4x128_0_1_2_3 (Host.rsqrt (addf (Host.divf
      (broadcastInDim S1x256x4x1 ![0, 1, 2] bcast_S1x256x4_S1x256x4x1_0_1_2 (Host.reduceAdd (mulf k k) (constant S_ .f32 0x00000000#32)
      reducesTo_S1x256x4x128_S1x256x4_d3 h_S_)) (broadcastInDim S1x256x4x1 ![] bcast_S_S1x256x4x1 (constant S_ .f32 0x43000000#32)))
      (broadcastInDim S1x256x4x1 ![] bcast_S_S1x256x4x1 (constant S_ .f32 0x358637BD#32)))))) (broadcastInDim S1x256x4x128 ![0, 1, 2, 3]
      bcast_S1x1x1x128_S1x256x4x128_0_1_2_3 (broadcastInDim S1x1x1x128 ![2, 3] bcast_S1x128_S1x1x1x128_2_3 g))) = L (by decide) u g := by
  subst hk
  funext i
  pointwise [L]
  unfold ProjFwd.lat Norm.eps
  simp only [ProjFwd.div_128]

/-- The scores. -/
def SC (p : FVec 𝕀 S1x4096x4x128 .f32) (k : FVec 𝕀 S1x256x4x128 .f32) : FVec 𝕀 S1x4x4096x256 .f32 := fun i =>
  (∑ d : Fin 128, (p (ix4 (i 0) (i 2) (i 1) d) * k (ix4 (i 0) (i 3) (i 1) d) : EReal)) * Ideal.ofBits FTy.f32 0x3DB504F3#32

theorem refSC (p : FVec 𝕀 S1x4096x4x128 .f32) (k : FVec 𝕀 S1x256x4x128 .f32) :
    mulf (Host.dotGeneral dot_S1x4096x4x128_S1x256x4x128_S1x4x4096x256_3_3_1_1_02_02 none p k)
      (broadcastInDim S1x4x4096x256 ![] bcast_S_S1x4x4096x256 (constant S_ .f32 0x3DB504F3#32)) = SC p k := by
  funext i
  pointwise [SC]

/-- The softmax over the memory rows. -/
def SM (s : FVec 𝕀 S1x4x4096x256 .f32) : FVec 𝕀 S1x4x4096x256 .f32 := fun i => soft (fun x => s (ix4 0 (i 1) (i 2) x)) (i 3)

theorem red {b c d : ℕ} {u : Shape} (s : FVec 𝕀 ⟨4, ![1, b, c, d]⟩ .f32) (v : FVec 𝕀 u .f32) (h : (⟨4, ![1, b, c, d]⟩ : Shape).ReducesTo [3] ⟨3, ![1, b, c]⟩)
    (hu : 0 < u.numel) (j : (⟨3, ![1, b, c]⟩ : Shape).Idx) : Host.reduce FloatOps.maximumf s v h hu j
      = Finset.univ.fold max (v (Shape.Idx.first hu)) (fun x : Fin d => s (ix4 0 (j 1) (j 2) x)) := by
  pointwise

theorem refSM (s : FVec 𝕀 S1x4x4096x256 .f32) (M : FVec 𝕀 S1x4x4096 .f32) (hM : M = Host.reduce FloatOps.maximumf s (constant S_ .f32 0xFF800000#32)
      reducesTo_S1x4x4096x256_S1x4x4096_d3 h_S_) (e : FVec 𝕀 S1x4x4096x256 .f32) (he : e = Host.exp (subf s (broadcastInDim S1x4x4096x256 ![0, 1, 2, 3]
      bcast_S1x4x4096x1_S1x4x4096x256_0_1_2_3 (broadcastInDim S1x4x4096x1 ![0, 1, 2] bcast_S1x4x4096_S1x4x4096x1_0_1_2 (maximumf
      (broadcastInDim S1x4x4096 ![] bcast_S_S1x4x4096 (constant S_ .f32 0xFF800000#32)) M))))) :
    Host.divf e (broadcastInDim S1x4x4096x256 ![0, 1, 2, 3] bcast_S1x4x4096x1_S1x4x4096x256_0_1_2_3 (broadcastInDim S1x4x4096x1 ![0, 1, 2]
      bcast_S1x4x4096_S1x4x4096x1_0_1_2 (Host.reduceAdd e (constant S_ .f32 0x00000000#32) reducesTo_S1x4x4096x256_S1x4x4096_d3 h_S_))) = SM s := by
  have hm : ∀ j, max (Ideal.ofBits FTy.f32 0xFF800000#32) (M j) = Finset.univ.fold max (Ideal.ofBits FTy.f32 0xFF800000#32) (fun x : Fin 256 => s (ix4 0 (j 1) (j 2) x)) := by
    intro j
    rw [hM, red]
    exact max_eq_right ((Finset.le_fold_max _).2 (Or.inl le_rfl))
  clear hM
  subst he
  funext i
  have hi : i = ix4 0 (i 1) (i 2) (i 3) := (eq_ix4 i).trans (congrArg (fun z => ix4 z (i 1) (i 2) (i 3)) (Subsingleton.elim (α := Fin 1) _ _))
  pointwise [SM, soft]
  simp only [hm]
  rw [show s i = s (ix4 0 (i 1) (i 2) (i 3)) from congrArg s hi]
  rfl

theorem refF (u : FVec 𝕀 S256x1024 .f32) (z : FVec 𝕀 S1x4x4096x256 .f32) (i : S4096x512.Idx) :
    truncf .bf16 (shapeCast _ (transpose S1x4096x4x128 [0, 3, 1, 2] (Host.dotGeneral dot_S1x256x4x128_S1x4x4096x256_S1x4x128x4096_1_3_3_2_02_01 none
      (shapeCast _ (extractStridedSlice S1x256x1x4x128 ![0, 0, 1, 0, 0] (shapeCast _ u shapeCasts_S256x1024_S1x256x2x4x128)
      slices_S1x256x2x4x128_S1x256x1x4x128_0_0_1_0_0) shapeCasts_S1x256x1x4x128_S1x256x4x128) z) transposes_S1x4x128x4096_S1x4096x4x128_0_3_1_2)
      shapeCasts_S1x4096x4x128_S4096x512) bitsLt_bf16_f32 i
    = ∑ j : Fin 256, (z (ix4 0 ⟨(i 1).val / 128, Nat.div_lt_of_lt_mul (i 1).isLt⟩ (i 0) j) * u (ix2 j ⟨512 + (i 1).val, Nat.add_lt_add_left (i 1).isLt 512⟩) : EReal) := by
  pointwise
  simp only [Nat.add_assoc, Nat.div_add_mod']
  exact Finset.sum_congr rfl fun j _ => mul_comm _ _

theorem refA (m : (ℓ : Loc nD τ sig) → Buf (Elt 𝕀) ℓ) (c : Dev nD) :
    Value.res_main_v52 m c = A (ar m c main_arg0) (ar m c main_arg1) (ar m c main_arg2) (ar m c main_arg3) (ar m c main_arg4) := by
  unfold Value.res_main_v52
  rw [refQ, refLQ, refLK _ _ _ rfl, refSC, refSM _ _ rfl _ rfl]
  refine (?_ : (_ : FVec 𝕀 S4096x512 .bf16) = _)
  funext i
  unfold A
  exact refF _ _ i

theorem same : @algebraic_Kernel23Ideal_Reference23Ideal Kernel23Ideal.Gen.facts Reference23Ideal.Gen.facts := by
  intro m g m' g' _ hargs
  refine ⟨fun c => Q (ar m c Kernel23Ideal.main_arg0) (ar m c Kernel23Ideal.main_arg1), fun c => A (ar m c Kernel23Ideal.main_arg0)
    (ar m c Kernel23Ideal.main_arg1) (ar m c Kernel23Ideal.main_arg2) (ar m c Kernel23Ideal.main_arg3) (ar m c Kernel23Ideal.main_arg4),
    (θ_run _ _ _).mono ?_ (Kernel23Ideal.Value.run_blocks m g), (θ_run _ _ _).mono ?_ (Reference23Ideal.Value.run m' g')⟩
  · intro r h c
    exact ⟨(h c).1.trans (finalQ m c), (h c).2.1.trans (finalA m c), (h c).2.2⟩
  · intro r h c
    obtain ⟨e0, e1, e2, e3, e4⟩ := hargs c
    have hQ := (h c).1
    have hA := (h c).2.1.trans (refA m' c)
    rw [e0, e1, refQ] at hQ
    simp only [ar, e0, e1, e2, e3, e4] at hA
    exact ⟨hQ, hA, (h c).2.2⟩

theorem frame_ref : @quiescent_Reference23Ideal Reference23Ideal.Gen.facts := fun m g _ =>
  (θ_run _ _ _).mono (fun r h => ⟨fun c => (h c).2.2, sem_eq_zero_of_no_sems (by decide) r.2⟩) (Reference23Ideal.Value.run m g)

end Cert.Proof.XaAttn

end
-- ==== Proof.lean ====
module

public import proofs.«01_k».proof.Defs
public import proofs.«01_k».proof.Proof.Gen.ReferenceIdeal
public import proofs.«01_k».proof.Proof.Run
public import proofs.«01_k».proof.Proof.FrameBits
public import proofs.«01_k».proof.Proof.Same
public import proofs.«01_k».proof.Proof.Gen.Kernel2.Frame
public import proofs.«01_k».proof.Proof.Ffn.DxNorm
public import proofs.«01_k».proof.Proof.Gen.Kernel3.Frame
public import proofs.«01_k».proof.Proof.Ffn.GateDw
public import proofs.«01_k».proof.Proof.Gen.Kernel4.Frame
public import proofs.«01_k».proof.Proof.Ffn.DownDw
public import proofs.«01_k».proof.Proof.Gen.Kernel5.Frame
public import proofs.«01_k».proof.Proof.Ffn.DownDx
public import proofs.«01_k».proof.Proof.Gen.Kernel6.Frame
public import proofs.«01_k».proof.Proof.Ffn.ProjDw
public import proofs.«01_k».proof.Proof.Gen.Kernel7.Frame
public import proofs.«01_k».proof.Proof.Ffn.ProjDx
public import proofs.«01_k».proof.Proof.Gen.Kernel8.Frame
public import proofs.«01_k».proof.Proof.Ffn.OutDw
public import proofs.«01_k».proof.Proof.Gen.Kernel9.Frame
public import proofs.«01_k».proof.Proof.Ffn.XaODw
public import proofs.«01_k».proof.Proof.Gen.Kernel10.Frame
public import proofs.«01_k».proof.Proof.Ffn.XaQDw
public import proofs.«01_k».proof.Proof.Gen.Kernel11.Frame
public import proofs.«01_k».proof.Proof.Ffn.XaQDx
public import proofs.«01_k».proof.Proof.Gen.Kernel12.Frame
public import proofs.«01_k».proof.Proof.Ffn.GateFwd
public import proofs.«01_k».proof.Proof.Gen.Kernel13.Frame
public import proofs.«01_k».proof.Proof.Ffn.DownLoss
public import proofs.«01_k».proof.Proof.Gen.Kernel14.Frame
public import proofs.«01_k».proof.Proof.Ffn.OutFwd
public import proofs.«01_k».proof.Proof.Gen.Kernel15.Frame
public import proofs.«01_k».proof.Proof.Ffn.XaOFwd
public import proofs.«01_k».proof.Proof.Gen.Kernel16.Frame
public import proofs.«01_k».proof.Proof.Ffn.ProjFwd
public import proofs.«01_k».proof.Proof.Gen.Kernel17.Frame
public import proofs.«01_k».proof.Proof.Gen.Kernel18.Frame
public import proofs.«01_k».proof.Proof.Gen.Kernel19.Frame
public import proofs.«01_k».proof.Proof.Ffn.XaKv
public import proofs.«01_k».proof.Proof.Gen.Kernel20.Frame
public import proofs.«01_k».proof.Proof.Gen.Kernel21.Frame
public import proofs.«01_k».proof.Proof.Ffn.MemNorm
public import proofs.«01_k».proof.Proof.Gen.Kernel22.Frame
public import proofs.«01_k».proof.Proof.Ffn.Mix
public import proofs.«01_k».proof.Proof.Gen.Kernel23.Frame
public import proofs.«01_k».proof.Proof.Ffn.XaAttn
public import Idealize.ShloMosaic.Adequacy
public import Idealize.ShloMosaic.Init

@[expose] public section

noncomputable section

namespace Cert.Proof

open Idealize.ShloMosaic Idealize.SL.Sem

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  frame_kernel, fun m ρ _ => KernelIdeal.Run.frame (F := Ideal) m ρ, fun m ρ _ => ReferenceIdeal.Ref.frame (F := Ideal) m ρ,
  fun m ρ _ => Kernel2.Gen.frame m ρ, fun m ρ _ => Kernel2Ideal.Gen.frame m ρ, DxNorm.frame_ref,
  fun m ρ _ => Kernel3.Gen.frame m ρ, fun m ρ _ => Kernel3Ideal.Gen.frame m ρ, GateDw.frame_ref,
  fun m ρ _ => Kernel4.Gen.frame m ρ, fun m ρ _ => Kernel4Ideal.Gen.frame m ρ, DownDw.frame_ref,
  fun m ρ _ => Kernel5.Gen.frame m ρ, fun m ρ _ => Kernel5Ideal.Gen.frame m ρ, DownDx.frame_ref,
  fun m ρ _ => Kernel6.Gen.frame m ρ, fun m ρ _ => Kernel6Ideal.Gen.frame m ρ, ProjDw.frame_ref,
  fun m ρ _ => Kernel7.Gen.frame m ρ, fun m ρ _ => Kernel7Ideal.Gen.frame m ρ, ProjDx.frame_ref,
  fun m ρ _ => Kernel8.Gen.frame m ρ, fun m ρ _ => Kernel8Ideal.Gen.frame m ρ, OutDw.frame_ref,
  fun m ρ _ => Kernel9.Gen.frame m ρ, fun m ρ _ => Kernel9Ideal.Gen.frame m ρ, XaODw.frame_ref,
  fun m ρ _ => Kernel10.Gen.frame m ρ, fun m ρ _ => Kernel10Ideal.Gen.frame m ρ, XaQDw.frame_ref,
  fun m ρ _ => Kernel11.Gen.frame m ρ, fun m ρ _ => Kernel11Ideal.Gen.frame m ρ, XaQDx.frame_ref,
  fun m ρ _ => Kernel12.Gen.frame m ρ, fun m ρ _ => Kernel12Ideal.Gen.frame m ρ, GateFwd.frame_ref,
  fun m ρ _ => Kernel13.Gen.frame m ρ, fun m ρ _ => Kernel13Ideal.Gen.frame m ρ, DownLoss.frame_ref,
  fun m ρ _ => Kernel14.Gen.frame m ρ, fun m ρ _ => Kernel14Ideal.Gen.frame m ρ, OutFwd.frame_ref,
  fun m ρ _ => Kernel15.Gen.frame m ρ, fun m ρ _ => Kernel15Ideal.Gen.frame m ρ, XaOFwd.frame_ref,
  fun m ρ _ => Kernel16.Gen.frame m ρ, fun m ρ _ => Kernel16Ideal.Gen.frame m ρ, ProjFwd.frame_ref,
  fun m ρ _ => Kernel17.Gen.frame m ρ, fun m ρ _ => Kernel17Ideal.Gen.frame m ρ, XaKv.fwd_frame,
  fun m ρ _ => Kernel18.Gen.frame m ρ, fun m ρ _ => Kernel18Ideal.Gen.frame m ρ, XaKv.dw_frame,
  fun m ρ _ => Kernel19.Gen.frame m ρ, fun m ρ _ => Kernel19Ideal.Gen.frame m ρ, XaKv.dx_frame,
  fun m ρ _ => Kernel20.Gen.frame m ρ, fun m ρ _ => Kernel20Ideal.Gen.frame m ρ, MemNorm.fwd_frame,
  fun m ρ _ => Kernel21.Gen.frame m ρ, fun m ρ _ => Kernel21Ideal.Gen.frame m ρ, MemNorm.bwd_frame,
  fun m ρ _ => Kernel22.Gen.frame m ρ, fun m ρ _ => Kernel22Ideal.Gen.frame m ρ, Mix.frame_ref,
  fun m ρ _ => Kernel23.Gen.frame m ρ, fun m ρ _ => Kernel23Ideal.Gen.frame m ρ, XaAttn.frame_ref,
  trivial, same, trivial, DxNorm.same, trivial, GateDw.same, trivial, DownDw.same, trivial, DownDx.same, trivial, ProjDw.same, trivial, ProjDx.same, trivial, OutDw.same, trivial, XaODw.same, trivial, XaQDw.same, trivial, XaQDx.same, trivial, GateFwd.same, trivial, DownLoss.same, trivial, OutFwd.same, trivial, XaOFwd.same, trivial, ProjFwd.same, trivial, XaKv.fwd_same, trivial, XaKv.dw_same, trivial, XaKv.dx_same, trivial, MemNorm.fwd_same, trivial, MemNorm.bwd_same, trivial, Mix.same, trivial, XaAttn.same⟩

end Cert.Proof

end
